-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_pre3 [hPre_pre3 : Cert.Pre_pre3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pre3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_pre3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_pre3 [hPre_pre3 : Cert.Pre_pre3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pre3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_pre3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_pre9 [hPre_pre9 : Cert.Pre_pre9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.2.1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.2.2.1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.2.2.2.1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.2.2.2.2.1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.2.2.2.2.2.1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.2.2.2.2.2.2.1 = (fun _ => 1#1)
    ∧ (Cert.Pre_pre9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.2.2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_pre9 [hPre_pre9 : Cert.Pre_pre9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.2.1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.2.2.1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.2.2.2.1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.2.2.2.2.1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.2.2.2.2.2.1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.2.2.2.2.2.2.1 = (fun _ => 1#1)
    ∧ (Cert.Pre_pre9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.2.2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_pre15 [hPre_pre15 : Cert.Pre_pre15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_pre15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8))).1 = (fun _ => 1#1)
    ∧ (Cert.Pre_pre15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8))).2.1 = (fun _ => 1#1)
    ∧ (Cert.Pre_pre15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8))).2.2.1 = (fun _ => 1#1)
    ∧ (Cert.Pre_pre15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_pre15 [hPre_pre15 : Cert.Pre_pre15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_pre15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8))).1 = (fun _ => 1#1)
    ∧ (Cert.Pre_pre15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8))).2.1 = (fun _ => 1#1)
    ∧ (Cert.Pre_pre15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8))).2.2.1 = (fun _ => 1#1)
    ∧ (Cert.Pre_pre15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_pre3 [hKernel3Ideal : Cert.Kernel3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_pre3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_pre3 [hReference3Ideal : Cert.Reference3Ideal.Facts] [hPre_pre3 : Cert.Pre_pre3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_pre3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Kernel9Ideal_pre_pre9 [hKernel9Ideal : Cert.Kernel9Ideal.Facts] [hPre_pre9 : Cert.Pre_pre9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_pre9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Reference9Ideal_pre_pre9 [hReference9Ideal : Cert.Reference9Ideal.Facts] [hPre_pre9 : Cert.Pre_pre9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_pre9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Kernel15Ideal_pre_pre15 [hKernel15Ideal : Cert.Kernel15Ideal.Facts] [hPre_pre15 : Cert.Pre_pre15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_pre15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Reference15Ideal_pre_pre15 [hReference15Ideal : Cert.Reference15Ideal.Facts] [hPre_pre15 : Cert.Pre_pre15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_pre15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_v32) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_pre3 [hKernel3Ideal : Cert.Kernel3Ideal.Facts] [hReference3Ideal : Cert.Reference3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_pre3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v54) = v2 c
          ∧ r.2.mem ((c.tc : Thread Cert.Reference7Ideal.nD Cert.Reference7Ideal.τ).loc Cert.Reference7Ideal.main_v55) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_pre9 [hKernel9Ideal : Cert.Kernel9Ideal.Facts] [hReference9Ideal : Cert.Reference9Ideal.Facts] [hPre_pre9 : Cert.Pre_pre9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_pre9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)) (v2 : (c : Dev Cert.Kernel9Ideal.nD) → Buf (Elt Ideal) ((c.tc : Thread Cert.Kernel9Ideal.nD Cert.Kernel9Ideal.τ).loc Cert.Kernel9Ideal.main_v9_2)) (v3 : (c : Dev Cert.Kernel9Ideal.nD) → Buf (Elt Ideal) ((c.tc : Thread Cert.Kernel9Ideal.nD Cert.Kernel9Ideal.τ).loc Cert.Kernel9Ideal.main_v9_3)) (v4 : (c : Dev Cert.Kernel9Ideal.nD) → Buf (Elt Ideal) ((c.tc : Thread Cert.Kernel9Ideal.nD Cert.Kernel9Ideal.τ).loc Cert.Kernel9Ideal.main_v9_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_v9_2) = v2 c
          ∧ r.2.mem ((c.tc : Thread Cert.Kernel9Ideal.nD Cert.Kernel9Ideal.τ).loc Cert.Kernel9Ideal.main_v9_3) = v3 c
          ∧ r.2.mem ((c.tc : Thread Cert.Kernel9Ideal.nD Cert.Kernel9Ideal.τ).loc Cert.Kernel9Ideal.main_v9_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v157) = v0 c
          ∧ r.2.mem ((c.tc : Thread Cert.Reference9Ideal.nD Cert.Reference9Ideal.τ).loc Cert.Reference9Ideal.main_v94) = v1 c
          ∧ r.2.mem ((c.tc : Thread Cert.Reference9Ideal.nD Cert.Reference9Ideal.τ).loc Cert.Reference9Ideal.main_v150) = v2 c
          ∧ r.2.mem ((c.tc : Thread Cert.Reference9Ideal.nD Cert.Reference9Ideal.τ).loc Cert.Reference9Ideal.main_v116) = v3 c
          ∧ r.2.mem ((c.tc : Thread Cert.Reference9Ideal.nD Cert.Reference9Ideal.τ).loc Cert.Reference9Ideal.main_v79) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v39) = v2 c
          ∧ r.2.mem ((c.tc : Thread Cert.Reference10Ideal.nD Cert.Reference10Ideal.τ).loc Cert.Reference10Ideal.main_v24) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v7_0)) (v1 : (c : Dev Cert.Kernel14Ideal.nD) → Buf (Elt Ideal) ((c.tc : Thread Cert.Kernel14Ideal.nD Cert.Kernel14Ideal.τ).loc Cert.Kernel14Ideal.main_v7_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7_0) = v0 c
          ∧ r.2.mem ((c.tc : Thread Cert.Kernel14Ideal.nD Cert.Kernel14Ideal.τ).loc Cert.Kernel14Ideal.main_v7_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_v19) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal_pre_pre15 [hKernel15Ideal : Cert.Kernel15Ideal.Facts] [hReference15Ideal : Cert.Reference15Ideal.Facts] [hPre_pre15 : Cert.Pre_pre15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_pre15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v9)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v9) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v59) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_pre3 : Cert.Pre_pre3.Facts) (hPre_pre9 : Cert.Pre_pre9.Facts) (hPre_pre15 : Cert.Pre_pre15.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_pre3 (hKernel3Ideal := hKernel3Ideal) (hPre_pre3 := hPre_pre3)
    ∧ quiescent_Reference3Ideal (hReference3Ideal := hReference3Ideal)
    ∧ quiescent_Reference3Ideal_pre_pre3 (hReference3Ideal := hReference3Ideal) (hPre_pre3 := hPre_pre3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_pre9 (hKernel9Ideal := hKernel9Ideal) (hPre_pre9 := hPre_pre9)
    ∧ quiescent_Reference9Ideal (hReference9Ideal := hReference9Ideal)
    ∧ quiescent_Reference9Ideal_pre_pre9 (hReference9Ideal := hReference9Ideal) (hPre_pre9 := hPre_pre9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_pre15 (hKernel15Ideal := hKernel15Ideal) (hPre_pre15 := hPre_pre15)
    ∧ quiescent_Reference15Ideal (hReference15Ideal := hReference15Ideal)
    ∧ quiescent_Reference15Ideal_pre_pre15 (hReference15Ideal := hReference15Ideal) (hPre_pre15 := hPre_pre15)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_pre3 (hKernel3Ideal := hKernel3Ideal) (hReference3Ideal := hReference3Ideal) (hPre_pre3 := hPre_pre3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_pre9 (hKernel9Ideal := hKernel9Ideal) (hReference9Ideal := hReference9Ideal) (hPre_pre9 := hPre_pre9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_pre15 (hKernel15Ideal := hKernel15Ideal) (hReference15Ideal := hReference15Ideal) (hPre_pre15 := hPre_pre15)
    ∧ preserves_Kernel16_Kernel16Ideal
-- ==== Pre_pre15.lean ====
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S_ : Shape := ⟨0, ![]⟩

class Facts : Prop where
  bcast_S_S8192x512 : S_.BroadcastsInDim S8192x512 (![] : Fin 0 → Fin S8192x512.rank)
  bcast_S_S3x512 : S_.BroadcastsInDim S3x512 (![] : Fin 0 → Fin S3x512.rank)

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S3x512 .f32) (main_arg7 : FVec F S1x512 .f32) (main_arg8 : FVec F S1x128 .f32) : IVec S8192x512 1 × IVec S8192x512 1 × IVec S8192x512 1 × IVec S3x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S3x512 .f32 := Host.absf main_arg6
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  (main_v2, main_v5, main_v8, main_v11)
-- ==== Pre_pre3.lean ====
abbrev S8192x1024 : Shape := ⟨2, ![8192, 1024]⟩
abbrev S256x2048 : Shape := ⟨2, ![256, 2048]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S256x2048 : S_.BroadcastsInDim S256x2048 (![] : Fin 0 → Fin S256x2048.rank)

variable [Facts]

def fn {F : FTy → Type} [FloatOps F] (main_arg0 : FVec F S8192x1024 .f32) (main_arg1 : FVec F S256x2048 .f32) (main_arg2 : FVec F S1024x1024 .f32) (main_arg3 : FVec F S8192x1024 .f32) : IVec S8192x1024 1 × IVec S256x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  (main_v2, main_v5)
-- ==== Pre_pre9.lean ====
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S3x512 : S_.BroadcastsInDim S3x512 (![] : Fin 0 → Fin S3x512.rank)
  bcast_S_S1x512 : S_.BroadcastsInDim S1x512 (![] : Fin 0 → Fin S1x512.rank)
  bcast_S_S1x128 : S_.BroadcastsInDim S1x128 (![] : Fin 0 → Fin S1x128.rank)
  bcast_S_S8192x1024 : S_.BroadcastsInDim S8192x1024 (![] : Fin 0 → Fin S8192x1024.rank)

variable [Facts]

def fn_part1 {F : FTy → Type} [FloatOps F] (main_arg6 : FVec F S3x512 .f32) (main_arg7 : FVec F S1x512 .f32) (main_arg8 : FVec F S1x128 .f32) (main_arg9 : FVec F S8192x1024 .f32) (main_v2 : IVec S8192x512 1) (main_v5 : IVec S8192x512 1) (main_v8 : IVec S8192x512 1) (main_v11 : IVec S8192x512 1) (main_v14 : IVec S8192x512 1) (main_v17 : IVec S8192x512 1) : IVec S8192x512 1 × IVec S8192x512 1 × IVec S8192x512 1 × IVec S8192x512 1 × IVec S8192x512 1 × IVec S8192x512 1 × IVec S3x512 1 × IVec S1x512 1 × IVec S1x128 1 × IVec S8192x1024 1 :=
  let main_v18 : FVec F S3x512 .f32 := Host.absf main_arg6
  let main_cst_5 : FVec F S_ .f32 := constant S_ .f32 0x7F800000#32
  let main_v19 : FVec F S3x512 .f32 := broadcastInDim S3x512 ![] bcast_S_S3x512 main_cst_5
  let main_v20 : IVec S3x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x128 .f32 := Host.absf main_arg8
  let main_cst_7 : FVec F S_ .f32 := constant S_ .f32 0x7F800000#32
  let main_v25 : FVec F S1x128 .f32 := broadcastInDim S1x128 ![] bcast_S_S1x128 main_cst_7
  let main_v26 : IVec S1x128 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  (main_v2, main_v5, main_v8, main_v11, main_v14, main_v17, main_v20, main_v23, main_v26, main_v29)

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S3x512 .f32) (main_arg7 : FVec F S1x512 .f32) (main_arg8 : FVec F S1x128 .f32) (main_arg9 : FVec F S8192x1024 .f32) : IVec S8192x512 1 × IVec S8192x512 1 × IVec S8192x512 1 × IVec S8192x512 1 × IVec S8192x512 1 × IVec S8192x512 1 × IVec S3x512 1 × IVec S1x512 1 × IVec S1x128 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_arg9 main_v2 main_v5 main_v8 main_v11 main_v14 main_v17
-- ==== Kernel.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel2.lean ====
abbrev S8192x16 : Shape := ⟨2, ![8192, 16]⟩
abbrev S16x256 : Shape := ⟨2, ![16, 256]⟩
abbrev S1x256 : Shape := ⟨2, ![1, 256]⟩
abbrev S8192x256 : Shape := ⟨2, ![8192, 256]⟩
abbrev S8192x1024 : Shape := ⟨2, ![8192, 1024]⟩
abbrev S_ : Shape := ⟨0, ![]⟩
abbrev S8192x96 : Shape := ⟨2, ![8192, 96]⟩
abbrev S8192x1152 : Shape := ⟨2, ![8192, 1152]⟩
abbrev S128x256 : Shape := ⟨2, ![128, 256]⟩
abbrev S1024x128 : Shape := ⟨2, ![1024, 128]⟩
abbrev S1024x256 : Shape := ⟨2, ![1024, 256]⟩
abbrev S1024x1024 : Shape := ⟨2, ![1024, 1024]⟩
abbrev S1024x1152 : Shape := ⟨2, ![1024, 1152]⟩
abbrev S256 : Shape := ⟨1, ![256]⟩

abbrev nBuf : Space → Nat
  | .hbm => 30
  | .vmem => 20
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S16x256, .f32⟩
  | .hbm, ⟨3, _⟩ => ⟨S1x256, .f32⟩
  | .hbm, ⟨4, _⟩ => ⟨S16x256, .f32⟩
  | .hbm, ⟨5, _⟩ => ⟨S1x256, .f32⟩
  | .hbm, ⟨6, _⟩ => ⟨S8192x256, .f32⟩
  | .hbm, ⟨7, _⟩ => ⟨S8192x256, .f32⟩
  | .hbm, ⟨8, _⟩ => ⟨S8192x1024, .bf16⟩
  | .hbm, ⟨9, _⟩ => ⟨S8192x1024, .bf16⟩
  | .hbm, ⟨10, _⟩ => ⟨S_, .f32⟩
  | .hbm, ⟨11, _⟩ => ⟨S8192x1024, .f32⟩
  | .hbm, ⟨12, _⟩ => ⟨S_, .f32⟩
  | .hbm, ⟨13, _⟩ => ⟨S8192x96, .f32⟩
  | .hbm, ⟨14, _⟩ => ⟨S8192x1152, .f32⟩
  | .hbm, ⟨15, _⟩ => ⟨S_, .i32⟩
  | .hbm, ⟨16, _⟩ => ⟨S_, .f32⟩
  | .hbm, ⟨17, _⟩ => ⟨S128x256, .f32⟩
  | .hbm, ⟨18, _⟩ => ⟨S128x256, .bf16⟩
  | .hbm, ⟨19, _⟩ => ⟨S_, .i32⟩
  | .hbm, ⟨20, _⟩ => ⟨S_, .f32⟩
  | .hbm, ⟨21, _⟩ => ⟨S128x256, .f32⟩
  | .hbm, ⟨22, _⟩ => ⟨S128x256, .bf16⟩
  | .hbm, ⟨23, _⟩ => ⟨S8192x1152, .bf16⟩
  | .hbm, ⟨24, _⟩ => ⟨S128x256, .f32⟩
  | .hbm, ⟨25, _⟩ => ⟨S128x256, .f32⟩
  | .hbm, ⟨26, _⟩ => ⟨S1x256, .f32⟩
  | .hbm, ⟨27, _⟩ => ⟨S1x256, .f32⟩
  | .hbm, ⟨28, _⟩ => ⟨S16x256, .f32⟩
  | .hbm, ⟨29, _⟩ => ⟨S16x256, .f32⟩
  | .local _ .vmem, ⟨0, _⟩ => ⟨S1024x128, .f32⟩
  | .local _ .vmem, ⟨1, _⟩ => ⟨S1024x128, .f32⟩
  | .local _ .vmem, ⟨2, _⟩ => ⟨S128x256, .bf16⟩
  | .local _ .vmem, ⟨3, _⟩ => ⟨S128x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1152, .bf16⟩
  | .local _ .vmem, ⟨15, _⟩ => ⟨S1024x1152, .bf16⟩
  | .local _ .vmem, ⟨16, _⟩ => ⟨S128x256, .f32⟩
  | .local _ .vmem, ⟨17, _⟩ => ⟨S128x256, .f32⟩
  | .local _ .vmem, ⟨18, _⟩ => ⟨S1x256, .f32⟩
  | .local _ .vmem, ⟨19, _⟩ => ⟨S1x256, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v78 : BitVec 32 := Scalar.extui v5
  let c0_i32_26 : BitVec 32 := 0#32
  let v79 : BitVec 1 := Scalar.cmpi .ne v78 c0_i32_26
  v79

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v80 : BitVec 1 := Scalar.xori v5 v_true
  let v81 : BitVec 32 := Scalar.extui v80
  let c0_i32_27 : BitVec 32 := 0#32
  let v82 : BitVec 1 := Scalar.cmpi .ne v81 c0_i32_27
  v82

def k0_cond3 (i : grid0.Coords) : BitVec 1 :=
  let arg0 : BitVec 32 := BitVec.ofNat 32 (i 0).val
  let c0_i32 : BitVec 32 := 0#32
  let v5 : BitVec 1 := Scalar.cmpi .eq arg0 c0_i32
  let v156 : BitVec 32 := Scalar.extui v5
  let c0_i32_60 : BitVec 32 := 0#32
  let v157 : BitVec 1 := Scalar.cmpi .ne v156 c0_i32_60
  v157

def k0_cond4 (i : grid0.Coords) : BitVec 1 :=
  let arg0 : BitVec 32 := BitVec.ofNat 32 (i 0).val
  let c0_i32 : BitVec 32 := 0#32
  let v5 : BitVec 1 := Scalar.cmpi .eq arg0 c0_i32
  let true_61 : BitVec 1 := 1#1
  let v158 : BitVec 1 := Scalar.xori v5 true_61
  let v159 : BitVec 32 := Scalar.extui v158
  let c0_i32_62 : BitVec 32 := 0#32
  let v160 : BitVec 1 := Scalar.cmpi .ne v159 c0_i32_62
  v160

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1152 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x16 : Shape := ⟨2, ![8192, 16]⟩
abbrev S16x256 : Shape := ⟨2, ![16, 256]⟩
abbrev S1x256 : Shape := ⟨2, ![1, 256]⟩
abbrev S8192x256 : Shape := ⟨2, ![8192, 256]⟩
abbrev S8192x1024 : Shape := ⟨2, ![8192, 1024]⟩
abbrev S_ : Shape := ⟨0, ![]⟩
abbrev S128x64x256 : Shape := ⟨3, ![128, 64, 256]⟩
abbrev S256 : Shape := ⟨1, ![256]⟩
abbrev S256x16 : Shape := ⟨2, ![256, 16]⟩
abbrev S8192x96 : Shape := ⟨2, ![8192, 96]⟩
abbrev S8192x1152 : Shape := ⟨2, ![8192, 1152]⟩

abbrev nBuf : Space → Nat
  | .hbm => 173
  | .vmem => 0
  | .smem => 0
  | _ => 0

abbrev hbmTy0_0 (i : Nat) : BufTy := match i % 128 with
  | 0 => ⟨S8192x16, .f32⟩
  | 1 => ⟨S8192x16, .f32⟩
  | 2 => ⟨S16x256, .f32⟩
  | 3 => ⟨S1x256, .f32⟩
  | 4 => ⟨S16x256, .f32⟩
  | 5 => ⟨S1x256, .f32⟩
  | 6 => ⟨S8192x256, .f32⟩
  | 7 => ⟨S8192x256, .f32⟩
  | 8 => ⟨S8192x1024, .bf16⟩
  | 9 => ⟨S8192x1024, .bf16⟩
  | 10 => ⟨S8192x256, .f32⟩
  | 11 => ⟨S8192x256, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S8192x256, .i1⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S_, .f32⟩
  | 29 => ⟨S8192x256, .f32⟩
  | 30 => ⟨S8192x256, .i1⟩
  | 31 => ⟨S_, .f32⟩
  | 32 => ⟨S8192x256, .f32⟩
  | 33 => ⟨S8192x256, .f32⟩
  | 34 => ⟨S_, .f32⟩
  | 35 => ⟨S8192x256, .f32⟩
  | 36 => ⟨S8192x256, .i1⟩
  | 37 => ⟨S_, .f32⟩
  | 38 => ⟨S8192x256, .f32⟩
  | 39 => ⟨S8192x256, .f32⟩
  | 40 => ⟨S8192x256, .f32⟩
  | 41 => ⟨S8192x256, .f32⟩
  | 42 => ⟨S_, .f32⟩
  | 43 => ⟨S_, .f32⟩
  | 44 => ⟨S_, .i1⟩
  | 45 => ⟨S_, .f32⟩
  | 46 => ⟨S_, .f32⟩
  | 47 => ⟨S_, .f32⟩
  | 48 => ⟨S_, .f32⟩
  | 49 => ⟨S8192x256, .f32⟩
  | 50 => ⟨S8192x256, .i1⟩
  | 51 => ⟨S_, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S_, .f32⟩
  | 58 => ⟨S8192x256, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x256, .f32⟩
  | 72 => ⟨S8192x256, .f32⟩
  | 73 => ⟨S8192x256, .i1⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S_, .f32⟩
  | 83 => ⟨S8192x256, .f32⟩
  | 84 => ⟨S8192x256, .i1⟩
  | 85 => ⟨S_, .f32⟩
  | 86 => ⟨S8192x256, .f32⟩
  | 87 => ⟨S8192x256, .f32⟩
  | 88 => ⟨S_, .f32⟩
  | 89 => ⟨S8192x256, .f32⟩
  | 90 => ⟨S8192x256, .i1⟩
  | 91 => ⟨S_, .f32⟩
  | 92 => ⟨S8192x256, .f32⟩
  | 93 => ⟨S8192x256, .f32⟩
  | 94 => ⟨S8192x256, .f32⟩
  | 95 => ⟨S8192x256, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S8192x256, .f32⟩
  | 104 => ⟨S8192x256, .i1⟩
  | 105 => ⟨S_, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S8192x256, .f32⟩
  | 115 => ⟨S_, .f32⟩
  | 116 => ⟨S8192x256, .f32⟩
  | 117 => ⟨S8192x256, .f32⟩
  | 118 => ⟨S128x64x256, .f32⟩
  | 119 => ⟨S_, .f32⟩
  | 120 => ⟨S_, .f32⟩
  | 121 => ⟨S128x64x256, .f32⟩
  | 122 => ⟨S128x64x256, .f32⟩
  | 123 => ⟨S128x64x256, .f32⟩
  | 124 => ⟨S_, .f32⟩
  | 125 => ⟨S_, .f32⟩
  | 126 => ⟨S128x64x256, .f32⟩
  | 127 => ⟨S128x64x256, .f32⟩
  | _ => ⟨S8192x16, .f32⟩

abbrev hbmTy0_1 (i : Nat) : BufTy := match i % 128 with
  | 0 => ⟨S8192x256, .f32⟩
  | 1 => ⟨S8192x256, .f32⟩
  | 2 => ⟨S128x64x256, .f32⟩
  | 3 => ⟨S128x64x256, .f32⟩
  | 4 => ⟨S128x64x256, .f32⟩
  | 5 => ⟨S_, .f32⟩
  | 6 => ⟨S_, .f32⟩
  | 7 => ⟨S128x64x256, .f32⟩
  | 8 => ⟨S128x64x256, .f32⟩
  | 9 => ⟨S8192x256, .f32⟩
  | 10 => ⟨S_, .f32⟩
  | 11 => ⟨S_, .f32⟩
  | 12 => ⟨S128x64x256, .f32⟩
  | 13 => ⟨S8192x256, .f32⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S_, .f32⟩
  | 21 => ⟨S256, .f32⟩
  | 22 => ⟨S1x256, .f32⟩
  | 23 => ⟨S256x16, .f32⟩
  | 24 => ⟨S16x256, .f32⟩
  | 25 => ⟨S8192x16, .f32⟩
  | 26 => ⟨S_, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S_, .f32⟩
  | 33 => ⟨S256, .f32⟩
  | 34 => ⟨S1x256, .f32⟩
  | 35 => ⟨S256x16, .f32⟩
  | 36 => ⟨S16x256, .f32⟩
  | 37 => ⟨S8192x16, .f32⟩
  | 38 => ⟨S8192x1024, .f32⟩
  | 39 => ⟨S8192x1024, .f32⟩
  | 40 => ⟨S8192x1024, .f32⟩
  | 41 => ⟨S_, .f32⟩
  | 42 => ⟨S8192x96, .f32⟩
  | 43 => ⟨S8192x1152, .f32⟩
  | 44 => ⟨S8192x1152, .bf16⟩
  | _ => ⟨S8192x16, .f32⟩

abbrev hbmTy (i : Nat) : BufTy := match i / 128 with
  | 0 => hbmTy0_0 i
  | 1 => hbmTy0_1 i
  | _ => ⟨S8192x16, .f32⟩

abbrev bufTy : (tb : Table) → Fin (tcTables nBuf tb) → BufTy
  | .hbm, ⟨i, _⟩ => hbmTy i
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1_0 : Ref sig .tc := ⟨.hbm, 27, rfl⟩
abbrev main_call0_call0_cst_0 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_cst_2 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_cst_3 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_v3_1 : Ref sig .tc := ⟨.hbm, 41, rfl⟩
abbrev main_call0_call0_cst_4 : Ref sig .tc := ⟨.hbm, 42, rfl⟩
abbrev main_call0_call0_cst_5 : Ref sig .tc := ⟨.hbm, 43, rfl⟩
abbrev main_call0_call0_v23 : Ref sig .tc := ⟨.hbm, 44, rfl⟩
abbrev main_call0_call0_cst_6 : Ref sig .tc := ⟨.hbm, 45, rfl⟩
abbrev main_call0_call0_cst_7 : Ref sig .tc := ⟨.hbm, 46, rfl⟩
abbrev main_call0_call0_v24 : Ref sig .tc := ⟨.hbm, 47, rfl⟩
abbrev main_call0_call0_cst_8 : Ref sig .tc := ⟨.hbm, 48, rfl⟩
abbrev main_call0_call0_v25 : Ref sig .tc := ⟨.hbm, 49, rfl⟩
abbrev main_call0_call0_v26 : Ref sig .tc := ⟨.hbm, 50, rfl⟩
abbrev main_call0_call0_cst_9 : Ref sig .tc := ⟨.hbm, 51, rfl⟩
abbrev main_call0_call0_v27 : Ref sig .tc := ⟨.hbm, 52, rfl⟩
abbrev main_call0_call0_v28 : Ref sig .tc := ⟨.hbm, 53, rfl⟩
abbrev main_call0_call0_v29 : Ref sig .tc := ⟨.hbm, 54, rfl⟩
abbrev main_call0_call0_v30 : Ref sig .tc := ⟨.hbm, 55, rfl⟩
abbrev main_call0_call0_v31 : Ref sig .tc := ⟨.hbm, 56, rfl⟩
abbrev main_call0_call0_cst_10 : Ref sig .tc := ⟨.hbm, 57, rfl⟩
abbrev main_call0_call0_v32 : Ref sig .tc := ⟨.hbm, 58, rfl⟩
abbrev main_v3_2 : Ref sig .tc := ⟨.hbm, 59, rfl⟩
abbrev main_v3_0 : Ref sig .tc := ⟨.hbm, 60, rfl⟩
abbrev main_cst : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v9_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v9_2 : Ref sig .tc := ⟨.hbm, 113, rfl⟩
abbrev main_v9_0 : Ref sig .tc := ⟨.hbm, 114, rfl⟩
abbrev main_cst_0 : Ref sig .tc := ⟨.hbm, 115, rfl⟩
abbrev main_v10 : Ref sig .tc := ⟨.hbm, 116, rfl⟩
abbrev main_v11 : Ref sig .tc := ⟨.hbm, 117, rfl⟩
abbrev main_v12 : Ref sig .tc := ⟨.hbm, 118, rfl⟩
abbrev main_call2_call0_cst : Ref sig .tc := ⟨.hbm, 119, rfl⟩
abbrev main_call2_call0_v0 : Ref sig .tc := ⟨.hbm, 120, rfl⟩
abbrev main_v13 : Ref sig .tc := ⟨.hbm, 121, rfl⟩
abbrev main_v14 : Ref sig .tc := ⟨.hbm, 122, rfl⟩
abbrev main_v15 : Ref sig .tc := ⟨.hbm, 123, rfl⟩
abbrev main_call4_call0_cst : Ref sig .tc := ⟨.hbm, 124, rfl⟩
abbrev main_call4_call0_v0 : Ref sig .tc := ⟨.hbm, 125, rfl⟩
abbrev main_v16 : Ref sig .tc := ⟨.hbm, 126, rfl⟩
abbrev main_v17 : Ref sig .tc := ⟨.hbm, 127, rfl⟩
abbrev main_v18 : Ref sig .tc := ⟨.hbm, 128, rfl⟩
abbrev main_v19 : Ref sig .tc := ⟨.hbm, 129, rfl⟩
abbrev main_v20 : Ref sig .tc := ⟨.hbm, 130, rfl⟩
abbrev main_v21 : Ref sig .tc := ⟨.hbm, 131, rfl⟩
abbrev main_v22 : Ref sig .tc := ⟨.hbm, 132, rfl⟩
abbrev main_call7_call0_cst : Ref sig .tc := ⟨.hbm, 133, rfl⟩
abbrev main_call7_call0_v0 : Ref sig .tc := ⟨.hbm, 134, rfl⟩
abbrev main_v23 : Ref sig .tc := ⟨.hbm, 135, rfl⟩
abbrev main_v24 : Ref sig .tc := ⟨.hbm, 136, rfl⟩
abbrev main_v25 : Ref sig .tc := ⟨.hbm, 137, rfl⟩
abbrev main_call9_call0_cst : Ref sig .tc := ⟨.hbm, 138, rfl⟩
abbrev main_call9_call0_v0 : Ref sig .tc := ⟨.hbm, 139, rfl⟩
abbrev main_v26 : Ref sig .tc := ⟨.hbm, 140, rfl⟩
abbrev main_v27 : Ref sig .tc := ⟨.hbm, 141, rfl⟩
abbrev main_cst_1 : Ref sig .tc := ⟨.hbm, 142, rfl⟩
abbrev main_v28 : Ref sig .tc := ⟨.hbm, 143, rfl⟩
abbrev main_v29 : Ref sig .tc := ⟨.hbm, 144, rfl⟩
abbrev main_call10_v0 : Ref sig .tc := ⟨.hbm, 145, rfl⟩
abbrev main_call10_v1 : Ref sig .tc := ⟨.hbm, 146, rfl⟩
abbrev main_v30 : Ref sig .tc := ⟨.hbm, 147, rfl⟩
abbrev main_cst_2 : Ref sig .tc := ⟨.hbm, 148, rfl⟩
abbrev main_v31 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_v35 : Ref sig .tc := ⟨.hbm, 153, rfl⟩
abbrev main_cst_3 : Ref sig .tc := ⟨.hbm, 154, rfl⟩
abbrev main_v36 : Ref sig .tc := ⟨.hbm, 155, rfl⟩
abbrev main_v37 : Ref sig .tc := ⟨.hbm, 156, rfl⟩
abbrev main_call11_v0 : Ref sig .tc := ⟨.hbm, 157, rfl⟩
abbrev main_call11_v1 : Ref sig .tc := ⟨.hbm, 158, rfl⟩
abbrev main_v38 : Ref sig .tc := ⟨.hbm, 159, rfl⟩
abbrev main_cst_4 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_cst_5 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩

abbrev nD : Nat := 1
abbrev τ : Topo := Topo.v7x

variable {F : FTy → Type} [FloatOps F]
-- ==== Kernel3.lean ====
abbrev S8192x1024 : Shape := ⟨2, ![8192, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S1024x1024, .f32⟩
  | .hbm, ⟨3, _⟩ => ⟨S8192x1024, .f32⟩
  | .hbm, ⟨4, _⟩ => ⟨S8192x1024, .bf16⟩
  | .hbm, ⟨5, _⟩ => ⟨S256x2048, .bf16⟩
  | .hbm, ⟨6, _⟩ => ⟨S8192x1024, .bf16⟩
  | .hbm, ⟨7, _⟩ => ⟨S1024x1024, .bf16⟩
  | .hbm, ⟨8, _⟩ => ⟨S8192x1024, .bf16⟩
  | .hbm, ⟨9, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v146 : BitVec 1 := Scalar.cmpi .eq arg0 c0_i32
  let v147 : BitVec 32 := Scalar.extui v146
  let c0_i32_62 : BitVec 32 := 0#32
  let v148 : BitVec 1 := Scalar.cmpi .ne v147 c0_i32_62
  v148

def k0_cond2 (i : grid0.Coords) : BitVec 1 :=
  let arg0 : BitVec 32 := BitVec.ofNat 32 (i 0).val
  let c0_i32_63 : BitVec 32 := 0#32
  let v149 : BitVec 1 := Scalar.cmpi .sgt arg0 c0_i32_63
  let v150 : BitVec 32 := Scalar.extui v149
  let c0_i32_64 : BitVec 32 := 0#32
  let v151 : BitVec 1 := Scalar.cmpi .ne v150 c0_i32_64
  v151

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S8192x1024 : Shape := ⟨2, ![8192, 1024]⟩
abbrev S256x2048 : Shape := ⟨2, ![256, 2048]⟩
abbrev S1024x1024 : Shape := ⟨2, ![1024, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S1024x1024, .f32⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S256x2048, .f32⟩
  | .hbm, ⟨86, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_37 : BitVec 32 := 0#32
  let v75 : BitVec 1 := Scalar.cmpi .ne v74 c0_i32_37
  v75

def k0_cond2 (i : grid0.Coords) : BitVec 1 :=
  let arg0 : BitVec 32 := BitVec.ofNat 32 (i 0).val
  let c0_i32 : BitVec 32 := 0#32
  let v73 : BitVec 1 := Scalar.cmpi .eq arg0 c0_i32
  let v_true : BitVec 1 := 1#1
  let v76 : BitVec 1 := Scalar.xori v73 v_true
  let v77 : BitVec 32 := Scalar.extui v76
  let c0_i32_38 : BitVec 32 := 0#32
  let v78 : BitVec 1 := Scalar.cmpi .ne v77 c0_i32_38
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S4096x1024 : Shape := ⟨2, ![4096, 1024]⟩
abbrev S4x1024x1024 : Shape := ⟨3, ![4, 1024, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S4096x1024, .f32⟩
  | .hbm, ⟨6, _⟩ => ⟨S4096x1024, .bf16⟩
  | .hbm, ⟨7, _⟩ => ⟨S4x1024x1024, .bf16⟩
  | .hbm, ⟨8, _⟩ => ⟨S8192x4096, .bf16⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v74 : BitVec 1 := Scalar.cmpi .eq arg0 c0_i32
  let v75 : BitVec 32 := Scalar.extui v74
  let c0_i32_38 : BitVec 32 := 0#32
  let v76 : BitVec 1 := Scalar.cmpi .ne v75 c0_i32_38
  v76

def k0_cond2 (i : grid0.Coords) : BitVec 1 :=
  let arg0 : BitVec 32 := BitVec.ofNat 32 (i 0).val
  let c0_i32 : BitVec 32 := 0#32
  let v74 : BitVec 1 := Scalar.cmpi .eq arg0 c0_i32
  let v_true : BitVec 1 := 1#1
  let v77 : BitVec 1 := Scalar.xori v74 v_true
  let v78 : BitVec 32 := Scalar.extui v77
  let c0_i32_39 : BitVec 32 := 0#32
  let v79 : BitVec 1 := Scalar.cmpi .ne v78 c0_i32_39
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x3104 : Shape := ⟨2, ![1024, 3104]⟩
abbrev S8192x3104 : Shape := ⟨2, ![8192, 3104]⟩
abbrev S3104x1024 : Shape := ⟨2, ![3104, 1024]⟩
abbrev S1536x1024 : Shape := ⟨2, ![1536, 1024]⟩
abbrev S512x1024 : Shape := ⟨2, ![512, 1024]⟩
abbrev S2048x1024 : Shape := ⟨2, ![2048, 1024]⟩
abbrev S1024x1024 : Shape := ⟨2, ![1024, 1024]⟩
abbrev S32x1024 : Shape := ⟨2, ![32, 1024]⟩
abbrev S_ : Shape := ⟨0, ![]⟩
abbrev S96x1024 : Shape := ⟨2, ![96, 1024]⟩
abbrev S1152x1024 : Shape := ⟨2, ![1152, 1024]⟩
abbrev S8192x1536 : Shape := ⟨2, ![8192, 1536]⟩
abbrev S8192x512 : Shape := ⟨2, ![8192, 512]⟩
abbrev S8192x2048 : Shape := ⟨2, ![8192, 2048]⟩
abbrev S8192x32 : Shape := ⟨2, ![8192, 32]⟩
abbrev S8192x96 : Shape := ⟨2, ![8192, 96]⟩
abbrev S8192x1152 : Shape := ⟨2, ![8192, 1152]⟩
abbrev S512x2048 : Shape := ⟨2, ![512, 2048]⟩
abbrev S512x1152 : Shape := ⟨2, ![512, 1152]⟩
abbrev S256x2048 : Shape := ⟨2, ![256, 2048]⟩
abbrev S256x1024 : Shape := ⟨2, ![256, 1024]⟩
abbrev S256x1152 : Shape := ⟨2, ![256, 1152]⟩
abbrev S256 : Shape := ⟨1, ![256]⟩
abbrev S256x1 : Shape := ⟨2, ![256, 1]⟩
abbrev S1024 : Shape := ⟨1, ![1024]⟩

abbrev nBuf : Space → Nat
  | .hbm => 26
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3104, .f32⟩
  | .hbm, ⟨3, _⟩ => ⟨S8192x3104, .f32⟩
  | .hbm, ⟨4, _⟩ => ⟨S8192x1024, .f32⟩
  | .hbm, ⟨5, _⟩ => ⟨S3104x1024, .f32⟩
  | .hbm, ⟨6, _⟩ => ⟨S3104x1024, .bf16⟩
  | .hbm, ⟨7, _⟩ => ⟨S1536x1024, .bf16⟩
  | .hbm, ⟨8, _⟩ => ⟨S512x1024, .bf16⟩
  | .hbm, ⟨9, _⟩ => ⟨S2048x1024, .bf16⟩
  | .hbm, ⟨10, _⟩ => ⟨S1024x1024, .bf16⟩
  | .hbm, ⟨11, _⟩ => ⟨S32x1024, .bf16⟩
  | .hbm, ⟨12, _⟩ => ⟨S_, .bf16⟩
  | .hbm, ⟨13, _⟩ => ⟨S96x1024, .bf16⟩
  | .hbm, ⟨14, _⟩ => ⟨S1152x1024, .bf16⟩
  | .hbm, ⟨15, _⟩ => ⟨S8192x3104, .bf16⟩
  | .hbm, ⟨16, _⟩ => ⟨S8192x1536, .bf16⟩
  | .hbm, ⟨17, _⟩ => ⟨S8192x512, .bf16⟩
  | .hbm, ⟨18, _⟩ => ⟨S8192x2048, .bf16⟩
  | .hbm, ⟨19, _⟩ => ⟨S8192x1024, .bf16⟩
  | .hbm, ⟨20, _⟩ => ⟨S8192x32, .bf16⟩
  | .hbm, ⟨21, _⟩ => ⟨S_, .bf16⟩
  | .hbm, ⟨22, _⟩ => ⟨S8192x96, .bf16⟩
  | .hbm, ⟨23, _⟩ => ⟨S8192x1152, .bf16⟩
  | .hbm, ⟨24, _⟩ => ⟨S8192x1024, .f32⟩
  | .hbm, ⟨25, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1152, .bf16⟩
  | .local _ .vmem, ⟨4, _⟩ => ⟨S512x1152, .bf16⟩
  | .local _ .vmem, ⟨5, _⟩ => ⟨S1152x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_43 : BitVec 32 := 0#32
  let v83 : BitVec 1 := Scalar.cmpi .ne v82 c0_i32_43
  v83

def k0_cond2 (i : grid0.Coords) : BitVec 1 :=
  let arg0 : BitVec 32 := BitVec.ofNat 32 (i 0).val
  let c0_i32 : BitVec 32 := 0#32
  let v81 : BitVec 1 := Scalar.cmpi .eq arg0 c0_i32
  let v_true : BitVec 1 := 1#1
  let v84 : BitVec 1 := Scalar.xori v81 v_true
  let v85 : BitVec 32 := Scalar.extui v84
  let c0_i32_44 : BitVec 32 := 0#32
  let v86 : BitVec 1 := Scalar.cmpi .ne v85 c0_i32_44
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x1024 : Shape := ⟨2, ![8192, 1024]⟩
abbrev S1x1024 : Shape := ⟨2, ![1, 1024]⟩
abbrev S1024x3104 : Shape := ⟨2, ![1024, 3104]⟩
abbrev S8192x3104 : Shape := ⟨2, ![8192, 3104]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3104, .f32⟩
  | .hbm, ⟨3, _⟩ => ⟨S8192x3104, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3104, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel7.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S4x1024x1024 : Shape := ⟨3, ![4, 1024, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S4096x1024, .bf16⟩
  | .hbm, ⟨6, _⟩ => ⟨S4x1024x1024, .bf16⟩
  | .hbm, ⟨7, _⟩ => ⟨S8192x4096, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x128, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v113 : BitVec 1 := Scalar.cmpi .eq arg0 c0_i32
  let v114 : BitVec 32 := Scalar.extui v113
  let c0_i32_50 : BitVec 32 := 0#32
  let v115 : BitVec 1 := Scalar.cmpi .ne v114 c0_i32_50
  v115

def k0_cond2 (i : grid0.Coords) : BitVec 1 :=
  let arg0 : BitVec 32 := BitVec.ofNat 32 (i 0).val
  let c0_i32 : BitVec 32 := 0#32
  let v113 : BitVec 1 := Scalar.cmpi .eq arg0 c0_i32
  let v_true : BitVec 1 := 1#1
  let v116 : BitVec 1 := Scalar.xori v113 v_true
  let v117 : BitVec 32 := Scalar.extui v116
  let c0_i32_51 : BitVec 32 := 0#32
  let v118 : BitVec 1 := Scalar.cmpi .ne v117 c0_i32_51
  v118

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S1x128, .f32⟩
  | .hbm, ⟨77, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel8.lean ====
abbrev S8192x4096 : Shape := ⟨2, ![8192, 4096]⟩
abbrev S4096x1024 : Shape := ⟨2, ![4096, 1024]⟩
abbrev S8192x1024 : Shape := ⟨2, ![8192, 1024]⟩
abbrev S4x1024x1024 : Shape := ⟨3, ![4, 1024, 1024]⟩
abbrev S_ : Shape := ⟨0, ![]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S4x1024x1024, .bf16⟩
  | .hbm, ⟨5, _⟩ => ⟨S8192x1024, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel9.lean ====
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S8192x1024 : Shape := ⟨2, ![8192, 1024]⟩
abbrev S8192x2048 : Shape := ⟨2, ![8192, 2048]⟩
abbrev S512 : Shape := ⟨1, ![512]⟩
abbrev S_ : Shape := ⟨0, ![]⟩
abbrev S512x1 : Shape := ⟨2, ![512, 1]⟩
abbrev S512x512 : Shape := ⟨2, ![512, 512]⟩
abbrev S8x512 : Shape := ⟨2, ![8, 512]⟩
abbrev S512x2048 : Shape := ⟨2, ![512, 2048]⟩
abbrev S528x1 : Shape := ⟨2, ![528, 1]⟩
abbrev S528x512 : Shape := ⟨2, ![528, 512]⟩
abbrev S512x1536 : Shape := ⟨2, ![512, 1536]⟩
abbrev S512x128 : Shape := ⟨2, ![512, 128]⟩
abbrev S128 : Shape := ⟨1, ![128]⟩

abbrev nBuf : Space → Nat
  | .hbm => 41
  | .vmem => 43
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S3x512, .f32⟩
  | .hbm, ⟨7, _⟩ => ⟨S1x512, .f32⟩
  | .hbm, ⟨8, _⟩ => ⟨S1x128, .f32⟩
  | .hbm, ⟨9, _⟩ => ⟨S8192x1024, .f32⟩
  | .hbm, ⟨10, _⟩ => ⟨S8192x2048, .f32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S512x512, .bf16⟩
  | .hbm, ⟨36, _⟩ => ⟨S8192x2048, .bf16⟩
  | .hbm, ⟨37, _⟩ => ⟨S8192x512, .f32⟩
  | .hbm, ⟨38, _⟩ => ⟨S3x512, .f32⟩
  | .hbm, ⟨39, _⟩ => ⟨S1x512, .f32⟩
  | .hbm, ⟨40, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S8x512, .f32⟩
  | .local _ .vmem, ⟨29, _⟩ => ⟨S8x512, .f32⟩
  | .local _ .vmem, ⟨30, _⟩ => ⟨S8x512, .f32⟩
  | .local _ .vmem, ⟨31, _⟩ => ⟨S8x512, .f32⟩
  | .local _ .vmem, ⟨32, _⟩ => ⟨S3x512, .f32⟩
  | .local _ .vmem, ⟨33, _⟩ => ⟨S1x512, .f32⟩
  | .local _ .vmem, ⟨34, _⟩ => ⟨S1x128, .f32⟩
  | .local _ .vmem, ⟨35, _⟩ => ⟨S512x512, .bf16⟩
  | .local _ .vmem, ⟨36, _⟩ => ⟨S512x2048, .bf16⟩
  | .local _ .vmem, ⟨37, _⟩ => ⟨S512x2048, .bf16⟩
  | .local _ .vmem, ⟨38, _⟩ => ⟨S512x512, .f32⟩
  | .local _ .vmem, ⟨39, _⟩ => ⟨S512x512, .f32⟩
  | .local _ .vmem, ⟨40, _⟩ => ⟨S3x512, .f32⟩
  | .local _ .vmem, ⟨41, _⟩ => ⟨S1x512, .f32⟩
  | .local _ .vmem, ⟨42, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9_0 : Ref sig .tc := ⟨.hbm, 36, rfl⟩
abbrev main_v9_1 : Ref sig .tc := ⟨.hbm, 37, rfl⟩
abbrev main_v9_2 : Ref sig .tc := ⟨.hbm, 38, rfl⟩
abbrev main_v9_3 : Ref sig .tc := ⟨.hbm, 39, rfl⟩
abbrev main_v9_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem23_0 : DmaSem sig := 41
abbrev cc0_sem24_0 : DmaSem sig := 42

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_92 : BitVec 32 := 0#32
  let v299 : BitVec 1 := Scalar.cmpi .eq arg0 c0_i32_92
  let v300 : BitVec 32 := Scalar.extui v299
  let c0_i32_93 : BitVec 32 := 0#32
  let v301 : BitVec 1 := Scalar.cmpi .ne v300 c0_i32_93
  v301

def k0_cond2 (i : grid0.Coords) : BitVec 1 :=
  let arg0 : BitVec 32 := BitVec.ofNat 32 (i 0).val
  let c0_i32_92 : BitVec 32 := 0#32
  let v299 : BitVec 1 := Scalar.cmpi .eq arg0 c0_i32_92
  let v_true : BitVec 1 := 1#1
  let v302 : BitVec 1 := Scalar.xori v299 v_true
  let v303 : BitVec 32 := Scalar.extui v302
  let c0_i32_94 : BitVec 32 := 0#32
  let v304 : BitVec 1 := Scalar.cmpi .ne v303 c0_i32_94
  v304

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_14 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S3x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference9Ideal.lean ====
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S8192x1024 : Shape := ⟨2, ![8192, 1024]⟩
abbrev S_ : Shape := ⟨0, ![]⟩
abbrev S8194x512 : Shape := ⟨2, ![8194, 512]⟩
abbrev S512 : Shape := ⟨1, ![512]⟩
abbrev S8192x8x64 : Shape := ⟨3, ![8192, 8, 64]⟩
abbrev S8x64 : Shape := ⟨2, ![8, 64]⟩
abbrev S8192x8 : Shape := ⟨2, ![8192, 8]⟩
abbrev S8192x8x1 : Shape := ⟨3, ![8192, 8, 1]⟩
abbrev S1x8x64 : Shape := ⟨3, ![1, 8, 64]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S128 : Shape := ⟨1, ![128]⟩
abbrev S8192x2048 : Shape := ⟨2, ![8192, 2048]⟩

abbrev nBuf : Space → Nat
  | .hbm => 216
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S3x512, .f32⟩
  | 7 => ⟨S1x512, .f32⟩
  | 8 => ⟨S1x128, .f32⟩
  | 9 => ⟨S8192x1024, .f32⟩
  | 10 => ⟨S8192x512, .f32⟩
  | 11 => ⟨S8192x512, .f32⟩
  | 12 => ⟨S_, .f32⟩
  | 13 => ⟨S1x512, .f32⟩
  | 14 => ⟨S8194x512, .f32⟩
  | 15 => ⟨S_, .f32⟩
  | 16 => ⟨S1x512, .f32⟩
  | 17 => ⟨S_, .f32⟩
  | 18 => ⟨S1x512, .f32⟩
  | 19 => ⟨S1x512, .f32⟩
  | 20 => ⟨S512, .f32⟩
  | 21 => ⟨S8192x512, .f32⟩
  | 22 => ⟨S1x512, .f32⟩
  | 23 => ⟨S8192x512, .f32⟩
  | 24 => ⟨S8192x512, .f32⟩
  | 25 => ⟨S1x512, .f32⟩
  | 26 => ⟨S512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S8192x8x64, .f32⟩
  | 41 => ⟨S8x64, .f32⟩
  | 42 => ⟨S8192x8x64, .f32⟩
  | 43 => ⟨S_, .f32⟩
  | 44 => ⟨S8192x8, .f32⟩
  | 45 => ⟨S8192x8x1, .f32⟩
  | 46 => ⟨S_, .f32⟩
  | 47 => ⟨S8192x8x1, .f32⟩
  | 48 => ⟨S8192x8x1, .f32⟩
  | 49 => ⟨S_, .f32⟩
  | 50 => ⟨S8192x8x1, .f32⟩
  | 51 => ⟨S8192x8x1, .f32⟩
  | 52 => ⟨S8192x8x1, .f32⟩
  | 53 => ⟨S8192x8x1, .f32⟩
  | 54 => ⟨S_, .f32⟩
  | 55 => ⟨S8192x8x1, .f32⟩
  | 56 => ⟨S8192x8x1, .f32⟩
  | 57 => ⟨S8192x8x64, .f32⟩
  | 58 => ⟨S8192x8x64, .f32⟩
  | 59 => ⟨S1x8x64, .f32⟩
  | 60 => ⟨S8192x8x64, .f32⟩
  | 61 => ⟨S8192x8x64, .f32⟩
  | 62 => ⟨S8192x512, .f32⟩
  | 63 => ⟨S8192x4x128, .f32⟩
  | 64 => ⟨S8192x4x128, .f32⟩
  | 65 => ⟨S_, .f32⟩
  | 66 => ⟨S8192x4, .f32⟩
  | 67 => ⟨S8192x4x1, .f32⟩
  | 68 => ⟨S_, .f32⟩
  | 69 => ⟨S8192x4x1, .f32⟩
  | 70 => ⟨S8192x4x1, .f32⟩
  | 71 => ⟨S_, .f32⟩
  | 72 => ⟨S8192x4x1, .f32⟩
  | 73 => ⟨S8192x4x1, .f32⟩
  | 74 => ⟨S8192x4x1, .f32⟩
  | 75 => ⟨S8192x4x1, .f32⟩
  | 76 => ⟨S_, .f32⟩
  | 77 => ⟨S8192x4x1, .f32⟩
  | 78 => ⟨S8192x4x1, .f32⟩
  | 79 => ⟨S8192x4x128, .f32⟩
  | 80 => ⟨S8192x4x128, .f32⟩
  | 81 => ⟨S1x1x128, .f32⟩
  | 82 => ⟨S8192x4x128, .f32⟩
  | 83 => ⟨S8192x4x128, .f32⟩
  | 84 => ⟨S8192x512, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S8192x512, .f32⟩
  | 97 => ⟨S8192x512, .f32⟩
  | 98 => ⟨S8192x512, .f32⟩
  | 99 => ⟨S8192x1024, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x4x128, .f32⟩
  | 109 => ⟨S8192x4x128, .f32⟩
  | 110 => ⟨S_, .f32⟩
  | 111 => ⟨S128, .f32⟩
  | 112 => ⟨S1x1x128, .f32⟩
  | 113 => ⟨S8192x4x128, .f32⟩
  | 114 => ⟨S8192x4x128, .f32⟩
  | 115 => ⟨S_, .f32⟩
  | 116 => ⟨S128, .f32⟩
  | 117 => ⟨S1x128, .f32⟩
  | 118 => ⟨S8192x4x128, .f32⟩
  | 119 => ⟨S_, .f32⟩
  | 120 => ⟨S8192x4, .f32⟩
  | 121 => ⟨S8192x4x1, .f32⟩
  | 122 => ⟨S8192x4x128, .f32⟩
  | 123 => ⟨S8192x4x128, .f32⟩
  | 124 => ⟨S8192x4x1, .f32⟩
  | 125 => ⟨S_, .f32⟩
  | 126 => ⟨S8192x4x1, .f32⟩
  | 127 => ⟨S8192x4x1, .f32⟩
  | _ => ⟨S8192x512, .f32⟩

abbrev hbmTy0_1 (i : Nat) : BufTy := match i % 128 with
  | 0 => ⟨S_, .f32⟩
  | 1 => ⟨S8192x4, .f32⟩
  | 2 => ⟨S8192x4x128, .f32⟩
  | 3 => ⟨S8192x4x128, .f32⟩
  | 4 => ⟨S8192x4x128, .f32⟩
  | 5 => ⟨S8192x4x128, .f32⟩
  | 6 => ⟨S8192x4x128, .f32⟩
  | 7 => ⟨S8192x512, .f32⟩
  | 8 => ⟨S8192x8x64, .f32⟩
  | 9 => ⟨S8192x8x64, .f32⟩
  | 10 => ⟨S_, .f32⟩
  | 11 => ⟨S8x64, .f32⟩
  | 12 => ⟨S1x8x64, .f32⟩
  | 13 => ⟨S8192x8x64, .f32⟩
  | 14 => ⟨S8192x8x64, .f32⟩
  | 15 => ⟨S_, .f32⟩
  | 16 => ⟨S8x64, .f32⟩
  | 17 => ⟨S8192x8x64, .f32⟩
  | 18 => ⟨S_, .f32⟩
  | 19 => ⟨S8192x8, .f32⟩
  | 20 => ⟨S8192x8x1, .f32⟩
  | 21 => ⟨S8192x8x64, .f32⟩
  | 22 => ⟨S8192x8x64, .f32⟩
  | 23 => ⟨S8192x8x1, .f32⟩
  | 24 => ⟨S_, .f32⟩
  | 25 => ⟨S8192x8x1, .f32⟩
  | 26 => ⟨S8192x8x1, .f32⟩
  | 27 => ⟨S_, .f32⟩
  | 28 => ⟨S8192x8, .f32⟩
  | 29 => ⟨S8192x8x64, .f32⟩
  | 30 => ⟨S8192x8x64, .f32⟩
  | 31 => ⟨S8192x8x64, .f32⟩
  | 32 => ⟨S8192x8x64, .f32⟩
  | 33 => ⟨S8192x8x64, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S8192x512, .f32⟩
  | 41 => ⟨S_, .f32⟩
  | 42 => ⟨S512, .f32⟩
  | 43 => ⟨S1x512, .f32⟩
  | 44 => ⟨S_, .f32⟩
  | 45 => ⟨S512, .f32⟩
  | 46 => ⟨S_, .f32⟩
  | 47 => ⟨S8194x512, .f32⟩
  | 48 => ⟨S1x512, .f32⟩
  | 49 => ⟨S_, .f32⟩
  | 50 => ⟨S3x512, .f32⟩
  | 51 => ⟨S8192x512, .f32⟩
  | 52 => ⟨S8192x512, .f32⟩
  | 53 => ⟨S8192x512, .f32⟩
  | 54 => ⟨S_, .f32⟩
  | 55 => ⟨S512, .f32⟩
  | 56 => ⟨S1x512, .f32⟩
  | 57 => ⟨S_, .f32⟩
  | 58 => ⟨S512, .f32⟩
  | 59 => ⟨S_, .f32⟩
  | 60 => ⟨S8194x512, .f32⟩
  | 61 => ⟨S8194x512, .f32⟩
  | 62 => ⟨S1x512, .f32⟩
  | 63 => ⟨S_, .f32⟩
  | 64 => ⟨S3x512, .f32⟩
  | 65 => ⟨S3x512, .f32⟩
  | 66 => ⟨S8192x512, .f32⟩
  | 67 => ⟨S8192x512, .f32⟩
  | 68 => ⟨S8192x512, .f32⟩
  | 69 => ⟨S_, .f32⟩
  | 70 => ⟨S512, .f32⟩
  | 71 => ⟨S1x512, .f32⟩
  | 72 => ⟨S_, .f32⟩
  | 73 => ⟨S512, .f32⟩
  | 74 => ⟨S_, .f32⟩
  | 75 => ⟨S8194x512, .f32⟩
  | 76 => ⟨S8194x512, .f32⟩
  | 77 => ⟨S1x512, .f32⟩
  | 78 => ⟨S_, .f32⟩
  | 79 => ⟨S3x512, .f32⟩
  | 80 => ⟨S3x512, .f32⟩
  | 81 => ⟨S1x512, .f32⟩
  | 82 => ⟨S8192x512, .f32⟩
  | 83 => ⟨S1x512, .f32⟩
  | 84 => ⟨S8192x512, .f32⟩
  | 85 => ⟨S8192x512, .f32⟩
  | 86 => ⟨S8192x2048, .f32⟩
  | 87 => ⟨S8192x2048, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_v64_2 : Ref sig .tc := ⟨.hbm, 92, rfl⟩
abbrev main_call0_cst_1 : Ref sig .tc := ⟨.hbm, 93, rfl⟩
abbrev main_call0_v6 : Ref sig .tc := ⟨.hbm, 94, rfl⟩
abbrev main_call0_v7 : Ref sig .tc := ⟨.hbm, 95, rfl⟩
abbrev main_v64_1 : Ref sig .tc := ⟨.hbm, 96, rfl⟩
abbrev main_v64_0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_10 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_11 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_12 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_13 : Ref sig .tc := ⟨.hbm, 125, rfl⟩
abbrev main_v86 : Ref sig .tc := ⟨.hbm, 126, rfl⟩
abbrev main_v87 : Ref sig .tc := ⟨.hbm, 127, rfl⟩
abbrev main_cst_14 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_15 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_16 : Ref sig .tc := ⟨.hbm, 143, rfl⟩
abbrev main_v101 : Ref sig .tc := ⟨.hbm, 144, rfl⟩
abbrev main_v102 : Ref sig .tc := ⟨.hbm, 145, rfl⟩
abbrev main_cst_17 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_18 : Ref sig .tc := ⟨.hbm, 152, rfl⟩
abbrev main_v108 : Ref sig .tc := ⟨.hbm, 153, rfl⟩
abbrev main_v109 : Ref sig .tc := ⟨.hbm, 154, rfl⟩
abbrev main_cst_19 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_20 : Ref sig .tc := ⟨.hbm, 169, rfl⟩
abbrev main_v123 : Ref sig .tc := ⟨.hbm, 170, rfl⟩
abbrev main_v124 : Ref sig .tc := ⟨.hbm, 171, rfl⟩
abbrev main_cst_21 : Ref sig .tc := ⟨.hbm, 172, rfl⟩
abbrev main_v125 : Ref sig .tc := ⟨.hbm, 173, rfl⟩
abbrev main_cst_22 : Ref sig .tc := ⟨.hbm, 174, rfl⟩
abbrev main_v126 : Ref sig .tc := ⟨.hbm, 175, rfl⟩
abbrev main_v127 : Ref sig .tc := ⟨.hbm, 176, rfl⟩
abbrev main_cst_23 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_24 : Ref sig .tc := ⟨.hbm, 182, rfl⟩
abbrev main_v132 : Ref sig .tc := ⟨.hbm, 183, rfl⟩
abbrev main_v133 : Ref sig .tc := ⟨.hbm, 184, rfl⟩
abbrev main_cst_25 : Ref sig .tc := ⟨.hbm, 185, rfl⟩
abbrev main_v134 : Ref sig .tc := ⟨.hbm, 186, rfl⟩
abbrev main_cst_26 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_27 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_28 : Ref sig .tc := ⟨.hbm, 197, rfl⟩
abbrev main_v143 : Ref sig .tc := ⟨.hbm, 198, rfl⟩
abbrev main_v144 : Ref sig .tc := ⟨.hbm, 199, rfl⟩
abbrev main_cst_29 : Ref sig .tc := ⟨.hbm, 200, rfl⟩
abbrev main_v145 : Ref sig .tc := ⟨.hbm, 201, rfl⟩
abbrev main_cst_30 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_31 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S256x2048 : Shape := ⟨2, ![256, 2048]⟩
abbrev S1x1024 : Shape := ⟨2, ![1, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S256x2048, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .hbm, ⟨7, _⟩ => ⟨S1024x1024, .bf16⟩
  | .hbm, ⟨8, _⟩ => ⟨S256x2048, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S256x2048, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S8192x1024 : Shape := ⟨2, ![8192, 1024]⟩
abbrev S1024x1024 : Shape := ⟨2, ![1024, 1024]⟩
abbrev S256x2048 : Shape := ⟨2, ![256, 2048]⟩
abbrev S1x1024 : Shape := ⟨2, ![1, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S256x2048, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S256x1024, .f32⟩
  | .hbm, ⟨8, _⟩ => ⟨S256x1024, .f32⟩
  | .hbm, ⟨9, _⟩ => ⟨S8192x4x256, .f32⟩
  | .hbm, ⟨10, _⟩ => ⟨S256x4x256, .f32⟩
  | .hbm, ⟨11, _⟩ => ⟨S256x4x256, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S_, .f32⟩
  | .hbm, ⟨19, _⟩ => ⟨S4x8192, .f32⟩
  | .hbm, ⟨20, _⟩ => ⟨S4x8192, .f32⟩
  | .hbm, ⟨21, _⟩ => ⟨S4x8192x1, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x256, .f32⟩
  | .hbm, ⟨29, _⟩ => ⟨S4x8192x256, .f32⟩
  | .hbm, ⟨30, _⟩ => ⟨S4x256x8192, .f32⟩
  | .hbm, ⟨31, _⟩ => ⟨S8192x4x256, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S8192x1024, .bf16⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel13.lean ====
abbrev S8192x1024 : Shape := ⟨2, ![8192, 1024]⟩
abbrev S1024x4096 : Shape := ⟨2, ![1024, 4096]⟩
abbrev S4096x1024 : Shape := ⟨2, ![4096, 1024]⟩
abbrev S4x1024x1024 : Shape := ⟨3, ![4, 1024, 1024]⟩
abbrev S8192x4096 : Shape := ⟨2, ![8192, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S4x1024x1024, .bf16⟩
  | .hbm, ⟨5, _⟩ => ⟨S8192x1024, .bf16⟩
  | .hbm, ⟨6, _⟩ => ⟨S8192x4096, .bf16⟩
  | .hbm, ⟨7, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S8192x16 : Shape := ⟨2, ![8192, 16]⟩
abbrev S16x256 : Shape := ⟨2, ![16, 256]⟩
abbrev S1x256 : Shape := ⟨2, ![1, 256]⟩
abbrev S_ : Shape := ⟨0, ![]⟩
abbrev S8192x1024 : Shape := ⟨2, ![8192, 1024]⟩
abbrev S8192x96 : Shape := ⟨2, ![8192, 96]⟩
abbrev S8192x1152 : Shape := ⟨2, ![8192, 1152]⟩
abbrev S128x256 : Shape := ⟨2, ![128, 256]⟩
abbrev S8192x256 : Shape := ⟨2, ![8192, 256]⟩
abbrev S2048x128 : Shape := ⟨2, ![2048, 128]⟩
abbrev S2048x256 : Shape := ⟨2, ![2048, 256]⟩

abbrev nBuf : Space → Nat
  | .hbm => 21
  | .vmem => 10
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S16x256, .f32⟩
  | .hbm, ⟨3, _⟩ => ⟨S1x256, .f32⟩
  | .hbm, ⟨4, _⟩ => ⟨S16x256, .f32⟩
  | .hbm, ⟨5, _⟩ => ⟨S1x256, .f32⟩
  | .hbm, ⟨6, _⟩ => ⟨S_, .f32⟩
  | .hbm, ⟨7, _⟩ => ⟨S8192x1024, .f32⟩
  | .hbm, ⟨8, _⟩ => ⟨S_, .f32⟩
  | .hbm, ⟨9, _⟩ => ⟨S8192x96, .f32⟩
  | .hbm, ⟨10, _⟩ => ⟨S8192x1152, .f32⟩
  | .hbm, ⟨11, _⟩ => ⟨S_, .i32⟩
  | .hbm, ⟨12, _⟩ => ⟨S_, .f32⟩
  | .hbm, ⟨13, _⟩ => ⟨S128x256, .f32⟩
  | .hbm, ⟨14, _⟩ => ⟨S128x256, .bf16⟩
  | .hbm, ⟨15, _⟩ => ⟨S_, .i32⟩
  | .hbm, ⟨16, _⟩ => ⟨S_, .f32⟩
  | .hbm, ⟨17, _⟩ => ⟨S128x256, .f32⟩
  | .hbm, ⟨18, _⟩ => ⟨S128x256, .bf16⟩
  | .hbm, ⟨19, _⟩ => ⟨S8192x256, .f32⟩
  | .hbm, ⟨20, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S128x256, .bf16⟩
  | .local _ .vmem, ⟨3, _⟩ => ⟨S128x256, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x16 : Shape := ⟨2, ![8192, 16]⟩
abbrev S16x256 : Shape := ⟨2, ![16, 256]⟩
abbrev S1x256 : Shape := ⟨2, ![1, 256]⟩
abbrev S8192x256 : Shape := ⟨2, ![8192, 256]⟩
abbrev S_ : Shape := ⟨0, ![]⟩
abbrev S128x64x256 : Shape := ⟨3, ![128, 64, 256]⟩

abbrev nBuf : Space → Nat
  | .hbm => 62
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S16x256, .f32⟩
  | .hbm, ⟨3, _⟩ => ⟨S1x256, .f32⟩
  | .hbm, ⟨4, _⟩ => ⟨S16x256, .f32⟩
  | .hbm, ⟨5, _⟩ => ⟨S1x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .i1⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S_, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .i1⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S_, .f32⟩
  | .hbm, ⟨48, _⟩ => ⟨S8192x256, .f32⟩
  | .hbm, ⟨49, _⟩ => ⟨S8192x256, .f32⟩
  | .hbm, ⟨50, _⟩ => ⟨S128x64x256, .f32⟩
  | .hbm, ⟨51, _⟩ => ⟨S_, .f32⟩
  | .hbm, ⟨52, _⟩ => ⟨S_, .f32⟩
  | .hbm, ⟨53, _⟩ => ⟨S128x64x256, .f32⟩
  | .hbm, ⟨54, _⟩ => ⟨S128x64x256, .f32⟩
  | .hbm, ⟨55, _⟩ => ⟨S128x64x256, .f32⟩
  | .hbm, ⟨56, _⟩ => ⟨S_, .f32⟩
  | .hbm, ⟨57, _⟩ => ⟨S_, .f32⟩
  | .hbm, ⟨58, _⟩ => ⟨S128x64x256, .f32⟩
  | .hbm, ⟨59, _⟩ => ⟨S128x64x256, .f32⟩
  | .hbm, ⟨60, _⟩ => ⟨S8192x256, .f32⟩
  | .hbm, ⟨61, _⟩ => ⟨S8192x256, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v9 : Ref sig .tc := ⟨.hbm, 46, rfl⟩
abbrev main_cst_0 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_call2_call0_cst : Ref sig .tc := ⟨.hbm, 51, rfl⟩
abbrev main_call2_call0_v0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_call4_call0_cst : Ref sig .tc := ⟨.hbm, 56, rfl⟩
abbrev main_call4_call0_v0 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩

abbrev nD : Nat := 1
abbrev τ : Topo := Topo.v7x

variable {F : FTy → Type} [FloatOps F]
-- ==== Kernel15.lean ====
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S8192x2048 : Shape := ⟨2, ![8192, 2048]⟩
abbrev S512 : Shape := ⟨1, ![512]⟩
abbrev S_ : Shape := ⟨0, ![]⟩
abbrev S512x1 : Shape := ⟨2, ![512, 1]⟩
abbrev S512x512 : Shape := ⟨2, ![512, 512]⟩
abbrev S8192x1024 : Shape := ⟨2, ![8192, 1024]⟩
abbrev S1024x512 : Shape := ⟨2, ![1024, 512]⟩
abbrev S8x512 : Shape := ⟨2, ![8, 512]⟩
abbrev S1024x1024 : Shape := ⟨2, ![1024, 1024]⟩
abbrev S1040x1 : Shape := ⟨2, ![1040, 1]⟩
abbrev S1040x512 : Shape := ⟨2, ![1040, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 36
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S3x512, .f32⟩
  | .hbm, ⟨7, _⟩ => ⟨S1x512, .f32⟩
  | .hbm, ⟨8, _⟩ => ⟨S1x128, .f32⟩
  | .hbm, ⟨9, _⟩ => ⟨S8192x2048, .f32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .bf16⟩
  | .hbm, ⟨35, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S3x512, .f32⟩
  | .local _ .vmem, ⟨21, _⟩ => ⟨S1x512, .f32⟩
  | .local _ .vmem, ⟨22, _⟩ => ⟨S1x128, .f32⟩
  | .local _ .vmem, ⟨23, _⟩ => ⟨S512x512, .bf16⟩
  | .local _ .vmem, ⟨24, _⟩ => ⟨S1024x1024, .bf16⟩
  | .local _ .vmem, ⟨25, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_5 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference15Ideal.lean ====
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S_ : Shape := ⟨0, ![]⟩
abbrev S8194x512 : Shape := ⟨2, ![8194, 512]⟩
abbrev S512 : Shape := ⟨1, ![512]⟩
abbrev S8192x8x64 : Shape := ⟨3, ![8192, 8, 64]⟩
abbrev S8x64 : Shape := ⟨2, ![8, 64]⟩
abbrev S8192x8 : Shape := ⟨2, ![8192, 8]⟩
abbrev S8192x8x1 : Shape := ⟨3, ![8192, 8, 1]⟩
abbrev S1x8x64 : Shape := ⟨3, ![1, 8, 64]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192x1024 : Shape := ⟨2, ![8192, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S3x512, .f32⟩
  | .hbm, ⟨7, _⟩ => ⟨S1x512, .f32⟩
  | .hbm, ⟨8, _⟩ => ⟨S1x128, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S1x512, .f32⟩
  | .hbm, ⟨13, _⟩ => ⟨S8194x512, .f32⟩
  | .hbm, ⟨14, _⟩ => ⟨S1x512, .f32⟩
  | .hbm, ⟨15, _⟩ => ⟨S512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x8x64, .f32⟩
  | .hbm, ⟨36, _⟩ => ⟨S8x64, .f32⟩
  | .hbm, ⟨37, _⟩ => ⟨S8192x8x64, .f32⟩
  | .hbm, ⟨38, _⟩ => ⟨S_, .f32⟩
  | .hbm, ⟨39, _⟩ => ⟨S8192x8, .f32⟩
  | .hbm, ⟨40, _⟩ => ⟨S8192x8x1, .f32⟩
  | .hbm, ⟨41, _⟩ => ⟨S_, .f32⟩
  | .hbm, ⟨42, _⟩ => ⟨S8192x8x1, .f32⟩
  | .hbm, ⟨43, _⟩ => ⟨S8192x8x1, .f32⟩
  | .hbm, ⟨44, _⟩ => ⟨S_, .f32⟩
  | .hbm, ⟨45, _⟩ => ⟨S8192x8x1, .f32⟩
  | .hbm, ⟨46, _⟩ => ⟨S8192x8x1, .f32⟩
  | .hbm, ⟨47, _⟩ => ⟨S8192x8x1, .f32⟩
  | .hbm, ⟨48, _⟩ => ⟨S8192x8x64, .f32⟩
  | .hbm, ⟨49, _⟩ => ⟨S8192x8x64, .f32⟩
  | .hbm, ⟨50, _⟩ => ⟨S1x8x64, .f32⟩
  | .hbm, ⟨51, _⟩ => ⟨S8192x8x64, .f32⟩
  | .hbm, ⟨52, _⟩ => ⟨S8192x8x64, .f32⟩
  | .hbm, ⟨53, _⟩ => ⟨S8192x512, .f32⟩
  | .hbm, ⟨54, _⟩ => ⟨S8192x4x128, .f32⟩
  | .hbm, ⟨55, _⟩ => ⟨S8192x4x128, .f32⟩
  | .hbm, ⟨56, _⟩ => ⟨S_, .f32⟩
  | .hbm, ⟨57, _⟩ => ⟨S8192x4, .f32⟩
  | .hbm, ⟨58, _⟩ => ⟨S8192x4x1, .f32⟩
  | .hbm, ⟨59, _⟩ => ⟨S_, .f32⟩
  | .hbm, ⟨60, _⟩ => ⟨S8192x4x1, .f32⟩
  | .hbm, ⟨61, _⟩ => ⟨S8192x4x1, .f32⟩
  | .hbm, ⟨62, _⟩ => ⟨S_, .f32⟩
  | .hbm, ⟨63, _⟩ => ⟨S8192x4x1, .f32⟩
  | .hbm, ⟨64, _⟩ => ⟨S8192x4x1, .f32⟩
  | .hbm, ⟨65, _⟩ => ⟨S8192x4x1, .f32⟩
  | .hbm, ⟨66, _⟩ => ⟨S8192x4x128, .f32⟩
  | .hbm, ⟨67, _⟩ => ⟨S8192x4x128, .f32⟩
  | .hbm, ⟨68, _⟩ => ⟨S1x1x128, .f32⟩
  | .hbm, ⟨69, _⟩ => ⟨S8192x4x128, .f32⟩
  | .hbm, ⟨70, _⟩ => ⟨S8192x4x128, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x1024, .f32⟩
  | .hbm, ⟨83, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel16.lean ====
abbrev S8192x256 : Shape := ⟨2, ![8192, 256]⟩
abbrev S8192x512 : Shape := ⟨2, ![8192, 512]⟩
abbrev S_ : Shape := ⟨0, ![]⟩
abbrev S8192x128 : Shape := ⟨2, ![8192, 128]⟩
abbrev S8192x1152 : Shape := ⟨2, ![8192, 1152]⟩
abbrev S128x128x256 : Shape := ⟨3, ![128, 128, 256]⟩
abbrev S512x256 : Shape := ⟨2, ![512, 256]⟩
abbrev S512x512 : Shape := ⟨2, ![512, 512]⟩
abbrev S8x128x256 : Shape := ⟨3, ![8, 128, 256]⟩
abbrev S128x256 : Shape := ⟨2, ![128, 256]⟩
abbrev S1x256 : Shape := ⟨2, ![1, 256]⟩
abbrev S256x64 : Shape := ⟨2, ![256, 64]⟩
abbrev S64x256 : Shape := ⟨2, ![64, 256]⟩
abbrev S64x512 : Shape := ⟨2, ![64, 512]⟩
abbrev S256 : Shape := ⟨1, ![256]⟩
abbrev S256x256 : Shape := ⟨2, ![256, 256]⟩
abbrev S64x64 : Shape := ⟨2, ![64, 64]⟩
abbrev S64x128 : Shape := ⟨2, ![64, 128]⟩
abbrev S256x128 : Shape := ⟨2, ![256, 128]⟩
abbrev S1x128x256 : Shape := ⟨3, ![1, 128, 256]⟩

abbrev nBuf : Space → Nat
  | .hbm => 12
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192x128, .f32⟩
  | .hbm, ⟨7, _⟩ => ⟨S8192x1152, .f32⟩
  | .hbm, ⟨8, _⟩ => ⟨S8192x512, .f32⟩
  | .hbm, ⟨9, _⟩ => ⟨S128x128x256, .f32⟩
  | .hbm, ⟨10, _⟩ => ⟨S8192x512, .f32⟩
  | .hbm, ⟨11, _⟩ => ⟨S128x128x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | .local _ .vmem, ⟨18, _⟩ => ⟨S8x128x256, .f32⟩
  | .local _ .vmem, ⟨19, _⟩ => ⟨S8x128x256, .f32⟩
  | .local _ .vmem, ⟨20, _⟩ => ⟨S512x512, .f32⟩
  | .local _ .vmem, ⟨21, _⟩ => ⟨S512x512, .f32⟩
  | .local _ .vmem, ⟨22, _⟩ => ⟨S8x128x256, .f32⟩
  | .local _ .vmem, ⟨23, _⟩ => ⟨S8x128x256, .f32⟩
  | .local _ .vmem, ⟨24, _⟩ => ⟨S128x256, .f32⟩
  | .local _ .vmem, ⟨25, _⟩ => ⟨S128x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_10 : BitVec 32 := 0#32
  let c8_i32 : BitVec 32 := 8#32
  let v41 : BitVec 32 := Scalar.addi c0_i32_10 c8_i32
  let c1_i32_11 : BitVec 32 := 1#32
  ⟨c0_i32_10, v41, c1_i32_11⟩
def k0_mult1 (k0_t1 : Fin k0_t1_loop.trips) : BitVec 32 :=
  let c0_i32_10 : BitVec 32 := 0#32
  let c1_i32_11 : BitVec 32 := 1#32
  let arg15 : BitVec 32 := Scf.iv c0_i32_10 c1_i32_11 k0_t1
  let c64_i32 : BitVec 32 := 64#32
  let v42 : BitVec 32 := Scalar.muli arg15 c64_i32
  v42
def k0_off1 (k0_t1 : Fin k0_t1_loop.trips) : Fin 2 → Nat :=
  let c0_i32_10 : BitVec 32 := 0#32
  let c1_i32_11 : BitVec 32 := 1#32
  let arg15 : BitVec 32 := Scf.iv c0_i32_10 c1_i32_11 k0_t1
  let c64_i32 : BitVec 32 := 64#32
  let v42 : BitVec 32 := Scalar.muli arg15 c64_i32
  let v43 : BitVec 32 := v42
  let v44 : Index := Scalar.indexCast v43
  let c0 : Index := 0#32
  ![v44.toNat, 0]
def k0_off2 (k0_t1 : Fin k0_t1_loop.trips) : Fin 2 → Nat :=
  let c0_i32_10 : BitVec 32 := 0#32
  let c1_i32_11 : BitVec 32 := 1#32
  let arg15 : BitVec 32 := Scf.iv c0_i32_10 c1_i32_11 k0_t1
  let c64_i32 : BitVec 32 := 64#32
  let v42 : BitVec 32 := Scalar.muli arg15 c64_i32
  let v43 : BitVec 32 := v42
  let v52 : Index := Scalar.indexCast v43
  let c0_14 : Index := 0#32
  ![v52.toNat, 0]
def k0_off3 (k0_t1 : Fin k0_t1_loop.trips) : Fin 3 → Nat :=
  let c0_i32_10 : BitVec 32 := 0#32
  let c1_i32_11 : BitVec 32 := 1#32
  let arg15 : BitVec 32 := Scf.iv c0_i32_10 c1_i32_11 k0_t1
  let v127 : Index := Scalar.indexCast arg15
  let c0_33 : Index := 0#32
  let c0_34 : Index := 0#32
  ![v127.toNat, 0, 0]
def k0_mult2 (k0_t1 : Fin k0_t1_loop.trips) : BitVec 32 :=
  let c7_i32 : BitVec 32 := 7#32
  let c0_i32_10 : BitVec 32 := 0#32
  let c1_i32_11 : BitVec 32 := 1#32
  let arg15 : BitVec 32 := Scf.iv c0_i32_10 c1_i32_11 k0_t1
  let v162 : BitVec 32 := Scalar.subi c7_i32 arg15
  let c64_i32_42 : BitVec 32 := 64#32
  let v163 : BitVec 32 := Scalar.muli v162 c64_i32_42
  v163
def k0_off4 (k0_t1 : Fin k0_t1_loop.trips) : Fin 2 → Nat :=
  let c7_i32 : BitVec 32 := 7#32
  let c0_i32_10 : BitVec 32 := 0#32
  let c1_i32_11 : BitVec 32 := 1#32
  let arg15 : BitVec 32 := Scf.iv c0_i32_10 c1_i32_11 k0_t1
  let v162 : BitVec 32 := Scalar.subi c7_i32 arg15
  let c64_i32_42 : BitVec 32 := 64#32
  let v163 : BitVec 32 := Scalar.muli v162 c64_i32_42
  let v164 : BitVec 32 := v163
  let v165 : Index := Scalar.indexCast v164
  let c0_43 : Index := 0#32
  ![v165.toNat, 0]
def k0_off5 (k0_t1 : Fin k0_t1_loop.trips) : Fin 2 → Nat :=
  let c7_i32 : BitVec 32 := 7#32
  let c0_i32_10 : BitVec 32 := 0#32
  let c1_i32_11 : BitVec 32 := 1#32
  let arg15 : BitVec 32 := Scf.iv c0_i32_10 c1_i32_11 k0_t1
  let v162 : BitVec 32 := Scalar.subi c7_i32 arg15
  let c64_i32_42 : BitVec 32 := 64#32
  let v163 : BitVec 32 := Scalar.muli v162 c64_i32_42
  let v164 : BitVec 32 := v163
  let v173 : Index := Scalar.indexCast v164
  let c0_46 : Index := 0#32
  ![v173.toNat, 0]
def k0_off6 (k0_t1 : Fin k0_t1_loop.trips) : Fin 3 → Nat :=
  let c7_i32 : BitVec 32 := 7#32
  let c0_i32_10 : BitVec 32 := 0#32
  let c1_i32_11 : BitVec 32 := 1#32
  let arg15 : BitVec 32 := Scf.iv c0_i32_10 c1_i32_11 k0_t1
  let v162 : BitVec 32 := Scalar.subi c7_i32 arg15
  let v248 : Index := Scalar.indexCast v162
  let c0_65 : Index := 0#32
  let c0_66 : Index := 0#32
  ![v248.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference16Ideal.lean ====
abbrev S8192x256 : Shape := ⟨2, ![8192, 256]⟩
abbrev S8192x512 : Shape := ⟨2, ![8192, 512]⟩
abbrev S8192x4x64 : Shape := ⟨3, ![8192, 4, 64]⟩
abbrev S1x8192x4x64 : Shape := ⟨4, ![1, 8192, 4, 64]⟩
abbrev S2x8192x4x64 : Shape := ⟨4, ![2, 8192, 4, 64]⟩
abbrev S8192x4x128 : Shape := ⟨3, ![8192, 4, 128]⟩
abbrev S1x8192x4x128 : Shape := ⟨4, ![1, 8192, 4, 128]⟩
abbrev S2x8192x4x128 : Shape := ⟨4, ![2, 8192, 4, 128]⟩
abbrev S2x128x64x4x64 : Shape := ⟨5, ![2, 128, 64, 4, 64]⟩
abbrev S2x4x128x64x64 : Shape := ⟨5, ![2, 4, 128, 64, 64]⟩
abbrev S2x128x64x4x128 : Shape := ⟨5, ![2, 128, 64, 4, 128]⟩
abbrev S2x4x128x64x128 : Shape := ⟨5, ![2, 4, 128, 64, 128]⟩
abbrev S2x4x128x1x64 : Shape := ⟨5, ![2, 4, 128, 1, 64]⟩
abbrev S2x4x128x64 : Shape := ⟨4, ![2, 4, 128, 64]⟩
abbrev S_ : Shape := ⟨0, ![]⟩
abbrev S2x4x64x128 : Shape := ⟨4, ![2, 4, 64, 128]⟩
abbrev S128x2x4x64 : Shape := ⟨4, ![128, 2, 4, 64]⟩
abbrev S128x2x4x64x128 : Shape := ⟨5, ![128, 2, 4, 64, 128]⟩
abbrev S1x2x4x64 : Shape := ⟨4, ![1, 2, 4, 64]⟩
abbrev S2x4x64 : Shape := ⟨3, ![2, 4, 64]⟩
abbrev S1x2x4x64x128 : Shape := ⟨5, ![1, 2, 4, 64, 128]⟩
abbrev S2x4x64x1 : Shape := ⟨4, ![2, 4, 64, 1]⟩
abbrev S64x64 : Shape := ⟨2, ![64, 64]⟩
abbrev S8192x4 : Shape := ⟨2, ![8192, 4]⟩
abbrev S8192x4x1 : Shape := ⟨3, ![8192, 4, 1]⟩

abbrev nBuf : Space → Nat
  | .hbm => 155
  | .vmem => 0
  | .smem => 0
  | _ => 0

abbrev hbmTy0_0 (i : Nat) : BufTy := match i % 128 with
  | 0 => ⟨S8192x256, .f32⟩
  | 1 => ⟨S8192x256, .f32⟩
  | 2 => ⟨S8192x512, .f32⟩
  | 3 => ⟨S8192x256, .f32⟩
  | 4 => ⟨S8192x256, .f32⟩
  | 5 => ⟨S8192x4x64, .f32⟩
  | 6 => ⟨S8192x4x64, .f32⟩
  | 7 => ⟨S8192x4x64, .f32⟩
  | 8 => ⟨S1x8192x4x64, .f32⟩
  | 9 => ⟨S1x8192x4x64, .f32⟩
  | 10 => ⟨S2x8192x4x64, .f32⟩
  | 11 => ⟨S8192x4x128, .f32⟩
  | 12 => ⟨S8192x4x128, .f32⟩
  | 13 => ⟨S8192x4x128, .f32⟩
  | 14 => ⟨S1x8192x4x128, .f32⟩
  | 15 => ⟨S1x8192x4x128, .f32⟩
  | 16 => ⟨S2x8192x4x128, .f32⟩
  | 17 => ⟨S8192x4x64, .f32⟩
  | 18 => ⟨S8192x4x64, .f32⟩
  | 19 => ⟨S8192x4x64, .f32⟩
  | 20 => ⟨S1x8192x4x64, .f32⟩
  | 21 => ⟨S1x8192x4x64, .f32⟩
  | 22 => ⟨S2x8192x4x64, .f32⟩
  | 23 => ⟨S2x128x64x4x64, .f32⟩
  | 24 => ⟨S2x4x128x64x64, .f32⟩
  | 25 => ⟨S2x128x64x4x128, .f32⟩
  | 26 => ⟨S2x4x128x64x128, .f32⟩
  | 27 => ⟨S2x128x64x4x64, .f32⟩
  | 28 => ⟨S2x4x128x64x64, .f32⟩
  | 29 => ⟨S2x4x128x1x64, .f32⟩
  | 30 => ⟨S2x4x128x64, .f32⟩
  | 31 => ⟨S2x4x128x1x64, .f32⟩
  | 32 => ⟨S2x4x128x64x64, .f32⟩
  | 33 => ⟨S2x4x128x64x64, .f32⟩
  | 34 => ⟨S2x4x128x64x64, .f32⟩
  | 35 => ⟨S2x4x128x64x64, .f32⟩
  | 36 => ⟨S2x4x128x64x128, .f32⟩
  | 37 => ⟨S_, .f32⟩
  | 38 => ⟨S2x4x64x128, .f32⟩
  | 39 => ⟨S128x2x4x64, .f32⟩
  | 40 => ⟨S128x2x4x64x128, .f32⟩
  | 41 => ⟨S_, .f32⟩
  | 42 => ⟨S128x2x4x64x128, .f32⟩
  | 43 => ⟨S_, .i32⟩
  | 44 => ⟨S128x2x4x64, .f32⟩
  | 45 => ⟨S128x2x4x64x128, .f32⟩
  | 46 => ⟨S_, .i32⟩
  | 47 => ⟨S2x4x64x128, .f32⟩
  | 48 => ⟨S128x2x4x64x128, .f32⟩
  | 49 => ⟨S_, .i32⟩
  | 50 => ⟨S_, .i1⟩
  | 51 => ⟨S_, .i32⟩
  | 52 => ⟨S_, .i32⟩
  | 53 => ⟨S_, .i32⟩
  | 54 => ⟨S1x2x4x64, .f32⟩
  | 55 => ⟨S2x4x64, .f32⟩
  | 56 => ⟨S_, .i32⟩
  | 57 => ⟨S_, .i32⟩
  | 58 => ⟨S_, .i32⟩
  | 59 => ⟨S_, .i32⟩
  | 60 => ⟨S1x2x4x64x128, .f32⟩
  | 61 => ⟨S2x4x64x128, .f32⟩
  | 62 => ⟨S2x4x64, .f32⟩
  | 63 => ⟨S2x4x64x1, .f32⟩
  | 64 => ⟨S2x4x64x128, .f32⟩
  | 65 => ⟨S2x4x64x128, .f32⟩
  | 66 => ⟨S2x4x64x128, .f32⟩
  | 67 => ⟨S1x2x4x64x128, .f32⟩
  | 68 => ⟨S_, .i32⟩
  | 69 => ⟨S_, .i32⟩
  | 70 => ⟨S_, .i32⟩
  | 71 => ⟨S_, .i32⟩
  | 72 => ⟨S128x2x4x64x128, .f32⟩
  | 73 => ⟨S_, .i32⟩
  | 74 => ⟨S_, .i32⟩
  | 75 => ⟨S8192x4x64, .f32⟩
  | 76 => ⟨S8192x4x64, .f32⟩
  | 77 => ⟨S8192x4x64, .f32⟩
  | 78 => ⟨S1x8192x4x64, .f32⟩
  | 79 => ⟨S1x8192x4x64, .f32⟩
  | 80 => ⟨S2x8192x4x64, .f32⟩
  | 81 => ⟨S_, .f32⟩
  | 82 => ⟨S2x8192x4x64, .f32⟩
  | 83 => ⟨S2x8192x4x64, .f32⟩
  | 84 => ⟨S8192x4x64, .f32⟩
  | 85 => ⟨S8192x4x64, .f32⟩
  | 86 => ⟨S8192x4x64, .f32⟩
  | 87 => ⟨S1x8192x4x64, .f32⟩
  | 88 => ⟨S1x8192x4x64, .f32⟩
  | 89 => ⟨S2x8192x4x64, .f32⟩
  | 90 => ⟨S8192x4x128, .f32⟩
  | 91 => ⟨S8192x4x128, .f32⟩
  | 92 => ⟨S8192x4x128, .f32⟩
  | 93 => ⟨S1x8192x4x128, .f32⟩
  | 94 => ⟨S1x8192x4x128, .f32⟩
  | 95 => ⟨S2x8192x4x128, .f32⟩
  | 96 => ⟨S8192x4x64, .f32⟩
  | 97 => ⟨S8192x4x64, .f32⟩
  | 98 => ⟨S8192x4x64, .f32⟩
  | 99 => ⟨S1x8192x4x64, .f32⟩
  | 100 => ⟨S1x8192x4x64, .f32⟩
  | 101 => ⟨S2x8192x4x64, .f32⟩
  | 102 => ⟨S2x128x64x4x64, .f32⟩
  | 103 => ⟨S2x4x128x64x64, .f32⟩
  | 104 => ⟨S2x128x64x4x64, .f32⟩
  | 105 => ⟨S2x4x128x64x64, .f32⟩
  | 106 => ⟨S2x128x64x4x128, .f32⟩
  | 107 => ⟨S2x4x128x64x128, .f32⟩
  | 108 => ⟨S2x128x64x4x64, .f32⟩
  | 109 => ⟨S2x4x128x64x64, .f32⟩
  | 110 => ⟨S2x4x128x64x64, .f32⟩
  | 111 => ⟨S2x4x128x64x64, .f32⟩
  | 112 => ⟨S2x4x128x64x64, .f32⟩
  | 113 => ⟨S2x4x128x64x64, .f32⟩
  | 114 => ⟨S2x4x128x64x64, .f32⟩
  | 115 => ⟨S_, .i1⟩
  | 116 => ⟨S64x64, .i1⟩
  | 117 => ⟨S64x64, .i32⟩
  | 118 => ⟨S_, .i32⟩
  | 119 => ⟨S64x64, .i32⟩
  | 120 => ⟨S64x64, .i32⟩
  | 121 => ⟨S64x64, .i32⟩
  | 122 => ⟨S64x64, .i1⟩
  | 123 => ⟨S_, .i1⟩
  | 124 => ⟨S64x64, .i1⟩
  | 125 => ⟨S64x64, .i1⟩
  | 126 => ⟨S2x4x128x64x64, .f32⟩
  | 127 => ⟨S_, .f32⟩
  | _ => ⟨S8192x256, .f32⟩

abbrev hbmTy0_1 (i : Nat) : BufTy := match i % 128 with
  | 0 => ⟨S_, .f32⟩
  | 1 => ⟨S2x4x128x64x64, .i1⟩
  | 2 => ⟨S2x4x128x64x64, .f32⟩
  | 3 => ⟨S2x4x128x64x64, .f32⟩
  | 4 => ⟨S2x4x128x64x128, .f32⟩
  | 5 => ⟨S2x4x128x64x128, .f32⟩
  | 6 => ⟨S2x4x128x64x128, .f32⟩
  | 7 => ⟨S2x128x64x4x128, .f32⟩
  | 8 => ⟨S2x8192x4x128, .f32⟩
  | 9 => ⟨S8192x4x64, .f32⟩
  | 10 => ⟨S_, .f32⟩
  | 11 => ⟨S8192x4x64, .f32⟩
  | 12 => ⟨S8192x4x64, .f32⟩
  | 13 => ⟨S8192x4x64, .f32⟩
  | 14 => ⟨S8192x4, .f32⟩
  | 15 => ⟨S8192x4x1, .f32⟩
  | 16 => ⟨S8192x4x128, .f32⟩
  | 17 => ⟨S8192x4x128, .f32⟩
  | 18 => ⟨S8192x4x128, .f32⟩
  | 19 => ⟨S1x8192x4x128, .f32⟩
  | 20 => ⟨S8192x4x128, .f32⟩
  | 21 => ⟨S8192x512, .f32⟩
  | 22 => ⟨S1x8192x4x128, .f32⟩
  | 23 => ⟨S8192x4x128, .f32⟩
  | 24 => ⟨S8192x4x128, .f32⟩
  | 25 => ⟨S8192x4x128, .f32⟩
  | 26 => ⟨S8192x512, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_0 : Ref sig .tc := ⟨.hbm, 41, rfl⟩
abbrev main_v35 : Ref sig .tc := ⟨.hbm, 42, rfl⟩
abbrev main_c : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev main_v36_3 : Ref sig .tc := ⟨.hbm, 47, rfl⟩
abbrev main_v36_4 : Ref sig .tc := ⟨.hbm, 48, rfl⟩
abbrev main_while0c_c_9 : Ref sig .tc := ⟨.hbm, 49, rfl⟩
abbrev main_while0c_v102 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_v0 : Ref sig .tc := ⟨.hbm, 54, rfl⟩
abbrev main_while0b_v102 : Ref sig .tc := ⟨.hbm, 55, rfl⟩
abbrev main_while0b_call4_c : Ref sig .tc := ⟨.hbm, 56, rfl⟩
abbrev main_while0b_call4_c_0 : Ref sig .tc := ⟨.hbm, 57, rfl⟩
abbrev main_while0b_call4_c_1 : Ref sig .tc := ⟨.hbm, 58, rfl⟩
abbrev main_while0b_call4_c_2 : Ref sig .tc := ⟨.hbm, 59, rfl⟩
abbrev main_while0b_call4_v0 : Ref sig .tc := ⟨.hbm, 60, rfl⟩
abbrev main_while0b_v103 : Ref sig .tc := ⟨.hbm, 61, rfl⟩
abbrev main_while0b_v104 : Ref sig .tc := ⟨.hbm, 62, rfl⟩
abbrev main_while0b_v105 : Ref sig .tc := ⟨.hbm, 63, rfl⟩
abbrev main_while0b_v106 : Ref sig .tc := ⟨.hbm, 64, rfl⟩
abbrev main_while0b_v107 : Ref sig .tc := ⟨.hbm, 65, rfl⟩
abbrev main_while0b_v108 : Ref sig .tc := ⟨.hbm, 66, rfl⟩
abbrev main_while0b_call5_v0 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_c_1 : Ref sig .tc := ⟨.hbm, 70, rfl⟩
abbrev main_while0b_call5_c_2 : Ref sig .tc := ⟨.hbm, 71, rfl⟩
abbrev main_while0b_v109 : Ref sig .tc := ⟨.hbm, 72, rfl⟩
abbrev main_while0b_c_9 : Ref sig .tc := ⟨.hbm, 73, rfl⟩
abbrev main_while0b_v110 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_1 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_2 : Ref sig .tc := ⟨.hbm, 115, rfl⟩
abbrev main_v76 : Ref sig .tc := ⟨.hbm, 116, rfl⟩
abbrev main_call10_v0 : Ref sig .tc := ⟨.hbm, 117, rfl⟩
abbrev main_call10_c : Ref sig .tc := ⟨.hbm, 118, rfl⟩
abbrev main_call10_v1 : Ref sig .tc := ⟨.hbm, 119, rfl⟩
abbrev main_call10_v2 : Ref sig .tc := ⟨.hbm, 120, rfl⟩
abbrev main_call10_v3 : Ref sig .tc := ⟨.hbm, 121, rfl⟩
abbrev main_call10_v4 : Ref sig .tc := ⟨.hbm, 122, rfl⟩
abbrev main_call10_c_0 : Ref sig .tc := ⟨.hbm, 123, rfl⟩
abbrev main_call10_v5 : Ref sig .tc := ⟨.hbm, 124, rfl⟩
abbrev main_v77 : Ref sig .tc := ⟨.hbm, 125, rfl⟩
abbrev main_v78 : Ref sig .tc := ⟨.hbm, 126, rfl⟩
abbrev main_cst_3 : Ref sig .tc := ⟨.hbm, 127, rfl⟩
abbrev main_call11_v0 : Ref sig .tc := ⟨.hbm, 128, rfl⟩
abbrev main_call11_v1 : Ref sig .tc := ⟨.hbm, 129, rfl⟩
abbrev main_call11_v2 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_4 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩

abbrev nD : Nat := 1
abbrev τ : Topo := Topo.v7x

variable {F : FTy → Type} [FloatOps F]

abbrev main_while0_count : Scf.Loop 32 := ⟨0#32, 128#32, 1#32⟩
-- ==== Proof.Gain.lean ====
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

/-- Every window's block index: the grid has one point. -/
theorem idx : ∀ t : Fin cfg0.N, win0_0.index t = ![0, 0] ∧ win0_1.index t = ![0, 0] ∧ win0_2.index t = ![0, 0] :=
  (by decide +kernel : ∀ t : Fin grid0.N, _)

/-- What the kernel leaves in its one result block is the gain's gradient of the reference, at the argument arrays. -/
theorem final (c : Dev nD) : (dats m 0 c).arrAt 2 (cfgs 0).N
    = Cert.ReferenceIdeal.Read.val_main_v14 (F := Ideal) (m ((c : Thread nD τ).loc main_arg0)) (m ((c : Thread nD τ).loc main_arg2)) := by
  refine (dats m 0 c).arrAt_eq_of_after_last 2 t0_0 (by decide +kernel) _ fun j => ?_
  blk_simp
  rw [after0_2]
  unfold outsAt0
  frame_out
  pointwise [k0_pay1, Cert.ReferenceIdeal.Read.val_main_v14, Cert.ReferenceIdeal.Read.val_main_v13, Cert.ReferenceIdeal.Read.val_main_v12, Cert.ReferenceIdeal.Read.val_main_v9, Cert.ReferenceIdeal.Read.val_main_v8, Cert.ReferenceIdeal.Read.val_main_v7,
    Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0,
    Cert.ReferenceIdeal.Read.val_main_cst, Cert.ReferenceIdeal.Read.val_main_cst_0, Cert.ReferenceIdeal.Read.val_main_cst_1, Cert.ReferenceIdeal.Read.val_main_cst_2]
  blk_point [iblk, V, idx t0_0]

end Cert.KernelIdeal.Value

namespace Cert.Proof

/-- Both programs run, and the kernel's result is the derivative of the norm in its gain. -/
theorem gain_algebraic : Cert.algebraic_KernelIdeal_ReferenceIdeal := fun m ρ m' ρ' _ hag =>
  ⟨fun c => Cert.ReferenceIdeal.Read.val_main_v14 (F := Ideal) (m (c.tc.loc Cert.KernelIdeal.main_arg0)) (m (c.tc.loc Cert.KernelIdeal.main_arg2)),
    (θ_run _ _ _).mono (fun _ h c => ⟨(h c).1.trans (Cert.KernelIdeal.Value.final m c), (h c).2⟩) (Cert.KernelIdeal.Value.run_blocks m ρ),
    (θ_run _ _ _).mono (fun _ h c => ⟨(h c).1.trans ((Cert.ReferenceIdeal.Read.val_main_v14_eq _ _).trans (by rw [(hag c).1, (hag c).2.2])), (h c).2⟩)
      (Cert.ReferenceIdeal.Value.run m' ρ')⟩

/-- The reference runs and leaves its arguments as they were. -/
theorem gain_reference : Cert.quiescent_ReferenceIdeal := fun m ρ _ =>
  (θ_run _ _ _).mono (fun r h => ⟨fun c => (h c).2, sem_eq_zero_of_no_sems (by decide) r.2⟩) (Cert.ReferenceIdeal.Value.run m ρ)

end Cert.Proof

end
-- ==== Proof.Numbers.lean ====
module

public import Idealize.ShloMosaic.Lib.Pointwise
public import Idealize.ShloMosaic.PureOps.Ideal

/-! Literals, sums over a run and finite extended reals. -/

@[expose] public section

set_option maxRecDepth 16384

noncomputable section

open Idealize.ShloMosaic Finset

namespace Cert.Num

/-- A block accumulated over the points is the sum of what the points add. -/
theorem run_sum {N : ℕ} (f : ∀ n, n < N → EReal) (g : Fin N → EReal) (h0 : ∀ t : Fin N, t.val = 0 → f t.val t.isLt = g t)
    (hs : ∀ t : Fin N, t.val ≠ 0 → f t.val t.isLt = f (t.val - 1) (by omega) + g t) :
    ∀ (n : ℕ) (h : n < N), f n h = ∑ k : Fin (n + 1), g ⟨k.val, by omega⟩ := by
  intro n
  induction n with
  | zero => intro h; rw [h0 ⟨0, h⟩ rfl]; simp
  | succ n ih =>
    intro h
    rw [hs ⟨n + 1, h⟩ (Nat.succ_ne_zero n), Fin.sum_univ_castSucc]
    exact congrArg (· + _) (ih (by omega))

theorem sixteen : Ideal.ofBits .f32 0x41800000#32 = ((16 : ℝ) : EReal) := by
  simp [Ideal.ofBits, Ideal.ieee]
  rw [← EReal.coe_mul]
  norm_num

theorem sixteenth : Ideal.ofBits .f32 0x3D800000#32 = ((1 / 16 : ℝ) : EReal) := by
  simp [Ideal.ofBits, Ideal.ieee]
  rw [← EReal.coe_mul]
  norm_num

theorem minus_infinity : Ideal.ofBits .f32 0xFF800000#32 = (⊥ : EReal) := by
  simp [Ideal.ofBits, Ideal.ieee]

theorem infinity : Ideal.ofBits .f32 0x7F800000#32 = (⊤ : EReal) := by
  simp [Ideal.ofBits, Ideal.ieee]

theorem max_coe (x y : ℝ) : max (x : EReal) (y : EReal) = ((max x y : ℝ) : EReal) := (EReal.coe_strictMono.monotone.map_max).symm

/-- A finite extended real, from the comparison of a precondition. -/
theorem real_of_lt {x : EReal} (h : max x (-x) < ⊤) : ∃ r : ℝ, x = r := by
  induction x with
  | bot => simp at h
  | top => simp at h
  | coe r => exact ⟨r, rfl⟩

/-- The comparison as a precondition's program writes it. -/
theorem real_of_cmp {x : EReal} (h : FloatOps.cmpf (F := Ideal) (φ := .f32) .olt (FloatOps.hostAbsf (F := Ideal) (φ := .f32) x) (Ideal.ofBits .f32 0x7F800000#32) = 1#1) :
    ∃ r : ℝ, x = r := by
  refine real_of_lt ?_
  rw [infinity] at h
  by_contra hn
  have h' : (BitVec.ofBool (decide (max x (-x) < ⊤)) : BitVec 1) = 1#1 := h
  rw [decide_eq_false hn] at h'
  exact absurd h' (by decide)

/-- A sum of reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A factor that is a real and not negative, into a sum. -/
theorem mul_sum_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [sum_insert ha, sum_insert ha, EReal.right_distrib_of_nonneg_of_ne_top (by exact_mod_cast hc) (EReal.coe_ne_top c), ih]

/-- The greatest of reals. -/
theorem fold_max_coe {ι : Type*} (s : Finset ι) (hs : s.Nonempty) (f : ι → ℝ) :
    ∃ M : ℝ, s.fold max ⊥ (fun i => ((f i : ℝ) : EReal)) = M := by
  classical
  induction hs using Finset.Nonempty.cons_induction with
  | singleton a => exact ⟨f a, by simp⟩
  | cons a s ha hs ih =>
    obtain ⟨M, hM⟩ := ih
    exact ⟨max (f a) M, by rw [fold_cons, hM, max_coe]⟩

end Cert.Num
-- ==== Proof.GateSums.lean ====
module

public import proofs.«01_k».proof.Proof.Numbers

/-! Sums over the rest of a chunk of 64 rows and over its beginning, by doubling and by windows; the sigmoid as the
    derivative of a softplus. -/

@[expose] public section

set_option maxRecDepth 16384

noncomputable section

open Idealize.ShloMosaic Finset Cert.Num

namespace Cert.Gate

/-- The sum of at most `n` entries from row `r` to the end of its chunk. -/
def rest (n : ℕ) (v : ℕ → EReal) (r : ℕ) : EReal := ∑ i ∈ range n, if r % 64 + i < 64 then v (r + i) else 0

/-- The sum of at most `n` entries back from row `r` to the beginning of its chunk. -/
def past (n : ℕ) (v : ℕ → EReal) (r : ℕ) : EReal := ∑ i ∈ range n, if i ≤ r % 64 then v (r - i) else 0

theorem rest_one (v : ℕ → EReal) (r : ℕ) : rest 1 v r = v r := by
  have := Nat.mod_lt r (show 0 < 64 by decide)
  simp [rest, this]

theorem past_one (v : ℕ → EReal) (r : ℕ) : past 1 v r = v r := by simp [past]

theorem rest_double (n : ℕ) (v : ℕ → EReal) (r : ℕ) :
    rest (n + n) v r = rest n v r + if r % 64 + n < 64 then rest n v (r + n) else 0 := by
  unfold rest
  rw [sum_range_add]
  congr 1
  split
  · next h =>
    refine sum_congr rfl fun i _ => ?_
    rw [show (r + n) % 64 = r % 64 + n by omega, Nat.add_assoc r n i, Nat.add_assoc (r % 64) n i]
  · next h => exact sum_eq_zero fun i _ => if_neg (by omega)

theorem past_double (n : ℕ) (v : ℕ → EReal) (r : ℕ) :
    past (n + n) v r = past n v r + if n ≤ r % 64 then past n v (r - n) else 0 := by
  unfold past
  rw [sum_range_add]
  congr 1
  split
  · next h =>
    refine sum_congr rfl fun i _ => ?_
    have := Nat.mod_le r 64
    rw [show (r - n) % 64 = r % 64 - n by omega, Nat.sub_sub]
    exact if_congr ⟨fun _ => by omega, fun _ => by omega⟩ rfl rfl
  · next h => exact sum_eq_zero fun i _ => if_neg (by omega)

/-- A sum from a row's place in its chunk on is the same at a shift of the rows by whole chunks. -/
theorem rest_shift (n : ℕ) (v : ℕ → EReal) (B r : ℕ) (hB : B % 64 = 0) : rest n v (B + r) = rest n (fun i => v (B + i)) r := by
  unfold rest
  refine sum_congr rfl fun i _ => ?_
  rw [show (B + r) % 64 = r % 64 by omega, Nat.add_assoc]

theorem past_shift (n : ℕ) (v : ℕ → EReal) (B r : ℕ) (hB : B % 64 = 0) : past n v (B + r) = past n (fun i => v (B + i)) r := by
  unfold past
  refine sum_congr rfl fun i _ => ?_
  rw [show (B + r) % 64 = r % 64 by omega]
  split
  · next h =>
    have := Nat.mod_le r 64
    rw [Nat.add_sub_assoc (by omega)]
  · rfl

theorem rest_congr (n : ℕ) (v w : ℕ → EReal) (r : ℕ) (h : ∀ i, i / 64 = r / 64 → v i = w i) : rest n v r = rest n w r :=
  sum_congr rfl fun i _ => by split <;> [exact h _ (by omega); rfl]

theorem past_congr (n : ℕ) (v w : ℕ → EReal) (r : ℕ) (h : ∀ i, i / 64 = r / 64 → v i = w i) : past n v r = past n w r :=
  sum_congr rfl fun i _ => by
    split
    · have := Nat.mod_le r 64
      exact h _ (by omega)
    · rfl

/-- `1 / (1 + exp (-x))`, written with the exponential of a number that is not positive. -/
def sg (x : EReal) : EReal :=
  if 0 ≤ x then Ideal.div 1 (1 + Ideal.exp (0 - max x (-x))) else Ideal.div (Ideal.exp (0 - max x (-x))) (1 + Ideal.exp (0 - max x (-x)))

/-- The softplus of `x`. -/
def sp (x : EReal) : EReal := max x 0 + Ideal.log1p (Ideal.exp (-(max x (-x))))

theorem max_neg_coe (x : ℝ) : max (x : EReal) (-(x : EReal)) = ((|x| : ℝ) : EReal) := by
  rw [← EReal.coe_neg, max_coe]
  rfl

theorem exp_bot : Ideal.exp ⊥ = 0 := rfl

theorem log_one : Ideal.log 1 = 0 := by
  rw [← EReal.coe_one, Ideal.log_coe, if_neg (by norm_num), Real.log_one]
  rfl

theorem sg_coe (x : ℝ) : sg (x : EReal) = ((Real.exp x / (1 + Real.exp x) : ℝ) : EReal) := by
  have h1 : (1 : EReal) + ((Real.exp (-|x|) : ℝ) : EReal) = ((1 + Real.exp (-|x|) : ℝ) : EReal) := by push_cast; rfl
  have hp : (1 + Real.exp (-|x|) : ℝ) ≠ 0 := by positivity
  have hq : (1 + Real.exp x : ℝ) ≠ 0 := by positivity
  have he : Ideal.exp (0 - max (x : EReal) (-(x : EReal))) = ((Real.exp (-|x|) : ℝ) : EReal) := by
    rw [max_neg_coe, zero_sub, ← EReal.coe_neg, Ideal.exp_coe]
  unfold sg
  rw [he, h1, Ideal.div_coe hp, Ideal.div_coe hp, ← EReal.coe_mul, ← EReal.coe_one, ← EReal.coe_mul]
  split
  · next h =>
    have h0 : 0 ≤ x := by exact_mod_cast h
    congr 1
    rw [abs_of_nonneg h0] at hp ⊢
    field_simp
    rw [add_mul, one_mul, ← Real.exp_add, neg_add_cancel, Real.exp_zero, add_comm]
  · next h =>
    have h0 : x < 0 := by
      have : ¬ (0 : ℝ) ≤ x := fun h' => h (by exact_mod_cast h')
      exact not_le.mp this
    congr 1
    rw [abs_of_neg h0, neg_neg]
    ring

theorem sp_coe (x : ℝ) : sp (x : EReal) = ((Real.log (1 + Real.exp x) : ℝ) : EReal) := by
  have hp : (0 : ℝ) < 1 + Real.exp (-|x|) := by positivity
  have h1 : (1 : EReal) + ((Real.exp (-|x|) : ℝ) : EReal) = ((1 + Real.exp (-|x|) : ℝ) : EReal) := by push_cast; rfl
  unfold sp Ideal.log1p
  rw [max_neg_coe, ← EReal.coe_neg, Ideal.exp_coe, h1, Ideal.log_coe, if_neg (not_le.mpr hp), ← EReal.coe_zero, max_coe, ← EReal.coe_add]
  congr 1
  rcases le_or_gt 0 x with h | h
  · rw [max_eq_left h, abs_of_nonneg h, ← Real.log_exp x, ← Real.log_mul (Real.exp_pos _).ne' (by rw [Real.log_exp]; positivity), Real.log_exp,
      mul_add, ← Real.exp_add, add_neg_cancel, Real.exp_zero, mul_one, add_comm]
  · rw [max_eq_right h.le, abs_of_neg h, neg_neg, zero_add]

/-- The sigmoid is the exponential of the distance from the softplus, at the infinities too. -/
theorem sg_eq (y : EReal) : Ideal.exp ((if y = ⊤ then 0 else y) - (if sp y = ⊤ then 0 else sp y)) = sg y := by
  induction y with
  | bot =>
    have : sp ⊥ = 0 := by simp [sp, Ideal.log1p, exp_bot, log_one]
    rw [this]
    simp [sg, exp_bot, Ideal.div]
  | top =>
    have : sp ⊤ = ⊤ := by simp [sp, Ideal.log1p, exp_bot, log_one]
    rw [this]
    have h0 : Ideal.exp 0 = 1 := by rw [← EReal.coe_zero, Ideal.exp_coe, Real.exp_zero]; rfl
    simp [sg, exp_bot, Ideal.div, h0]
  | coe x =>
    have hp : (0 : ℝ) < 1 + Real.exp x := by positivity
    rw [sg_coe, sp_coe, if_neg (EReal.coe_ne_top _), if_neg (EReal.coe_ne_top _), ← EReal.coe_sub, Ideal.exp_coe, Real.exp_sub, Real.exp_log hp]

/-- The two signs a derivative of `-softplus` carries meet. -/
theorem neg_neg_mul (a b : EReal) : -(-a * b) = a * b := by rw [EReal.neg_mul, neg_neg]

end Cert.Gate

end
-- ==== Proof.GateScan.lean ====
module
public import proofs.«01_k».proof.Proof.Gen.Kernel2Ideal.Frame
public import proofs.«01_k».proof.Proof.Gen.Reference2Ideal.Read
public import proofs.«01_k».proof.Proof.GateSums
public import Idealize.ShloMosaic.Lib.Pipeline.ValueKit
public import Idealize.ShloMosaic.Lib.Pointwise
public import Idealize.ShloMosaic.Lib.Claim
public import Idealize.ShloMosaic.Lib.KernelVsHost
@[expose] public section
set_option maxRecDepth 16384
noncomputable section
open Idealize.ShloMosaic Idealize.ShloMosaic.TcCoe Idealize.SL.Sem

namespace Cert.Gate
open Finset

/-- One doubling of the sums over the rest of a chunk. -/
theorem rest_step {N n : ℕ} {f : ℕ → EReal} {v : Fin N → EReal} (hv : ∀ r, v r = rest n f r.val) (r q : Fin N) (c : BitVec 1)
    (hc : c = 1 ↔ r.val % 64 + n < 64) (hq : r.val % 64 + n < 64 → q.val = r.val + n) :
    v r + Scalar.select c (v q) 0 = rest (n + n) f r.val := by
  rw [rest_double, hv r, show Scalar.select c (v q) 0 = if c = 1 then v q else 0 from rfl]
  by_cases h : r.val % 64 + n < 64
  · rw [if_pos h, if_pos (hc.mpr h), hv q, hq h]
  · rw [if_neg h, if_neg (mt hc.mp h)]

/-- One doubling of the sums over the beginning of a chunk. -/
theorem past_step {N n : ℕ} {f : ℕ → EReal} {v : Fin N → EReal} (hv : ∀ r, v r = past n f r.val) (r q : Fin N) (c : BitVec 1)
    (hc : c = 1 ↔ n ≤ r.val % 64) (hq : n ≤ r.val % 64 → q.val = r.val - n) :
    v r + Scalar.select c (v q) 0 = past (n + n) f r.val := by
  rw [past_double, hv r, show Scalar.select c (v q) 0 = if c = 1 then v q else 0 from rfl]
  by_cases h : n ≤ r.val % 64
  · rw [if_pos h, if_pos (hc.mpr h), hv q, hq h]
  · rw [if_neg h, if_neg (mt hc.mp h)]

/-- A window of 64 rows over the middle of three axes, the rows beyond the end counted as nothing. -/
theorem window_apply (x : (⟨3, ![128, 64, 256]⟩ : Shape).Idx → EReal) (z : EReal) (hz : z = 0)
    (h : (⟨3, ![128, 64, 256]⟩ : Shape).ReduceWindows ![1, 64, 1] ![1, 1, 1] ![0, 0, 0] ![0, 63, 0] ⟨3, ![128, 64, 256]⟩)
    (a : Fin 128) (b : Fin 64) (j : Fin 256) :
    Ideal.hostReduceWindowAdd ![1, 64, 1] ![1, 1, 1] ![0, 0, 0] ![0, 63, 0] h x z (ix3 a b j)
      = ∑ i ∈ range 64, if hi : b.val + i < 64 then x (ix3 a ⟨b.val + i, hi⟩ j) else 0 := by
  subst hz
  have hcoord : ∀ n : Fin 64, ∀ k : Fin 3, ((⟨3, ![1, 64, 1]⟩ : Shape).rowMajor.symm (Fin.cast (show 64 = (⟨3, ![1, 64, 1]⟩ : Shape).numel by decide) n) k).val = ![0, n.val, 0] k := by decide +kernel
  rw [sum_range]
  have hfold : ∀ {n : ℕ} (g : Fin n → EReal), (List.finRange n).foldl (fun r n => r + g n) 0 = ∑ k, g k := by
    intro n g
    rw [Fin.sum_univ_def, List.sum_eq_foldl, List.foldl_map]
  unfold Ideal.hostReduceWindowAdd Host.reduceWindow
  refine (hfold _).trans ?_
  refine (Equiv.sum_comp (finCongr (show 64 = (⟨3, ![1, 64, 1]⟩ : Shape).numel by decide)) _).symm.trans ?_
  refine Finset.sum_congr rfl fun n _ => ?_
  have hn := n.isLt
  have h0 := hcoord n 0
  have h1 := hcoord n 1
  have h2 := hcoord n 2
  by_cases hi : b.val + n.val < 64
  · rw [dif_pos hi, dif_pos]
    · refine congrArg x (funext fun k => Fin.ext ?_)
      fin_cases k <;> simp_all
    · intro k
      fin_cases k <;> simp_all
  · rw [dif_neg hi, dif_neg]
    intro hall
    have := (hall 1).2
    simp_all
    omega

end Cert.Gate
namespace Cert.Kernel2Ideal.Value
open Cert.Kernel2Ideal Cert.Kernel2Ideal.Gen Cert.Gate

theorem mask_up : ∀ r : Fin 1024, ∀ n ∈ [1, 2, 4, 8, 16, 32], IntOp.cmpi .slt (IntOp.andi (BitVec.ofNat 32 r.val) 63#32) (BitVec.ofNat 32 (64 - n)) = 1 ↔ r.val % 64 + n < 64 := by
  decide +kernel

theorem mask_down : ∀ r : Fin 1024, ∀ n ∈ [1, 2, 4, 8, 16, 32], IntOp.cmpi .sge (IntOp.andi (BitVec.ofNat 32 r.val) 63#32) (BitVec.ofNat 32 n) = 1 ↔ n ≤ r.val % 64 := by
  decide +kernel

/-- Column `j` of a block. -/
def col (v : FVec Ideal S1024x256 .f32) (j : Fin 256) (n : ℕ) : EReal := if h : n < 1024 then v (ix2 ⟨n, h⟩ j) else 0

/-- A step of the sums over the rest of a chunk: the block moved up by some rows, where the chunk has them, is added to it. -/
def up (lim rot : BitVec 32) (v : FVec Ideal S1024x256 .f32) : FVec Ideal S1024x256 .f32 :=
  addf v (select (cmpi .slt k0_pay5 (broadcast S1024x256 lim)) (dynamicRotate 0 rot none v rotates_S1024x256_d0) (broadcast _ (Scalar.ofBits .f32 0x00000000#32)))

/-- A step of the sums over the beginning of a chunk. -/
def down (lim rot : BitVec 32) (v : FVec Ideal S1024x256 .f32) : FVec Ideal S1024x256 .f32 :=
  addf v (select (cmpi .sge k0_pay5 (broadcast S1024x256 lim)) (dynamicRotate 0 rot none v rotates_S1024x256_d0) (broadcast _ (Scalar.ofBits .f32 0x00000000#32)))

theorem up_apply (n : ℕ) (hn : n ∈ [1, 2, 4, 8, 16, 32]) {v : FVec Ideal S1024x256 .f32} {f : ℕ → EReal} {j : Fin 256}
    (hv : ∀ r : Fin 1024, v (ix2 r j) = rest n f r.val) (r : Fin 1024) :
    up (BitVec.ofNat 32 (64 - n)) (BitVec.ofNat 32 (1024 - n)) v (ix2 r j) = rest (n + n) f r.val := by
  have hle : 1 ≤ n ∧ n ≤ 32 := by clear hv; revert n; decide
  unfold up
  have hr : dynamicRotate 0 (BitVec.ofNat 32 (1024 - n)) none v rotates_S1024x256_d0 (ix2 r j) = v (ix2 ⟨(r.val + n) % 1024, Nat.mod_lt _ (by decide)⟩ j) :=
    dynamicRotate_apply 0 _ v _ _ _ fun b => by
      have h2 : (BitVec.ofNat 32 (1024 - n)).toNat % 1024 = 1024 - n := by
        rw [BitVec.toNat_ofNat, Nat.mod_mod_of_dvd _ (by decide), Nat.mod_eq_of_lt (by omega)]
      match b with
      | 0 =>
        show (r.val + n) % 1024 = (r.val + 1024 - (BitVec.ofNat 32 (1024 - n)).toNat % 1024) % 1024
        rw [h2]
        congr 1
        omega
      | 1 => rfl
  have hs := rest_step hv r ⟨(r.val + n) % 1024, Nat.mod_lt _ (by decide)⟩ _ (mask_up r n hn) fun h => by show (r.val + n) % 1024 = _; omega
  refine Eq.trans ?_ hs
  rw [← hr]
  pointwise [k0_pay5]

theorem down_apply (n : ℕ) (hn : n ∈ [1, 2, 4, 8, 16, 32]) {v : FVec Ideal S1024x256 .f32} {f : ℕ → EReal} {j : Fin 256}
    (hv : ∀ r : Fin 1024, v (ix2 r j) = past n f r.val) (r : Fin 1024) :
    down (BitVec.ofNat 32 n) (BitVec.ofNat 32 n) v (ix2 r j) = past (n + n) f r.val := by
  have hle : 1 ≤ n ∧ n ≤ 32 := by clear hv; revert n; decide
  unfold down
  have hr : dynamicRotate 0 (BitVec.ofNat 32 n) none v rotates_S1024x256_d0 (ix2 r j) = v (ix2 ⟨(r.val + 1024 - n) % 1024, Nat.mod_lt _ (by decide)⟩ j) :=
    dynamicRotate_apply 0 _ v _ _ _ fun b => by
      have h2 : (BitVec.ofNat 32 n).toNat % 1024 = n := by
        rw [BitVec.toNat_ofNat, Nat.mod_mod_of_dvd _ (by decide), Nat.mod_eq_of_lt (by omega)]
      match b with
      | 0 =>
        show (r.val + 1024 - n) % 1024 = (r.val + 1024 - (BitVec.ofNat 32 n).toNat % 1024) % 1024
        rw [h2]
      | 1 => rfl
  have hs := past_step hv r ⟨(r.val + 1024 - n) % 1024, Nat.mod_lt _ (by decide)⟩ _ (mask_down r n hn) fun h => by
    show (r.val + 1024 - n) % 1024 = _
    have := Nat.mod_le r.val 64
    omega
  refine Eq.trans ?_ hs
  rw [← hr]
  pointwise [k0_pay5]

theorem up_all (v : FVec Ideal S1024x256 .f32) (r : Fin 1024) (j : Fin 256) :
    up 32#32 992#32 (up 48#32 1008#32 (up 56#32 1016#32 (up 60#32 1020#32 (up 62#32 1022#32 (up 63#32 1023#32 v))))) (ix2 r j)
      = rest 64 (col v j) r.val :=
  up_apply 32 (by decide) (up_apply 16 (by decide) (up_apply 8 (by decide) (up_apply 4 (by decide) (up_apply 2 (by decide)
    (up_apply 1 (by decide) (fun r => by rw [rest_one, col, dif_pos r.isLt])))))) r

theorem down_all (v : FVec Ideal S1024x256 .f32) (r : Fin 1024) (j : Fin 256) :
    down 32#32 32#32 (down 16#32 16#32 (down 8#32 8#32 (down 4#32 4#32 (down 2#32 2#32 (down 1#32 1#32 v))))) (ix2 r j)
      = past 64 (col v j) r.val :=
  down_apply 32 (by decide) (down_apply 16 (by decide) (down_apply 8 (by decide) (down_apply 4 (by decide) (down_apply 2 (by decide)
    (down_apply 1 (by decide) (fun r => by rw [past_one, col, dif_pos r.isLt])))))) r

/-- The sigmoid of `-pre` as the kernel writes it. -/
def sgv (pre : FVec Ideal S1024x256 .f32) : FVec Ideal S1024x256 .f32 :=
  have v53 := subf (broadcast S1024x256 (Scalar.ofBits .f32 0x00000000#32)) pre
  have v57 := exp (subf (broadcast S1024x256 (Scalar.ofBits .f32 0x00000000#32)) (absf v53))
  select (cmpf .oge v53 (broadcast S1024x256 (Scalar.ofBits .f32 0x00000000#32)))
    (divf (broadcast S1024x256 (Scalar.ofBits .f32 0x3F800000#32)) (addf (broadcast S1024x256 (Scalar.ofBits .f32 0x3F800000#32)) v57))
    (divf v57 (addf (broadcast S1024x256 (Scalar.ofBits .f32 0x3F800000#32)) v57))

theorem sgv_apply (pre : FVec Ideal S1024x256 .f32) (i : S1024x256.Idx) : sgv pre i = sg (0 - pre i) := by
  unfold sgv sg
  pointwise []
  rfl

theorem sixteenth : Ideal.ofBits .f32 0x3D800000#32 = ((1 / 16 : ℝ) : EReal) := by
  simp [Ideal.ofBits, Ideal.ieee]
  rw [← EReal.coe_mul]
  norm_num

/-- The derivative with respect to what the sigmoid is taken of, forward direction, at an entry. -/
theorem dpre_f (pre v : FVec Ideal S1024x256 .f32) (r : Fin 1024) (j : Fin 256) :
    k0_pay11 k0_pay5 pre (k0_pay7 v) k0_pay8 (k0_pay9 v) k0_pay10 (ix2 r j)
      = rest 64 (col v j) r.val * ((1 / 16 : ℝ) : EReal) * sg (0 - pre (ix2 r j)) := by
  rw [← up_all, ← sgv_apply, ← sixteenth]
  rfl

/-- The derivative with respect to what the sigmoid is taken of, backward direction, at an entry. -/
theorem dpre_b (pre v : FVec Ideal S1024x256 .f32) (r : Fin 1024) (j : Fin 256) :
    k0_pay20 k0_pay5 pre (k0_pay18 k0_pay5 v) (k0_pay19 k0_pay5 v) (ix2 r j)
      = past 64 (col v j) r.val * ((1 / 16 : ℝ) : EReal) * sg (0 - pre (ix2 r j)) := by
  rw [← down_all, ← sgv_apply, ← sixteenth]
  rfl

end Cert.Kernel2Ideal.Value
end
-- ==== Proof.GateBlocks.lean ====
module
public import proofs.«01_k».proof.Proof.Gen.Kernel2Ideal.Frame
public import proofs.«01_k».proof.Proof.Gen.Reference2Ideal.Read
public import proofs.«01_k».proof.Proof.GateScan
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.KernelVsHost
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Cert.Gate
variable (m : (ℓ : Loc nD τ sig) → Buf (Elt Ideal) ℓ)

theorem idx : ∀ t : Fin cfg0.N, win0_0.index t = ![t.val, 8] ∧ win0_1.index t = ![0, 0] ∧ win0_2.index t = ![0, 0] ∧ win0_3.index t = ![0, 0] ∧ win0_4.index t = ![0, 0]
  ∧ win0_5.index t = ![t.val, 0] ∧ win0_6.index t = ![t.val, 0] ∧ win0_7.index t = ![t.val, 0] ∧ win0_8.index t = ![t.val, 0] ∧ win0_9.index t = ![t.val, 0]
  ∧ win0_10.index t = ![0, 0] ∧ win0_11.index t = ![0, 0] ∧ win0_12.index t = ![0, 0] ∧ win0_13.index t = ![0, 0] :=
  (by decide +kernel : ∀ t : Fin grid0.N, _)

theorem lt_point (t : Fin cfg0.N) : t.val < 8 := lt_of_lt_of_eq t.isLt N_0

/-- The row of the arrays that row `r` of the blocks at point `t` is. -/
abbrev row (t : Fin cfg0.N) (r : Fin 1024) : Fin 8192 := ⟨1024 * t.val + r.val, by have := lt_point t; omega⟩

/-- The host operations before the region. -/
abbrev ops : List (HloOp τ sig (Elt Ideal)) := [hostOps0, hostOps0_1, hostOps0_2, hostOps0_3, hostOps0_4].flatten

theorem cat4 {a a' : S8192x1024.Idx → EReal} {b b' d d' : S8192x16.Idx → EReal} {e e' : S8192x96.Idx → EReal} (ha : a = a') (hb : b = b') (hd : d = d') (he : e = e') :
    concatenate S8192x1152 1 [⟨S8192x1024, a⟩, ⟨S8192x16, b⟩, ⟨S8192x16, d⟩, ⟨S8192x96, e⟩] concatenates_S8192x1024_S8192x16_S8192x16_S8192x96_S8192x1152_d1
      = concatenate S8192x1152 1 [⟨S8192x1024, a'⟩, ⟨S8192x16, b'⟩, ⟨S8192x16, d'⟩, ⟨S8192x96, e'⟩] concatenates_S8192x1024_S8192x16_S8192x16_S8192x96_S8192x1152_d1 := by
  subst ha hb hd he
  rfl

theorem V_z (c : Dev nD) : V m c main_v2 = concatenate S8192x1152 1 [⟨S8192x1024, fun _ => (0 : EReal)⟩,
    ⟨S8192x16, m ((c : Thread nD τ).loc main_arg0)⟩, ⟨S8192x16, m ((c : Thread nD τ).loc main_arg1)⟩, ⟨S8192x96, fun _ => (0 : EReal)⟩]
    concatenates_S8192x1024_S8192x16_S8192x16_S8192x96_S8192x1152_d1 := by
  refine (StableHlo.after_last_write (i := 4) [main_c, main_call0_v0, main_v3, main_v4, main_c_1, main_call1_v0, main_v5, main_v6] rfl rfl (by decide) _).trans ?_
  rw [StableHlo.nary_result']
  have h0 : StableHlo.upto ops (fun b => m (c, b)) 4 (Proc.devRef .tc main_v0) = fun _ => (0 : EReal) := by
    refine (StableHlo.upto_last_write (i := 1) [main_cst_0, main_v1] rfl rfl (by decide) _).trans ?_
    rw [StableHlo.unary_result', show StableHlo.upto ops (fun b => m (c, b)) 1 (Proc.devRef .tc main_cst) = _ from
      (StableHlo.upto_last_write (i := 0) [] rfl rfl (by decide) _).trans (StableHlo.nullary_result' _ _ _)]
    funext i
    pointwise []
  have h3 : StableHlo.upto ops (fun b => m (c, b)) 4 (Proc.devRef .tc main_v1) = fun _ => (0 : EReal) := by
    refine (StableHlo.upto_last_write (i := 3) [] rfl rfl (by decide) _).trans ?_
    rw [StableHlo.unary_result', show StableHlo.upto ops (fun b => m (c, b)) 3 (Proc.devRef .tc main_cst_0) = _ from
      (StableHlo.upto_last_write (i := 2) [] rfl rfl (by decide) _).trans (StableHlo.nullary_result' _ _ _)]
    funext i
    pointwise []
  exact cat4 h0 (StableHlo.upto_unwritten [main_cst, main_v0, main_cst_0, main_v1] rfl (by decide) _) (StableHlo.upto_unwritten [main_cst, main_v0, main_cst_0, main_v1] rfl (by decide) _) h3

theorem V_wf (c : Dev nD) : V m c main_v4 = truncf .bf16 (pad S128x256 ![0, 0] ![112, 0] ![0, 0] (m ((c : Thread nD τ).loc main_arg2))
    (sitofp .f32 (constantI S_ 32 0#32) : FVec Ideal S_ .f32) pads_S16x256_S128x256_01120_000 h_S_) bitsLt_bf16_f32 := by
  simp only [V, V0, List.flatten_cons, List.flatten_nil, List.cons_append, List.nil_append]
  entry_read
  rfl

theorem V_wb (c : Dev nD) : V m c main_v6 = truncf .bf16 (pad S128x256 ![16, 0] ![96, 0] ![0, 0] (m ((c : Thread nD τ).loc main_arg4))
    (sitofp .f32 (constantI S_ 32 0#32) : FVec Ideal S_ .f32) pads_S16x256_S128x256_16960_000 h_S_) bitsLt_bf16_f32 := by
  simp only [V, V0, List.flatten_cons, List.flatten_nil, List.cons_append, List.nil_append]
  entry_read
  rfl

/-- The low-rank columns of both directions side by side, and nothing beyond them. -/
def lr (x0 x1 : S8192x16.Idx → EReal) (R : Fin 8192) (l : Fin 128) : EReal :=
  if h : l.val < 16 then x0 (ix2 R ⟨l.val, h⟩) else if h : l.val - 16 < 16 then x1 (ix2 R ⟨l.val - 16, h⟩) else 0

theorem iblk0 (c : Dev nD) (t : Fin cfg0.N) (r : Fin 1024) (l : Fin 128) :
    iblk m c 0 t (ix2 r l) = lr (m ((c : Thread nD τ).loc main_arg0)) (m ((c : Thread nD τ).loc main_arg1)) (row t r) l := by
  unfold iblk
  rw [show V m c (Pipeline.arrRef spec0 0) = _ from V_z m c, View.read_apply]
  rw [show ((cfg0.win 0).blk t).view.emb (ix2 r l) = ix2 (row t r) (⟨1024 + l.val, by omega⟩ : Fin 1152) by blk_ext [idx t]]
  pointwise []
  rfl

/-- The forward direction's weights, with rows of zeros after them. -/
def wf (w : S16x256.Idx → EReal) (k : Fin 128) (j : Fin 256) : EReal := if h : k.val < 16 then w (ix2 ⟨k.val, h⟩ j) else 0

/-- The backward direction's weights, with rows of zeros before and after them. -/
def wb (w : S16x256.Idx → EReal) (k : Fin 128) (j : Fin 256) : EReal :=
  if h : 16 ≤ k.val ∧ k.val - 16 < 16 then w (ix2 ⟨k.val - 16, h.2⟩ j) else 0

theorem pad_wf (w : FVec Ideal S16x256 .f32) (k : Fin 128) (j : Fin 256) :
    (truncf .bf16 (pad S128x256 ![0, 0] ![112, 0] ![0, 0] w (sitofp .f32 (constantI S_ 32 0#32) : FVec Ideal S_ .f32)
      pads_S16x256_S128x256_01120_000 h_S_) bitsLt_bf16_f32 : FVec Ideal S128x256 .bf16) (ix2 k j) = wf w k j := by
  unfold wf
  pointwise []
  exact dite_congr rfl (fun _ => rfl) (fun _ => (sitofp_zero : (Scalar.sitofp FTy.f32 0#32 : Ideal .f32) = 0))

theorem pad_wb (w : FVec Ideal S16x256 .f32) (k : Fin 128) (j : Fin 256) :
    (truncf .bf16 (pad S128x256 ![16, 0] ![96, 0] ![0, 0] w (sitofp .f32 (constantI S_ 32 0#32) : FVec Ideal S_ .f32)
      pads_S16x256_S128x256_16960_000 h_S_) bitsLt_bf16_f32 : FVec Ideal S128x256 .bf16) (ix2 k j) = wb w k j := by
  unfold wb
  pointwise []
  exact dite_congr rfl (fun _ => rfl) (fun _ => (sitofp_zero : (Scalar.sitofp FTy.f32 0#32 : Ideal .f32) = 0))

theorem iblk1 (c : Dev nD) (t : Fin cfg0.N) (k : Fin 128) (j : Fin 256) : iblk m c 1 t (ix2 k j) = wf (m ((c : Thread nD τ).loc main_arg2)) k j := by
  unfold iblk
  rw [show V m c (Pipeline.arrRef spec0 1) = _ from V_wf m c, View.read_apply]
  rw [show ((cfg0.win 1).blk t).view.emb (ix2 k j) = (ix2 k j : S128x256.Idx) by blk_ext [idx t]]
  exact pad_wf _ k j

theorem iblk2 (c : Dev nD) (t : Fin cfg0.N) (k : Fin 128) (j : Fin 256) : iblk m c 2 t (ix2 k j) = wb (m ((c : Thread nD τ).loc main_arg4)) k j := by
  unfold iblk
  rw [show V m c (Pipeline.arrRef spec0 2) = _ from V_wb m c, View.read_apply]
  rw [show ((cfg0.win 2).blk t).view.emb (ix2 k j) = (ix2 k j : S128x256.Idx) by blk_ext [idx t]]
  exact pad_wb _ k j

theorem iblk3 (c : Dev nD) (t : Fin cfg0.N) (j : Fin 256) : iblk m c 3 t (ix2 0 j) = m ((c : Thread nD τ).loc main_arg3) (ix2 0 j) := by
  unfold iblk
  rw [show V m c (Pipeline.arrRef spec0 3) = _ from V_main_arg3 m c]
  blk_ext [idx t]

theorem iblk4 (c : Dev nD) (t : Fin cfg0.N) (j : Fin 256) : iblk m c 4 t (ix2 0 j) = m ((c : Thread nD τ).loc main_arg5) (ix2 0 j) := by
  unfold iblk
  rw [show V m c (Pipeline.arrRef spec0 4) = _ from V_main_arg5 m c]
  blk_ext [idx t]

theorem iblk5 (c : Dev nD) (t : Fin cfg0.N) (r : Fin 1024) (j : Fin 256) : iblk m c 5 t (ix2 r j) = m ((c : Thread nD τ).loc main_arg6) (ix2 (row t r) j) := by
  unfold iblk
  rw [show V m c (Pipeline.arrRef spec0 5) = _ from V_main_arg6 m c]
  blk_ext [idx t]

theorem iblk6 (c : Dev nD) (t : Fin cfg0.N) (r : Fin 1024) (j : Fin 256) : iblk m c 6 t (ix2 r j) = m ((c : Thread nD τ).loc main_arg7) (ix2 (row t r) j) := by
  unfold iblk
  rw [show V m c (Pipeline.arrRef spec0 6) = _ from V_main_arg7 m c]
  blk_ext [idx t]

theorem iblk7 (c : Dev nD) (t : Fin cfg0.N) (r j : Fin 1024) : iblk m c 7 t (ix2 r j) = m ((c : Thread nD τ).loc main_arg8) (ix2 (row t r) j) := by
  unfold iblk
  rw [show V m c (Pipeline.arrRef spec0 7) = _ from V_main_arg8 m c]
  blk_ext [idx t]

theorem iblk8 (c : Dev nD) (t : Fin cfg0.N) (r j : Fin 1024) : iblk m c 8 t (ix2 r j) = m ((c : Thread nD τ).loc main_arg9) (ix2 (row t r) j) := by
  unfold iblk
  rw [show V m c (Pipeline.arrRef spec0 8) = _ from V_main_arg9 m c]
  blk_ext [idx t]

end Cert.Kernel2Ideal.Value
end
-- ==== Proof.GateRef.lean ====
module

public import proofs.«01_k».proof.Proof.Gen.Reference2Ideal.Run
public import proofs.«01_k».proof.Proof.Gen.Reference2Ideal.Read
public import proofs.«01_k».proof.Proof.GateScan
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Gate
open Finset

/-- The arrays' shapes. -/
abbrev SL : Shape := ⟨2, ![8192, 16]⟩
abbrev SW : Shape := ⟨2, ![16, 256]⟩
abbrev SB : Shape := ⟨2, ![1, 256]⟩
abbrev SG : Shape := ⟨2, ![8192, 256]⟩

/-- Column `j` of an array of all rows. -/
def colR (v : FVec Ideal SG .f32) (j : Fin 256) (n : ℕ) : EReal := if h : n < 8192 then v (ix2 ⟨n, h⟩ j) else 0

/-- What the gate takes the sigmoid of: the low-rank columns times the weights, plus the bias. -/
def spre (x : FVec Ideal SL .f32) (w : FVec Ideal SW .f32) (b : FVec Ideal SB .f32) (R : Fin 8192) (j : Fin 256) : EReal :=
  (∑ k : Fin 16, x (ix2 R k) * w (ix2 k j)) + b (ix2 0 j)

/-- The derivative with respect to it, forward direction. -/
def dpF (x : FVec Ideal SL .f32) (w : FVec Ideal SW .f32) (b : FVec Ideal SB .f32) (v : FVec Ideal SG .f32) (R : Fin 8192) (j : Fin 256) : EReal :=
  rest 64 (colR v j) R.val * ((1 / 16 : ℝ) : EReal) * sg (0 - spre x w b R j)

/-- The derivative with respect to it, backward direction. -/
def dpB (x : FVec Ideal SL .f32) (w : FVec Ideal SW .f32) (b : FVec Ideal SB .f32) (v : FVec Ideal SG .f32) (R : Fin 8192) (j : Fin 256) : EReal :=
  past 64 (colR v j) R.val * ((1 / 16 : ℝ) : EReal) * sg (0 - spre x w b R j)

end Cert.Gate

namespace Cert.Reference2Ideal.Read
open Cert.Reference2Ideal Cert.Reference2Ideal.Gen Cert.Gate Cert.Num Finset

theorem z7 : (val_main_call7_call0_v0 (F := Ideal)) (Shape.Idx.first h_S_) = 0 := by
  rw [val_main_call7_call0_v0_apply, val_main_call7_call0_cst_apply]; pointwise []
theorem z9 : (val_main_call9_call0_v0 (F := Ideal)) (Shape.Idx.first h_S_) = 0 := by
  rw [val_main_call9_call0_v0_apply, val_main_call9_call0_cst_apply]; pointwise []

theorem v27_at (x6 : FVec Ideal SG .f32) (R : Fin 8192) (j : Fin 256) : val_main_v27 (F := Ideal) x6 (ix2 R j) = rest 64 (colR x6 j) R.val := by
  rw [val_main_v27_apply, show idx_main_v27 (ix2 R j) = ix3 (⟨R.val / 64, by omega⟩ : Fin 128) (⟨R.val % 64, by omega⟩ : Fin 64) j by
    blk_ext []]
  unfold val_main_v26 Host.reduceWindowAdd
  refine (window_apply (val_main_v21 (F := Ideal) x6) _ z9 _ _ _ _).trans ?_
  unfold rest
  refine sum_congr rfl fun i _ => ?_
  by_cases h : R.val % 64 + i < 64
  · rw [dif_pos h, if_pos h, val_main_v21_apply, colR, dif_pos (by omega)]
    refine congrArg x6 ?_
    blk_ext []
  · rw [dif_neg h, if_neg h]

theorem v25_at (x7 : FVec Ideal SG .f32) (R : Fin 8192) (j : Fin 256) : val_main_v25 (F := Ideal) x7 (ix2 R j) = past 64 (colR x7 j) R.val := by
  rw [val_main_v25_apply, show idx_main_v25 (ix2 R j) = ix3 (⟨R.val / 64, by omega⟩ : Fin 128) (⟨R.val % 64, by omega⟩ : Fin 64) j by
    blk_ext []]
  unfold val_main_v24
  have hr : ∀ (y : FVec Ideal S128x64x256 .f32) (a : Fin 128) (b : Fin 64), Host.reverse [1] y (ix3 a b j) = y (ix3 a b.rev j) := by
    intro y a b
    pointwise []
    refine congrArg y ?_
    blk_ext []
    all_goals simp
  rw [hr]
  unfold val_main_v23 Host.reduceWindowAdd
  refine (window_apply (val_main_v22 (F := Ideal) x7) _ z7 _ _ _ _).trans ?_
  unfold past
  refine sum_congr rfl fun i _ => ?_
  have hrev : (Fin.rev (⟨R.val % 64, by omega⟩ : Fin 64)).val = 63 - R.val % 64 := by simp [Fin.rev]
  by_cases h : i ≤ R.val % 64
  · rw [dif_pos (by rw [hrev]; omega), if_pos h, colR, dif_pos (by omega)]
    unfold val_main_v22
    rw [hr, val_main_v20_apply]
    refine congrArg x7 ?_
    blk_ext []
    simp only [Fin.val_rev]
    omega
  · rw [dif_neg (by rw [hrev]; omega), if_neg h]

theorem v2_at (x0 : FVec Ideal SL .f32) (x2 : FVec Ideal SW .f32) (x3 : FVec Ideal SB .f32) (R : Fin 8192) (j : Fin 256) :
    val_main_v2 (F := Ideal) x0 x2 x3 (ix2 R j) = spre x0 x2 x3 R j := by
  unfold spre val_main_v2 val_main_v1 val_main_v0
  pointwise []

theorem v8_at (x0 : FVec Ideal SL .f32) (x2 : FVec Ideal SW .f32) (x3 : FVec Ideal SB .f32) (R : Fin 8192) (j : Fin 256) :
    val_main_v8 (F := Ideal) x0 x2 x3 (ix2 R j) = spre x0 x2 x3 R j := by
  unfold spre val_main_v8 val_main_v7 val_main_v6
  pointwise []

theorem g_f_sp (x0 x2 x3 : FVec Ideal _ .f32) (i : SG.Idx) :
    val_main_call0_v1_0 (F := Ideal) x0 x2 x3 i = sp (val_main_call0_v0 (F := Ideal) x0 x2 x3 i) := by
  rw [val_main_call0_v1_0_apply, val_main_call0_call0_v4_apply, val_main_call0_call0_v11_apply, val_main_call0_call0_v10_apply, val_main_call0_call0_v9_apply,
    val_main_call0_call0_v8_apply, val_main_call0_call0_v7_apply, val_main_call0_call0_v3_apply, val_main_call0_call0_v2_apply, val_main_call0_call0_v1_apply,
    val_main_call0_call0_v0_apply, val_main_call0_call0_cst_apply]
  generalize val_main_call0_v0 (F := Ideal) x0 x2 x3 i = y
  unfold sp
  pointwise []
  rw [if_neg (by simp)]
  rfl

theorem g_f_at (x0 x2 x3 : FVec Ideal _ .f32) (R : Fin 8192) (j : Fin 256) :
    val_main_v3_1 (F := Ideal) x0 x2 x3 (ix2 R j) = sg (0 - spre x0 x2 x3 R j) := by
  have e : 0 - val_main_v2 (F := Ideal) x0 x2 x3 (ix2 R j) = val_main_call0_v0 (F := Ideal) x0 x2 x3 (ix2 R j) := by
    rw [val_main_call0_v0_apply, zero_sub]; rfl
  rw [← v2_at, ← sg_eq, e]
  rw [val_main_v3_1_apply, val_main_call0_call0_v21_apply, val_main_call0_call0_v20_apply, val_main_call0_call0_v19_apply, val_main_call0_call0_v18_apply,
    val_main_call0_call0_v17_apply, val_main_call0_call0_v16_apply, val_main_call0_call0_v15_apply, val_main_call0_call0_v14_apply, val_main_call0_call0_v13_apply,
    g_f_sp, val_main_call0_call0_cst_0_apply, val_main_call0_call0_cst_1_apply, val_main_call0_call0_cst_2_apply, val_main_call0_call0_cst_3_apply]
  generalize val_main_call0_v0 (F := Ideal) x0 x2 x3 (ix2 R j) = y
  generalize sp y = s
  pointwise []
  rw [infinity]

theorem g_b_sp (x1 x4 x5 : FVec Ideal _ .f32) (i : SG.Idx) :
    val_main_call1_v1_0 (F := Ideal) x1 x4 x5 i = sp (val_main_call1_v0 (F := Ideal) x1 x4 x5 i) := by
  rw [val_main_call1_v1_0_apply, val_main_call1_call0_v4_apply, val_main_call1_call0_v11_apply, val_main_call1_call0_v10_apply, val_main_call1_call0_v9_apply,
    val_main_call1_call0_v8_apply, val_main_call1_call0_v7_apply, val_main_call1_call0_v3_apply, val_main_call1_call0_v2_apply, val_main_call1_call0_v1_apply,
    val_main_call1_call0_v0_apply, val_main_call1_call0_cst_apply]
  generalize val_main_call1_v0 (F := Ideal) x1 x4 x5 i = y
  unfold sp
  pointwise []
  rw [if_neg (by simp)]
  rfl

theorem g_b_at (x1 x4 x5 : FVec Ideal _ .f32) (R : Fin 8192) (j : Fin 256) :
    val_main_v9_1 (F := Ideal) x1 x4 x5 (ix2 R j) = sg (0 - spre x1 x4 x5 R j) := by
  have e : 0 - val_main_v8 (F := Ideal) x1 x4 x5 (ix2 R j) = val_main_call1_v0 (F := Ideal) x1 x4 x5 (ix2 R j) := by
    rw [val_main_call1_v0_apply, zero_sub]; rfl
  rw [← v8_at, ← sg_eq, e]
  rw [val_main_v9_1_apply, val_main_call1_call0_v21_apply, val_main_call1_call0_v20_apply, val_main_call1_call0_v19_apply, val_main_call1_call0_v18_apply,
    val_main_call1_call0_v17_apply, val_main_call1_call0_v16_apply, val_main_call1_call0_v15_apply, val_main_call1_call0_v14_apply, val_main_call1_call0_v13_apply,
    g_b_sp, val_main_call1_call0_cst_0_apply, val_main_call1_call0_cst_1_apply, val_main_call1_call0_cst_2_apply, val_main_call1_call0_cst_3_apply]
  generalize val_main_call1_v0 (F := Ideal) x1 x4 x5 (ix2 R j) = y
  generalize sp y = s
  pointwise []
  rw [infinity]

theorem scaled (p g : EReal) : -(-(Ideal.div p ((16 : ℝ) : EReal)) * g) = p * ((1 / 16 : ℝ) : EReal) * g := by
  rw [neg_neg_mul, Ideal.div_coe (by norm_num)]

theorem v38_at (x0 : FVec Ideal SL .f32) (x2 : FVec Ideal SW .f32) (x3 : FVec Ideal SB .f32) (x6 : FVec Ideal SG .f32) (R : Fin 8192) (j : Fin 256) :
    val_main_v38 (F := Ideal) x0 x2 x3 x6 (ix2 R j) = dpF x0 x2 x3 x6 R j := by
  rw [val_main_v38_apply, val_main_call11_v1_apply, val_main_call11_v0_apply, val_main_v37_apply, val_main_v36_apply, val_main_cst_3_apply, g_f_at, v27_at]
  refine Eq.trans ?_ (scaled _ _)
  rw [← sixteen]
  rfl

theorem v30_at (x1 : FVec Ideal SL .f32) (x4 : FVec Ideal SW .f32) (x5 : FVec Ideal SB .f32) (x7 : FVec Ideal SG .f32) (R : Fin 8192) (j : Fin 256) :
    val_main_v30 (F := Ideal) x1 x4 x5 x7 (ix2 R j) = dpB x1 x4 x5 x7 R j := by
  rw [val_main_v30_apply, val_main_call10_v1_apply, val_main_call10_v0_apply, val_main_v29_apply, val_main_v28_apply, val_main_cst_1_apply, g_b_at, v25_at]
  refine Eq.trans ?_ (scaled _ _)
  rw [← sixteen]
  rfl

theorem v40_at (x0 : FVec Ideal SL .f32) (x2 : FVec Ideal SW .f32) (x3 : FVec Ideal SB .f32) (x6 : FVec Ideal SG .f32) (j : Fin 256) :
    val_main_v40 (F := Ideal) x0 x2 x3 x6 (ix2 0 j) = ∑ R : Fin 8192, dpF x0 x2 x3 x6 R j := by
  simp only [← v38_at]
  rw [val_main_v40_apply, val_main_v39_apply, val_main_cst_4_apply]
  generalize val_main_v38 (F := Ideal) x0 x2 x3 x6 = y
  pointwise []
  blk_point []

theorem v32_at (x1 : FVec Ideal SL .f32) (x4 : FVec Ideal SW .f32) (x5 : FVec Ideal SB .f32) (x7 : FVec Ideal SG .f32) (j : Fin 256) :
    val_main_v32 (F := Ideal) x1 x4 x5 x7 (ix2 0 j) = ∑ R : Fin 8192, dpB x1 x4 x5 x7 R j := by
  simp only [← v30_at]
  rw [val_main_v32_apply, val_main_v31_apply, val_main_cst_2_apply]
  generalize val_main_v30 (F := Ideal) x1 x4 x5 x7 = y
  pointwise []
  blk_point []

theorem v42_at (x0 : FVec Ideal SL .f32) (x2 : FVec Ideal SW .f32) (x3 : FVec Ideal SB .f32) (x6 : FVec Ideal SG .f32) (k : Fin 16) (j : Fin 256) :
    val_main_v42 (F := Ideal) x0 x2 x3 x6 (ix2 k j) = ∑ R : Fin 8192, dpF x0 x2 x3 x6 R j * x0 (ix2 R k) := by
  simp only [← v38_at]
  rw [val_main_v42_apply, val_main_v41_apply]
  generalize val_main_v38 (F := Ideal) x0 x2 x3 x6 = y
  blk_point []

theorem v34_at (x1 : FVec Ideal SL .f32) (x4 : FVec Ideal SW .f32) (x5 : FVec Ideal SB .f32) (x7 : FVec Ideal SG .f32) (k : Fin 16) (j : Fin 256) :
    val_main_v34 (F := Ideal) x1 x4 x5 x7 (ix2 k j) = ∑ R : Fin 8192, dpB x1 x4 x5 x7 R j * x1 (ix2 R k) := by
  simp only [← v30_at]
  rw [val_main_v34_apply, val_main_v33_apply]
  generalize val_main_v30 (F := Ideal) x1 x4 x5 x7 = y
  blk_point []

/-- The first result: the two halves' sum, then each direction's gradient of the low-rank columns, then nothing. -/
theorem v49_at (x0 x1 : FVec Ideal SL .f32) (x2 : FVec Ideal SW .f32) (x3 : FVec Ideal SB .f32) (x4 : FVec Ideal SW .f32) (x5 : FVec Ideal SB .f32) (x6 x7 : FVec Ideal SG .f32)
    (x8 x9 : FVec Ideal S8192x1024 .bf16) (R : Fin 8192) (l : Fin 1152) :
    val_main_v49 (F := Ideal) x0 x1 x2 x3 x4 x5 x6 x7 x8 x9 (ix2 R l)
      = if h : l.val < 1024 then (x8 (ix2 R ⟨l.val, h⟩) : EReal) + x9 (ix2 R ⟨l.val, h⟩)
        else if h : l.val - 1024 < 16 then ∑ j : Fin 256, dpF x0 x2 x3 x6 R j * x2 (ix2 ⟨l.val - 1024, h⟩ j)
        else if h : l.val - 1024 - 16 < 16 then ∑ j : Fin 256, dpB x1 x4 x5 x7 R j * x4 (ix2 ⟨l.val - 1024 - 16, h⟩ j) else 0 := by
  simp only [← v38_at, ← v30_at]
  unfold val_main_v49 val_main_v48 val_main_v47 val_main_v46 val_main_v45 val_main_v44 val_main_v43 val_main_v35 val_main_cst_5
  generalize val_main_v38 (F := Ideal) x0 x2 x3 x6 = y
  generalize val_main_v30 (F := Ideal) x1 x4 x5 x7 = y'
  pointwise []

end Cert.Reference2Ideal.Read
end
-- ==== Proof.GateValue.lean ====
module

public import proofs.«01_k».proof.Proof.GateBlocks
public import proofs.«01_k».proof.Proof.GateRef

@[expose] public section

set_option maxRecDepth 16384

noncomputable section

open Idealize.ShloMosaic Idealize.ShloMosaic.TcCoe Idealize.SL.Sem
open Idealize.ShloMosaic.Pipeline (Dat)

namespace Cert.Gate
open Finset

/-- A sum over 128 lanes that are nothing outside sixteen of them. -/
theorem sum_lanes (a : ℕ) (ha : a + 16 ≤ 128) (g : Fin 128 → EReal) (h0 : ∀ l, ¬(a ≤ l.val ∧ l.val - a < 16) → g l = 0) :
    ∑ l, g l = ∑ k : Fin 16, g ⟨a + k.val, by omega⟩ := by
  refine (Finset.sum_of_injOn (fun k : Fin 16 => (⟨a + k.val, by omega⟩ : Fin 128)) ?_ (fun _ _ => Finset.mem_univ _) ?_ (fun _ _ => rfl)).symm
  · intro x _ y _ h
    have := congrArg Fin.val h
    exact Fin.ext (by simpa using this)
  · intro l _ hl
    refine h0 l fun h => hl ⟨⟨l.val - a, h.2⟩, by simp, Fin.ext ?_⟩
    show a + (l.val - a) = l.val
    omega

end Cert.Gate

namespace Cert.Kernel2Ideal.Value
open Cert.Kernel2Ideal Cert.Kernel2Ideal.Gen Cert.Gate Finset

variable (m : (ℓ : Loc nD τ sig) → Buf (Elt Ideal) ℓ)

/-- The argument arrays. -/
abbrev X0 (c : Dev nD) : FVec Ideal SL .f32 := m ((c : Thread nD τ).loc main_arg0)
abbrev X1 (c : Dev nD) : FVec Ideal SL .f32 := m ((c : Thread nD τ).loc main_arg1)
abbrev X2 (c : Dev nD) : FVec Ideal SW .f32 := m ((c : Thread nD τ).loc main_arg2)
abbrev X3 (c : Dev nD) : FVec Ideal SB .f32 := m ((c : Thread nD τ).loc main_arg3)
abbrev X4 (c : Dev nD) : FVec Ideal SW .f32 := m ((c : Thread nD τ).loc main_arg4)
abbrev X5 (c : Dev nD) : FVec Ideal SB .f32 := m ((c : Thread nD τ).loc main_arg5)
abbrev X6 (c : Dev nD) : FVec Ideal SG .f32 := m ((c : Thread nD τ).loc main_arg6)
abbrev X7 (c : Dev nD) : FVec Ideal SG .f32 := m ((c : Thread nD τ).loc main_arg7)
abbrev X8 (c : Dev nD) : FVec Ideal S8192x1024 .bf16 := m ((c : Thread nD τ).loc main_arg8)
abbrev X9 (c : Dev nD) : FVec Ideal S8192x1024 .bf16 := m ((c : Thread nD τ).loc main_arg9)

theorem lr_wf (x0 x1 : FVec Ideal SL .f32) (w : FVec Ideal SW .f32) (R : Fin 8192) (j : Fin 256) :
    (∑ l : Fin 128, lr x0 x1 R l * wf w l j) = ∑ k : Fin 16, x0 (ix2 R k) * w (ix2 k j) := by
  rw [sum_lanes 0 (by decide) _ fun l hl => by rw [wf, dif_neg (by omega), mul_zero]]
  refine sum_congr rfl fun k _ => ?_
  simp [lr, wf]

theorem lr_wb (x0 x1 : FVec Ideal SL .f32) (w : FVec Ideal SW .f32) (R : Fin 8192) (j : Fin 256) :
    (∑ l : Fin 128, lr x0 x1 R l * wb w l j) = ∑ k : Fin 16, x1 (ix2 R k) * w (ix2 k j) := by
  rw [sum_lanes 16 (by decide) _ fun l hl => by rw [wb, dif_neg (by omega), mul_zero]]
  refine sum_congr rfl fun k _ => ?_
  simp [lr, wb]

/-- The derivative in front of the sigmoid at a point, forward direction. -/
def DF (c : Dev nD) (t : Fin cfg0.N) : FVec Ideal S1024x256 .f32 :=
  k0_pay11 k0_pay5 (k0_pay6 (iblk m c 0 t) (iblk m c 1 t) (iblk m c 3 t)) (k0_pay7 (iblk m c 5 t)) k0_pay8 (k0_pay9 (iblk m c 5 t)) k0_pay10

/-- The derivative in front of the sigmoid at a point, backward direction. -/
def DB (c : Dev nD) (t : Fin cfg0.N) : FVec Ideal S1024x256 .f32 :=
  k0_pay20 k0_pay5 (k0_pay17 (k0_pay4 (iblk m c 0 t)) (iblk m c 2 t) (iblk m c 4 t)) (k0_pay18 k0_pay5 (iblk m c 6 t)) (k0_pay19 k0_pay5 (iblk m c 6 t))

theorem DF_at (c : Dev nD) (t : Fin cfg0.N) (r : Fin 1024) (j : Fin 256) : DF m c t (ix2 r j) = dpF (X0 m c) (X2 m c) (X3 m c) (X6 m c) (row t r) j := by
  have ht := lt_point t
  have hp : k0_pay6 (iblk m c 0 t) (iblk m c 1 t) (iblk m c 3 t) (ix2 r j) = spre (X0 m c) (X2 m c) (X3 m c) (row t r) j := by
    refine Eq.trans ?_ (congrArg₂ (· + ·) (lr_wf (X0 m c) (X1 m c) (X2 m c) (row t r) j) (iblk3 m c t j))
    simp only [← iblk0, ← iblk1 m c t]
    pointwise [k0_pay6, k0_pay4]
  unfold DF dpF
  rw [dpre_f, hp, show (row t r).val = 1024 * t.val + r.val from rfl, rest_shift 64 _ (1024 * t.val) r.val (by omega)]
  rw [rest_congr 64 _ (fun i => colR (X6 m c) j (1024 * t.val + i)) _ fun i hi => ?_]
  rw [col, dif_pos (by omega : i < 1024), colR, dif_pos (by omega)]
  exact iblk5 m c t ⟨i, by omega⟩ j

theorem DB_at (c : Dev nD) (t : Fin cfg0.N) (r : Fin 1024) (j : Fin 256) : DB m c t (ix2 r j) = dpB (X1 m c) (X4 m c) (X5 m c) (X7 m c) (row t r) j := by
  have ht := lt_point t
  have hp : k0_pay17 (k0_pay4 (iblk m c 0 t)) (iblk m c 2 t) (iblk m c 4 t) (ix2 r j) = spre (X1 m c) (X4 m c) (X5 m c) (row t r) j := by
    refine Eq.trans ?_ (congrArg₂ (· + ·) (lr_wb (X0 m c) (X1 m c) (X4 m c) (row t r) j) (iblk4 m c t j))
    simp only [← iblk0, ← iblk2 m c t]
    pointwise [k0_pay17, k0_pay4]
  unfold DB dpB
  rw [dpre_b, hp, show (row t r).val = 1024 * t.val + r.val from rfl, past_shift 64 _ (1024 * t.val) r.val (by omega)]
  rw [past_congr 64 _ (fun i => colR (X7 m c) j (1024 * t.val + i)) _ fun i hi => ?_]
  rw [col, dif_pos (by omega : i < 1024), colR, dif_pos (by omega)]
  exact iblk6 m c t ⟨i, by omega⟩ j

/-- What a point stores of the first result, over the derivatives. -/
theorem dz_core (d d' : FVec Ideal S1024x256 .f32) (w w' : FVec Ideal S128x256 .bf16) (v8 v9 : FVec Ideal S1024x1024 .bf16) (r : Fin 1024) (l : Fin 1152) :
    k0_pay3 (F := Ideal) (addf (matmul dot_S1024x256_S128x256_S1024x128_1_1_0_0_n_n none (truncf .bf16 d bitsLt_bf16_f32) (shapeCast S128x256 w shapeCasts_S128x256_S128x256) (constant S1024x128 .f32 0x00000000#32))
        (matmul dot_S1024x256_S128x256_S1024x128_1_1_0_0_n_n none (truncf .bf16 d' bitsLt_bf16_f32) (shapeCast S128x256 w' shapeCasts_S128x256_S128x256) (constant S1024x128 .f32 0x00000000#32))) v8 v9 (ix2 r l)
      = if h : l.val < 1024 then (v8 (ix2 r ⟨l.val, h⟩) : EReal) + v9 (ix2 r ⟨l.val, h⟩)
        else (∑ j : Fin 256, d (ix2 r j) * w (ix2 ⟨l.val - 1024, by omega⟩ j)) + ∑ j : Fin 256, d' (ix2 r j) * w' (ix2 ⟨l.val - 1024, by omega⟩ j) := by
  pointwise [k0_pay3]

theorem final9 (c : Dev nD) : (dats m 0 c).arrAt 9 (cfgs 0).N
    = Cert.Reference2Ideal.Read.val_main_v49 (F := Ideal) (X0 m c) (X1 m c) (X2 m c) (X3 m c) (X4 m c) (X5 m c) (X6 m c) (X7 m c) (X8 m c) (X9 m c) := by
  refine (dats m 0 c).arrAt_eq_of_covers 9 _ (by decide +kernel) fun t _ y => ?_
  have ht := lt_point t
  blk_simp
  obtain ⟨r, l, rfl⟩ : ∃ (r : Fin 1024) (l : Fin 1152), y = ix2 r l := ⟨y 0, y 1, by blk_ext []⟩
  rw [show ((cfg0.win 9).blk t).view.emb (ix2 r l) = ix2 (row t r) l by blk_ext [idx t]]
  refine Eq.trans ?_ (Cert.Reference2Ideal.Read.v49_at _ _ _ _ _ _ _ _ _ _ _ _).symm
  have key := dz_core (DF m c t) (DB m c t) (iblk m c 1 t) (iblk m c 2 t) (iblk m c 7 t) (iblk m c 8 t) r l
  refine Eq.trans ?_ (key.trans (dite_congr rfl (fun h => congrArg₂ (· + ·) (iblk7 m c t r ⟨l.val, h⟩) (iblk8 m c t r ⟨l.val, h⟩)) fun h => ?_))
  swap
  · simp only [DF_at, DB_at, iblk1, iblk2, wf, wb]
    by_cases h1 : l.val - 1024 < 16
    · rw [dif_pos h1]
      simp [h1, show ¬ 16 ≤ l.val - 1024 by omega]
    · rw [dif_neg h1]
      by_cases h2 : l.val - 1024 - 16 < 16
      · rw [dif_pos h2]
        simp [h1, h2, show 16 ≤ l.val - 1024 by omega]
      · rw [dif_neg h2]
        simp [h1, h2]
  rw [after0_9]
  by_cases h0 : t.val = 0
  · rw [outsAt0_A m c t (by omega) (by omega) (by omega) (by omega)]
    frame_out
    rfl
  · rw [outsAt0_B m c t (by omega) (by omega) (by omega) (by omega)]
    frame_out
    rfl

/-- What a point adds to the forward direction's weights. -/
theorem dwf_point (c : Dev nD) (t : Fin cfg0.N) (k : Fin 128) (j : Fin 256) :
    k0_pay13 (k0_pay4 (iblk m c 0 t)) k0_pay5 (k0_pay6 (iblk m c 0 t) (iblk m c 1 t) (iblk m c 3 t))
      (k0_pay7 (iblk m c 5 t)) k0_pay8 (k0_pay9 (iblk m c 5 t)) k0_pay10 (ix2 k j)
      = ∑ r : Fin 1024, lr (X0 m c) (X1 m c) (row t r) k * dpF (X0 m c) (X2 m c) (X3 m c) (X6 m c) (row t r) j := by
  simp only [← DF_at, ← iblk0]
  unfold k0_pay13
  change matmul (F := Ideal) dot_S1024x128_S1024x256_S128x256_0_0_1_1_n_n none (truncf .bf16 (k0_pay4 (F := Ideal) (iblk m c 0 t)) bitsLt_bf16_f32) (truncf .bf16 (DF m c t) bitsLt_bf16_f32) (constant S128x256 .f32 0x00000000#32) (ix2 k j) = _
  generalize DF m c t = d
  pointwise [k0_pay4]

theorem dwb_point (c : Dev nD) (t : Fin cfg0.N) (k : Fin 128) (j : Fin 256) :
    k0_pay22 (k0_pay4 (iblk m c 0 t)) k0_pay5 (k0_pay17 (k0_pay4 (iblk m c 0 t)) (iblk m c 2 t) (iblk m c 4 t))
      (k0_pay18 k0_pay5 (iblk m c 6 t)) (k0_pay19 k0_pay5 (iblk m c 6 t)) (ix2 k j)
      = ∑ r : Fin 1024, lr (X0 m c) (X1 m c) (row t r) k * dpB (X1 m c) (X4 m c) (X5 m c) (X7 m c) (row t r) j := by
  simp only [← DB_at, ← iblk0]
  unfold k0_pay22
  change matmul (F := Ideal) dot_S1024x128_S1024x256_S128x256_0_0_1_1_n_n none (truncf .bf16 (k0_pay4 (F := Ideal) (iblk m c 0 t)) bitsLt_bf16_f32) (truncf .bf16 (DB m c t) bitsLt_bf16_f32) (constant S128x256 .f32 0x00000000#32) (ix2 k j) = _
  generalize DB m c t = d
  pointwise [k0_pay4]

theorem dbf_point (c : Dev nD) (t : Fin cfg0.N) (j : Fin 256) :
    k0_pay14 k0_pay5 (k0_pay6 (iblk m c 0 t) (iblk m c 1 t) (iblk m c 3 t)) (k0_pay7 (iblk m c 5 t)) k0_pay8
      (k0_pay9 (iblk m c 5 t)) k0_pay10 (ix2 0 j)
      = ∑ r : Fin 1024, dpF (X0 m c) (X2 m c) (X3 m c) (X6 m c) (row t r) j := by
  simp only [← DF_at]
  unfold k0_pay14
  change shapeCast S1x256 (multiReduction (F := Ideal) .add [0] S256 (DF m c t) 0x00000000#32 reduces_S1024x256_S256 (.inl rfl) rfl) shapeCasts_S256_S1x256 (ix2 0 j) = _
  generalize DF m c t = d
  pointwise []

theorem dbb_point (c : Dev nD) (t : Fin cfg0.N) (j : Fin 256) :
    k0_pay23 k0_pay5 (k0_pay17 (k0_pay4 (iblk m c 0 t)) (iblk m c 2 t) (iblk m c 4 t)) (k0_pay18 k0_pay5 (iblk m c 6 t))
      (k0_pay19 k0_pay5 (iblk m c 6 t)) (ix2 0 j)
      = ∑ r : Fin 1024, dpB (X1 m c) (X4 m c) (X5 m c) (X7 m c) (row t r) j := by
  simp only [← DB_at]
  unfold k0_pay23
  change shapeCast S1x256 (multiReduction (F := Ideal) .add [0] S256 (DB m c t) 0x00000000#32 reduces_S1024x256_S256 (.inl rfl) rfl) shapeCasts_S256_S1x256 (ix2 0 j) = _
  generalize DB m c t = d
  pointwise []

theorem final10 (c : Dev nD) : (dats m 0 c).arrAt 10 (cfgs 0).N = (fun i => ∑ R : Fin 8192, lr (X0 m c) (X1 m c) R (i 0) * dpF (X0 m c) (X2 m c) (X3 m c) (X6 m c) R (i 1) : FVec Ideal S128x256 .f32) := by
  refine (dats m 0 c).arrAt_eq_of_after_last 10 t0_7 (by decide +kernel) _ fun y => ?_
  obtain ⟨k, j, rfl⟩ : ∃ (k : Fin 128) (j : Fin 256), y = ix2 k j := ⟨y 0, y 1, by blk_ext []⟩
  blk_simp
  rw [after0_10]
  refine (Cert.Num.run_sum (fun n h => (outsAt0 m c n h).2.1 (ix2 k j)) (fun t => ∑ r : Fin 1024, lr (X0 m c) (X1 m c) (row t r) k * dpF (X0 m c) (X2 m c) (X3 m c) (X6 m c) (row t r) j) (fun t h => ?_) (fun t h => ?_) 7 _).trans ?_
  · beta_reduce
    rw [outsAt0_A m c t (by omega) (by omega) (by omega) (by omega)]
    frame_out
    exact dwf_point m c t k j
  · have ht := lt_point t
    beta_reduce
    rw [outsAt0_B m c t (by omega) (by omega) (by omega) (by omega)]
    frame_out
    rw [← dwf_point m c t k j]
    unfold k0_pay15
    pointwise []
  · exact Fin.sum_mul_add_congr fun s r hl => by rw [show row ⟨s.val, by have : cfg0.N = 8 := N_0; omega⟩ r = ⟨s.val * 1024 + r.val, hl⟩ from Fin.ext (show 1024 * s.val + r.val = s.val * 1024 + r.val by omega)]; rfl

theorem final11 (c : Dev nD) : (dats m 0 c).arrAt 11 (cfgs 0).N = (fun i => ∑ R : Fin 8192, lr (X0 m c) (X1 m c) R (i 0) * dpB (X1 m c) (X4 m c) (X5 m c) (X7 m c) R (i 1) : FVec Ideal S128x256 .f32) := by
  refine (dats m 0 c).arrAt_eq_of_after_last 11 t0_7 (by decide +kernel) _ fun y => ?_
  obtain ⟨k, j, rfl⟩ : ∃ (k : Fin 128) (j : Fin 256), y = ix2 k j := ⟨y 0, y 1, by blk_ext []⟩
  blk_simp
  rw [after0_11]
  refine (Cert.Num.run_sum (fun n h => (outsAt0 m c n h).2.2.1 (ix2 k j)) (fun t => ∑ r : Fin 1024, lr (X0 m c) (X1 m c) (row t r) k * dpB (X1 m c) (X4 m c) (X5 m c) (X7 m c) (row t r) j) (fun t h => ?_) (fun t h => ?_) 7 _).trans ?_
  · beta_reduce
    rw [outsAt0_A m c t (by omega) (by omega) (by omega) (by omega)]
    frame_out
    exact dwb_point m c t k j
  · have ht := lt_point t
    beta_reduce
    rw [outsAt0_B m c t (by omega) (by omega) (by omega) (by omega)]
    frame_out
    rw [← dwb_point m c t k j]
    unfold k0_pay1
    pointwise []
  · exact Fin.sum_mul_add_congr fun s r hl => by rw [show row ⟨s.val, by have : cfg0.N = 8 := N_0; omega⟩ r = ⟨s.val * 1024 + r.val, hl⟩ from Fin.ext (show 1024 * s.val + r.val = s.val * 1024 + r.val by omega)]; rfl

theorem final12 (c : Dev nD) : (dats m 0 c).arrAt 12 (cfgs 0).N = (fun i => ∑ R : Fin 8192, dpF (X0 m c) (X2 m c) (X3 m c) (X6 m c) R (i 1) : FVec Ideal S1x256 .f32) := by
  refine (dats m 0 c).arrAt_eq_of_after_last 12 t0_7 (by decide +kernel) _ fun y => ?_
  obtain ⟨j, rfl⟩ : ∃ (j : Fin 256), y = ix2 0 j := ⟨y 1, by blk_ext []⟩
  blk_simp
  rw [after0_12]
  refine (Cert.Num.run_sum (fun n h => (outsAt0 m c n h).2.2.2.1 (ix2 0 j)) (fun t => ∑ r : Fin 1024, dpF (X0 m c) (X2 m c) (X3 m c) (X6 m c) (row t r) j) (fun t h => ?_) (fun t h => ?_) 7 _).trans ?_
  · beta_reduce
    rw [outsAt0_A m c t (by omega) (by omega) (by omega) (by omega)]
    frame_out
    exact dbf_point m c t j
  · have ht := lt_point t
    beta_reduce
    rw [outsAt0_B m c t (by omega) (by omega) (by omega) (by omega)]
    frame_out
    rw [← dbf_point m c t j]
    unfold k0_pay16
    pointwise []
  · exact Fin.sum_mul_add_congr fun s r hl => by rw [show row ⟨s.val, by have : cfg0.N = 8 := N_0; omega⟩ r = ⟨s.val * 1024 + r.val, hl⟩ from Fin.ext (show 1024 * s.val + r.val = s.val * 1024 + r.val by omega)]; rfl

theorem final13 (c : Dev nD) : (dats m 0 c).arrAt 13 (cfgs 0).N = (fun i => ∑ R : Fin 8192, dpB (X1 m c) (X4 m c) (X5 m c) (X7 m c) R (i 1) : FVec Ideal S1x256 .f32) := by
  refine (dats m 0 c).arrAt_eq_of_after_last 13 t0_7 (by decide +kernel) _ fun y => ?_
  obtain ⟨j, rfl⟩ : ∃ (j : Fin 256), y = ix2 0 j := ⟨y 1, by blk_ext []⟩
  blk_simp
  rw [after0_13]
  refine (Cert.Num.run_sum (fun n h => (outsAt0 m c n h).2.2.2.2 (ix2 0 j)) (fun t => ∑ r : Fin 1024, dpB (X1 m c) (X4 m c) (X5 m c) (X7 m c) (row t r) j) (fun t h => ?_) (fun t h => ?_) 7 _).trans ?_
  · beta_reduce
    rw [outsAt0_A m c t (by omega) (by omega) (by omega) (by omega)]
    frame_out
    exact dbb_point m c t j
  · have ht := lt_point t
    beta_reduce
    rw [outsAt0_B m c t (by omega) (by omega) (by omega) (by omega)]
    frame_out
    rw [← dbb_point m c t j]
    unfold k0_pay2
    pointwise []
  · exact Fin.sum_mul_add_congr fun s r hl => by rw [show row ⟨s.val, by have : cfg0.N = 8 := N_0; omega⟩ r = ⟨s.val * 1024 + r.val, hl⟩ from Fin.ext (show 1024 * s.val + r.val = s.val * 1024 + r.val by omega)]; rfl

end Cert.Kernel2Ideal.Value
end
-- ==== Proof.Gate.lean ====
module

public import proofs.«01_k».proof.Proof.GateValue
public import Idealize.ShloMosaic.Lib.Claim
public import proofs.«01_k».proof.Defs

@[expose] public section

set_option maxRecDepth 16384

noncomputable section

open Idealize.ShloMosaic Idealize.ShloMosaic.TcCoe Idealize.SL.Sem

namespace Cert.Kernel2Ideal.Value
open Cert.Kernel2Ideal Cert.Kernel2Ideal.Gen Cert.Gate
open Cert.Reference2Ideal.Read (val_main_v49 val_main_v42 val_main_v34 val_main_v40 val_main_v32 v42_at v34_at v40_at v32_at)

variable (m : (ℓ : Loc nD τ sig) → Buf (Elt Ideal) ℓ)

theorem arr_inj : Function.Injective (Pipeline.arrRef (cfgs 0).spec) := by
  have : ∀ a b : Fin 14, Pipeline.arrRef spec0 a = Pipeline.arrRef spec0 b → a = b := by decide +kernel
  exact fun a b => this a b

/-- The rows of the forward direction's weights, cut out after the run. -/
theorem tail8 (c : Dev nD) : Pipeline.afterTail₀ cfgs (dats m) 0 (V0 m) [hostOps1] c main_v8
    = val_main_v42 (F := Ideal) (X0 m c) (X2 m c) (X3 m c) (X6 m c) := by
  refine (StableHlo.after_last_write (i := 0) [main_v9] rfl rfl (by decide) _).trans ?_
  rw [StableHlo.unary_result']
  refine (congrArg (fun y : FVec Ideal S128x256 .f32 => extractStridedSlice S16x256 ![0, 0] y slices_S128x256_S16x256_0_0)
    ((Pipeline.withArrays_arr (cfgs 0).spec arr_inj c (V0 m c) (fun w => (dats m 0 c).arrAt w (cfgs 0).N) 10).trans (final10 m c))).trans ?_
  funext i
  obtain ⟨k, j, rfl⟩ : ∃ (k : Fin 16) (j : Fin 256), i = ix2 k j := ⟨i 0, i 1, by blk_ext []⟩
  rw [v42_at]
  pointwise [lr]
  exact Finset.sum_congr rfl fun R _ => mul_comm _ _

/-- The rows of the backward direction's weights, cut out after the run. -/
theorem tail9 (c : Dev nD) : Pipeline.afterTail₀ cfgs (dats m) 0 (V0 m) [hostOps1] c main_v9
    = val_main_v34 (F := Ideal) (X1 m c) (X4 m c) (X5 m c) (X7 m c) := by
  refine (StableHlo.after_last_write (i := 1) [] rfl rfl (by decide) _).trans ?_
  rw [StableHlo.unary_result']
  refine (congrArg (fun y : FVec Ideal S128x256 .f32 => extractStridedSlice S16x256 ![16, 0] y slices_S128x256_S16x256_16_0)
    ((StableHlo.upto_unwritten (n := 1) (ops := [hostOps1].flatten) (r := main_v7_2) [main_v8] rfl (by decide) _).trans
      ((Pipeline.withArrays_arr (cfgs 0).spec arr_inj c (V0 m c) (fun w => (dats m 0 c).arrAt w (cfgs 0).N) 11).trans (final11 m c)))).trans ?_
  funext i
  obtain ⟨k, j, rfl⟩ : ∃ (k : Fin 16) (j : Fin 256), i = ix2 k j := ⟨i 0, i 1, by blk_ext []⟩
  rw [v34_at]
  pointwise [lr]
  exact Finset.sum_congr rfl fun R _ => mul_comm _ _

theorem bias_f (c : Dev nD) : (dats m 0 c).arrAt 12 (cfgs 0).N = val_main_v40 (F := Ideal) (X0 m c) (X2 m c) (X3 m c) (X6 m c) := by
  rw [final12]
  funext i
  obtain ⟨j, rfl⟩ : ∃ (j : Fin 256), i = ix2 0 j := ⟨i 1, by blk_ext []⟩
  rw [v40_at]
  rfl

theorem bias_b (c : Dev nD) : (dats m 0 c).arrAt 13 (cfgs 0).N = val_main_v32 (F := Ideal) (X1 m c) (X4 m c) (X5 m c) (X7 m c) := by
  rw [final13]
  funext i
  obtain ⟨j, rfl⟩ : ∃ (j : Fin 256), i = ix2 0 j := ⟨i 1, by blk_ext []⟩
  rw [v32_at]
  rfl

end Cert.Kernel2Ideal.Value

namespace Cert.Proof

/-- Both programs run, and the kernel's results are the derivatives of the two gates. -/
theorem gate_algebraic : Cert.algebraic_Kernel2Ideal_Reference2Ideal := fun m ρ m' ρ' _ hag =>
  ⟨fun c => Cert.Reference2Ideal.Value.res_main_v49 m' c, fun c => Cert.Reference2Ideal.Value.res_main_v42 m' c, fun c => Cert.Reference2Ideal.Value.res_main_v34 m' c,
    fun c => Cert.Reference2Ideal.Value.res_main_v40 m' c, fun c => Cert.Reference2Ideal.Value.res_main_v32 m' c,
    (θ_run _ _ _).mono (fun _ h c => by
      obtain ⟨h0, h1, h2, h3, h4, h5, h6, h7, h8, h9⟩ := hag c
      beta_reduce
      rw [Cert.Reference2Ideal.Read.val_main_v49_eq, Cert.Reference2Ideal.Read.val_main_v42_eq, Cert.Reference2Ideal.Read.val_main_v34_eq, Cert.Reference2Ideal.Read.val_main_v40_eq,
        Cert.Reference2Ideal.Read.val_main_v32_eq, h0, h1, h2, h3, h4, h5, h6, h7, h8, h9]
      exact ⟨((h.1 c).1 9).trans (Cert.Kernel2Ideal.Value.final9 m c),
        ((h.1 c).2 Cert.Kernel2Ideal.main_v8 (by decide +kernel)).trans (Cert.Kernel2Ideal.Value.tail8 m c),
        ((h.1 c).2 Cert.Kernel2Ideal.main_v9 (by decide +kernel)).trans (Cert.Kernel2Ideal.Value.tail9 m c),
        ((h.1 c).1 12).trans (Cert.Kernel2Ideal.Value.bias_f m c), ((h.1 c).1 13).trans (Cert.Kernel2Ideal.Value.bias_b m c), h.2 c⟩)
      (θ_run_and (Cert.Kernel2Ideal.Gen.run_main m ρ) (Cert.Kernel2Ideal.Gen.unchanged m ρ)),
    Cert.Reference2Ideal.Value.run m' ρ'⟩

/-- The reference runs and leaves its arguments as they were. -/
theorem gate_reference : Cert.quiescent_Reference2Ideal := fun m ρ _ =>
  (θ_run _ _ _).mono (fun r h => ⟨fun c => (h c).2.2.2.2.2, sem_eq_zero_of_no_sems (by decide) r.2⟩) (Cert.Reference2Ideal.Value.run m ρ)

end Cert.Proof

end
-- ==== Proof.XattnHead.lean ====
module

public import proofs.«01_k».proof.Proof.Gen.Kernel3Ideal.Skeleton
public import Idealize.ShloMosaic.Lib.Pipeline.ValueKit
public import Idealize.ShloMosaic.Lib.Pointwise

@[expose] public section

set_option maxRecDepth 16384

noncomputable section

open Idealize.ShloMosaic

namespace Cert.Xattn
open Finset

/-- The greatest score of a query. -/
def mx (s : Fin 256 → EReal) : EReal := Finset.univ.fold max (Ideal.ofBits .f32 0xFF800000#32) s
/-- The score's exponential, less the greatest. -/
def ex (s : Fin 256 → EReal) (m : Fin 256) : EReal := Ideal.exp (s m - mx s)
/-- The weight a query gives a memory row. -/
def sm (s : Fin 256 → EReal) (m : Fin 256) : EReal := Ideal.div (ex s m) (∑ j, ex s j)
/-- The scores' gradient, from the weights' gradient `g`. -/
def ds (s g : Fin 256 → EReal) (m : Fin 256) : EReal := sm s m * (g m - ∑ j, g j * sm s j) * Ideal.ofBits .f32 0x3D800000#32

/-! The gradients over the whole arrays: `x0` the queries, `x1` the keys and values, `x2` the output weights, `x3` the gradient of
the layer's output. `l` is a column of the queries; its head is `l / 256`. -/

abbrev SX : Shape := ⟨2, ![8192, 1024]⟩
abbrev SKV : Shape := ⟨2, ![256, 2048]⟩
abbrev SW : Shape := ⟨2, ![1024, 1024]⟩

/-- The head's column `d` among the queries, among the keys, among the values. -/
def hc (l : Fin 1024) (d : Fin 256) : Fin 1024 := ⟨256 * (l.val / 256) + d.val, by omega⟩
def kc (l : Fin 1024) (d : Fin 256) : Fin 2048 := ⟨256 * (l.val / 256) + d.val, by omega⟩
def vc (l : Fin 1024) (d : Fin 256) : Fin 2048 := ⟨1024 + (256 * (l.val / 256) + d.val), by omega⟩

def scores (x0 : SX.Idx → EReal) (x1 : SKV.Idx → EReal) (R : Fin 8192) (l : Fin 1024) (m : Fin 256) : EReal :=
  (∑ d, x0 (ix2 R (hc l d)) * x1 (ix2 m (kc l d))) * Ideal.ofBits .f32 0x3D800000#32
def dout (x2 : SW.Idx → EReal) (x3 : SX.Idx → EReal) (R : Fin 8192) (l : Fin 1024) : EReal := ∑ k, x3 (ix2 R k) * x2 (ix2 l k)
def dw (x1 : SKV.Idx → EReal) (x2 : SW.Idx → EReal) (x3 : SX.Idx → EReal) (R : Fin 8192) (l : Fin 1024) (m : Fin 256) : EReal :=
  ∑ d, dout x2 x3 R (hc l d) * x1 (ix2 m (vc l d))
def dsc (x0 : SX.Idx → EReal) (x1 : SKV.Idx → EReal) (x2 : SW.Idx → EReal) (x3 : SX.Idx → EReal) (R : Fin 8192) (l : Fin 1024) (m : Fin 256) : EReal :=
  ds (scores x0 x1 R l) (dw x1 x2 x3 R l) m

/-- The queries' gradient. -/
def DQ (x0 : SX.Idx → EReal) (x1 : SKV.Idx → EReal) (x2 : SW.Idx → EReal) (x3 : SX.Idx → EReal) (R : Fin 8192) (l : Fin 1024) : EReal :=
  ∑ m, dsc x0 x1 x2 x3 R l m * x1 (ix2 m ⟨l.val, by omega⟩)
/-- What a query adds to the keys' and to the values' gradient. -/
def DK (x0 : SX.Idx → EReal) (x1 : SKV.Idx → EReal) (x2 : SW.Idx → EReal) (x3 : SX.Idx → EReal) (R : Fin 8192) (m : Fin 256) (l : Fin 1024) : EReal :=
  dsc x0 x1 x2 x3 R l m * x0 (ix2 R l)
def DV (x0 : SX.Idx → EReal) (x1 : SKV.Idx → EReal) (x2 : SW.Idx → EReal) (x3 : SX.Idx → EReal) (R : Fin 8192) (m : Fin 256) (l : Fin 1024) : EReal :=
  sm (scores x0 x1 R l) m * dout x2 x3 R l
def DKV (x0 : SX.Idx → EReal) (x1 : SKV.Idx → EReal) (x2 : SW.Idx → EReal) (x3 : SX.Idx → EReal) (R : Fin 8192) (m : Fin 256) (l : Fin 2048) : EReal :=
  if h : l.val < 1024 then DK x0 x1 x2 x3 R m ⟨l.val, h⟩ else DV x0 x1 x2 x3 R m ⟨l.val - 1024, by omega⟩

end Cert.Xattn

namespace Cert.Kernel3Ideal.Gen
open Cert.Kernel3Ideal Cert.Xattn Facts₀

/-- Scores of one head's block of queries. -/
def SC (q : FVec Ideal S1024x256 .bf16) (k : FVec Ideal S256x256 .bf16) : FVec Ideal S1024x256 .f32 :=
  mulf (matmul dot_S1024x256_S256x256_S1024x256_1_1_0_0_n_n none q k (constant S1024x256 .f32 0x00000000#32))
    (broadcast S1024x256 (Scalar.ofBits .f32 0x3D800000#32))

/-- The weights' gradient of one head's block. -/
def DP (o : FVec Ideal S1024x256 .bf16) (v : FVec Ideal S256x256 .bf16) : FVec Ideal S1024x256 .f32 :=
  matmul dot_S1024x256_S256x256_S1024x256_1_1_0_0_n_n none o v (constant S1024x256 .f32 0x00000000#32)

/-- The scores' gradient of one head's block, from the weights `p` and their gradient `g`. -/
def DS (p g : FVec Ideal S1024x256 .f32) : FVec Ideal S1024x256 .f32 :=
  mulf (mulf p (subf g (broadcastTo S1024x256 (shapeCast S1024x1 (multiReduction .add [1] S1024 (mulf g p) 0x00000000#32 reduces_S1024x256_S1024
    (.inl rfl) rfl) shapeCasts_S1024_S1024x1) broadcasts_S1024x1_S1024x256))) (broadcast S1024x256 (Scalar.ofBits .f32 0x3D800000#32))

theorem SC_at (q : FVec Ideal S1024x256 .bf16) (k : FVec Ideal S256x256 .bf16) (r : Fin 1024) (m : Fin 256) :
    SC q k (ix2 r m) = (∑ d, q (ix2 r d) * k (ix2 m d)) * Ideal.ofBits .f32 0x3D800000#32 := by
  pointwise [SC]

theorem DP_at (q : FVec Ideal S1024x256 .bf16) (k : FVec Ideal S256x256 .bf16) (r : Fin 1024) (m : Fin 256) :
    DP q k (ix2 r m) = ∑ d, q (ix2 r d) * k (ix2 m d) := by
  pointwise [DP]

theorem pay1_at (s : FVec Ideal S1024x256 .f32) (r : Fin 1024) (m : Fin 256) :
    k0_pay1 s (ix2 r m) = sm (fun m => s (ix2 r m)) m := by
  pointwise [k0_pay1, sm, ex, mx]

theorem DS_at (p g : FVec Ideal S1024x256 .f32) (r : Fin 1024) (m : Fin 256) :
    DS p g (ix2 r m) = p (ix2 r m) * (g (ix2 r m) - ∑ j, g (ix2 r j) * p (ix2 r j)) * Ideal.ofBits .f32 0x3D800000#32 := by
  pointwise [DS]

/-- One head's part of the queries' gradient. -/
def dqH (o q : FVec Ideal S1024x256 .bf16) (k v : FVec Ideal S256x256 .bf16) : FVec Ideal S1024x256 .f32 :=
  matmul dot_S1024x256_S256x256_S1024x256_1_0_0_1_n_n none (truncf .bf16 (DS (k0_pay1 (SC q k)) (DP o v)) bitsLt_bf16_f32) k
    (constant S1024x256 .f32 0x00000000#32)

/-- One head's part of the keys' gradient. -/
def dkH (o q : FVec Ideal S1024x256 .bf16) (k v : FVec Ideal S256x256 .bf16) : FVec Ideal S256x256 .f32 :=
  matmul dot_S1024x256_S1024x256_S256x256_0_0_1_1_n_n none (truncf .bf16 (DS (k0_pay1 (SC q k)) (DP o v)) bitsLt_bf16_f32) q
    (constant S256x256 .f32 0x00000000#32)

/-- One head's part of the values' gradient. -/
def dvH (o q : FVec Ideal S1024x256 .bf16) (k : FVec Ideal S256x256 .bf16) : FVec Ideal S256x256 .f32 :=
  matmul dot_S1024x256_S1024x256_S256x256_0_0_1_1_n_n none (truncf .bf16 (k0_pay1 (SC q k)) bitsLt_bf16_f32) o
    (constant S256x256 .f32 0x00000000#32)

/-- A block's scores' gradient at an entry. -/
theorem DS_SC_at (o q : FVec Ideal S1024x256 .bf16) (k v : FVec Ideal S256x256 .bf16) (r : Fin 1024) (m : Fin 256) :
    DS (k0_pay1 (SC q k)) (DP o v) (ix2 r m) = ds (fun m => SC q k (ix2 r m)) (fun m => DP o v (ix2 r m)) m := by
  rw [DS_at]
  simp only [pay1_at]
  rfl

theorem dqH_at (o q : FVec Ideal S1024x256 .bf16) (k v : FVec Ideal S256x256 .bf16) (r : Fin 1024) (d : Fin 256) :
    dqH o q k v (ix2 r d) = ∑ m, ds (fun m => SC q k (ix2 r m)) (fun m => DP o v (ix2 r m)) m * k (ix2 m d) := by
  simp only [← DS_SC_at]
  unfold dqH
  generalize DS (k0_pay1 (SC q k)) (DP o v) = s
  pointwise []

theorem dkH_at (o q : FVec Ideal S1024x256 .bf16) (k v : FVec Ideal S256x256 .bf16) (m d : Fin 256) :
    dkH o q k v (ix2 m d) = ∑ r, ds (fun m => SC q k (ix2 r m)) (fun m => DP o v (ix2 r m)) m * q (ix2 r d) := by
  simp only [← DS_SC_at]
  unfold dkH
  generalize DS (k0_pay1 (SC q k)) (DP o v) = s
  pointwise []

theorem dvH_at (o q : FVec Ideal S1024x256 .bf16) (k : FVec Ideal S256x256 .bf16) (m d : Fin 256) :
    dvH o q k (ix2 m d) = ∑ r, sm (fun m => SC q k (ix2 r m)) m * o (ix2 r d) := by
  simp only [← pay1_at]
  unfold dvH
  generalize k0_pay1 (SC q k) = s
  pointwise []

/-! The four heads, in the program's own words. -/

theorem dq0 (v0 v2 : Vec Ideal S1024x1024 .bf16) (v6 : Vec Ideal S1024x256 .bf16) (v8 v10 : Vec Ideal S256x256 .bf16) :
    k0_pay13 v0 v2 v6 v8 v10 = dqH (k0_pay11 v0 v2) (k0_pay8 v6) (k0_pay9 v8) (k0_pay9 v10) := rfl
theorem dk0 (v0 v2 : Vec Ideal S1024x1024 .bf16) (v6 : Vec Ideal S1024x256 .bf16) (v8 v10 : Vec Ideal S256x256 .bf16) :
    k0_pay14 v0 v2 v6 v8 v10 = dkH (k0_pay11 v0 v2) (k0_pay8 v6) (k0_pay9 v8) (k0_pay9 v10) := rfl
theorem dv0 (o : FVec Ideal S1024x256 .bf16) (v6 : Vec Ideal S1024x256 .bf16) (v8 : Vec Ideal S256x256 .bf16) :
    k0_pay16 o (k0_pay15 v6 v8) = dvH o (k0_pay8 v6) (k0_pay9 v8) := rfl
theorem dq1 (v5 : FVec Ideal S1024x1024 .bf16) (v6 : Vec Ideal S1024x256 .bf16) (v8 v10 : Vec Ideal S256x256 .bf16) :
    k0_pay22 v5 v6 v8 v10 = dqH (k0_pay20 v5) (k0_pay8 v6) (k0_pay9 v8) (k0_pay9 v10) := rfl
theorem dk1 (v5 : FVec Ideal S1024x1024 .bf16) (v6 : Vec Ideal S1024x256 .bf16) (v8 v10 : Vec Ideal S256x256 .bf16) :
    k0_pay23 v5 v6 v8 v10 = dkH (k0_pay20 v5) (k0_pay8 v6) (k0_pay9 v8) (k0_pay9 v10) := rfl
theorem dv1 (v5 : FVec Ideal S1024x1024 .bf16) (v6 : Vec Ideal S1024x256 .bf16) (v8 : Vec Ideal S256x256 .bf16) :
    k0_pay24 v5 v6 v8 = dvH (k0_pay20 v5) (k0_pay8 v6) (k0_pay9 v8) := rfl
theorem dq2 (v5 : FVec Ideal S1024x1024 .bf16) (q : FVec Ideal S1024x256 .bf16) (k : FVec Ideal S256x256 .bf16) (v10 : Vec Ideal S256x256 .bf16) :
    k0_pay30 v5 q k v10 = dqH (k0_pay28 v5) q k (k0_pay9 v10) := rfl
theorem dk2 (v5 : FVec Ideal S1024x1024 .bf16) (q : FVec Ideal S1024x256 .bf16) (k : FVec Ideal S256x256 .bf16) (v10 : Vec Ideal S256x256 .bf16) :
    k0_pay31 v5 q k v10 = dkH (k0_pay28 v5) q k (k0_pay9 v10) := rfl
theorem dv2 (v5 : FVec Ideal S1024x1024 .bf16) (q : FVec Ideal S1024x256 .bf16) (k : FVec Ideal S256x256 .bf16) :
    k0_pay32 v5 q k = dvH (k0_pay28 v5) q k := rfl

/-- The queries' gradient of a block, its last head written out in the word itself. -/
theorem dq_cat (v5 : FVec Ideal S1024x1024 .bf16) (a b d : FVec Ideal S1024x256 .f32) (v6 : Vec Ideal S1024x256 .bf16) (v8 v10 : Vec Ideal S256x256 .bf16) :
    k0_pay4 v5 a b d (k0_pay34 v8) (k0_pay35 v10) (k0_pay36 v6 v8) =
      truncf .bf16 (concatenate S1024x1024 1 [⟨S1024x256, a⟩, ⟨S1024x256, b⟩, ⟨S1024x256, d⟩,
        ⟨S1024x256, dqH (k0_pay2 v5) (k0_pay8 v6) (k0_pay9 v8) (k0_pay9 v10)⟩] concatenates_S1024x256_S1024x256_S1024x256_S1024x256_S1024x1024_d1) bitsLt_bf16_f32 := rfl

/-- The keys' and values' gradients of a block. -/
theorem dkv_cat (v5 : FVec Ideal S1024x1024 .bf16) (a a' b b' d d' : FVec Ideal S256x256 .f32) (v6 : Vec Ideal S1024x256 .bf16) (v8 v10 : Vec Ideal S256x256 .bf16) :
    k0_pay5 v5 a a' b b' d d' (k0_pay33 v6) (k0_pay35 v10) (k0_pay36 v6 v8) =
      concatenate S256x2048 1 [⟨S256x256, a⟩, ⟨S256x256, b⟩, ⟨S256x256, d⟩,
        ⟨S256x256, dkH (k0_pay2 v5) (k0_pay8 v6) (k0_pay9 v8) (k0_pay9 v10)⟩, ⟨S256x256, a'⟩, ⟨S256x256, b'⟩, ⟨S256x256, d'⟩,
        ⟨S256x256, dvH (k0_pay2 v5) (k0_pay8 v6) (k0_pay9 v8)⟩]
        concatenates_S256x256_S256x256_S256x256_S256x256_S256x256_S256x256_S256x256_S256x256_S256x2048_d1 := rfl

/-- Four parts side by side that are one function's lanes. -/
theorem cat_dq (F : Fin 1024 → Fin 1024 → EReal) (a b d e : FVec Ideal S1024x256 .f32) (ha : ∀ r (l : Fin 256) (L : Fin 1024), L.val = 0 + l.val → a (ix2 r l) = F r L)
    (hb : ∀ r (l : Fin 256) (L : Fin 1024), L.val = 256 + l.val → b (ix2 r l) = F r L) (hd : ∀ r (l : Fin 256) (L : Fin 1024), L.val = 512 + l.val → d (ix2 r l) = F r L)
    (he : ∀ r (l : Fin 256) (L : Fin 1024), L.val = 768 + l.val → e (ix2 r l) = F r L) (r l : Fin 1024) :
    truncf (F := Ideal) .bf16 (concatenate S1024x1024 1 [⟨S1024x256, a⟩, ⟨S1024x256, b⟩, ⟨S1024x256, d⟩, ⟨S1024x256, e⟩]
      concatenates_S1024x256_S1024x256_S1024x256_S1024x256_S1024x1024_d1) bitsLt_bf16_f32 (ix2 r l) = F r l := by
  pointwise []
  split
  · exact ha r _ _ (by dsimp only; omega)
  split
  · exact hb r _ _ (by dsimp only; omega)
  split
  · exact hd r _ _ (by dsimp only; omega)
  · exact he r _ _ (by dsimp only; omega)

/-- Eight parts side by side that are one function's lanes. -/
theorem cat_dkv (F : Fin 256 → Fin 2048 → EReal) (p : Fin 8 → FVec Ideal S256x256 .f32)
    (hp : ∀ (h : Fin 8) r (l : Fin 256) (L : Fin 2048), L.val = 256 * h.val + l.val → p h (ix2 r l) = F r L) (r : Fin 256) (l : Fin 2048) :
    concatenate S256x2048 1 [⟨S256x256, p 0⟩, ⟨S256x256, p 1⟩, ⟨S256x256, p 2⟩, ⟨S256x256, p 3⟩, ⟨S256x256, p 4⟩, ⟨S256x256, p 5⟩,
      ⟨S256x256, p 6⟩, ⟨S256x256, p 7⟩] concatenates_S256x256_S256x256_S256x256_S256x256_S256x256_S256x256_S256x256_S256x256_S256x2048_d1 (ix2 r l) = F r l := by
  pointwise []
  split
  · exact hp 0 r _ _ (show 256 * 0 + l.val = l.val by omega).symm
  split
  · exact hp 1 r _ _ (show 256 * 1 + (l.val - 256) = l.val by omega).symm
  split
  · exact hp 2 r _ _ (show 256 * 2 + (l.val - 256 - 256) = l.val by omega).symm
  split
  · exact hp 3 r _ _ (show 256 * 3 + (l.val - 256 - 256 - 256) = l.val by omega).symm
  split
  · exact hp 4 r _ _ (show 256 * 4 + (l.val - 256 - 256 - 256 - 256) = l.val by omega).symm
  split
  · exact hp 5 r _ _ (show 256 * 5 + (l.val - 256 - 256 - 256 - 256 - 256) = l.val by omega).symm
  split
  · exact hp 6 r _ _ (show 256 * 6 + (l.val - 256 - 256 - 256 - 256 - 256 - 256) = l.val by omega).symm
  · exact hp 7 r _ _ (show 256 * 7 + (l.val - 256 - 256 - 256 - 256 - 256 - 256 - 256) = l.val by omega).symm

/-! One head, over the whole arrays. -/

section Head
variable (x0 : SX.Idx → EReal) (x1 : SKV.Idx → EReal) (x2 : SW.Idx → EReal) (x3 : SX.Idx → EReal) (R : Fin 1024 → Fin 8192) (h : ℕ) (hh : h < 4)
  (o q : FVec Ideal S1024x256 .bf16) (k v : FVec Ideal S256x256 .bf16)
  (ho : ∀ r (d : Fin 256) (L : Fin 1024), L.val = 256 * h + d.val → o (ix2 r d) = dout x2 x3 (R r) L)
  (hq : ∀ r (d : Fin 256) (L : Fin 1024), L.val = 256 * h + d.val → q (ix2 r d) = x0 (ix2 (R r) L))
  (hk : ∀ r (d : Fin 256) (L : Fin 2048), L.val = 256 * h + d.val → k (ix2 r d) = x1 (ix2 r L))
  (hv : ∀ r (d : Fin 256) (L : Fin 2048), L.val = 1024 + (256 * h + d.val) → v (ix2 r d) = x1 (ix2 r L))
include hh hq hk

theorem SC_head (r : Fin 1024) (L : Fin 1024) (hL : L.val / 256 = h) : (fun m => SC q k (ix2 r m)) = scores x0 x1 (R r) L := by
  funext m
  rw [SC_at, scores]
  refine congrArg (· * _) (Finset.sum_congr rfl fun d _ => congrArg₂ (· * ·) (hq r d _ ?_) (hk m d _ ?_)) <;> simp only [hc, kc, hL]

include ho hv

theorem DP_head (r : Fin 1024) (L : Fin 1024) (hL : L.val / 256 = h) : (fun m => DP o v (ix2 r m)) = dw x1 x2 x3 (R r) L := by
  funext m
  rw [DP_at, dw]
  refine Finset.sum_congr rfl fun d _ => congrArg₂ (· * ·) (ho r d _ ?_) (hv m d _ ?_) <;> simp only [hc, vc, hL]

theorem dq_col (r : Fin 1024) (d : Fin 256) (L : Fin 1024) (hL : L.val = 256 * h + d.val) :
    dqH o q k v (ix2 r d) = DQ x0 x1 x2 x3 (R r) L := by
  rw [dqH_at, SC_head x0 x1 R h hh q k hq hk r L (by omega), DP_head x0 x1 x2 x3 R h hh o q k v ho hq hk hv r L (by omega)]
  exact Finset.sum_congr rfl fun m _ => congrArg₂ (· * ·) rfl (hk m d _ hL)

theorem dk_col (m d : Fin 256) (L : Fin 2048) (hL : L.val = 256 * h + d.val) :
    dkH o q k v (ix2 m d) = ∑ r, DKV x0 x1 x2 x3 (R r) m L := by
  rw [dkH_at]
  refine Finset.sum_congr rfl fun r _ => ?_
  have hl : L.val < 1024 := by omega
  rw [SC_head x0 x1 R h hh q k hq hk r ⟨L.val, hl⟩ (by dsimp only; omega), DP_head x0 x1 x2 x3 R h hh o q k v ho hq hk hv r ⟨L.val, hl⟩ (by dsimp only; omega),
    DKV, dif_pos hl, hq r d ⟨L.val, hl⟩ hL]
  rfl

omit hv in
theorem dv_col (m d : Fin 256) (L : Fin 2048) (hL : L.val = 1024 + (256 * h + d.val)) :
    dvH o q k (ix2 m d) = ∑ r, DKV x0 x1 x2 x3 (R r) m L := by
  rw [dvH_at]
  refine Finset.sum_congr rfl fun r _ => ?_
  have hl : L.val - 1024 < 1024 := by omega
  rw [SC_head x0 x1 R h hh q k hq hk r ⟨L.val - 1024, hl⟩ (by dsimp only; omega), DKV, dif_neg (by omega), ho r d ⟨L.val - 1024, hl⟩ (by dsimp only; omega)]
  rfl

end Head

end Cert.Kernel3Ideal.Gen
-- ==== Proof.XattnValue.lean ====
module

public import proofs.«01_k».proof.Proof.XattnHead
public import proofs.«01_k».proof.Proof.Numbers
public import proofs.«01_k».proof.Proof.Gen.Kernel3Ideal.Frame
public import proofs.«01_k».proof.Proof.Gen.Kernel3Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Xattn

variable (m : (ℓ : Loc nD τ sig) → Buf (Elt Ideal) ℓ)

/-- The argument arrays. -/
abbrev X0 (c : Dev nD) : FVec Ideal S8192x1024 .f32 := m ((c : Thread nD τ).loc main_arg0)
abbrev X1 (c : Dev nD) : FVec Ideal S256x2048 .f32 := m ((c : Thread nD τ).loc main_arg1)
abbrev X2 (c : Dev nD) : FVec Ideal S1024x1024 .f32 := m ((c : Thread nD τ).loc main_arg2)
abbrev X3 (c : Dev nD) : FVec Ideal S8192x1024 .f32 := m ((c : Thread nD τ).loc main_arg3)

/-- Which block each window takes at a point. -/
theorem idx : ∀ t : Fin cfg0.N, win0_0.index t = ![t.val, 0] ∧ win0_1.index t = ![0, 0] ∧ win0_2.index t = ![t.val, 0] ∧ win0_3.index t = ![0, 0]
  ∧ win0_4.index t = ![t.val, 0] ∧ win0_5.index t = ![0, 0] :=
  (by decide +kernel : ∀ t : Fin grid0.N, _)

theorem lt_point (t : Fin cfg0.N) : t.val < 8 := lt_of_lt_of_eq t.isLt N_0

/-- The array's row that a point's row is. -/
abbrev row (t : Fin cfg0.N) (r : Fin 1024) : Fin 8192 := ⟨1024 * t.val + r.val, by have := lt_point t; omega⟩

theorem V_0 (c : Dev nD) : V m c main_v0 = truncf .bf16 (X0 m c) bitsLt_bf16_f32 := by
  simp only [V]
  entry_read
  rfl
theorem V_1 (c : Dev nD) : V m c main_v1 = truncf .bf16 (X1 m c) bitsLt_bf16_f32 := by
  simp only [V]
  entry_read
  rfl
theorem V_2 (c : Dev nD) : V m c main_v2 = truncf .bf16 (X3 m c) bitsLt_bf16_f32 := by
  simp only [V]
  entry_read
  rfl
theorem V_3 (c : Dev nD) : V m c main_v3 = truncf .bf16 (X2 m c) bitsLt_bf16_f32 := by
  simp only [V]
  entry_read
  rfl

theorem iblk0 (c : Dev nD) (t : Fin cfg0.N) (r l : Fin 1024) : iblk m c 0 t (ix2 r l) = X0 m c (ix2 (row t r) l) := by
  unfold iblk
  rw [show V m c (Pipeline.arrRef spec0 0) = _ from V_0 m c, View.read_apply]
  rw [show ((cfg0.win 0).blk t).view.emb (ix2 r l) = ix2 (row t r) l by blk_ext [idx t]]
  pointwise []
  rfl
theorem iblk1 (c : Dev nD) (t : Fin cfg0.N) (r : Fin 256) (l : Fin 2048) : iblk m c 1 t (ix2 r l) = X1 m c (ix2 r l) := by
  unfold iblk
  rw [show V m c (Pipeline.arrRef spec0 1) = _ from V_1 m c, View.read_apply]
  rw [show ((cfg0.win 1).blk t).view.emb (ix2 r l) = ix2 r l by blk_ext [idx t]]
  pointwise []
  rfl
theorem iblk2 (c : Dev nD) (t : Fin cfg0.N) (r l : Fin 1024) : iblk m c 2 t (ix2 r l) = X3 m c (ix2 (row t r) l) := by
  unfold iblk
  rw [show V m c (Pipeline.arrRef spec0 2) = _ from V_2 m c, View.read_apply]
  rw [show ((cfg0.win 2).blk t).view.emb (ix2 r l) = ix2 (row t r) l by blk_ext [idx t]]
  pointwise []
  rfl
theorem iblk3 (c : Dev nD) (t : Fin cfg0.N) (r l : Fin 1024) : iblk m c 3 t (ix2 r l) = X2 m c (ix2 r l) := by
  unfold iblk
  rw [show V m c (Pipeline.arrRef spec0 3) = _ from V_3 m c, View.read_apply]
  rw [show ((cfg0.win 3).blk t).view.emb (ix2 r l) = ix2 r l by blk_ext [idx t]]
  pointwise []
  rfl

/-- A head's columns of a block of queries. -/
theorem ld_q (x : Vec Ideal S1024x1024 .bf16) (a : ℕ) (h) (ha : a + 256 ≤ 1024) (r : Fin 1024) (d : Fin 256) :
    k0_pay8 (View.ld x (Rect.unit (s := S1024x1024) ![0, a] ![1024, 256] h)) (ix2 r d) = x (ix2 r ⟨a + d.val, by omega⟩) := by
  pointwise [k0_pay8]

/-- A head's columns of the keys and values. -/
theorem ld_kv (x : Vec Ideal S256x2048 .bf16) (a : ℕ) (h) (ha : a + 256 ≤ 2048) (r d : Fin 256) :
    k0_pay9 (View.ld x (Rect.unit (s := S256x2048) ![0, a] ![256, 256] h)) (ix2 r d) = x (ix2 r ⟨a + d.val, by omega⟩) := by
  pointwise [k0_pay9]

/-- The gradient that reaches the heads' outputs. -/
theorem pay7_at (x y : Vec Ideal S1024x1024 .bf16) (r l : Fin 1024) : k0_pay7 (F := Ideal) x y (ix2 r l) = ∑ k, x (ix2 r k) * y (ix2 l k) := by
  pointwise [k0_pay7]
theorem pay11_at (x y : Vec Ideal S1024x1024 .bf16) (r : Fin 1024) (d : Fin 256) : k0_pay11 (F := Ideal) x y (ix2 r d) = k0_pay7 x y (ix2 r ⟨d.val, by omega⟩) := by
  unfold k0_pay11
  generalize k0_pay7 x y = z
  pointwise []
theorem pay20_at (z : FVec Ideal S1024x1024 .bf16) (r : Fin 1024) (d : Fin 256) : k0_pay20 z (ix2 r d) = z (ix2 r ⟨256 + d.val, by omega⟩) := by
  pointwise [k0_pay20]
theorem pay28_at (z : FVec Ideal S1024x1024 .bf16) (r : Fin 1024) (d : Fin 256) : k0_pay28 z (ix2 r d) = z (ix2 r ⟨512 + d.val, by omega⟩) := by
  pointwise [k0_pay28]
theorem pay2_at (z : FVec Ideal S1024x1024 .bf16) (r : Fin 1024) (d : Fin 256) : k0_pay2 z (ix2 r d) = z (ix2 r ⟨768 + d.val, by omega⟩) := by
  pointwise [k0_pay2]

/-! The words of a point's four heads. -/

section Point
variable (c : Dev nD) (t : Fin cfg0.N)

theorem o_at (r l : Fin 1024) : k0_pay7 (iblk m c 2 t) (iblk m c 3 t) (ix2 r l) = dout (X2 m c) (X3 m c) (row t r) l := by
  rw [pay7_at]
  exact Finset.sum_congr rfl fun k _ => congrArg₂ (fun a b : EReal => a * b) (iblk2 m c t r k) (iblk3 m c t l k)

theorem q_at (a : ℕ) (h) (ha : a + 256 ≤ 1024) (r : Fin 1024) (d : Fin 256) (L : Fin 1024) (hL : L.val = a + d.val) :
    k0_pay8 (View.ld (iblk m c 0 t) (Rect.unit (s := S1024x1024) ![0, a] ![1024, 256] h)) (ix2 r d) = X0 m c (ix2 (row t r) L) :=
  (ld_q _ a h ha r d).trans ((iblk0 m c t r _).trans (congrArg (X0 m c) (congrArg (ix2 _) (Fin.ext hL.symm))))

theorem kv_at (a : ℕ) (h) (ha : a + 256 ≤ 2048) (r d : Fin 256) :
    k0_pay9 (View.ld (iblk m c 1 t) (Rect.unit (s := S256x2048) ![0, a] ![256, 256] h)) (ix2 r d) = X1 m c (ix2 r ⟨a + d.val, by omega⟩) :=
  (ld_kv _ a h ha r d).trans (iblk1 m c t r _)

theorem o0 (r : Fin 1024) (d : Fin 256) (L : Fin 1024) (hL : L.val = 256 * 0 + d.val) :
    k0_pay11 (iblk m c 2 t) (iblk m c 3 t) (ix2 r d) = dout (X2 m c) (X3 m c) (row t r) L :=
  (pay11_at _ _ r d).trans ((o_at m c t r _).trans (congrArg _ (Fin.ext (by dsimp only; omega))))
theorem o1 (r : Fin 1024) (d : Fin 256) (L : Fin 1024) (hL : L.val = 256 * 1 + d.val) :
    k0_pay20 (k0_pay7 (iblk m c 2 t) (iblk m c 3 t)) (ix2 r d) = dout (X2 m c) (X3 m c) (row t r) L :=
  (pay20_at _ r d).trans ((o_at m c t r _).trans (congrArg _ (Fin.ext (by dsimp only; omega))))
theorem o2 (r : Fin 1024) (d : Fin 256) (L : Fin 1024) (hL : L.val = 256 * 2 + d.val) :
    k0_pay28 (k0_pay7 (iblk m c 2 t) (iblk m c 3 t)) (ix2 r d) = dout (X2 m c) (X3 m c) (row t r) L :=
  (pay28_at _ r d).trans ((o_at m c t r _).trans (congrArg _ (Fin.ext (by dsimp only; omega))))
theorem o3 (r : Fin 1024) (d : Fin 256) (L : Fin 1024) (hL : L.val = 256 * 3 + d.val) :
    k0_pay2 (k0_pay7 (iblk m c 2 t) (iblk m c 3 t)) (ix2 r d) = dout (X2 m c) (X3 m c) (row t r) L :=
  (pay2_at _ r d).trans ((o_at m c t r _).trans (congrArg _ (Fin.ext (by dsimp only; omega))))

/-- Column `256 h + d` among the keys, and `1024` further on among the values. -/
theorem k_at (h : ℕ) (hh : h < 4) (hi) (r d : Fin 256) (L : Fin 2048) (hL : L.val = 256 * h + d.val) :
    k0_pay9 (View.ld (iblk m c 1 t) (Rect.unit (s := S256x2048) ![0, 256 * h] ![256, 256] hi)) (ix2 r d) = X1 m c (ix2 r L) :=
  (kv_at m c t (256 * h) hi (by omega) r d).trans (congrArg (X1 m c) (congrArg (ix2 r) (Fin.ext hL.symm)))
theorem v_at (h : ℕ) (hh : h < 4) (hi) (r d : Fin 256) (L : Fin 2048) (hL : L.val = 1024 + (256 * h + d.val)) :
    k0_pay9 (View.ld (iblk m c 1 t) (Rect.unit (s := S256x2048) ![0, 1024 + 256 * h] ![256, 256] hi)) (ix2 r d)
      = X1 m c (ix2 r L) :=
  (kv_at m c t (1024 + 256 * h) hi (by omega) r d).trans (congrArg (X1 m c) (congrArg (ix2 r) (Fin.ext (by dsimp only; omega))))

/-- The queries' gradient of a point. -/
theorem words4 (r l : Fin 1024) : k0_pay4 (k0_pay7 (iblk m c 2 t) (iblk m c 3 t))
      (k0_pay13 (iblk m c 2 t) (iblk m c 3 t)
        (View.ld (iblk m c 0 t) (Rect.unit ![0, 0] ![1024, 256] Facts₀.inb_S1024x1024_S1024x256_0_0))
        (View.ld (iblk m c 1 t) (Rect.unit ![0, 0] ![256, 256] Facts₀.inb_S256x2048_S256x256_0_0))
        (View.ld (iblk m c 1 t) (Rect.unit ![0, 1024] ![256, 256] Facts₀.inb_S256x2048_S256x256_0_1024)))
      (k0_pay22 (k0_pay7 (iblk m c 2 t) (iblk m c 3 t))
        (View.ld (iblk m c 0 t) (Rect.unit ![0, 256] ![1024, 256] Facts₀.inb_S1024x1024_S1024x256_0_256))
        (View.ld (iblk m c 1 t) (Rect.unit ![0, 256] ![256, 256] Facts₀.inb_S256x2048_S256x256_0_256))
        (View.ld (iblk m c 1 t) (Rect.unit ![0, 1280] ![256, 256] Facts₀.inb_S256x2048_S256x256_0_1280)))
      (k0_pay30 (k0_pay7 (iblk m c 2 t) (iblk m c 3 t))
        (k0_pay25 (View.ld (iblk m c 0 t) (Rect.unit ![0, 512] ![1024, 256] Facts₀.inb_S1024x1024_S1024x256_0_512)))
        (k0_pay26 (View.ld (iblk m c 1 t) (Rect.unit ![0, 512] ![256, 256] Facts₀.inb_S256x2048_S256x256_0_512)))
        (View.ld (iblk m c 1 t) (Rect.unit ![0, 1536] ![256, 256] Facts₀.inb_S256x2048_S256x256_0_1536)))
      (k0_pay34 (View.ld (iblk m c 1 t) (Rect.unit ![0, 768] ![256, 256] Facts₀.inb_S256x2048_S256x256_0_768)))
      (k0_pay35 (View.ld (iblk m c 1 t) (Rect.unit ![0, 1792] ![256, 256] Facts₀.inb_S256x2048_S256x256_0_1792)))
      (k0_pay36 (View.ld (iblk m c 0 t) (Rect.unit ![0, 768] ![1024, 256] Facts₀.inb_S1024x1024_S1024x256_0_768))
        (View.ld (iblk m c 1 t) (Rect.unit ![0, 768] ![256, 256] Facts₀.inb_S256x2048_S256x256_0_768)))
      (ix2 r l) = DQ (X0 m c) (X1 m c) (X2 m c) (X3 m c) (row t r) l := by
  rw [dq_cat, dq0, dq1, dq2]
  refine cat_dq (fun r l => DQ (X0 m c) (X1 m c) (X2 m c) (X3 m c) (row t r) l) _ _ _ _ (fun r d L hL => ?_) (fun r d L hL => ?_) (fun r d L hL => ?_) (fun r d L hL => ?_) r l
  · exact dq_col _ _ _ _ (row t) 0 (by decide) _ _ _ _ (o0 m c t) (q_at m c t 0 _ (by decide)) (k_at m c t 0 (by decide) _) (v_at m c t 0 (by decide) _) r d L (by omega)
  · exact dq_col _ _ _ _ (row t) 1 (by decide) _ _ _ _ (o1 m c t) (q_at m c t 256 _ (by decide)) (k_at m c t 1 (by decide) _) (v_at m c t 1 (by decide) _) r d L (by omega)
  · exact dq_col _ _ _ _ (row t) 2 (by decide) _ _ _ _ (o2 m c t) (q_at m c t 512 _ (by decide)) (k_at m c t 2 (by decide) _) (v_at m c t 2 (by decide) _) r d L (by omega)
  · exact dq_col _ _ _ _ (row t) 3 (by decide) _ _ _ _ (o3 m c t) (q_at m c t 768 _ (by decide)) (k_at m c t 3 (by decide) _) (v_at m c t 3 (by decide) _) r d L (by omega)

theorem point4 (r l : Fin 1024) : (outsAt0 m c t.val t.isLt).1 (ix2 r l) = DQ (X0 m c) (X1 m c) (X2 m c) (X3 m c) (row t r) l := by
  have ht := lt_point t
  by_cases h : t.val = 0
  · rw [outsAt0_A m c t (by omega) (by omega)]
    frame_out
    exact words4 m c t r l
  · rw [outsAt0_B m c t (by omega) (by omega)]
    frame_out
    exact words4 m c t r l

/-- The keys' and values' gradient that a point adds. -/
theorem words5 (r : Fin 256) (l : Fin 2048) : k0_pay5 (k0_pay7 (iblk m c 2 t) (iblk m c 3 t))
      (k0_pay14 (iblk m c 2 t) (iblk m c 3 t)
        (View.ld (iblk m c 0 t) (Rect.unit ![0, 0] ![1024, 256] Facts₀.inb_S1024x1024_S1024x256_0_0))
        (View.ld (iblk m c 1 t) (Rect.unit ![0, 0] ![256, 256] Facts₀.inb_S256x2048_S256x256_0_0))
        (View.ld (iblk m c 1 t) (Rect.unit ![0, 1024] ![256, 256] Facts₀.inb_S256x2048_S256x256_0_1024)))
      (k0_pay16 (k0_pay11 (iblk m c 2 t) (iblk m c 3 t))
        (k0_pay15 (View.ld (iblk m c 0 t) (Rect.unit ![0, 0] ![1024, 256] Facts₀.inb_S1024x1024_S1024x256_0_0))
          (View.ld (iblk m c 1 t) (Rect.unit ![0, 0] ![256, 256] Facts₀.inb_S256x2048_S256x256_0_0))))
      (k0_pay23 (k0_pay7 (iblk m c 2 t) (iblk m c 3 t))
        (View.ld (iblk m c 0 t) (Rect.unit ![0, 256] ![1024, 256] Facts₀.inb_S1024x1024_S1024x256_0_256))
        (View.ld (iblk m c 1 t) (Rect.unit ![0, 256] ![256, 256] Facts₀.inb_S256x2048_S256x256_0_256))
        (View.ld (iblk m c 1 t) (Rect.unit ![0, 1280] ![256, 256] Facts₀.inb_S256x2048_S256x256_0_1280)))
      (k0_pay24 (k0_pay7 (iblk m c 2 t) (iblk m c 3 t))
        (View.ld (iblk m c 0 t) (Rect.unit ![0, 256] ![1024, 256] Facts₀.inb_S1024x1024_S1024x256_0_256))
        (View.ld (iblk m c 1 t) (Rect.unit ![0, 256] ![256, 256] Facts₀.inb_S256x2048_S256x256_0_256)))
      (k0_pay31 (k0_pay7 (iblk m c 2 t) (iblk m c 3 t))
        (k0_pay25 (View.ld (iblk m c 0 t) (Rect.unit ![0, 512] ![1024, 256] Facts₀.inb_S1024x1024_S1024x256_0_512)))
        (k0_pay26 (View.ld (iblk m c 1 t) (Rect.unit ![0, 512] ![256, 256] Facts₀.inb_S256x2048_S256x256_0_512)))
        (View.ld (iblk m c 1 t) (Rect.unit ![0, 1536] ![256, 256] Facts₀.inb_S256x2048_S256x256_0_1536)))
      (k0_pay32 (k0_pay7 (iblk m c 2 t) (iblk m c 3 t))
        (k0_pay25 (View.ld (iblk m c 0 t) (Rect.unit ![0, 512] ![1024, 256] Facts₀.inb_S1024x1024_S1024x256_0_512)))
        (k0_pay26 (View.ld (iblk m c 1 t) (Rect.unit ![0, 512] ![256, 256] Facts₀.inb_S256x2048_S256x256_0_512))))
      (k0_pay33 (View.ld (iblk m c 0 t) (Rect.unit ![0, 768] ![1024, 256] Facts₀.inb_S1024x1024_S1024x256_0_768)))
      (k0_pay35 (View.ld (iblk m c 1 t) (Rect.unit ![0, 1792] ![256, 256] Facts₀.inb_S256x2048_S256x256_0_1792)))
      (k0_pay36 (View.ld (iblk m c 0 t) (Rect.unit ![0, 768] ![1024, 256] Facts₀.inb_S1024x1024_S1024x256_0_768))
        (View.ld (iblk m c 1 t) (Rect.unit ![0, 768] ![256, 256] Facts₀.inb_S256x2048_S256x256_0_768)))
      (ix2 r l) = ∑ k, DKV (X0 m c) (X1 m c) (X2 m c) (X3 m c) (row t k) r l := by
  rw [dkv_cat, dk0, dv0, dk1, dv1, dk2, dv2]
  have H : ∀ (F : Fin 256 → Fin 2048 → EReal) (p0 p1 p2 p3 p4 p5 p6 p7 : FVec Ideal S256x256 .f32)
      (_ : ∀ (h : Fin 8) r (l : Fin 256) (L : Fin 2048), L.val = 256 * h.val + l.val → (![p0, p1, p2, p3, p4, p5, p6, p7] h) (ix2 r l) = F r L), _ :=
    fun F p0 p1 p2 p3 p4 p5 p6 p7 h => cat_dkv F ![p0, p1, p2, p3, p4, p5, p6, p7] h r l
  refine H (fun r l => ∑ k, DKV (X0 m c) (X1 m c) (X2 m c) (X3 m c) (row t k) r l) _ _ _ _ _ _ _ _ fun h a b L hL => ?_
  match h with
  | 0 => exact dk_col _ _ _ _ (row t) 0 (by decide) _ _ _ _ (o0 m c t) (q_at m c t 0 _ (by decide)) (k_at m c t 0 (by decide) _) (v_at m c t 0 (by decide) _) a b L hL
  | 1 => exact dk_col _ _ _ _ (row t) 1 (by decide) _ _ _ _ (o1 m c t) (q_at m c t 256 _ (by decide)) (k_at m c t 1 (by decide) _) (v_at m c t 1 (by decide) _) a b L hL
  | 2 => exact dk_col _ _ _ _ (row t) 2 (by decide) _ _ _ _ (o2 m c t) (q_at m c t 512 _ (by decide)) (k_at m c t 2 (by decide) _) (v_at m c t 2 (by decide) _) a b L hL
  | 3 => exact dk_col _ _ _ _ (row t) 3 (by decide) _ _ _ _ (o3 m c t) (q_at m c t 768 _ (by decide)) (k_at m c t 3 (by decide) _) (v_at m c t 3 (by decide) _) a b L hL
  | 4 => exact dv_col _ _ _ _ (row t) 0 (by decide) _ _ _ (o0 m c t) (q_at m c t 0 _ (by decide)) (k_at m c t 0 (by decide) _) a b L (hL.trans (by show 256 * 4 + b.val = _; omega))
  | 5 => exact dv_col _ _ _ _ (row t) 1 (by decide) _ _ _ (o1 m c t) (q_at m c t 256 _ (by decide)) (k_at m c t 1 (by decide) _) a b L (hL.trans (by show 256 * 5 + b.val = _; omega))
  | 6 => exact dv_col _ _ _ _ (row t) 2 (by decide) _ _ _ (o2 m c t) (q_at m c t 512 _ (by decide)) (k_at m c t 2 (by decide) _) a b L (hL.trans (by show 256 * 6 + b.val = _; omega))
  | 7 => exact dv_col _ _ _ _ (row t) 3 (by decide) _ _ _ (o3 m c t) (q_at m c t 768 _ (by decide)) (k_at m c t 3 (by decide) _) a b L (hL.trans (by show 256 * 7 + b.val = _; omega))

end Point

/-- The queries' gradient after the run. -/
theorem final4 (c : Dev nD) : (dats m 0 c).arrAt 4 (cfgs 0).N = fun i : S8192x1024.Idx => DQ (X0 m c) (X1 m c) (X2 m c) (X3 m c) (i 0) (i 1) := by
  refine (dats m 0 c).arrAt_eq_of_covers 4 _ (by decide +kernel) fun t hf y => ?_
  blk_simp
  obtain ⟨r, l, rfl⟩ : ∃ (r l : Fin 1024), y = ix2 r l := ⟨y 0, y 1, by blk_ext []⟩
  rw [show ((cfg0.win 4).blk t).view.emb (ix2 r l) = ix2 (row t r) l by blk_ext [idx t]]
  rw [after0_4]
  exact point4 m c t r l

/-- The last point. -/
abbrev t0_7 : Fin cfg0.N := ⟨7, by decide +kernel⟩

/-- The keys' and values' gradient after the run. -/
theorem final5 (c : Dev nD) : (dats m 0 c).arrAt 5 (cfgs 0).N
    = fun i : S256x2048.Idx => ∑ R, DKV (X0 m c) (X1 m c) (X2 m c) (X3 m c) R (i 0) (i 1) := by
  refine (dats m 0 c).arrAt_eq_of_after_last 5 t0_7 (by decide +kernel) _ fun j => ?_
  blk_simp
  obtain ⟨r, l, rfl⟩ : ∃ (r : Fin 256) (l : Fin 2048), j = ix2 r l := ⟨j 0, j 1, by blk_ext []⟩
  rw [after0_5]
  refine (Cert.Num.run_sum (fun n h => (outsAt0 m c n h).2 (ix2 r l)) (fun t => ∑ k, DKV (X0 m c) (X1 m c) (X2 m c) (X3 m c) (row t k) r l) (fun t h => ?_) (fun t h => ?_) 7 _).trans ?_
  · beta_reduce
    rw [outsAt0_A m c t (by omega) (by omega)]
    frame_out
    exact words5 m c t r l
  · have ht := lt_point t
    beta_reduce
    rw [outsAt0_B m c t (by omega) (by omega)]
    frame_out
    rw [← words5 m c t r l]
    unfold k0_pay6
    pointwise []
    rfl
  · exact Fin.sum_mul_add_congr fun s r' hl => by rw [show row ⟨s.val, by have : cfg0.N = 8 := N_0; omega⟩ r' = ⟨s.val * 1024 + r'.val, hl⟩ from Fin.ext (show 1024 * s.val + r'.val = s.val * 1024 + r'.val by omega)]; rfl

end Cert.Kernel3Ideal.Value
-- ==== Proof.XattnRef.lean ====
module

public import proofs.«01_k».proof.Proof.Gen.Reference3Ideal.Run
public import proofs.«01_k».proof.Proof.Gen.Reference3Ideal.Read
public import proofs.«01_k».proof.Proof.XattnHead
public import proofs.«01_k».proof.Proof.Numbers
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Xattn
open Finset Cert.Num

/-- Exponentials of real scores are positive. -/
theorem ex_real (f : Fin 256 → ℝ) : ∃ e : Fin 256 → ℝ, (∀ m, 0 < e m) ∧ ∀ m, ex (fun j => ((f j : ℝ) : EReal)) m = ((e m : ℝ) : EReal) := by
  obtain ⟨M, hM⟩ := fold_max_coe univ ⟨(0 : Fin 256), mem_univ _⟩ f
  refine ⟨fun m => Real.exp (f m - M), fun m => Real.exp_pos _, fun m => ?_⟩
  unfold ex mx
  rw [minus_infinity, hM, ← EReal.coe_sub]
  rfl

/-- The scores' gradient with the division by the sum of exponentials undone. -/
theorem ds_eq (e : Fin 256 → ℝ) (he : ∀ m, 0 < e m) (g : Fin 256 → EReal) (S : EReal) (hS : S = ∑ j, ((e j : ℝ) : EReal)) (m : Fin 256) :
    Ideal.div ((Ideal.div (g m) S + -(∑ j, g j * Ideal.div 1 (S * S) * ((e j : ℝ) : EReal))) * ((e m : ℝ) : EReal)) ((16 : ℝ) : EReal)
      = Ideal.div ((e m : ℝ) : EReal) S * (g m - ∑ j, g j * Ideal.div ((e j : ℝ) : EReal) S) * ((1 / 16 : ℝ) : EReal) := by
  have hpos : 0 < ∑ j, e j := sum_pos (fun j _ => he j) ⟨(0 : Fin 256), mem_univ _⟩
  rw [hS, sum_coe, ← EReal.coe_mul, Ideal.div_coe (by norm_num), Ideal.div_coe hpos.ne', Ideal.div_coe hpos.ne', ← EReal.coe_mul]
  generalize ∑ j, e j = T at hpos
  have key : ∑ j, g j * Ideal.div 1 ((T * T : ℝ) : EReal) * ((e j : ℝ) : EReal) = (∑ j, g j * Ideal.div ((e j : ℝ) : EReal) ((T : ℝ) : EReal)) * ((1 / T : ℝ) : EReal) := by
    rw [mul_sum_coe _ _ _ (by positivity)]
    refine sum_congr rfl fun j _ => ?_
    rw [Ideal.div_coe (by positivity), Ideal.div_coe hpos.ne', one_mul, ← EReal.coe_mul, mul_assoc, mul_assoc, ← EReal.coe_mul, ← EReal.coe_mul]
    congr 2
    field_simp
  rw [key, ← EReal.neg_mul, ← EReal.right_distrib_of_nonneg_of_ne_top (by exact_mod_cast (by positivity : 0 ≤ 1 / T)) (EReal.coe_ne_top _), ← sub_eq_add_neg]
  generalize g m - _ = X
  rw [mul_assoc X, ← EReal.coe_mul, mul_comm X, one_div_mul_eq_div, mul_one_div]

end Cert.Xattn

namespace Cert.Reference3Ideal.Read
open Cert.Reference3Ideal Cert.Reference3Ideal.Gen Cert.Xattn Cert.Num Finset

variable (x0 : FVec Ideal SX .f32) (x1 : FVec Ideal SKV .f32) (x2 : FVec Ideal Xattn.SW .f32) (x3 : FVec Ideal SX .f32)

theorem v2_at (R : Fin 8192) (h : Fin 4) (d : Fin 256) (L : Fin 1024) (hL : L.val = 256 * h.val + d.val) :
    val_main_v2 (F := Ideal) x0 (ix3 R h d) = x0 (ix2 R L) := by
  unfold val_main_v2
  pointwise []
  refine congrArg x0 ?_
  blk_ext []

theorem v3_at (m : Fin 256) (h : Fin 4) (d : Fin 256) (L : Fin 2048) (hL : L.val = 256 * h.val + d.val) :
    val_main_v3 (F := Ideal) x1 (ix3 m h d) = x1 (ix2 m L) := by
  unfold val_main_v3 val_main_v0
  pointwise []
  refine congrArg x1 ?_
  blk_ext []

theorem v4_at (m : Fin 256) (h : Fin 4) (d : Fin 256) (L : Fin 2048) (hL : L.val = 1024 + (256 * h.val + d.val)) :
    val_main_v4 (F := Ideal) x1 (ix3 m h d) = x1 (ix2 m L) := by
  unfold val_main_v4 val_main_v1
  pointwise []
  refine congrArg x1 ?_
  blk_ext []

theorem v42_at (h : Fin 4) (d : Fin 256) (R : Fin 8192) (L : Fin 1024) (hL : L.val = 256 * h.val + d.val) :
    val_main_v42 (F := Ideal) x2 x3 (ix3 h d R) = dout x2 x3 R L := by
  unfold val_main_v42 val_main_v41 val_main_v40 dout
  pointwise []
  rw [show (⟨h.val * 256 + d.val, by omega⟩ : Fin 1024) = L from Fin.ext (by dsimp only; omega)]

theorem v7_at (h : Fin 4) (R : Fin 8192) (m : Fin 256) (L : Fin 1024) (hL : L.val / 256 = h.val) :
    val_main_v7 (F := Ideal) x0 x1 (ix3 h R m) = scores x0 x1 R L m := by
  unfold val_main_v7 val_main_v6 val_main_v5
  unfold scores
  pointwise [val_main_cst]
  rw [sixteen, sixteenth, Ideal.div_coe (by norm_num)]
  refine congrArg (· * _) (Finset.sum_congr rfl fun d _ => congrArg₂ (· * ·) (v2_at x0 R h d _ ?_) (v3_at x1 m h d _ ?_)) <;> simp only [hc, kc, hL]

theorem v43_at (h : Fin 4) (R : Fin 8192) (m : Fin 256) (L : Fin 1024) (hL : L.val / 256 = h.val) :
    val_main_v43 (F := Ideal) x1 x2 x3 (ix3 h R m) = dw x1 x2 x3 R L m := by
  unfold val_main_v43 dw
  pointwise []
  refine Finset.sum_congr rfl fun d _ => congrArg₂ (· * ·) (v42_at x2 x3 h d R _ ?_) (v4_at x1 m h d _ ?_) <;> simp only [hc, vc, hL]

section Soft
variable (s : Fin 256 → EReal) (R : Fin 8192) (h : Fin 4)

theorem v8_at (hs : ∀ m, val_main_v7 (F := Ideal) x0 x1 (ix3 h R m) = s m) : val_main_v8 (F := Ideal) x0 x1 (ix2 h R) = mx s := by
  unfold val_main_v8
  generalize val_main_v7 (F := Ideal) x0 x1 = y at hs ⊢
  pointwise [val_main_cst_0]
  simp only [hs]
  rfl

theorem max_bot (x : EReal) : max (Ideal.ofBits .f32 0xFF800000#32) x = x := by
  rw [minus_infinity]
  exact max_eq_right bot_le

theorem v15_at (hs : ∀ m, val_main_v7 (F := Ideal) x0 x1 (ix3 h R m) = s m) : val_main_v15 (F := Ideal) x0 x1 (ix2 h R) = mx s := by
  rw [val_main_v15_apply, v8_at x0 x1 s R h hs, val_main_v14_apply]
  exact max_bot _

theorem v26_at (hs : ∀ m, val_main_v7 (F := Ideal) x0 x1 (ix3 h R m) = s m) (m : Fin 256) : val_main_v26 (F := Ideal) x0 x1 (ix3 h R m) = mx s := by
  rw [← v15_at x0 x1 s R h hs]
  unfold val_main_v26 val_main_v25
  generalize val_main_v15 (F := Ideal) x0 x1 = z
  pointwise []

theorem v28_at (hs : ∀ m, val_main_v7 (F := Ideal) x0 x1 (ix3 h R m) = s m) (m : Fin 256) : val_main_v28 (F := Ideal) x0 x1 (ix3 h R m) = ex s m := by
  rw [val_main_v28_apply, val_main_v27_apply, v26_at x0 x1 s R h hs m, hs m]
  rfl

theorem v32_at (hs : ∀ m, val_main_v7 (F := Ideal) x0 x1 (ix3 h R m) = s m) (m : Fin 256) : val_main_v32 (F := Ideal) x0 x1 (ix3 h R m) = sm s m := by
  unfold val_main_v32 val_main_v31 val_main_v30 val_main_v29
  have h28 := v28_at x0 x1 s R h hs
  generalize val_main_v28 (F := Ideal) x0 x1 = y at h28 ⊢
  pointwise [val_main_cst_8]
  simp only [h28]
  rfl

theorem v59_at (f : Fin 256 → ℝ) (hf : ∀ m, s m = f m) (hs : ∀ m, val_main_v7 (F := Ideal) x0 x1 (ix3 h R m) = s m) (g : Fin 256 → EReal) (hg : ∀ m, val_main_v43 (F := Ideal) x1 x2 x3 (ix3 h R m) = g m) (m : Fin 256) :
    val_main_v59 (F := Ideal) x0 x1 x2 x3 (ix3 h R m) = ds s g m := by
  obtain ⟨e, he, hx⟩ := ex_real f
  obtain rfl : s = _ := funext hf
  unfold ds sm
  simp only [hx]
  rw [sixteenth, ← ds_eq e he g _ rfl, ← sixteen]
  unfold val_main_v59 val_main_v58 val_main_v57 val_main_v56 val_main_v55 val_main_v54 val_main_v53 val_main_v52 val_main_v51 val_main_v50 val_main_v49 val_main_v48 val_main_v47 val_main_v46
  unfold val_main_v35 val_main_v34 val_main_v33 val_main_v30 val_main_v29
  have h28 := fun m => (v28_at x0 x1 _ R h hs m).trans (hx m)
  generalize val_main_v28 (F := Ideal) x0 x1 = y at h28 ⊢
  generalize val_main_v43 (F := Ideal) x1 x2 x3 = z at hg ⊢
  pointwise [val_main_cst_8, val_main_cst_9, val_main_cst_10, val_main_cst_11, val_main_cst_12]
  simp only [h28, hg, Finset.univ_unique (α := Fin 1), Finset.sum_singleton]

end Soft

section Real
variable (hx : ∀ i, ∃ r : ℝ, x0 i = r) (hk : ∀ i, ∃ r : ℝ, x1 i = r)
include hx hk

theorem scores_real (R : Fin 8192) (L : Fin 1024) (m : Fin 256) : ∃ r : ℝ, scores x0 x1 R L m = r := by
  choose f hf using hx
  choose g hg using hk
  unfold scores
  simp only [hf, hg, ← EReal.coe_mul, sum_coe, sixteenth]
  exact ⟨_, rfl⟩

theorem v59_eq (R : Fin 8192) (h : Fin 4) (m : Fin 256) (L : Fin 1024) (hL : L.val / 256 = h.val) :
    val_main_v59 (F := Ideal) x0 x1 x2 x3 (ix3 h R m) = dsc x0 x1 x2 x3 R L m := by
  choose f hf using scores_real x0 x1 hx hk R L
  exact v59_at x0 x1 x2 x3 _ R h f hf (fun m => v7_at x0 x1 h R m L hL) _ (fun m => v43_at x1 x2 x3 h R m L hL) m

theorem v68_at (R : Fin 8192) (l : Fin 1024) : val_main_v68 (F := Ideal) x0 x1 x2 x3 (ix2 R l) = DQ x0 x1 x2 x3 R l := by
  unfold val_main_v68 val_main_v66 val_main_v63 val_main_v62
  pointwise []
  exact Finset.sum_congr rfl fun m _ => congrArg₂ (· * ·) (v59_eq x0 x1 x2 x3 hx hk R _ m l rfl) (v3_at x1 m _ _ _ (by dsimp only; omega))

theorem v67_at (m : Fin 256) (l : Fin 2048) : val_main_v67 (F := Ideal) x0 x1 x2 x3 (ix2 m l) = ∑ R, DKV x0 x1 x2 x3 R m l := by
  unfold val_main_v67 val_main_v65 val_main_v61 val_main_v60 val_main_v64 val_main_v45 val_main_v44
  pointwise []
  split
  · rename_i hl
    refine Finset.sum_congr rfl fun R _ => Eq.trans ?_ (dif_pos hl).symm
    exact congrArg₂ (· * ·) (v59_eq x0 x1 x2 x3 hx hk R _ m _ rfl) (v2_at x0 R _ _ _ (by dsimp only; omega))
  · rename_i hl
    refine Finset.sum_congr rfl fun R _ => Eq.trans (mul_comm _ _) (Eq.trans ?_ (dif_neg hl).symm)
    exact congrArg₂ (· * ·) (v32_at x0 x1 _ R _ (fun m => v7_at x0 x1 _ R m _ rfl) m) (v42_at x2 x3 _ _ R _ (by dsimp only; omega))

end Real

end Cert.Reference3Ideal.Read
-- ==== Proof.Xattn.lean ====
module

public import proofs.«01_k».proof.Defs
public import proofs.«01_k».proof.Proof.XattnValue
public import proofs.«01_k».proof.Proof.XattnRef
public import Idealize.ShloMosaic.Lib.Claim

/-! The gradients of the attention over the memory: the kernel's eight blocks of queries against the derivative of the attention. -/

@[expose] public section

set_option maxRecDepth 16384

noncomputable section

open Idealize.ShloMosaic Idealize.ShloMosaic.TcCoe Idealize.SL.Sem

namespace Cert.Proof
open Cert.Kernel3Ideal.Value

theorem finite3 : Cert.Pre_pre3.Facts := ⟨by decide, by decide⟩

/-- What the precondition says of the queries, the keys and the values. -/
theorem real3 (m : (ℓ : Loc Cert.Kernel3Ideal.nD Cert.Kernel3Ideal.τ Cert.Kernel3Ideal.sig) → Buf (Elt Ideal) ℓ)
    (h : Cert.Pre_Kernel3Ideal_pre3 (hPre_pre3 := finite3) m) (c : Dev Cert.Kernel3Ideal.nD) :
    (∀ i, ∃ r : ℝ, X0 m c i = r) ∧ ∀ i, ∃ r : ℝ, X1 m c i = r :=
  ⟨fun i => Cert.Num.real_of_cmp (congrFun (h c).1 i), fun i => Cert.Num.real_of_cmp (congrFun (h c).2 i)⟩

/-- Both programs run, and the kernel's results are the derivatives of the attention. -/
theorem xattn_algebraic : Cert.algebraic_Kernel3Ideal_Reference3Ideal_pre_pre3 (hPre_pre3 := finite3) := fun m ρ m' ρ' hp hag =>
  ⟨fun c => Cert.Reference3Ideal.Value.res_main_v68 m' c, fun c => Cert.Reference3Ideal.Value.res_main_v67 m' c,
    (θ_run _ _ _).mono (fun _ h c => by
      obtain ⟨h0, h1, h2, h3⟩ := hag c
      obtain ⟨hx, hk⟩ := real3 m hp c
      beta_reduce
      rw [Cert.Reference3Ideal.Read.val_main_v68_eq, Cert.Reference3Ideal.Read.val_main_v67_eq, h0, h1, h2, h3]
      refine ⟨(h c).1.trans ((final4 m c).trans (funext fun i => ?_)), (h c).2.1.trans ((final5 m c).trans (funext fun i => ?_)), (h c).2.2⟩
      · obtain ⟨R, l, rfl⟩ : ∃ (R : Fin 8192) (l : Fin 1024), i = ix2 R l := ⟨i 0, i 1, by blk_ext []⟩
        exact (Cert.Reference3Ideal.Read.v68_at (X0 m c) (X1 m c) (X2 m c) (X3 m c) hx hk R l).symm
      · obtain ⟨R, l, rfl⟩ : ∃ (R : Fin 256) (l : Fin 2048), i = ix2 R l := ⟨i 0, i 1, by blk_ext []⟩
        exact (Cert.Reference3Ideal.Read.v67_at (X0 m c) (X1 m c) (X2 m c) (X3 m c) hx hk R l).symm)
      (Cert.Kernel3Ideal.Value.run_blocks m ρ),
    Cert.Reference3Ideal.Value.run m' ρ'⟩

/-- The reference runs and leaves its arguments as they were. -/
theorem xattn_reference : Cert.quiescent_Reference3Ideal := fun m ρ _ =>
  (θ_run _ _ _).mono (fun r h => ⟨fun c => (h c).2.2, sem_eq_zero_of_no_sems (by decide) r.2⟩) (Cert.Reference3Ideal.Value.run m ρ)

end Cert.Proof

end
-- ==== Proof.NormRow.lean ====
module

public import proofs.«01_k».proof.Proof.Numbers
public import Idealize.ShloMosaic.Lib.Pipeline.ValueKit

/-! The derivative of the root mean square norm, one row. -/

@[expose] public section

set_option maxRecDepth 16384

noncomputable section

open Idealize.ShloMosaic Finset

namespace Cert.Num

theorem f1024 : Ideal.ofBits .f32 0x44800000#32 = ((1024 : ℝ) : EReal) := by
  simp [Ideal.ofBits, Ideal.ieee]
  rw [← EReal.coe_mul]
  norm_num

theorem minus_half : Ideal.ofBits .f32 0xBF000000#32 = ((-(1 / 2) : ℝ) : EReal) := by
  simp [Ideal.ofBits, Ideal.ieee]
  rw [← EReal.coe_mul]
  congr 1
  norm_num

/-- The literal added under the root is a positive real. -/
theorem eps_pos : ∃ e : ℝ, 0 < e ∧ Ideal.ofBits .f32 0x358637BD#32 = (e : EReal) := by
  refine ⟨8796093 / 2 ^ 43, by positivity, ?_⟩
  simp [Ideal.ofBits, Ideal.ieee]
  rw [← EReal.coe_mul]
  norm_num

theorem sq_nonneg' (x : EReal) : 0 ≤ x * x := by
  induction x with
  | bot => simp
  | top => simp
  | coe r => rw [← EReal.coe_mul]; exact_mod_cast mul_self_nonneg r

/-- A sum of squares is a nonnegative real, or some of its terms is infinite. -/
theorem sum_sq {n : ℕ} (x : Fin n → EReal) : (∃ f : Fin n → ℝ, x = fun l => ((f l : ℝ) : EReal)) ∨ ∑ l, x l * x l = ⊤ := by
  by_cases h : ∃ l, x l * x l = ⊤
  · right
    obtain ⟨l, hl⟩ := h
    exact top_le_iff.1 (hl ▸ Finset.single_le_sum (f := fun l => x l * x l) (fun i _ => sq_nonneg' (x i)) (mem_univ l))
  · left
    have hx : ∀ l, ∃ r : ℝ, x l = r := fun l => by
      have hl : ¬ x l * x l = ⊤ := fun e => h ⟨l, e⟩
      generalize x l = y at hl
      induction y with
      | bot => simp at hl
      | top => simp at hl
      | coe r => exact ⟨r, rfl⟩
    choose f hf using hx
    exact ⟨f, funext hf⟩

theorem add_self (y : EReal) : y + y = ((2 : ℝ) : EReal) * y := by
  induction y with
  | bot => rw [EReal.coe_mul_bot_of_pos (by norm_num)]; rfl
  | top => rw [EReal.coe_mul_top_of_pos (by norm_num)]; rfl
  | coe r => rw [← EReal.coe_add, ← EReal.coe_mul, two_mul]

/-- The mean square with the literal. -/
def msq (x : Fin 1024 → EReal) : EReal :=
  Ideal.div (∑ l, x l * x l) (Ideal.ofBits .f32 0x44800000#32) + Ideal.ofBits .f32 0x358637BD#32

theorem msq_cases (x : Fin 1024 → EReal) :
    (∃ f : Fin 1024 → ℝ, ∃ m : ℝ, x = (fun l => ((f l : ℝ) : EReal)) ∧ 0 < m ∧ msq x = m) ∨ msq x = ⊤ := by
  obtain ⟨e, he, hE⟩ := eps_pos
  rcases sum_sq x with ⟨f, rfl⟩ | h
  · left
    refine ⟨f, (∑ l, f l * f l) * (1 / 1024) + e, rfl, ?_, ?_⟩
    · have := Finset.sum_nonneg (fun l (_ : l ∈ univ) => mul_self_nonneg (f l))
      positivity
    · unfold msq
      rw [hE, f1024, Ideal.div_coe (by norm_num)]
      simp only [← EReal.coe_mul, sum_coe, ← EReal.coe_add]
  · right
    unfold msq
    rw [hE, f1024, Ideal.div_coe (by norm_num), h, EReal.top_mul_coe_of_pos (by norm_num)]
    rfl

/-- The factor of a row. -/
def rs (x : Fin 1024 → EReal) : EReal := Ideal.rsqrt (msq x)

/-- The reference's coefficient of a row: the derivative of the factor. -/
def cf (x d : Fin 1024 → EReal) : EReal :=
  Ideal.div ((∑ l, x l * d l) * (Ideal.ofBits .f32 0xBF000000#32 * Ideal.div (rs x) (msq x))) (Ideal.ofBits .f32 0x44800000#32)

/-- The derivative as the kernel forms it is the one of the reference. -/
theorem norm_row (x d : Fin 1024 → EReal) (y : EReal) (j : Fin 1024) :
    rs x * (d j - x j * rs x * Ideal.div (∑ l, d l * (x l * rs x)) (Ideal.ofBits .f32 0x44800000#32)) + y
      = y + d j * rs x + x j * cf x d + cf x d * x j := by
  rcases msq_cases x with ⟨f, m, rfl, hm, hms⟩ | hms
  · have hr : rs (fun l => ((f l : ℝ) : EReal)) = (((Real.sqrt m)⁻¹ : ℝ) : EReal) := by
      unfold rs
      rw [hms, Ideal.rsqrt_coe, if_neg (by linarith), if_neg hm.ne']
    have hρ : 0 ≤ (Real.sqrt m)⁻¹ := by positivity
    have hcube : (Real.sqrt m)⁻¹ * (1 / m) = (Real.sqrt m)⁻¹ * ((Real.sqrt m)⁻¹ * (Real.sqrt m)⁻¹) := by
      rw [← mul_inv, Real.mul_self_sqrt hm.le, one_div]
    unfold cf
    rw [hr, hms, f1024, minus_half]
    generalize (Real.sqrt m)⁻¹ = ρ at hρ hcube
    simp only [Ideal.div_coe hm.ne', Ideal.div_coe (show (1024 : ℝ) ≠ 0 by norm_num)]
    have hs : (∑ l, d l * (((f l : ℝ) : EReal) * (ρ : EReal))) = (∑ l, ((f l : ℝ) : EReal) * d l) * (ρ : EReal) := by
      rw [mul_sum_coe _ _ _ hρ]
      exact sum_congr rfl fun l _ => by rw [← mul_assoc, mul_comm (d l)]
    rw [hs]
    generalize (∑ l, ((f l : ℝ) : EReal) * d l) = S
    generalize d j = D
    generalize f j = X
    have h1 : (ρ : EReal) * (D - (X : EReal) * ρ * (S * ρ * ((1 / 1024 : ℝ) : EReal))) = D * ρ + -(S * ((X * ρ * ρ * ρ * (1 / 1024) : ℝ) : EReal)) := by
      rw [sub_eq_add_neg, EReal.left_distrib_of_nonneg_of_ne_top (by exact_mod_cast hρ) (EReal.coe_ne_top _), mul_comm, mul_neg]
      congr 2
      simp only [EReal.coe_mul]
      ac_rfl
    have h2 : (X : EReal) * (S * (((-(1 / 2) : ℝ) : EReal) * ((ρ : EReal) * ((1 / m : ℝ) : EReal))) * ((1 / 1024 : ℝ) : EReal))
        = S * ((X * (-(1 / 2)) * (ρ * (1 / m)) * (1 / 1024) : ℝ) : EReal) := by
      simp only [EReal.coe_mul]
      ac_rfl
    rw [h1, mul_comm (S * _ * _) (X : EReal), h2, hcube, add_comm _ y, add_assoc (y + _), add_self, add_assoc]
    congr 2
    rw [← mul_neg, ← EReal.coe_neg, mul_left_comm, ← EReal.coe_mul]
    congr 2
    ring
  · have hr : rs x = 0 := by unfold rs; rw [hms]; rfl
    have hc : cf x d = 0 := by
      unfold cf
      rw [hr, hms, f1024, Ideal.div_coe (by norm_num)]
      have : Ideal.div 0 ⊤ = 0 := by unfold Ideal.div; simp
      rw [this]
      simp
    rw [hr, hc]
    simp

/-- A read of some rows of a block. -/
theorem rows_at {α : Type} {H T n off : ℕ} (inb : ∀ a, (![off, 0] : Fin 2 → ℕ) a + (![T, n] : Fin 2 → ℕ) a ≤ (⟨2, ![H, n]⟩ : Shape).size a)
    (f : (⟨2, ![H, n]⟩ : Shape).Idx → α) (r : Fin T) (k : Fin n) (R : Fin H) (hR : R.val = off + r.val) :
    f ((Rect.unit (s := ⟨2, ![H, n]⟩) ![off, 0] ![T, n] inb).idx (ix2 r k)) = f (ix2 R k) := by
  refine congrArg f (funext fun a => ?_)
  fin_cases a <;> exact Fin.ext (by simp [Rect.unit, ix2, hR])

/-- A sum over rows, by tiles and their parts. -/
theorem sum_parts {N J H T : ℕ} (hN : J * (H * T) = N) (f : Fin N → EReal) (e : Fin J → Fin H → Fin T → Fin N)
    (he : ∀ t h r, (e t h r).val = H * T * t.val + (T * h.val + r.val)) : ∑ t, ∑ h, ∑ r, f (e t h r) = ∑ R, f R := by
  rw [Fin.sum_univ_tiles J (H * T) hN f]
  refine sum_congr rfl fun t _ => ?_
  rw [Fin.sum_univ_tiles H T rfl]
  exact sum_congr rfl fun h _ => sum_congr rfl fun r _ => congrArg f (Fin.ext (by rw [he]; simp [Nat.mul_comm]))

end Cert.Num
-- ==== Proof.NormQuery.lean ====
module

public import proofs.«01_k».proof.Defs
public import proofs.«01_k».proof.Proof.Gen.Kernel4Ideal.Value
public import proofs.«01_k».proof.Proof.Gen.Reference4Ideal.Read
public import proofs.«01_k».proof.Proof.NormRow
public import Idealize.ShloMosaic.Lib.Pipeline.ValueKit
public import Idealize.ShloMosaic.Lib.Pointwise
public import Idealize.ShloMosaic.Lib.Claim

/-! The gradient through the norm in front of the query projection. -/

@[expose] public section

set_option maxRecDepth 16384

noncomputable section

open Idealize.ShloMosaic Idealize.ShloMosaic.TcCoe Idealize.SL.Sem
open Idealize.ShloMosaic.Pipeline (Dat)

namespace Cert.Reference4Ideal.Read
open Cert.Reference4Ideal Cert.Num Finset

variable (x0 : FVec Ideal S8192x1024 .f32) (x1 : FVec Ideal S1x1024 .f32) (x2 : FVec Ideal S1024x1024 .f32) (x3 x4 : FVec Ideal S8192x1024 .f32)

/-- The gradient of the normed rows. -/
def dy (R : Fin 8192) (l : Fin 1024) : EReal := ∑ k : Fin 1024, x3 (ix2 R k) * x2 (ix2 l k)

/-- A row of the norm's argument. -/
def xr (R : Fin 8192) (l : Fin 1024) : EReal := x0 (ix2 R l)

/-- The gradient of the normed rows with the gain. -/
def dn (R : Fin 8192) (l : Fin 1024) : EReal := dy x2 x3 R l * x1 (ix2 0 l)

theorem v6_at (R : Fin 8192) (z : Fin 1) : val_main_v6 (F := Ideal) x0 (ix2 R z) = msq (xr x0 R) := by
  unfold msq xr
  pointwise [val_main_v6, val_main_v5, val_main_v4, val_main_v3, val_main_v2, val_main_v1, val_main_v0, val_main_cst, val_main_cst_0, val_main_cst_1]

theorem v7_at (R : Fin 8192) (z : Fin 1) : val_main_v7 (F := Ideal) x0 (ix2 R z) = rs (xr x0 R) := by
  rw [rs, ← v6_at x0 R z]
  rfl

theorem v16_at (R : Fin 8192) (l : Fin 1024) : val_main_v16 (F := Ideal) x2 x3 (ix2 R l) = dy x2 x3 R l := by
  unfold dy
  pointwise [val_main_v16]

theorem v21_at (R : Fin 8192) (l : Fin 1024) : val_main_v21 (F := Ideal) x1 x2 x3 (ix2 R l) = dn x1 x2 x3 R l := by
  rw [dn, ← v16_at x2 x3 R l]
  unfold val_main_v21
  generalize val_main_v16 (F := Ideal) x2 x3 = d
  pointwise [val_main_v20]

theorem v32_at (R : Fin 8192) (l : Fin 1024) : val_main_v32 (F := Ideal) x0 x1 x2 x3 (ix2 R l) = cf (xr x0 R) (dn x1 x2 x3 R) := by
  unfold cf
  simp only [← v21_at, ← v6_at x0 R 0, ← v7_at x0 R 0]
  unfold val_main_v32 val_main_v31 val_main_v30 val_main_v28 val_main_v24 val_main_v23 val_main_v22 val_main_v10 val_main_v8
  generalize val_main_v21 (F := Ideal) x1 x2 x3 = d
  generalize val_main_v7 (F := Ideal) x0 = a
  generalize val_main_v6 (F := Ideal) x0 = b
  pointwise [val_main_v9, val_main_cst_2, val_main_cst_4, val_main_v29, val_main_cst_5, val_main_cst_6]
  rw [Finset.univ_unique (α := Fin 1), sum_singleton]
  rfl

theorem v36_at (R : Fin 8192) (l : Fin 1024) : val_main_v36 (F := Ideal) x0 x1 x2 x3 x4 (ix2 R l)
    = x4 (ix2 R l) + dn x1 x2 x3 R l * rs (xr x0 R) + xr x0 R l * cf (xr x0 R) (dn x1 x2 x3 R) + cf (xr x0 R) (dn x1 x2 x3 R) * xr x0 R l := by
  rw [← v32_at x0 x1 x2 x3 R l, ← v21_at, ← v7_at x0 R 0]
  unfold val_main_v36 val_main_v35 val_main_v34 val_main_v33 val_main_v27 val_main_v26 val_main_v25
  generalize val_main_v32 (F := Ideal) x0 x1 x2 x3 = e
  generalize val_main_v21 (F := Ideal) x1 x2 x3 = d
  generalize val_main_v7 (F := Ideal) x0 = a
  pointwise [xr]

theorem v19_at (z : Fin 1) (l : Fin 1024) : val_main_v19 (F := Ideal) x0 x2 x3 (ix2 z l)
    = ∑ R : Fin 8192, xr x0 R l * rs (xr x0 R) * dy x2 x3 R l := by
  simp only [← v16_at, ← v7_at x0 _ 0]
  unfold val_main_v19 val_main_v18 val_main_v17 val_main_v12 val_main_v11
  generalize val_main_v16 (F := Ideal) x2 x3 = d
  generalize val_main_v7 (F := Ideal) x0 = a
  pointwise [xr, val_main_cst_3]

end Cert.Reference4Ideal.Read

namespace Cert.Kernel4Ideal.Value
open Cert.Kernel4Ideal Cert.Kernel4Ideal.Gen Cert.Num Finset
open Cert.Reference4Ideal.Read (dy xr dn)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] ∧ win0_4.index t = ![0, 0]
  ∧ win0_5.index t = ![t.val, 0] ∧ win0_6.index t = ![t.val, 0] ∧ win0_7.index t = ![0, 0] :=
  (by decide +kernel : ∀ t : Fin grid0.N, _)

theorem lt_point (t : Fin cfg0.N) : t.val < 8 := lt_of_lt_of_eq t.isLt N_0

/-- The argument arrays. -/
abbrev X0 (c : Dev nD) : FVec Ideal S8192x1024 .f32 := m ((c : Thread nD τ).loc main_arg0)
abbrev X1 (c : Dev nD) : FVec Ideal S1x1024 .f32 := m ((c : Thread nD τ).loc main_arg1)
abbrev X2 (c : Dev nD) : FVec Ideal S1024x1024 .f32 := m ((c : Thread nD τ).loc main_arg2)
abbrev X3 (c : Dev nD) : FVec Ideal S8192x1024 .f32 := m ((c : Thread nD τ).loc main_arg3)
abbrev X4 (c : Dev nD) : FVec Ideal S8192x1024 .f32 := m ((c : Thread nD τ).loc main_arg4)

/-- The row of the arrays that row `r` of half `h` of the block at point `t` is. -/
abbrev row (t : Fin cfg0.N) (h : Fin 2) (r : Fin 512) : Fin 8192 := ⟨1024 * t.val + (512 * h.val + r.val), by have := lt_point t; omega⟩

/-- A row of a block. -/
def xrow (x : S512x1024.Idx → EReal) (r : Fin 512) (l : Fin 1024) : EReal := x (ix2 r l)

variable (w : FVec Ideal S1024x1024 .bf16) (q : FVec Ideal S512x1024 .bf16) (x y : FVec Ideal S512x1024 .f32) (g : FVec Ideal S1x1024 .f32)

theorem pay3_at (r : Fin 512) (l : Fin 1024) : k0_pay3 (F := Ideal) w q (ix2 r l) = ∑ k : Fin 1024, (q (ix2 r k) : EReal) * w (ix2 l k) := by
  pointwise [k0_pay3, k0_pay2]

theorem pay4_at (r : Fin 512) (z : Fin 1) : k0_pay4 (F := Ideal) x (ix2 r z) = rs (xrow x r) := by
  unfold rs msq xrow
  pointwise [k0_pay4]

theorem pay5_at (r : Fin 512) (l : Fin 1024) : k0_pay5 (F := Ideal) x (ix2 r l) = xrow x r l * rs (xrow x r) := by
  rw [← pay4_at x r 0]
  unfold k0_pay5
  generalize k0_pay4 (F := Ideal) x = a
  pointwise [xrow]

theorem pay6_at (r : Fin 512) (l : Fin 1024) (d : Fin 1024 → EReal) (hd : ∀ l, k0_pay3 (F := Ideal) w q (ix2 r l) * g (ix2 0 l) = d l) :
    k0_pay6 (F := Ideal) w q x y g (ix2 r l) = y (ix2 r l) + d l * rs (xrow x r) + xrow x r l * cf (xrow x r) d + cf (xrow x r) d * xrow x r l := by
  rw [← norm_row]
  simp only [← hd, ← pay5_at]
  rw [← pay4_at x r 0]
  unfold k0_pay6
  generalize k0_pay3 (F := Ideal) w q = d
  generalize k0_pay5 (F := Ideal) x = b
  generalize k0_pay4 (F := Ideal) x = a
  pointwise []

theorem pay7_at (z : Fin 1) (l : Fin 1024) : k0_pay7 (F := Ideal) w q x (ix2 z l) = ∑ r : Fin 512, k0_pay3 (F := Ideal) w q (ix2 r l) * (xrow x r l * rs (xrow x r)) := by
  simp only [← pay5_at]
  unfold k0_pay7
  generalize k0_pay3 (F := Ideal) w q = d
  generalize k0_pay5 (F := Ideal) x = b
  pointwise []

theorem V_q (c : Dev nD) : V m c main_v0 = truncf .bf16 (X3 m c) bitsLt_bf16_f32 := by
  simp only [V]
  entry_read
  rfl

theorem V_w (c : Dev nD) : V m c main_v1 = truncf .bf16 (X2 m c) bitsLt_bf16_f32 := by
  simp only [V]
  entry_read
  rfl

theorem iblk0 (c : Dev nD) (t : Fin cfg0.N) (h : Fin 2) (r : Fin 512) (l k : Fin 1024) (hl : l.val = 512 * h.val + r.val) :
    iblk m c 0 t (ix2 l k) = X3 m c (ix2 (row t h r) k) := by
  unfold iblk
  rw [show V m c (Pipeline.arrRef spec0 0) = _ from V_q m c, View.read_apply]
  rw [show ((cfg0.win 0).blk t).view.emb (ix2 l k) = ix2 (row t h r) k by blk_ext [idx t]]
  rfl

theorem iblk1 (c : Dev nD) (t : Fin cfg0.N) (l k : Fin 1024) : iblk m c 1 t (ix2 l k) = X2 m c (ix2 l k) := by
  unfold iblk
  rw [show V m c (Pipeline.arrRef spec0 1) = _ from V_w m c, View.read_apply]
  rw [show ((cfg0.win 1).blk t).view.emb (ix2 l k) = ix2 l k by blk_ext [idx t]]
  rfl

theorem iblk2 (c : Dev nD) (t : Fin cfg0.N) (h : Fin 2) (r : Fin 512) (l k : Fin 1024) (hl : l.val = 512 * h.val + r.val) :
    iblk m c 2 t (ix2 l k) = X0 m c (ix2 (row t h r) k) := by
  unfold iblk
  rw [show V m c (Pipeline.arrRef spec0 2) = _ from V_main_arg0 m c]
  blk_ext [idx t]

theorem iblk3 (c : Dev nD) (t : Fin cfg0.N) (h : Fin 2) (r : Fin 512) (l k : Fin 1024) (hl : l.val = 512 * h.val + r.val) :
    iblk m c 3 t (ix2 l k) = X4 m c (ix2 (row t h r) k) := by
  unfold iblk
  rw [show V m c (Pipeline.arrRef spec0 3) = _ from V_main_arg4 m c]
  blk_ext [idx t]

theorem iblk4 (c : Dev nD) (t : Fin cfg0.N) (z : Fin 1) (k : Fin 1024) : iblk m c 4 t (ix2 z k) = X1 m c (ix2 z k) := by
  unfold iblk
  rw [show V m c (Pipeline.arrRef spec0 4) = _ from V_main_arg1 m c]
  blk_ext [idx t]

/-- What the rows of a half become. -/
theorem half_dx (c : Dev nD) (t : Fin cfg0.N) (h : Fin 2) (hw : ∀ l k, w (ix2 l k) = X2 m c (ix2 l k)) (hq : ∀ r k, q (ix2 r k) = X3 m c (ix2 (row t h r) k))
    (hx : ∀ r k, x (ix2 r k) = X0 m c (ix2 (row t h r) k)) (hy : ∀ r k, y (ix2 r k) = X4 m c (ix2 (row t h r) k))
    (hg : ∀ k, g (ix2 0 k) = X1 m c (ix2 0 k)) (r : Fin 512) (l : Fin 1024) :
    k0_pay6 (F := Ideal) w q x y g (ix2 r l) = Cert.Reference4Ideal.Read.val_main_v36 (F := Ideal) (X0 m c) (X1 m c) (X2 m c) (X3 m c) (X4 m c) (ix2 (row t h r) l) := by
  rw [Cert.Reference4Ideal.Read.v36_at, ← hy, ← show xrow x r = xr (X0 m c) (row t h r) from funext fun k => hx r k]
  refine pay6_at w q x y g r l _ fun l => ?_
  rw [pay3_at, dn, hg]
  exact congrArg (· * _) (sum_congr rfl fun k _ => by rw [hq, hw])

/-- What the rows of a half add to the gain's gradient. -/
theorem half_dg (c : Dev nD) (t : Fin cfg0.N) (h : Fin 2) (hw : ∀ l k, w (ix2 l k) = X2 m c (ix2 l k)) (hq : ∀ r k, q (ix2 r k) = X3 m c (ix2 (row t h r) k))
    (hx : ∀ r k, x (ix2 r k) = X0 m c (ix2 (row t h r) k)) (z : Fin 1) (l : Fin 1024) :
    k0_pay7 (F := Ideal) w q x (ix2 z l) = ∑ r : Fin 512, xr (X0 m c) (row t h r) l * rs (xr (X0 m c) (row t h r)) * dy (X2 m c) (X3 m c) (row t h r) l := by
  rw [pay7_at]
  refine sum_congr rfl fun r _ => ?_
  rw [← show xrow x r = xr (X0 m c) (row t h r) from funext fun k => hx r k, mul_comm, pay3_at]
  exact congrArg (_ * ·) (sum_congr rfl fun k _ => by rw [hq, hw])

/-- A read of the upper half of a block. -/
theorem low {α : Type} (f : S1024x1024.Idx → α) (r : Fin 512) (k : Fin 1024) (v : α) (hv : f (ix2 (⟨r.val, by omega⟩ : Fin 1024) k) = v) :
    f ((Rect.unit (s := S1024x1024) ![0, 0] S512x1024.size inb_S1024x1024_S512x1024_0_0).idx (ix2 r k)) = v := by
  rw [← hv]
  refine congrArg f (funext fun a => ?_)
  fin_cases a <;> exact Fin.ext (by simp [Rect.unit, ix2])

/-- A read of the lower half of a block. -/
theorem high {α : Type} (f : S1024x1024.Idx → α) (r : Fin 512) (k : Fin 1024) (v : α) (hv : f (ix2 (⟨512 + r.val, by omega⟩ : Fin 1024) k) = v) :
    f ((Rect.unit (s := S1024x1024) ![512, 0] S512x1024.size inb_S1024x1024_S512x1024_512_0).idx (ix2 r k)) = v := by
  rw [← hv]
  refine congrArg f (funext fun a => ?_)
  fin_cases a <;> exact Fin.ext (by simp [Rect.unit, ix2])

theorem final5 (c : Dev nD) : (dats m 0 c).arrAt 5 (cfgs 0).N
    = Cert.Reference4Ideal.Read.val_main_v36 (F := Ideal) (X0 m c) (X1 m c) (X2 m c) (X3 m c) (X4 m c) := by
  refine (dats m 0 c).arrAt_eq_of_covers 5 _ (by decide +kernel) fun t _ y => ?_
  have ht := lt_point t
  blk_simp
  obtain ⟨r, l, rfl⟩ : ∃ (r : Fin 1024) (l : Fin 1024), y = ix2 r l := ⟨y 0, y 1, by blk_ext []⟩
  rw [after0_5]
  by_cases h0 : t.val = 0
  on_goal 1 => rw [outsAt0_A m c t (by omega) (by omega)]
  on_goal 2 => rw [outsAt0_B m c t (by omega) (by omega)]
  all_goals
    frame_out
    clear h0
    canon_tiles x h
    all_goals
      obtain ⟨r', l', rfl⟩ : ∃ (r : Fin 512) (l : Fin 1024), x = ix2 r l := ⟨x 0, x 1, by blk_ext []⟩
      obtain rfl : l = l' := Fin.ext h1
    · have hr : r.val = 512 + r'.val := h0
      rw [show ((View.whole main_v2_0).slice (win0_5.rect t)).emb (ix2 r l) = ix2 (row t 1 r') l by blk_ext [idx t]]
      exact half_dx m _ _ _ _ _ c t 1 (iblk1 m c t) (fun r k => high _ _ _ _ (iblk0 m c t 1 r _ _ rfl)) (fun r k => high _ _ _ _ (iblk2 m c t 1 r _ _ rfl))
        (fun r k => high _ _ _ _ (iblk3 m c t 1 r _ _ rfl)) (iblk4 m c t 0) r' l
    · have hr : r.val = r'.val := h0
      rw [show ((View.whole main_v2_0).slice (win0_5.rect t)).emb (ix2 r l) = ix2 (row t 0 r') l by blk_ext [idx t]]
      exact half_dx m _ _ _ _ _ c t 0 (iblk1 m c t) (fun r k => low _ _ _ _ (iblk0 m c t 0 r _ _ (by simp))) (fun r k => low _ _ _ _ (iblk2 m c t 0 r _ _ (by simp)))
        (fun r k => low _ _ _ _ (iblk3 m c t 0 r _ _ (by simp))) (iblk4 m c t 0) r' l

theorem final6 (c : Dev nD) : (dats m 0 c).arrAt 6 (cfgs 0).N
    = Cert.Reference4Ideal.Read.val_main_v37 (F := Ideal) (X0 m c) (X1 m c) (X2 m c) (X3 m c) (X4 m c) := by
  refine (dats m 0 c).arrAt_eq_of_covers 6 _ (by decide +kernel) fun t _ y => ?_
  have ht := lt_point t
  blk_simp
  obtain ⟨r, l, rfl⟩ : ∃ (r : Fin 1024) (l : Fin 1024), y = ix2 r l := ⟨y 0, y 1, by blk_ext []⟩
  rw [after0_6]
  by_cases h0 : t.val = 0
  on_goal 1 => rw [outsAt0_A m c t (by omega) (by omega)]
  on_goal 2 => rw [outsAt0_B m c t (by omega) (by omega)]
  all_goals
    frame_out
    clear h0
    canon_tiles x h
    all_goals
      obtain ⟨r', l', rfl⟩ : ∃ (r : Fin 512) (l : Fin 1024), x = ix2 r l := ⟨x 0, x 1, by blk_ext []⟩
      obtain rfl : l = l' := Fin.ext h1
    · have hr : r.val = 512 + r'.val := h0
      rw [show ((View.whole main_v2_1).slice (win0_6.rect t)).emb (ix2 r l) = ix2 (row t 1 r') l by blk_ext [idx t]]
      exact half_dx m _ _ _ _ _ c t 1 (iblk1 m c t) (fun r k => high _ _ _ _ (iblk0 m c t 1 r _ _ rfl)) (fun r k => high _ _ _ _ (iblk2 m c t 1 r _ _ rfl))
        (fun r k => high _ _ _ _ (iblk3 m c t 1 r _ _ rfl)) (iblk4 m c t 0) r' l
    · have hr : r.val = r'.val := h0
      rw [show ((View.whole main_v2_1).slice (win0_6.rect t)).emb (ix2 r l) = ix2 (row t 0 r') l by blk_ext [idx t]]
      exact half_dx m _ _ _ _ _ c t 0 (iblk1 m c t) (fun r k => low _ _ _ _ (iblk0 m c t 0 r _ _ (by simp))) (fun r k => low _ _ _ _ (iblk2 m c t 0 r _ _ (by simp)))
        (fun r k => low _ _ _ _ (iblk3 m c t 0 r _ _ (by simp))) (iblk4 m c t 0) r' l

/-- What a row adds to the gain's gradient. -/
def gterm (c : Dev nD) (l : Fin 1024) (R : Fin 8192) : EReal := xr (X0 m c) R l * rs (xr (X0 m c) R) * dy (X2 m c) (X3 m c) R l

/-- What a point adds to the gain's gradient. -/
theorem point_dg (c : Dev nD) (t : Fin cfg0.N) (q0 q1 : FVec Ideal S512x1024 .bf16) (x0 x1 : FVec Ideal S512x1024 .f32)
    (hq0 : ∀ r k, q0 (ix2 r k) = X3 m c (ix2 (row t 0 r) k)) (hq1 : ∀ r k, q1 (ix2 r k) = X3 m c (ix2 (row t 1 r) k))
    (hx0 : ∀ r k, x0 (ix2 r k) = X0 m c (ix2 (row t 0 r) k)) (hx1 : ∀ r k, x1 (ix2 r k) = X0 m c (ix2 (row t 1 r) k)) (z : Fin 1) (l : Fin 1024) :
    k0_pay14 (F := Ideal) (k0_pay2 (iblk m c 1 t)) (k0_pay7 (iblk m c 1 t) q0 x0) q1 x1 (ix2 z l)
      = ∑ h : Fin 2, ∑ r : Fin 512, gterm m c l (row t h r) := by
  rw [Fin.sum_univ_two]
  exact congrArg₂ (· + ·) (half_dg m _ _ _ c t 0 (iblk1 m c t) hq0 hx0 z l) (half_dg m _ _ _ c t 1 (iblk1 m c t) hq1 hx1 z l)

theorem pay1_at (a b : FVec Ideal S1x1024 .f32) (z : Fin 1) (l : Fin 1024) : k0_pay1 (F := Ideal) a b (ix2 z l) = (b (ix2 z l) : EReal) + a (ix2 z l) := by
  unfold k0_pay1
  pointwise []

abbrev t0_7 : Fin cfg0.N := ⟨7, by decide +kernel⟩

theorem final7 (c : Dev nD) : (dats m 0 c).arrAt 7 (cfgs 0).N
    = Cert.Reference4Ideal.Read.val_main_v19 (F := Ideal) (X0 m c) (X2 m c) (X3 m c) := by
  refine (dats m 0 c).arrAt_eq_of_after_last 7 t0_7 (by decide +kernel) _ fun j => ?_
  blk_simp
  obtain ⟨z, l, rfl⟩ : ∃ (z : Fin 1) (l : Fin 1024), j = ix2 z l := ⟨j 0, j 1, by blk_ext []⟩
  rw [after0_7]
  refine (Cert.Num.run_sum (fun n h => (outsAt0 m c n h).2.2 (ix2 z l)) (fun t => ∑ h : Fin 2, ∑ r : Fin 512, gterm m c l (row t h r)) (fun t h => ?_) (fun t h => ?_) 7 _).trans ?_
  · have ht := lt_point t
    beta_reduce
    rw [outsAt0_A m c t (by omega) (by omega)]
    frame_out
    exact point_dg m c t _ _ _ _ (fun r k => low _ _ _ _ (iblk0 m c t 0 r _ _ (by simp))) (fun r k => high _ _ _ _ (iblk0 m c t 1 r _ _ rfl))
      (fun r k => low _ _ _ _ (iblk2 m c t 0 r _ _ (by simp))) (fun r k => high _ _ _ _ (iblk2 m c t 1 r _ _ rfl)) z l
  · have ht := lt_point t
    beta_reduce
    rw [outsAt0_B m c t (by omega) (by omega)]
    frame_out
    refine (pay1_at _ _ z l).trans (congrArg₂ (· + ·) rfl (point_dg m c t _ _ _ _ ?_ ?_ ?_ ?_ z l))
    · exact fun r k => low _ _ _ _ (iblk0 m c t 0 r _ _ (by simp))
    · exact fun r k => high _ _ _ _ (iblk0 m c t 1 r _ _ rfl)
    · exact fun r k => low _ _ _ _ (iblk2 m c t 0 r _ _ (by simp))
    · exact fun r k => high _ _ _ _ (iblk2 m c t 1 r _ _ rfl)
  · refine Eq.trans ?_ (Cert.Reference4Ideal.Read.v19_at _ _ _ z l).symm
    exact Cert.Num.sum_parts (J := 8) (H := 2) (T := 512) rfl (gterm m c l) (fun t h r => row ⟨t.val, by have : cfg0.N = 8 := N_0; omega⟩ h r) fun _ _ _ => rfl

end Cert.Kernel4Ideal.Value

namespace Cert.Proof
open Cert.Kernel4Ideal.Value

/-- Both programs run, and the kernel's results are the derivatives through the norm. -/
theorem normq_algebraic : Cert.algebraic_Kernel4Ideal_Reference4Ideal := fun m ρ m' ρ' _ hag =>
  ⟨fun c => Cert.Reference4Ideal.Read.val_main_v36 (F := Ideal) (X0 m c) (X1 m c) (X2 m c) (X3 m c) (X4 m c),
    fun c => Cert.Reference4Ideal.Read.val_main_v37 (F := Ideal) (X0 m c) (X1 m c) (X2 m c) (X3 m c) (X4 m c),
    fun c => Cert.Reference4Ideal.Read.val_main_v19 (F := Ideal) (X0 m c) (X2 m c) (X3 m c),
    (θ_run _ _ _).mono (fun _ h c => ⟨(h c).1.trans (final5 m c), (h c).2.1.trans (final6 m c), (h c).2.2.1.trans (final7 m c), (h c).2.2.2⟩)
      (Cert.Kernel4Ideal.Value.run_blocks m ρ),
    (θ_run _ _ _).mono (fun _ h c => by
      obtain ⟨h0, h1, h2, h3, h4⟩ := hag c
      exact ⟨(h c).1.trans ((Cert.Reference4Ideal.Read.val_main_v36_eq m' c).trans (by rw [h0, h1, h2, h3, h4])),
        (h c).2.1.trans ((Cert.Reference4Ideal.Read.val_main_v37_eq m' c).trans (by rw [h0, h1, h2, h3, h4])),
        (h c).2.2.1.trans ((Cert.Reference4Ideal.Read.val_main_v19_eq _ _ _).trans (by rw [h0, h2, h3])), (h c).2.2.2⟩)
      (Cert.Reference4Ideal.Value.run m' ρ')⟩

/-- The reference runs and leaves its arguments as they were. -/
theorem normq_reference : Cert.quiescent_Reference4Ideal := fun m ρ _ =>
  (θ_run _ _ _).mono (fun r h => ⟨fun c => (h c).2.2.2, sem_eq_zero_of_no_sems (by decide) r.2⟩) (Cert.Reference4Ideal.Value.run m ρ)

end Cert.Proof

end
-- ==== Proof.NormUp.lean ====
module

public import proofs.«01_k».proof.Defs
public import proofs.«01_k».proof.Proof.Gen.Kernel5Ideal.Value
public import proofs.«01_k».proof.Proof.Gen.Reference5Ideal.Read
public import proofs.«01_k».proof.Proof.NormRow
public import Idealize.ShloMosaic.Lib.Pipeline.ValueKit
public import Idealize.ShloMosaic.Lib.Pointwise
public import Idealize.ShloMosaic.Lib.Claim

/-! The gradient through the norm in front of the first product of the layer of two products. -/

@[expose] public section

set_option maxRecDepth 16384

noncomputable section

open Idealize.ShloMosaic Idealize.ShloMosaic.TcCoe Idealize.SL.Sem
open Idealize.ShloMosaic.Pipeline (Dat)

namespace Cert.Reference5Ideal.Read
open Cert.Reference5Ideal Cert.Num Finset

variable (x0 : FVec Ideal S8192x1024 .f32) (x1 : FVec Ideal S1x1024 .f32) (x2 : FVec Ideal S1024x4096 .f32) (x3 : FVec Ideal S8192x4096 .f32) (x4 : FVec Ideal S8192x1024 .f32)

/-- The gradient of the normed rows. -/
def dy (R : Fin 8192) (l : Fin 1024) : EReal := ∑ k : Fin 4096, x3 (ix2 R k) * x2 (ix2 l k)

/-- A row of the norm's argument. -/
def xr (R : Fin 8192) (l : Fin 1024) : EReal := x0 (ix2 R l)

/-- The gradient of the normed rows with the gain. -/
def dn (R : Fin 8192) (l : Fin 1024) : EReal := dy x2 x3 R l * x1 (ix2 0 l)

theorem v6_at (R : Fin 8192) (z : Fin 1) : val_main_v6 (F := Ideal) x0 (ix2 R z) = msq (xr x0 R) := by
  unfold msq xr
  pointwise [val_main_v6, val_main_v5, val_main_v4, val_main_v3, val_main_v2, val_main_v1, val_main_v0, val_main_cst, val_main_cst_0, val_main_cst_1]

theorem v7_at (R : Fin 8192) (z : Fin 1) : val_main_v7 (F := Ideal) x0 (ix2 R z) = rs (xr x0 R) := by
  rw [rs, ← v6_at x0 R z]
  rfl

theorem v16_at (R : Fin 8192) (l : Fin 1024) : val_main_v16 (F := Ideal) x2 x3 (ix2 R l) = dy x2 x3 R l := by
  unfold dy
  pointwise [val_main_v16]

theorem v21_at (R : Fin 8192) (l : Fin 1024) : val_main_v21 (F := Ideal) x1 x2 x3 (ix2 R l) = dn x1 x2 x3 R l := by
  rw [dn, ← v16_at x2 x3 R l]
  unfold val_main_v21
  generalize val_main_v16 (F := Ideal) x2 x3 = d
  pointwise [val_main_v20]

theorem v32_at (R : Fin 8192) (l : Fin 1024) : val_main_v32 (F := Ideal) x0 x1 x2 x3 (ix2 R l) = cf (xr x0 R) (dn x1 x2 x3 R) := by
  unfold cf
  simp only [← v21_at, ← v6_at x0 R 0, ← v7_at x0 R 0]
  unfold val_main_v32 val_main_v31 val_main_v30 val_main_v28 val_main_v24 val_main_v23 val_main_v22 val_main_v10 val_main_v8
  generalize val_main_v21 (F := Ideal) x1 x2 x3 = d
  generalize val_main_v7 (F := Ideal) x0 = a
  generalize val_main_v6 (F := Ideal) x0 = b
  pointwise [val_main_v9, val_main_cst_2, val_main_cst_4, val_main_v29, val_main_cst_5, val_main_cst_6]
  rw [Finset.univ_unique (α := Fin 1), sum_singleton]
  rfl

theorem v36_at (R : Fin 8192) (l : Fin 1024) : val_main_v36 (F := Ideal) x0 x1 x2 x3 x4 (ix2 R l)
    = x4 (ix2 R l) + dn x1 x2 x3 R l * rs (xr x0 R) + xr x0 R l * cf (xr x0 R) (dn x1 x2 x3 R) + cf (xr x0 R) (dn x1 x2 x3 R) * xr x0 R l := by
  rw [← v32_at x0 x1 x2 x3 R l, ← v21_at, ← v7_at x0 R 0]
  unfold val_main_v36 val_main_v35 val_main_v34 val_main_v33 val_main_v27 val_main_v26 val_main_v25
  generalize val_main_v32 (F := Ideal) x0 x1 x2 x3 = e
  generalize val_main_v21 (F := Ideal) x1 x2 x3 = d
  generalize val_main_v7 (F := Ideal) x0 = a
  pointwise [xr]

theorem v19_at (z : Fin 1) (l : Fin 1024) : val_main_v19 (F := Ideal) x0 x2 x3 (ix2 z l)
    = ∑ R : Fin 8192, xr x0 R l * rs (xr x0 R) * dy x2 x3 R l := by
  simp only [← v16_at, ← v7_at x0 _ 0]
  unfold val_main_v19 val_main_v18 val_main_v17 val_main_v12 val_main_v11
  generalize val_main_v16 (F := Ideal) x2 x3 = d
  generalize val_main_v7 (F := Ideal) x0 = a
  pointwise [xr, val_main_cst_3]

end Cert.Reference5Ideal.Read

namespace Cert.Kernel5Ideal.Value
open Cert.Kernel5Ideal Cert.Kernel5Ideal.Gen Cert.Num Finset
open Cert.Reference5Ideal.Read (dy xr dn)

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0] ∧ win0_4.index t = ![0, 0]
  ∧ win0_5.index t = ![t.val, 0] ∧ win0_6.index t = ![t.val, 0] ∧ win0_7.index t = ![0, 0] :=
  (by decide +kernel : ∀ t : Fin grid0.N, _)

theorem lt_point (t : Fin cfg0.N) : t.val < 16 := lt_of_lt_of_eq t.isLt N_0

/-- The argument arrays. -/
abbrev X0 (c : Dev nD) : FVec Ideal S8192x1024 .f32 := m ((c : Thread nD τ).loc main_arg0)
abbrev X1 (c : Dev nD) : FVec Ideal S1x1024 .f32 := m ((c : Thread nD τ).loc main_arg1)
abbrev X2 (c : Dev nD) : FVec Ideal S1024x4096 .f32 := m ((c : Thread nD τ).loc main_arg2)
abbrev X3 (c : Dev nD) : FVec Ideal S8192x4096 .f32 := m ((c : Thread nD τ).loc main_arg3)
abbrev X4 (c : Dev nD) : FVec Ideal S8192x1024 .f32 := m ((c : Thread nD τ).loc main_arg4)

/-- The row of the arrays that row `r` of half `h` of the block at point `t` is. -/
abbrev row (t : Fin cfg0.N) (h : Fin 2) (r : Fin 256) : Fin 8192 := ⟨512 * t.val + (256 * h.val + r.val), by have := lt_point t; omega⟩

/-- A row of a block. -/
def xrow (x : S256x1024.Idx → EReal) (r : Fin 256) (l : Fin 1024) : EReal := x (ix2 r l)

variable (w : FVec Ideal S4x1024x1024 .bf16) (q : FVec Ideal S256x4096 .bf16) (x y : FVec Ideal S256x1024 .f32) (g : FVec Ideal S1x1024 .f32)

theorem pay3_at (r : Fin 256) (l : Fin 1024) : k0_pay3 (F := Ideal) w q (ix2 r l) = ∑ k : Fin 4096, (q (ix2 r k) : EReal) * k0_pay2 (F := Ideal) w (ix2 k l) := by
  unfold k0_pay3
  generalize k0_pay2 (F := Ideal) w = v
  pointwise []

theorem pay4_at (r : Fin 256) (z : Fin 1) : k0_pay4 (F := Ideal) x (ix2 r z) = rs (xrow x r) := by
  unfold rs msq xrow
  pointwise [k0_pay4]

theorem pay5_at (r : Fin 256) (l : Fin 1024) : k0_pay5 (F := Ideal) x (ix2 r l) = xrow x r l * rs (xrow x r) := by
  rw [← pay4_at x r 0]
  unfold k0_pay5
  generalize k0_pay4 (F := Ideal) x = a
  pointwise [xrow]

theorem pay6_at (r : Fin 256) (l : Fin 1024) (d : Fin 1024 → EReal) (hd : ∀ l, k0_pay3 (F := Ideal) w q (ix2 r l) * g (ix2 0 l) = d l) :
    k0_pay6 (F := Ideal) w q x y g (ix2 r l) = y (ix2 r l) + d l * rs (xrow x r) + xrow x r l * cf (xrow x r) d + cf (xrow x r) d * xrow x r l := by
  rw [← norm_row]
  simp only [← hd, ← pay5_at]
  rw [← pay4_at x r 0]
  unfold k0_pay6
  generalize k0_pay3 (F := Ideal) w q = d
  generalize k0_pay5 (F := Ideal) x = b
  generalize k0_pay4 (F := Ideal) x = a
  pointwise []

theorem pay7_at (z : Fin 1) (l : Fin 1024) : k0_pay7 (F := Ideal) w q x (ix2 z l) = ∑ r : Fin 256, k0_pay3 (F := Ideal) w q (ix2 r l) * (xrow x r l * rs (xrow x r)) := by
  simp only [← pay5_at]
  unfold k0_pay7
  generalize k0_pay3 (F := Ideal) w q = d
  generalize k0_pay5 (F := Ideal) x = b
  pointwise []

theorem V_q (c : Dev nD) : V m c main_v3 = truncf .bf16 (X3 m c) bitsLt_bf16_f32 := by
  simp only [V]
  entry_read
  rfl

theorem V_w (c : Dev nD) : V m c main_v2 = shapeCast S4x1024x1024 (truncf .bf16 (transpose S4096x1024 [1, 0] (X2 m c) transposes_S1024x4096_S4096x1024_1_0) bitsLt_bf16_f32) shapeCasts_S4096x1024_S4x1024x1024 := by
  simp only [V]
  entry_read
  rfl

theorem iblk0 (c : Dev nD) (t : Fin cfg0.N) (h : Fin 2) (r : Fin 256) (l : Fin 512) (k : Fin 4096) (hl : l.val = 256 * h.val + r.val) :
    iblk m c 0 t (ix2 l k) = X3 m c (ix2 (row t h r) k) := by
  unfold iblk
  rw [show V m c (Pipeline.arrRef spec0 0) = _ from V_q m c, View.read_apply]
  rw [show ((cfg0.win 0).blk t).view.emb (ix2 l k) = ix2 (row t h r) k by blk_ext [idx t]]
  rfl

theorem iblk1 (c : Dev nD) (t : Fin cfg0.N) (k : Fin 4096) (l : Fin 1024) : k0_pay2 (F := Ideal) (iblk m c 1 t) (ix2 k l) = X2 m c (ix2 l k) := by
  have e : iblk m c 1 t = shapeCast S4x1024x1024 (truncf .bf16 (transpose S4096x1024 [1, 0] (X2 m c) transposes_S1024x4096_S4096x1024_1_0) bitsLt_bf16_f32) shapeCasts_S4096x1024_S4x1024x1024 := by
    unfold iblk
    rw [show V m c (Pipeline.arrRef spec0 1) = _ from V_w m c]
    funext i
    rw [View.read_apply]
    exact congrArg _ (by blk_ext [idx t])
  rw [e]
  generalize X2 m c = x
  pointwise [k0_pay2]

theorem iblk2 (c : Dev nD) (t : Fin cfg0.N) (h : Fin 2) (r : Fin 256) (l : Fin 512) (k : Fin 1024) (hl : l.val = 256 * h.val + r.val) :
    iblk m c 2 t (ix2 l k) = X0 m c (ix2 (row t h r) k) := by
  unfold iblk
  rw [show V m c (Pipeline.arrRef spec0 2) = _ from V_main_arg0 m c]
  blk_ext [idx t]

theorem iblk3 (c : Dev nD) (t : Fin cfg0.N) (h : Fin 2) (r : Fin 256) (l : Fin 512) (k : Fin 1024) (hl : l.val = 256 * h.val + r.val) :
    iblk m c 3 t (ix2 l k) = X4 m c (ix2 (row t h r) k) := by
  unfold iblk
  rw [show V m c (Pipeline.arrRef spec0 3) = _ from V_main_arg4 m c]
  blk_ext [idx t]

theorem iblk4 (c : Dev nD) (t : Fin cfg0.N) (z : Fin 1) (k : Fin 1024) : iblk m c 4 t (ix2 z k) = X1 m c (ix2 z k) := by
  unfold iblk
  rw [show V m c (Pipeline.arrRef spec0 4) = _ from V_main_arg1 m c]
  blk_ext [idx t]

/-- What the rows of a half become. -/
theorem half_dx (c : Dev nD) (t : Fin cfg0.N) (h : Fin 2) (hw : ∀ k l, k0_pay2 (F := Ideal) w (ix2 k l) = X2 m c (ix2 l k)) (hq : ∀ r k, q (ix2 r k) = X3 m c (ix2 (row t h r) k))
    (hx : ∀ r k, x (ix2 r k) = X0 m c (ix2 (row t h r) k)) (hy : ∀ r k, y (ix2 r k) = X4 m c (ix2 (row t h r) k))
    (hg : ∀ k, g (ix2 0 k) = X1 m c (ix2 0 k)) (r : Fin 256) (l : Fin 1024) :
    k0_pay6 (F := Ideal) w q x y g (ix2 r l) = Cert.Reference5Ideal.Read.val_main_v36 (F := Ideal) (X0 m c) (X1 m c) (X2 m c) (X3 m c) (X4 m c) (ix2 (row t h r) l) := by
  rw [Cert.Reference5Ideal.Read.v36_at, ← hy, ← show xrow x r = xr (X0 m c) (row t h r) from funext fun k => hx r k]
  refine pay6_at w q x y g r l _ fun l => ?_
  rw [pay3_at, dn, hg]
  exact congrArg (· * _) (sum_congr rfl fun k _ => by rw [hq, hw])

/-- What the rows of a half add to the gain's gradient. -/
theorem half_dg (c : Dev nD) (t : Fin cfg0.N) (h : Fin 2) (hw : ∀ k l, k0_pay2 (F := Ideal) w (ix2 k l) = X2 m c (ix2 l k)) (hq : ∀ r k, q (ix2 r k) = X3 m c (ix2 (row t h r) k))
    (hx : ∀ r k, x (ix2 r k) = X0 m c (ix2 (row t h r) k)) (z : Fin 1) (l : Fin 1024) :
    k0_pay7 (F := Ideal) w q x (ix2 z l) = ∑ r : Fin 256, xr (X0 m c) (row t h r) l * rs (xr (X0 m c) (row t h r)) * dy (X2 m c) (X3 m c) (row t h r) l := by
  rw [pay7_at]
  refine sum_congr rfl fun r _ => ?_
  rw [← show xrow x r = xr (X0 m c) (row t h r) from funext fun k => hx r k, mul_comm, pay3_at]
  exact congrArg (_ * ·) (sum_congr rfl fun k _ => by rw [hq, hw])

theorem final5 (c : Dev nD) : (dats m 0 c).arrAt 5 (cfgs 0).N
    = Cert.Reference5Ideal.Read.val_main_v36 (F := Ideal) (X0 m c) (X1 m c) (X2 m c) (X3 m c) (X4 m c) := by
  refine (dats m 0 c).arrAt_eq_of_covers 5 _ (by decide +kernel) fun t _ y => ?_
  have ht := lt_point t
  blk_simp
  obtain ⟨r, l, rfl⟩ : ∃ (r : Fin 512) (l : Fin 1024), y = ix2 r l := ⟨y 0, y 1, by blk_ext []⟩
  rw [after0_5]
  by_cases h0 : t.val = 0
  on_goal 1 => rw [outsAt0_A m c t (by omega) (by omega)]
  on_goal 2 => rw [outsAt0_B m c t (by omega) (by omega)]
  all_goals
    frame_out
    clear h0
    canon_tiles x h
    all_goals
      obtain ⟨r', l', rfl⟩ : ∃ (r : Fin 256) (l : Fin 1024), x = ix2 r l := ⟨x 0, x 1, by blk_ext []⟩
      obtain rfl : l = l' := Fin.ext h1
    · have hr : r.val = 256 + r'.val := h0
      rw [show ((View.whole main_v4_0).slice (win0_5.rect t)).emb (ix2 r l) = ix2 (row t 1 r') l by blk_ext [idx t]]
      exact half_dx m _ _ _ _ _ c t 1 (iblk1 m c t) (fun r k => (rows_at _ _ r k ⟨256 + r.val, by omega⟩ rfl).trans (iblk0 m c t 1 r _ k rfl)) (fun r k => (rows_at _ _ r k ⟨256 + r.val, by omega⟩ rfl).trans (iblk2 m c t 1 r _ k rfl))
        (fun r k => (rows_at _ _ r k ⟨256 + r.val, by omega⟩ rfl).trans (iblk3 m c t 1 r _ k rfl)) (iblk4 m c t 0) r' l
    · have hr : r.val = r'.val := h0
      rw [show ((View.whole main_v4_0).slice (win0_5.rect t)).emb (ix2 r l) = ix2 (row t 0 r') l by blk_ext [idx t]]
      exact half_dx m _ _ _ _ _ c t 0 (iblk1 m c t) (fun r k => (rows_at _ _ r k ⟨r.val, by omega⟩ (by simp)).trans (iblk0 m c t 0 r _ k (by simp))) (fun r k => (rows_at _ _ r k ⟨r.val, by omega⟩ (by simp)).trans (iblk2 m c t 0 r _ k (by simp)))
        (fun r k => (rows_at _ _ r k ⟨r.val, by omega⟩ (by simp)).trans (iblk3 m c t 0 r _ k (by simp))) (iblk4 m c t 0) r' l

theorem final6 (c : Dev nD) : (dats m 0 c).arrAt 6 (cfgs 0).N
    = Cert.Reference5Ideal.Read.val_main_v37 (F := Ideal) (X0 m c) (X1 m c) (X2 m c) (X3 m c) (X4 m c) := by
  refine (dats m 0 c).arrAt_eq_of_covers 6 _ (by decide +kernel) fun t _ y => ?_
  have ht := lt_point t
  blk_simp
  obtain ⟨r, l, rfl⟩ : ∃ (r : Fin 512) (l : Fin 1024), y = ix2 r l := ⟨y 0, y 1, by blk_ext []⟩
  rw [after0_6]
  by_cases h0 : t.val = 0
  on_goal 1 => rw [outsAt0_A m c t (by omega) (by omega)]
  on_goal 2 => rw [outsAt0_B m c t (by omega) (by omega)]
  all_goals
    frame_out
    clear h0
    canon_tiles x h
    all_goals
      obtain ⟨r', l', rfl⟩ : ∃ (r : Fin 256) (l : Fin 1024), x = ix2 r l := ⟨x 0, x 1, by blk_ext []⟩
      obtain rfl : l = l' := Fin.ext h1
    · have hr : r.val = 256 + r'.val := h0
      rw [show ((View.whole main_v4_1).slice (win0_6.rect t)).emb (ix2 r l) = ix2 (row t 1 r') l by blk_ext [idx t]]
      exact half_dx m _ _ _ _ _ c t 1 (iblk1 m c t) (fun r k => (rows_at _ _ r k ⟨256 + r.val, by omega⟩ rfl).trans (iblk0 m c t 1 r _ k rfl)) (fun r k => (rows_at _ _ r k ⟨256 + r.val, by omega⟩ rfl).trans (iblk2 m c t 1 r _ k rfl))
        (fun r k => (rows_at _ _ r k ⟨256 + r.val, by omega⟩ rfl).trans (iblk3 m c t 1 r _ k rfl)) (iblk4 m c t 0) r' l
    · have hr : r.val = r'.val := h0
      rw [show ((View.whole main_v4_1).slice (win0_6.rect t)).emb (ix2 r l) = ix2 (row t 0 r') l by blk_ext [idx t]]
      exact half_dx m _ _ _ _ _ c t 0 (iblk1 m c t) (fun r k => (rows_at _ _ r k ⟨r.val, by omega⟩ (by simp)).trans (iblk0 m c t 0 r _ k (by simp))) (fun r k => (rows_at _ _ r k ⟨r.val, by omega⟩ (by simp)).trans (iblk2 m c t 0 r _ k (by simp)))
        (fun r k => (rows_at _ _ r k ⟨r.val, by omega⟩ (by simp)).trans (iblk3 m c t 0 r _ k (by simp))) (iblk4 m c t 0) r' l

/-- What a row adds to the gain's gradient. -/
def gterm (c : Dev nD) (l : Fin 1024) (R : Fin 8192) : EReal := xr (X0 m c) R l * rs (xr (X0 m c) R) * dy (X2 m c) (X3 m c) R l

/-- What a point adds to the gain's gradient. -/
theorem point_dg (c : Dev nD) (t : Fin cfg0.N) (q0 q1 : FVec Ideal S256x4096 .bf16) (x0 x1 : FVec Ideal S256x1024 .f32)
    (hq0 : ∀ r k, q0 (ix2 r k) = X3 m c (ix2 (row t 0 r) k)) (hq1 : ∀ r k, q1 (ix2 r k) = X3 m c (ix2 (row t 1 r) k))
    (hx0 : ∀ r k, x0 (ix2 r k) = X0 m c (ix2 (row t 0 r) k)) (hx1 : ∀ r k, x1 (ix2 r k) = X0 m c (ix2 (row t 1 r) k)) (z : Fin 1) (l : Fin 1024) :
    k0_pay14 (F := Ideal) (k0_pay2 (iblk m c 1 t)) (k0_pay7 (iblk m c 1 t) q0 x0) q1 x1 (ix2 z l)
      = ∑ h : Fin 2, ∑ r : Fin 256, gterm m c l (row t h r) := by
  rw [Fin.sum_univ_two]
  exact congrArg₂ (· + ·) (half_dg m _ _ _ c t 0 (iblk1 m c t) hq0 hx0 z l) (half_dg m _ _ _ c t 1 (iblk1 m c t) hq1 hx1 z l)

theorem pay1_at (a b : FVec Ideal S1x1024 .f32) (z : Fin 1) (l : Fin 1024) : k0_pay1 (F := Ideal) a b (ix2 z l) = (b (ix2 z l) : EReal) + a (ix2 z l) := by
  unfold k0_pay1
  pointwise []

abbrev t0_15 : Fin cfg0.N := ⟨15, by decide +kernel⟩

theorem final7 (c : Dev nD) : (dats m 0 c).arrAt 7 (cfgs 0).N
    = Cert.Reference5Ideal.Read.val_main_v19 (F := Ideal) (X0 m c) (X2 m c) (X3 m c) := by
  refine (dats m 0 c).arrAt_eq_of_after_last 7 t0_15 (by decide +kernel) _ fun j => ?_
  blk_simp
  obtain ⟨z, l, rfl⟩ : ∃ (z : Fin 1) (l : Fin 1024), j = ix2 z l := ⟨j 0, j 1, by blk_ext []⟩
  rw [after0_7]
  refine (Cert.Num.run_sum (fun n h => (outsAt0 m c n h).2.2 (ix2 z l)) (fun t => ∑ h : Fin 2, ∑ r : Fin 256, gterm m c l (row t h r)) (fun t h => ?_) (fun t h => ?_) 15 _).trans ?_
  · have ht := lt_point t
    beta_reduce
    rw [outsAt0_A m c t (by omega) (by omega)]
    frame_out
    exact point_dg m c t _ _ _ _ (fun r k => (rows_at _ _ r k ⟨r.val, by omega⟩ (by simp)).trans (iblk0 m c t 0 r _ k (by simp))) (fun r k => (rows_at _ _ r k ⟨256 + r.val, by omega⟩ rfl).trans (iblk0 m c t 1 r _ k rfl))
      (fun r k => (rows_at _ _ r k ⟨r.val, by omega⟩ (by simp)).trans (iblk2 m c t 0 r _ k (by simp))) (fun r k => (rows_at _ _ r k ⟨256 + r.val, by omega⟩ rfl).trans (iblk2 m c t 1 r _ k rfl)) z l
  · have ht := lt_point t
    beta_reduce
    rw [outsAt0_B m c t (by omega) (by omega)]
    frame_out
    refine (pay1_at _ _ z l).trans (congrArg₂ (· + ·) rfl (point_dg m c t _ _ _ _ ?_ ?_ ?_ ?_ z l))
    · exact fun r k => (rows_at _ _ r k ⟨r.val, by omega⟩ (by simp)).trans (iblk0 m c t 0 r _ k (by simp))
    · exact fun r k => (rows_at _ _ r k ⟨256 + r.val, by omega⟩ rfl).trans (iblk0 m c t 1 r _ k rfl)
    · exact fun r k => (rows_at _ _ r k ⟨r.val, by omega⟩ (by simp)).trans (iblk2 m c t 0 r _ k (by simp))
    · exact fun r k => (rows_at _ _ r k ⟨256 + r.val, by omega⟩ rfl).trans (iblk2 m c t 1 r _ k rfl)
  · refine Eq.trans ?_ (Cert.Reference5Ideal.Read.v19_at _ _ _ z l).symm
    exact Cert.Num.sum_parts (J := 16) (H := 2) (T := 256) rfl (gterm m c l) (fun t h r => row ⟨t.val, by have : cfg0.N = 16 := N_0; omega⟩ h r) fun _ _ _ => rfl

end Cert.Kernel5Ideal.Value

namespace Cert.Proof
open Cert.Kernel5Ideal.Value

/-- Both programs run, and the kernel's results are the derivatives through the norm. -/
theorem normup_algebraic : Cert.algebraic_Kernel5Ideal_Reference5Ideal := fun m ρ m' ρ' _ hag =>
  ⟨fun c => Cert.Reference5Ideal.Read.val_main_v36 (F := Ideal) (X0 m c) (X1 m c) (X2 m c) (X3 m c) (X4 m c),
    fun c => Cert.Reference5Ideal.Read.val_main_v37 (F := Ideal) (X0 m c) (X1 m c) (X2 m c) (X3 m c) (X4 m c),
    fun c => Cert.Reference5Ideal.Read.val_main_v19 (F := Ideal) (X0 m c) (X2 m c) (X3 m c),
    (θ_run _ _ _).mono (fun _ h c => ⟨(h c).1.trans (final5 m c), (h c).2.1.trans (final6 m c), (h c).2.2.1.trans (final7 m c), (h c).2.2.2⟩)
      (Cert.Kernel5Ideal.Value.run_blocks m ρ),
    (θ_run _ _ _).mono (fun _ h c => by
      obtain ⟨h0, h1, h2, h3, h4⟩ := hag c
      exact ⟨(h c).1.trans ((Cert.Reference5Ideal.Read.val_main_v36_eq m' c).trans (by rw [h0, h1, h2, h3, h4])),
        (h c).2.1.trans ((Cert.Reference5Ideal.Read.val_main_v37_eq m' c).trans (by rw [h0, h1, h2, h3, h4])),
        (h c).2.2.1.trans ((Cert.Reference5Ideal.Read.val_main_v19_eq _ _ _).trans (by rw [h0, h2, h3])), (h c).2.2.2⟩)
      (Cert.Reference5Ideal.Value.run m' ρ')⟩

/-- The reference runs and leaves its arguments as they were. -/
theorem normup_reference : Cert.quiescent_Reference5Ideal := fun m ρ _ =>
  (θ_run _ _ _).mono (fun r h => ⟨fun c => (h c).2.2.2, sem_eq_zero_of_no_sems (by decide) r.2⟩) (Cert.Reference5Ideal.Value.run m ρ)

end Cert.Proof

end
-- ==== Proof.NormIn.lean ====
module

public import proofs.«01_k».proof.Defs
public import proofs.«01_k».proof.Proof.Gen.Kernel6Ideal.Value
public import proofs.«01_k».proof.Proof.Gen.Reference6Ideal.Read
public import proofs.«01_k».proof.Proof.NormRow
public import Idealize.ShloMosaic.Lib.Pipeline.ValueKit
public import Idealize.ShloMosaic.Lib.Pointwise
public import Idealize.ShloMosaic.Lib.Claim
public import Idealize.ShloMosaic.Lib.StableHlo.RunRead

/-! The gradient through the norm in front of the first product of the step. -/

@[expose] public section

set_option maxRecDepth 16384

noncomputable section

open Idealize.ShloMosaic Idealize.ShloMosaic.TcCoe Idealize.SL.Sem
open Idealize.ShloMosaic.Pipeline (Dat)

namespace Cert.Reference6Ideal.Read
open Cert.Reference6Ideal Cert.Num Finset

variable (x0 : FVec Ideal S8192x1024 .f32) (x1 : FVec Ideal S1x1024 .f32) (x2 : FVec Ideal S1024x3104 .f32) (x3 : FVec Ideal S8192x3104 .f32) (x4 : FVec Ideal S8192x1024 .f32)

/-- The gradient of the normed rows. -/
def dy (R : Fin 8192) (l : Fin 1024) : EReal := ∑ k : Fin 3104, x3 (ix2 R k) * x2 (ix2 l k)

/-- A row of the norm's argument. -/
def xr (R : Fin 8192) (l : Fin 1024) : EReal := x0 (ix2 R l)

/-- The gradient of the normed rows with the gain. -/
def dn (R : Fin 8192) (l : Fin 1024) : EReal := dy x2 x3 R l * x1 (ix2 0 l)

theorem v6_at (R : Fin 8192) (z : Fin 1) : val_main_v6 (F := Ideal) x0 (ix2 R z) = msq (xr x0 R) := by
  unfold msq xr
  pointwise [val_main_v6, val_main_v5, val_main_v4, val_main_v3, val_main_v2, val_main_v1, val_main_v0, val_main_cst, val_main_cst_0, val_main_cst_1]

theorem v7_at (R : Fin 8192) (z : Fin 1) : val_main_v7 (F := Ideal) x0 (ix2 R z) = rs (xr x0 R) := by
  rw [rs, ← v6_at x0 R z]
  rfl

theorem v16_at (R : Fin 8192) (l : Fin 1024) : val_main_v16 (F := Ideal) x2 x3 (ix2 R l) = dy x2 x3 R l := by
  unfold dy
  pointwise [val_main_v16]

theorem v21_at (R : Fin 8192) (l : Fin 1024) : val_main_v21 (F := Ideal) x1 x2 x3 (ix2 R l) = dn x1 x2 x3 R l := by
  rw [dn, ← v16_at x2 x3 R l]
  unfold val_main_v21
  generalize val_main_v16 (F := Ideal) x2 x3 = d
  pointwise [val_main_v20]

theorem v32_at (R : Fin 8192) (l : Fin 1024) : val_main_v32 (F := Ideal) x0 x1 x2 x3 (ix2 R l) = cf (xr x0 R) (dn x1 x2 x3 R) := by
  unfold cf
  simp only [← v21_at, ← v6_at x0 R 0, ← v7_at x0 R 0]
  unfold val_main_v32 val_main_v31 val_main_v30 val_main_v28 val_main_v24 val_main_v23 val_main_v22 val_main_v10 val_main_v8
  generalize val_main_v21 (F := Ideal) x1 x2 x3 = d
  generalize val_main_v7 (F := Ideal) x0 = a
  generalize val_main_v6 (F := Ideal) x0 = b
  pointwise [val_main_v9, val_main_cst_2, val_main_cst_4, val_main_v29, val_main_cst_5, val_main_cst_6]
  rw [Finset.univ_unique (α := Fin 1), sum_singleton]
  rfl

theorem v36_at (R : Fin 8192) (l : Fin 1024) : val_main_v36 (F := Ideal) x0 x1 x2 x3 x4 (ix2 R l)
    = x4 (ix2 R l) + dn x1 x2 x3 R l * rs (xr x0 R) + xr x0 R l * cf (xr x0 R) (dn x1 x2 x3 R) + cf (xr x0 R) (dn x1 x2 x3 R) * xr x0 R l := by
  rw [← v32_at x0 x1 x2 x3 R l, ← v21_at, ← v7_at x0 R 0]
  unfold val_main_v36 val_main_v35 val_main_v34 val_main_v33 val_main_v27 val_main_v26 val_main_v25
  generalize val_main_v32 (F := Ideal) x0 x1 x2 x3 = e
  generalize val_main_v21 (F := Ideal) x1 x2 x3 = d
  generalize val_main_v7 (F := Ideal) x0 = a
  pointwise [xr]

theorem v19_at (z : Fin 1) (l : Fin 1024) : val_main_v19 (F := Ideal) x0 x2 x3 (ix2 z l)
    = ∑ R : Fin 8192, xr x0 R l * rs (xr x0 R) * dy x2 x3 R l := by
  simp only [← v16_at, ← v7_at x0 _ 0]
  unfold val_main_v19 val_main_v18 val_main_v17 val_main_v12 val_main_v11
  generalize val_main_v16 (F := Ideal) x2 x3 = d
  generalize val_main_v7 (F := Ideal) x0 = a
  pointwise [xr, val_main_cst_3]

end Cert.Reference6Ideal.Read

namespace Cert.Kernel6Ideal.Value
open Cert.Kernel6Ideal Cert.Kernel6Ideal.Gen Cert.Num Finset
open Cert.Reference6Ideal.Read (dy xr dn)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0] ∧ win0_4.index t = ![t.val, 0]
  ∧ win0_5.index t = ![t.val, 0] ∧ win0_6.index t = ![0, 0] ∧ win0_7.index t = ![t.val, 0] ∧ win0_8.index t = ![0, 0] :=
  (by decide +kernel : ∀ t : Fin grid0.N, _)

theorem lt_point (t : Fin cfg0.N) : t.val < 16 := lt_of_lt_of_eq t.isLt N_0

/-- The argument arrays. -/
abbrev X0 (c : Dev nD) : FVec Ideal S8192x1024 .f32 := m ((c : Thread nD τ).loc main_arg0)
abbrev X1 (c : Dev nD) : FVec Ideal S1x1024 .f32 := m ((c : Thread nD τ).loc main_arg1)
abbrev X2 (c : Dev nD) : FVec Ideal S1024x3104 .f32 := m ((c : Thread nD τ).loc main_arg2)
abbrev X3 (c : Dev nD) : FVec Ideal S8192x3104 .f32 := m ((c : Thread nD τ).loc main_arg3)
abbrev X4 (c : Dev nD) : FVec Ideal S8192x1024 .f32 := m ((c : Thread nD τ).loc main_arg4)

/-- The row of the arrays that row `r` of half `h` of the block at point `t` is. -/
abbrev row (t : Fin cfg0.N) (h : Fin 2) (r : Fin 256) : Fin 8192 := ⟨512 * t.val + (256 * h.val + r.val), by have := lt_point t; omega⟩

/-- A row of a block. -/
def xrow (x : S256x1024.Idx → EReal) (r : Fin 256) (l : Fin 1024) : EReal := x (ix2 r l)

/-- The column that column `k` of the first part is: the columns before the gates' and the one after the decays' side by side. -/
def colA (k : Fin 2048) : Fin 3104 := if h : k.val < 1536 then ⟨k.val, by omega⟩ else ⟨k.val + 1024, by omega⟩

/-- The columns of the second part: the four decays' and the gates', and nothing beyond them. -/
def colB (f : Fin 3104 → EReal) (k : Fin 1152) : EReal :=
  if h : k.val < 1024 then f ⟨1536 + k.val, by omega⟩ else if h : k.val < 1056 then f ⟨2048 + k.val, by omega⟩ else 0

/-- The two parts hold every column once. -/
theorem sum_parts_columns (f : Fin 3104 → EReal) : ∑ k : Fin 2048, f (colA k) + ∑ k : Fin 1152, colB f k = ∑ k : Fin 3104, f k := by
  have h1 : ∑ k : Fin 2048, f (colA k) = ∑ k : Fin 1536, f ⟨k.val, by omega⟩ + ∑ k : Fin 512, f ⟨k.val + 2560, by omega⟩ := by
    refine (Fin.sum_univ_add (a := 1536) (b := 512) fun k => f (colA k)).trans (congrArg₂ (· + ·) (sum_congr rfl fun k _ => ?_) (sum_congr rfl fun k _ => ?_))
    · rw [colA, dif_pos (show (Fin.castAdd 512 k).val < 1536 from k.isLt)]; rfl
    · rw [colA, dif_neg (show ¬ (Fin.natAdd 1536 k).val < 1536 from by simp)]
      exact congrArg f (Fin.ext (by simp only [Fin.val_natAdd]; omega))
  have h2 : ∑ k : Fin 1152, colB f k = ∑ k : Fin 1024, f ⟨1536 + k.val, by omega⟩ + ∑ k : Fin 32, f ⟨k.val + 3072, by omega⟩ := by
    refine (Fin.sum_univ_add (a := 1024) (b := 128) fun k => colB f k).trans (congrArg₂ (· + ·) (sum_congr rfl fun k _ => ?_) ?_)
    · rw [colB, dif_pos (show (Fin.castAdd 128 k).val < 1024 from k.isLt)]; rfl
    · refine (Fin.sum_univ_add (a := 32) (b := 96) fun k => colB f (Fin.natAdd 1024 k)).trans ?_
      rw [sum_eq_zero (f := fun k : Fin 96 => colB f (Fin.natAdd 1024 (Fin.natAdd 32 k))) fun k _ => ?_, add_zero]
      · refine sum_congr rfl fun k _ => ?_
        rw [colB, dif_neg (by simp), dif_pos (show (Fin.natAdd 1024 (Fin.castAdd 96 k)).val < 1056 from by simp only [Fin.val_natAdd, Fin.val_castAdd]; omega)]
        exact congrArg f (Fin.ext (by simp only [Fin.val_natAdd, Fin.val_castAdd]; omega))
      · rw [colB, dif_neg (by simp), dif_neg (by simp only [Fin.val_natAdd]; omega)]
  rw [h1, h2]
  have h3 : ∑ k : Fin 3104, f k = ∑ k : Fin 1536, f ⟨k.val, by omega⟩ + (∑ k : Fin 1024, f ⟨1536 + k.val, by omega⟩ + (∑ k : Fin 512, f ⟨k.val + 2560, by omega⟩ + ∑ k : Fin 32, f ⟨k.val + 3072, by omega⟩)) := by
    refine (Fin.sum_univ_add (a := 1536) (b := 1568) f).trans (congrArg₂ (· + ·) rfl ?_)
    refine (Fin.sum_univ_add (a := 1024) (b := 544) fun k => f (Fin.natAdd 1536 k)).trans (congrArg₂ (· + ·) rfl ?_)
    refine (Fin.sum_univ_add (a := 512) (b := 32) fun k => f (Fin.natAdd 1536 (Fin.natAdd 1024 k))).trans (congrArg₂ (· + ·) ?_ ?_)
    all_goals exact sum_congr rfl fun k _ => congrArg f (Fin.ext (by simp only [Fin.val_natAdd, Fin.val_castAdd]; omega))
  rw [h3]
  ac_rfl

variable (w : FVec Ideal S2048x1024 .bf16) (q : FVec Ideal S256x2048 .bf16) (v : FVec Ideal S256x1152 .bf16) (u : FVec Ideal S1152x1024 .bf16) (x y : FVec Ideal S256x1024 .f32) (g : FVec Ideal S1x1024 .f32)

theorem pay5_at (r : Fin 256) (l : Fin 1024) : k0_pay5 (F := Ideal) w q v u (ix2 r l)
    = ∑ k : Fin 2048, (q (ix2 r k) : EReal) * w (ix2 k l) + ∑ k : Fin 1152, (v (ix2 r k) : EReal) * u (ix2 k l) := by
  pointwise [k0_pay5, k0_pay4]

theorem pay6_at (r : Fin 256) (z : Fin 1) : k0_pay6 (F := Ideal) x (ix2 r z) = rs (xrow x r) := by
  unfold rs msq xrow
  pointwise [k0_pay6]

theorem pay7_at (r : Fin 256) (l : Fin 1024) : k0_pay7 (F := Ideal) x (ix2 r l) = xrow x r l * rs (xrow x r) := by
  rw [← pay6_at x r 0]
  unfold k0_pay7
  generalize k0_pay6 (F := Ideal) x = a
  pointwise [xrow]

theorem pay8_at (r : Fin 256) (l : Fin 1024) (d : Fin 1024 → EReal) (hd : ∀ l, k0_pay5 (F := Ideal) w q v u (ix2 r l) * g (ix2 0 l) = d l) :
    k0_pay8 (F := Ideal) w q v u x y g (ix2 r l) = y (ix2 r l) + d l * rs (xrow x r) + xrow x r l * cf (xrow x r) d + cf (xrow x r) d * xrow x r l := by
  rw [← norm_row]
  simp only [← hd, ← pay7_at]
  rw [← pay6_at x r 0]
  unfold k0_pay8
  generalize k0_pay5 (F := Ideal) w q v u = d
  generalize k0_pay7 (F := Ideal) x = b
  generalize k0_pay6 (F := Ideal) x = a
  pointwise []

theorem pay10_at (z : Fin 1) (l : Fin 1024) : k0_pay10 (F := Ideal) (k0_pay9 w q v u x) (ix2 z l)
    = ∑ r : Fin 256, k0_pay5 (F := Ideal) w q v u (ix2 r l) * (xrow x r l * rs (xrow x r)) := by
  simp only [← pay7_at]
  unfold k0_pay10 k0_pay9
  generalize k0_pay5 (F := Ideal) w q v u = d
  generalize k0_pay7 (F := Ideal) x = b
  pointwise []

theorem V_q (c : Dev nD) : V m c main_v12 = concatenate S8192x2048 1 [⟨S8192x1536, (extractStridedSlice S8192x1536 ![0, 0] (truncf .bf16 (X3 m c) bitsLt_bf16_f32) slices_S8192x3104_S8192x1536_0_0 : FVec Ideal S8192x1536 .bf16)⟩,
    ⟨S8192x512, (extractStridedSlice S8192x512 ![0, 2560] (truncf .bf16 (X3 m c) bitsLt_bf16_f32) slices_S8192x3104_S8192x512_0_2560 : FVec Ideal S8192x512 .bf16)⟩] concatenates_S8192x1536_S8192x512_S8192x2048_d1 := by
  simp only [V]
  entry_read
  rfl

theorem V_w (c : Dev nD) : V m c main_v4 = concatenate S2048x1024 0 [⟨S1536x1024, (extractStridedSlice S1536x1024 ![0, 0] (truncf .bf16 (transpose S3104x1024 [1, 0] (X2 m c) transposes_S1024x3104_S3104x1024_1_0) bitsLt_bf16_f32) slices_S3104x1024_S1536x1024_0_0 : FVec Ideal S1536x1024 .bf16)⟩,
    ⟨S512x1024, (extractStridedSlice S512x1024 ![2560, 0] (truncf .bf16 (transpose S3104x1024 [1, 0] (X2 m c) transposes_S1024x3104_S3104x1024_1_0) bitsLt_bf16_f32) slices_S3104x1024_S512x1024_2560_0 : FVec Ideal S512x1024 .bf16)⟩] concatenates_S1536x1024_S512x1024_S2048x1024_d0 := by
  simp only [V]
  entry_read
  rfl

theorem cat_columns {a a' : S8192x1024.Idx → EReal} {b b' : S8192x32.Idx → EReal} {e e' : S8192x96.Idx → EReal} (ha : a = a') (hb : b = b') (he : e = e') :
    concatenate S8192x1152 1 [⟨S8192x1024, a⟩, ⟨S8192x32, b⟩, ⟨S8192x96, e⟩] concatenates_S8192x1024_S8192x32_S8192x96_S8192x1152_d1
      = concatenate S8192x1152 1 [⟨S8192x1024, a'⟩, ⟨S8192x32, b'⟩, ⟨S8192x96, e'⟩] concatenates_S8192x1024_S8192x32_S8192x96_S8192x1152_d1 := by
  subst ha hb he
  rfl

theorem cat_rows {a a' : S1024x1024.Idx → EReal} {b b' : S32x1024.Idx → EReal} {e e' : S96x1024.Idx → EReal} (ha : a = a') (hb : b = b') (he : e = e') :
    concatenate S1152x1024 0 [⟨S1024x1024, a⟩, ⟨S32x1024, b⟩, ⟨S96x1024, e⟩] concatenates_S1024x1024_S32x1024_S96x1024_S1152x1024_d0
      = concatenate S1152x1024 0 [⟨S1024x1024, a'⟩, ⟨S32x1024, b'⟩, ⟨S96x1024, e'⟩] concatenates_S1024x1024_S32x1024_S96x1024_S1152x1024_d0 := by
  subst ha hb he
  rfl

theorem V_v (c : Dev nD) : V m c main_v16 = concatenate S8192x1152 1 [⟨S8192x1024, fun i => X3 m c (ix2 (i 0) ⟨1536 + (i 1).val, by have := (i 1).isLt; exact lt_of_lt_of_le (Nat.add_lt_add_left this 1536) (by decide)⟩)⟩,
    ⟨S8192x32, fun i => X3 m c (ix2 (i 0) ⟨3072 + (i 1).val, by have := (i 1).isLt; exact lt_of_lt_of_le (Nat.add_lt_add_left this 3072) (by decide)⟩)⟩,
    ⟨S8192x96, fun _ => (0 : EReal)⟩] concatenates_S8192x1024_S8192x32_S8192x96_S8192x1152_d1 := by
  refine (StableHlo.after_last_write (i := 18) [] rfl rfl (by decide) _).trans ?_
  rw [StableHlo.nary_result']
  refine cat_columns ?_ ?_ ?_
  · show StableHlo.upto _ _ 18 (Proc.devRef .tc main_v13) = _
    refine (StableHlo.upto_last_write (i := 14) [main_v14, main_cst_0, main_v15] rfl rfl (by decide) _).trans ?_
    rw [StableHlo.unary_result', show StableHlo.upto _ _ 14 (Proc.devRef .tc main_v9) = _ from (StableHlo.upto_last_write (i := 10) [main_v10, main_v11, main_v12] rfl rfl (by decide) _).trans (StableHlo.unary_result' ..),
      show StableHlo.upto _ _ 10 (Proc.devRef .tc main_arg3) = X3 m c from StableHlo.upto_unwritten [main_v0, main_v1, main_v2, main_v3, main_v4, main_v5, main_v6, main_cst, main_v7, main_v8] rfl (by decide) _]
    generalize X3 m c = x
    funext i
    obtain ⟨r, k, rfl⟩ : ∃ (r : Fin 8192) (k : Fin 1024), i = ix2 r k := ⟨i 0, i 1, by blk_ext []⟩
    pointwise []
  · show StableHlo.upto _ _ 18 (Proc.devRef .tc main_v14) = _
    refine (StableHlo.upto_last_write (i := 15) [main_cst_0, main_v15] rfl rfl (by decide) _).trans ?_
    rw [StableHlo.unary_result', show StableHlo.upto _ _ 15 (Proc.devRef .tc main_v9) = _ from (StableHlo.upto_last_write (i := 10) [main_v10, main_v11, main_v12, main_v13] rfl rfl (by decide) _).trans (StableHlo.unary_result' ..),
      show StableHlo.upto _ _ 10 (Proc.devRef .tc main_arg3) = X3 m c from StableHlo.upto_unwritten [main_v0, main_v1, main_v2, main_v3, main_v4, main_v5, main_v6, main_cst, main_v7, main_v8] rfl (by decide) _]
    generalize X3 m c = x
    funext i
    obtain ⟨r, k, rfl⟩ : ∃ (r : Fin 8192) (k : Fin 32), i = ix2 r k := ⟨i 0, i 1, by blk_ext []⟩
    pointwise []
  · show StableHlo.upto _ _ 18 (Proc.devRef .tc main_v15) = _
    refine (StableHlo.upto_last_write (i := 17) [] rfl rfl (by decide) _).trans ?_
    rw [StableHlo.unary_result', show StableHlo.upto _ _ 17 (Proc.devRef .tc main_cst_0) = _ from (StableHlo.upto_last_write (i := 16) [] rfl rfl (by decide) _).trans (StableHlo.nullary_result' ..)]
    funext i
    pointwise []

theorem V_u (c : Dev nD) : V m c main_v8 = concatenate S1152x1024 0 [⟨S1024x1024, fun i => X2 m c (ix2 (i 1) ⟨1536 + (i 0).val, by have := (i 0).isLt; exact lt_of_lt_of_le (Nat.add_lt_add_left this 1536) (by decide)⟩)⟩,
    ⟨S32x1024, fun i => X2 m c (ix2 (i 1) ⟨3072 + (i 0).val, by have := (i 0).isLt; exact lt_of_lt_of_le (Nat.add_lt_add_left this 3072) (by decide)⟩)⟩,
    ⟨S96x1024, fun _ => (0 : EReal)⟩] concatenates_S1024x1024_S32x1024_S96x1024_S1152x1024_d0 := by
  refine (StableHlo.after_last_write (i := 9) [main_v9, main_v10, main_v11, main_v12, main_v13, main_v14, main_cst_0, main_v15, main_v16] rfl rfl (by decide) _).trans ?_
  rw [StableHlo.nary_result']
  refine cat_rows ?_ ?_ ?_
  · show StableHlo.upto _ _ 9 (Proc.devRef .tc main_v5) = _
    refine (StableHlo.upto_last_write (i := 5) [main_v6, main_cst, main_v7] rfl rfl (by decide) _).trans ?_
    rw [StableHlo.unary_result', show StableHlo.upto _ _ 5 (Proc.devRef .tc main_v1) = _ from (StableHlo.upto_last_write (i := 1) [main_v2, main_v3, main_v4] rfl rfl (by decide) _).trans (StableHlo.unary_result' ..),
      show StableHlo.upto _ _ 1 (Proc.devRef .tc main_v0) = _ from (StableHlo.upto_last_write (i := 0) [] rfl rfl (by decide) _).trans (StableHlo.unary_result' ..),
      show StableHlo.upto _ _ 0 (Proc.devRef .tc main_arg2) = X2 m c from rfl]
    generalize X2 m c = x
    funext i
    obtain ⟨k, r, rfl⟩ : ∃ (k : Fin 1024) (r : Fin 1024), i = ix2 k r := ⟨i 0, i 1, by blk_ext []⟩
    pointwise []
  · show StableHlo.upto _ _ 9 (Proc.devRef .tc main_v6) = _
    refine (StableHlo.upto_last_write (i := 6) [main_cst, main_v7] rfl rfl (by decide) _).trans ?_
    rw [StableHlo.unary_result', show StableHlo.upto _ _ 6 (Proc.devRef .tc main_v1) = _ from (StableHlo.upto_last_write (i := 1) [main_v2, main_v3, main_v4, main_v5] rfl rfl (by decide) _).trans (StableHlo.unary_result' ..),
      show StableHlo.upto _ _ 1 (Proc.devRef .tc main_v0) = _ from (StableHlo.upto_last_write (i := 0) [] rfl rfl (by decide) _).trans (StableHlo.unary_result' ..),
      show StableHlo.upto _ _ 0 (Proc.devRef .tc main_arg2) = X2 m c from rfl]
    generalize X2 m c = x
    funext i
    obtain ⟨k, r, rfl⟩ : ∃ (k : Fin 32) (r : Fin 1024), i = ix2 k r := ⟨i 0, i 1, by blk_ext []⟩
    pointwise []
  · show StableHlo.upto _ _ 9 (Proc.devRef .tc main_v7) = _
    refine (StableHlo.upto_last_write (i := 8) [] rfl rfl (by decide) _).trans ?_
    rw [StableHlo.unary_result', show StableHlo.upto _ _ 8 (Proc.devRef .tc main_cst) = _ from (StableHlo.upto_last_write (i := 7) [] rfl rfl (by decide) _).trans (StableHlo.nullary_result' ..)]
    funext i
    pointwise []

theorem iblk0 (c : Dev nD) (t : Fin cfg0.N) (h : Fin 2) (r : Fin 256) (l : Fin 512) (k : Fin 2048) (hl : l.val = 256 * h.val + r.val) :
    iblk m c 0 t (ix2 l k) = X3 m c (ix2 (row t h r) (colA k)) := by
  unfold iblk
  rw [show V m c (Pipeline.arrRef spec0 0) = _ from V_q m c, View.read_apply]
  rw [show ((cfg0.win 0).blk t).view.emb (ix2 l k) = ix2 (row t h r) k by blk_ext [idx t]]
  generalize X3 m c = x
  generalize row t h r = R
  unfold colA
  pointwise []
  split
  · rfl
  · exact congrArg x (by blk_ext [])

theorem iblk1 (c : Dev nD) (t : Fin cfg0.N) (k : Fin 2048) (l : Fin 1024) : iblk m c 1 t (ix2 k l) = X2 m c (ix2 l (colA k)) := by
  unfold iblk
  rw [show V m c (Pipeline.arrRef spec0 1) = _ from V_w m c, View.read_apply]
  rw [show ((cfg0.win 1).blk t).view.emb (ix2 k l) = ix2 k l by blk_ext [idx t]]
  generalize X2 m c = x
  unfold colA
  pointwise []
  split
  · rfl
  · exact congrArg x (by blk_ext [])

theorem iblkv (c : Dev nD) (t : Fin cfg0.N) (h : Fin 2) (r : Fin 256) (l : Fin 512) (k : Fin 1152) (hl : l.val = 256 * h.val + r.val) :
    iblk m c 2 t (ix2 l k) = colB (fun j => X3 m c (ix2 (row t h r) j)) k := by
  unfold iblk
  rw [show V m c (Pipeline.arrRef spec0 2) = _ from V_v m c, View.read_apply]
  rw [show ((cfg0.win 2).blk t).view.emb (ix2 l k) = ix2 (row t h r) k by blk_ext [idx t]]
  generalize X3 m c = x
  generalize row t h r = R
  unfold colB
  pointwise []
  split
  · rfl
  · split
    · rw [dif_pos (show k.val < 1056 by omega)]
      exact congrArg x (by blk_ext [])
    · rw [dif_neg (show ¬ k.val < 1056 by omega)]
      rfl

theorem iblku (c : Dev nD) (t : Fin cfg0.N) (k : Fin 1152) (l : Fin 1024) : iblk m c 3 t (ix2 k l) = colB (fun j => X2 m c (ix2 l j)) k := by
  unfold iblk
  rw [show V m c (Pipeline.arrRef spec0 3) = _ from V_u m c, View.read_apply]
  rw [show ((cfg0.win 3).blk t).view.emb (ix2 k l) = ix2 k l by blk_ext [idx t]]
  generalize X2 m c = x
  unfold colB
  pointwise []
  split
  · rfl
  · split
    · rw [dif_pos (show k.val < 1056 by omega)]
      exact congrArg x (by blk_ext [])
    · rw [dif_neg (show ¬ k.val < 1056 by omega)]
      rfl

theorem iblk4 (c : Dev nD) (t : Fin cfg0.N) (h : Fin 2) (r : Fin 256) (l : Fin 512) (k : Fin 1024) (hl : l.val = 256 * h.val + r.val) :
    iblk m c 4 t (ix2 l k) = X0 m c (ix2 (row t h r) k) := by
  unfold iblk
  rw [show V m c (Pipeline.arrRef spec0 4) = _ from V_main_arg0 m c]
  blk_ext [idx t]

theorem iblk5 (c : Dev nD) (t : Fin cfg0.N) (h : Fin 2) (r : Fin 256) (l : Fin 512) (k : Fin 1024) (hl : l.val = 256 * h.val + r.val) :
    iblk m c 5 t (ix2 l k) = X4 m c (ix2 (row t h r) k) := by
  unfold iblk
  rw [show V m c (Pipeline.arrRef spec0 5) = _ from V_main_arg4 m c]
  blk_ext [idx t]

theorem iblk6 (c : Dev nD) (t : Fin cfg0.N) (z : Fin 1) (k : Fin 1024) : iblk m c 6 t (ix2 z k) = X1 m c (ix2 z k) := by
  unfold iblk
  rw [show V m c (Pipeline.arrRef spec0 6) = _ from V_main_arg1 m c]
  blk_ext [idx t]

/-- The gradient of the normed rows of a half. -/
theorem half_dy (c : Dev nD) (t : Fin cfg0.N) (h : Fin 2) (hw : ∀ k l, w (ix2 k l) = X2 m c (ix2 l (colA k))) (hq : ∀ r k, q (ix2 r k) = X3 m c (ix2 (row t h r) (colA k)))
    (hv : ∀ r k, v (ix2 r k) = colB (fun j => X3 m c (ix2 (row t h r) j)) k) (hu : ∀ k l, u (ix2 k l) = colB (fun j => X2 m c (ix2 l j)) k)
    (r : Fin 256) (l : Fin 1024) :
    k0_pay5 (F := Ideal) w q v u (ix2 r l) = dy (X2 m c) (X3 m c) (row t h r) l := by
  rw [pay5_at, dy, ← sum_parts_columns]
  refine congrArg₂ (· + ·) (sum_congr rfl fun k _ => by rw [hq, hw]) (sum_congr rfl fun k _ => ?_)
  rw [hv, hu]
  unfold colB
  split
  · rfl
  · split
    · rfl
    · exact zero_mul _

/-- The second half is computed as the first. -/
theorem second_half : k0_pay1 (F := Ideal) y (k0_pay14 (k0_pay4 w) q v u x g) = k0_pay8 w q v u x y g := rfl

/-- What the rows of a half become. -/
theorem half_dx (c : Dev nD) (t : Fin cfg0.N) (h : Fin 2) (hw : ∀ k l, w (ix2 k l) = X2 m c (ix2 l (colA k))) (hq : ∀ r k, q (ix2 r k) = X3 m c (ix2 (row t h r) (colA k)))
    (hv : ∀ r k, v (ix2 r k) = colB (fun j => X3 m c (ix2 (row t h r) j)) k) (hu : ∀ k l, u (ix2 k l) = colB (fun j => X2 m c (ix2 l j)) k)
    (hx : ∀ r k, x (ix2 r k) = X0 m c (ix2 (row t h r) k)) (hy : ∀ r k, y (ix2 r k) = X4 m c (ix2 (row t h r) k))
    (hg : ∀ k, g (ix2 0 k) = X1 m c (ix2 0 k)) (r : Fin 256) (l : Fin 1024) :
    k0_pay8 (F := Ideal) w q v u x y g (ix2 r l) = Cert.Reference6Ideal.Read.val_main_v36 (F := Ideal) (X0 m c) (X1 m c) (X2 m c) (X3 m c) (X4 m c) (ix2 (row t h r) l) := by
  rw [Cert.Reference6Ideal.Read.v36_at, ← hy, ← show xrow x r = xr (X0 m c) (row t h r) from funext fun k => hx r k]
  refine pay8_at w q v u x y g r l _ fun l => ?_
  rw [half_dy m w q v u c t h hw hq hv hu, dn, hg]

/-- What the rows of a half add to the gain's gradient. -/
theorem half_dg (c : Dev nD) (t : Fin cfg0.N) (h : Fin 2) (hw : ∀ k l, w (ix2 k l) = X2 m c (ix2 l (colA k))) (hq : ∀ r k, q (ix2 r k) = X3 m c (ix2 (row t h r) (colA k)))
    (hv : ∀ r k, v (ix2 r k) = colB (fun j => X3 m c (ix2 (row t h r) j)) k) (hu : ∀ k l, u (ix2 k l) = colB (fun j => X2 m c (ix2 l j)) k)
    (hx : ∀ r k, x (ix2 r k) = X0 m c (ix2 (row t h r) k)) (z : Fin 1) (l : Fin 1024) :
    k0_pay10 (F := Ideal) (k0_pay9 w q v u x) (ix2 z l) = ∑ r : Fin 256, xr (X0 m c) (row t h r) l * rs (xr (X0 m c) (row t h r)) * dy (X2 m c) (X3 m c) (row t h r) l := by
  rw [pay10_at]
  refine sum_congr rfl fun r _ => ?_
  rw [← show xrow x r = xr (X0 m c) (row t h r) from funext fun k => hx r k, mul_comm, half_dy m w q v u c t h hw hq hv hu]

theorem final7 (c : Dev nD) : (dats m 0 c).arrAt 7 (cfgs 0).N
    = Cert.Reference6Ideal.Read.val_main_v36 (F := Ideal) (X0 m c) (X1 m c) (X2 m c) (X3 m c) (X4 m c) := by
  refine (dats m 0 c).arrAt_eq_of_covers 7 _ (by decide +kernel) fun t _ y => ?_
  have ht := lt_point t
  blk_simp
  obtain ⟨r, l, rfl⟩ : ∃ (r : Fin 512) (l : Fin 1024), y = ix2 r l := ⟨y 0, y 1, by blk_ext []⟩
  rw [after0_7]
  by_cases h0 : t.val = 0
  on_goal 1 => rw [outsAt0_A m c t (by omega) (by omega)]
  on_goal 2 => rw [outsAt0_B m c t (by omega) (by omega)]
  all_goals
    frame_out
    clear h0
    canon_tiles x h
    all_goals
      obtain ⟨r', l', rfl⟩ : ∃ (r : Fin 256) (l : Fin 1024), x = ix2 r l := ⟨x 0, x 1, by blk_ext []⟩
      obtain rfl : l = l' := Fin.ext h1
    · have hr : r.val = 256 + r'.val := h0
      rw [show ((View.whole main_v17_0).slice (win0_7.rect t)).emb (ix2 r l) = ix2 (row t 1 r') l by blk_ext [idx t]]
      refine (congrFun (second_half _ _ _ _ _ _ _) _).trans ?_
      refine half_dx m _ _ _ _ _ _ _ c t 1 (iblk1 m c t) ?_ ?_ (iblku m c t) ?_ ?_ (iblk6 m c t 0) r' l
      · exact fun r k => (rows_at _ _ r k ⟨256 + r.val, by omega⟩ rfl).trans (iblk0 m c t 1 r _ k rfl)
      · exact fun r k => (rows_at _ _ r k ⟨256 + r.val, by omega⟩ rfl).trans (iblkv m c t 1 r _ k rfl)
      · exact fun r k => (rows_at _ _ r k ⟨256 + r.val, by omega⟩ rfl).trans (iblk4 m c t 1 r _ k rfl)
      · exact fun r k => (rows_at _ _ r k ⟨256 + r.val, by omega⟩ rfl).trans (iblk5 m c t 1 r _ k rfl)
    · have hr : r.val = r'.val := h0
      rw [show ((View.whole main_v17_0).slice (win0_7.rect t)).emb (ix2 r l) = ix2 (row t 0 r') l by blk_ext [idx t]]
      refine half_dx m _ _ _ _ _ _ _ c t 0 (iblk1 m c t) ?_ ?_ (iblku m c t) ?_ ?_ (iblk6 m c t 0) r' l
      · exact fun r k => (rows_at _ _ r k ⟨r.val, by omega⟩ (by simp)).trans (iblk0 m c t 0 r _ k (by simp))
      · exact fun r k => (rows_at _ _ r k ⟨r.val, by omega⟩ (by simp)).trans (iblkv m c t 0 r _ k (by simp))
      · exact fun r k => (rows_at _ _ r k ⟨r.val, by omega⟩ (by simp)).trans (iblk4 m c t 0 r _ k (by simp))
      · exact fun r k => (rows_at _ _ r k ⟨r.val, by omega⟩ (by simp)).trans (iblk5 m c t 0 r _ k (by simp))

/-- What a row adds to the gain's gradient. -/
def gterm (c : Dev nD) (l : Fin 1024) (R : Fin 8192) : EReal := xr (X0 m c) R l * rs (xr (X0 m c) R) * dy (X2 m c) (X3 m c) R l

/-- What a point adds to the gain's gradient. -/
theorem point_dg (c : Dev nD) (t : Fin cfg0.N) (q0 q1 : FVec Ideal S256x2048 .bf16) (v0 v1 : FVec Ideal S256x1152 .bf16) (x0 x1 : FVec Ideal S256x1024 .f32)
    (hq0 : ∀ r k, q0 (ix2 r k) = X3 m c (ix2 (row t 0 r) (colA k))) (hq1 : ∀ r k, q1 (ix2 r k) = X3 m c (ix2 (row t 1 r) (colA k)))
    (hv0 : ∀ r k, v0 (ix2 r k) = colB (fun j => X3 m c (ix2 (row t 0 r) j)) k) (hv1 : ∀ r k, v1 (ix2 r k) = colB (fun j => X3 m c (ix2 (row t 1 r) j)) k)
    (hx0 : ∀ r k, x0 (ix2 r k) = X0 m c (ix2 (row t 0 r) k)) (hx1 : ∀ r k, x1 (ix2 r k) = X0 m c (ix2 (row t 1 r) k)) (z : Fin 1) (l : Fin 1024) :
    k0_pay2 (F := Ideal) (k0_pay10 (k0_pay9 (iblk m c 1 t) q0 v0 (iblk m c 3 t) x0)) (k0_pay11 (k0_pay4 (iblk m c 1 t)) q1 v1 (iblk m c 3 t)) (k0_pay13 x1) (ix2 z l)
      = ∑ h : Fin 2, ∑ r : Fin 256, gterm m c l (row t h r) := by
  rw [Fin.sum_univ_two]
  exact congrArg₂ (· + ·) (half_dg m (iblk m c 1 t) _ _ (iblk m c 3 t) _ c t 0 (iblk1 m c t) hq0 hv0 (iblku m c t) hx0 z l) (half_dg m (iblk m c 1 t) _ _ (iblk m c 3 t) _ c t 1 (iblk1 m c t) hq1 hv1 (iblku m c t) hx1 z l)

theorem pay3_at (a b : FVec Ideal S1x1024 .f32) (x y : FVec Ideal S256x1024 .f32) (z : Fin 1) (l : Fin 1024) :
    k0_pay3 (F := Ideal) a x y b (ix2 z l) = (b (ix2 z l) : EReal) + k0_pay2 (F := Ideal) a x y (ix2 z l) := by
  unfold k0_pay3
  generalize k0_pay2 (F := Ideal) a x y = d
  pointwise []

abbrev t0_15 : Fin cfg0.N := ⟨15, by decide +kernel⟩

theorem final8 (c : Dev nD) : (dats m 0 c).arrAt 8 (cfgs 0).N
    = Cert.Reference6Ideal.Read.val_main_v19 (F := Ideal) (X0 m c) (X2 m c) (X3 m c) := by
  refine (dats m 0 c).arrAt_eq_of_after_last 8 t0_15 (by decide +kernel) _ fun j => ?_
  blk_simp
  obtain ⟨z, l, rfl⟩ : ∃ (z : Fin 1) (l : Fin 1024), j = ix2 z l := ⟨j 0, j 1, by blk_ext []⟩
  rw [after0_8]
  refine (Cert.Num.run_sum (fun n h => (outsAt0 m c n h).2 (ix2 z l)) (fun t => ∑ h : Fin 2, ∑ r : Fin 256, gterm m c l (row t h r)) (fun t h => ?_) (fun t h => ?_) 15 _).trans ?_
  · have ht := lt_point t
    beta_reduce
    rw [outsAt0_A m c t (by omega) (by omega)]
    frame_out
    refine point_dg m c t _ _ _ _ _ _ ?_ ?_ ?_ ?_ ?_ ?_ z l
    · exact fun r k => (rows_at _ _ r k ⟨r.val, by omega⟩ (by simp)).trans (iblk0 m c t 0 r _ k (by simp))
    · exact fun r k => (rows_at _ _ r k ⟨256 + r.val, by omega⟩ rfl).trans (iblk0 m c t 1 r _ k rfl)
    · exact fun r k => (rows_at _ _ r k ⟨r.val, by omega⟩ (by simp)).trans (iblkv m c t 0 r _ k (by simp))
    · exact fun r k => (rows_at _ _ r k ⟨256 + r.val, by omega⟩ rfl).trans (iblkv m c t 1 r _ k rfl)
    · exact fun r k => (rows_at _ _ r k ⟨r.val, by omega⟩ (by simp)).trans (iblk4 m c t 0 r _ k (by simp))
    · exact fun r k => (rows_at _ _ r k ⟨256 + r.val, by omega⟩ rfl).trans (iblk4 m c t 1 r _ k rfl)
  · have ht := lt_point t
    beta_reduce
    rw [outsAt0_B m c t (by omega) (by omega)]
    frame_out
    refine (pay3_at _ _ _ _ z l).trans (congrArg₂ (· + ·) rfl (point_dg m c t _ _ _ _ _ _ ?_ ?_ ?_ ?_ ?_ ?_ z l))
    · exact fun r k => (rows_at _ _ r k ⟨r.val, by omega⟩ (by simp)).trans (iblk0 m c t 0 r _ k (by simp))
    · exact fun r k => (rows_at _ _ r k ⟨256 + r.val, by omega⟩ rfl).trans (iblk0 m c t 1 r _ k rfl)
    · exact fun r k => (rows_at _ _ r k ⟨r.val, by omega⟩ (by simp)).trans (iblkv m c t 0 r _ k (by simp))
    · exact fun r k => (rows_at _ _ r k ⟨256 + r.val, by omega⟩ rfl).trans (iblkv m c t 1 r _ k rfl)
    · exact fun r k => (rows_at _ _ r k ⟨r.val, by omega⟩ (by simp)).trans (iblk4 m c t 0 r _ k (by simp))
    · exact fun r k => (rows_at _ _ r k ⟨256 + r.val, by omega⟩ rfl).trans (iblk4 m c t 1 r _ k rfl)
  · refine Eq.trans ?_ (Cert.Reference6Ideal.Read.v19_at _ _ _ z l).symm
    exact Cert.Num.sum_parts (J := 16) (H := 2) (T := 256) rfl (gterm m c l) (fun t h r => row ⟨t.val, by have : cfg0.N = 16 := N_0; omega⟩ h r) fun _ _ _ => rfl

end Cert.Kernel6Ideal.Value

namespace Cert.Proof
open Cert.Kernel6Ideal.Value

/-- Both programs run, and the kernel's results are the derivatives through the norm. -/
theorem normin_algebraic : Cert.algebraic_Kernel6Ideal_Reference6Ideal := fun m ρ m' ρ' _ hag =>
  ⟨fun c => Cert.Reference6Ideal.Read.val_main_v36 (F := Ideal) (X0 m c) (X1 m c) (X2 m c) (X3 m c) (X4 m c),
    fun c => Cert.Reference6Ideal.Read.val_main_v19 (F := Ideal) (X0 m c) (X2 m c) (X3 m c),
    (θ_run _ _ _).mono (fun _ h c => ⟨(h c).1.trans (final7 m c), (h c).2.1.trans (final8 m c), (h c).2.2⟩)
      (Cert.Kernel6Ideal.Value.run_blocks m ρ),
    (θ_run _ _ _).mono (fun _ h c => by
      obtain ⟨h0, h1, h2, h3, h4⟩ := hag c
      exact ⟨(h c).1.trans ((Cert.Reference6Ideal.Read.val_main_v36_eq m' c).trans (by rw [h0, h1, h2, h3, h4])),
        (h c).2.1.trans ((Cert.Reference6Ideal.Read.val_main_v19_eq _ _ _).trans (by rw [h0, h2, h3])), (h c).2.2⟩)
      (Cert.Reference6Ideal.Value.run m' ρ')⟩

/-- The reference runs and leaves its arguments as they were. -/
theorem normin_reference : Cert.quiescent_Reference6Ideal := fun m ρ _ =>
  (θ_run _ _ _).mono (fun r h => ⟨fun c => (h c).2.2, sem_eq_zero_of_no_sems (by decide) r.2⟩) (Cert.Reference6Ideal.Value.run m ρ)

end Cert.Proof

end
-- ==== Proof.Loss.lean ====
module

public import proofs.«01_k».proof.Defs
public import proofs.«01_k».proof.Proof.Gen.Kernel7Ideal.Value
public import proofs.«01_k».proof.Proof.Gen.Kernel7Ideal.Frame
public import proofs.«01_k».proof.Proof.Gen.Reference7Ideal.Run
public import proofs.«01_k».proof.Proof.Gen.Reference7Ideal.Read
public import proofs.«01_k».proof.Proof.NormRow
public import Idealize.ShloMosaic.Lib.Pipeline.ValueKit
public import Idealize.ShloMosaic.Lib.Pointwise
public import Idealize.ShloMosaic.Lib.Claim

/-! The loss, and the gradients through it and the last norm. -/

@[expose] public section

set_option maxRecDepth 16384

noncomputable section

open Idealize.ShloMosaic Idealize.ShloMosaic.TcCoe Idealize.SL.Sem
open Idealize.ShloMosaic.Pipeline (Dat)

namespace Cert.Num
open Finset

/-- A half. -/
theorem half : Ideal.ofBits .f32 0x3F000000#32 = ((1 / 2 : ℝ) : EReal) := by
  simp [Ideal.ofBits, Ideal.ieee]
  rw [← EReal.coe_mul]
  norm_num

theorem one' : Ideal.ofBits .f32 0x3F800000#32 = ((1 : ℝ) : EReal) := by
  simp [Ideal.ofBits, Ideal.ieee]
  rw [← EReal.coe_mul, ← EReal.coe_one]
  congr 1
  norm_num

theorem two' : Ideal.ofBits .f32 0x40000000#32 = ((2 : ℝ) : EReal) := by
  simp [Ideal.ofBits, Ideal.ieee]
  rw [← EReal.coe_mul]
  norm_num

theorem thousandth : Ideal.ofBits .f32 0x3A800000#32 = ((1 / 1024 : ℝ) : EReal) := by
  simp [Ideal.ofBits, Ideal.ieee]
  rw [← EReal.coe_mul]
  norm_num

/-- The factor of the error in the gradient: a half by 1024, twice. -/
theorem err_scale (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  rw [half, one', two', thousandth, f1024, Ideal.div_coe (by norm_num), ← mul_assoc, mul_comm e]
  simp only [← EReal.coe_mul]
  norm_num

/-- A half of a sum is the sum of the halves. -/
theorem half_sum {ι : Type} (s : Finset ι) (f : ι → EReal) : Ideal.ofBits .f32 0x3F000000#32 * ∑ i ∈ s, f i = ∑ i ∈ s, Ideal.ofBits .f32 0x3F000000#32 * f i := by
  rw [half, mul_comm, mul_sum_coe _ _ _ (by norm_num)]
  exact sum_congr rfl fun i _ => mul_comm _ _

end Cert.Num

namespace Cert.Reference7Ideal.Read
open Cert.Reference7Ideal Cert.Num Finset

variable (x0 : FVec Ideal S8192x4096 .f32) (x1 : FVec Ideal S4096x1024 .f32) (x2 x3 : FVec Ideal S8192x1024 .f32) (x4 : FVec Ideal S1024 .f32)

/-- A row of the norm's argument. -/
def xr (R : Fin 8192) (l : Fin 1024) : EReal := x2 (ix2 R l) + ∑ k : Fin 4096, x0 (ix2 R k) * x1 (ix2 k l)

/-- The error of a prediction. -/
def er (R : Fin 8192) (l : Fin 1024) : EReal := xr x0 x1 x2 R l * rs (xr x0 x1 x2 R) * x4 (ix1 l) - x3 (ix2 R l)

/-- The gradient of the normed rows. -/
def dy (R : Fin 8192) (l : Fin 1024) : EReal := er x0 x1 x2 x3 x4 R l * Ideal.ofBits .f32 0x3A800000#32

/-- The gradient of the normed rows with the gain. -/
def dn (R : Fin 8192) (l : Fin 1024) : EReal := dy x0 x1 x2 x3 x4 R l * x4 (ix1 l)

theorem v1_at (R : Fin 8192) (l : Fin 1024) : val_main_v1 (F := Ideal) x0 x1 x2 (ix2 R l) = xr x0 x1 x2 R l := by
  unfold xr
  pointwise [val_main_v1, val_main_v0]

theorem v8_at (R : Fin 8192) (z : Fin 1) : val_main_v8 (F := Ideal) x0 x1 x2 (ix2 R z) = msq (xr x0 x1 x2 R) := by
  unfold msq
  simp only [← v1_at]
  unfold val_main_v8 val_main_v6 val_main_v4 val_main_v3 val_main_v2
  generalize val_main_v1 (F := Ideal) x0 x1 x2 = a
  pointwise [val_main_v7, val_main_v5, val_main_cst, val_main_cst_0, val_main_cst_1]

theorem v9_at (R : Fin 8192) (z : Fin 1) : val_main_v9 (F := Ideal) x0 x1 x2 (ix2 R z) = rs (xr x0 x1 x2 R) := by
  rw [rs, ← v8_at x0 x1 x2 R z]
  rfl

theorem v18_at (R : Fin 8192) (l : Fin 1024) : val_main_v18 (F := Ideal) x0 x1 x2 x3 x4 (ix2 R l) = er x0 x1 x2 x3 x4 R l := by
  rw [er, ← v9_at x0 x1 x2 R 0, ← v1_at]
  unfold val_main_v18 val_main_v17 val_main_v14 val_main_v13
  generalize val_main_v1 (F := Ideal) x0 x1 x2 = a
  generalize val_main_v9 (F := Ideal) x0 x1 x2 = b
  pointwise [val_main_v16, val_main_v15]

theorem v32_at (R : Fin 8192) (l : Fin 1024) : val_main_v32 (F := Ideal) x0 x1 x2 x3 x4 (ix2 R l) = dy x0 x1 x2 x3 x4 R l := by
  rw [dy, ← err_scale, ← v18_at]
  unfold val_main_v32 val_main_v21
  generalize val_main_v18 (F := Ideal) x0 x1 x2 x3 x4 = a
  pointwise [val_main_v31, val_main_v30, val_main_v29, val_main_v28, val_main_v27, val_main_v20, val_main_cst_3, val_main_cst_8, val_main_cst_9, val_main_cst_10]

theorem v37_at (R : Fin 8192) (l : Fin 1024) : val_main_v37 (F := Ideal) x0 x1 x2 x3 x4 (ix2 R l) = dn x0 x1 x2 x3 x4 R l := by
  rw [dn, ← v32_at]
  unfold val_main_v37
  generalize val_main_v32 (F := Ideal) x0 x1 x2 x3 x4 = a
  pointwise [val_main_v36, val_main_v15]

theorem v48_at (R : Fin 8192) (l : Fin 1024) : val_main_v48 (F := Ideal) x0 x1 x2 x3 x4 (ix2 R l) = cf (xr x0 x1 x2 R) (dn x0 x1 x2 x3 x4 R) := by
  unfold cf
  simp only [← v37_at, ← v1_at, ← v8_at x0 x1 x2 R 0, ← v9_at x0 x1 x2 R 0]
  unfold val_main_v48 val_main_v47 val_main_v46 val_main_v44 val_main_v41 val_main_v40 val_main_v39 val_main_v12 val_main_v10
  generalize val_main_v37 (F := Ideal) x0 x1 x2 x3 x4 = d
  generalize val_main_v9 (F := Ideal) x0 x1 x2 = a
  generalize val_main_v8 (F := Ideal) x0 x1 x2 = b
  generalize val_main_v1 (F := Ideal) x0 x1 x2 = x
  pointwise [val_main_v45, val_main_v11, val_main_cst_2, val_main_cst_13, val_main_cst_14, val_main_cst_15]
  rw [Finset.univ_unique (α := Fin 1), sum_singleton]
  rfl

theorem v52_at (R : Fin 8192) (l : Fin 1024) : val_main_v52 (F := Ideal) x0 x1 x2 x3 x4 (ix2 R l)
    = dn x0 x1 x2 x3 x4 R l * rs (xr x0 x1 x2 R) + xr x0 x1 x2 R l * cf (xr x0 x1 x2 R) (dn x0 x1 x2 x3 x4 R) + cf (xr x0 x1 x2 R) (dn x0 x1 x2 x3 x4 R) * xr x0 x1 x2 R l := by
  rw [← v48_at x0 x1 x2 x3 x4 R l, ← v37_at, ← v9_at x0 x1 x2 R 0, ← v1_at]
  unfold val_main_v52 val_main_v51 val_main_v50 val_main_v49 val_main_v43 val_main_v42
  generalize val_main_v48 (F := Ideal) x0 x1 x2 x3 x4 = e
  generalize val_main_v37 (F := Ideal) x0 x1 x2 x3 x4 = d
  generalize val_main_v9 (F := Ideal) x0 x1 x2 = a
  generalize val_main_v1 (F := Ideal) x0 x1 x2 = x
  pointwise []

theorem v54_at (z : Fin 1) (l : Fin 128) : val_main_v54 (F := Ideal) x0 x1 x2 x3 x4 (ix2 z l)
    = Ideal.ofBits .f32 0x3F000000#32 * ∑ R : Fin 8192, Ideal.div (∑ k : Fin 1024, er x0 x1 x2 x3 x4 R k * er x0 x1 x2 x3 x4 R k) (Ideal.ofBits .f32 0x44800000#32) := by
  simp only [← v18_at]
  unfold val_main_v54 val_main_v26 val_main_v25 val_main_v24 val_main_v22 val_main_v19
  generalize val_main_v18 (F := Ideal) x0 x1 x2 x3 x4 = a
  pointwise [val_main_v23, val_main_cst_4, val_main_cst_5, val_main_cst_6, val_main_cst_7]

theorem v55_at (z : Fin 1) (l : Fin 1024) : val_main_v55 (F := Ideal) x0 x1 x2 x3 x4 (ix2 z l)
    = ∑ R : Fin 8192, xr x0 x1 x2 R l * rs (xr x0 x1 x2 R) * dy x0 x1 x2 x3 x4 R l := by
  simp only [← v32_at, ← v9_at x0 x1 x2 _ 0, ← v1_at]
  unfold val_main_v55 val_main_v38 val_main_v35 val_main_v34 val_main_v33 val_main_v14 val_main_v13
  generalize val_main_v32 (F := Ideal) x0 x1 x2 x3 x4 = d
  generalize val_main_v9 (F := Ideal) x0 x1 x2 = a
  generalize val_main_v1 (F := Ideal) x0 x1 x2 = x
  pointwise [val_main_cst_11, val_main_cst_12]
  rw [Finset.univ_unique (α := Fin 1), sum_singleton]

end Cert.Reference7Ideal.Read

namespace Cert.Kernel7Ideal.Value
open Cert.Kernel7Ideal Cert.Kernel7Ideal.Gen Cert.Num Finset
open Cert.Reference7Ideal.Read (xr er dy dn)

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0] ∧ win0_4.index t = ![0, 0]
  ∧ win0_5.index t = ![t.val, 0] ∧ win0_6.index t = ![t.val, 0] ∧ win0_7.index t = ![0, 0] ∧ win0_8.index t = ![0, 0] :=
  (by decide +kernel : ∀ t : Fin grid0.N, _)

theorem lt_point (t : Fin cfg0.N) : t.val < 16 := lt_of_lt_of_eq t.isLt N_0

/-- The argument arrays. -/
abbrev X0 (c : Dev nD) : FVec Ideal S8192x4096 .f32 := m ((c : Thread nD τ).loc main_arg0)
abbrev X1 (c : Dev nD) : FVec Ideal S4096x1024 .f32 := m ((c : Thread nD τ).loc main_arg1)
abbrev X2 (c : Dev nD) : FVec Ideal S8192x1024 .f32 := m ((c : Thread nD τ).loc main_arg2)
abbrev X3 (c : Dev nD) : FVec Ideal S8192x1024 .f32 := m ((c : Thread nD τ).loc main_arg3)
abbrev X4 (c : Dev nD) : FVec Ideal S1024 .f32 := m ((c : Thread nD τ).loc main_arg4)

/-- The row of the arrays that row `r` of half `h` of the block at point `t` is. -/
abbrev row (t : Fin cfg0.N) (h : Fin 2) (r : Fin 256) : Fin 8192 := ⟨512 * t.val + (256 * h.val + r.val), by have := lt_point t; omega⟩

variable (w : FVec Ideal S4x1024x1024 .bf16) (q : FVec Ideal S256x4096 .bf16) (x y : FVec Ideal S256x1024 .f32) (g : FVec Ideal S1x1024 .f32)

/-- A row of the norm's argument in a half. -/
def xrow (r : Fin 256) (l : Fin 1024) : EReal := k0_pay5 (F := Ideal) w q x (ix2 r l)

theorem pay5_at (r : Fin 256) (l : Fin 1024) : k0_pay5 (F := Ideal) w q x (ix2 r l) = ∑ k : Fin 4096, (q (ix2 r k) : EReal) * k0_pay3 (F := Ideal) w (ix2 k l) + x (ix2 r l) := by
  unfold k0_pay5
  generalize k0_pay3 (F := Ideal) w = v
  pointwise []

theorem pay6_at (r : Fin 256) (z : Fin 1) : k0_pay6 (F := Ideal) w q x (ix2 r z) = rs (xrow w q x r) := by
  unfold rs msq xrow k0_pay6
  generalize k0_pay5 (F := Ideal) w q x = a
  pointwise []

theorem pay7_at (r : Fin 256) (l : Fin 1024) : k0_pay7 (F := Ideal) w q x (ix2 r l) = xrow w q x r l * rs (xrow w q x r) := by
  rw [← pay6_at w q x r 0, xrow]
  unfold k0_pay7
  generalize k0_pay5 (F := Ideal) w q x = a
  generalize k0_pay6 (F := Ideal) w q x = b
  pointwise []

theorem pay8_at (r : Fin 256) (l : Fin 1024) : k0_pay8 (F := Ideal) w q x y g (ix2 r l) = xrow w q x r l * rs (xrow w q x r) * g (ix2 0 l) - y (ix2 r l) := by
  rw [← pay7_at]
  unfold k0_pay8
  generalize k0_pay7 (F := Ideal) w q x = b
  pointwise [k0_pay4]

theorem pay9_at (z : Fin 1) (l : Fin 128) : k0_pay9 (F := Ideal) w q x y g (ix2 z l)
    = Ideal.ofBits .f32 0x3F000000#32 * ∑ r : Fin 256, Ideal.div (∑ k : Fin 1024, k0_pay8 (F := Ideal) w q x y g (ix2 r k) * k0_pay8 (F := Ideal) w q x y g (ix2 r k)) (Ideal.ofBits .f32 0x44800000#32) := by
  unfold k0_pay9
  generalize k0_pay8 (F := Ideal) w q x y g = e
  pointwise []
  exact congrArg _ (sum_congr rfl fun r _ => (sum_congr (univ_unique (α := Fin 1)) fun _ _ => rfl).trans (sum_singleton _ _))

theorem pay11_at (e : FVec Ideal S256x1024 .f32) (r : Fin 256) (l : Fin 1024) : k0_pay11 (F := Ideal) e k0_pay10 (ix2 r l) = e (ix2 r l) * Ideal.ofBits .f32 0x3A800000#32 := by
  pointwise [k0_pay11, k0_pay10]

theorem pay12_at (e : FVec Ideal S256x1024 .f32) (r : Fin 256) (l : Fin 1024) (d : Fin 1024 → EReal) (hd : ∀ l, k0_pay11 (F := Ideal) e k0_pay10 (ix2 r l) * g (ix2 0 l) = d l) :
    k0_pay12 (F := Ideal) (k0_pay4 g) (k0_pay6 w q x) (k0_pay7 w q x) e k0_pay10 (ix2 r l)
      = d l * rs (xrow w q x r) + xrow w q x r l * cf (xrow w q x r) d + cf (xrow w q x r) d * xrow w q x r l := by
  have h := norm_row (xrow w q x r) d 0 l
  rw [add_zero, zero_add] at h
  rw [← h]
  simp only [← hd, ← pay7_at]
  rw [← pay6_at w q x r 0]
  unfold k0_pay12
  generalize k0_pay11 (F := Ideal) e k0_pay10 = d
  generalize k0_pay7 (F := Ideal) w q x = b
  generalize k0_pay6 (F := Ideal) w q x = a
  pointwise [k0_pay4]

theorem pay13_at (e : FVec Ideal S256x1024 .f32) (z : Fin 1) (l : Fin 1024) : k0_pay13 (F := Ideal) (k0_pay7 w q x) e k0_pay10 (ix2 z l)
    = ∑ r : Fin 256, k0_pay11 (F := Ideal) e k0_pay10 (ix2 r l) * (xrow w q x r l * rs (xrow w q x r)) := by
  simp only [← pay7_at]
  unfold k0_pay13
  generalize k0_pay11 (F := Ideal) e k0_pay10 = d
  generalize k0_pay7 (F := Ideal) w q x = b
  pointwise []

/-- The second half is computed as the first. -/
theorem second_dx : k0_pay22 (F := Ideal) y (k0_pay15 g) (k0_pay17 (k0_pay3 w) q x) (k0_pay18 (k0_pay3 w) q x) (k0_pay19 (k0_pay3 w) q x g)
    = k0_pay12 (k0_pay4 g) (k0_pay6 w q x) (k0_pay7 w q x) (k0_pay8 w q x y g) k0_pay10 := rfl

theorem second_loss (a : FVec Ideal S1x128 .f32) (z : Fin 1) (l : Fin 128) : k0_pay24 (F := Ideal) a y (k0_pay19 (k0_pay3 w) q x g) (ix2 z l)
    = (a (ix2 z l) : EReal) + k0_pay9 (F := Ideal) w q x y g (ix2 z l) := rfl

theorem second_dg (a : FVec Ideal S1x1024 .f32) (z : Fin 1) (l : Fin 1024) : k0_pay25 (F := Ideal) a y (k0_pay18 (k0_pay3 w) q x) (k0_pay19 (k0_pay3 w) q x g) (ix2 z l)
    = (a (ix2 z l) : EReal) + k0_pay13 (F := Ideal) (k0_pay7 w q x) (k0_pay8 w q x y g) k0_pay10 (ix2 z l) := rfl

theorem V_q (c : Dev nD) : V m c main_v2 = truncf .bf16 (X0 m c) bitsLt_bf16_f32 := by
  simp only [V]
  entry_read
  rfl

theorem V_w (c : Dev nD) : V m c main_v1 = shapeCast S4x1024x1024 (truncf .bf16 (X1 m c) bitsLt_bf16_f32) shapeCasts_S4096x1024_S4x1024x1024 := by
  simp only [V]
  entry_read
  rfl

theorem V_g (c : Dev nD) : V m c main_v3 = shapeCast S1x1024 (X4 m c) shapeCasts_S1024_S1x1024 := by
  simp only [V]
  entry_read
  rfl

theorem iblk0 (c : Dev nD) (t : Fin cfg0.N) (h : Fin 2) (r : Fin 256) (l : Fin 512) (k : Fin 4096) (hl : l.val = 256 * h.val + r.val) :
    iblk m c 0 t (ix2 l k) = X0 m c (ix2 (row t h r) k) := by
  unfold iblk
  rw [show V m c (Pipeline.arrRef spec0 0) = _ from V_q m c, View.read_apply]
  rw [show ((cfg0.win 0).blk t).view.emb (ix2 l k) = ix2 (row t h r) k by blk_ext [idx t]]
  rfl

theorem iblk1 (c : Dev nD) (t : Fin cfg0.N) (k : Fin 4096) (l : Fin 1024) : k0_pay3 (F := Ideal) (iblk m c 1 t) (ix2 k l) = X1 m c (ix2 k l) := by
  have e : iblk m c 1 t = shapeCast S4x1024x1024 (truncf .bf16 (X1 m c) bitsLt_bf16_f32) shapeCasts_S4096x1024_S4x1024x1024 := by
    unfold iblk
    rw [show V m c (Pipeline.arrRef spec0 1) = _ from V_w m c]
    funext i
    rw [View.read_apply]
    exact congrArg _ (by blk_ext [idx t])
  rw [e]
  generalize X1 m c = x
  pointwise [k0_pay3]

theorem iblk2 (c : Dev nD) (t : Fin cfg0.N) (h : Fin 2) (r : Fin 256) (l : Fin 512) (k : Fin 1024) (hl : l.val = 256 * h.val + r.val) :
    iblk m c 2 t (ix2 l k) = X2 m c (ix2 (row t h r) k) := by
  unfold iblk
  rw [show V m c (Pipeline.arrRef spec0 2) = _ from V_main_arg2 m c]
  blk_ext [idx t]

theorem iblk3 (c : Dev nD) (t : Fin cfg0.N) (h : Fin 2) (r : Fin 256) (l : Fin 512) (k : Fin 1024) (hl : l.val = 256 * h.val + r.val) :
    iblk m c 3 t (ix2 l k) = X3 m c (ix2 (row t h r) k) := by
  unfold iblk
  rw [show V m c (Pipeline.arrRef spec0 3) = _ from V_main_arg3 m c]
  blk_ext [idx t]

theorem iblk4 (c : Dev nD) (t : Fin cfg0.N) (z : Fin 1) (k : Fin 1024) : iblk m c 4 t (ix2 z k) = X4 m c (ix1 k) := by
  unfold iblk
  rw [show V m c (Pipeline.arrRef spec0 4) = _ from V_g m c, View.read_apply]
  rw [show ((cfg0.win 4).blk t).view.emb (ix2 z k) = ix2 z k by blk_ext [idx t]]
  generalize X4 m c = x
  pointwise []
  rfl

/-- The rows of a half, as rows of the arrays. -/
structure Half (c : Dev nD) (t : Fin cfg0.N) (h : Fin 2) : Prop where
  hw : ∀ k l, k0_pay3 (F := Ideal) w (ix2 k l) = X1 m c (ix2 k l)
  hq : ∀ r k, q (ix2 r k) = X0 m c (ix2 (row t h r) k)
  hx : ∀ r k, x (ix2 r k) = X2 m c (ix2 (row t h r) k)
  hy : ∀ r k, y (ix2 r k) = X3 m c (ix2 (row t h r) k)
  hg : ∀ k, g (ix2 0 k) = X4 m c (ix1 k)

variable {m w q x y g} {c : Dev nD} {t : Fin cfg0.N} {h : Fin 2}

theorem Half.x_eq (H : Half m w q x y g c t h) (r : Fin 256) : xrow w q x r = xr (X0 m c) (X1 m c) (X2 m c) (row t h r) := by
  funext l
  rw [xrow, pay5_at, xr, H.hx, add_comm]
  exact congrArg (_ + ·) (sum_congr rfl fun k _ => by rw [H.hq, H.hw])

theorem Half.e_eq (H : Half m w q x y g c t h) (r : Fin 256) (l : Fin 1024) : k0_pay8 (F := Ideal) w q x y g (ix2 r l) = er (X0 m c) (X1 m c) (X2 m c) (X3 m c) (X4 m c) (row t h r) l := by
  rw [pay8_at, H.x_eq, H.hg, H.hy]
  rfl

theorem Half.d_eq (H : Half m w q x y g c t h) (r : Fin 256) (l : Fin 1024) :
    k0_pay11 (F := Ideal) (k0_pay8 w q x y g) k0_pay10 (ix2 r l) = dy (X0 m c) (X1 m c) (X2 m c) (X3 m c) (X4 m c) (row t h r) l := by
  rw [pay11_at, H.e_eq]
  rfl

/-- What the rows of a half become. -/
theorem Half.dx (H : Half m w q x y g c t h) (r : Fin 256) (l : Fin 1024) :
    k0_pay12 (F := Ideal) (k0_pay4 g) (k0_pay6 w q x) (k0_pay7 w q x) (k0_pay8 w q x y g) k0_pay10 (ix2 r l)
      = Cert.Reference7Ideal.Read.val_main_v52 (F := Ideal) (X0 m c) (X1 m c) (X2 m c) (X3 m c) (X4 m c) (ix2 (row t h r) l) := by
  rw [Cert.Reference7Ideal.Read.v52_at, ← H.x_eq]
  refine pay12_at w q x g _ r l _ fun l => ?_
  rw [H.d_eq, H.hg]
  rfl

/-- What a row adds to the gain's gradient, and what it adds to the loss. -/
def gterm (m : (ℓ : Loc nD τ sig) → Buf (Elt Ideal) ℓ) (c : Dev nD) (l : Fin 1024) (R : Fin 8192) : EReal :=
  xr (X0 m c) (X1 m c) (X2 m c) R l * rs (xr (X0 m c) (X1 m c) (X2 m c) R) * dy (X0 m c) (X1 m c) (X2 m c) (X3 m c) (X4 m c) R l
def lterm (m : (ℓ : Loc nD τ sig) → Buf (Elt Ideal) ℓ) (c : Dev nD) (R : Fin 8192) : EReal :=
  Ideal.ofBits .f32 0x3F000000#32 * Ideal.div (∑ k : Fin 1024, er (X0 m c) (X1 m c) (X2 m c) (X3 m c) (X4 m c) R k * er (X0 m c) (X1 m c) (X2 m c) (X3 m c) (X4 m c) R k) (Ideal.ofBits .f32 0x44800000#32)

/-- What the rows of a half add to the gain's gradient. -/
theorem Half.dg (H : Half m w q x y g c t h) (z : Fin 1) (l : Fin 1024) :
    k0_pay13 (F := Ideal) (k0_pay7 w q x) (k0_pay8 w q x y g) k0_pay10 (ix2 z l) = ∑ r : Fin 256, gterm m c l (row t h r) := by
  rw [pay13_at]
  refine sum_congr rfl fun r _ => ?_
  rw [H.d_eq, H.x_eq, mul_comm]
  rfl

/-- What the rows of a half add to the loss. -/
theorem Half.loss (H : Half m w q x y g c t h) (z : Fin 1) (l : Fin 128) :
    k0_pay9 (F := Ideal) w q x y g (ix2 z l) = ∑ r : Fin 256, lterm m c (row t h r) := by
  rw [pay9_at]
  simp only [H.e_eq, lterm]
  exact half_sum _ _

variable (m) (c) (t)

/-- The blocks of a point hold two halves. -/
theorem half0 (q : FVec Ideal S256x4096 .bf16) (x y : FVec Ideal S256x1024 .f32) (hq : ∀ r k (l : Fin 512), l.val = r.val → q (ix2 r k) = iblk m c 0 t (ix2 l k))
    (hx : ∀ r k (l : Fin 512), l.val = r.val → x (ix2 r k) = iblk m c 2 t (ix2 l k)) (hy : ∀ r k (l : Fin 512), l.val = r.val → y (ix2 r k) = iblk m c 3 t (ix2 l k)) :
    Half m (iblk m c 1 t) q x y (iblk m c 4 t) c t 0 where
  hw := iblk1 m c t
  hq r k := (hq r k ⟨r.val, by omega⟩ rfl).trans (iblk0 m c t 0 r _ k (by simp))
  hx r k := (hx r k ⟨r.val, by omega⟩ rfl).trans (iblk2 m c t 0 r _ k (by simp))
  hy r k := (hy r k ⟨r.val, by omega⟩ rfl).trans (iblk3 m c t 0 r _ k (by simp))
  hg := iblk4 m c t 0

theorem half1 (q : FVec Ideal S256x4096 .bf16) (x y : FVec Ideal S256x1024 .f32) (hq : ∀ r k (l : Fin 512), l.val = 256 + r.val → q (ix2 r k) = iblk m c 0 t (ix2 l k))
    (hx : ∀ r k (l : Fin 512), l.val = 256 + r.val → x (ix2 r k) = iblk m c 2 t (ix2 l k)) (hy : ∀ r k (l : Fin 512), l.val = 256 + r.val → y (ix2 r k) = iblk m c 3 t (ix2 l k)) :
    Half m (iblk m c 1 t) q x y (iblk m c 4 t) c t 1 where
  hw := iblk1 m c t
  hq r k := (hq r k ⟨256 + r.val, by omega⟩ rfl).trans (iblk0 m c t 1 r _ k (by simp))
  hx r k := (hx r k ⟨256 + r.val, by omega⟩ rfl).trans (iblk2 m c t 1 r _ k (by simp))
  hy r k := (hy r k ⟨256 + r.val, by omega⟩ rfl).trans (iblk3 m c t 1 r _ k (by simp))
  hg := iblk4 m c t 0

theorem final5 : (dats m 0 c).arrAt 5 (cfgs 0).N
    = Cert.Reference7Ideal.Read.val_main_v52 (F := Ideal) (X0 m c) (X1 m c) (X2 m c) (X3 m c) (X4 m c) := by
  refine (dats m 0 c).arrAt_eq_of_covers 5 _ (by decide +kernel) fun t _ y => ?_
  have ht := lt_point t
  blk_simp
  obtain ⟨r, l, rfl⟩ : ∃ (r : Fin 512) (l : Fin 1024), y = ix2 r l := ⟨y 0, y 1, by blk_ext []⟩
  rw [after0_5]
  by_cases h0 : t.val = 0
  on_goal 1 => rw [outsAt0_A m c t (by omega) (by omega)]
  on_goal 2 => rw [outsAt0_B m c t (by omega) (by omega)]
  all_goals
    frame_out
    clear h0
    canon_tiles x h
    all_goals
      obtain ⟨r', l', rfl⟩ : ∃ (r : Fin 256) (l : Fin 1024), x = ix2 r l := ⟨x 0, x 1, by blk_ext []⟩
      obtain rfl : l = l' := Fin.ext h1
    · have hr : r.val = 256 + r'.val := h0
      rw [show ((View.whole main_v4_0).slice (win0_5.rect t)).emb (ix2 r l) = ix2 (row t 1 r') l by blk_ext [idx t]]
      refine (congrFun (second_dx _ _ _ _ _) _).trans (Half.dx (half1 m c t _ _ _ ?_ ?_ ?_) r' l)
      all_goals exact fun r k L hL => rows_at _ _ r k L hL
    · have hr : r.val = r'.val := h0
      rw [show ((View.whole main_v4_0).slice (win0_5.rect t)).emb (ix2 r l) = ix2 (row t 0 r') l by blk_ext [idx t]]
      refine Half.dx (half0 m c t _ _ _ ?_ ?_ ?_) r' l
      all_goals exact fun r k L hL => rows_at _ _ r k L (by omega)

theorem final6 : (dats m 0 c).arrAt 6 (cfgs 0).N
    = Cert.Reference7Ideal.Read.val_main_v53 (F := Ideal) (X0 m c) (X1 m c) (X2 m c) (X3 m c) (X4 m c) := by
  refine (dats m 0 c).arrAt_eq_of_covers 6 _ (by decide +kernel) fun t _ y => ?_
  have ht := lt_point t
  blk_simp
  obtain ⟨r, l, rfl⟩ : ∃ (r : Fin 512) (l : Fin 1024), y = ix2 r l := ⟨y 0, y 1, by blk_ext []⟩
  rw [after0_6]
  by_cases h0 : t.val = 0
  on_goal 1 => rw [outsAt0_A m c t (by omega) (by omega)]
  on_goal 2 => rw [outsAt0_B m c t (by omega) (by omega)]
  all_goals
    frame_out
    clear h0
    canon_tiles x h
    all_goals
      obtain ⟨r', l', rfl⟩ : ∃ (r : Fin 256) (l : Fin 1024), x = ix2 r l := ⟨x 0, x 1, by blk_ext []⟩
      obtain rfl : l = l' := Fin.ext h1
    · have hr : r.val = 256 + r'.val := h0
      rw [show ((View.whole main_v4_1).slice (win0_6.rect t)).emb (ix2 r l) = ix2 (row t 1 r') l by blk_ext [idx t]]
      refine (congrFun (second_dx _ _ _ _ _) _).trans (Half.dx (half1 m c t _ _ _ ?_ ?_ ?_) r' l)
      all_goals exact fun r k L hL => rows_at _ _ r k L hL
    · have hr : r.val = r'.val := h0
      rw [show ((View.whole main_v4_1).slice (win0_6.rect t)).emb (ix2 r l) = ix2 (row t 0 r') l by blk_ext [idx t]]
      refine Half.dx (half0 m c t _ _ _ ?_ ?_ ?_) r' l
      all_goals exact fun r k L hL => rows_at _ _ r k L (by omega)

theorem pay1_at (a b : FVec Ideal S1x128 .f32) (z : Fin 1) (l : Fin 128) : k0_pay1 (F := Ideal) a b (ix2 z l) = (b (ix2 z l) : EReal) + a (ix2 z l) := by
  unfold k0_pay1
  pointwise []

theorem pay2_at (a b : FVec Ideal S1x1024 .f32) (z : Fin 1) (l : Fin 1024) : k0_pay2 (F := Ideal) a b (ix2 z l) = (b (ix2 z l) : EReal) + a (ix2 z l) := by
  unfold k0_pay2
  pointwise []

/-- What a point adds to the loss and to the gain's gradient. -/
theorem point_loss {w : FVec Ideal S4x1024x1024 .bf16} {q q' : FVec Ideal S256x4096 .bf16} {x y x' y' : FVec Ideal S256x1024 .f32} {g : FVec Ideal S1x1024 .f32}
    (H : Half m w q x y g c t 0) (H' : Half m w q' x' y' g c t 1) (z : Fin 1) (l : Fin 128) :
    k0_pay24 (F := Ideal) (k0_pay9 w q x y g) y' (k0_pay19 (k0_pay3 w) q' x' g) (ix2 z l) = ∑ h : Fin 2, ∑ r : Fin 256, lterm m c (row t h r) := by
  rw [Fin.sum_univ_two, ← H.loss z l, ← H'.loss z l]
  exact second_loss _ _ _ _ _ _ z l

theorem point_dg {w : FVec Ideal S4x1024x1024 .bf16} {q q' : FVec Ideal S256x4096 .bf16} {x y x' y' : FVec Ideal S256x1024 .f32} {g : FVec Ideal S1x1024 .f32}
    (H : Half m w q x y g c t 0) (H' : Half m w q' x' y' g c t 1) (z : Fin 1) (l : Fin 1024) :
    k0_pay25 (F := Ideal) (k0_pay13 (k0_pay7 w q x) (k0_pay8 w q x y g) k0_pay10) y' (k0_pay18 (k0_pay3 w) q' x') (k0_pay19 (k0_pay3 w) q' x' g) (ix2 z l)
      = ∑ h : Fin 2, ∑ r : Fin 256, gterm m c l (row t h r) := by
  rw [Fin.sum_univ_two, ← H.dg z l, ← H'.dg z l]
  exact second_dg _ _ _ _ _ _ z l

abbrev t0_15 : Fin cfg0.N := ⟨15, by decide +kernel⟩

theorem final7 : (dats m 0 c).arrAt 7 (cfgs 0).N
    = Cert.Reference7Ideal.Read.val_main_v54 (F := Ideal) (X0 m c) (X1 m c) (X2 m c) (X3 m c) (X4 m c) := by
  refine (dats m 0 c).arrAt_eq_of_after_last 7 t0_15 (by decide +kernel) _ fun j => ?_
  blk_simp
  obtain ⟨z, l, rfl⟩ : ∃ (z : Fin 1) (l : Fin 128), j = ix2 z l := ⟨j 0, j 1, by blk_ext []⟩
  rw [after0_7]
  refine (Cert.Num.run_sum (fun n h => (outsAt0 m c n h).2.2.1 (ix2 z l)) (fun t => ∑ h : Fin 2, ∑ r : Fin 256, lterm m c (row t h r)) (fun t h => ?_) (fun t h => ?_) 15 _).trans ?_
  · have ht := lt_point t
    beta_reduce
    rw [outsAt0_A m c t (by omega) (by omega)]
    frame_out
    refine point_loss m c t (half0 m c t _ _ _ ?_ ?_ ?_) (half1 m c t _ _ _ ?_ ?_ ?_) z l
    all_goals exact fun r k L hL => rows_at _ _ r k L (by omega)
  · have ht := lt_point t
    beta_reduce
    rw [outsAt0_B m c t (by omega) (by omega)]
    frame_out
    refine (pay1_at _ _ z l).trans (congrArg₂ (· + ·) rfl (point_loss m c t (half0 m c t _ _ _ ?_ ?_ ?_) (half1 m c t _ _ _ ?_ ?_ ?_) z l))
    all_goals exact fun r k L hL => rows_at _ _ r k L (by omega)
  · refine Eq.trans ?_ (Cert.Reference7Ideal.Read.v54_at _ _ _ _ _ z l).symm
    refine (Cert.Num.sum_parts (J := 16) (H := 2) (T := 256) rfl (lterm m c) (fun t h r => row ⟨t.val, by have : cfg0.N = 16 := N_0; omega⟩ h r) fun _ _ _ => rfl).trans ?_
    exact (half_sum _ _).symm

theorem final8 : (dats m 0 c).arrAt 8 (cfgs 0).N
    = Cert.Reference7Ideal.Read.val_main_v55 (F := Ideal) (X0 m c) (X1 m c) (X2 m c) (X3 m c) (X4 m c) := by
  refine (dats m 0 c).arrAt_eq_of_after_last 8 t0_15 (by decide +kernel) _ fun j => ?_
  blk_simp
  obtain ⟨z, l, rfl⟩ : ∃ (z : Fin 1) (l : Fin 1024), j = ix2 z l := ⟨j 0, j 1, by blk_ext []⟩
  rw [after0_8]
  refine (Cert.Num.run_sum (fun n h => (outsAt0 m c n h).2.2.2 (ix2 z l)) (fun t => ∑ h : Fin 2, ∑ r : Fin 256, gterm m c l (row t h r)) (fun t h => ?_) (fun t h => ?_) 15 _).trans ?_
  · have ht := lt_point t
    beta_reduce
    rw [outsAt0_A m c t (by omega) (by omega)]
    frame_out
    refine point_dg m c t (half0 m c t _ _ _ ?_ ?_ ?_) (half1 m c t _ _ _ ?_ ?_ ?_) z l
    all_goals exact fun r k L hL => rows_at _ _ r k L (by omega)
  · have ht := lt_point t
    beta_reduce
    rw [outsAt0_B m c t (by omega) (by omega)]
    frame_out
    refine (pay2_at _ _ z l).trans (congrArg₂ (· + ·) rfl (point_dg m c t (half0 m c t _ _ _ ?_ ?_ ?_) (half1 m c t _ _ _ ?_ ?_ ?_) z l))
    all_goals exact fun r k L hL => rows_at _ _ r k L (by omega)
  · refine Eq.trans ?_ (Cert.Reference7Ideal.Read.v55_at _ _ _ _ _ z l).symm
    exact Cert.Num.sum_parts (J := 16) (H := 2) (T := 256) rfl (gterm m c l) (fun t h r => row ⟨t.val, by have : cfg0.N = 16 := N_0; omega⟩ h r) fun _ _ _ => rfl

end Cert.Kernel7Ideal.Value

namespace Cert.Proof
open Cert.Kernel7Ideal.Value

/-- Both programs run, and the kernel's results are the loss and its derivatives. -/
theorem loss_algebraic : Cert.algebraic_Kernel7Ideal_Reference7Ideal := fun m ρ m' ρ' _ hag =>
  ⟨fun c => Cert.Reference7Ideal.Read.val_main_v52 (F := Ideal) (X0 m c) (X1 m c) (X2 m c) (X3 m c) (X4 m c),
    fun c => Cert.Reference7Ideal.Read.val_main_v53 (F := Ideal) (X0 m c) (X1 m c) (X2 m c) (X3 m c) (X4 m c),
    fun c => Cert.Reference7Ideal.Read.val_main_v54 (F := Ideal) (X0 m c) (X1 m c) (X2 m c) (X3 m c) (X4 m c),
    fun c => Cert.Reference7Ideal.Read.val_main_v55 (F := Ideal) (X0 m c) (X1 m c) (X2 m c) (X3 m c) (X4 m c),
    (θ_run _ _ _).mono (fun _ h c => ⟨(h c).1.trans (final5 m c), (h c).2.1.trans (final6 m c), (h c).2.2.1.trans (final7 m c), (h c).2.2.2.1.trans (final8 m c), (h c).2.2.2.2⟩)
      (Cert.Kernel7Ideal.Value.run_blocks m ρ),
    (θ_run _ _ _).mono (fun _ h c => by
      obtain ⟨h0, h1, h2, h3, h4⟩ := hag c
      exact ⟨(h c).1.trans ((Cert.Reference7Ideal.Read.val_main_v52_eq m' c).trans (by rw [h0, h1, h2, h3, h4])),
        (h c).2.1.trans ((Cert.Reference7Ideal.Read.val_main_v53_eq m' c).trans (by rw [h0, h1, h2, h3, h4])),
        (h c).2.2.1.trans ((Cert.Reference7Ideal.Read.val_main_v54_eq _ _ _ _ _).trans (by rw [h0, h1, h2, h3, h4])),
        (h c).2.2.2.1.trans ((Cert.Reference7Ideal.Read.val_main_v55_eq _ _ _ _ _).trans (by rw [h0, h1, h2, h3, h4])), (h c).2.2.2.2⟩)
      (Cert.Reference7Ideal.Value.run m' ρ')⟩

/-- The reference runs and leaves its arguments as they were. -/
theorem loss_reference : Cert.quiescent_Reference7Ideal := fun m ρ _ =>
  (θ_run _ _ _).mono (fun r h => ⟨fun c => (h c).2.2.2.2, sem_eq_zero_of_no_sems (by decide) r.2⟩) (Cert.Reference7Ideal.Value.run m ρ)

end Cert.Proof

end
-- ==== Proof.Relu.lean ====
module

public import proofs.«01_k».proof.Defs
public import proofs.«01_k».proof.Proof.Gen.Kernel8Ideal.Value
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

/-! The gradient through the squared rectifier. -/

@[expose] public section

set_option maxRecDepth 16384

noncomputable section

open Idealize.ShloMosaic Idealize.ShloMosaic.TcCoe Idealize.SL.Sem
open Idealize.ShloMosaic.Pipeline (Dat)

namespace Cert.Kernel8Ideal.Value
open Cert.Kernel8Ideal Cert.Kernel8Ideal.Gen Finset

variable (m : (ℓ : Loc nD τ sig) → Buf (Elt Ideal) ℓ)

/-- The argument arrays. -/
abbrev X0 (c : Dev nD) : FVec Ideal S8192x4096 .f32 := m ((c : Thread nD τ).loc main_arg0)
abbrev X1 (c : Dev nD) : FVec Ideal S4096x1024 .f32 := m ((c : Thread nD τ).loc main_arg1)
abbrev X2 (c : Dev nD) : FVec Ideal S8192x1024 .f32 := m ((c : Thread nD τ).loc main_arg2)

theorem idx : ∀ t : Fin cfg0.N, win0_0.index t = ![t.val / 4, 0] ∧ win0_1.index t = ![t.val % 4, 0, 0] ∧ win0_2.index t = ![t.val / 4, t.val % 4] ∧ win0_3.index t = ![t.val / 4, t.val % 4] :=
  (by decide +kernel : ∀ t : Fin grid0.N, _)

theorem lt_point (t : Fin cfg0.N) : t.val < 16 := lt_of_lt_of_eq t.isLt N_0

/-- The row and the column of the arrays that row `r` and column `l` of the block at point `t` are. -/
abbrev row (t : Fin cfg0.N) (r : Fin 2048) : Fin 8192 := ⟨2048 * (t.val / 4) + r.val, by have := lt_point t; omega⟩
abbrev col (t : Fin cfg0.N) (l : Fin 1024) : Fin 4096 := ⟨1024 * (t.val % 4) + l.val, by omega⟩

theorem V_w (c : Dev nD) : V m c main_v1 = shapeCast S4x1024x1024 (truncf .bf16 (X1 m c) bitsLt_bf16_f32) shapeCasts_S4096x1024_S4x1024x1024 := by
  simp only [V]
  entry_read
  rfl

theorem V_dy (c : Dev nD) : V m c main_v2 = truncf .bf16 (X2 m c) bitsLt_bf16_f32 := by
  simp only [V]
  entry_read
  rfl

theorem V_u (c : Dev nD) : V m c main_v5 = truncf .bf16 (maximumf (X0 m c) (broadcastInDim S8192x4096 ![] bcast_S_S8192x4096 (constant S_ .f32 0x00000000#32) : FVec Ideal S8192x4096 .f32)) bitsLt_bf16_f32 := by
  simp only [V]
  entry_read
  rfl

theorem iblk0 (c : Dev nD) (t : Fin cfg0.N) (r : Fin 2048) (k : Fin 1024) : iblk m c 0 t (ix2 r k) = X2 m c (ix2 (row t r) k) := by
  unfold iblk
  rw [show V m c (Pipeline.arrRef spec0 0) = _ from V_dy m c, View.read_apply]
  rw [show ((cfg0.win 0).blk t).view.emb (ix2 r k) = ix2 (row t r) k by blk_ext [idx t]]
  rfl

theorem iblk1 (c : Dev nD) (t : Fin cfg0.N) (z : Fin 1) (l : Fin 1024) (k : Fin 1024) : iblk m c 1 t (ix3 z l k) = X1 m c (ix2 (col t l) k) := by
  unfold iblk
  rw [show V m c (Pipeline.arrRef spec0 1) = _ from V_w m c, View.read_apply]
  rw [show ((cfg0.win 1).blk t).view.emb (ix3 z l k) = ix3 (⟨t.val % 4, by omega⟩ : Fin 4) l k by blk_ext [idx t]]
  generalize X1 m c = x
  pointwise []
  exact congrArg x (by blk_ext [])

theorem iblk2 (c : Dev nD) (t : Fin cfg0.N) (r : Fin 2048) (l : Fin 1024) : iblk m c 2 t (ix2 r l) = max (X0 m c (ix2 (row t r) (col t l)) : EReal) 0 := by
  unfold iblk
  rw [show V m c (Pipeline.arrRef spec0 2) = _ from V_u m c, View.read_apply]
  rw [show ((cfg0.win 2).blk t).view.emb (ix2 r l) = ix2 (row t r) (col t l) by blk_ext [idx t]]
  generalize X0 m c = x
  pointwise []
  rfl

/-- Where the argument is not positive the rectifier is zero, and so is the product with it. -/
theorem cut (s u : EReal) (b : BitVec 1) (hb : b = FloatOps.cmpf (F := Ideal) (φ := .f32) .ogt u (0 : EReal)) (y : EReal) :
    (s * (y * max u 0) : EReal) = Scalar.select b (s * (y * max u 0)) (0 : EReal) := by
  subst hb
  show _ = if BitVec.ofBool (decide ((0 : EReal) < u)) = 1#1 then _ else _
  by_cases h : (0 : EReal) < u
  · simp [h]
  · simp [h, max_eq_right (not_lt.mp h)]

theorem pay1_at (w : FVec Ideal S1x1024x1024 .bf16) (q x : FVec Ideal S2048x1024 .bf16) (r : Fin 2048) (l : Fin 1024) : k0_pay1 (F := Ideal) q w x (ix2 r l)
    = (∑ k : Fin 1024, (q (ix2 r k) : EReal) * w (ix3 0 l k)) * (Ideal.ofBits .f32 0x40000000#32 * x (ix2 r l)) := by
  pointwise [k0_pay1]

theorem v12_at (x : FVec Ideal S8192x4096 .f32) (w : FVec Ideal S4096x1024 .f32) (y : FVec Ideal S8192x1024 .f32) (R : Fin 8192) (L : Fin 4096) :
    Cert.Reference8Ideal.Read.val_main_v12 (F := Ideal) x w y (ix2 R L)
      = (∑ k : Fin 1024, (y (ix2 R k) : EReal) * w (ix2 L k)) * (Ideal.ofBits .f32 0x40000000#32 * max (x (ix2 R L) : EReal) 0) := by
  rw [Cert.Reference8Ideal.Read.val_main_v12_apply, Cert.Reference8Ideal.Read.val_main_v11_apply, Cert.Reference8Ideal.Read.val_main_v9_apply, Cert.Reference8Ideal.Read.val_main_v6_apply, Cert.Reference8Ideal.Read.val_main_v2_apply]
  have e5 : Cert.Reference8Ideal.Read.val_main_v5 (F := Ideal) (ix2 R L) = Ideal.ofBits .f32 0x40000000#32 := by
    pointwise [Cert.Reference8Ideal.Read.val_main_v5, Cert.Reference8Ideal.Read.val_main_cst_1]
  have e10 : Cert.Reference8Ideal.Read.val_main_v10 (F := Ideal) (ix2 R L) = (0 : EReal) := by
    pointwise [Cert.Reference8Ideal.Read.val_main_v10, Cert.Reference8Ideal.Read.val_main_cst_2]
  have e1 : Cert.Reference8Ideal.Read.val_main_v1 (F := Ideal) (ix2 R L) = (0 : EReal) := by
    pointwise [Cert.Reference8Ideal.Read.val_main_v1, Cert.Reference8Ideal.Read.val_main_cst]
  have e0 : Cert.Reference8Ideal.Read.val_main_v0 (F := Ideal) x (ix2 R L) = max (x (ix2 R L) : EReal) 0 := by
    pointwise [Cert.Reference8Ideal.Read.val_main_v0, Cert.Reference8Ideal.Read.val_main_call0_v0, Cert.Reference8Ideal.Read.val_main_call0_cst]
  have e8 : Cert.Reference8Ideal.Read.val_main_v8 (F := Ideal) w y (ix2 R L) = ∑ k : Fin 1024, (y (ix2 R k) : EReal) * w (ix2 L k) := by
    pointwise [Cert.Reference8Ideal.Read.val_main_v8]
  rw [e5, e10, e1, e0, e8]
  exact (cut _ _ _ rfl _).symm

theorem final3 (c : Dev nD) : (dats m 0 c).arrAt 3 (cfgs 0).N = Cert.Reference8Ideal.Read.val_main_v12 (F := Ideal) (X0 m c) (X1 m c) (X2 m c) := by
  refine (dats m 0 c).arrAt_eq_of_covers 3 _ (by decide +kernel) fun t _ y => ?_
  blk_simp
  obtain ⟨r, l, rfl⟩ : ∃ (r : Fin 2048) (l : Fin 1024), y = ix2 r l := ⟨y 0, y 1, by blk_ext []⟩
  rw [show ((cfg0.win 3).blk t).view.emb (ix2 r l) = ix2 (row t r) (col t l) by blk_ext [idx t]]
  rw [after0_3]
  frame_out
  refine (pay1_at _ _ _ r l).trans ?_
  rw [v12_at]
  refine congrArg₂ (· * ·) (sum_congr rfl fun k _ => congrArg₂ (· * ·) (iblk0 m c t r k) (iblk1 m c t 0 l k)) (congrArg (_ * ·) (iblk2 m c t r l))

end Cert.Kernel8Ideal.Value

namespace Cert.Proof
open Cert.Kernel8Ideal.Value

/-- Both programs run, and the kernel's result is the derivative through the squared rectifier. -/
theorem relu_algebraic : Cert.algebraic_Kernel8Ideal_Reference8Ideal := fun m ρ m' ρ' _ hag =>
  ⟨fun c => Cert.Reference8Ideal.Read.val_main_v12 (F := Ideal) (X0 m c) (X1 m c) (X2 m c),
    (θ_run _ _ _).mono (fun _ h c => ⟨(h c).1.trans (final3 m c), (h c).2⟩) (Cert.Kernel8Ideal.Value.run_blocks m ρ),
    (θ_run _ _ _).mono (fun _ h c => by
      obtain ⟨h0, h1, h2⟩ := hag c
      exact ⟨(h c).1.trans ((Cert.Reference8Ideal.Read.val_main_v12_eq _ _ _).trans (by rw [h0, h1, h2])), (h c).2⟩)
      (Cert.Reference8Ideal.Value.run m' ρ')⟩

/-- The reference runs and leaves its arguments as they were. -/
theorem relu_reference : Cert.quiescent_Reference8Ideal := fun m ρ _ =>
  (θ_run _ _ _).mono (fun r h => ⟨fun c => (h c).2, sem_eq_zero_of_no_sems (by decide) r.2⟩) (Cert.Reference8Ideal.Value.run m ρ)

end Cert.Proof

end
-- ==== Proof.MixRun.lean ====
module

public import proofs.«01_k».proof.Proof.Gen.Kernel9Ideal.Frame.Runs
public import Idealize.ShloMosaic.Lib.Claim

@[expose] public section

set_option maxRecDepth 16384

noncomputable section

namespace Cert.Kernel9Ideal.Mix

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Owning a whole buffer at the contents `x` is holding it at the contents that read as `x`. -/
theorem owns_held (c : Dev nD) {s : Shape} {e : EltTy} {M : Memref sig .tc .vmem s e} (h : M.IsWhole) (x : Vec F s e) :
    (owns (c : Thread nD τ) M fullShare x : sProp 𝕄)
      = (M.view.loc (c : Thread nD τ) ↦[M.view.set]{fullShare} h.unread (Val := Elt F) x) := by
  have h1 : iprop(owns (c : Thread nD τ) M fullShare x : sProp 𝕄)
      ⊢ iprop(M.view.loc (c : Thread nD τ) ↦[M.view.set]{fullShare} h.unread (Val := Elt F) x) := by
    unfold owns
    iintro ⟨%f, %hf, H⟩
    obtain rfl := h.eq_unread hf
    iexact H
  have h2 : iprop(M.view.loc (c : Thread nD τ) ↦[M.view.set]{fullShare} h.unread (Val := Elt F) x : sProp 𝕄)
      ⊢ iprop(owns (c : Thread nD τ) M fullShare x) := by
    unfold owns
    iintro H
    iexists _
    isplitr
    · ipureintro; exact h.read_unread _
    iexact H
  exact Entails.antisymm h1 h2

section body

variable (c : Dev nD) (i : grid0.Coords) (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S8x512 .f32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S8x512 .f32) (harg7 : arg7.IsWhole) (arg8 : Memref sig .tc .vmem S8x512 .f32) (harg8 : arg8.IsWhole)
    (arg9 : Memref sig .tc .vmem S8x512 .f32) (harg9 : arg9.IsWhole) (arg10 : Memref sig .tc .vmem S512x512 .f32) (harg10 : arg10.IsWhole)
    (arg11 : Memref sig .tc .vmem S512x512 .f32) (harg11 : arg11.IsWhole) (arg12 : Memref sig .tc .vmem S512x512 .f32) (harg12 : arg12.IsWhole)
    (arg13 : Memref sig .tc .vmem S512x512 .f32) (harg13 : arg13.IsWhole) (arg14 : Memref sig .tc .vmem S512x512 .f32) (harg14 : arg14.IsWhole)
    (arg15 : Memref sig .tc .vmem S8x512 .f32) (harg15 : arg15.IsWhole) (arg16 : Memref sig .tc .vmem S8x512 .f32) (harg16 : arg16.IsWhole)
    (arg17 : Memref sig .tc .vmem S3x512 .f32) (harg17 : arg17.IsWhole) (arg18 : Memref sig .tc .vmem S1x512 .f32) (harg18 : arg18.IsWhole)
    (arg19 : Memref sig .tc .vmem S1x128 .f32) (harg19 : arg19.IsWhole) (arg20 : Memref sig .tc .vmem S512x512 .bf16) (harg20 : arg20.IsWhole)
    (arg21 : Memref sig .tc .vmem S512x2048 .bf16) (harg21 : arg21.IsWhole) (arg22 : Memref sig .tc .vmem S512x512 .f32) (harg22 : arg22.IsWhole)
    (arg23 : Memref sig .tc .vmem S3x512 .f32) (harg23 : arg23.IsWhole) (arg24 : Memref sig .tc .vmem S1x512 .f32) (harg24 : arg24.IsWhole)
    (arg25 : Memref sig .tc .vmem S1x128 .f32) (harg25 : arg25.IsWhole)
variable (x0 : Vec F S512x512 .f32) (x1 : Vec F S512x512 .f32) (x2 : Vec F S512x512 .f32) (x3 : Vec F S8x512 .f32) (x4 : Vec F S8x512 .f32)
    (x5 : Vec F S8x512 .f32) (x6 : Vec F S8x512 .f32) (x7 : Vec F S8x512 .f32) (x8 : Vec F S8x512 .f32) (x9 : Vec F S512x512 .f32)
    (x10 : Vec F S512x512 .f32) (x11 : Vec F S512x512 .f32) (x12 : Vec F S512x512 .f32) (x13 : Vec F S512x512 .f32) (x14 : Vec F S8x512 .f32)
    (x15 : Vec F S8x512 .f32) (x16 : Vec F S3x512 .f32) (x17 : Vec F S1x512 .f32) (x18 : Vec F S1x128 .f32) (x19 : Vec F S512x512 .bf16)

/-- The buffers of the call's twenty inputs, at the contents `x0` to `x19`. -/
def ins : sProp 𝕄 :=
  iprop(owns (c : Thread nD τ) arg1 fullShare x0 ∗ owns (c : Thread nD τ) arg2 fullShare x1 ∗ owns (c : Thread nD τ) arg3 fullShare x2 ∗
    owns (c : Thread nD τ) arg4 fullShare x3 ∗ owns (c : Thread nD τ) arg5 fullShare x4 ∗ owns (c : Thread nD τ) arg6 fullShare x5 ∗
    owns (c : Thread nD τ) arg7 fullShare x6 ∗ owns (c : Thread nD τ) arg8 fullShare x7 ∗ owns (c : Thread nD τ) arg9 fullShare x8 ∗
    owns (c : Thread nD τ) arg10 fullShare x9 ∗ owns (c : Thread nD τ) arg11 fullShare x10 ∗ owns (c : Thread nD τ) arg12 fullShare x11 ∗
    owns (c : Thread nD τ) arg13 fullShare x12 ∗ owns (c : Thread nD τ) arg14 fullShare x13 ∗ owns (c : Thread nD τ) arg15 fullShare x14 ∗
    owns (c : Thread nD τ) arg16 fullShare x15 ∗ owns (c : Thread nD τ) arg17 fullShare x16 ∗ owns (c : Thread nD τ) arg18 fullShare x17 ∗
    owns (c : Thread nD τ) arg19 fullShare x18 ∗ owns (c : Thread nD τ) arg20 fullShare x19)

set_option maxHeartbeats 16000000 in
/-- The body in case A: what it stores into each output, as the run finds it, with the run itself. -/
noncomputable def bodyRun_A (hc0 : cond0_0 i) (hc1 : ¬cond0_1 i) :
    Σ' (L20 : List (View.Piece (Elt F) S512x2048 .bf16)) (L21 : List (View.Piece (Elt F) S512x512 .f32))
      (L22 : List (View.Piece (Elt F) S3x512 .f32)) (L23 : List (View.Piece (Elt F) S1x512 .f32)),
      { L24 : List (View.Piece (Elt F) S1x128 .f32) // ∀ (E : Set ℕ) (K : PUnit → sProp 𝕄),
        iprop(ins c arg1 arg2 arg3 arg4 arg5 arg6 arg7 arg8 arg9 arg10 arg11 arg12 arg13 arg14 arg15 arg16 arg17 arg18 arg19 arg20
            x0 x1 x2 x3 x4 x5 x6 x7 x8 x9 x10 x11 x12 x13 x14 x15 x16 x17 x18 x19
          ∗ (∃ y, owns (c : Thread nD τ) arg21 fullShare y) ∗ (∃ y, owns (c : Thread nD τ) arg22 fullShare y) ∗ (∃ y, owns (c : Thread nD τ) arg23 fullShare y) ∗ (∃ y, owns (c : Thread nD τ) arg24 fullShare y) ∗ (∃ y, owns (c : Thread nD τ) arg25 fullShare y)
          ∗ (iprop(ins c arg1 arg2 arg3 arg4 arg5 arg6 arg7 arg8 arg9 arg10 arg11 arg12 arg13 arg14 arg15 arg16 arg17 arg18 arg19 arg20
              x0 x1 x2 x3 x4 x5 x6 x7 x8 x9 x10 x11 x12 x13 x14 x15 x16 x17 x18 x19
            ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24)) -∗ K PUnit.unit))
        ⊢ wp frame (wpE (defs₀ (F := F)) Variants.none c none) E (cc0_mix_out_bwd i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25) K } := by
  refine ⟨?_, ?_, ?_, ?_, ?_, fun E K => ?run⟩
  case run =>
    simp only [cc0_mix_out_bwd_eq_skeleton]; unfold cc0_mix_out_bwd_skel
    simp only [k0_part7_eq_skeleton, k0_part1_eq_skeleton, k0_part2_eq_skeleton, k0_part3_eq_skeleton, k0_part4_eq_skeleton,
      k0_part5_eq_skeleton, k0_part6_eq_skeleton]
    unfold ins
    rw [owns_held c harg1, owns_held c harg2, owns_held c harg3, owns_held c harg4, owns_held c harg5, owns_held c harg6, owns_held c harg7, owns_held c harg8, owns_held c harg9, owns_held c harg10, owns_held c harg11, owns_held c harg12, owns_held c harg13, owns_held c harg14, owns_held c harg15, owns_held c harg16, owns_held c harg17, owns_held c harg18, owns_held c harg19, owns_held c harg20]
    unfold owns
    iintro ⟨⟨H0, H1, H2, H3, H4, H5, H6, H7, H8, H9, H10, H11, H12, H13, H14, H15, H16, H17, H18, H19⟩, ⟨%y20, %f20, -, H20⟩, ⟨%y21, %f21, -, H21⟩, ⟨%y22, %f22, -, H22⟩, ⟨%y23, %f23, -, H23⟩, ⟨%y24, %f24, -, H24⟩, Hk⟩
    sl_exec (disch := first | sl_exact hc0 | sl_exact hc1)
    sl_step
    iapply Hk
    sl_close

set_option maxHeartbeats 16000000 in
/-- The body in case B: what it stores into each output, as the run finds it, with the run itself. -/
noncomputable def bodyRun_B (hc0 : ¬cond0_0 i) (hc1 : cond0_1 i) (y22 : Vec F S3x512 .f32) (y23 : Vec F S1x512 .f32) (y24 : Vec F S1x128 .f32) :
    Σ' (L20 : List (View.Piece (Elt F) S512x2048 .bf16)) (L21 : List (View.Piece (Elt F) S512x512 .f32))
      (L22 : List (View.Piece (Elt F) S3x512 .f32)) (L23 : List (View.Piece (Elt F) S1x512 .f32)),
      { L24 : List (View.Piece (Elt F) S1x128 .f32) // ∀ (E : Set ℕ) (K : PUnit → sProp 𝕄),
        iprop(ins c arg1 arg2 arg3 arg4 arg5 arg6 arg7 arg8 arg9 arg10 arg11 arg12 arg13 arg14 arg15 arg16 arg17 arg18 arg19 arg20
            x0 x1 x2 x3 x4 x5 x6 x7 x8 x9 x10 x11 x12 x13 x14 x15 x16 x17 x18 x19
          ∗ (∃ y, owns (c : Thread nD τ) arg21 fullShare y) ∗ (∃ y, owns (c : Thread nD τ) arg22 fullShare y) ∗ owns (c : Thread nD τ) arg23 fullShare y22 ∗ owns (c : Thread nD τ) arg24 fullShare y23 ∗ owns (c : Thread nD τ) arg25 fullShare y24
          ∗ (iprop(ins c arg1 arg2 arg3 arg4 arg5 arg6 arg7 arg8 arg9 arg10 arg11 arg12 arg13 arg14 arg15 arg16 arg17 arg18 arg19 arg20
              x0 x1 x2 x3 x4 x5 x6 x7 x8 x9 x10 x11 x12 x13 x14 x15 x16 x17 x18 x19
            ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24)) -∗ K PUnit.unit))
        ⊢ wp frame (wpE (defs₀ (F := F)) Variants.none c none) E (cc0_mix_out_bwd i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25) K } := by
  refine ⟨?_, ?_, ?_, ?_, ?_, fun E K => ?run⟩
  case run =>
    simp only [cc0_mix_out_bwd_eq_skeleton]; unfold cc0_mix_out_bwd_skel
    simp only [k0_part7_eq_skeleton, k0_part1_eq_skeleton, k0_part2_eq_skeleton, k0_part3_eq_skeleton, k0_part4_eq_skeleton,
      k0_part5_eq_skeleton, k0_part6_eq_skeleton]
    unfold ins
    rw [owns_held c harg1, owns_held c harg2, owns_held c harg3, owns_held c harg4, owns_held c harg5, owns_held c harg6, owns_held c harg7, owns_held c harg8, owns_held c harg9, owns_held c harg10, owns_held c harg11, owns_held c harg12, owns_held c harg13, owns_held c harg14, owns_held c harg15, owns_held c harg16, owns_held c harg17, owns_held c harg18, owns_held c harg19, owns_held c harg20]
    rw [owns_held c harg23, owns_held c harg24, owns_held c harg25]
    unfold owns
    iintro ⟨⟨H0, H1, H2, H3, H4, H5, H6, H7, H8, H9, H10, H11, H12, H13, H14, H15, H16, H17, H18, H19⟩, ⟨%y20, %f20, -, H20⟩, ⟨%y21, %f21, -, H21⟩, H22, H23, H24, Hk⟩
    sl_exec (disch := first | sl_exact hc0 | sl_exact hc1)
    sl_step
    iapply Hk
    sl_close

end body

end Cert.Kernel9Ideal.Mix

end

end
-- ==== Proof.MixFrame.lean ====
module

public import proofs.«01_k».proof.Proof.MixRun
public import proofs.«01_k».proof.Proof.Gen.Kernel9Ideal.Points

@[expose] public section

set_option maxRecDepth 16384

noncomputable section

namespace Cert.Kernel9Ideal.Mix

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body: the first point stores the sums, the others add to them -/

theorem lt_point (t : Fin cfg0.N) : t.val < 16 := lt_of_lt_of_eq t.isLt N_0

theorem caseA (t : Fin cfg0.N) (h : t.val = 0) : cond0_0 (grid0.coords t) ∧ ¬cond0_1 (grid0.coords t) :=
  ⟨(hcond0_0 t).mpr (by omega), fun h1 => absurd ((hcond0_1 t).mp h1) (by omega)⟩

theorem caseB (t : Fin cfg0.N) (h : t.val ≠ 0) : ¬cond0_0 (grid0.coords t) ∧ cond0_1 (grid0.coords t) :=
  ⟨fun h0 => absurd ((hcond0_0 t).mp h0) (by have := lt_point t; omega), (hcond0_1 t).mpr (by omega)⟩

/-- The three accumulated gradients: of the convolution's taps and of the two gains. -/
abbrev Sums (F : FTy → Type) : Type := Vec F S3x512 .f32 × Vec F S1x512 .f32 × Vec F S1x128 .f32

/-- The stores of the body at a point of case A, at that point's buffers and blocks. -/
def kernelRun0_A (c : Dev nD) (t : Fin cfg0.N) (h : t.val = 0) :=
  bodyRun_A c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t)
    (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t)
    (caseA t h).1 (caseA t h).2

theorem cover0_A_20 (c : Dev nD) (t : Fin cfg0.N) (h : t.val = 0) (i : S512x2048.Idx) :
    ∃ pc ∈ (kernelRun0_A m c t h).1, i ∈ pc.1.set :=
  View.cover_of_tiledBy (kernelRun0_A m c t h).1 ![512, 512] (by sl_kernel_rfl) i

def out0_A_20 (c : Dev nD) (t : Fin cfg0.N) (h : t.val = 0) : Vec F S512x2048 .bf16 :=
  VO0_20.read (Elt F) (VO0_20.writes (Elt F) VO0_20.junk (kernelRun0_A m c t h).1)

theorem cover0_A_21 (c : Dev nD) (t : Fin cfg0.N) (h : t.val = 0) (i : S512x512.Idx) :
    ∃ pc ∈ (kernelRun0_A m c t h).2.1, i ∈ pc.1.set :=
  View.cover_of_tiledL (kernelRun0_A m c t h).2.1 S512x512.size (by sl_kernel_rfl) i

def out0_A_21 (c : Dev nD) (t : Fin cfg0.N) (h : t.val = 0) : Vec F S512x512 .f32 :=
  VO0_21.read (Elt F) (VO0_21.writes (Elt F) VO0_21.junk (kernelRun0_A m c t h).2.1)

theorem cover0_A_22 (c : Dev nD) (t : Fin cfg0.N) (h : t.val = 0) (i : S3x512.Idx) :
    ∃ pc ∈ (kernelRun0_A m c t h).2.2.1, i ∈ pc.1.set :=
  View.cover_of_tiledL (kernelRun0_A m c t h).2.2.1 S3x512.size (by sl_kernel_rfl) i

def out0_A_22 (c : Dev nD) (t : Fin cfg0.N) (h : t.val = 0) : Vec F S3x512 .f32 :=
  VO0_22.read (Elt F) (VO0_22.writes (Elt F) VO0_22.junk (kernelRun0_A m c t h).2.2.1)

theorem cover0_A_23 (c : Dev nD) (t : Fin cfg0.N) (h : t.val = 0) (i : S1x512.Idx) :
    ∃ pc ∈ (kernelRun0_A m c t h).2.2.2.1, i ∈ pc.1.set :=
  View.cover_of_tiledL (kernelRun0_A m c t h).2.2.2.1 S1x512.size (by sl_kernel_rfl) i

def out0_A_23 (c : Dev nD) (t : Fin cfg0.N) (h : t.val = 0) : Vec F S1x512 .f32 :=
  VO0_23.read (Elt F) (VO0_23.writes (Elt F) VO0_23.junk (kernelRun0_A m c t h).2.2.2.1)

theorem cover0_A_24 (c : Dev nD) (t : Fin cfg0.N) (h : t.val = 0) (i : S1x128.Idx) :
    ∃ pc ∈ (kernelRun0_A m c t h).2.2.2.2.1, i ∈ pc.1.set :=
  View.cover_of_tiledL (kernelRun0_A m c t h).2.2.2.2.1 S1x128.size (by sl_kernel_rfl) i

def out0_A_24 (c : Dev nD) (t : Fin cfg0.N) (h : t.val = 0) : Vec F S1x128 .f32 :=
  VO0_24.read (Elt F) (VO0_24.writes (Elt F) VO0_24.junk (kernelRun0_A m c t h).2.2.2.2.1)

/-- The stores of the body at a point of case B, at that point's buffers and blocks. -/
def kernelRun0_B (c : Dev nD) (t : Fin cfg0.N) (h : t.val ≠ 0) (y : Sums F) :=
  bodyRun_B c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t)
    (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t)
    (caseB t h).1 (caseB t h).2 y.1 y.2.1 y.2.2

theorem cover0_B_20 (c : Dev nD) (t : Fin cfg0.N) (h : t.val ≠ 0) (y : Sums F) (i : S512x2048.Idx) :
    ∃ pc ∈ (kernelRun0_B m c t h y).1, i ∈ pc.1.set :=
  View.cover_of_tiledBy (kernelRun0_B m c t h y).1 ![512, 512] (by sl_kernel_rfl) i

def out0_B_20 (c : Dev nD) (t : Fin cfg0.N) (h : t.val ≠ 0) (y : Sums F) : Vec F S512x2048 .bf16 :=
  VO0_20.read (Elt F) (VO0_20.writes (Elt F) VO0_20.junk (kernelRun0_B m c t h y).1)

theorem cover0_B_21 (c : Dev nD) (t : Fin cfg0.N) (h : t.val ≠ 0) (y : Sums F) (i : S512x512.Idx) :
    ∃ pc ∈ (kernelRun0_B m c t h y).2.1, i ∈ pc.1.set :=
  View.cover_of_tiledL (kernelRun0_B m c t h y).2.1 S512x512.size (by sl_kernel_rfl) i

def out0_B_21 (c : Dev nD) (t : Fin cfg0.N) (h : t.val ≠ 0) (y : Sums F) : Vec F S512x512 .f32 :=
  VO0_21.read (Elt F) (VO0_21.writes (Elt F) VO0_21.junk (kernelRun0_B m c t h y).2.1)

theorem cover0_B_22 (c : Dev nD) (t : Fin cfg0.N) (h : t.val ≠ 0) (y : Sums F) (i : S3x512.Idx) :
    ∃ pc ∈ (kernelRun0_B m c t h y).2.2.1, i ∈ pc.1.set :=
  View.cover_of_tiledL (kernelRun0_B m c t h y).2.2.1 S3x512.size (by sl_kernel_rfl) i

def out0_B_22 (c : Dev nD) (t : Fin cfg0.N) (h : t.val ≠ 0) (y : Sums F) : Vec F S3x512 .f32 :=
  VO0_22.read (Elt F) (VO0_22.writes (Elt F) VO0_22.junk (kernelRun0_B m c t h y).2.2.1)

theorem cover0_B_23 (c : Dev nD) (t : Fin cfg0.N) (h : t.val ≠ 0) (y : Sums F) (i : S1x512.Idx) :
    ∃ pc ∈ (kernelRun0_B m c t h y).2.2.2.1, i ∈ pc.1.set :=
  View.cover_of_tiledL (kernelRun0_B m c t h y).2.2.2.1 S1x512.size (by sl_kernel_rfl) i

def out0_B_23 (c : Dev nD) (t : Fin cfg0.N) (h : t.val ≠ 0) (y : Sums F) : Vec F S1x512 .f32 :=
  VO0_23.read (Elt F) (VO0_23.writes (Elt F) VO0_23.junk (kernelRun0_B m c t h y).2.2.2.1)

theorem cover0_B_24 (c : Dev nD) (t : Fin cfg0.N) (h : t.val ≠ 0) (y : Sums F) (i : S1x128.Idx) :
    ∃ pc ∈ (kernelRun0_B m c t h y).2.2.2.2.1, i ∈ pc.1.set :=
  View.cover_of_tiledL (kernelRun0_B m c t h y).2.2.2.2.1 S1x128.size (by sl_kernel_rfl) i

def out0_B_24 (c : Dev nD) (t : Fin cfg0.N) (h : t.val ≠ 0) (y : Sums F) : Vec F S1x128 .f32 :=
  VO0_24.read (Elt F) (VO0_24.writes (Elt F) VO0_24.junk (kernelRun0_B m c t h y).2.2.2.2.1)

/-- What the five outputs hold after each point. -/
def outsAt0 (c : Dev nD) : (n : ℕ) → n < cfg0.N → Vec F S512x2048 .bf16 × Vec F S512x512 .f32 × Sums F
  | 0, hn => (out0_A_20 m c ⟨0, hn⟩ rfl, out0_A_21 m c ⟨0, hn⟩ rfl, out0_A_22 m c ⟨0, hn⟩ rfl, out0_A_23 m c ⟨0, hn⟩ rfl, out0_A_24 m c ⟨0, hn⟩ rfl)
  | n + 1, hn =>
    let y := (outsAt0 c n (Nat.lt_of_succ_lt hn)).2.2
    (out0_B_20 m c ⟨n + 1, hn⟩ (Nat.succ_ne_zero n) y, out0_B_21 m c ⟨n + 1, hn⟩ (Nat.succ_ne_zero n) y, out0_B_22 m c ⟨n + 1, hn⟩ (Nat.succ_ne_zero n) y, out0_B_23 m c ⟨n + 1, hn⟩ (Nat.succ_ne_zero n) y, out0_B_24 m c ⟨n + 1, hn⟩ (Nat.succ_ne_zero n) y)

theorem outsAt0_A (c : Dev nD) (t : Fin cfg0.N) (h : t.val = 0) :
    outsAt0 m c t.val t.isLt = (out0_A_20 m c t h, out0_A_21 m c t h, out0_A_22 m c t h, out0_A_23 m c t h, out0_A_24 m c t h) := by
  obtain ⟨n, hn⟩ := t
  obtain rfl : n = 0 := h
  rfl

theorem outsAt0_B (c : Dev nD) (t : Fin cfg0.N) (h : t.val ≠ 0) (y : Sums F)
    (hy : y = (outsAt0 m c (t.val - 1) (Nat.lt_of_le_of_lt (Nat.sub_le _ _) t.isLt)).2.2) :
    outsAt0 m c t.val t.isLt = (out0_B_20 m c t h y, out0_B_21 m c t h y, out0_B_22 m c t h y, out0_B_23 m c t h y, out0_B_24 m c t h y) := by
  subst hy
  obtain ⟨n, hn⟩ := t
  cases n with
  | zero => exact absurd rfl h
  | succ n => rfl

/-! ## The proof data -/

/-- After the body each input's buffer holds its block, each output's what `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨21, _⟩ => (outsAt0 m c t.val t.isLt).2.1
    | ⟨22, _⟩ => (outsAt0 m c t.val t.isLt).2.2.1
    | ⟨23, _⟩ => (outsAt0 m c t.val t.isLt).2.2.2.1
    | ⟨24, _⟩ => (outsAt0 m c t.val t.isLt).2.2.2.2
    | ⟨_ + 25, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- Every window's buffer is used at every point. -/
theorem live : ∀ (w : Fin cfg0.W) (t : Fin cfg0.N), cfg0.idle w (grid0.coords t) = false :=
  (by decide +kernel : ∀ (w : Fin 25) (t : Fin grid0.N), cfg0.idle w (grid0.coords t) = false)

theorem leaves (c : Dev nD) (w : Fin cfg0.W) (t : Fin cfg0.N) :
    (dats m 0 c).leavesExact w t
      = owns (c : Thread nD τ) ((cfg0.win w).stage (cfg0.slots t w)) fullShare ((dats m 0 c).after w t) := by
  unfold Dat.leavesExact
  rw [live w t]

/-- No output's contents need carrying: no point leaves a buffer idle. -/
theorem carried (c : Dev nD) (w : Fin cfg0.W) : ∀ (t : Fin cfg0.N) (_ : t.val ≠ 0),
    cfg0.idle w (grid0.coords t) = true → cfg0.fresh w t.val = false →
    (dats m 0 c).after w t = (dats m 0 c).after w ⟨t.val - 1, by omega⟩ :=
  fun t _ hi _ => absurd ((live w t).symm.trans hi) Bool.false_ne_true

theorem before0_22 (c : Dev nD) (t : Fin cfg0.N) (h : t.val ≠ 0) (d) :
    (dats m 0 c).before 22 t d = (outsAt0 m c (t.val - 1) (Nat.lt_of_le_of_lt (Nat.sub_le _ _) t.isLt)).2.2.1 := by
  rw [Dat.before_out_traj _ 22 rfl (fun _ _ => rfl) (carried m c 22) t.val t rfl d,
    if_neg (by rw [notFresh0_22_B t (caseB t h).1 (caseB t h).2]; exact Bool.false_ne_true)]
  dsimp only [dats]

theorem before0_23 (c : Dev nD) (t : Fin cfg0.N) (h : t.val ≠ 0) (d) :
    (dats m 0 c).before 23 t d = (outsAt0 m c (t.val - 1) (Nat.lt_of_le_of_lt (Nat.sub_le _ _) t.isLt)).2.2.2.1 := by
  rw [Dat.before_out_traj _ 23 rfl (fun _ _ => rfl) (carried m c 23) t.val t rfl d,
    if_neg (by rw [notFresh0_23_B t (caseB t h).1 (caseB t h).2]; exact Bool.false_ne_true)]
  dsimp only [dats]

theorem before0_24 (c : Dev nD) (t : Fin cfg0.N) (h : t.val ≠ 0) (d) :
    (dats m 0 c).before 24 t d = (outsAt0 m c (t.val - 1) (Nat.lt_of_le_of_lt (Nat.sub_le _ _) t.isLt)).2.2.2.2 := by
  rw [Dat.before_out_traj _ 24 rfl (fun _ _ => rfl) (carried m c 24) t.val t rfl d,
    if_neg (by rw [notFresh0_24_B t (caseB t h).1 (caseB t h).2]; exact Bool.false_ne_true)]
  dsimp only [dats]

/-- The inputs' buffers at a point, each at its block. -/
abbrev inputs (c : Dev nD) (t : Fin cfg0.N) : sProp 𝕄 :=
  ins c (ms0_0 t) (ms0_1 t) (ms0_2 t) (ms0_3 t) (ms0_4 t) (ms0_5 t) (ms0_6 t) (ms0_7 t) (ms0_8 t) (ms0_9 t)
      (ms0_10 t) (ms0_11 t) (ms0_12 t) (ms0_13 t) (ms0_14 t) (ms0_15 t) (ms0_16 t) (ms0_17 t) (ms0_18 t) (ms0_19 t)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t)

/-- What the body is called with: the inputs' blocks, and each output's buffer at something. -/
def before (c : Dev nD) (t : Fin cfg0.N) : sProp 𝕄 :=
  iprop((dats m 0 c).Φ t.castSucc ∗ (dats m 0 c).owesAt () t.castSucc ∗ inputs m c t
    ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)))

/-- What the body leaves: the same, and each output's buffer at what `outsAt0` says. -/
def left (c : Dev nD) (t : Fin cfg0.N) : sProp 𝕄 :=
  iprop((dats m 0 c).Φ t.succ ∗ (dats m 0 c).owesAt () t.succ ∗ inputs m c t
    ∗ owns (c : Thread nD τ) (ms0_20 t) fullShare (outsAt0 m c t.val t.isLt).1 ∗ owns (c : Thread nD τ) (ms0_21 t) fullShare (outsAt0 m c t.val t.isLt).2.1 ∗ owns (c : Thread nD τ) (ms0_22 t) fullShare (outsAt0 m c t.val t.isLt).2.2.1 ∗ owns (c : Thread nD τ) (ms0_23 t) fullShare (outsAt0 m c t.val t.isLt).2.2.2.1 ∗ owns (c : Thread nD τ) (ms0_24 t) fullShare (outsAt0 m c t.val t.isLt).2.2.2.2)

/-- A buffer written by pieces that cover it holds what the pieces say, whatever it held. -/
theorem owns_written (c : Dev nD) {s : Shape} {e : EltTy} (M : Memref sig .tc .vmem s e) (W : View sig .tc .vmem s e)
    (L : List (View.Piece (Elt F) s e)) (hL : ∀ i, ∃ pc ∈ L, i ∈ pc.1.set) :
    iprop(∃ f, M.view.loc (c : Thread nD τ) ↦[M.view.set]{fullShare} M.view.writes (Elt F) f L : sProp 𝕄)
      ⊢ iprop(owns (c : Thread nD τ) M fullShare (W.read (Elt F) (W.writes (Elt F) W.junk L))) := by
  unfold owns
  iintro ⟨%f, H⟩
  iexists (M.view.writes (Elt F) f L)
  isplitr
  · ipureintro; exact View.read_writes_of_cover _ _ _ _ _ hL
  iexact H

set_option maxHeartbeats 4800000 in
theorem sound_body (c : Dev nD) (t : Fin cfg0.N) :
    before m c t ⊢ wp frame (wpE (defs₀ (F := F)) Variants.none c none) Set.univ (bodyAt0 t) (fun _ => left m c t) := by
  unfold before left
  rw [show (dats m 0 c).Φ t.succ = (dats m 0 c).Φ t.castSucc from rfl,
    show (dats m 0 c).owesAt () t.succ = (dats m 0 c).owesAt () t.castSucc from rfl]
  by_cases h : t.val = 0
  · rw [outsAt0_A m c t h]
    iintro ⟨HΦ, Ho, Hin, ⟨%d20, H20⟩, ⟨%d21, H21⟩, ⟨%d22, H22⟩, ⟨%d23, H23⟩, ⟨%d24, H24⟩⟩
    iapply ((kernelRun0_A m c t h).2.2.2.2.2 Set.univ _)
    isplitl [Hin]; · iexact Hin
    isplitl [H20]; · iexists _; iexact H20
    isplitl [H21]; · iexists _; iexact H21
    isplitl [H22]; · iexists _; iexact H22
    isplitl [H23]; · iexists _; iexact H23
    isplitl [H24]; · iexists _; iexact H24
    iintro ⟨Hin, H20, H21, H22, H23, H24⟩
    isplitl [HΦ]; · iexact HΦ
    isplitl [Ho]; · iexact Ho
    isplitl [Hin]; · iexact Hin
    isplitl [H20]; · iapply (owns_written c (ms0_20 t) VO0_20 _ (cover0_A_20 m c t h)); iexact H20
    isplitl [H21]; · iapply (owns_written c (ms0_21 t) VO0_21 _ (cover0_A_21 m c t h)); iexact H21
    isplitl [H22]; · iapply (owns_written c (ms0_22 t) VO0_22 _ (cover0_A_22 m c t h)); iexact H22
    isplitl [H23]; · iapply (owns_written c (ms0_23 t) VO0_23 _ (cover0_A_23 m c t h)); iexact H23
    iapply (owns_written c (ms0_24 t) VO0_24 _ (cover0_A_24 m c t h)); iexact H24
  · rw [outsAt0_B m c t h _ rfl]
    simp only [before0_22 m c t h, before0_23 m c t h, before0_24 m c t h]
    generalize (outsAt0 m c (t.val - 1) _).2.2 = y
    iintro ⟨HΦ, Ho, Hin, ⟨%d20, H20⟩, ⟨%d21, H21⟩, ⟨%d22, H22⟩, ⟨%d23, H23⟩, ⟨%d24, H24⟩⟩
    iapply ((kernelRun0_B m c t h y).2.2.2.2.2 Set.univ _)
    isplitl [Hin]; · iexact Hin
    isplitl [H20]; · iexists _; iexact H20
    isplitl [H21]; · iexists _; iexact H21
    isplitl [H22]; · iexact H22
    isplitl [H23]; · iexact H23
    isplitl [H24]; · iexact H24
    iintro ⟨Hin, H20, H21, H22, H23, H24⟩
    isplitl [HΦ]; · iexact HΦ
    isplitl [Ho]; · iexact Ho
    isplitl [Hin]; · iexact Hin
    isplitl [H20]; · iapply (owns_written c (ms0_20 t) VO0_20 _ (cover0_B_20 m c t h y)); iexact H20
    isplitl [H21]; · iapply (owns_written c (ms0_21 t) VO0_21 _ (cover0_B_21 m c t h y)); iexact H21
    isplitl [H22]; · iapply (owns_written c (ms0_22 t) VO0_22 _ (cover0_B_22 m c t h y)); iexact H22
    isplitl [H23]; · iapply (owns_written c (ms0_23 t) VO0_23 _ (cover0_B_23 m c t h y)); iexact H23
    iapply (owns_written c (ms0_24 t) VO0_24 _ (cover0_B_24 m c t h y)); iexact H24

theorem defs₀_row (t : Fin cfg0.N) :
    defs₀ (F := F) .tc cfg0.body (cfg0.bodyArgs t (cfg0.slots t)) = bodyAt0 t := by
  unfold defs₀
  rw [Defs.onTc_tc]

set_option maxHeartbeats 4800000 in
/-- The library's obligation of the body, at every point. -/
theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · unfold before inputs ins
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, Hout⟩
    rw [before0_0_of m (dats m 0 c) (A_eq m c 0) (fun _ => by dsimp only [dats]) t d0,
    before0_1_of m (dats m 0 c) (A_eq m c 1) (fun _ => by dsimp only [dats]) t d1,
    before0_2_of m (dats m 0 c) (A_eq m c 2) (fun _ => by dsimp only [dats]) t d2,
    before0_3_of m (dats m 0 c) (A_eq m c 3) (fun _ => by dsimp only [dats]) t d3,
    before0_4_of m (dats m 0 c) (A_eq m c 4) (fun _ => by dsimp only [dats]) t d4,
    before0_5_of m (dats m 0 c) (A_eq m c 5) (fun _ => by dsimp only [dats]) t d5,
    before0_6_of m (dats m 0 c) (A_eq m c 6) (fun _ => by dsimp only [dats]) t d6,
    before0_7_of m (dats m 0 c) (A_eq m c 7) (fun _ => by dsimp only [dats]) t d7,
    before0_8_of m (dats m 0 c) (A_eq m c 8) (fun _ => by dsimp only [dats]) t d8,
    before0_9_of m (dats m 0 c) (A_eq m c 9) (fun _ => by dsimp only [dats]) t d9,
    before0_10_of m (dats m 0 c) (A_eq m c 10) (fun _ => by dsimp only [dats]) t d10,
    before0_11_of m (dats m 0 c) (A_eq m c 11) (fun _ => by dsimp only [dats]) t d11,
    before0_12_of m (dats m 0 c) (A_eq m c 12) (fun _ => by dsimp only [dats]) t d12,
    before0_13_of m (dats m 0 c) (A_eq m c 13) (fun _ => by dsimp only [dats]) t d13,
    before0_14_of m (dats m 0 c) (A_eq m c 14) (fun _ => by dsimp only [dats]) t d14,
    before0_15_of m (dats m 0 c) (A_eq m c 15) (fun _ => by dsimp only [dats]) t d15,
    before0_16_of m (dats m 0 c) (A_eq m c 16) (fun _ => by dsimp only [dats]) t d16,
    before0_17_of m (dats m 0 c) (A_eq m c 17) (fun _ => by dsimp only [dats]) t d17,
    before0_18_of m (dats m 0 c) (A_eq m c 18) (fun _ => by dsimp only [dats]) t d18,
    before0_19_of m (dats m 0 c) (A_eq m c 19) (fun _ => by dsimp only [dats]) t d19]
    isplitl [HΦ]; · iexact HΦ
    isplitl [Ho]; · iexact Ho
    isplitl [H0 H1 H2 H3 H4 H5 H6 H7 H8 H9 H10 H11 H12 H13 H14 H15 H16 H17 H18 H19]; · sl_close
    iexact Hout
  · unfold left inputs ins
    show _ ⊢ iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t ∗ (dats m 0 c).leavesExact 22 t ∗ (dats m 0 c).leavesExact 23 t ∗ (dats m 0 c).leavesExact 24 t)
    rw [leaves m c 0 t, leaves m c 1 t, leaves m c 2 t, leaves m c 3 t, leaves m c 4 t, leaves m c 5 t, leaves m c 6 t, leaves m c 7 t, leaves m c 8 t, leaves m c 9 t, leaves m c 10 t, leaves m c 11 t, leaves m c 12 t, leaves m c 13 t, leaves m c 14 t, leaves m c 15 t, leaves m c 16 t, leaves m c 17 t, leaves m c 18 t, leaves m c 19 t, leaves m c 20 t, leaves m c 21 t, leaves m c 22 t, leaves m c 23 t, leaves m c 24 t]
    iintro ⟨HΦ, Ho, ⟨H0, H1, H2, H3, H4, H5, H6, H7, H8, H9, H10, H11, H12, H13, H14, H15, H16, H17, H18, H19⟩, Hout⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact Hout

/-! ## The run and the frame -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The run with the five output arrays named, the arguments unchanged and every semaphore at zero. -/
theorem run_blocks : θ_run defs (onTc (τ := τ) (main (F := F))) ⟨m, fun _ => 0, ρ⟩ (fun r =>
    (∀ c : Dev nD,
      r.2.mem ((c : Thread nD τ).loc main_v9_0) = (dats m 0 c).arrAt 20 cfg0.N
      ∧ r.2.mem ((c : Thread nD τ).loc main_v9_1) = (dats m 0 c).arrAt 21 cfg0.N
      ∧ r.2.mem ((c : Thread nD τ).loc main_v9_2) = (dats m 0 c).arrAt 22 cfg0.N
      ∧ r.2.mem ((c : Thread nD τ).loc main_v9_3) = (dats m 0 c).arrAt 23 cfg0.N
      ∧ r.2.mem ((c : Thread nD τ).loc main_v9_4) = (dats m 0 c).arrAt 24 cfg0.N)
    ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  θ_run_and ((θ_run defs _ _).mono (fun _ h c => ⟨(h c).1 20, (h c).1 21, (h c).1 22, (h c).1 23, (h c).1 24⟩) (run_main m ρ))
    (θ_run_and (frame_of m ρ (dats m) (A_eq m) (run_main m ρ))
      ((θ_run defs _ _).mono (fun _ h => h.2) (run_main_quiescent m ρ)))

end Cert.Kernel9Ideal.Mix

end

end
-- ==== Proof.MixWords.lean ====
module

public import proofs.«01_k».proof.Proof.MixFrame
public import Idealize.ShloMosaic.Lib.Pipeline.ValueKit
public import Idealize.ShloMosaic.Lib.Pointwise

/-! What each grid point leaves, in words of its blocks. -/

@[expose] public section

set_option maxRecDepth 16384

noncomputable section

open Idealize.ShloMosaic Idealize.ShloMosaic.TcCoe Idealize.SL.Sem
open Idealize.ShloMosaic.Pipeline (Dat)

namespace Cert.Kernel9Ideal.Mix

open Cert.Kernel9Ideal Cert.Kernel9Ideal.Gen Finset

variable (m : (ℓ : Loc nD τ sig) → Buf (Elt Ideal) ℓ)

theorem ld8 {e : EltTy} (M : Memref sig .tc .vmem S8x512 e) (h : M.IsWhole) (X : Vec Ideal S8x512 e) (inb) :
    View.ld (View.read (Elt Ideal) M.view (h.unread (Val := Elt Ideal) X)) (Rect.unit (s := S8x512) ![0, 0] ![8, 512] inb) = X := by
  rw [h.read_unread]
  exact View.ld_unit_zero (S := S8x512) (by funext a; fin_cases a <;> rfl) inb X

theorem ld512 {e : EltTy} (M : Memref sig .tc .vmem S512x512 e) (h : M.IsWhole) (X : Vec Ideal S512x512 e) (inb) :
    View.ld (View.read (Elt Ideal) M.view (h.unread (Val := Elt Ideal) X)) (Rect.unit (s := S512x512) ![0, 0] ![512, 512] inb) = X := by
  rw [h.read_unread]
  exact View.ld_unit_zero (S := S512x512) (by funext a; fin_cases a <;> rfl) inb X

theorem three {a a' : FVec Ideal S8x512 .f32} {b b' : FVec Ideal S512x512 .f32} {c c' : FVec Ideal S8x512 .f32} (ha : a = a') (hb : b = b') (hc : c = c') :
    (concatenate S528x512 0 [⟨S8x512, a⟩, ⟨S512x512, b⟩, ⟨S8x512, c⟩] concatenates_S8x512_S512x512_S8x512_S528x512_d0 : FVec Ideal S528x512 .f32)
      = concatenate S528x512 0 [⟨S8x512, a'⟩, ⟨S512x512, b'⟩, ⟨S8x512, c'⟩] concatenates_S8x512_S512x512_S8x512_S528x512_d0 := by
  subst ha hb hc
  rfl

/-- The loaded rows of a block and its neighbours, put together. -/
theorem together (M0 M2 : Memref sig .tc .vmem S8x512 .f32) (M1 : Memref sig .tc .vmem S512x512 .f32) (h0 : M0.IsWhole) (h1 : M1.IsWhole) (h2 : M2.IsWhole)
    (a c : Vec Ideal S8x512 .f32) (b : Vec Ideal S512x512 .f32) (i0 i1) :
    (concatenate S528x512 0
      [⟨S8x512, shapeCast S8x512 (View.ld (View.read (Elt Ideal) M0.view (h0.unread (Val := Elt Ideal) a)) (Rect.unit (s := S8x512) ![0, 0] ![8, 512] i0)) shapeCasts_S8x512_S8x512⟩,
        ⟨S512x512, shapeCast S512x512 (View.ld (View.read (Elt Ideal) M1.view (h1.unread (Val := Elt Ideal) b)) (Rect.unit (s := S512x512) ![0, 0] ![512, 512] i1)) shapeCasts_S512x512_S512x512⟩,
        ⟨S8x512, shapeCast S8x512 (View.ld (View.read (Elt Ideal) M2.view (h2.unread (Val := Elt Ideal) c)) (Rect.unit (s := S8x512) ![0, 0] ![8, 512] i0)) shapeCasts_S8x512_S8x512⟩]
      concatenates_S8x512_S512x512_S8x512_S528x512_d0 : FVec Ideal S528x512 .f32) = k0_pay6 (F := Ideal) a b c :=
  three (congrArg (fun x => shapeCast S8x512 x shapeCasts_S8x512_S8x512) (ld8 M0 h0 a i0))
    (congrArg (fun x => shapeCast S512x512 x shapeCasts_S512x512_S512x512) (ld512 M1 h1 b i1))
    (congrArg (fun x => shapeCast S8x512 x shapeCasts_S8x512_S8x512) (ld8 M2 h2 c i0))

variable (c : Dev nD) (t : Fin cfg0.N)

/-- The extended block of the multiplier. -/
abbrev extb : FVec Ideal S528x512 .f32 := k0_pay6 (F := Ideal) (iblk m c 3 t) (iblk m c 0 t) (iblk m c 4 t)

/-- The extended block of the input gate. -/
abbrev extc : FVec Ideal S528x512 .f32 := k0_pay6 (F := Ideal) (iblk m c 5 t) (iblk m c 1 t) (iblk m c 6 t)

/-- The extended block of the cotangent. -/
abbrev extd : FVec Ideal S528x512 .f32 := k0_pay11 (F := Ideal) (iblk m c 14 t) (iblk m c 12 t) (iblk m c 15 t)

/-- The first three gradients of the projected block. -/
def partZ : FVec Ideal S512x1536 .bf16 :=
  k0_pay21 (F := Ideal) (k0_pay4 (grid0.coords t)) (iblk m c 16 t) (iblk m c 17 t) (k0_pay5 (F := Ideal) (iblk m c 19 t)) (extb m c t) (extc m c t) (k0_pay10 (F := Ideal) (k0_pay8 (F := Ideal) (iblk m c 7 t)) (k0_pay9 (F := Ideal) (iblk m c 2 t)) (iblk m c 8 t)) (extd m c t) (k0_pay15 (F := Ideal) (k0_pay4 (grid0.coords t)) (iblk m c 16 t) (extc m c t) (k0_pay8 (F := Ideal) (iblk m c 7 t)) (k0_pay9 (F := Ideal) (iblk m c 2 t)) (iblk m c 8 t)) (k0_pay17 (F := Ideal) (k0_pay4 (grid0.coords t)) (iblk m c 16 t) (k0_pay5 (F := Ideal) (iblk m c 19 t)) (extb m c t) (extc m c t) (k0_pay8 (F := Ideal) (iblk m c 7 t)) (k0_pay9 (F := Ideal) (iblk m c 2 t)) (iblk m c 8 t)) (k0_pay18 (F := Ideal) (k0_pay4 (grid0.coords t)) (iblk m c 16 t) (k0_pay5 (F := Ideal) (iblk m c 19 t)) (extb m c t) (extc m c t) (k0_pay8 (F := Ideal) (iblk m c 7 t)) (k0_pay9 (F := Ideal) (iblk m c 2 t)) (iblk m c 8 t))

/-- The gradient of the gate. -/
def partG : FVec Ideal S512x512 .bf16 :=
  k0_pay47 (F := Ideal) (k0_pay26 (F := Ideal) (iblk m c 9 t)) (k0_pay27 (F := Ideal) (iblk m c 9 t)) (iblk m c 13 t) (k0_pay42 (F := Ideal) (k0_pay29 (F := Ideal) (iblk m c 10 t) (iblk m c 11 t))) (k0_pay43 (F := Ideal) (iblk m c 18 t) (k0_pay30 (F := Ideal) (iblk m c 10 t) (iblk m c 11 t)) (k0_pay31 (F := Ideal) (iblk m c 10 t) (iblk m c 11 t))) (k0_pay44 (F := Ideal) (iblk m c 18 t) (k0_pay29 (F := Ideal) (iblk m c 10 t) (iblk m c 11 t))) (k0_pay45 (F := Ideal) (iblk m c 18 t) (k0_pay29 (F := Ideal) (iblk m c 10 t) (iblk m c 11 t))) (k0_pay46 (F := Ideal) (iblk m c 18 t))

/-- The gradient of the recurrence's output. -/
def partO : FVec Ideal S512x512 .f32 :=
  k0_pay56 (F := Ideal) (iblk m c 18 t) (k0_pay28 (F := Ideal) (iblk m c 9 t) (iblk m c 13 t)) (k0_pay38 (F := Ideal) (k0_pay29 (F := Ideal) (iblk m c 10 t) (iblk m c 11 t))) (k0_pay39 (F := Ideal) (k0_pay29 (F := Ideal) (iblk m c 10 t) (iblk m c 11 t))) (k0_pay41 (F := Ideal) (k0_pay29 (F := Ideal) (iblk m c 10 t) (iblk m c 11 t))) (k0_pay42 (F := Ideal) (k0_pay29 (F := Ideal) (iblk m c 10 t) (iblk m c 11 t))) (k0_pay49 (F := Ideal) (iblk m c 18 t) (k0_pay28 (F := Ideal) (iblk m c 9 t) (iblk m c 13 t)) (k0_pay32 (F := Ideal) (k0_pay31 (F := Ideal) (iblk m c 10 t) (iblk m c 11 t))) (k0_pay33 (F := Ideal) (k0_pay30 (F := Ideal) (iblk m c 10 t) (iblk m c 11 t)) (k0_pay31 (F := Ideal) (iblk m c 10 t) (iblk m c 11 t)))) (k0_pay52 (F := Ideal) (iblk m c 18 t) (k0_pay28 (F := Ideal) (iblk m c 9 t) (iblk m c 13 t)) (k0_pay35 (F := Ideal) (k0_pay29 (F := Ideal) (iblk m c 10 t) (iblk m c 11 t))) (k0_pay36 (F := Ideal) (k0_pay29 (F := Ideal) (iblk m c 10 t) (iblk m c 11 t)))) (k0_pay53 (F := Ideal) (k0_pay28 (F := Ideal) (iblk m c 9 t) (iblk m c 13 t)))

/-- The part of the gradient of the convolution's weights. -/
def partW : FVec Ideal S3x512 .f32 :=
  k0_pay24 (F := Ideal) (k0_pay12 (F := Ideal) (k0_pay4 (grid0.coords t)) (extc m c t) (k0_pay8 (F := Ideal) (iblk m c 7 t)) (k0_pay9 (F := Ideal) (iblk m c 2 t)) (iblk m c 8 t)) (k0_pay14 (F := Ideal) (k0_pay4 (grid0.coords t)) (extc m c t) (k0_pay8 (F := Ideal) (iblk m c 7 t)) (k0_pay9 (F := Ideal) (iblk m c 2 t)) (iblk m c 8 t)) (k0_pay22 (F := Ideal) (k0_pay4 (grid0.coords t)) (iblk m c 17 t) (k0_pay5 (F := Ideal) (iblk m c 19 t)) (extb m c t) (extd m c t) (k0_pay17 (F := Ideal) (k0_pay4 (grid0.coords t)) (iblk m c 16 t) (k0_pay5 (F := Ideal) (iblk m c 19 t)) (extb m c t) (extc m c t) (k0_pay8 (F := Ideal) (iblk m c 7 t)) (k0_pay9 (F := Ideal) (iblk m c 2 t)) (iblk m c 8 t)) (k0_pay18 (F := Ideal) (k0_pay4 (grid0.coords t)) (iblk m c 16 t) (k0_pay5 (F := Ideal) (iblk m c 19 t)) (extb m c t) (extc m c t) (k0_pay8 (F := Ideal) (iblk m c 7 t)) (k0_pay9 (F := Ideal) (iblk m c 2 t)) (iblk m c 8 t))) (k0_pay23 (F := Ideal) (k0_pay4 (grid0.coords t)) (iblk m c 17 t) (k0_pay5 (F := Ideal) (iblk m c 19 t)) (extb m c t) (extd m c t) (k0_pay13 (F := Ideal) (k0_pay4 (grid0.coords t)) (extc m c t) (k0_pay8 (F := Ideal) (iblk m c 7 t)) (k0_pay9 (F := Ideal) (iblk m c 2 t)) (iblk m c 8 t)) (k0_pay17 (F := Ideal) (k0_pay4 (grid0.coords t)) (iblk m c 16 t) (k0_pay5 (F := Ideal) (iblk m c 19 t)) (extb m c t) (extc m c t) (k0_pay8 (F := Ideal) (iblk m c 7 t)) (k0_pay9 (F := Ideal) (iblk m c 2 t)) (iblk m c 8 t)) (k0_pay18 (F := Ideal) (k0_pay4 (grid0.coords t)) (iblk m c 16 t) (k0_pay5 (F := Ideal) (iblk m c 19 t)) (extb m c t) (extc m c t) (k0_pay8 (F := Ideal) (iblk m c 7 t)) (k0_pay9 (F := Ideal) (iblk m c 2 t)) (iblk m c 8 t)))

/-- The part of the gradient of the group norm's gain. -/
def partN : FVec Ideal S1x512 .f32 :=
  k0_pay25 (F := Ideal) (extd m c t) (k0_pay18 (F := Ideal) (k0_pay4 (grid0.coords t)) (iblk m c 16 t) (k0_pay5 (F := Ideal) (iblk m c 19 t)) (extb m c t) (extc m c t) (k0_pay8 (F := Ideal) (iblk m c 7 t)) (k0_pay9 (F := Ideal) (iblk m c 2 t)) (iblk m c 8 t))

/-- The part of the gradient of the head norm's gain. -/
def partL : FVec Ideal S1x128 .f32 :=
  k0_pay55 (F := Ideal) (k0_pay28 (F := Ideal) (iblk m c 9 t) (iblk m c 13 t)) (k0_pay39 (F := Ideal) (k0_pay29 (F := Ideal) (iblk m c 10 t) (iblk m c 11 t))) (k0_pay42 (F := Ideal) (k0_pay29 (F := Ideal) (iblk m c 10 t) (iblk m c 11 t))) (k0_pay51 (F := Ideal) (k0_pay28 (F := Ideal) (iblk m c 9 t) (iblk m c 13 t)) (k0_pay33 (F := Ideal) (k0_pay30 (F := Ideal) (iblk m c 10 t) (iblk m c 11 t)) (k0_pay31 (F := Ideal) (iblk m c 10 t) (iblk m c 11 t))) (k0_pay36 (F := Ideal) (k0_pay29 (F := Ideal) (iblk m c 10 t) (iblk m c 11 t)))) (k0_pay53 (F := Ideal) (k0_pay28 (F := Ideal) (iblk m c 9 t) (iblk m c 13 t)))

set_option maxHeartbeats 1000000 in
theorem wordA_21 (h : t.val = 0) : out0_A_21 m c t h = partO m c t := by
  unfold out0_A_21 kernelRun0_A
  frame_out
  rfl

set_option maxHeartbeats 1000000 in
theorem wordB_21 (h : t.val ≠ 0) (y : Sums Ideal) : out0_B_21 m c t h y = partO m c t := by
  unfold out0_B_21 kernelRun0_B
  frame_out
  rfl

set_option maxHeartbeats 1000000 in
theorem wordA_22 (h : t.val = 0) : out0_A_22 m c t h = partW m c t := by
  unfold out0_A_22 kernelRun0_A
  frame_out
  simp only [together]
  rfl

set_option maxHeartbeats 1000000 in
theorem wordB_22 (h : t.val ≠ 0) (y : Sums Ideal) : out0_B_22 m c t h y = k0_pay1 (F := Ideal) (partW m c t) y.1 := by
  unfold out0_B_22 kernelRun0_B
  frame_out
  simp only [together]
  rfl

set_option maxHeartbeats 1000000 in
theorem wordA_23 (h : t.val = 0) : out0_A_23 m c t h = partN m c t := by
  unfold out0_A_23 kernelRun0_A
  frame_out
  simp only [together]
  rfl

set_option maxHeartbeats 1000000 in
theorem wordB_23 (h : t.val ≠ 0) (y : Sums Ideal) : out0_B_23 m c t h y = k0_pay2 (F := Ideal) (partN m c t) y.2.1 := by
  unfold out0_B_23 kernelRun0_B
  frame_out
  simp only [together]
  rfl

set_option maxHeartbeats 1000000 in
theorem wordA_24 (h : t.val = 0) : out0_A_24 m c t h = partL m c t := by
  unfold out0_A_24 kernelRun0_A
  frame_out
  rfl

set_option maxHeartbeats 1000000 in
theorem wordB_24 (h : t.val ≠ 0) (y : Sums Ideal) : out0_B_24 m c t h y = k0_pay3 (F := Ideal) (partL m c t) y.2.2 := by
  unfold out0_B_24 kernelRun0_B
  frame_out
  rfl

set_option maxHeartbeats 1000000 in
theorem wordA_20 (h : t.val = 0) : out0_A_20 m c t h = View.canon
      [⟨Rect.unit ![0, 1536] ![512, 512] inb_S512x2048_S512x512_0_1536, partG m c t⟩,
        ⟨Rect.unit ![0, 0] ![512, 1536] inb_S512x2048_S512x1536_0_0, partZ m c t⟩] := by
  unfold out0_A_20 kernelRun0_A
  frame_out
  simp only [together]
  rfl

set_option maxHeartbeats 1000000 in
theorem wordB_20 (h : t.val ≠ 0) (y : Sums Ideal) : out0_B_20 m c t h y = View.canon
      [⟨Rect.unit ![0, 1536] ![512, 512] inb_S512x2048_S512x512_0_1536, partG m c t⟩,
        ⟨Rect.unit ![0, 0] ![512, 1536] inb_S512x2048_S512x1536_0_0, partZ m c t⟩] := by
  unfold out0_B_20 kernelRun0_B
  frame_out
  simp only [together]
  rfl

end Cert.Kernel9Ideal.Mix

end

end
-- ==== Proof.MixNum.lean ====
module

public import proofs.«01_k».proof.Proof.NormRow
public import Idealize.ShloMosaic.Lib.Pipeline.ValueKit

/-! The real numbers of the mixing backward pass: convolution, group norm and their derivatives, by row. -/

@[expose] public section

set_option maxRecDepth 16384

noncomputable section

open Idealize.ShloMosaic Finset

namespace Cert.Num

theorem sixtyfourth : Ideal.ofBits .f32 0x3C800000#32 = ((1 / 64 : ℝ) : EReal) := by
  simp [Ideal.ofBits, Ideal.ieee]
  rw [← EReal.coe_mul]
  norm_num

theorem f64 : Ideal.ofBits .f32 0x42800000#32 = ((64 : ℝ) : EReal) := by
  simp [Ideal.ofBits, Ideal.ieee]
  rw [← EReal.coe_mul]
  norm_num

theorem f128 : Ideal.ofBits .f32 0x43000000#32 = ((128 : ℝ) : EReal) := by
  simp [Ideal.ofBits, Ideal.ieee]
  rw [← EReal.coe_mul]
  norm_num

/-- The literal added under the root, as a real. -/
def ε : ℝ := eps_pos.choose

theorem ε_pos : 0 < ε := eps_pos.choose_spec.1

theorem ε_eq : Ideal.ofBits .f32 0x358637BD#32 = ((ε : ℝ) : EReal) := eps_pos.choose_spec.2

/-- The lanes of the group of a lane. -/
def lane (j : Fin 512) (l : Fin 64) : Fin 512 := ⟨64 * (j.val / 64) + l.val, by omega⟩

/-- The rows of an array shifted by eight, zero outside. -/
def ext {n : ℕ} (A : Fin 8192 → Fin n → ℝ) (s : ℕ) (j : Fin n) : ℝ :=
  if h : 8 ≤ s ∧ s < 8200 then A ⟨s - 8, by omega⟩ j else 0

/-- The arrays of the convolution half. -/
structure Conv where
  b : Fin 8192 → Fin 512 → ℝ
  c : Fin 8192 → Fin 512 → ℝ
  u : Fin 8192 → Fin 512 → ℝ
  d : Fin 8192 → Fin 512 → ℝ
  w : Fin 3 → Fin 512 → ℝ
  n : Fin 512 → ℝ

namespace Conv

variable (A : Conv) (s : ℕ) (j : Fin 512)

/-- What is convolved. -/
def hp : ℝ := ext A.c s j * ext A.u s j

/-- The convolution. -/
def cv : ℝ := A.w 0 j * A.hp (s - 1) j + A.w 1 j * A.hp s j + A.w 2 j * A.hp (s + 1) j

/-- The gated convolution. -/
def yc : ℝ := ext A.b s j * A.cv s j

/-- The mean square of the group. -/
def ms : ℝ := (∑ l, A.yc s (lane j l) * A.yc s (lane j l)) * (1 / 64) + ε

/-- The factor of the group. -/
def rr : ℝ := (Real.sqrt (A.ms s j))⁻¹

/-- The normalised row. -/
def yh : ℝ := A.yc s j * A.rr s j

/-- The cotangent with its gain. -/
def dh : ℝ := ext A.d s j * A.n j

/-- The cotangent of the gated convolution. -/
def dyc : ℝ := A.rr s j * (A.dh s j - A.yh s j * ((∑ l, A.dh s (lane j l) * A.yh s (lane j l)) * (1 / 64)))

/-- The cotangent of the convolution. -/
def dc : ℝ := A.dyc s j * ext A.b s j

/-- The cotangent of what is convolved. -/
def dhc : ℝ := A.w 0 j * A.dc (s + 1) j + A.w 1 j * A.dc s j + A.w 2 j * A.dc (s - 1) j

theorem ms_pos : 0 < A.ms s j := by
  have := Finset.sum_nonneg (fun l (_ : l ∈ univ) => mul_self_nonneg (A.yc s (lane j l)))
  have := ε_pos
  unfold ms
  positivity

theorem rsqrt_ms : Ideal.rsqrt ((A.ms s j : ℝ) : EReal) = ((A.rr s j : ℝ) : EReal) := by
  have := A.ms_pos s j
  rw [Ideal.rsqrt_coe, if_neg (by linarith), if_neg this.ne']
  rfl

theorem cube : A.rr s j * (1 / A.ms s j) = A.rr s j * (A.rr s j * A.rr s j) := by
  unfold rr
  rw [← mul_inv, Real.mul_self_sqrt (A.ms_pos s j).le, one_div]

end Conv

/-- A sum over the lanes with a group's ones is the sum over the group. -/
theorem group_sum (f : Fin 512 → ℝ) (o : Fin 512 → EReal) (j : Fin 512)
    (ho : ∀ l, o l = if l.val / 64 = j.val / 64 then 1 else 0) :
    ∑ l, ((f l : ℝ) : EReal) * o l = ((∑ l, f (lane j l) : ℝ) : EReal) := by
  rw [Fin.sum_univ_tiles 8 64 rfl, ← sum_coe, Finset.sum_eq_single (⟨j.val / 64, by omega⟩ : Fin 8)]
  · refine sum_congr rfl fun l _ => ?_
    rw [ho, if_pos (by simp; omega), mul_one]
    exact congrArg (fun x => ((f x : ℝ) : EReal)) (Fin.ext (by simp [lane]; omega))
  · intro b _ hb
    refine sum_eq_zero fun l _ => ?_
    rw [ho, if_neg, mul_zero]
    intro h
    refine hb (Fin.ext ?_)
    simp at h
    simp
    omega
  · intro h
    exact absurd (mem_univ _) h

/-- A product split into a high part and two rests, the rests of a real being zero. -/
theorem split_dot {n : ℕ} (f : Fin n → ℝ) (o : Fin n → EReal) :
    ∑ l, ((f l : ℝ) : EReal) * o l + ∑ l, (((f l : ℝ) : EReal) - ((f l : ℝ) : EReal)) * o l
        + ∑ l, (((f l : ℝ) : EReal) - ((f l : ℝ) : EReal) - (((f l : ℝ) : EReal) - ((f l : ℝ) : EReal))) * o l
      = ∑ l, ((f l : ℝ) : EReal) * o l := by
  simp only [← EReal.coe_sub, sub_self, EReal.coe_zero, sub_zero, zero_mul, sum_const_zero, add_zero]

end Cert.Num

end

end
-- ==== Proof.MixBlk.lean ====
module

public import proofs.«01_k».proof.Proof.Gen.Kernel9Ideal.Skeleton
public import proofs.«01_k».proof.Proof.MixNum
public import Idealize.ShloMosaic.Lib.Pipeline.ValueKit
public import Idealize.ShloMosaic.Lib.Pointwise

/-! The convolution half of one grid point, in real numbers. -/

@[expose] public section

set_option maxRecDepth 16384

noncomputable section

open Idealize.ShloMosaic Idealize.ShloMosaic.TcCoe Idealize.SL.Sem Finset

namespace Cert.Kernel9Ideal.Mix

open Cert.Kernel9Ideal Cert.Kernel9Ideal.Gen Cert.Num

/-- The extended block of point `t` holds the shifted rows of an array, where these lie in the array. -/
def Ext {n : ℕ} (t : ℕ) (A : Fin 8192 → Fin n → ℝ) (E : FVec Ideal ⟨2, ![528, n]⟩ .f32) : Prop :=
  ∀ (e : Fin 528) (j : Fin n), 8 ≤ 512 * t + e.val → 512 * t + e.val < 8200 → E (ix2 e j) = ((ext A (512 * t + e.val) j : ℝ) : EReal)

/-- What the words of one grid point are given. -/
structure Point (A : Conv) (t : ℕ) (mk : IVec S528x1 1) (vb vc vd : FVec Ideal S528x512 .f32) (u8 : FVec Ideal S8x512 .f32) (u : FVec Ideal S512x512 .f32)
    (u8' : Vec Ideal S8x512 .f32) (vo : FVec Ideal S512x512 .bf16) (vw : Vec Ideal S3x512 .f32) (vn : Vec Ideal S1x512 .f32) : Prop where
  mask : ∀ e : Fin 528, mk (ix2 e 0) = BitVec.ofBool (decide (8 ≤ 512 * t + e.val ∧ 512 * t + e.val < 8200))
  b : Ext t A.b vb
  c : Ext t A.c vc
  u : Ext t A.u (k0_pay10 (F := Ideal) u8 u u8')
  d : Ext t A.d vd
  ones : ∀ l j : Fin 512, (vo (ix2 l j) : EReal) = if l.val / 64 = j.val / 64 then 1 else 0
  w : ∀ k j, vw (ix2 k j) = ((A.w k j : ℝ) : EReal)
  n : ∀ j, vn (ix2 0 j) = ((A.n j : ℝ) : EReal)

theorem ext_out {n : ℕ} (A : Fin 8192 → Fin n → ℝ) (s : ℕ) (j : Fin n) (h : ¬ (8 ≤ s ∧ s < 8200)) : ext A s j = 0 := dif_neg h

section

variable {A : Conv} {t : ℕ} {mk : IVec S528x1 1} {vb vc vd : FVec Ideal S528x512 .f32} {u8 : FVec Ideal S8x512 .f32} {u : FVec Ideal S512x512 .f32}
  {u8' : Vec Ideal S8x512 .f32} {vo : FVec Ideal S512x512 .bf16} {vw : Vec Ideal S3x512 .f32} {vn : Vec Ideal S1x512 .f32}

theorem select_valid (hp : Point A t mk vb vc vd u8 u u8' vo vw vn) (e : Fin 528) (x y : EReal) :
    Scalar.select (mk (ix2 e 0)) x y = if 8 ≤ 512 * t + e.val ∧ 512 * t + e.val < 8200 then x else y := by
  rw [hp.mask]
  unfold Scalar.select
  by_cases h : 8 ≤ 512 * t + e.val ∧ 512 * t + e.val < 8200
  · rw [if_pos h, decide_eq_true h]
    rfl
  · rw [if_neg h, decide_eq_false h]
    rfl

theorem hc_at (hp : Point A t mk vb vc vd u8 u u8' vo vw vn) (e : Fin 528) (j : Fin 512) :
    k0_pay12 (F := Ideal) mk vc u8 u u8' (ix2 e j) = ((A.hp (512 * t + e.val) j : ℝ) : EReal) := by
  have hu := hp.u e j
  unfold k0_pay12
  generalize k0_pay10 (F := Ideal) _ _ _ = z at hu
  pointwise
  rw [select_valid hp]
  by_cases h : 8 ≤ 512 * t + e.val ∧ 512 * t + e.val < 8200
  · rw [if_pos h, hu h.1 h.2, hp.c e j h.1 h.2, ← EReal.coe_mul]
    rfl
  · rw [if_neg h]
    unfold Conv.hp
    rw [ext_out _ _ _ h, zero_mul, EReal.coe_zero]

theorem prev_at (hp : Point A t mk vb vc vd u8 u u8' vo vw vn) (e : Fin 528) (j : Fin 512) (h1 : 1 ≤ e.val) :
    k0_pay13 (F := Ideal) mk vc u8 u u8' (ix2 e j) = ((A.hp (512 * t + e.val - 1) j : ℝ) : EReal) := by
  unfold k0_pay13
  have hz := fun e => hc_at hp e j
  generalize k0_pay12 (F := Ideal) _ _ _ _ _ = z at hz
  pointwise
  rw [hz]
  exact congrArg (fun s => ((A.hp s j : ℝ) : EReal)) (by show 512 * t + (e.val + 528 - 1) % 528 = _; omega)

theorem next_at (hp : Point A t mk vb vc vd u8 u u8' vo vw vn) (e : Fin 528) (j : Fin 512) (h1 : e.val ≤ 526) :
    k0_pay14 (F := Ideal) mk vc u8 u u8' (ix2 e j) = ((A.hp (512 * t + e.val + 1) j : ℝ) : EReal) := by
  unfold k0_pay14
  have hz := fun e => hc_at hp e j
  generalize k0_pay12 (F := Ideal) _ _ _ _ _ = z at hz
  pointwise
  rw [hz]
  exact congrArg (fun s => ((A.hp s j : ℝ) : EReal)) (by show 512 * t + (e.val + 528 - 527) % 528 = _; omega)

theorem cv_at (hp : Point A t mk vb vc vd u8 u u8' vo vw vn) (e : Fin 528) (j : Fin 512) (h1 : 1 ≤ e.val) (h2 : e.val ≤ 526) :
    k0_pay15 (F := Ideal) mk vw vc u8 u u8' (ix2 e j) = ((A.cv (512 * t + e.val) j : ℝ) : EReal) := by
  unfold k0_pay15
  have ha := hc_at hp e j
  have hb := prev_at hp e j h1
  have hc := next_at hp e j h2
  generalize k0_pay12 (F := Ideal) _ _ _ _ _ = z at ha
  generalize k0_pay13 (F := Ideal) _ _ _ _ _ = z at hb
  generalize k0_pay14 (F := Ideal) _ _ _ _ _ = z at hc
  pointwise
  simp only [ha, hb, hc, hp.w, ← EReal.coe_mul, ← EReal.coe_add]
  rfl

theorem yc_at (hp : Point A t mk vb vc vd u8 u u8' vo vw vn) (e : Fin 528) (j : Fin 512) (h1 : 1 ≤ e.val) (h2 : e.val ≤ 526)
    (h3 : 8 ≤ 512 * t + e.val) (h4 : 512 * t + e.val < 8200) :
    k0_pay16 (F := Ideal) mk vw vb vc u8 u u8' (ix2 e j) = ((A.yc (512 * t + e.val) j : ℝ) : EReal) := by
  unfold k0_pay16
  have ha := cv_at hp e j h1 h2
  generalize k0_pay15 (F := Ideal) _ _ _ _ _ _ = z at ha
  pointwise
  rw [ha, hp.b e j h3 h4, ← EReal.coe_mul]
  rfl

theorem rr_at (hp : Point A t mk vb vc vd u8 u u8' vo vw vn) (e : Fin 528) (j : Fin 512) (h1 : 1 ≤ e.val) (h2 : e.val ≤ 526)
    (h3 : 8 ≤ 512 * t + e.val) (h4 : 512 * t + e.val < 8200) :
    k0_pay17 (F := Ideal) mk vw vo vb vc u8 u u8' (ix2 e j) = ((A.rr (512 * t + e.val) j : ℝ) : EReal) := by
  unfold k0_pay17
  have ha := fun j => yc_at hp e j h1 h2 h3 h4
  generalize k0_pay16 (F := Ideal) _ _ _ _ _ _ _ = z at ha
  pointwise
  simp only [ha, ← EReal.coe_mul]
  rw [split_dot, group_sum _ _ j (fun l => hp.ones l j), sixtyfourth, ε_eq, ← EReal.coe_mul, ← EReal.coe_add]
  exact A.rsqrt_ms _ j

theorem yh_at (hp : Point A t mk vb vc vd u8 u u8' vo vw vn) (e : Fin 528) (j : Fin 512) (h1 : 1 ≤ e.val) (h2 : e.val ≤ 526)
    (h3 : 8 ≤ 512 * t + e.val) (h4 : 512 * t + e.val < 8200) :
    k0_pay18 (F := Ideal) mk vw vo vb vc u8 u u8' (ix2 e j) = ((A.yh (512 * t + e.val) j : ℝ) : EReal) := by
  unfold k0_pay18
  have ha := yc_at hp e j h1 h2 h3 h4
  have hb := rr_at hp e j h1 h2 h3 h4
  generalize k0_pay16 (F := Ideal) _ _ _ _ _ _ _ = z at ha
  generalize k0_pay17 (F := Ideal) _ _ _ _ _ _ _ _ = z at hb
  pointwise
  rw [ha, hb, ← EReal.coe_mul]
  rfl

theorem dyc_at (hp : Point A t mk vb vc vd u8 u u8' vo vw vn) (e : Fin 528) (j : Fin 512) (h1 : 1 ≤ e.val) (h2 : e.val ≤ 526)
    (h3 : 8 ≤ 512 * t + e.val) (h4 : 512 * t + e.val < 8200) :
    k0_pay19 (F := Ideal) vn vo vd (k0_pay17 (F := Ideal) mk vw vo vb vc u8 u u8') (k0_pay18 (F := Ideal) mk vw vo vb vc u8 u u8') (ix2 e j)
      = ((A.dyc (512 * t + e.val) j : ℝ) : EReal) := by
  have ha := rr_at hp e j h1 h2 h3 h4
  have hb := fun j => yh_at hp e j h1 h2 h3 h4
  generalize k0_pay17 (F := Ideal) _ _ _ _ _ _ _ _ = z at ha
  generalize k0_pay18 (F := Ideal) _ _ _ _ _ _ _ _ = z at hb
  unfold k0_pay19
  pointwise
  simp only [ha, hb, hp.n, fun j => hp.d e j h3 h4, ← EReal.coe_mul]
  rw [split_dot, group_sum _ _ j (fun l => hp.ones l j), sixtyfourth, ← EReal.coe_mul, ← EReal.coe_mul, ← EReal.coe_sub, ← EReal.coe_mul]
  rfl

theorem dc_at (hp : Point A t mk vb vc vd u8 u u8' vo vw vn) (e : Fin 528) (j : Fin 512) (h1 : 1 ≤ e.val) (h2 : e.val ≤ 526) :
    k0_pay20 (F := Ideal) mk vn vo vb vd (k0_pay17 (F := Ideal) mk vw vo vb vc u8 u u8') (k0_pay18 (F := Ideal) mk vw vo vb vc u8 u u8') (ix2 e j)
      = ((A.dc (512 * t + e.val) j : ℝ) : EReal) := by
  have ha := dyc_at hp e j h1 h2
  unfold k0_pay20
  generalize k0_pay19 (F := Ideal) _ _ _ _ _ = z at ha
  pointwise
  rw [select_valid hp]
  by_cases h : 8 ≤ 512 * t + e.val ∧ 512 * t + e.val < 8200
  · rw [if_pos h, ha h.1 h.2, hp.b e j h.1 h.2, ← EReal.coe_mul]
    rfl
  · rw [if_neg h]
    unfold Conv.dc
    rw [ext_out _ _ _ h, mul_zero, EReal.coe_zero]

/-- The row of the arrays that row `r` of point `t` is. -/
abbrev shift (t : ℕ) (r : Fin 512) : ℕ := 512 * t + r.val + 8

/-- The three gradients of the projected block, before they are put side by side. -/
def za (A : Conv) (s : ℕ) (j : Fin 1536) : ℝ :=
  if h : j.val < 512 then A.dyc s ⟨j.val, h⟩ * A.cv s ⟨j.val, h⟩
  else if h' : j.val - 512 < 512 then A.dhc s ⟨j.val - 512, h'⟩ * ext A.u s ⟨j.val - 512, h'⟩
  else A.dhc s ⟨j.val - 512 - 512, by omega⟩ * ext A.c s ⟨j.val - 512 - 512, by omega⟩

theorem za_at (hp : Point A t mk vb vc vd u8 u u8' vo vw vn) (ht : t < 16) (r : Fin 512) (j : Fin 1536) :
    (k0_pay21 (F := Ideal) mk vw vn vo vb vc (k0_pay10 (F := Ideal) u8 u u8') vd (k0_pay15 (F := Ideal) mk vw vc u8 u u8')
      (k0_pay17 (F := Ideal) mk vw vo vb vc u8 u u8') (k0_pay18 (F := Ideal) mk vw vo vb vc u8 u u8') (ix2 r j) : EReal)
      = ((za A (shift t r) j : ℝ) : EReal) := by
  have hr := r.isLt
  have s0 : 512 * t + (8 + r.val) = shift t r := by unfold shift; omega
  have s1 : 512 * t + (8 + r.val + 528 - 527) % 528 = shift t r + 1 := by unfold shift; omega
  have s2 : 512 * t + (8 + r.val + 528 - 1) % 528 = shift t r - 1 := by unfold shift; omega
  have ha := fun j => (dyc_at hp ⟨8 + r.val, by omega⟩ j (by show 1 ≤ 8 + r.val; omega) (by show 8 + r.val ≤ 526; omega)
    (by show 8 ≤ 512 * t + (8 + r.val); omega) (by show 512 * t + (8 + r.val) < 8200; omega)).trans (congrArg (fun s => ((A.dyc s j : ℝ) : EReal)) s0)
  have hc := fun j => (cv_at hp ⟨8 + r.val, by omega⟩ j (by show 1 ≤ 8 + r.val; omega) (by show 8 + r.val ≤ 526; omega)).trans
    (congrArg (fun s => ((A.cv s j : ℝ) : EReal)) s0)
  have hd := fun j => (hp.u ⟨8 + r.val, by omega⟩ j (by show 8 ≤ 512 * t + (8 + r.val); omega)
    (by show 512 * t + (8 + r.val) < 8200; omega)).trans (congrArg (fun s => ((Num.ext A.u s j : ℝ) : EReal)) s0)
  have he := fun j => (hp.c ⟨8 + r.val, by omega⟩ j (by show 8 ≤ 512 * t + (8 + r.val); omega)
    (by show 512 * t + (8 + r.val) < 8200; omega)).trans (congrArg (fun s => ((Num.ext A.c s j : ℝ) : EReal)) s0)
  have hb0 := fun j => (dc_at hp ⟨8 + r.val, by omega⟩ j (by show 1 ≤ 8 + r.val; omega) (by show 8 + r.val ≤ 526; omega)).trans
    (congrArg (fun s => ((A.dc s j : ℝ) : EReal)) s0)
  have hb1 := fun j => (dc_at hp ⟨(8 + r.val + 528 - 527) % 528, by omega⟩ j (by show 1 ≤ (8 + r.val + 528 - 527) % 528; omega)
    (by show (8 + r.val + 528 - 527) % 528 ≤ 526; omega)).trans (congrArg (fun s => ((A.dc s j : ℝ) : EReal)) s1)
  have hb2 := fun j => (dc_at hp ⟨(8 + r.val + 528 - 1) % 528, by omega⟩ j (by show 1 ≤ (8 + r.val + 528 - 1) % 528; omega)
    (by show (8 + r.val + 528 - 1) % 528 ≤ 526; omega)).trans (congrArg (fun s => ((A.dc s j : ℝ) : EReal)) s2)
  unfold k0_pay21
  generalize k0_pay20 (F := Ideal) _ _ _ _ _ _ _ = z at hb0 hb1 hb2
  generalize k0_pay19 (F := Ideal) _ _ _ _ _ = z at ha
  generalize k0_pay15 (F := Ideal) _ _ _ _ _ _ = z at hc
  generalize k0_pay10 (F := Ideal) _ _ _ = z at hd
  pointwise
  simp only [ha, hb0, hb1, hb2, hc, hd, he, hp.w, ← EReal.coe_mul, ← EReal.coe_add]
  unfold za
  by_cases h : j.val < 512
  · simp only [h, ↓reduceDIte]
  · by_cases h' : j.val - 512 < 512
    · simp only [h, h', ↓reduceDIte]
      rfl
    · simp only [h, h', ↓reduceDIte]
      rfl

/-- The part of one point in the gradient of the convolution's weights. -/
theorem dcw_at (hp : Point A t mk vb vc vd u8 u u8' vo vw vn) (k : Fin 3) (j : Fin 512) :
    k0_pay24 (F := Ideal) (k0_pay12 (F := Ideal) mk vc u8 u u8') (k0_pay14 (F := Ideal) mk vc u8 u u8')
      (k0_pay22 (F := Ideal) mk vn vo vb vd (k0_pay17 (F := Ideal) mk vw vo vb vc u8 u u8') (k0_pay18 (F := Ideal) mk vw vo vb vc u8 u u8'))
      (k0_pay23 (F := Ideal) mk vn vo vb vd (k0_pay13 (F := Ideal) mk vc u8 u u8') (k0_pay17 (F := Ideal) mk vw vo vb vc u8 u u8')
        (k0_pay18 (F := Ideal) mk vw vo vb vc u8 u u8')) (ix2 k j)
      = ∑ r : Fin 512, ((A.dc (shift t r) j * A.hp (shift t r + k.val - 1) j : ℝ) : EReal) := by
  have hb := fun r : Fin 512 => (dc_at hp ⟨8 + r.val, by omega⟩ j (by show 1 ≤ 8 + r.val; omega) (by show 8 + r.val ≤ 526; omega)).trans
    (congrArg (fun s => ((A.dc s j : ℝ) : EReal)) (show 512 * t + (8 + r.val) = shift t r by unfold shift; omega))
  have h0 := fun r : Fin 512 => (prev_at hp ⟨8 + r.val, by omega⟩ j (by show 1 ≤ 8 + r.val; omega)).trans
    (congrArg (fun s => ((A.hp s j : ℝ) : EReal)) (show 512 * t + (8 + r.val) - 1 = shift t r + 0 - 1 by unfold shift; omega))
  have h1 := fun r : Fin 512 => (hc_at hp ⟨8 + r.val, by omega⟩ j).trans
    (congrArg (fun s => ((A.hp s j : ℝ) : EReal)) (show 512 * t + (8 + r.val) = shift t r + 1 - 1 by unfold shift; omega))
  have h2 := fun r : Fin 512 => (next_at hp ⟨8 + r.val, by omega⟩ j (by show 8 + r.val ≤ 526; omega)).trans
    (congrArg (fun s => ((A.hp s j : ℝ) : EReal)) (show 512 * t + (8 + r.val) + 1 = shift t r + 2 - 1 by unfold shift; omega))
  unfold k0_pay24 k0_pay23 k0_pay22
  generalize k0_pay20 (F := Ideal) _ _ _ _ _ _ _ = z at hb
  generalize k0_pay12 (F := Ideal) _ _ _ _ _ = z at h1
  generalize k0_pay13 (F := Ideal) _ _ _ _ _ = z at h0
  generalize k0_pay14 (F := Ideal) _ _ _ _ _ = z at h2
  pointwise
  simp only [hb, h0, h1, h2, EReal.coe_mul]
  fin_cases k
  · rw [dif_pos (by decide)]
  · rw [dif_neg (by decide), dif_pos (by decide)]
  · rw [dif_neg (by decide), dif_neg (by decide)]

/-- The part of one point in the gradient of the group norm's gain. -/
theorem dcn_at (hp : Point A t mk vb vc vd u8 u u8' vo vw vn) (ht : t < 16) (z : Fin 1) (j : Fin 512) :
    k0_pay25 (F := Ideal) vd (k0_pay18 (F := Ideal) mk vw vo vb vc u8 u u8') (ix2 z j)
      = ∑ r : Fin 512, ((Num.ext A.d (shift t r) j * A.yh (shift t r) j : ℝ) : EReal) := by
  have h1 := fun r : Fin 512 => (yh_at hp ⟨8 + r.val, by omega⟩ j (by show 1 ≤ 8 + r.val; omega) (by show 8 + r.val ≤ 526; omega)
    (by show 8 ≤ 512 * t + (8 + r.val); omega) (by show 512 * t + (8 + r.val) < 8200; omega)).trans
    (congrArg (fun s => ((A.yh s j : ℝ) : EReal)) (show 512 * t + (8 + r.val) = shift t r by unfold shift; omega))
  have h2 := fun r : Fin 512 => (hp.d ⟨8 + r.val, by omega⟩ j
    (by show 8 ≤ 512 * t + (8 + r.val); omega) (by show 512 * t + (8 + r.val) < 8200; omega)).trans
    (congrArg (fun s => ((Num.ext A.d s j : ℝ) : EReal)) (show 512 * t + (8 + r.val) = shift t r by unfold shift; omega))
  unfold k0_pay25
  generalize k0_pay18 (F := Ideal) _ _ _ _ _ _ _ _ = y at h1
  pointwise
  simp only [h1, h2, EReal.coe_mul]

end

end Cert.Kernel9Ideal.Mix

end

end
-- ==== Proof.MixGated.lean ====
module

public import proofs.«01_k».proof.Proof.Gen.Kernel9Ideal.Skeleton
public import proofs.«01_k».proof.Proof.MixNum
public import Idealize.ShloMosaic.Lib.Pipeline.ValueKit
public import Idealize.ShloMosaic.Lib.Pointwise

/-! The gated half of one grid point, in real numbers. -/

@[expose] public section

set_option maxRecDepth 16384

noncomputable section

open Idealize.ShloMosaic Idealize.ShloMosaic.TcCoe Idealize.SL.Sem Finset

namespace Cert.Num

/-- The lane of a head's column. -/
def hl (h : Fin 4) (l : Fin 128) : Fin 512 := ⟨128 * h.val + l.val, by omega⟩

/-- The arrays of the gated half. -/
structure Gated where
  g : Fin 8192 → Fin 512 → ℝ
  o : Fin 8192 → Fin 512 → ℝ
  d : Fin 8192 → Fin 512 → ℝ
  n : Fin 128 → ℝ

/-- The logistic function. -/
def sg (x : ℝ) : ℝ := 1 / (1 + Real.exp (-x))

namespace Gated

variable (A : Gated) (i : Fin 8192) (h : Fin 4) (l : Fin 128)

/-- The mean square of a head. -/
def ms : ℝ := (∑ l, A.o i (hl h l) * A.o i (hl h l)) * (1 / 128) + ε

/-- The factor of a head. -/
def rr : ℝ := (Real.sqrt (A.ms i h))⁻¹

/-- The normalised head. -/
def yh : ℝ := A.o i (hl h l) * A.rr i h

/-- The cotangent of the norm's result. -/
def don : ℝ := A.d i (hl h l) * (A.g i (hl h l) * sg (A.g i (hl h l)))

/-- That cotangent with the gain. -/
def dh : ℝ := A.don i h l * A.n l

/-- The cotangent of the head. -/
def dox : ℝ := A.rr i h * (A.dh i h l - A.yh i h l * ((∑ l, A.dh i h l * A.yh i h l) * (1 / 128)))

/-- The cotangent of the gate. -/
def dg : ℝ := A.d i (hl h l) * (A.yh i h l * A.n l) * (sg (A.g i (hl h l)) * (1 + A.g i (hl h l) * (1 - sg (A.g i (hl h l)))))

theorem ms_pos : 0 < A.ms i h := by
  have := Finset.sum_nonneg (fun l (_ : l ∈ univ) => mul_self_nonneg (A.o i (hl h l)))
  have := ε_pos
  unfold ms
  positivity

theorem rsqrt_ms : Ideal.rsqrt ((A.ms i h : ℝ) : EReal) = ((A.rr i h : ℝ) : EReal) := by
  have := A.ms_pos i h
  rw [Ideal.rsqrt_coe, if_neg (by linarith), if_neg this.ne']
  rfl

theorem cube : A.rr i h * (1 / A.ms i h) = A.rr i h * (A.rr i h * A.rr i h) := by
  unfold rr
  rw [← mul_inv, Real.mul_self_sqrt (A.ms_pos i h).le, one_div]

end Gated

/-- Four heads side by side, read at a column of one. -/
theorem heads (f0 f1 f2 f3 : Fin 128 → EReal) (T : Fin 4 → Fin 128 → EReal) (h0 : ∀ l, f0 l = T 0 l) (h1 : ∀ l, f1 l = T 1 l)
    (h2 : ∀ l, f2 l = T 2 l) (h3 : ∀ l, f3 l = T 3 l) (h : Fin 4) (l : Fin 128) :
    (if a : (hl h l).val < 128 then f0 ⟨(hl h l).val, a⟩ else if b : (hl h l).val - 128 < 128 then f1 ⟨(hl h l).val - 128, b⟩
      else if c : (hl h l).val - 128 - 128 < 128 then f2 ⟨(hl h l).val - 128 - 128, c⟩
      else f3 ⟨(hl h l).val - 128 - 128 - 128, by have := (hl h l).isLt; omega⟩) = T h l := by
  have e : (hl h l).val = 128 * h.val + l.val := rfl
  have hh := l.isLt
  match h, e with
  | 0, e => rw [dif_pos (by simp [hl]), h0]; exact congrArg (T 0) (Fin.ext (by simp [hl]))
  | 1, e => rw [dif_neg (by simp [hl]), dif_pos (by simp [hl]), h1]; exact congrArg (T 1) (Fin.ext (by simp [hl]))
  | 2, e => rw [dif_neg (by simp [hl]; omega), dif_neg (by simp [hl]; omega), dif_pos (by simp [hl]; omega), h2]; exact congrArg (T 2) (Fin.ext (by simp [hl]; omega))
  | 3, e => rw [dif_neg (by simp [hl]; omega), dif_neg (by simp [hl]; omega), dif_neg (by simp [hl]; omega), h3]; exact congrArg (T 3) (Fin.ext (by simp [hl]; omega))

/-- The logistic function as the kernel computes it. -/
theorem sg_cases (x : ℝ) :
    (if 0 ≤ x then 1 / (1 + Real.exp (0 - |x|)) else Real.exp (0 - |x|) / (1 + Real.exp (0 - |x|))) = sg x := by
  unfold sg
  rw [zero_sub]
  split
  next h => rw [abs_of_nonneg h]
  next h =>
    rw [abs_of_neg (not_le.1 h), neg_neg, Real.exp_neg]
    have := Real.exp_pos x
    field_simp
    ring

end Cert.Num

namespace Cert.Kernel9Ideal.Mix

open Cert.Kernel9Ideal Cert.Kernel9Ideal.Gen Cert.Num

/-- What the gated words of one grid point are given. -/
structure GPoint (A : Gated) (n : Fin 512 → Fin 8192) (vg vf vr vd : Vec Ideal S512x512 .f32) (vn : Vec Ideal S1x128 .f32) : Prop where
  g : ∀ r j, vg (ix2 r j) = ((A.g (n r) j : ℝ) : EReal)
  o : ∀ r j, k0_pay29 (F := Ideal) vf vr (ix2 r j) = ((A.o (n r) j : ℝ) : EReal)
  d : ∀ r j, vd (ix2 r j) = ((A.d (n r) j : ℝ) : EReal)
  n : ∀ l, vn (ix2 0 l) = ((A.n l : ℝ) : EReal)

section

variable {A : Gated} {n : Fin 512 → Fin 8192} {vg vf vr vd : Vec Ideal S512x512 .f32} {vn : Vec Ideal S1x128 .f32}

theorem sg_at (hp : GPoint A n vg vf vr vd vn) (r j : Fin 512) : k0_pay27 (F := Ideal) vg (ix2 r j) = ((sg (A.g (n r) j) : ℝ) : EReal) := by
  unfold k0_pay27 k0_pay26
  pointwise
  rw [hp.g]
  generalize A.g (n r) j = x
  have h0 : (FloatOps.absf (F := Ideal) (φ := .f32) ((x : ℝ) : EReal) : EReal) = ((|x| : ℝ) : EReal) := by
    show max (x : EReal) (-(x : EReal)) = _
    rw [← EReal.coe_neg, max_coe]
    rfl
  have h1 : Ideal.exp (0 - ((|x| : ℝ) : EReal)) = ((Real.exp (0 - |x|) : ℝ) : EReal) := by
    rw [← EReal.coe_zero, ← EReal.coe_sub]
    rfl
  have h2 : (1 : EReal) + ((Real.exp (0 - |x|) : ℝ) : EReal) = ((1 + Real.exp (0 - |x|) : ℝ) : EReal) := by
    rw [EReal.coe_add, EReal.coe_one]
  have h3 : 1 + Real.exp (0 - |x|) ≠ 0 := by positivity
  rw [h0, h1, h2, Ideal.div_coe h3, Ideal.div_coe h3, one_mul, ← EReal.coe_mul, ← sg_cases x]
  by_cases h : 0 ≤ x
  · rw [if_pos (by exact_mod_cast h), if_pos h]
  · rw [if_neg (by exact_mod_cast h), if_neg h, mul_one_div]

theorem don_at (hp : GPoint A n vg vf vr vd vn) (r : Fin 512) (h : Fin 4) (l : Fin 128) : k0_pay28 (F := Ideal) vg vd (ix2 r (hl h l)) = ((A.don (n r) h l : ℝ) : EReal) := by
  have ha := sg_at hp r (hl h l)
  unfold k0_pay28 k0_pay26
  generalize k0_pay27 (F := Ideal) _ = z at ha
  pointwise
  rw [ha, hp.g, hp.d, ← EReal.coe_mul, ← EReal.coe_mul]
  rfl

/-- The factor of a head, from its lanes. -/
theorem rr_of (A : Gated) (i : Fin 8192) (h : Fin 4) (x : Fin 128 → EReal) (hx : ∀ l, x l = ((A.o i (hl h l) : ℝ) : EReal)) :
    Ideal.rsqrt (Ideal.div (∑ l, x l * x l) (Ideal.ofBits .f32 0x43000000#32) + Ideal.ofBits .f32 0x358637BD#32) = ((A.rr i h : ℝ) : EReal) := by
  simp only [hx, f128, ε_eq, Ideal.div_coe (show (128 : ℝ) ≠ 0 by norm_num), ← EReal.coe_mul, sum_coe, ← EReal.coe_add]
  exact A.rsqrt_ms i h

theorem rr0_at (hp : GPoint A n vg vf vr vd vn) (r : Fin 512) (z : Fin 1) : k0_pay32 (F := Ideal) (k0_pay31 (F := Ideal) vf vr) (ix2 r z) = ((A.rr (n r) 0 : ℝ) : EReal) := by
  have ha := hp.o r
  unfold k0_pay32 k0_pay31 k0_pay30
  generalize k0_pay29 (F := Ideal) _ _ = z at ha
  pointwise
  exact rr_of A (n r) 0 _ fun l => (congrArg (fun j => z (ix2 r j)) (Fin.ext (by simp [hl]))).trans (ha (hl 0 l))

theorem yh0_at (hp : GPoint A n vg vf vr vd vn) (r : Fin 512) (l : Fin 128) : k0_pay33 (F := Ideal) (k0_pay30 (F := Ideal) vf vr) (k0_pay31 (F := Ideal) vf vr) (ix2 r l) = ((A.yh (n r) 0 l : ℝ) : EReal) := by
  have ha := hp.o r (hl 0 l)
  have hb := rr0_at hp r 0
  unfold k0_pay33
  generalize k0_pay32 (F := Ideal) _ = w at hb
  unfold k0_pay30
  generalize k0_pay29 (F := Ideal) _ _ = z at ha
  pointwise
  rw [hb]
  refine (congrArg (· * _) ((congrArg (fun j => z (ix2 r j)) (Fin.ext (by simp [hl]))).trans ha)).trans ?_
  rw [← EReal.coe_mul]
  rfl

theorem rr1_at (hp : GPoint A n vg vf vr vd vn) (r : Fin 512) (z : Fin 1) : k0_pay35 (F := Ideal) (k0_pay29 (F := Ideal) vf vr) (ix2 r z) = ((A.rr (n r) 1 : ℝ) : EReal) := by
  have ha := hp.o r
  unfold k0_pay35 k0_pay34
  generalize k0_pay29 (F := Ideal) _ _ = z at ha
  pointwise
  exact rr_of A (n r) 1 _ fun l => (congrArg (fun j => z (ix2 r j)) (Fin.ext (by simp [hl]))).trans (ha (hl 1 l))

theorem yh1_at (hp : GPoint A n vg vf vr vd vn) (r : Fin 512) (l : Fin 128) : k0_pay36 (F := Ideal) (k0_pay29 (F := Ideal) vf vr) (ix2 r l) = ((A.yh (n r) 1 l : ℝ) : EReal) := by
  have ha := hp.o r (hl 1 l)
  have hb := rr1_at hp r 0
  unfold k0_pay36 k0_pay34
  generalize k0_pay35 (F := Ideal) _ = w at hb
  generalize k0_pay29 (F := Ideal) _ _ = z at ha
  pointwise
  rw [hb]
  refine (congrArg (· * _) ((congrArg (fun j => z (ix2 r j)) (Fin.ext (by simp [hl]))).trans ha)).trans ?_
  rw [← EReal.coe_mul]
  rfl

theorem rr2_at (hp : GPoint A n vg vf vr vd vn) (r : Fin 512) (z : Fin 1) : k0_pay38 (F := Ideal) (k0_pay29 (F := Ideal) vf vr) (ix2 r z) = ((A.rr (n r) 2 : ℝ) : EReal) := by
  have ha := hp.o r
  unfold k0_pay38 k0_pay37
  generalize k0_pay29 (F := Ideal) _ _ = z at ha
  pointwise
  exact rr_of A (n r) 2 _ fun l => (congrArg (fun j => z (ix2 r j)) (Fin.ext (by simp [hl]))).trans (ha (hl 2 l))

theorem yh2_at (hp : GPoint A n vg vf vr vd vn) (r : Fin 512) (l : Fin 128) : k0_pay39 (F := Ideal) (k0_pay29 (F := Ideal) vf vr) (ix2 r l) = ((A.yh (n r) 2 l : ℝ) : EReal) := by
  have ha := hp.o r (hl 2 l)
  have hb := rr2_at hp r 0
  unfold k0_pay39 k0_pay37
  generalize k0_pay38 (F := Ideal) _ = w at hb
  generalize k0_pay29 (F := Ideal) _ _ = z at ha
  pointwise
  rw [hb]
  refine (congrArg (· * _) ((congrArg (fun j => z (ix2 r j)) (Fin.ext (by simp [hl]))).trans ha)).trans ?_
  rw [← EReal.coe_mul]
  rfl

theorem rr3_at (hp : GPoint A n vg vf vr vd vn) (r : Fin 512) (z : Fin 1) : k0_pay41 (F := Ideal) (k0_pay29 (F := Ideal) vf vr) (ix2 r z) = ((A.rr (n r) 3 : ℝ) : EReal) := by
  have ha := hp.o r
  unfold k0_pay41 k0_pay40
  generalize k0_pay29 (F := Ideal) _ _ = z at ha
  pointwise
  exact rr_of A (n r) 3 _ fun l => (congrArg (fun j => z (ix2 r j)) (Fin.ext (by simp [hl]))).trans (ha (hl 3 l))

theorem yh3_at (hp : GPoint A n vg vf vr vd vn) (r : Fin 512) (l : Fin 128) : k0_pay42 (F := Ideal) (k0_pay29 (F := Ideal) vf vr) (ix2 r l) = ((A.yh (n r) 3 l : ℝ) : EReal) := by
  have ha := hp.o r (hl 3 l)
  have hb := rr3_at hp r 0
  unfold k0_pay42 k0_pay40
  generalize k0_pay41 (F := Ideal) _ = w at hb
  generalize k0_pay29 (F := Ideal) _ _ = z at ha
  pointwise
  rw [hb]
  refine (congrArg (· * _) ((congrArg (fun j => z (ix2 r j)) (Fin.ext (by simp [hl]))).trans ha)).trans ?_
  rw [← EReal.coe_mul]
  rfl

/-- The cotangent of a head, from its lanes. -/
theorem dox_of (A : Gated) (i : Fin 8192) (h : Fin 4) (l : Fin 128) (r : EReal) (x y gn : Fin 128 → EReal) (hr : r = ((A.rr i h : ℝ) : EReal))
    (hx : ∀ l, x l = ((A.don i h l : ℝ) : EReal)) (hy : ∀ l, y l = ((A.yh i h l : ℝ) : EReal)) (hn : ∀ l, gn l = ((A.n l : ℝ) : EReal)) :
    r * (x l * gn l - y l * Ideal.div (∑ l, x l * gn l * y l) (Ideal.ofBits .f32 0x43000000#32)) = ((A.dox i h l : ℝ) : EReal) := by
  simp only [hr, hx, hy, hn, f128, Ideal.div_coe (show (128 : ℝ) ≠ 0 by norm_num), ← EReal.coe_mul, sum_coe, ← EReal.coe_sub]
  rfl

theorem don0_at (hp : GPoint A n vg vf vr vd vn) (r : Fin 512) (l : Fin 128) : k0_pay48 (F := Ideal) (k0_pay28 (F := Ideal) vg vd) (ix2 r l) = ((A.don (n r) 0 l : ℝ) : EReal) := by
  have ha := don_at hp r 0 l
  unfold k0_pay48
  generalize k0_pay28 (F := Ideal) _ _ = z at ha
  pointwise
  exact (congrArg (fun j => z (ix2 r j)) (Fin.ext (by simp [hl]))).trans ha

theorem don1_at (hp : GPoint A n vg vf vr vd vn) (r : Fin 512) (l : Fin 128) : k0_pay50 (F := Ideal) (k0_pay28 (F := Ideal) vg vd) (ix2 r l) = ((A.don (n r) 1 l : ℝ) : EReal) := by
  have ha := don_at hp r 1 l
  unfold k0_pay50
  generalize k0_pay28 (F := Ideal) _ _ = z at ha
  pointwise
  exact (congrArg (fun j => z (ix2 r j)) (Fin.ext (by simp [hl]))).trans ha

theorem don2_at (hp : GPoint A n vg vf vr vd vn) (r : Fin 512) (l : Fin 128) : k0_pay53 (F := Ideal) (k0_pay28 (F := Ideal) vg vd) (ix2 r l) = ((A.don (n r) 2 l : ℝ) : EReal) := by
  have ha := don_at hp r 2 l
  unfold k0_pay53
  generalize k0_pay28 (F := Ideal) _ _ = z at ha
  pointwise
  exact (congrArg (fun j => z (ix2 r j)) (Fin.ext (by simp [hl]))).trans ha

theorem don3_at (hp : GPoint A n vg vf vr vd vn) (r : Fin 512) (l : Fin 128) : k0_pay54 (F := Ideal) (k0_pay28 (F := Ideal) vg vd) (ix2 r l) = ((A.don (n r) 3 l : ℝ) : EReal) := by
  have ha := don_at hp r 3 l
  unfold k0_pay54
  generalize k0_pay28 (F := Ideal) _ _ = z at ha
  pointwise
  exact (congrArg (fun j => z (ix2 r j)) (Fin.ext (by simp [hl]))).trans ha

/-- The cotangent of the heads at one point. -/
theorem dox_at (hp : GPoint A n vg vf vr vd vn) (r : Fin 512) (h : Fin 4) (l : Fin 128) :
    k0_pay56 (F := Ideal) vn (k0_pay28 (F := Ideal) vg vd) (k0_pay38 (F := Ideal) (k0_pay29 (F := Ideal) vf vr)) (k0_pay39 (F := Ideal) (k0_pay29 (F := Ideal) vf vr)) (k0_pay41 (F := Ideal) (k0_pay29 (F := Ideal) vf vr)) (k0_pay42 (F := Ideal) (k0_pay29 (F := Ideal) vf vr))
      (k0_pay49 (F := Ideal) vn (k0_pay28 (F := Ideal) vg vd) (k0_pay32 (F := Ideal) (k0_pay31 (F := Ideal) vf vr)) (k0_pay33 (F := Ideal) (k0_pay30 (F := Ideal) vf vr) (k0_pay31 (F := Ideal) vf vr)))
      (k0_pay52 (F := Ideal) vn (k0_pay28 (F := Ideal) vg vd) (k0_pay35 (F := Ideal) (k0_pay29 (F := Ideal) vf vr)) (k0_pay36 (F := Ideal) (k0_pay29 (F := Ideal) vf vr)))
      (k0_pay53 (F := Ideal) (k0_pay28 (F := Ideal) vg vd)) (ix2 r (hl h l)) = ((A.dox (n r) h l : ℝ) : EReal) := by
  have r0 := rr0_at hp r 0
  have y0 := yh0_at hp r
  have d0 := don0_at hp r
  have r1 := rr1_at hp r 0
  have y1 := yh1_at hp r
  have d1 := don1_at hp r
  have r2 := rr2_at hp r 0
  have y2 := yh2_at hp r
  have d2 := don2_at hp r
  have r3 := rr3_at hp r 0
  have y3 := yh3_at hp r
  have d3 := don3_at hp r
  unfold k0_pay56 k0_pay49 k0_pay52
  generalize k0_pay48 (F := Ideal) _ = x0 at d0
  generalize k0_pay50 (F := Ideal) _ = x1 at d1
  generalize k0_pay53 (F := Ideal) _ = x2 at d2
  generalize k0_pay54 (F := Ideal) _ = x3 at d3
  generalize k0_pay33 (F := Ideal) _ _ = y0v at y0
  generalize k0_pay32 (F := Ideal) _ = w0 at r0
  generalize k0_pay36 (F := Ideal) _ = y1v at y1
  generalize k0_pay35 (F := Ideal) _ = w1 at r1
  generalize k0_pay39 (F := Ideal) _ = y2v at y2
  generalize k0_pay38 (F := Ideal) _ = w2 at r2
  generalize k0_pay42 (F := Ideal) _ = y3v at y3
  generalize k0_pay41 (F := Ideal) _ = w3 at r3
  pointwise
  exact heads
    (fun l => w0 (ix2 r 0) * (x0 (ix2 r l) * vn (ix2 0 l) - y0v (ix2 r l) * Ideal.div (∑ l, x0 (ix2 r l) * vn (ix2 0 l) * y0v (ix2 r l)) (Ideal.ofBits .f32 0x43000000#32)))
    (fun l => w1 (ix2 r 0) * (x1 (ix2 r l) * vn (ix2 0 l) - y1v (ix2 r l) * Ideal.div (∑ l, x1 (ix2 r l) * vn (ix2 0 l) * y1v (ix2 r l)) (Ideal.ofBits .f32 0x43000000#32)))
    (fun l => w2 (ix2 r 0) * (x2 (ix2 r l) * vn (ix2 0 l) - y2v (ix2 r l) * Ideal.div (∑ l, x2 (ix2 r l) * vn (ix2 0 l) * y2v (ix2 r l)) (Ideal.ofBits .f32 0x43000000#32)))
    (fun l => w3 (ix2 r 0) * (x3 (ix2 r l) * vn (ix2 0 l) - y3v (ix2 r l) * Ideal.div (∑ l, x3 (ix2 r l) * vn (ix2 0 l) * y3v (ix2 r l)) (Ideal.ofBits .f32 0x43000000#32)))
    (fun h l => ((A.dox (n r) h l : ℝ) : EReal))
    (fun l => dox_of A (n r) 0 l _ (fun l => x0 (ix2 r l)) (fun l => y0v (ix2 r l)) (fun l => vn (ix2 0 l)) r0 d0 y0 hp.n)
    (fun l => dox_of A (n r) 1 l _ (fun l => x1 (ix2 r l)) (fun l => y1v (ix2 r l)) (fun l => vn (ix2 0 l)) r1 d1 y1 hp.n)
    (fun l => dox_of A (n r) 2 l _ (fun l => x2 (ix2 r l)) (fun l => y2v (ix2 r l)) (fun l => vn (ix2 0 l)) r2 d2 y2 hp.n)
    (fun l => dox_of A (n r) 3 l _ (fun l => x3 (ix2 r l)) (fun l => y3v (ix2 r l)) (fun l => vn (ix2 0 l)) r3 d3 y3 hp.n) h l

/-- The cotangent of the gate at one point. -/
theorem dg_at (hp : GPoint A n vg vf vr vd vn) (r : Fin 512) (h : Fin 4) (l : Fin 128) :
    (k0_pay47 (F := Ideal) (k0_pay26 (F := Ideal) vg) (k0_pay27 (F := Ideal) vg) vd (k0_pay42 (F := Ideal) (k0_pay29 (F := Ideal) vf vr))
      (k0_pay43 (F := Ideal) vn (k0_pay30 (F := Ideal) vf vr) (k0_pay31 (F := Ideal) vf vr)) (k0_pay44 (F := Ideal) vn (k0_pay29 (F := Ideal) vf vr))
      (k0_pay45 (F := Ideal) vn (k0_pay29 (F := Ideal) vf vr)) (k0_pay46 (F := Ideal) vn) (ix2 r (hl h l)) : EReal) = ((A.dg (n r) h l : ℝ) : EReal) := by
  have ha := sg_at hp r (hl h l)
  have y0 := yh0_at hp r
  have y1 := yh1_at hp r
  have y2 := yh2_at hp r
  have y3 := yh3_at hp r
  unfold k0_pay47 k0_pay43 k0_pay44 k0_pay45 k0_pay46 k0_pay26
  generalize k0_pay27 (F := Ideal) _ = s at ha
  generalize k0_pay33 (F := Ideal) _ _ = y0v at y0
  generalize k0_pay36 (F := Ideal) _ = y1v at y1
  generalize k0_pay39 (F := Ideal) _ = y2v at y2
  generalize k0_pay42 (F := Ideal) _ = y3v at y3
  pointwise
  rw [ha, hp.g, hp.d]
  have one : (1 : EReal) = ((1 : ℝ) : EReal) := EReal.coe_one.symm
  refine (congrArg (fun x => ((A.d (n r) (hl h l) : ℝ) : EReal) * x * (((sg (A.g (n r) (hl h l)) : ℝ) : EReal)
      * (1 + ((A.g (n r) (hl h l) : ℝ) : EReal) * (1 - ((sg (A.g (n r) (hl h l)) : ℝ) : EReal)))))
    (heads (fun l => y0v (ix2 r l) * vn (ix2 0 l)) (fun l => y1v (ix2 r l) * vn (ix2 0 l)) (fun l => y2v (ix2 r l) * vn (ix2 0 l)) (fun l => y3v (ix2 r l) * vn (ix2 0 l))
      (fun h l => ((A.yh (n r) h l * A.n l : ℝ) : EReal)) (fun l => by show y0v (ix2 r l) * vn (ix2 0 l) = _; rw [y0, hp.n, ← EReal.coe_mul]) (fun l => by show y1v (ix2 r l) * vn (ix2 0 l) = _; rw [y1, hp.n, ← EReal.coe_mul]) (fun l => by show y2v (ix2 r l) * vn (ix2 0 l) = _; rw [y2, hp.n, ← EReal.coe_mul]) (fun l => by show y3v (ix2 r l) * vn (ix2 0 l) = _; rw [y3, hp.n, ← EReal.coe_mul]) h l)).trans ?_
  simp only [one, ← EReal.coe_mul, ← EReal.coe_sub, ← EReal.coe_add]
  rfl

/-- The part of one point in the gradient of the head norm's gain. -/
theorem dgn_at (hp : GPoint A n vg vf vr vd vn) (z : Fin 1) (l : Fin 128) :
    k0_pay55 (F := Ideal) (k0_pay28 (F := Ideal) vg vd) (k0_pay39 (F := Ideal) (k0_pay29 (F := Ideal) vf vr)) (k0_pay42 (F := Ideal) (k0_pay29 (F := Ideal) vf vr))
      (k0_pay51 (F := Ideal) (k0_pay28 (F := Ideal) vg vd) (k0_pay33 (F := Ideal) (k0_pay30 (F := Ideal) vf vr) (k0_pay31 (F := Ideal) vf vr)) (k0_pay36 (F := Ideal) (k0_pay29 (F := Ideal) vf vr)))
      (k0_pay53 (F := Ideal) (k0_pay28 (F := Ideal) vg vd)) (ix2 z l) = ∑ r : Fin 512, ∑ h : Fin 4, ((A.don (n r) h l * A.yh (n r) h l : ℝ) : EReal) := by
  have y0 := fun r => yh0_at hp r l
  have d0 := fun r => don0_at hp r l
  have y1 := fun r => yh1_at hp r l
  have d1 := fun r => don1_at hp r l
  have y2 := fun r => yh2_at hp r l
  have d2 := fun r => don2_at hp r l
  have y3 := fun r => yh3_at hp r l
  have d3 := fun r => don3_at hp r l
  unfold k0_pay55 k0_pay51
  generalize k0_pay48 (F := Ideal) _ = x0 at d0
  generalize k0_pay50 (F := Ideal) _ = x1 at d1
  generalize k0_pay53 (F := Ideal) _ = x2 at d2
  generalize k0_pay54 (F := Ideal) _ = x3 at d3
  generalize k0_pay33 (F := Ideal) _ _ = y0v at y0
  generalize k0_pay36 (F := Ideal) _ = y1v at y1
  generalize k0_pay39 (F := Ideal) _ = y2v at y2
  generalize k0_pay42 (F := Ideal) _ = y3v at y3
  pointwise
  simp only [Fin.sum_univ_four, d0, d1, d2, d3, y0, y1, y2, y3, EReal.coe_mul, sum_add_distrib]

end

end Cert.Kernel9Ideal.Mix

end

end
-- ==== Proof.MixEntry.lean ====
module

public import proofs.«01_k».proof.Proof.MixWords
public import proofs.«01_k».proof.Proof.MixBlk
public import proofs.«01_k».proof.Proof.MixGated
public import Idealize.ShloMosaic.Lib.Claim
public import Idealize.ShloMosaic.Lib.StableHlo.RunRead

/-! The blocks of each grid point, read out of the argument arrays. -/

@[expose] public section

set_option maxRecDepth 16384

noncomputable section

open Idealize.ShloMosaic Idealize.ShloMosaic.TcCoe Idealize.SL.Sem
open Idealize.ShloMosaic.Pipeline (Dat)

namespace Cert.Kernel9Ideal.Mix

open Cert.Kernel9Ideal Cert.Kernel9Ideal.Gen Cert.Num

variable (m : (ℓ : Loc nD τ sig) → Buf (Elt Ideal) ℓ)

theorem idx : ∀ t : Fin cfg0.N, win0_0.index t = ![t.val, 0] ∧ win0_1.index t = ![t.val, 1] ∧ win0_2.index t = ![t.val, 2]
    ∧ win0_3.index t = ![64 * t.val - 1, 0] ∧ win0_4.index t = ![min (64 * t.val + 64) 1023, 0]
    ∧ win0_5.index t = ![64 * t.val - 1, 1] ∧ win0_6.index t = ![min (64 * t.val + 64) 1023, 1]
    ∧ win0_7.index t = ![64 * t.val - 1, 2] ∧ win0_8.index t = ![min (64 * t.val + 64) 1023, 2]
    ∧ win0_9.index t = ![t.val, 3] ∧ win0_10.index t = ![t.val, 0] ∧ win0_11.index t = ![t.val, 0] ∧ win0_12.index t = ![t.val, 0] ∧ win0_13.index t = ![t.val, 1]
    ∧ win0_14.index t = ![64 * t.val - 1, 0] ∧ win0_15.index t = ![min (64 * t.val + 64) 1023, 0]
    ∧ win0_16.index t = ![0, 0] ∧ win0_17.index t = ![0, 0] ∧ win0_18.index t = ![0, 0] ∧ win0_19.index t = ![0, 0]
    ∧ win0_20.index t = ![t.val, 0] ∧ win0_21.index t = ![t.val, 0] ∧ win0_22.index t = ![0, 0] ∧ win0_23.index t = ![0, 0] ∧ win0_24.index t = ![0, 0] :=
  (by decide +kernel : ∀ t : Fin grid0.N, _)

/-- The row of the arrays that row `r` of the block at point `t` is. -/
def row (t : Fin cfg0.N) (r : Fin 512) : Fin 8192 := ⟨512 * t.val + r.val, by have := lt_point t; omega⟩

/-- The row of the arrays that row `r` of the eight before the block is. -/
def rowP (t : Fin cfg0.N) (r : Fin 8) : Fin 8192 := ⟨8 * (64 * t.val - 1) + r.val, by have := lt_point t; omega⟩

/-- The row of the arrays that row `r` of the eight after the block is. -/
def rowN (t : Fin cfg0.N) (r : Fin 8) : Fin 8192 := ⟨8 * min (64 * t.val + 64) 1023 + r.val, by omega⟩

/-- Column `l` of part `k` of the projected block. -/
def part (k : Fin 4) (l : Fin 512) : Fin 2048 := ⟨512 * k.val + l.val, by omega⟩

/-- Column `l` of half `k` of the cotangent. -/
def half (k : Fin 2) (l : Fin 512) : Fin 1024 := ⟨512 * k.val + l.val, by omega⟩

/-- The argument arrays. -/
abbrev X0 (c : Dev nD) : FVec Ideal S8192x512 .f32 := m ((c : Thread nD τ).loc main_arg0)
abbrev X1 (c : Dev nD) : FVec Ideal S8192x512 .f32 := m ((c : Thread nD τ).loc main_arg1)
abbrev X2 (c : Dev nD) : FVec Ideal S8192x512 .f32 := m ((c : Thread nD τ).loc main_arg2)
abbrev X3 (c : Dev nD) : FVec Ideal S8192x512 .f32 := m ((c : Thread nD τ).loc main_arg3)
abbrev X4 (c : Dev nD) : FVec Ideal S8192x512 .f32 := m ((c : Thread nD τ).loc main_arg4)
abbrev X5 (c : Dev nD) : FVec Ideal S8192x512 .f32 := m ((c : Thread nD τ).loc main_arg5)
abbrev X6 (c : Dev nD) : FVec Ideal S3x512 .f32 := m ((c : Thread nD τ).loc main_arg6)
abbrev X7 (c : Dev nD) : FVec Ideal S1x512 .f32 := m ((c : Thread nD τ).loc main_arg7)
abbrev X8 (c : Dev nD) : FVec Ideal S1x128 .f32 := m ((c : Thread nD τ).loc main_arg8)
abbrev X9 (c : Dev nD) : FVec Ideal S8192x1024 .f32 := m ((c : Thread nD τ).loc main_arg9)

/-- The projected block. -/
def z (c : Dev nD) : FVec Ideal S8192x2048 .f32 := concatenate S8192x2048 1 [⟨S8192x512, X0 m c⟩, ⟨S8192x512, X1 m c⟩, ⟨S8192x512, X2 m c⟩, ⟨S8192x512, X3 m c⟩]
  concatenates_S8192x512_S8192x512_S8192x512_S8192x512_S8192x2048_d1

theorem V_z (c : Dev nD) : V m c main_v0 = z m c := by
  refine (StableHlo.after_last_write (i := 0) [main_v1, main_c, main_call0_v0, main_call0_v1, main_call0_v2, main_call0_v3, main_call0_v4, main_call0_v5, main_call0_v6, main_call0_v7, main_call0_v8,
    main_call0_c, main_call0_v9, main_call0_v10, main_call0_v11, main_call0_c_0, main_call0_v12, main_call0_v13, main_v2, main_v3, main_v4, main_v5, main_v6, main_v7, main_v8] rfl rfl (by decide) _).trans ?_
  rw [StableHlo.nary_result']
  rfl

theorem z_read (c : Dev nD) (n : Fin 8192) (j : Fin 2048) : z m c (ix2 n j) = if h : j.val < 512 then X0 m c (ix2 n ⟨j.val, h⟩)
    else if h : j.val - 512 < 512 then X1 m c (ix2 n ⟨j.val - 512, h⟩) else if h : j.val - 512 - 512 < 512 then X2 m c (ix2 n ⟨j.val - 512 - 512, h⟩)
    else X3 m c (ix2 n ⟨j.val - 512 - 512 - 512, by omega⟩) := by
  unfold z
  generalize X0 m c = x0
  generalize X1 m c = x1
  generalize X2 m c = x2
  generalize X3 m c = x3
  pointwise

theorem z_at (c : Dev nD) (n : Fin 8192) (l : Fin 512) : z m c (ix2 n (part 0 l)) = X0 m c (ix2 n l) ∧ z m c (ix2 n (part 1 l)) = X1 m c (ix2 n l)
    ∧ z m c (ix2 n (part 2 l)) = X2 m c (ix2 n l) ∧ z m c (ix2 n (part 3 l)) = X3 m c (ix2 n l) := by
  have hl := l.isLt
  have a0 : (part 0 l).val < 512 := by show 512 * 0 + l.val < 512; omega
  have b0 : ¬ (part 1 l).val < 512 := by show ¬ 512 * 1 + l.val < 512; omega
  have b1 : (part 1 l).val - 512 < 512 := by show 512 * 1 + l.val - 512 < 512; omega
  have c0 : ¬ (part 2 l).val < 512 := by show ¬ 512 * 2 + l.val < 512; omega
  have c1 : ¬ (part 2 l).val - 512 < 512 := by show ¬ 512 * 2 + l.val - 512 < 512; omega
  have c2 : (part 2 l).val - 512 - 512 < 512 := by show 512 * 2 + l.val - 512 - 512 < 512; omega
  have d0 : ¬ (part 3 l).val < 512 := by show ¬ 512 * 3 + l.val < 512; omega
  have d1 : ¬ (part 3 l).val - 512 < 512 := by show ¬ 512 * 3 + l.val - 512 < 512; omega
  have d2 : ¬ (part 3 l).val - 512 - 512 < 512 := by show ¬ 512 * 3 + l.val - 512 - 512 < 512; omega
  refine ⟨?_, ?_, ?_, ?_⟩ <;> rw [z_read]
  · simp only [a0, ↓reduceDIte]
    exact congrArg (fun l => X0 m c (ix2 n l)) (Fin.ext (by show 512 * 0 + l.val = l.val; omega))
  · simp only [b0, b1, ↓reduceDIte]
    exact congrArg (fun l => X1 m c (ix2 n l)) (Fin.ext (by show 512 * 1 + l.val - 512 = l.val; omega))
  · simp only [c0, c1, c2, ↓reduceDIte]
    exact congrArg (fun l => X2 m c (ix2 n l)) (Fin.ext (by show 512 * 2 + l.val - 512 - 512 = l.val; omega))
  · simp only [d0, d1, d2, ↓reduceDIte]
    exact congrArg (fun l => X3 m c (ix2 n l)) (Fin.ext (by show 512 * 3 + l.val - 512 - 512 - 512 = l.val; omega))

theorem iblk0 (c : Dev nD) (t : Fin cfg0.N) (r : Fin 512) (l : Fin 512) : iblk m c 0 t (ix2 r l) = X0 m c (ix2 (row t r) l) := by
  have ht := lt_point t
  rw [← (z_at m c (row t r) l).1]
  unfold iblk
  rw [show V m c (Pipeline.arrRef spec0 0) = _ from V_z m c, View.read_apply, show ((cfg0.win 0).blk t).view.emb (ix2 r l) = ix2 (row t r) (part 0 l) by blk_ext [idx t, row, part]]
  rfl

theorem iblk1 (c : Dev nD) (t : Fin cfg0.N) (r : Fin 512) (l : Fin 512) : iblk m c 1 t (ix2 r l) = X1 m c (ix2 (row t r) l) := by
  have ht := lt_point t
  rw [← (z_at m c (row t r) l).2.1]
  unfold iblk
  rw [show V m c (Pipeline.arrRef spec0 1) = _ from V_z m c, View.read_apply, show ((cfg0.win 1).blk t).view.emb (ix2 r l) = ix2 (row t r) (part 1 l) by blk_ext [idx t, row, part]]
  rfl

theorem iblk2 (c : Dev nD) (t : Fin cfg0.N) (r : Fin 512) (l : Fin 512) : iblk m c 2 t (ix2 r l) = X2 m c (ix2 (row t r) l) := by
  have ht := lt_point t
  rw [← (z_at m c (row t r) l).2.2.1]
  unfold iblk
  rw [show V m c (Pipeline.arrRef spec0 2) = _ from V_z m c, View.read_apply, show ((cfg0.win 2).blk t).view.emb (ix2 r l) = ix2 (row t r) (part 2 l) by blk_ext [idx t, row, part]]
  rfl

theorem iblk3 (c : Dev nD) (t : Fin cfg0.N) (r : Fin 8) (l : Fin 512) : iblk m c 3 t (ix2 r l) = X0 m c (ix2 (rowP t r) l) := by
  have ht := lt_point t
  rw [← (z_at m c (rowP t r) l).1]
  unfold iblk
  rw [show V m c (Pipeline.arrRef spec0 3) = _ from V_z m c, View.read_apply, show ((cfg0.win 3).blk t).view.emb (ix2 r l) = ix2 (rowP t r) (part 0 l) by blk_ext [idx t, rowP, part]]
  rfl

theorem iblk4 (c : Dev nD) (t : Fin cfg0.N) (r : Fin 8) (l : Fin 512) : iblk m c 4 t (ix2 r l) = X0 m c (ix2 (rowN t r) l) := by
  have ht := lt_point t
  rw [← (z_at m c (rowN t r) l).1]
  unfold iblk
  rw [show V m c (Pipeline.arrRef spec0 4) = _ from V_z m c, View.read_apply, show ((cfg0.win 4).blk t).view.emb (ix2 r l) = ix2 (rowN t r) (part 0 l) by blk_ext [idx t, rowN, part]]
  rfl

theorem iblk5 (c : Dev nD) (t : Fin cfg0.N) (r : Fin 8) (l : Fin 512) : iblk m c 5 t (ix2 r l) = X1 m c (ix2 (rowP t r) l) := by
  have ht := lt_point t
  rw [← (z_at m c (rowP t r) l).2.1]
  unfold iblk
  rw [show V m c (Pipeline.arrRef spec0 5) = _ from V_z m c, View.read_apply, show ((cfg0.win 5).blk t).view.emb (ix2 r l) = ix2 (rowP t r) (part 1 l) by blk_ext [idx t, rowP, part]]
  rfl

theorem iblk6 (c : Dev nD) (t : Fin cfg0.N) (r : Fin 8) (l : Fin 512) : iblk m c 6 t (ix2 r l) = X1 m c (ix2 (rowN t r) l) := by
  have ht := lt_point t
  rw [← (z_at m c (rowN t r) l).2.1]
  unfold iblk
  rw [show V m c (Pipeline.arrRef spec0 6) = _ from V_z m c, View.read_apply, show ((cfg0.win 6).blk t).view.emb (ix2 r l) = ix2 (rowN t r) (part 1 l) by blk_ext [idx t, rowN, part]]
  rfl

theorem iblk7 (c : Dev nD) (t : Fin cfg0.N) (r : Fin 8) (l : Fin 512) : iblk m c 7 t (ix2 r l) = X2 m c (ix2 (rowP t r) l) := by
  have ht := lt_point t
  rw [← (z_at m c (rowP t r) l).2.2.1]
  unfold iblk
  rw [show V m c (Pipeline.arrRef spec0 7) = _ from V_z m c, View.read_apply, show ((cfg0.win 7).blk t).view.emb (ix2 r l) = ix2 (rowP t r) (part 2 l) by blk_ext [idx t, rowP, part]]
  rfl

theorem iblk8 (c : Dev nD) (t : Fin cfg0.N) (r : Fin 8) (l : Fin 512) : iblk m c 8 t (ix2 r l) = X2 m c (ix2 (rowN t r) l) := by
  have ht := lt_point t
  rw [← (z_at m c (rowN t r) l).2.2.1]
  unfold iblk
  rw [show V m c (Pipeline.arrRef spec0 8) = _ from V_z m c, View.read_apply, show ((cfg0.win 8).blk t).view.emb (ix2 r l) = ix2 (rowN t r) (part 2 l) by blk_ext [idx t, rowN, part]]
  rfl

theorem iblk9 (c : Dev nD) (t : Fin cfg0.N) (r : Fin 512) (l : Fin 512) : iblk m c 9 t (ix2 r l) = X3 m c (ix2 (row t r) l) := by
  have ht := lt_point t
  rw [← (z_at m c (row t r) l).2.2.2]
  unfold iblk
  rw [show V m c (Pipeline.arrRef spec0 9) = _ from V_z m c, View.read_apply, show ((cfg0.win 9).blk t).view.emb (ix2 r l) = ix2 (row t r) (part 3 l) by blk_ext [idx t, row, part]]
  rfl

theorem iblk10 (c : Dev nD) (t : Fin cfg0.N) (r : Fin 512) (l : Fin 512) : iblk m c 10 t (ix2 r l) = X4 m c (ix2 (row t r) l) := by
  have ht := lt_point t
  unfold iblk
  rw [show V m c (Pipeline.arrRef spec0 10) = _ from V_main_arg4 m c, View.read_apply, show ((cfg0.win 10).blk t).view.emb (ix2 r l) = ix2 (row t r) l by blk_ext [idx t, row, half]]
  rfl

theorem iblk11 (c : Dev nD) (t : Fin cfg0.N) (r : Fin 512) (l : Fin 512) : iblk m c 11 t (ix2 r l) = X5 m c (ix2 (row t r) l) := by
  have ht := lt_point t
  unfold iblk
  rw [show V m c (Pipeline.arrRef spec0 11) = _ from V_main_arg5 m c, View.read_apply, show ((cfg0.win 11).blk t).view.emb (ix2 r l) = ix2 (row t r) l by blk_ext [idx t, row, half]]
  rfl

theorem iblk12 (c : Dev nD) (t : Fin cfg0.N) (r : Fin 512) (l : Fin 512) : iblk m c 12 t (ix2 r l) = X9 m c (ix2 (row t r) (half 0 l)) := by
  have ht := lt_point t
  unfold iblk
  rw [show V m c (Pipeline.arrRef spec0 12) = _ from V_main_arg9 m c, View.read_apply, show ((cfg0.win 12).blk t).view.emb (ix2 r l) = ix2 (row t r) (half 0 l) by blk_ext [idx t, row, half]]
  rfl

theorem iblk13 (c : Dev nD) (t : Fin cfg0.N) (r : Fin 512) (l : Fin 512) : iblk m c 13 t (ix2 r l) = X9 m c (ix2 (row t r) (half 1 l)) := by
  have ht := lt_point t
  unfold iblk
  rw [show V m c (Pipeline.arrRef spec0 13) = _ from V_main_arg9 m c, View.read_apply, show ((cfg0.win 13).blk t).view.emb (ix2 r l) = ix2 (row t r) (half 1 l) by blk_ext [idx t, row, half]]
  rfl

theorem iblk14 (c : Dev nD) (t : Fin cfg0.N) (r : Fin 8) (l : Fin 512) : iblk m c 14 t (ix2 r l) = X9 m c (ix2 (rowP t r) (half 0 l)) := by
  have ht := lt_point t
  unfold iblk
  rw [show V m c (Pipeline.arrRef spec0 14) = _ from V_main_arg9 m c, View.read_apply, show ((cfg0.win 14).blk t).view.emb (ix2 r l) = ix2 (rowP t r) (half 0 l) by blk_ext [idx t, rowP, half]]
  rfl

theorem iblk15 (c : Dev nD) (t : Fin cfg0.N) (r : Fin 8) (l : Fin 512) : iblk m c 15 t (ix2 r l) = X9 m c (ix2 (rowN t r) (half 0 l)) := by
  have ht := lt_point t
  unfold iblk
  rw [show V m c (Pipeline.arrRef spec0 15) = _ from V_main_arg9 m c, View.read_apply, show ((cfg0.win 15).blk t).view.emb (ix2 r l) = ix2 (rowN t r) (half 0 l) by blk_ext [idx t, rowN, half]]
  rfl

theorem iblk16 (c : Dev nD) (t : Fin cfg0.N) (r : Fin 3) (l : Fin 512) : iblk m c 16 t (ix2 r l) = X6 m c (ix2 r l) := by
  unfold iblk
  rw [show V m c (Pipeline.arrRef spec0 16) = _ from V_main_arg6 m c, View.read_apply, show ((cfg0.win 16).blk t).view.emb (ix2 r l) = ix2 r l by blk_ext [idx t]]
  rfl

theorem iblk17 (c : Dev nD) (t : Fin cfg0.N) (r : Fin 1) (l : Fin 512) : iblk m c 17 t (ix2 r l) = X7 m c (ix2 r l) := by
  unfold iblk
  rw [show V m c (Pipeline.arrRef spec0 17) = _ from V_main_arg7 m c, View.read_apply, show ((cfg0.win 17).blk t).view.emb (ix2 r l) = ix2 r l by blk_ext [idx t]]
  rfl

theorem iblk18 (c : Dev nD) (t : Fin cfg0.N) (r : Fin 1) (l : Fin 128) : iblk m c 18 t (ix2 r l) = X8 m c (ix2 r l) := by
  unfold iblk
  rw [show V m c (Pipeline.arrRef spec0 18) = _ from V_main_arg8 m c, View.read_apply, show ((cfg0.win 18).blk t).view.emb (ix2 r l) = ix2 r l by blk_ext [idx t]]
  rfl

/-- The group of each lane. -/
def group : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

theorem group_at : ∀ l : Fin 512, group (ix1 l) = BitVec.ofNat 32 (l.val / 64) := by
  decide +kernel

theorem V_ones (c : Dev nD) : V m c main_v8 = (uitofp .bf16 (cmpi .eq (broadcastInDim S512x512 ![0, 1] bcast_S512x1_S512x512_0_1 (broadcastInDim S512x1 ![0] bcast_S512_S512x1_0 group))
    (broadcastInDim S512x512 ![0, 1] bcast_S1x512_S512x512_0_1 (broadcastInDim S1x512 ![1] bcast_S512_S1x512_1 group))) : FVec Ideal S512x512 .bf16) := by
  simp only [V]
  entry_read
  rfl

theorem ones_at (c : Dev nD) (l j : Fin 512) : (V m c main_v8 (ix2 l j) : EReal) = if l.val / 64 = j.val / 64 then (1 : EReal) else (0 : EReal) := by
  rw [V_ones]
  have hl := group_at l
  have hj := group_at j
  generalize group = g at hl hj ⊢
  pointwise
  rw [hl, hj]
  have h1 := l.isLt
  have h2 := j.isLt
  by_cases h : l.val / 64 = j.val / 64
  · rw [if_pos h, h]
    show (((IntOp.cmpi .eq (BitVec.ofNat 32 (j.val / 64)) (BitVec.ofNat 32 (j.val / 64))).toNat : ℝ) : EReal) = 1
    simp [IntOp.cmpi]
  · rw [if_neg h]
    show (((IntOp.cmpi .eq (BitVec.ofNat 32 (l.val / 64)) (BitVec.ofNat 32 (j.val / 64))).toNat : ℝ) : EReal) = 0
    have hne : (BitVec.ofNat 32 (l.val / 64) == BitVec.ofNat 32 (j.val / 64)) = false := by
      rw [beq_eq_false_iff_ne]
      intro e
      have := congrArg BitVec.toNat e
      simp only [BitVec.toNat_ofNat] at this
      omega
    simp [IntOp.cmpi, hne]

theorem iblk19 (c : Dev nD) (t : Fin cfg0.N) (l j : Fin 512) : (iblk m c 19 t (ix2 l j) : EReal) = if l.val / 64 = j.val / 64 then (1 : EReal) else (0 : EReal) := by
  rw [← ones_at m c l j]
  unfold iblk
  rw [View.read_apply, show ((cfg0.win 19).blk t).view.emb (ix2 l j) = ix2 l j by blk_ext [idx t]]
  rfl

/-- The eight rows before a block, the block and the eight rows after it. -/
theorem ext_of (t : Fin cfg0.N) (A : Fin 8192 → Fin 512 → ℝ) (p n : FVec Ideal S8x512 .f32) (b : FVec Ideal S512x512 .f32)
    (hp : ∀ r l, p (ix2 r l) = ((A (rowP t r) l : ℝ) : EReal)) (hb : ∀ r l, b (ix2 r l) = ((A (row t r) l : ℝ) : EReal)) (hn : ∀ r l, n (ix2 r l) = ((A (rowN t r) l : ℝ) : EReal)) :
    Ext t.val A (k0_pay11 (F := Ideal) p b n) := by
  intro e j h8 h82
  have ht := lt_point t
  have he := e.isLt
  unfold Num.ext
  rw [dif_pos ⟨h8, h82⟩]
  unfold k0_pay11
  pointwise
  by_cases h0 : e.val < 8
  · simp only [h0, ↓reduceDIte]
    rw [hp]
    exact congrArg (fun i => ((A i j : ℝ) : EReal)) (Fin.ext (by show 8 * (64 * t.val - 1) + e.val = 512 * t.val + e.val - 8; omega))
  · by_cases h1 : e.val - 8 < 512
    · simp only [h0, h1, ↓reduceDIte]
      rw [hb]
      exact congrArg (fun i => ((A i j : ℝ) : EReal)) (Fin.ext (by show 512 * t.val + (e.val - 8) = 512 * t.val + e.val - 8; omega))
    · simp only [h0, h1, ↓reduceDIte]
      rw [hn]
      exact congrArg (fun i => ((A i j : ℝ) : EReal)) (Fin.ext (by show 8 * min (64 * t.val + 64) 1023 + (e.val - 8 - 512) = 512 * t.val + e.val - 8; omega))

theorem same8 (p : FVec Ideal S8x512 .f32) : k0_pay8 (F := Ideal) p = p := by
  funext i
  obtain ⟨r, l, rfl⟩ : ∃ (r : Fin 8) (l : Fin 512), i = ix2 r l := ⟨i 0, i 1, by blk_ext []⟩
  unfold k0_pay8
  pointwise

theorem same8' (p : FVec Ideal S8x512 .f32) : shapeCast S8x512 p shapeCasts_S8x512_S8x512 = p := same8 p

theorem same512 (p : FVec Ideal S512x512 .f32) : k0_pay9 (F := Ideal) p = p := by
  funext i
  obtain ⟨r, l, rfl⟩ : ∃ (r : Fin 512) (l : Fin 512), i = ix2 r l := ⟨i 0, i 1, by blk_ext []⟩
  unfold k0_pay9
  pointwise

theorem pay6_eq (p n : FVec Ideal S8x512 .f32) (b : FVec Ideal S512x512 .f32) : k0_pay6 (F := Ideal) p b n = k0_pay11 (F := Ideal) p b n :=
  three (same8 p) (same512 b) (same8 n)

theorem pay10_eq (p n : FVec Ideal S8x512 .f32) (b : FVec Ideal S512x512 .f32) : k0_pay10 (F := Ideal) (k0_pay8 (F := Ideal) p) (k0_pay9 (F := Ideal) b) n = k0_pay11 (F := Ideal) p b n :=
  three (same8 p) (same512 b) (same8 n)

theorem mask_at : ∀ (t : Fin grid0.N) (e : Fin 528), k0_pay4 (grid0.coords t) (ix2 e 0) = BitVec.ofBool (decide (8 ≤ 512 * t.val + e.val ∧ 512 * t.val + e.val < 8200)) := by
  decide +kernel

end Cert.Kernel9Ideal.Mix

end

end
-- ==== Proof.MixRef.lean ====
module

public import proofs.«01_k».proof.Proof.Gen.Reference9Ideal.Read
public import proofs.«01_k».proof.Proof.MixNum
public import Idealize.ShloMosaic.Lib.Pointwise

/-! The convolution half of the reference, in real numbers. -/

@[expose] public section

set_option maxRecDepth 16384

noncomputable section

open Idealize.ShloMosaic Idealize.ShloMosaic.TcCoe Idealize.SL.Sem Finset

namespace Cert.Reference9Ideal.Mix

open Cert.Reference9Ideal Cert.Reference9Ideal.Gen Cert.Reference9Ideal.Read Cert.Num

/-- The lane of a group's column. -/
def gl (q : Fin 8) (l : Fin 64) : Fin 512 := ⟨q.val * 64 + l.val, by omega⟩

theorem lane_gl (q : Fin 8) (l k : Fin 64) : lane (gl q l) k = gl q k := Fin.ext (by simp [lane, gl]; omega)

theorem _root_.Cert.Num.Conv.rr_gl (A : Conv) (s : ℕ) (q : Fin 8) (k l : Fin 64) : A.rr s (gl q k) = A.rr s (gl q l) := by
  unfold Conv.rr Conv.ms
  simp only [lane_gl]

/-- What the convolution half of the reference is given. -/
structure Given (A : Conv) (x0 x1 x2 : FVec Ideal S8192x512 .f32) (x6 : FVec Ideal S3x512 .f32) (x7 : FVec Ideal S1x512 .f32)
    (x9 : FVec Ideal S8192x1024 .f32) : Prop where
  b : ∀ n j, x0 (ix2 n j) = ((A.b n j : ℝ) : EReal)
  c : ∀ n j, x1 (ix2 n j) = ((A.c n j : ℝ) : EReal)
  u : ∀ n j, x2 (ix2 n j) = ((A.u n j : ℝ) : EReal)
  d : ∀ n (j : Fin 512), x9 (ix2 n ⟨j.val, by omega⟩) = ((A.d n j : ℝ) : EReal)
  w : ∀ k j, x6 (ix2 k j) = ((A.w k j : ℝ) : EReal)
  n : ∀ j, x7 (ix2 0 j) = ((A.n j : ℝ) : EReal)

theorem ext_at {n : ℕ} (A : Fin 8192 → Fin n → ℝ) (i : Fin 8192) (j : Fin n) : Num.ext A (i.val + 8) j = A i j := by
  unfold Num.ext
  rw [dif_pos (by omega)]
  exact congrArg (fun i => A i j) (Fin.ext (by simp))

section

variable {A : Conv} {x0 x1 x2 : FVec Ideal S8192x512 .f32} {x6 : FVec Ideal S3x512 .f32} {x7 : FVec Ideal S1x512 .f32}
  {x9 : FVec Ideal S8192x1024 .f32}

theorem padded_at (h : Given A x0 x1 x2 x6 x7 x9) (p : Fin 8194) (j : Fin 512) :
    val_main_v3 (F := Ideal) x1 x2 (ix2 p j) = ((A.hp (p.val + 7) j : ℝ) : EReal) := by
  unfold val_main_v3 val_main_v2 val_main_v1 val_main_cst
  pointwise
  by_cases h0 : p.val < 1
  · simp only [h0, ↓reduceDIte]
    unfold Conv.hp Num.ext
    rw [dif_neg (by omega), zero_mul, EReal.coe_zero]
  · by_cases h1 : p.val - 1 < 8192
    · simp only [h0, h1, ↓reduceDIte]
      rw [h.c, h.u, ← EReal.coe_mul]
      refine congrArg (fun x : ℝ => (x : EReal)) (congrArg₂ (· * ·) ?_ ?_)
      · exact (ext_at A.c _ j).symm.trans (congrArg (fun s => Num.ext A.c s j) (by show p.val - 1 + 8 = _; omega))
      · exact (ext_at A.u _ j).symm.trans (congrArg (fun s => Num.ext A.u s j) (by show p.val - 1 + 8 = _; omega))
    · simp only [h0, h1, ↓reduceDIte]
      unfold Conv.hp Num.ext
      rw [dif_neg (by omega), zero_mul, EReal.coe_zero]

theorem cv_at (h : Given A x0 x1 x2 x6 x7 x9) (n : Fin 8192) (j : Fin 512) :
    val_main_v25 (F := Ideal) x1 x2 x6 (ix2 n j) = ((A.cv (n.val + 8) j : ℝ) : EReal) := by
  have hz := fun p => padded_at h p j
  unfold val_main_v25 val_main_v24 val_main_v18 val_main_v17 val_main_v11 val_main_v8 val_main_v14 val_main_v21
  generalize val_main_v3 (F := Ideal) x1 x2 = z at hz
  pointwise [val_main_v10, val_main_v9, val_main_v7, val_main_v6, val_main_v16, val_main_v15, val_main_v13, val_main_v12, val_main_v23, val_main_v22, val_main_v20, val_main_v19]
  simp only [hz, h.w, ← EReal.coe_mul, ← EReal.coe_add]
  unfold Conv.cv
  rw [show 1 + n.val + 7 = n.val + 8 by omega, show 2 + n.val + 7 = n.val + 8 + 1 by omega]
  rfl

theorem yc_at (h : Given A x0 x1 x2 x6 x7 x9) (n : Fin 8192) (q : Fin 8) (l : Fin 64) :
    val_main_v27 (F := Ideal) x0 x1 x2 x6 (ix3 n q l) = ((A.yc (n.val + 8) (gl q l) : ℝ) : EReal) := by
  have hz := fun j => cv_at h n j
  unfold val_main_v27 val_main_v26
  generalize val_main_v25 (F := Ideal) x1 x2 x6 = z at hz
  pointwise
  rw [hz, h.b, ← EReal.coe_mul]
  exact congrArg (fun x : ℝ => (x : EReal)) (congrArg (· * _) (ext_at A.b n _).symm)

theorem ms_at (h : Given A x0 x1 x2 x6 x7 x9) (n : Fin 8192) (q : Fin 8) (l : Fin 64) (z : Fin 1) :
    val_main_v35 (F := Ideal) x0 x1 x2 x6 (ix3 n q z) = ((A.ms (n.val + 8) (gl q l) : ℝ) : EReal) := by
  have hy := fun l => yc_at h n q l
  unfold val_main_v35 val_main_v33 val_main_v31 val_main_v30 val_main_v29
  generalize val_main_v27 (F := Ideal) x0 x1 x2 x6 = y at hy
  pointwise [val_main_v34, val_main_cst_4, val_main_v32, val_main_cst_3, val_main_cst_2]
  simp only [hy, f64, ε_eq, Ideal.div_coe (show (64 : ℝ) ≠ 0 by norm_num), ← EReal.coe_mul, sum_coe, ← EReal.coe_add]
  unfold Conv.ms
  simp only [lane_gl]

theorem rr_at (h : Given A x0 x1 x2 x6 x7 x9) (n : Fin 8192) (q : Fin 8) (l : Fin 64) (z : Fin 1) :
    val_main_v36 (F := Ideal) x0 x1 x2 x6 (ix3 n q z) = ((A.rr (n.val + 8) (gl q l) : ℝ) : EReal) := by
  unfold val_main_v36
  have hy := ms_at h n q l z
  generalize val_main_v35 (F := Ideal) x0 x1 x2 x6 = y at hy
  pointwise
  rw [hy]
  exact A.rsqrt_ms _ _

theorem half_at (h : Given A x0 x1 x2 x6 x7 x9) (n : Fin 8192) (q : Fin 8) (l : Fin 64) (z : Fin 1) :
    val_main_v39 (F := Ideal) x0 x1 x2 x6 (ix3 n q z) = ((-(1 / 2) * (A.rr (n.val + 8) (gl q l) * (1 / A.ms (n.val + 8) (gl q l))) : ℝ) : EReal) := by
  have hy := ms_at h n q l z
  have hr := rr_at h n q l z
  unfold val_main_v39 val_main_v37
  generalize val_main_v35 (F := Ideal) x0 x1 x2 x6 = y at hy
  generalize val_main_v36 (F := Ideal) x0 x1 x2 x6 = r at hr
  pointwise [val_main_v38, val_main_cst_5]
  rw [hy, hr, minus_half, Ideal.div_coe (A.ms_pos _ _).ne', ← EReal.coe_mul, ← EReal.coe_mul]

theorem yh_at (h : Given A x0 x1 x2 x6 x7 x9) (n : Fin 8192) (q : Fin 8) (l : Fin 64) :
    val_main_v41 (F := Ideal) x0 x1 x2 x6 (ix3 n q l) = ((A.yh (n.val + 8) (gl q l) : ℝ) : EReal) := by
  have hy := yc_at h n q l
  have hr := rr_at h n q l 0
  unfold val_main_v41 val_main_v40
  generalize val_main_v27 (F := Ideal) x0 x1 x2 x6 = y at hy
  generalize val_main_v36 (F := Ideal) x0 x1 x2 x6 = r at hr
  pointwise
  rw [hy, hr, ← EReal.coe_mul]
  rfl

theorem d_at (h : Given A x0 x1 x2 x6 x7 x9) (n : Fin 8192) (q : Fin 8) (l : Fin 64) :
    val_main_v95 (F := Ideal) x9 (ix3 n q l) = ((A.d n (gl q l) : ℝ) : EReal) := by
  unfold val_main_v95 val_main_v67
  pointwise
  exact h.d n (gl q l)

theorem dh_at (h : Given A x0 x1 x2 x6 x7 x9) (n : Fin 8192) (q : Fin 8) (l : Fin 64) :
    val_main_v100 (F := Ideal) x7 x9 (ix3 n q l) = ((A.dh (n.val + 8) (gl q l) : ℝ) : EReal) := by
  have hy := d_at h n q l
  unfold val_main_v100
  generalize val_main_v95 (F := Ideal) x9 = y at hy
  pointwise [val_main_v99, val_main_v98, val_main_v28, val_main_v43, val_main_v42]
  rw [hy]
  refine (congrArg _ (h.n (gl q l))).trans ?_
  rw [← EReal.coe_mul]
  exact congrArg (fun x : ℝ => (x : EReal)) (congrArg (· * _) (ext_at A.d n _).symm)

theorem dyc_at (h : Given A x0 x1 x2 x6 x7 x9) (n : Fin 8192) (q : Fin 8) (l : Fin 64) :
    val_main_v115 (F := Ideal) x0 x1 x2 x6 x7 x9 (ix3 n q l) = ((A.dyc (n.val + 8) (gl q l) : ℝ) : EReal) := by
  have hy := fun l => yc_at h n q l
  have hr := rr_at h n q l 0
  have hh := half_at h n q l 0
  have hd := fun l => dh_at h n q l
  unfold val_main_v115 val_main_v114 val_main_v113 val_main_v112 val_main_v111 val_main_v110 val_main_v109 val_main_v107 val_main_v106 val_main_v105 val_main_v104 val_main_v103 val_main_v102
  generalize val_main_v27 (F := Ideal) x0 x1 x2 x6 = y at hy
  generalize val_main_v36 (F := Ideal) x0 x1 x2 x6 = r at hr
  generalize val_main_v39 (F := Ideal) x0 x1 x2 x6 = g at hh
  generalize val_main_v100 (F := Ideal) x7 x9 = d at hd
  pointwise [val_main_v108, val_main_cst_18, val_main_cst_17, val_main_cst_19]
  simp only [Fin.sum_univ_one, hy, hr, hd, hh, f64, Ideal.div_coe (show (64 : ℝ) ≠ 0 by norm_num), ← EReal.coe_mul, sum_coe, ← EReal.coe_add]
  refine congrArg (fun x : ℝ => (x : EReal)) ?_
  unfold Conv.dyc Conv.yh
  simp only [lane_gl, fun k => A.rr_gl (n.val + 8) q k l]
  rw [A.cube]
  have hs : ∑ k, A.dh (n.val + 8) (gl q k) * (A.yc (n.val + 8) (gl q k) * A.rr (n.val + 8) (gl q l))
      = (∑ k, A.yc (n.val + 8) (gl q k) * A.dh (n.val + 8) (gl q k)) * A.rr (n.val + 8) (gl q l) := by
    rw [Finset.sum_mul]
    exact sum_congr rfl fun k _ => by ring
  rw [hs]
  ring

/-- Group and column of a lane. -/
theorem gl_div (j : Fin 512) : gl ⟨j.val / 64, by omega⟩ ⟨j.val % 64, by omega⟩ = j := Fin.ext (by simp [gl]; omega)

theorem dc_at (h : Given A x0 x1 x2 x6 x7 x9) (n : Fin 8192) (j : Fin 512) :
    val_main_v118 (F := Ideal) x0 x1 x2 x6 x7 x9 (ix2 n j) = ((A.dc (n.val + 8) j : ℝ) : EReal) := by
  have hy := fun q l => dyc_at h n q l
  unfold val_main_v118 val_main_v117
  generalize val_main_v115 (F := Ideal) x0 x1 x2 x6 x7 x9 = y at hy
  pointwise
  rw [hy, gl_div, h.b, ← EReal.coe_mul]
  unfold Conv.dc
  rw [ext_at, mul_comm]

theorem dcb_at (h : Given A x0 x1 x2 x6 x7 x9) (n : Fin 8192) (j : Fin 512) :
    val_main_v119 (F := Ideal) x0 x1 x2 x6 x7 x9 (ix2 n j) = ((A.dyc (n.val + 8) j * A.cv (n.val + 8) j : ℝ) : EReal) := by
  have hy := fun q l => dyc_at h n q l
  have hz := cv_at h n j
  unfold val_main_v119 val_main_v117
  generalize val_main_v115 (F := Ideal) x0 x1 x2 x6 x7 x9 = y at hy
  generalize val_main_v25 (F := Ideal) x1 x2 x6 = z at hz
  pointwise
  rw [hy, hz, gl_div, ← EReal.coe_mul]

theorem dcn_at (h : Given A x0 x1 x2 x6 x7 x9) (z : Fin 1) (j : Fin 512) :
    val_main_v116 (F := Ideal) x0 x1 x2 x6 x9 (ix2 z j) = ∑ n : Fin 8192, ((Num.ext A.d (n.val + 8) j * A.yh (n.val + 8) j : ℝ) : EReal) := by
  have hy := fun n q l => yh_at h n q l
  have hd := fun n q l => d_at h n q l
  unfold val_main_v116 val_main_v101 val_main_v98 val_main_v97 val_main_v96
  generalize val_main_v41 (F := Ideal) x0 x1 x2 x6 = y at hy
  generalize val_main_v95 (F := Ideal) x9 = y at hd
  pointwise [val_main_cst_15, val_main_cst_16]
  simp only [Fin.sum_univ_one]
  refine sum_congr rfl fun n _ => ?_
  rw [hy, hd, gl_div, ext_at, ← EReal.coe_mul, mul_comm]

theorem dhc_at (h : Given A x0 x1 x2 x6 x7 x9) (n : Fin 8192) (j : Fin 512) :
    val_main_v152 (F := Ideal) x0 x1 x2 x6 x7 x9 (ix2 n j) = ((A.dhc (n.val + 8) j : ℝ) : EReal) := by
  have hz := fun n => dc_at h n j
  unfold val_main_v152 val_main_v147 val_main_v136 val_main_v126 val_main_v135 val_main_v146 val_main_v121 val_main_v130 val_main_v141
  generalize val_main_v118 (F := Ideal) x0 x1 x2 x6 x7 x9 = z at hz
  pointwise [val_main_cst_22, val_main_cst_26, val_main_cst_30, val_main_v120, val_main_v129, val_main_v140, val_main_v22, val_main_v15, val_main_v9, val_main_v20, val_main_v19, val_main_v13, val_main_v12, val_main_v7, val_main_v6]
  simp only [hz, h.w, ← EReal.coe_mul]
  have h0 : (if a : 2 ≤ 1 + n.val ∧ 1 + n.val - 2 < 8192 then ((A.w 2 j * A.dc (1 + n.val - 2 + 8) j : ℝ) : EReal) else 0)
      = ((A.w 2 j * A.dc (n.val + 8 - 1) j : ℝ) : EReal) := by
    split
    · rw [show 1 + n.val - 2 + 8 = n.val + 8 - 1 by omega]
    · unfold Conv.dc Num.ext
      rw [dif_neg (by omega), mul_zero, mul_zero, EReal.coe_zero]
  have h1 : (if a : 1 + n.val < 8192 then ((A.w 0 j * A.dc (1 + n.val + 8) j : ℝ) : EReal) else 0)
      = ((A.w 0 j * A.dc (n.val + 8 + 1) j : ℝ) : EReal) := by
    split
    · rw [show 1 + n.val + 8 = n.val + 8 + 1 by omega]
    · unfold Conv.dc Num.ext
      rw [dif_neg (by omega), mul_zero, mul_zero, EReal.coe_zero]
  refine (congrArg₂ (· + ·) (congrArg (· + _) h0) h1).trans ?_
  simp only [← EReal.coe_add]
  unfold Conv.dhc
  exact congrArg (fun x : ℝ => (x : EReal)) (by ring)

theorem dw0_at (h : Given A x0 x1 x2 x6 x7 x9) (j : Fin 512) :
    val_main_v145 (F := Ideal) x0 x1 x2 x6 x7 x9 (ix1 j) = ∑ n : Fin 8192, ((A.dc (n.val + 8) j * A.hp (n.val + 8 + 0 - 1) j : ℝ) : EReal) := by
  have hz := fun n => dc_at h n j
  have hp := fun n => padded_at h n j
  unfold val_main_v145 val_main_v144 val_main_v143 val_main_v142 val_main_v8
  generalize val_main_v118 (F := Ideal) x0 x1 x2 x6 x7 x9 = z at hz
  generalize val_main_v3 (F := Ideal) x1 x2 = z at hp
  pointwise [val_main_cst_20, val_main_cst_21, val_main_cst_24, val_main_cst_25, val_main_cst_28, val_main_cst_29]
  simp only [Fin.sum_univ_one, hz, hp, ← EReal.coe_mul]
  exact sum_congr rfl fun n _ => congrArg (fun s => ((A.dc (n.val + 8) j * A.hp s j : ℝ) : EReal)) (by show n.val + 7 = _; omega)

theorem dw1_at (h : Given A x0 x1 x2 x6 x7 x9) (j : Fin 512) :
    val_main_v134 (F := Ideal) x0 x1 x2 x6 x7 x9 (ix1 j) = ∑ n : Fin 8192, ((A.dc (n.val + 8) j * A.hp (n.val + 8 + 1 - 1) j : ℝ) : EReal) := by
  have hz := fun n => dc_at h n j
  have hp := fun n => padded_at h n j
  unfold val_main_v134 val_main_v133 val_main_v132 val_main_v131 val_main_v14
  generalize val_main_v118 (F := Ideal) x0 x1 x2 x6 x7 x9 = z at hz
  generalize val_main_v3 (F := Ideal) x1 x2 = z at hp
  pointwise [val_main_cst_20, val_main_cst_21, val_main_cst_24, val_main_cst_25, val_main_cst_28, val_main_cst_29]
  simp only [Fin.sum_univ_one, hz, hp, ← EReal.coe_mul]
  exact sum_congr rfl fun n _ => congrArg (fun s => ((A.dc (n.val + 8) j * A.hp s j : ℝ) : EReal)) (by show 1 + n.val + 7 = _; omega)

theorem dw2_at (h : Given A x0 x1 x2 x6 x7 x9) (j : Fin 512) :
    val_main_v125 (F := Ideal) x0 x1 x2 x6 x7 x9 (ix1 j) = ∑ n : Fin 8192, ((A.dc (n.val + 8) j * A.hp (n.val + 8 + 2 - 1) j : ℝ) : EReal) := by
  have hz := fun n => dc_at h n j
  have hp := fun n => padded_at h n j
  unfold val_main_v125 val_main_v124 val_main_v123 val_main_v122 val_main_v21
  generalize val_main_v118 (F := Ideal) x0 x1 x2 x6 x7 x9 = z at hz
  generalize val_main_v3 (F := Ideal) x1 x2 = z at hp
  pointwise [val_main_cst_20, val_main_cst_21, val_main_cst_24, val_main_cst_25, val_main_cst_28, val_main_cst_29]
  simp only [Fin.sum_univ_one, hz, hp, ← EReal.coe_mul]
  exact sum_congr rfl fun n _ => congrArg (fun s => ((A.dc (n.val + 8) j * A.hp s j : ℝ) : EReal)) (by show 2 + n.val + 7 = _; omega)

theorem dw_at (h : Given A x0 x1 x2 x6 x7 x9) (k : Fin 3) (j : Fin 512) :
    val_main_v150 (F := Ideal) x0 x1 x2 x6 x7 x9 (ix2 k j) = ∑ n : Fin 8192, ((A.dc (n.val + 8) j * A.hp (n.val + 8 + k.val - 1) j : ℝ) : EReal) := by
  have h0 := dw0_at h j
  have h1 := dw1_at h j
  have h2 := dw2_at h j
  unfold val_main_v150 val_main_v139 val_main_v128 val_main_v138 val_main_v149 val_main_v127 val_main_v137 val_main_v148
  generalize val_main_v125 (F := Ideal) x0 x1 x2 x6 x7 x9 = a at h2
  generalize val_main_v134 (F := Ideal) x0 x1 x2 x6 x7 x9 = b at h1
  generalize val_main_v145 (F := Ideal) x0 x1 x2 x6 x7 x9 = c at h0
  pointwise [val_main_cst_23, val_main_cst_27, val_main_cst_31]
  rw [h0, h1, h2]
  match k with
  | 0 => simp
  | 1 => simp
  | 2 => simp

end

end Cert.Reference9Ideal.Mix

end

end
-- ==== Proof.MixRefG.lean ====
module

public import proofs.«01_k».proof.Proof.Gen.Reference9Ideal.Read
public import proofs.«01_k».proof.Proof.MixGated
public import Idealize.ShloMosaic.Lib.Pointwise

/-! The gated half of the reference, in real numbers. -/

@[expose] public section

set_option maxRecDepth 16384

noncomputable section

open Idealize.ShloMosaic Idealize.ShloMosaic.TcCoe Idealize.SL.Sem Finset

namespace Cert.Reference9Ideal.Mix

open Cert.Reference9Ideal Cert.Reference9Ideal.Gen Cert.Reference9Ideal.Read Cert.Num

/-- What the gated half of the reference is given. -/
structure GGiven (A : Gated) (x3 x4 x5 : FVec Ideal S8192x512 .f32) (x8 : FVec Ideal S1x128 .f32) (x9 : FVec Ideal S8192x1024 .f32) : Prop where
  g : ∀ n j, x3 (ix2 n j) = ((A.g n j : ℝ) : EReal)
  o : ∀ n j, val_main_v0 (F := Ideal) x4 x5 (ix2 n j) = ((A.o n j : ℝ) : EReal)
  d : ∀ n (j : Fin 512), x9 (ix2 n ⟨512 + j.val, by omega⟩) = ((A.d n j : ℝ) : EReal)
  n : ∀ l, x8 (ix2 0 l) = ((A.n l : ℝ) : EReal)

/-- A sum over the first two of three axes. -/
theorem sum_two {n0 n1 n2 : ℕ} (h : (⟨3, ![n0, n1, n2]⟩ : Shape).ReducesTo [0, 1] ⟨1, ![n2]⟩) (v : (⟨3, ![n0, n1, n2]⟩ : Shape).Idx → EReal) (c : EReal)
    (l : Fin n2) : Ideal.hostReduceAdd h v c (ix1 l) = c + ∑ a, ∑ b, v (ix3 a b l) := by
  have back : ∀ i, h.drop i = ix1 l → ix3 (i 0) (i 1) l = i := fun i e => by
    funext a
    match a with
    | ⟨0, _⟩ => rfl
    | ⟨1, _⟩ => rfl
    | ⟨2, _⟩ => exact Fin.ext (congrArg Fin.val (congrFun e 0)).symm
  unfold Ideal.hostReduceAdd
  rw [← Fintype.sum_prod_type']
  refine congrArg (c + ·) (Finset.sum_nbij' (fun i => ((i 0, i 1) : Fin n0 × Fin n1)) (fun p => ix3 p.1 p.2 l) (fun _ _ => mem_univ _)
    (fun p _ => mem_filter.2 ⟨mem_univ _, ?_⟩) (fun i hi => back i (mem_filter.1 hi).2) (fun p _ => rfl)
    fun i hi => congrArg v (back i (mem_filter.1 hi).2).symm)
  funext b
  match b with
  | ⟨0, _⟩ => rfl

section

variable {A : Gated} {x3 x4 x5 : FVec Ideal S8192x512 .f32} {x8 : FVec Ideal S1x128 .f32} {x9 : FVec Ideal S8192x1024 .f32}

theorem hl_eq (h : Fin 4) (l : Fin 128) (p : h.val * 128 + l.val < 512) : (⟨h.val * 128 + l.val, p⟩ : Fin 512) = hl h l := Fin.ext (by simp [hl, mul_comm])

/-- Head and column of a lane. -/
theorem hl_div (j : Fin 512) : hl ⟨j.val / 128, by omega⟩ ⟨j.val % 128, by omega⟩ = j := Fin.ext (by simp [hl]; omega)

theorem hl_q (h : Fin 4) (l : Fin 128) (p : (hl h l).val / 128 < 4) : (⟨(hl h l).val / 128, p⟩ : Fin 4) = h := Fin.ext (by simp [hl]; omega)

theorem hl_l (h : Fin 4) (l : Fin 128) (p : (hl h l).val % 128 < 128) : (⟨(hl h l).val % 128, p⟩ : Fin 128) = l := Fin.ext (by simp [hl])

theorem o_at (h : GGiven A x3 x4 x5 x8 x9) (n : Fin 8192) (q : Fin 4) (l : Fin 128) :
    val_main_v46 (F := Ideal) x4 x5 (ix3 n q l) = ((A.o n (hl q l) : ℝ) : EReal) := by
  have hz := h.o n
  unfold val_main_v46
  generalize val_main_v0 (F := Ideal) x4 x5 = z at hz
  pointwise
  rw [hl_eq, hz]

theorem gms_at (h : GGiven A x3 x4 x5 x8 x9) (n : Fin 8192) (q : Fin 4) (z : Fin 1) :
    val_main_v53 (F := Ideal) x4 x5 (ix3 n q z) = ((A.ms n q : ℝ) : EReal) := by
  have hy := fun l => o_at h n q l
  unfold val_main_v53 val_main_v51 val_main_v49 val_main_v48 val_main_v47
  generalize val_main_v46 (F := Ideal) x4 x5 = y at hy
  pointwise [val_main_v52, val_main_cst_8, val_main_v50, val_main_cst_7, val_main_cst_6]
  simp only [hy, f128, ε_eq, Ideal.div_coe (show (128 : ℝ) ≠ 0 by norm_num), ← EReal.coe_mul, sum_coe, ← EReal.coe_add]
  rfl

theorem grr_at (h : GGiven A x3 x4 x5 x8 x9) (n : Fin 8192) (q : Fin 4) (z : Fin 1) :
    val_main_v54 (F := Ideal) x4 x5 (ix3 n q z) = ((A.rr n q : ℝ) : EReal) := by
  unfold val_main_v54
  have hy := gms_at h n q z
  generalize val_main_v53 (F := Ideal) x4 x5 = y at hy
  pointwise
  rw [hy]
  exact A.rsqrt_ms _ _

theorem ghalf_at (h : GGiven A x3 x4 x5 x8 x9) (n : Fin 8192) (q : Fin 4) (z : Fin 1) :
    val_main_v57 (F := Ideal) x4 x5 (ix3 n q z) = ((-(1 / 2) * (A.rr n q * (1 / A.ms n q)) : ℝ) : EReal) := by
  have hy := gms_at h n q z
  have hr := grr_at h n q z
  unfold val_main_v57 val_main_v55
  generalize val_main_v53 (F := Ideal) x4 x5 = y at hy
  generalize val_main_v54 (F := Ideal) x4 x5 = r at hr
  pointwise [val_main_v56, val_main_cst_9]
  rw [hy, hr, minus_half, Ideal.div_coe (A.ms_pos _ _).ne', ← EReal.coe_mul, ← EReal.coe_mul]

theorem gyh_at (h : GGiven A x3 x4 x5 x8 x9) (n : Fin 8192) (q : Fin 4) (l : Fin 128) :
    val_main_v59 (F := Ideal) x4 x5 (ix3 n q l) = ((A.yh n q l : ℝ) : EReal) := by
  have hy := o_at h n q l
  have hr := grr_at h n q 0
  unfold val_main_v59 val_main_v58
  generalize val_main_v46 (F := Ideal) x4 x5 = y at hy
  generalize val_main_v54 (F := Ideal) x4 x5 = r at hr
  pointwise
  rw [hy, hr, ← EReal.coe_mul]
  rfl

theorem on_at (h : GGiven A x3 x4 x5 x8 x9) (n : Fin 8192) (q : Fin 4) (l : Fin 128) :
    val_main_v63 (F := Ideal) x4 x5 x8 (ix2 n (hl q l)) = ((A.yh n q l * A.n l : ℝ) : EReal) := by
  have hy := gyh_at h n q l
  unfold val_main_v63 val_main_v62
  generalize val_main_v59 (F := Ideal) x4 x5 = y at hy
  pointwise [val_main_v61, val_main_v60, val_main_v76]
  simp only [hl_q, hl_l]
  rw [hy, h.n, ← EReal.coe_mul]

theorem gsg_at (h : GGiven A x3 x4 x5 x8 x9) (n : Fin 8192) (j : Fin 512) :
    val_main_v64_2 (F := Ideal) x3 (ix2 n j) = ((sg (A.g n j) : ℝ) : EReal) := by
  unfold val_main_v64_2
  pointwise [val_main_call0_v0, val_main_call0_v1, val_main_call0_v2, val_main_call0_v3, val_main_call0_v4, val_main_call0_cst, val_main_call0_cst_0]
  rw [h.g, ← EReal.coe_neg, show Ideal.exp ((-A.g n j : ℝ) : EReal) = ((Real.exp (-A.g n j) : ℝ) : EReal) from rfl, ← EReal.coe_one, ← EReal.coe_add,
    Ideal.div_coe (by positivity), ← EReal.coe_mul, one_mul]
  rfl

theorem gdon_at (h : GGiven A x3 x4 x5 x8 x9) (n : Fin 8192) (q : Fin 4) (l : Fin 128) :
    val_main_v72 (F := Ideal) x3 x9 (ix3 n q l) = ((A.don n q l : ℝ) : EReal) := by
  have hs := gsg_at h n
  unfold val_main_v72 val_main_v70 val_main_v64_0 val_main_v68
  generalize val_main_v64_2 (F := Ideal) x3 = s at hs
  pointwise
  simp only [hl_eq]
  rw [hs, h.g]
  refine (congrArg (· * _) ((congrArg (fun k => x9 (ix2 n k)) (Fin.ext (by simp [hl]; omega))).trans (h.d n (hl q l)))).trans ?_
  rw [← EReal.coe_mul, ← EReal.coe_mul]
  rfl

theorem gdg_at (h : GGiven A x3 x4 x5 x8 x9) (n : Fin 8192) (q : Fin 4) (l : Fin 128) :
    val_main_v71 (F := Ideal) x3 x4 x5 x8 x9 (ix2 n (hl q l)) = ((A.dg n q l : ℝ) : EReal) := by
  have hs := gsg_at h n (hl q l)
  have ho := on_at h n q l
  unfold val_main_v71 val_main_call1_v1 val_main_call1_v2 val_main_call1_v0 val_main_v69 val_main_v68 val_main_v64_1 val_main_call0_v7
  generalize val_main_v64_2 (F := Ideal) x3 = s at hs
  generalize val_main_v63 (F := Ideal) x4 x5 x8 = o at ho
  pointwise [val_main_call0_v6, val_main_call0_cst_1]
  have one : (1 : EReal) = ((1 : ℝ) : EReal) := EReal.coe_one.symm
  rw [hs, ho, h.g, h.d n (hl q l), one]
  simp only [← EReal.coe_mul, ← EReal.coe_sub, ← EReal.coe_add]
  unfold Gated.dg
  exact congrArg (fun x : ℝ => (x : EReal)) (by ring)

theorem bc_at (v : FVec Ideal S128 .f32) (z : Fin 1) (l : Fin 128) : (broadcastInDim S1x128 ![1] bcast_S128_S1x128_1 v : FVec Ideal S1x128 .f32) (ix2 z l) = v (ix1 l) := by
  pointwise

theorem gdgn_at (h : GGiven A x3 x4 x5 x8 x9) (z : Fin 1) (l : Fin 128) :
    val_main_v79 (F := Ideal) x3 x4 x5 x9 (ix2 z l) = ∑ n : Fin 8192, ∑ q : Fin 4, ((A.don n q l * A.yh n q l : ℝ) : EReal) := by
  have hy := fun n q => gyh_at h n q l
  have hd := fun n q => gdon_at h n q l
  unfold val_main_v79 val_main_v78 val_main_v75 val_main_v74 val_main_v73
  generalize val_main_v59 (F := Ideal) x4 x5 = y at hy
  generalize val_main_v72 (F := Ideal) x3 x9 = d at hd
  unfold val_main_cst_10
  rw [bc_at]
  refine (sum_two _ _ _ l).trans ?_
  simp only [Fin.sum_univ_one]
  refine (congrArg₂ (· + ·) (show _ = (0 : EReal) by pointwise [val_main_cst_11]) (show _ = ∑ n : Fin 8192, ∑ q : Fin 4, ((A.don n q l * A.yh n q l : ℝ) : EReal) from ?_)).trans (zero_add _)
  pointwise
  rw [sum_two, zero_add]
  refine sum_congr rfl fun n _ => sum_congr rfl fun q _ => ?_
  pointwise
  rw [hy, hd, ← EReal.coe_mul, mul_comm]

theorem gdo_at (h : GGiven A x3 x4 x5 x8 x9) (n : Fin 8192) (q : Fin 4) (l : Fin 128) :
    val_main_v94 (F := Ideal) x3 x4 x5 x8 x9 (ix2 n (hl q l)) = ((A.dox n q l : ℝ) : EReal) := by
  have hy := fun l => o_at h n q l
  have hr := grr_at h n q 0
  have hh := ghalf_at h n q 0
  have hd := fun l => gdon_at h n q l
  unfold val_main_v94 val_main_v93 val_main_v92 val_main_v91 val_main_v90 val_main_v89 val_main_v88 val_main_v87 val_main_v85 val_main_v84 val_main_v83 val_main_v82 val_main_v81 val_main_v80 val_main_v77
  generalize val_main_v46 (F := Ideal) x4 x5 = y at hy
  generalize val_main_v54 (F := Ideal) x4 x5 = r at hr
  generalize val_main_v57 (F := Ideal) x4 x5 = g at hh
  generalize val_main_v72 (F := Ideal) x3 x9 = d at hd
  pointwise [val_main_v86, val_main_cst_12, val_main_cst_13, val_main_cst_14, val_main_v76, val_main_v60]
  simp only [hl_q, hl_l, Fin.sum_univ_one, hy, hr, hd, hh, h.n, f128, Ideal.div_coe (show (128 : ℝ) ≠ 0 by norm_num), ← EReal.coe_mul, sum_coe, ← EReal.coe_add]
  refine congrArg (fun x : ℝ => (x : EReal)) ?_
  unfold Gated.dox Gated.dh Gated.yh
  rw [A.cube]
  have hs : ∑ k, A.don n q k * A.n k * (A.o n (hl q k) * A.rr n q) = (∑ k, A.o n (hl q k) * (A.don n q k * A.n k)) * A.rr n q := by
    rw [Finset.sum_mul]
    exact sum_congr rfl fun k _ => by ring
  rw [hs]
  ring

end

end Cert.Reference9Ideal.Mix

end

end
-- ==== Proof.MixValue.lean ====
module

public import proofs.«01_k».proof.Proof.MixEntry
public import proofs.«01_k».proof.Proof.MixRef
public import proofs.«01_k».proof.Proof.MixRefG
public import proofs.«01_k».proof.Defs
public import proofs.«01_k».proof.Proof.Gen.Reference9Ideal.Run

/-! The backward pass of the two halves' mixing: its five gradients are the derivative of the forward lines. -/

@[expose] public section

set_option maxRecDepth 16384

noncomputable section

open Idealize.ShloMosaic Idealize.ShloMosaic.TcCoe Idealize.SL.Sem
open Idealize.ShloMosaic.Pipeline (Dat)

namespace Cert.Kernel9Ideal.Mix

open Cert.Kernel9Ideal Cert.Kernel9Ideal.Gen Cert.Num Finset

variable (m : (ℓ : Loc nD τ sig) → Buf (Elt Ideal) ℓ) (ρ : Dev nD → PrngReg) (c : Dev nD)

/-- Every argument is finite. -/
structure Finite : Prop where
  x0 : ∀ i, ∃ r : ℝ, X0 m c i = (r : EReal)
  x1 : ∀ i, ∃ r : ℝ, X1 m c i = (r : EReal)
  x2 : ∀ i, ∃ r : ℝ, X2 m c i = (r : EReal)
  x3 : ∀ i, ∃ r : ℝ, X3 m c i = (r : EReal)
  x4 : ∀ i, ∃ r : ℝ, X4 m c i = (r : EReal)
  x5 : ∀ i, ∃ r : ℝ, X5 m c i = (r : EReal)
  x6 : ∀ i, ∃ r : ℝ, X6 m c i = (r : EReal)
  x7 : ∀ i, ∃ r : ℝ, X7 m c i = (r : EReal)
  x8 : ∀ i, ∃ r : ℝ, X8 m c i = (r : EReal)
  x9 : ∀ i, ∃ r : ℝ, X9 m c i = (r : EReal)

theorem coe_of {x : EReal} (h : ∃ r : ℝ, x = (r : EReal)) : x = ((x.toReal : ℝ) : EReal) := by
  obtain ⟨r, rfl⟩ := h
  rw [EReal.toReal_coe]

/-- The arrays of the convolution half. -/
def conv : Conv where
  b n j := (X0 m c (ix2 n j)).toReal
  c n j := (X1 m c (ix2 n j)).toReal
  u n j := (X2 m c (ix2 n j)).toReal
  d n j := (X9 m c (ix2 n (half 0 j))).toReal
  w k j := (X6 m c (ix2 k j)).toReal
  n j := (X7 m c (ix2 0 j)).toReal

/-- The arrays of the gated half. -/
def gated : Gated where
  g n j := (X3 m c (ix2 n j)).toReal
  o n j := (X4 m c (ix2 n j)).toReal + (X5 m c (ix2 n j)).toReal
  d n j := (X9 m c (ix2 n (half 1 j))).toReal
  n l := (X8 m c (ix2 0 l)).toReal

variable {m c}

theorem given (h : Finite m c) : Cert.Reference9Ideal.Mix.Given (conv m c) (X0 m c) (X1 m c) (X2 m c) (X6 m c) (X7 m c) (X9 m c) where
  b n j := coe_of (h.x0 _)
  c n j := coe_of (h.x1 _)
  u n j := coe_of (h.x2 _)
  d n j := (congrArg (fun k => X9 m c (ix2 n k)) (Fin.ext (by show j.val = 512 * 0 + j.val; omega))).trans (coe_of (h.x9 _))
  w k j := coe_of (h.x6 _)
  n j := coe_of (h.x7 _)

theorem gate_sum (h : Finite m c) (n : Fin 8192) (j : Fin 512) : (X4 m c (ix2 n j) : EReal) + X5 m c (ix2 n j) = (((gated m c).o n j : ℝ) : EReal) := by
  show _ = (((X4 m c (ix2 n j)).toReal + (X5 m c (ix2 n j)).toReal : ℝ) : EReal)
  rw [EReal.coe_add, ← coe_of (h.x4 _), ← coe_of (h.x5 _)]

theorem ggiven (h : Finite m c) : Cert.Reference9Ideal.Mix.GGiven (gated m c) (X3 m c) (X4 m c) (X5 m c) (X8 m c) (X9 m c) where
  g n j := coe_of (h.x3 _)
  o n j := gate_sum h n j
  d n j := (congrArg (fun k => X9 m c (ix2 n k)) (Fin.ext (by show 512 + j.val = 512 * 1 + j.val; omega))).trans (coe_of (h.x9 _))
  n l := coe_of (h.x8 _)

theorem point (h : Finite m c) (t : Fin cfg0.N) : Point (conv m c) t.val (k0_pay4 (grid0.coords t)) (extb m c t) (extc m c t) (extd m c t) (k0_pay8 (F := Ideal) (iblk m c 7 t)) (k0_pay9 (F := Ideal) (iblk m c 2 t))
    (iblk m c 8 t) (k0_pay5 (F := Ideal) (iblk m c 19 t)) (iblk m c 16 t) (iblk m c 17 t) where
  mask e := mask_at t e
  b := by
    unfold extb
    rw [pay6_eq]
    exact ext_of t _ _ _ _ (fun r l => (iblk3 m c t r l).trans (coe_of (h.x0 _))) (fun r l => (iblk0 m c t r l).trans (coe_of (h.x0 _))) (fun r l => (iblk4 m c t r l).trans (coe_of (h.x0 _)))
  c := by
    unfold extc
    rw [pay6_eq]
    exact ext_of t _ _ _ _ (fun r l => (iblk5 m c t r l).trans (coe_of (h.x1 _))) (fun r l => (iblk1 m c t r l).trans (coe_of (h.x1 _))) (fun r l => (iblk6 m c t r l).trans (coe_of (h.x1 _)))
  u := by
    rw [pay10_eq]
    exact ext_of t _ _ _ _ (fun r l => (iblk7 m c t r l).trans (coe_of (h.x2 _))) (fun r l => (iblk2 m c t r l).trans (coe_of (h.x2 _))) (fun r l => (iblk8 m c t r l).trans (coe_of (h.x2 _)))
  d := ext_of t _ _ _ _ (fun r l => (iblk14 m c t r l).trans (coe_of (h.x9 _))) (fun r l => (iblk12 m c t r l).trans (coe_of (h.x9 _))) (fun r l => (iblk15 m c t r l).trans (coe_of (h.x9 _)))
  ones l j := by
    rw [← iblk19 m c t l j]
    unfold k0_pay5
    generalize iblk m c 19 t = x
    pointwise
  w k j := (iblk16 m c t k j).trans (coe_of (h.x6 _))
  n j := (iblk17 m c t 0 j).trans (coe_of (h.x7 _))

theorem gpoint (h : Finite m c) (t : Fin cfg0.N) : GPoint (gated m c) (row t) (iblk m c 9 t) (iblk m c 10 t) (iblk m c 11 t) (iblk m c 13 t) (iblk m c 18 t) where
  g r j := (iblk9 m c t r j).trans (coe_of (h.x3 _))
  o r j := by
    refine Eq.trans ?_ (gate_sum h (row t r) j)
    rw [← iblk10 m c t r j, ← iblk11 m c t r j]
    rfl
  d r j := (iblk13 m c t r j).trans (coe_of (h.x9 _))
  n l := (iblk18 m c t 0 l).trans (coe_of (h.x8 _))

theorem shift_row (t : Fin cfg0.N) (r : Fin 512) : shift t.val r = (row t r).val + 8 := rfl

variable (m c)

theorem after0_20 (t : Fin cfg0.N) : (dats m 0 c).after 20 t = (outsAt0 m c t.val t.isLt).1 := by dsimp only [dats]

theorem after0_21 (t : Fin cfg0.N) : (dats m 0 c).after 21 t = (outsAt0 m c t.val t.isLt).2.1 := by dsimp only [dats]

theorem after0_22 (t : Fin cfg0.N) : (dats m 0 c).after 22 t = (outsAt0 m c t.val t.isLt).2.2.1 := by dsimp only [dats]

theorem after0_23 (t : Fin cfg0.N) : (dats m 0 c).after 23 t = (outsAt0 m c t.val t.isLt).2.2.2.1 := by dsimp only [dats]

theorem after0_24 (t : Fin cfg0.N) : (dats m 0 c).after 24 t = (outsAt0 m c t.val t.isLt).2.2.2.2 := by dsimp only [dats]

theorem left20 (t : Fin cfg0.N) : (outsAt0 m c t.val t.isLt).1 = View.canon
      [⟨Rect.unit ![0, 1536] ![512, 512] inb_S512x2048_S512x512_0_1536, partG m c t⟩,
        ⟨Rect.unit ![0, 0] ![512, 1536] inb_S512x2048_S512x1536_0_0, partZ m c t⟩] := by
  by_cases h : t.val = 0
  · rw [outsAt0_A m c t h]
    dsimp only
    exact wordA_20 m c t h
  · rw [outsAt0_B m c t h _ rfl]
    dsimp only
    exact wordB_20 m c t h _

theorem left21 (t : Fin cfg0.N) : (outsAt0 m c t.val t.isLt).2.1 = partO m c t := by
  by_cases h : t.val = 0
  · rw [outsAt0_A m c t h]
    dsimp only
    exact wordA_21 m c t h
  · rw [outsAt0_B m c t h _ rfl]
    dsimp only
    exact wordB_21 m c t h _

variable {m c}

theorem partZ_at (h : Finite m c) (t : Fin cfg0.N) (r : Fin 512) (j : Fin 1536) : (partZ m c t (ix2 r j) : EReal) = ((za (conv m c) ((row t r).val + 8) j : ℝ) : EReal) :=
  za_at (point h t) (lt_point t) r j

theorem partG_at (h : Finite m c) (t : Fin cfg0.N) (r : Fin 512) (q : Fin 4) (l : Fin 128) : (partG m c t (ix2 r (hl q l)) : EReal) = (((gated m c).dg (row t r) q l : ℝ) : EReal) :=
  dg_at (gpoint h t) r q l

theorem partO_at (h : Finite m c) (t : Fin cfg0.N) (r : Fin 512) (q : Fin 4) (l : Fin 128) : partO m c t (ix2 r (hl q l)) = (((gated m c).dox (row t r) q l : ℝ) : EReal) :=
  dox_at (gpoint h t) r q l

theorem partW_at (h : Finite m c) (t : Fin cfg0.N) (k : Fin 3) (j : Fin 512) : partW m c t (ix2 k j)
    = ∑ r : Fin 512, (((conv m c).dc ((row t r).val + 8) j * (conv m c).hp ((row t r).val + 8 + k.val - 1) j : ℝ) : EReal) :=
  dcw_at (point h t) k j

theorem partN_at (h : Finite m c) (t : Fin cfg0.N) (z : Fin 1) (j : Fin 512) : partN m c t (ix2 z j)
    = ∑ r : Fin 512, ((Num.ext (conv m c).d ((row t r).val + 8) j * (conv m c).yh ((row t r).val + 8) j : ℝ) : EReal) :=
  dcn_at (point h t) (lt_point t) z j

theorem partL_at (h : Finite m c) (t : Fin cfg0.N) (z : Fin 1) (l : Fin 128) : partL m c t (ix2 z l)
    = ∑ r : Fin 512, ∑ q : Fin 4, (((gated m c).don (row t r) q l * (gated m c).yh (row t r) q l : ℝ) : EReal) :=
  dgn_at (gpoint h t) z l

theorem final21 (h : Finite m c) : (dats m 0 c).arrAt 21 cfg0.N = Cert.Reference9Ideal.Read.val_main_v94 (F := Ideal) (X3 m c) (X4 m c) (X5 m c) (X8 m c) (X9 m c) := by
  refine (dats m 0 c).arrAt_eq_of_covers 21 _ (by decide +kernel) fun t _ y => ?_
  have ht := lt_point t
  blk_simp
  obtain ⟨r, l, rfl⟩ : ∃ (r : Fin 512) (l : Fin 512), y = ix2 r l := ⟨y 0, y 1, by blk_ext []⟩
  rw [show ((cfg0.win 21).blk t).view.emb (ix2 r l) = ix2 (row t r) l by blk_ext [idx t, row]]
  rw [after0_21, left21]
  obtain ⟨q, k, rfl⟩ : ∃ (q : Fin 4) (k : Fin 128), l = hl q k := ⟨⟨l.val / 128, by omega⟩, ⟨l.val % 128, by omega⟩, Fin.ext (by show l.val = 128 * (l.val / 128) + l.val % 128; omega)⟩
  exact (partO_at h t r q k).trans (Cert.Reference9Ideal.Mix.gdo_at (ggiven h) (row t r) q k).symm

/-- The last grid point. -/
abbrev t0_15 : Fin cfg0.N := ⟨15, by decide +kernel⟩

theorem pay1_at (x a : FVec Ideal S3x512 .f32) (k : Fin 3) (j : Fin 512) : k0_pay1 (F := Ideal) x a (ix2 k j) = (a (ix2 k j) : EReal) + x (ix2 k j) := by
  unfold k0_pay1
  pointwise

theorem pay2_at (x a : FVec Ideal S1x512 .f32) (k : Fin 1) (j : Fin 512) : k0_pay2 (F := Ideal) x a (ix2 k j) = (a (ix2 k j) : EReal) + x (ix2 k j) := by
  unfold k0_pay2
  pointwise

theorem pay3_at (x a : FVec Ideal S1x128 .f32) (k : Fin 1) (j : Fin 128) : k0_pay3 (F := Ideal) x a (ix2 k j) = (a (ix2 k j) : EReal) + x (ix2 k j) := by
  unfold k0_pay3
  pointwise

theorem final22 (h : Finite m c) : (dats m 0 c).arrAt 22 cfg0.N = Cert.Reference9Ideal.Read.val_main_v150 (F := Ideal) (X0 m c) (X1 m c) (X2 m c) (X6 m c) (X7 m c) (X9 m c) := by
  refine (dats m 0 c).arrAt_eq_of_after_last 22 t0_15 (by decide +kernel) _ fun y => ?_
  blk_simp
  obtain ⟨k, j, rfl⟩ : ∃ (k : Fin 3) (j : Fin 512), y = ix2 k j := ⟨y 0, y 1, by blk_ext []⟩
  rw [after0_22]
  refine (Cert.Num.run_sum (fun n hn => (outsAt0 m c n hn).2.2.1 (ix2 k j)) (fun t => partW m c t (ix2 k j)) (fun t ht => ?_) (fun t ht => ?_) 15 _).trans ?_
  · beta_reduce
    rw [outsAt0_A m c t ht]
    dsimp only
    exact congrFun (wordA_22 m c t ht) _
  · beta_reduce
    rw [outsAt0_B m c t ht _ rfl]
    dsimp only
    exact (congrFun (wordB_22 m c t ht _) _).trans (pay1_at _ _ k j)
  · refine ((Finset.sum_congr rfl fun t _ => partW_at h _ k j).trans ?_).trans (Cert.Reference9Ideal.Mix.dw_at (given h) k j).symm
    refine ((Fin.sum_univ_tiles 16 512 rfl fun n : Fin 8192 => (((conv m c).dc (n.val + 8) j * (conv m c).hp (n.val + 8 + k.val - 1) j : ℝ) : EReal)).trans ?_).symm
    refine Finset.sum_congr rfl fun t _ => Finset.sum_congr rfl fun r _ => ?_
    exact congrArg (fun n : Fin 8192 => (((conv m c).dc (n.val + 8) j * (conv m c).hp (n.val + 8 + k.val - 1) j : ℝ) : EReal)) (Fin.ext (by show t.val * 512 + r.val = 512 * t.val + r.val; omega))

theorem final23 (h : Finite m c) : (dats m 0 c).arrAt 23 cfg0.N = Cert.Reference9Ideal.Read.val_main_v116 (F := Ideal) (X0 m c) (X1 m c) (X2 m c) (X6 m c) (X9 m c) := by
  refine (dats m 0 c).arrAt_eq_of_after_last 23 t0_15 (by decide +kernel) _ fun y => ?_
  blk_simp
  obtain ⟨k, j, rfl⟩ : ∃ (k : Fin 1) (j : Fin 512), y = ix2 k j := ⟨y 0, y 1, by blk_ext []⟩
  rw [after0_23]
  refine (Cert.Num.run_sum (fun n hn => (outsAt0 m c n hn).2.2.2.1 (ix2 k j)) (fun t => partN m c t (ix2 k j)) (fun t ht => ?_) (fun t ht => ?_) 15 _).trans ?_
  · beta_reduce
    rw [outsAt0_A m c t ht]
    dsimp only
    exact congrFun (wordA_23 m c t ht) _
  · beta_reduce
    rw [outsAt0_B m c t ht _ rfl]
    dsimp only
    exact (congrFun (wordB_23 m c t ht _) _).trans (pay2_at _ _ k j)
  · refine ((Finset.sum_congr rfl fun t _ => partN_at h _ k j).trans ?_).trans (Cert.Reference9Ideal.Mix.dcn_at (given h) k j).symm
    refine ((Fin.sum_univ_tiles 16 512 rfl fun n : Fin 8192 => ((Num.ext (conv m c).d (n.val + 8) j * (conv m c).yh (n.val + 8) j : ℝ) : EReal)).trans ?_).symm
    refine Finset.sum_congr rfl fun t _ => Finset.sum_congr rfl fun r _ => ?_
    exact congrArg (fun n : Fin 8192 => ((Num.ext (conv m c).d (n.val + 8) j * (conv m c).yh (n.val + 8) j : ℝ) : EReal)) (Fin.ext (by show t.val * 512 + r.val = 512 * t.val + r.val; omega))

theorem final24 (h : Finite m c) : (dats m 0 c).arrAt 24 cfg0.N = Cert.Reference9Ideal.Read.val_main_v79 (F := Ideal) (X3 m c) (X4 m c) (X5 m c) (X9 m c) := by
  refine (dats m 0 c).arrAt_eq_of_after_last 24 t0_15 (by decide +kernel) _ fun y => ?_
  blk_simp
  obtain ⟨k, j, rfl⟩ : ∃ (k : Fin 1) (j : Fin 128), y = ix2 k j := ⟨y 0, y 1, by blk_ext []⟩
  rw [after0_24]
  refine (Cert.Num.run_sum (fun n hn => (outsAt0 m c n hn).2.2.2.2 (ix2 k j)) (fun t => partL m c t (ix2 k j)) (fun t ht => ?_) (fun t ht => ?_) 15 _).trans ?_
  · beta_reduce
    rw [outsAt0_A m c t ht]
    dsimp only
    exact congrFun (wordA_24 m c t ht) _
  · beta_reduce
    rw [outsAt0_B m c t ht _ rfl]
    dsimp only
    exact (congrFun (wordB_24 m c t ht _) _).trans (pay3_at _ _ k j)
  · refine ((Finset.sum_congr rfl fun t _ => partL_at h _ k j).trans ?_).trans (Cert.Reference9Ideal.Mix.gdgn_at (ggiven h) k j).symm
    refine ((Fin.sum_univ_tiles 16 512 rfl fun n : Fin 8192 => (∑ q : Fin 4, (((gated m c).don n q j * (gated m c).yh n q j : ℝ) : EReal))).trans ?_).symm
    refine Finset.sum_congr rfl fun t _ => Finset.sum_congr rfl fun r _ => ?_
    exact congrArg (fun n : Fin 8192 => (∑ q : Fin 4, (((gated m c).don n q j * (gated m c).yh n q j : ℝ) : EReal))) (Fin.ext (by show t.val * 512 + r.val = 512 * t.val + r.val; omega))

/-- The reference's first result, column by column. -/
theorem ref_z (x0 x1 x2 x3 x4 x5 : FVec Ideal S8192x512 .f32) (x6 : FVec Ideal S3x512 .f32) (x7 : FVec Ideal S1x512 .f32) (x8 : FVec Ideal S1x128 .f32) (x9 : FVec Ideal S8192x1024 .f32)
    (n : Fin 8192) (j : Fin 2048) : (Cert.Reference9Ideal.Read.val_main_v157 (F := Ideal) x0 x1 x2 x3 x4 x5 x6 x7 x8 x9 (ix2 n j) : EReal)
    = if h : j.val < 512 then Cert.Reference9Ideal.Read.val_main_v119 (F := Ideal) x0 x1 x2 x6 x7 x9 (ix2 n ⟨j.val, h⟩)
      else if h : j.val - 512 < 512 then (Cert.Reference9Ideal.Read.val_main_v152 (F := Ideal) x0 x1 x2 x6 x7 x9 (ix2 n ⟨j.val - 512, h⟩) : EReal) * x2 (ix2 n ⟨j.val - 512, h⟩)
      else if h : j.val - 512 - 512 < 512 then (x1 (ix2 n ⟨j.val - 512 - 512, h⟩) : EReal) * Cert.Reference9Ideal.Read.val_main_v152 (F := Ideal) x0 x1 x2 x6 x7 x9 (ix2 n ⟨j.val - 512 - 512, h⟩)
      else Cert.Reference9Ideal.Read.val_main_v71 (F := Ideal) x3 x4 x5 x8 x9 (ix2 n ⟨j.val - 512 - 512 - 512, by omega⟩) := by
  unfold Cert.Reference9Ideal.Read.val_main_v157 Cert.Reference9Ideal.Read.val_main_v156 Cert.Reference9Ideal.Read.val_main_v155 Cert.Reference9Ideal.Read.val_main_v154
  generalize Cert.Reference9Ideal.Read.val_main_v119 (F := Ideal) x0 x1 x2 x6 x7 x9 = a
  generalize Cert.Reference9Ideal.Read.val_main_v152 (F := Ideal) x0 x1 x2 x6 x7 x9 = b
  generalize Cert.Reference9Ideal.Read.val_main_v71 (F := Ideal) x3 x4 x5 x8 x9 = d
  pointwise

set_option maxHeartbeats 1000000 in
theorem final20 (h : Finite m c) : (dats m 0 c).arrAt 20 cfg0.N
    = Cert.Reference9Ideal.Read.val_main_v157 (F := Ideal) (X0 m c) (X1 m c) (X2 m c) (X3 m c) (X4 m c) (X5 m c) (X6 m c) (X7 m c) (X8 m c) (X9 m c) := by
  refine (dats m 0 c).arrAt_eq_of_covers 20 _ (by decide +kernel) fun t _ y => ?_
  have ht := lt_point t
  blk_simp
  obtain ⟨r, l, rfl⟩ : ∃ (r : Fin 512) (l : Fin 2048), y = ix2 r l := ⟨y 0, y 1, by blk_ext []⟩
  rw [after0_20, left20]
  have hcover := View.cover_of_tiledBy (Val := Elt Ideal) (e := .bf16) [⟨Rect.unit ![0, 1536] ![512, 512] inb_S512x2048_S512x512_0_1536, partG m c t⟩,
        ⟨Rect.unit ![0, 0] ![512, 1536] inb_S512x2048_S512x1536_0_0, partZ m c t⟩] ![512, 512] (by sl_kernel_rfl) (ix2 r l)
  canon_tiles x h' using hcover
  · obtain ⟨r', j, rfl⟩ : ∃ (r : Fin 512) (j : Fin 512), x = ix2 r j := ⟨x 0, x 1, by blk_ext []⟩
    have hr : r.val = r'.val := h'0
    have hj : l.val = 1536 + j.val := h'1
    clear h'0 h'1 x0_lt x1_lt
    obtain rfl : r = r' := Fin.ext hr
    rw [show (win0_20.blk t).view.emb (ix2 r l) = ix2 (row t r) l by blk_ext [idx t, row]]
    refine Eq.trans ?_ (ref_z _ _ _ _ _ _ _ _ _ _ (row t r) l).symm
    have hb := j.isLt
    simp only [show ¬ l.val < 512 by omega, show ¬ l.val - 512 < 512 by omega, show ¬ l.val - 512 - 512 < 512 by omega, ↓reduceDIte]
    obtain ⟨q, k, rfl⟩ : ∃ (q : Fin 4) (k : Fin 128), j = hl q k := ⟨⟨j.val / 128, by omega⟩, ⟨j.val % 128, by omega⟩, Fin.ext (by show j.val = 128 * (j.val / 128) + j.val % 128; omega)⟩
    refine (partG_at h t r q k).trans ((Cert.Reference9Ideal.Mix.gdg_at (ggiven h) (row t r) q k).symm.trans ?_)
    exact congrArg (fun j => Cert.Reference9Ideal.Read.val_main_v71 (F := Ideal) (X3 m c) (X4 m c) (X5 m c) (X8 m c) (X9 m c) (ix2 (row t r) j)) (Fin.ext (by show (hl q k).val = l.val - 512 - 512 - 512; omega))
  · obtain ⟨r', j, rfl⟩ : ∃ (r : Fin 512) (j : Fin 1536), x = ix2 r j := ⟨x 0, x 1, by blk_ext []⟩
    have hr : r.val = r'.val := h'0
    have hj : l.val = j.val := h'1
    clear h'0 h'1 x0_lt x1_lt
    obtain rfl : r = r' := Fin.ext hr
    rw [show (win0_20.blk t).view.emb (ix2 r l) = ix2 (row t r) l by blk_ext [idx t, row]]
    refine Eq.trans ?_ (ref_z _ _ _ _ _ _ _ _ _ _ (row t r) l).symm
    have hb := j.isLt
    refine (partZ_at h t r j).trans ?_
    unfold za
    obtain ⟨v, hv⟩ := l
    obtain rfl : v = j.val := hj
    have hx1 := fun j => coe_of (h.x1 (ix2 (row t r) j))
    have hx2 := fun j => coe_of (h.x2 (ix2 (row t r) j))
    by_cases h0 : j.val < 512
    · simp only [h0, ↓reduceDIte]
      exact (Cert.Reference9Ideal.Mix.dcb_at (given h) (row t r) _).symm
    · by_cases h1 : j.val - 512 < 512
      · simp only [h0, h1, ↓reduceDIte]
        rw [EReal.coe_mul, ← Cert.Reference9Ideal.Mix.dhc_at (given h) (row t r), Cert.Reference9Ideal.Mix.ext_at]
        exact congrArg₂ (· * ·) rfl (hx2 _).symm
      · have h2 : j.val - 512 - 512 < 512 := by omega
        simp only [h0, h1, h2, ↓reduceDIte]
        rw [EReal.coe_mul, ← Cert.Reference9Ideal.Mix.dhc_at (given h) (row t r), Cert.Reference9Ideal.Mix.ext_at, mul_comm]
        exact congrArg₂ (· * ·) (hx1 _).symm rfl

end Cert.Kernel9Ideal.Mix

end

end
-- ==== Proof.Mix.lean ====
module

public import proofs.«01_k».proof.Proof.MixValue
public import proofs.«01_k».proof.Proof.Gen.Kernel9
public import Idealize.ShloMosaic.Lib.Tactic

/-! The claim of the mixing's backward pass. -/

@[expose] public section

set_option maxRecDepth 16384

noncomputable section

namespace Cert.Proof

open Idealize.ShloMosaic Idealize.ShloMosaic.TcCoe Idealize.SL.Sem Cert.Kernel9Ideal Cert.Kernel9Ideal.Gen Cert.Kernel9Ideal.Mix

theorem finite9 : Cert.Pre_pre9.Facts := ⟨by decide, by decide, by decide, by decide, by decide⟩

/-- What the precondition says of the arguments. -/
theorem real9 (m : (ℓ : Loc Cert.Kernel9Ideal.nD Cert.Kernel9Ideal.τ Cert.Kernel9Ideal.sig) → Buf (Elt Ideal) ℓ)
    (h : Cert.Pre_Kernel9Ideal_pre9 (hPre_pre9 := finite9) m) (c : Dev Cert.Kernel9Ideal.nD) : Finite m c where
  x0 i := Cert.Num.real_of_cmp (congrFun (h c).1 i)
  x1 i := Cert.Num.real_of_cmp (congrFun (h c).2.1 i)
  x2 i := Cert.Num.real_of_cmp (congrFun (h c).2.2.1 i)
  x3 i := Cert.Num.real_of_cmp (congrFun (h c).2.2.2.1 i)
  x4 i := Cert.Num.real_of_cmp (congrFun (h c).2.2.2.2.1 i)
  x5 i := Cert.Num.real_of_cmp (congrFun (h c).2.2.2.2.2.1 i)
  x6 i := Cert.Num.real_of_cmp (congrFun (h c).2.2.2.2.2.2.1 i)
  x7 i := Cert.Num.real_of_cmp (congrFun (h c).2.2.2.2.2.2.2.1 i)
  x8 i := Cert.Num.real_of_cmp (congrFun (h c).2.2.2.2.2.2.2.2.1 i)
  x9 i := Cert.Num.real_of_cmp (congrFun (h c).2.2.2.2.2.2.2.2.2 i)

/-- Both programs run, and the kernel's results are the derivatives of the forward lines. -/
theorem mix_algebraic : Cert.algebraic_Kernel9Ideal_Reference9Ideal_pre_pre9 (hPre_pre9 := finite9) := fun m ρ m' ρ' hp hag =>
  ⟨fun c => Cert.Reference9Ideal.Read.val_main_v157 (F := Ideal) (X0 m c) (X1 m c) (X2 m c) (X3 m c) (X4 m c) (X5 m c) (X6 m c) (X7 m c) (X8 m c) (X9 m c),
    fun c => Cert.Reference9Ideal.Read.val_main_v94 (F := Ideal) (X3 m c) (X4 m c) (X5 m c) (X8 m c) (X9 m c),
    fun c => Cert.Reference9Ideal.Read.val_main_v150 (F := Ideal) (X0 m c) (X1 m c) (X2 m c) (X6 m c) (X7 m c) (X9 m c),
    fun c => Cert.Reference9Ideal.Read.val_main_v116 (F := Ideal) (X0 m c) (X1 m c) (X2 m c) (X6 m c) (X9 m c),
    fun c => Cert.Reference9Ideal.Read.val_main_v79 (F := Ideal) (X3 m c) (X4 m c) (X5 m c) (X9 m c),
    (θ_run _ _ _).mono (fun _ h c => ⟨(h.1 c).1.trans (final20 (real9 m hp c)),
        (h.1 c).2.1.trans (final21 (real9 m hp c)),
        (h.1 c).2.2.1.trans (final22 (real9 m hp c)),
        (h.1 c).2.2.2.1.trans (final23 (real9 m hp c)),
        (h.1 c).2.2.2.2.trans (final24 (real9 m hp c)), h.2.1 c⟩) (run_blocks m ρ),
    (θ_run _ _ _).mono (fun _ h c => by
      obtain ⟨h0, h1, h2, h3, h4, h5, h6, h7, h8, h9⟩ := hag c
      exact ⟨(h c).1.trans ((Cert.Reference9Ideal.Read.val_main_v157_eq (StableHlo.launchContents m' c)).trans (by
          show Cert.Reference9Ideal.Read.val_main_v157 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9)) = _
          rw [h0, h1, h2, h3, h4, h5, h6, h7, h8, h9])),
        (h c).2.1.trans ((Cert.Reference9Ideal.Read.val_main_v94_eq (StableHlo.launchContents m' c)).trans (by
          show Cert.Reference9Ideal.Read.val_main_v94 (F := Ideal) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9)) = _
          rw [h3, h4, h5, h8, h9])),
        (h c).2.2.1.trans ((Cert.Reference9Ideal.Read.val_main_v150_eq (StableHlo.launchContents m' c)).trans (by
          show Cert.Reference9Ideal.Read.val_main_v150 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg9)) = _
          rw [h0, h1, h2, h6, h7, h9])),
        (h c).2.2.2.1.trans ((Cert.Reference9Ideal.Read.val_main_v116_eq (StableHlo.launchContents m' c)).trans (by
          show Cert.Reference9Ideal.Read.val_main_v116 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg9)) = _
          rw [h0, h1, h2, h6, h9])),
        (h c).2.2.2.2.1.trans ((Cert.Reference9Ideal.Read.val_main_v79_eq (StableHlo.launchContents m' c)).trans (by
          show Cert.Reference9Ideal.Read.val_main_v79 (F := Ideal) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg9)) = _
          rw [h3, h4, h5, h9])), (h c).2.2.2.2.2⟩)
      (Cert.Reference9Ideal.Value.run m' ρ')⟩

/-- The reference runs and leaves its arguments as they were. -/
theorem mix_reference : Cert.quiescent_Reference9Ideal := fun m ρ _ =>
  (θ_run _ _ _).mono (fun r h => ⟨fun c => (h c).2.2.2.2.2, sem_eq_zero_of_no_sems (by decide) r.2⟩) (Cert.Reference9Ideal.Value.run m ρ)

/-- The kernel runs, gives every semaphore back and leaves its arguments as they were. -/
theorem mix_kernel : Cert.quiescent_Kernel9Ideal := fun m ρ _ =>
  (θ_run _ _ _).mono (fun _ h => ⟨h.2.1, h.2.2⟩) (run_blocks m ρ)

/-- What the frame of the program at the machine's own numbers says. -/
def Quiet : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

theorem quiet : Quiet := fun m ρ _ => (θ_run _ _ _).mono (fun _ h => ⟨h.2.1, h.2.2⟩) (run_blocks (F := Bits) m ρ)

theorem same_frame : Cert.quiescent_Kernel9 = Quiet := by sl_kernel_rfl

/-- The same of the program at the machine's own numbers. -/
theorem mix_kernel_bits : Cert.quiescent_Kernel9 := same_frame.mpr quiet

theorem mix_kernel_pre : Cert.quiescent_Kernel9Ideal_pre_pre9 (hPre_pre9 := finite9) := fun m ρ h => mix_kernel m ρ trivial

end Cert.Proof

end

end
-- ==== Proof.XatfSpec.lean ====
module

public import proofs.«01_k».proof.Proof.XattnRef
public import proofs.«01_k».proof.Proof.NormRow

/-! The attention over the memory, forward, as sums over whole arrays. -/

@[expose] public section

set_option maxRecDepth 16384

noncomputable section

open Idealize.ShloMosaic Idealize.ShloMosaic.TcCoe Idealize.SL.Sem
open Idealize.ShloMosaic.Pipeline (Dat)

namespace Cert.Xattn
open Finset Cert.Num

/-! Over the whole arrays: `x0` the normalised rows, `x1` the query weights, `x2` the keys and values, `x3` the output weights,
`x4` the residual, `x5` the gain. -/

variable (x0 : SX.Idx → EReal) (x1 : SW.Idx → EReal) (x2 : SKV.Idx → EReal) (x3 : SW.Idx → EReal) (x4 : SX.Idx → EReal) (x5 : Fin 1024 → EReal)

/-- The queries. -/
def FQ (R : Fin 8192) (l : Fin 1024) : EReal := ∑ k, x0 (ix2 R k) * x1 (ix2 k l)
/-- The heads' outputs, side by side. -/
def FO (R : Fin 8192) (l : Fin 1024) : EReal :=
  ∑ j, sm (scores (fun i => FQ x0 x1 (i 0) (i 1)) x2 R l) j * x2 (ix2 j ⟨1024 + l.val, by omega⟩)
/-- The layer's output with the residual. -/
def FX (R : Fin 8192) (l : Fin 1024) : EReal := (∑ k, FO x0 x1 x2 R k * x3 (ix2 k l)) + x4 (ix2 R l)
/-- Its norm. -/
def FN (R : Fin 8192) (l : Fin 1024) : EReal := FX x0 x1 x2 x3 x4 R l * rs (FX x0 x1 x2 x3 x4 R) * x5 l

end Cert.Xattn

end
-- ==== Proof.XatfWords.lean ====
module

public import proofs.«01_k».proof.Defs
public import proofs.«01_k».proof.Proof.Gen.Kernel10Ideal.Value
public import proofs.«01_k».proof.Proof.XatfSpec
public import Idealize.ShloMosaic.Lib.Pipeline.ValueKit
public import Idealize.ShloMosaic.Lib.Pointwise

/-! The forward attention's words at one point. -/

@[expose] public section

set_option maxRecDepth 16384

noncomputable section

open Idealize.ShloMosaic Idealize.ShloMosaic.TcCoe Idealize.SL.Sem
open Idealize.ShloMosaic.Pipeline (Dat)

namespace Cert.Kernel10Ideal.Gen
open Cert.Kernel10Ideal Cert.Xattn Cert.Num Facts₀ Finset

/-- Scores of one head's block of queries. -/
def SC (q : FVec Ideal S512x256 .bf16) (k : FVec Ideal S256x256 .bf16) : FVec Ideal S512x256 .f32 :=
  mulf (matmul dot_S512x256_S256x256_S512x256_1_1_0_0_n_n none q k (constant S512x256 .f32 0x00000000#32))
    (broadcast S512x256 (Scalar.ofBits .f32 0x3D800000#32))

/-- The exponentials of scores less their largest. -/
def EX (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- One head's output, from the exponentials. -/
def HO (e : FVec Ideal S512x256 .f32) (v : FVec Ideal S256x256 .bf16) : FVec Ideal S512x256 .f32 :=
  matmul dot_S512x256_S256x256_S512x256_1_0_0_1_n_n none (truncf .bf16 (divf e (broadcastTo S512x256 (shapeCast S512x1
    (multiReduction .add [1] S512 e 0x00000000#32 reduces_S512x256_S512 (.inl rfl) rfl) shapeCasts_S512_S512x1) broadcasts_S512x1_S512x256)) bitsLt_bf16_f32) v
    (constant S512x256 .f32 0x00000000#32)

theorem SC_at (q : FVec Ideal S512x256 .bf16) (k : FVec Ideal S256x256 .bf16) (r : Fin 512) (j : Fin 256) :
    SC q k (ix2 r j) = (∑ d, q (ix2 r d) * k (ix2 j d)) * Ideal.ofBits .f32 0x3D800000#32 := by
  pointwise [SC]

theorem EX_at (s : FVec Ideal S512x256 .f32) (r : Fin 512) (j : Fin 256) : EX s (ix2 r j) = ex (fun j => s (ix2 r j)) j := by
  pointwise [EX, ex, mx]

theorem HO_at (e : FVec Ideal S512x256 .f32) (v : FVec Ideal S256x256 .bf16) (r : Fin 512) (d : Fin 256) :
    HO e v (ix2 r d) = ∑ j, Ideal.div (e (ix2 r j)) (∑ i, e (ix2 r i)) * v (ix2 j d) := by
  pointwise [HO]

/-! The four heads, in the program's own words. -/

theorem head0 (v0 : Vec Ideal S512x1024 .bf16) (v2 : Vec Ideal S1024x1024 .bf16) (v8 v10 : Vec Ideal S256x256 .bf16) :
    k0_pay5 v0 v2 v8 v10 = HO (EX (SC (extractStridedSlice S512x256 ![0, 0] (k0_pay4 v0 v2) slices_S512x1024_o0_0_S512x256) (k0_pay6 v8))) (k0_pay6 v10) := rfl
theorem head1 (v0 : Vec Ideal S512x1024 .bf16) (v2 : Vec Ideal S1024x1024 .bf16) (v8 v10 : Vec Ideal S256x256 .bf16) :
    k0_pay9 (k0_pay6 v10) (k0_pay7 v0 v2 v8) (k0_pay8 v0 v2 v8)
      = HO (EX (SC (extractStridedSlice S512x256 ![0, 256] (k0_pay4 v0 v2) slices_S512x1024_o0_256_S512x256) (k0_pay6 v8))) (k0_pay6 v10) := rfl
theorem head2 (q : FVec Ideal S512x1024 .bf16) (v8 v10 : Vec Ideal S256x256 .bf16) :
    k0_pay10 q v8 v10 = HO (EX (SC (extractStridedSlice S512x256 ![0, 512] q slices_S512x1024_o0_512_S512x256) (k0_pay6 v8))) (k0_pay6 v10) := rfl
theorem head3 (q : FVec Ideal S512x1024 .bf16) (v8 : Vec Ideal S256x256 .bf16) :
    k0_pay12 q v8 = EX (SC (extractStridedSlice S512x256 ![0, 768] q slices_S512x1024_o0_768_S512x256) (k0_pay6 v8)) := rfl
theorem heads (a b d e : FVec Ideal S512x256 .f32) (v : FVec Ideal S256x256 .bf16) :
    k0_pay1 a b d v e = truncf .bf16 (concatenate S512x1024 1 [⟨S512x256, a⟩, ⟨S512x256, b⟩, ⟨S512x256, d⟩, ⟨S512x256, HO e v⟩]
      concatenates_S512x256_S512x256_S512x256_S512x256_S512x1024_d1) bitsLt_bf16_f32 := rfl

/-- Four parts side by side that are one function's lanes. -/
theorem cat_heads (F : Fin 512 → Fin 1024 → EReal) (a b d e : FVec Ideal S512x256 .f32) (ha : ∀ r (l : Fin 256) (L : Fin 1024), L.val = 256 * 0 + l.val → a (ix2 r l) = F r L)
    (hb : ∀ r (l : Fin 256) (L : Fin 1024), L.val = 256 * 1 + l.val → b (ix2 r l) = F r L) (hd : ∀ r (l : Fin 256) (L : Fin 1024), L.val = 256 * 2 + l.val → d (ix2 r l) = F r L)
    (he : ∀ r (l : Fin 256) (L : Fin 1024), L.val = 256 * 3 + l.val → e (ix2 r l) = F r L) (r : Fin 512) (l : Fin 1024) :
    truncf (F := Ideal) .bf16 (concatenate S512x1024 1 [⟨S512x256, a⟩, ⟨S512x256, b⟩, ⟨S512x256, d⟩, ⟨S512x256, e⟩]
      concatenates_S512x256_S512x256_S512x256_S512x256_S512x1024_d1) bitsLt_bf16_f32 (ix2 r l) = F r l := by
  pointwise []
  split
  · exact ha r _ _ (by dsimp only; omega)
  split
  · exact hb r _ _ (by dsimp only; omega)
  split
  · exact hd r _ _ (by dsimp only; omega)
  · exact he r _ _ (by dsimp only; omega)

theorem pay4_at (x : Vec Ideal S512x1024 .bf16) (w : Vec Ideal S1024x1024 .bf16) (r : Fin 512) (l : Fin 1024) :
    k0_pay4 (F := Ideal) x w (ix2 r l) = ∑ k : Fin 1024, (x (ix2 r k) : EReal) * w (ix2 k l) := by
  pointwise [k0_pay4]

/-- The output's product and the residual. -/
theorem pay2_at (a b d e : FVec Ideal S512x256 .f32) (v : FVec Ideal S256x256 .bf16) (w : Vec Ideal S1024x1024 .bf16) (x : Vec Ideal S512x1024 .f32) (r : Fin 512) (l : Fin 1024) :
    k0_pay2 (F := Ideal) a b d v e w x (ix2 r l) = (∑ k : Fin 1024, (k0_pay1 (F := Ideal) a b d v e (ix2 r k) : EReal) * w (ix2 k l)) + x (ix2 r l) := by
  unfold k0_pay2
  generalize k0_pay1 (F := Ideal) a b d v e = o
  pointwise []

theorem pay3_at (a b d e : FVec Ideal S512x256 .f32) (v : FVec Ideal S256x256 .bf16) (w : Vec Ideal S1024x1024 .bf16) (x : Vec Ideal S512x1024 .f32) (g : Vec Ideal S1x1024 .f32) (r : Fin 512) (l : Fin 1024) :
    k0_pay3 (F := Ideal) a b d v e w x g (ix2 r l) = k0_pay2 (F := Ideal) a b d v e w x (ix2 r l) * rs (fun k => k0_pay2 (F := Ideal) a b d v e w x (ix2 r k)) * g (ix2 0 l) := by
  unfold k0_pay3
  generalize k0_pay2 (F := Ideal) a b d v e w x = o
  pointwise [rs, msq]

section Head
variable (x0 : SX.Idx → EReal) (x1 : Xattn.SW.Idx → EReal) (x2 : SKV.Idx → EReal) (R : Fin 512 → Fin 8192) (h : ℕ) (hh : h < 4)
  (q : FVec Ideal S512x256 .bf16) (k v : FVec Ideal S256x256 .bf16)
  (hq : ∀ r (d : Fin 256) (L : Fin 1024), L.val = 256 * h + d.val → q (ix2 r d) = FQ x0 x1 (R r) L)
  (hk : ∀ r (d : Fin 256) (L : Fin 2048), L.val = 256 * h + d.val → k (ix2 r d) = x2 (ix2 r L))
  (hv : ∀ r (d : Fin 256) (L : Fin 2048), L.val = 1024 + (256 * h + d.val) → v (ix2 r d) = x2 (ix2 r L))
include hh hq hk hv

/-- One head's columns of the outputs. -/
theorem head_col (r : Fin 512) (d : Fin 256) (L : Fin 1024) (hL : L.val = 256 * h + d.val) :
    HO (EX (SC q k)) v (ix2 r d) = FO x0 x1 x2 (R r) L := by
  have hs : (fun j => SC q k (ix2 r j)) = scores (fun i => FQ x0 x1 (i 0) (i 1)) x2 (R r) L := by
    funext j
    rw [SC_at, scores]
    refine congrArg (· * _) (Finset.sum_congr rfl fun d _ => congrArg₂ (· * ·) (hq r d (hc L d) ?_) (hk j d (kc L d) ?_)) <;> simp only [hc, kc] <;> omega
  rw [HO_at]
  simp only [EX_at, hs]
  exact Finset.sum_congr rfl fun j _ => congrArg₂ (fun a b : EReal => a * b) rfl (hv j d _ (by dsimp only; omega))

end Head

end Cert.Kernel10Ideal.Gen

namespace Cert.Kernel10Ideal.Value
open Cert.Kernel10Ideal Cert.Kernel10Ideal.Gen Finset Cert.Xattn Cert.Num

variable (m : (ℓ : Loc nD τ sig) → Buf (Elt Ideal) ℓ)

/-- The argument arrays. -/
abbrev X0 (c : Dev nD) : FVec Ideal S8192x1024 .f32 := m ((c : Thread nD τ).loc main_arg0)
abbrev X1 (c : Dev nD) : FVec Ideal S1024x1024 .f32 := m ((c : Thread nD τ).loc main_arg1)
abbrev X2 (c : Dev nD) : FVec Ideal S256x2048 .f32 := m ((c : Thread nD τ).loc main_arg2)
abbrev X3 (c : Dev nD) : FVec Ideal S1024x1024 .f32 := m ((c : Thread nD τ).loc main_arg3)
abbrev X4 (c : Dev nD) : FVec Ideal S8192x1024 .f32 := m ((c : Thread nD τ).loc main_arg4)
abbrev X5 (c : Dev nD) : FVec Ideal S1x1024 .f32 := m ((c : Thread nD τ).loc main_arg5)
abbrev G5 (c : Dev nD) (l : Fin 1024) : EReal := X5 m c (ix2 0 l)

/-- Which block each window takes at a point. -/
theorem idx : ∀ t : Fin cfg0.N, win0_0.index t = ![t.val, 0] ∧ win0_1.index t = ![0, 0] ∧ win0_2.index t = ![0, 0] ∧ win0_3.index t = ![0, 0]
  ∧ win0_4.index t = ![t.val, 0] ∧ win0_5.index t = ![0, 0] ∧ win0_6.index t = ![t.val, 0] ∧ win0_7.index t = ![t.val, 0] ∧ win0_8.index t = ![t.val, 0] ∧ win0_9.index t = ![t.val, 0] :=
  (by decide +kernel : ∀ t : Fin grid0.N, _)

theorem lt_point (t : Fin cfg0.N) : t.val < 16 := lt_of_lt_of_eq t.isLt N_0

/-- The array's row that a point's row is. -/
abbrev row (t : Fin cfg0.N) (r : Fin 512) : Fin 8192 := ⟨512 * t.val + r.val, by have := lt_point t; omega⟩

theorem V_0 (c : Dev nD) : V m c main_v0 = truncf .bf16 (X0 m c) bitsLt_bf16_f32 := by
  simp only [V]
  entry_read
  rfl
theorem V_1 (c : Dev nD) : V m c main_v1 = truncf .bf16 (X1 m c) bitsLt_bf16_f32 := by
  simp only [V]
  entry_read
  rfl
theorem V_2 (c : Dev nD) : V m c main_v2 = truncf .bf16 (X2 m c) bitsLt_bf16_f32 := by
  simp only [V]
  entry_read
  rfl
theorem V_3 (c : Dev nD) : V m c main_v3 = truncf .bf16 (X3 m c) bitsLt_bf16_f32 := by
  simp only [V]
  entry_read
  rfl

theorem iblk0 (c : Dev nD) (t : Fin cfg0.N) (r : Fin 512) (l : Fin 1024) : iblk m c 0 t (ix2 r l) = X0 m c (ix2 (row t r) l) := by
  unfold iblk
  rw [show V m c (Pipeline.arrRef spec0 0) = _ from V_0 m c, View.read_apply]
  rw [show ((cfg0.win 0).blk t).view.emb (ix2 r l) = ix2 (row t r) l by blk_ext [idx t]]
  pointwise []
  rfl
theorem iblk1 (c : Dev nD) (t : Fin cfg0.N) (r l : Fin 1024) : iblk m c 1 t (ix2 r l) = X1 m c (ix2 r l) := by
  unfold iblk
  rw [show V m c (Pipeline.arrRef spec0 1) = _ from V_1 m c, View.read_apply]
  rw [show ((cfg0.win 1).blk t).view.emb (ix2 r l) = ix2 r l by blk_ext [idx t]]
  pointwise []
  rfl
theorem iblk2 (c : Dev nD) (t : Fin cfg0.N) (r : Fin 256) (l : Fin 2048) : iblk m c 2 t (ix2 r l) = X2 m c (ix2 r l) := by
  unfold iblk
  rw [show V m c (Pipeline.arrRef spec0 2) = _ from V_2 m c, View.read_apply]
  rw [show ((cfg0.win 2).blk t).view.emb (ix2 r l) = ix2 r l by blk_ext [idx t]]
  pointwise []
  rfl
theorem iblk3 (c : Dev nD) (t : Fin cfg0.N) (r l : Fin 1024) : iblk m c 3 t (ix2 r l) = X3 m c (ix2 r l) := by
  unfold iblk
  rw [show V m c (Pipeline.arrRef spec0 3) = _ from V_3 m c, View.read_apply]
  rw [show ((cfg0.win 3).blk t).view.emb (ix2 r l) = ix2 r l by blk_ext [idx t]]
  pointwise []
  rfl
theorem iblk4 (c : Dev nD) (t : Fin cfg0.N) (r : Fin 512) (l : Fin 1024) : iblk m c 4 t (ix2 r l) = X4 m c (ix2 (row t r) l) := by
  unfold iblk
  rw [show V m c (Pipeline.arrRef spec0 4) = X4 m c from V_main_arg4 m c, View.read_apply]
  rw [show ((cfg0.win 4).blk t).view.emb (ix2 r l) = ix2 (row t r) l by blk_ext [idx t]]
  rfl
theorem iblk5 (c : Dev nD) (t : Fin cfg0.N) (z : Fin 1) (l : Fin 1024) : iblk m c 5 t (ix2 z l) = X5 m c (ix2 z l) := by
  unfold iblk
  rw [show V m c (Pipeline.arrRef spec0 5) = X5 m c from V_main_arg5 m c, View.read_apply]
  rw [show ((cfg0.win 5).blk t).view.emb (ix2 z l) = ix2 z l by blk_ext [idx t]]
  rfl

/-- A head's columns of the keys and values. -/
theorem ld_kv (x : Vec Ideal S256x2048 .bf16) (a : ℕ) (h) (ha : a + 256 ≤ 2048) (r d : Fin 256) :
    k0_pay6 (View.ld x (Rect.unit (s := S256x2048) ![0, a] ![256, 256] h)) (ix2 r d) = x (ix2 r ⟨a + d.val, by omega⟩) := by
  pointwise [k0_pay6]

section Point
variable (c : Dev nD) (t : Fin cfg0.N)

theorem q_at (r : Fin 512) (l : Fin 1024) : k0_pay4 (F := Ideal) (iblk m c 0 t) (iblk m c 1 t) (ix2 r l) = FQ (X0 m c) (X1 m c) (row t r) l := by
  rw [pay4_at]
  exact Finset.sum_congr rfl fun k _ => congrArg₂ (fun a b : EReal => a * b) (iblk0 m c t r k) (iblk1 m c t k l)

/-- A head's queries. -/
theorem qh_at (a : ℕ) (h : a + 256 ≤ 1024) (hs) (r : Fin 512) (d : Fin 256) (L : Fin 1024) (hL : L.val = a + d.val) :
    extractStridedSlice S512x256 ![0, a] (k0_pay4 (F := Ideal) (iblk m c 0 t) (iblk m c 1 t)) hs (ix2 r d) = FQ (X0 m c) (X1 m c) (row t r) L := by
  rw [← q_at]
  generalize k0_pay4 (F := Ideal) (iblk m c 0 t) (iblk m c 1 t) = z
  pointwise []
  exact congrArg z (congrArg (ix2 r) (Fin.ext hL.symm))

theorem k_at (h : ℕ) (hh : h < 4) (hi) (r d : Fin 256) (L : Fin 2048) (hL : L.val = 256 * h + d.val) :
    k0_pay6 (View.ld (iblk m c 2 t) (Rect.unit (s := S256x2048) ![0, 256 * h] ![256, 256] hi)) (ix2 r d) = X2 m c (ix2 r L) :=
  (ld_kv _ (256 * h) hi (by omega) r d).trans ((iblk2 m c t r _).trans (congrArg (X2 m c) (congrArg (ix2 r) (Fin.ext hL.symm))))
theorem v_at (h : ℕ) (hh : h < 4) (hi) (r d : Fin 256) (L : Fin 2048) (hL : L.val = 1024 + (256 * h + d.val)) :
    k0_pay6 (View.ld (iblk m c 2 t) (Rect.unit (s := S256x2048) ![0, 1024 + 256 * h] ![256, 256] hi)) (ix2 r d) = X2 m c (ix2 r L) :=
  (ld_kv _ (1024 + 256 * h) hi (by omega) r d).trans ((iblk2 m c t r _).trans (congrArg (X2 m c) (congrArg (ix2 r) (Fin.ext (by dsimp only; omega)))))

/-- The heads' words of a point. -/
abbrev A0 : FVec Ideal S512x256 .f32 := k0_pay5 (iblk m c 0 t) (iblk m c 1 t)
  (View.ld (iblk m c 2 t) (Rect.unit ![0, 0] ![256, 256] Facts₀.inb_S256x2048_S256x256_0_0))
  (View.ld (iblk m c 2 t) (Rect.unit ![0, 1024] ![256, 256] Facts₀.inb_S256x2048_S256x256_0_1024))
abbrev A1 : FVec Ideal S512x256 .f32 := k0_pay9
  (k0_pay6 (View.ld (iblk m c 2 t) (Rect.unit ![0, 1280] ![256, 256] Facts₀.inb_S256x2048_S256x256_0_1280)))
  (k0_pay7 (iblk m c 0 t) (iblk m c 1 t) (View.ld (iblk m c 2 t) (Rect.unit ![0, 256] ![256, 256] Facts₀.inb_S256x2048_S256x256_0_256)))
  (k0_pay8 (iblk m c 0 t) (iblk m c 1 t) (View.ld (iblk m c 2 t) (Rect.unit ![0, 256] ![256, 256] Facts₀.inb_S256x2048_S256x256_0_256)))
abbrev A2 : FVec Ideal S512x256 .f32 := k0_pay10 (k0_pay4 (iblk m c 0 t) (iblk m c 1 t))
  (View.ld (iblk m c 2 t) (Rect.unit ![0, 512] ![256, 256] Facts₀.inb_S256x2048_S256x256_0_512))
  (View.ld (iblk m c 2 t) (Rect.unit ![0, 1536] ![256, 256] Facts₀.inb_S256x2048_S256x256_0_1536))
abbrev A3 : FVec Ideal S512x256 .f32 := k0_pay12 (k0_pay4 (iblk m c 0 t) (iblk m c 1 t))
  (View.ld (iblk m c 2 t) (Rect.unit ![0, 768] ![256, 256] Facts₀.inb_S256x2048_S256x256_0_768))
abbrev B3 : FVec Ideal S256x256 .bf16 := k0_pay11 (View.ld (iblk m c 2 t) (Rect.unit ![0, 1792] ![256, 256] Facts₀.inb_S256x2048_S256x256_0_1792))

theorem o_at (r : Fin 512) (l : Fin 1024) : k0_pay1 (A0 m c t) (A1 m c t) (A2 m c t) (B3 m c t) (A3 m c t) (ix2 r l) = FO (X0 m c) (X1 m c) (X2 m c) (row t r) l := by
  unfold A0 A1 A2 A3 B3
  rw [heads, head0, head1, head2, head3]
  refine cat_heads (fun r l => FO (X0 m c) (X1 m c) (X2 m c) (row t r) l) _ _ _ _ (fun r d L hL => ?_) (fun r d L hL => ?_) (fun r d L hL => ?_) (fun r d L hL => ?_) r l
  · exact head_col _ _ _ (row t) 0 (by decide) _ _ _ (qh_at m c t 0 (by decide) _) (k_at m c t 0 (by decide) _) (v_at m c t 0 (by decide) _) r d L hL
  · exact head_col _ _ _ (row t) 1 (by decide) _ _ _ (qh_at m c t 256 (by decide) _) (k_at m c t 1 (by decide) _) (v_at m c t 1 (by decide) _) r d L hL
  · exact head_col _ _ _ (row t) 2 (by decide) _ _ _ (qh_at m c t 512 (by decide) _) (k_at m c t 2 (by decide) _) (v_at m c t 2 (by decide) _) r d L hL
  · exact head_col _ _ _ (row t) 3 (by decide) _ _ _ (qh_at m c t 768 (by decide) _) (k_at m c t 3 (by decide) _) (v_at m c t 3 (by decide) _) r d L hL

theorem x_at (r : Fin 512) (l : Fin 1024) : k0_pay2 (A0 m c t) (A1 m c t) (A2 m c t) (B3 m c t) (A3 m c t) (iblk m c 3 t) (iblk m c 4 t) (ix2 r l)
    = FX (X0 m c) (X1 m c) (X2 m c) (X3 m c) (X4 m c) (row t r) l := by
  rw [pay2_at]
  exact congrArg₂ (fun a b : EReal => a + b) (Finset.sum_congr rfl fun k _ => congrArg₂ (fun a b : EReal => a * b) (o_at m c t r k) (iblk3 m c t k l)) (iblk4 m c t r l)

theorem n_at (r : Fin 512) (l : Fin 1024) : k0_pay3 (A0 m c t) (A1 m c t) (A2 m c t) (B3 m c t) (A3 m c t) (iblk m c 3 t) (iblk m c 4 t) (iblk m c 5 t) (ix2 r l)
    = FN (X0 m c) (X1 m c) (X2 m c) (X3 m c) (X4 m c) (G5 m c) (row t r) l := by
  rw [pay3_at]
  simp only [x_at]
  exact congrArg (fun b : EReal => _ * b) (iblk5 m c t 0 l)

end Point

end Cert.Kernel10Ideal.Value

end
-- ==== Proof.XatfRef.lean ====
module

public import proofs.«01_k».proof.Defs
public import proofs.«01_k».proof.Proof.Gen.Reference10Ideal.Run
public import proofs.«01_k».proof.Proof.Gen.Reference10Ideal.Read
public import proofs.«01_k».proof.Proof.XatfSpec
public import Idealize.ShloMosaic.Lib.Pipeline.ValueKit
public import Idealize.ShloMosaic.Lib.Pointwise

/-! The forward attention's reference, read. -/

@[expose] public section

set_option maxRecDepth 16384

noncomputable section

open Idealize.ShloMosaic Idealize.ShloMosaic.TcCoe Idealize.SL.Sem
open Idealize.ShloMosaic.Pipeline (Dat)

namespace Cert.Reference10Ideal.Read
open Cert.Reference10Ideal Cert.Reference10Ideal.Gen Cert.Xattn Cert.Num Finset

variable (x0 : FVec Ideal SX .f32) (x1 : FVec Ideal Xattn.SW .f32) (x2 : FVec Ideal SKV .f32) (x3 : FVec Ideal Xattn.SW .f32) (x4 : FVec Ideal SX .f32) (x5 : FVec Ideal S1x1024 .f32)

theorem v0_at (R : Fin 8192) (l : Fin 1024) : val_main_v0 (F := Ideal) x0 x1 (ix2 R l) = FQ x0 x1 R l := by
  unfold val_main_v0 FQ
  pointwise []

theorem v3_at (R : Fin 8192) (h : Fin 4) (d : Fin 256) (L : Fin 1024) (hL : L.val = 256 * h.val + d.val) :
    val_main_v3 (F := Ideal) x0 x1 (ix3 R h d) = FQ x0 x1 R L := by
  rw [← v0_at]
  unfold val_main_v3
  generalize val_main_v0 (F := Ideal) x0 x1 = z
  pointwise []
  refine congrArg z ?_
  blk_ext []

theorem v4_at (j : Fin 256) (h : Fin 4) (d : Fin 256) (L : Fin 2048) (hL : L.val = 256 * h.val + d.val) :
    val_main_v4 (F := Ideal) x2 (ix3 j h d) = x2 (ix2 j L) := by
  unfold val_main_v4 val_main_v1
  pointwise []
  refine congrArg x2 ?_
  blk_ext []

theorem v5_at (j : Fin 256) (h : Fin 4) (d : Fin 256) (L : Fin 2048) (hL : L.val = 1024 + (256 * h.val + d.val)) :
    val_main_v5 (F := Ideal) x2 (ix3 j h d) = x2 (ix2 j L) := by
  unfold val_main_v5 val_main_v2
  pointwise []
  refine congrArg x2 ?_
  blk_ext []

theorem v8_at (h : Fin 4) (R : Fin 8192) (j : Fin 256) (L : Fin 1024) (hL : L.val / 256 = h.val) :
    val_main_v8 (F := Ideal) x0 x1 x2 (ix3 h R j) = scores (fun i => FQ x0 x1 (i 0) (i 1)) x2 R L j := by
  unfold val_main_v8 val_main_v7 val_main_v6 scores
  have h3 := v3_at x0 x1 R h
  have h4 := v4_at x2 j h
  generalize val_main_v3 (F := Ideal) x0 x1 = y at h3 ⊢
  generalize val_main_v4 (F := Ideal) x2 = z at h4 ⊢
  pointwise [val_main_cst]
  rw [sixteen, sixteenth, Ideal.div_coe (by norm_num)]
  refine congrArg (· * _) (Finset.sum_congr rfl fun d _ => congrArg₂ (· * ·) (h3 d _ ?_) (h4 d _ ?_)) <;> simp only [hc, kc, hL]

section Soft
variable (s : Fin 256 → EReal) (R : Fin 8192) (h : Fin 4) (hs : ∀ j, val_main_v8 (F := Ideal) x0 x1 x2 (ix3 h R j) = s j)
include hs

theorem v9_at : val_main_v9 (F := Ideal) x0 x1 x2 (ix2 h R) = mx s := by
  unfold val_main_v9
  generalize val_main_v8 (F := Ideal) x0 x1 x2 = y at hs ⊢
  pointwise [val_main_cst_0]
  simp only [hs]
  rfl

theorem v11_at : val_main_v11 (F := Ideal) x0 x1 x2 (ix2 h R) = mx s := by
  rw [val_main_v11_apply, v9_at x0 x1 x2 s R h hs, val_main_v10_apply]
  exact Cert.Reference3Ideal.Read.max_bot _

theorem v13_at (j : Fin 256) : val_main_v13 (F := Ideal) x0 x1 x2 (ix3 h R j) = mx s := by
  rw [← v11_at x0 x1 x2 s R h hs]
  unfold val_main_v13 val_main_v12
  generalize val_main_v11 (F := Ideal) x0 x1 x2 = z
  pointwise []

theorem v15_at (j : Fin 256) : val_main_v15 (F := Ideal) x0 x1 x2 (ix3 h R j) = ex s j := by
  rw [val_main_v15_apply, val_main_v14_apply, v13_at x0 x1 x2 s R h hs j, hs j]
  rfl

theorem v19_at (j : Fin 256) : val_main_v19 (F := Ideal) x0 x1 x2 (ix3 h R j) = sm s j := by
  unfold val_main_v19 val_main_v18 val_main_v17 val_main_v16
  have h15 := v15_at x0 x1 x2 s R h hs
  generalize val_main_v15 (F := Ideal) x0 x1 x2 = y at h15 ⊢
  pointwise [val_main_cst_2]
  simp only [h15]
  rfl

end Soft

theorem v22_at (R : Fin 8192) (l : Fin 1024) : val_main_v22 (F := Ideal) x0 x1 x2 (ix2 R l) = FO x0 x1 x2 R l := by
  unfold val_main_v22 val_main_v21 val_main_v20
  have h19 := fun (j : Fin 256) (h : Fin 4) (hL : l.val / 256 = h.val) => v19_at x0 x1 x2 _ R h (fun j => v8_at x0 x1 x2 h R j l hL) j
  have h5 := v5_at x2
  generalize val_main_v19 (F := Ideal) x0 x1 x2 = y at h19 ⊢
  generalize val_main_v5 (F := Ideal) x2 = z at h5 ⊢
  pointwise []
  exact Finset.sum_congr rfl fun j _ => (mul_comm _ _).trans (congrArg₂ (fun a b : EReal => a * b) (h19 j ⟨l.val / 256, by omega⟩ rfl) (h5 j _ _ _ (by dsimp only; omega)))

theorem v24_at (R : Fin 8192) (l : Fin 1024) : val_main_v24 (F := Ideal) x0 x1 x2 x3 x4 (ix2 R l) = FX x0 x1 x2 x3 x4 R l := by
  unfold val_main_v24 val_main_v23
  have h22 := v22_at x0 x1 x2 R
  generalize val_main_v22 (F := Ideal) x0 x1 x2 = y at h22 ⊢
  pointwise []
  simp only [h22]
  exact add_comm _ _

theorem v38_at (R : Fin 8192) (l : Fin 1024) : val_main_v38 (F := Ideal) x0 x1 x2 x3 x4 x5 (ix2 R l) = FN x0 x1 x2 x3 x4 (fun k => x5 (ix2 0 k)) R l := by
  unfold val_main_v38 val_main_v37 val_main_v36 val_main_v35 val_main_v34 val_main_v33 val_main_v32 val_main_v31 val_main_v30 val_main_v29 val_main_v28 val_main_v27
  have h24 := v24_at x0 x1 x2 x3 x4 R
  generalize val_main_v24 (F := Ideal) x0 x1 x2 x3 x4 = y at h24 ⊢
  pointwise [val_main_cst_3, val_main_cst_4, val_main_cst_5]
  simp only [h24]
  rfl

/-! The four results. -/

theorem v25_all : val_main_v25 (F := Ideal) x0 x1 = fun i : S8192x1024.Idx => FQ x0 x1 (i 0) (i 1) := by
  funext i
  obtain ⟨r, l, rfl⟩ : ∃ (r : Fin 8192) (l : Fin 1024), i = ix2 r l := ⟨i 0, i 1, by blk_ext []⟩
  exact v0_at x0 x1 r l

theorem v26_all : val_main_v26 (F := Ideal) x0 x1 x2 = fun i : S8192x1024.Idx => FO x0 x1 x2 (i 0) (i 1) := by
  funext i
  obtain ⟨r, l, rfl⟩ : ∃ (r : Fin 8192) (l : Fin 1024), i = ix2 r l := ⟨i 0, i 1, by blk_ext []⟩
  exact v22_at x0 x1 x2 r l

theorem v39_all : val_main_v39 (F := Ideal) x0 x1 x2 x3 x4 x5 = fun i : S8192x1024.Idx => FN x0 x1 x2 x3 x4 (fun k => x5 (ix2 0 k)) (i 0) (i 1) := by
  funext i
  obtain ⟨r, l, rfl⟩ : ∃ (r : Fin 8192) (l : Fin 1024), i = ix2 r l := ⟨i 0, i 1, by blk_ext []⟩
  exact v38_at x0 x1 x2 x3 x4 x5 r l

theorem v24_all : val_main_v24 (F := Ideal) x0 x1 x2 x3 x4 = fun i : S8192x1024.Idx => FX x0 x1 x2 x3 x4 (i 0) (i 1) := by
  funext i
  obtain ⟨r, l, rfl⟩ : ∃ (r : Fin 8192) (l : Fin 1024), i = ix2 r l := ⟨i 0, i 1, by blk_ext []⟩
  exact v24_at x0 x1 x2 x3 x4 r l

end Cert.Reference10Ideal.Read

end
-- ==== Proof.Xatf.lean ====
module

public import proofs.«01_k».proof.Defs
public import proofs.«01_k».proof.Proof.Gen.Kernel10Ideal.Frame
public import proofs.«01_k».proof.Proof.Gen.Kernel10.Frame
public import proofs.«01_k».proof.Proof.XatfWords
public import proofs.«01_k».proof.Proof.XatfRef
public import Idealize.ShloMosaic.Lib.Pipeline.ValueKit
public import Idealize.ShloMosaic.Lib.Claim

/-! The attention over the memory, forward: the queries, the heads' outputs, the layer's output with the residual, and its norm. -/

@[expose] public section

set_option maxRecDepth 16384

noncomputable section

open Idealize.ShloMosaic Idealize.ShloMosaic.TcCoe Idealize.SL.Sem
open Idealize.ShloMosaic.Pipeline (Dat)

namespace Cert.Kernel10Ideal.Value
open Cert.Kernel10Ideal Cert.Kernel10Ideal.Gen Finset Cert.Xattn Cert.Num

variable (m : (ℓ : Loc nD τ sig) → Buf (Elt Ideal) ℓ)

theorem final6 (c : Dev nD) : (dats m 0 c).arrAt 6 (cfgs 0).N = fun i : S8192x1024.Idx => FQ (X0 m c) (X1 m c) (i 0) (i 1) := by
  refine (dats m 0 c).arrAt_eq_of_covers 6 _ (by decide +kernel) fun t hf y => ?_
  blk_simp
  obtain ⟨r, l, rfl⟩ : ∃ (r : Fin 512) (l : Fin 1024), y = ix2 r l := ⟨y 0, y 1, by blk_ext []⟩
  rw [show ((cfg0.win 6).blk t).view.emb (ix2 r l) = ix2 (row t r) l by blk_ext [idx t]]
  rw [after0_6]
  frame_out
  exact q_at m c t r l

theorem final7 (c : Dev nD) : (dats m 0 c).arrAt 7 (cfgs 0).N = fun i : S8192x1024.Idx => FO (X0 m c) (X1 m c) (X2 m c) (i 0) (i 1) := by
  refine (dats m 0 c).arrAt_eq_of_covers 7 _ (by decide +kernel) fun t hf y => ?_
  blk_simp
  obtain ⟨r, l, rfl⟩ : ∃ (r : Fin 512) (l : Fin 1024), y = ix2 r l := ⟨y 0, y 1, by blk_ext []⟩
  rw [show ((cfg0.win 7).blk t).view.emb (ix2 r l) = ix2 (row t r) l by blk_ext [idx t]]
  rw [after0_7]
  unfold_out out0_7
  frame_out
  exact o_at m c t r l

theorem final8 (c : Dev nD) : (dats m 0 c).arrAt 8 (cfgs 0).N = fun i : S8192x1024.Idx => FN (X0 m c) (X1 m c) (X2 m c) (X3 m c) (X4 m c) (G5 m c) (i 0) (i 1) := by
  refine (dats m 0 c).arrAt_eq_of_covers 8 _ (by decide +kernel) fun t hf y => ?_
  blk_simp
  obtain ⟨r, l, rfl⟩ : ∃ (r : Fin 512) (l : Fin 1024), y = ix2 r l := ⟨y 0, y 1, by blk_ext []⟩
  rw [show ((cfg0.win 8).blk t).view.emb (ix2 r l) = ix2 (row t r) l by blk_ext [idx t]]
  rw [after0_8]
  unfold_out out0_8
  frame_out
  exact n_at m c t r l

theorem final9 (c : Dev nD) : (dats m 0 c).arrAt 9 (cfgs 0).N = fun i : S8192x1024.Idx => FX (X0 m c) (X1 m c) (X2 m c) (X3 m c) (X4 m c) (i 0) (i 1) := by
  refine (dats m 0 c).arrAt_eq_of_covers 9 _ (by decide +kernel) fun t hf y => ?_
  blk_simp
  obtain ⟨r, l, rfl⟩ : ∃ (r : Fin 512) (l : Fin 1024), y = ix2 r l := ⟨y 0, y 1, by blk_ext []⟩
  rw [show ((cfg0.win 9).blk t).view.emb (ix2 r l) = ix2 (row t r) l by blk_ext [idx t]]
  rw [after0_9]
  unfold_out out0_9
  frame_out
  exact x_at m c t r l

end Cert.Kernel10Ideal.Value

namespace Cert.Proof
open Cert.Kernel10Ideal.Value

/-- Both programs run, and the kernel's results are the attention's. -/
theorem xatf_algebraic : Cert.algebraic_Kernel10Ideal_Reference10Ideal := fun m ρ m' ρ' _ hag =>
  ⟨fun c => Cert.Reference10Ideal.Read.val_main_v25 (F := Ideal) (X0 m c) (X1 m c), fun c => Cert.Reference10Ideal.Read.val_main_v26 (F := Ideal) (X0 m c) (X1 m c) (X2 m c),
    fun c => Cert.Reference10Ideal.Read.val_main_v39 (F := Ideal) (X0 m c) (X1 m c) (X2 m c) (X3 m c) (X4 m c) (X5 m c),
    fun c => Cert.Reference10Ideal.Read.val_main_v24 (F := Ideal) (X0 m c) (X1 m c) (X2 m c) (X3 m c) (X4 m c),
    (θ_run _ _ _).mono (fun _ h c => ⟨(h c).1.trans ((final6 m c).trans (Cert.Reference10Ideal.Read.v25_all _ _).symm),
      (h c).2.1.trans ((final7 m c).trans (Cert.Reference10Ideal.Read.v26_all _ _ _).symm),
      (h c).2.2.1.trans ((final8 m c).trans (Cert.Reference10Ideal.Read.v39_all _ _ _ _ _ _).symm),
      (h c).2.2.2.1.trans ((final9 m c).trans (Cert.Reference10Ideal.Read.v24_all _ _ _ _ _).symm), (h c).2.2.2.2⟩) (Cert.Kernel10Ideal.Value.run_blocks m ρ),
    (θ_run _ _ _).mono (fun _ h c => by
      obtain ⟨h0, h1, h2, h3, h4, h5⟩ := hag c
      exact ⟨(h c).1.trans ((Cert.Reference10Ideal.Read.val_main_v25_eq _ _).trans (by rw [h0, h1])),
        (h c).2.1.trans ((Cert.Reference10Ideal.Read.val_main_v26_eq _ _ _).trans (by rw [h0, h1, h2])),
        (h c).2.2.1.trans ((Cert.Reference10Ideal.Read.val_main_v39_eq _ _).trans (by rw [h0, h1, h2, h3, h4, h5])),
        (h c).2.2.2.1.trans ((Cert.Reference10Ideal.Read.val_main_v24_eq _ _ _ _ _).trans (by rw [h0, h1, h2, h3, h4])), (h c).2.2.2.2⟩)
      (Cert.Reference10Ideal.Value.run m' ρ')⟩

/-- The reference runs and leaves its arguments as they were. -/
theorem xatf_reference : Cert.quiescent_Reference10Ideal := fun m ρ _ =>
  (θ_run _ _ _).mono (fun r h => ⟨fun c => (h c).2.2.2.2, sem_eq_zero_of_no_sems (by decide) r.2⟩) (Cert.Reference10Ideal.Value.run m ρ)

end Cert.Proof

end
-- ==== Proof.Normf.lean ====
module

public import proofs.«01_k».proof.Defs
public import proofs.«01_k».proof.Proof.Gen.Kernel11Ideal.Value
public import proofs.«01_k».proof.Proof.Gen.Kernel11Ideal.Frame
public import proofs.«01_k».proof.Proof.Gen.Kernel11.Frame
public import proofs.«01_k».proof.Proof.Gen.Reference11Ideal.Run
public import proofs.«01_k».proof.Proof.Gen.Reference11Ideal.Read
public import proofs.«01_k».proof.Proof.NormRow
public import Idealize.ShloMosaic.Lib.Pipeline.ValueKit
public import Idealize.ShloMosaic.Lib.Pointwise
public import Idealize.ShloMosaic.Lib.Claim

/-! The norm of rows in front of the mixer. -/

@[expose] public section

set_option maxRecDepth 16384

noncomputable section

open Idealize.ShloMosaic Idealize.ShloMosaic.TcCoe Idealize.SL.Sem
open Idealize.ShloMosaic.Pipeline (Dat)

namespace Cert.Kernel11Ideal.Value
open Cert.Kernel11Ideal Cert.Kernel11Ideal.Gen Finset Cert.Num

variable (m : (ℓ : Loc nD τ sig) → Buf (Elt Ideal) ℓ)

/-- The argument arrays. -/
abbrev X0 (c : Dev nD) : FVec Ideal S8192x1024 .f32 := m ((c : Thread nD τ).loc main_arg0)
abbrev X1 (c : Dev nD) : FVec Ideal S1x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem lt_point (t : Fin cfg0.N) : t.val < 4 := lt_of_lt_of_eq t.isLt N_0

/-- The array's row that a point's row is. -/
abbrev row (t : Fin cfg0.N) (r : Fin 2048) : Fin 8192 := ⟨2048 * t.val + r.val, by have := lt_point t; omega⟩

/-- A row with its norm and the gain. -/
def NV (x : FVec Ideal S8192x1024 .f32) (g : FVec Ideal S1x1024 .f32) (R : Fin 8192) (l : Fin 1024) : EReal :=
  x (ix2 R l) * rs (fun k => x (ix2 R k)) * g (ix2 0 l)

theorem iblk0 (c : Dev nD) (t : Fin cfg0.N) (r : Fin 2048) (l : Fin 1024) : iblk m c 0 t (ix2 r l) = X0 m c (ix2 (row t r) l) := by
  unfold iblk
  rw [show V m c (Pipeline.arrRef spec0 0) = X0 m c from V_main_arg0 m c, View.read_apply]
  rw [show ((cfg0.win 0).blk t).view.emb (ix2 r l) = ix2 (row t r) l by blk_ext [idx t]]
  rfl
theorem iblk1 (c : Dev nD) (t : Fin cfg0.N) (z : Fin 1) (l : Fin 1024) : iblk m c 1 t (ix2 z l) = X1 m c (ix2 z l) := by
  unfold iblk
  rw [show V m c (Pipeline.arrRef spec0 1) = X1 m c from V_main_arg1 m c, View.read_apply]
  rw [show ((cfg0.win 1).blk t).view.emb (ix2 z l) = ix2 z l by blk_ext [idx t]]
  rfl

theorem pay1_at (x : Vec Ideal S2048x1024 .f32) (g : Vec Ideal S1x1024 .f32) (r : Fin 2048) (l : Fin 1024) :
    k0_pay1 (F := Ideal) x g (ix2 r l) = (x (ix2 r l) : EReal) * rs (fun k => x (ix2 r k)) * g (ix2 0 l) := by
  unfold rs msq
  pointwise [k0_pay1]

theorem final2 (c : Dev nD) : (dats m 0 c).arrAt 2 (cfgs 0).N = fun i : S8192x1024.Idx => NV (X0 m c) (X1 m c) (i 0) (i 1) := by
  refine (dats m 0 c).arrAt_eq_of_covers 2 _ (by decide +kernel) fun t hf y => ?_
  blk_simp
  obtain ⟨r, l, rfl⟩ : ∃ (r : Fin 2048) (l : Fin 1024), y = ix2 r l := ⟨y 0, y 1, by blk_ext []⟩
  rw [show ((cfg0.win 2).blk t).view.emb (ix2 r l) = ix2 (row t r) l by blk_ext [idx t]]
  rw [after0_2]
  frame_out
  refine (pay1_at _ _ r l).trans ?_
  simp only [iblk0, iblk1]
  rfl

end Cert.Kernel11Ideal.Value

namespace Cert.Reference11Ideal.Read
open Cert.Reference11Ideal Cert.Reference11Ideal.Gen Cert.Num Finset

theorem v12_at (x0 : FVec Ideal S8192x1024 .f32) (x1 : FVec Ideal S1x1024 .f32) (R : Fin 8192) (l : Fin 1024) :
    val_main_v12 (F := Ideal) x0 x1 (ix2 R l) = Cert.Kernel11Ideal.Value.NV x0 x1 R l := by
  unfold Cert.Kernel11Ideal.Value.NV rs msq
  pointwise [val_main_v12, val_main_v11, val_main_v10, val_main_v9, val_main_v8, val_main_v7, val_main_v6, val_main_v5, val_main_v4, val_main_v3, val_main_v2, val_main_v1, val_main_v0, val_main_cst, val_main_cst_0, val_main_cst_1]

end Cert.Reference11Ideal.Read

namespace Cert.Proof
open Cert.Kernel11Ideal.Value

theorem normf_ref (x0 : FVec Ideal Cert.Reference11Ideal.S8192x1024 .f32) (x1 : FVec Ideal Cert.Reference11Ideal.S1x1024 .f32) :
    Cert.Reference11Ideal.Read.val_main_v12 (F := Ideal) x0 x1 = fun i : Cert.Kernel11Ideal.S8192x1024.Idx => NV x0 x1 (i 0) (i 1) := by
  funext i
  obtain ⟨r, l, rfl⟩ : ∃ (r : Fin 8192) (l : Fin 1024), i = ix2 r l := ⟨i 0, i 1, by blk_ext []⟩
  exact Cert.Reference11Ideal.Read.v12_at x0 x1 r l

/-- Both programs run, and the kernel's result is the norm. -/
theorem normf_algebraic : Cert.algebraic_Kernel11Ideal_Reference11Ideal := fun m ρ m' ρ' _ hag =>
  ⟨fun c => Cert.Reference11Ideal.Read.val_main_v12 (F := Ideal) (X0 m c) (X1 m c),
    (θ_run _ _ _).mono (fun _ h c => ⟨(h c).1.trans ((final2 m c).trans (normf_ref _ _).symm), (h c).2⟩) (Cert.Kernel11Ideal.Value.run_blocks m ρ),
    (θ_run _ _ _).mono (fun _ h c => by
      obtain ⟨h0, h1⟩ := hag c
      exact ⟨(h c).1.trans ((Cert.Reference11Ideal.Read.val_main_v12_eq _ _).trans (by rw [h0, h1])), (h c).2⟩)
      (Cert.Reference11Ideal.Value.run m' ρ')⟩

/-- The reference runs and leaves its arguments as they were. -/
theorem normf_reference : Cert.quiescent_Reference11Ideal := fun m ρ _ =>
  (θ_run _ _ _).mono (fun r h => ⟨fun c => (h c).2, sem_eq_zero_of_no_sems (by decide) r.2⟩) (Cert.Reference11Ideal.Value.run m ρ)

end Cert.Proof

end
-- ==== Proof.Outf.lean ====
module

public import proofs.«01_k».proof.Defs
public import proofs.«01_k».proof.Proof.Gen.Kernel12Ideal.Value
public import proofs.«01_k».proof.Proof.Gen.Kernel12Ideal.Frame
public import proofs.«01_k».proof.Proof.Gen.Kernel12.Frame
public import proofs.«01_k».proof.Proof.Gen.Reference12Ideal.Run
public import proofs.«01_k».proof.Proof.Gen.Reference12Ideal.Read
public import proofs.«01_k».proof.Proof.NormRow
public import Idealize.ShloMosaic.Lib.Pipeline.ValueKit
public import Idealize.ShloMosaic.Lib.Pointwise
public import Idealize.ShloMosaic.Lib.Claim

/-! The mixer's output product with the residual, and its norm. -/

@[expose] public section

set_option maxRecDepth 16384

noncomputable section

open Idealize.ShloMosaic Idealize.ShloMosaic.TcCoe Idealize.SL.Sem
open Idealize.ShloMosaic.Pipeline (Dat)

namespace Cert.Kernel12Ideal.Value
open Cert.Kernel12Ideal Cert.Kernel12Ideal.Gen Finset Cert.Num

variable (m : (ℓ : Loc nD τ sig) → Buf (Elt Ideal) ℓ)

/-- The argument arrays. -/
abbrev X0 (c : Dev nD) : FVec Ideal S8192x1024 .f32 := m ((c : Thread nD τ).loc main_arg0)
abbrev X1 (c : Dev nD) : FVec Ideal S1024x1024 .f32 := m ((c : Thread nD τ).loc main_arg1)
abbrev X2 (c : Dev nD) : FVec Ideal S8192x1024 .f32 := m ((c : Thread nD τ).loc main_arg2)
abbrev X3 (c : Dev nD) : FVec Ideal S1x1024 .f32 := m ((c : Thread nD τ).loc main_arg3)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem lt_point (t : Fin cfg0.N) : t.val < 8 := lt_of_lt_of_eq t.isLt N_0

/-- The array's row that a point's row is. -/
abbrev row (t : Fin cfg0.N) (r : Fin 1024) : Fin 8192 := ⟨1024 * t.val + r.val, by have := lt_point t; omega⟩

/-- The product with the residual. -/
def PO (x : FVec Ideal S8192x1024 .f32) (w : FVec Ideal S1024x1024 .f32) (y : FVec Ideal S8192x1024 .f32) (R : Fin 8192) (l : Fin 1024) : EReal :=
  (∑ k : Fin 1024, (x (ix2 R k) : EReal) * w (ix2 k l)) + y (ix2 R l)
/-- Its norm with the gain. -/
def PN (x : FVec Ideal S8192x1024 .f32) (w : FVec Ideal S1024x1024 .f32) (y : FVec Ideal S8192x1024 .f32) (g : FVec Ideal S1x1024 .f32) (R : Fin 8192) (l : Fin 1024) : EReal :=
  PO x w y R l * rs (PO x w y R) * g (ix2 0 l)

theorem V_x (c : Dev nD) : V m c main_v0 = truncf .bf16 (X0 m c) bitsLt_bf16_f32 := by
  simp only [V]
  entry_read
  rfl
theorem V_w (c : Dev nD) : V m c main_v1 = truncf .bf16 (X1 m c) bitsLt_bf16_f32 := by
  simp only [V]
  entry_read
  rfl

theorem iblk0 (c : Dev nD) (t : Fin cfg0.N) (r l : Fin 1024) : iblk m c 0 t (ix2 r l) = X0 m c (ix2 (row t r) l) := by
  unfold iblk
  rw [show V m c (Pipeline.arrRef spec0 0) = _ from V_x m c, View.read_apply]
  rw [show ((cfg0.win 0).blk t).view.emb (ix2 r l) = ix2 (row t r) l by blk_ext [idx t]]
  rfl
theorem iblk1 (c : Dev nD) (t : Fin cfg0.N) (r l : Fin 1024) : iblk m c 1 t (ix2 r l) = X1 m c (ix2 r l) := by
  unfold iblk
  rw [show V m c (Pipeline.arrRef spec0 1) = _ from V_w m c, View.read_apply]
  rw [show ((cfg0.win 1).blk t).view.emb (ix2 r l) = ix2 r l by blk_ext [idx t]]
  rfl
theorem iblk2 (c : Dev nD) (t : Fin cfg0.N) (r l : Fin 1024) : iblk m c 2 t (ix2 r l) = X2 m c (ix2 (row t r) l) := by
  unfold iblk
  rw [show V m c (Pipeline.arrRef spec0 2) = X2 m c from V_main_arg2 m c, View.read_apply]
  rw [show ((cfg0.win 2).blk t).view.emb (ix2 r l) = ix2 (row t r) l by blk_ext [idx t]]
  rfl
theorem iblk3 (c : Dev nD) (t : Fin cfg0.N) (z : Fin 1) (l : Fin 1024) : iblk m c 3 t (ix2 z l) = X3 m c (ix2 z l) := by
  unfold iblk
  rw [show V m c (Pipeline.arrRef spec0 3) = X3 m c from V_main_arg3 m c, View.read_apply]
  rw [show ((cfg0.win 3).blk t).view.emb (ix2 z l) = ix2 z l by blk_ext [idx t]]
  rfl

theorem pay3_at (w : Vec Ideal S1024x1024 .bf16) (x : Vec Ideal S512x1024 .bf16) (y : Vec Ideal S512x1024 .f32) (r : Fin 512) (l : Fin 1024) :
    k0_pay3 (F := Ideal) w x y (ix2 r l) = (∑ k : Fin 1024, (x (ix2 r k) : EReal) * w (ix2 k l)) + y (ix2 r l) := by
  pointwise [k0_pay3, k0_pay2]

theorem pay4_at (w : Vec Ideal S1024x1024 .bf16) (x : Vec Ideal S512x1024 .bf16) (y : Vec Ideal S512x1024 .f32) (g : Vec Ideal S1x1024 .f32) (r : Fin 512) (l : Fin 1024) :
    k0_pay4 (F := Ideal) w x y g (ix2 r l) = (k0_pay3 (F := Ideal) w x y (ix2 r l) : EReal) * rs (fun k => k0_pay3 (F := Ideal) w x y (ix2 r k)) * g (ix2 0 l) := by
  unfold k0_pay4 rs msq
  generalize k0_pay3 (F := Ideal) w x y = z
  pointwise []

/-- The second half of a block's rows is computed by the same words. -/
theorem second_sum (w : Vec Ideal S1024x1024 .bf16) (x : Vec Ideal S512x1024 .bf16) (y : Vec Ideal S512x1024 .f32) : k0_pay5 (F := Ideal) w x y = k0_pay3 w x y := rfl
theorem second_norm (w : Vec Ideal S1024x1024 .bf16) (x : Vec Ideal S512x1024 .bf16) (y : Vec Ideal S512x1024 .f32) (g : Vec Ideal S1x1024 .f32) :
    k0_pay1 (F := Ideal) g (k0_pay5 w x y) (k0_pay6 w x y) (Scalar.ofBits .f32 0x44800000#32) = k0_pay4 w x y g := rfl

section Half
variable (c : Dev nD) (t : Fin cfg0.N) (x : Vec Ideal S512x1024 .bf16) (y : Vec Ideal S512x1024 .f32) (R : Fin 512 → Fin 8192)
  (hx : ∀ r k, x (ix2 r k) = X0 m c (ix2 (R r) k)) (hy : ∀ r k, y (ix2 r k) = X2 m c (ix2 (R r) k))
include hx hy

theorem half_sum (r : Fin 512) (l : Fin 1024) : k0_pay3 (F := Ideal) (iblk m c 1 t) x y (ix2 r l) = PO (X0 m c) (X1 m c) (X2 m c) (R r) l := by
  rw [pay3_at, hy]
  exact congrArg (fun a : EReal => a + _) (sum_congr rfl fun k _ => congrArg₂ (fun a b : EReal => a * b) (hx r k) (iblk1 m c t k l))

theorem half_norm (r : Fin 512) (l : Fin 1024) : k0_pay4 (F := Ideal) (iblk m c 1 t) x y (iblk m c 3 t) (ix2 r l) = PN (X0 m c) (X1 m c) (X2 m c) (X3 m c) (R r) l := by
  rw [pay4_at]
  simp only [half_sum m c t x y R hx hy]
  exact congrArg (fun b : EReal => _ * b) (iblk3 m c t 0 l)

end Half

theorem final4 (c : Dev nD) : (dats m 0 c).arrAt 4 (cfgs 0).N = fun i : S8192x1024.Idx => PO (X0 m c) (X1 m c) (X2 m c) (i 0) (i 1) := by
  refine (dats m 0 c).arrAt_eq_of_covers 4 _ (by decide +kernel) fun t _ y => ?_
  blk_simp
  obtain ⟨r, l, rfl⟩ : ∃ (r : Fin 1024) (l : Fin 1024), y = ix2 r l := ⟨y 0, y 1, by blk_ext []⟩
  rw [show ((cfg0.win 4).blk t).view.emb (ix2 r l) = ix2 (row t r) l by blk_ext [idx t]]
  rw [after0_4]
  unfold_out out0_4
  frame_out
  canon_tiles x h
  all_goals
    obtain ⟨r', l', rfl⟩ : ∃ (r : Fin 512) (l : Fin 1024), x = ix2 r l := ⟨x 0, x 1, by blk_ext []⟩
    obtain rfl : l = l' := Fin.ext h1
  · have hr : r.val = 512 + r'.val := h0
    rw [second_sum]
    refine (half_sum m c t _ _ (fun r => row t ⟨512 + r.val, by omega⟩) (fun r k => (rows_at _ _ r k ⟨512 + r.val, by omega⟩ rfl).trans (iblk0 m c t _ k)) (fun r k => (rows_at _ _ r k ⟨512 + r.val, by omega⟩ rfl).trans (iblk2 m c t _ k)) r' l).trans ?_
    rw [show (⟨512 + r'.val, by omega⟩ : Fin 1024) = r from Fin.ext hr.symm]
    rfl
  · have hr : r.val = r'.val := h0
    refine (half_sum m c t _ _ (fun r => row t ⟨r.val, by omega⟩) (fun r k => (rows_at (off := 0) _ (iblk m c 0 t) r k ⟨r.val, by omega⟩ (Nat.zero_add r.val).symm).trans (iblk0 m c t _ k)) (fun r k => (rows_at (off := 0) _ (iblk m c 2 t) r k ⟨r.val, by omega⟩ (Nat.zero_add r.val).symm).trans (iblk2 m c t _ k)) r' l).trans ?_
    rw [show (⟨r'.val, by omega⟩ : Fin 1024) = r from Fin.ext hr.symm]
    rfl

theorem final5 (c : Dev nD) : (dats m 0 c).arrAt 5 (cfgs 0).N = fun i : S8192x1024.Idx => PN (X0 m c) (X1 m c) (X2 m c) (X3 m c) (i 0) (i 1) := by
  refine (dats m 0 c).arrAt_eq_of_covers 5 _ (by decide +kernel) fun t _ y => ?_
  blk_simp
  obtain ⟨r, l, rfl⟩ : ∃ (r : Fin 1024) (l : Fin 1024), y = ix2 r l := ⟨y 0, y 1, by blk_ext []⟩
  rw [show ((cfg0.win 5).blk t).view.emb (ix2 r l) = ix2 (row t r) l by blk_ext [idx t]]
  rw [after0_5]
  unfold_out out0_5
  frame_out
  canon_tiles x h
  all_goals
    obtain ⟨r', l', rfl⟩ : ∃ (r : Fin 512) (l : Fin 1024), x = ix2 r l := ⟨x 0, x 1, by blk_ext []⟩
    obtain rfl : l = l' := Fin.ext h1
  · have hr : r.val = 512 + r'.val := h0
    rw [second_norm]
    refine (half_norm m c t _ _ (fun r => row t ⟨512 + r.val, by omega⟩) (fun r k => (rows_at _ _ r k ⟨512 + r.val, by omega⟩ rfl).trans (iblk0 m c t _ k)) (fun r k => (rows_at _ _ r k ⟨512 + r.val, by omega⟩ rfl).trans (iblk2 m c t _ k)) r' l).trans ?_
    rw [show (⟨512 + r'.val, by omega⟩ : Fin 1024) = r from Fin.ext hr.symm]
    rfl
  · have hr : r.val = r'.val := h0
    refine (half_norm m c t _ _ (fun r => row t ⟨r.val, by omega⟩) (fun r k => (rows_at (off := 0) _ (iblk m c 0 t) r k ⟨r.val, by omega⟩ (Nat.zero_add r.val).symm).trans (iblk0 m c t _ k)) (fun r k => (rows_at (off := 0) _ (iblk m c 2 t) r k ⟨r.val, by omega⟩ (Nat.zero_add r.val).symm).trans (iblk2 m c t _ k)) r' l).trans ?_
    rw [show (⟨r'.val, by omega⟩ : Fin 1024) = r from Fin.ext hr.symm]
    rfl

end Cert.Kernel12Ideal.Value

namespace Cert.Reference12Ideal.Read
open Cert.Reference12Ideal Cert.Reference12Ideal.Gen Finset Cert.Num
open Cert.Kernel12Ideal.Value (PO PN)

variable (x0 : FVec Ideal S8192x1024 .f32) (x1 : FVec Ideal S1024x1024 .f32) (x2 : FVec Ideal S8192x1024 .f32) (x3 : FVec Ideal S1x1024 .f32)

theorem v1_at (R : Fin 8192) (l : Fin 1024) : val_main_v1 (F := Ideal) x0 x1 x2 (ix2 R l) = PO x0 x1 x2 R l := by
  unfold PO
  pointwise [val_main_v1, val_main_v0]
  exact add_comm _ _

theorem v1_all : val_main_v1 (F := Ideal) x0 x1 x2 = fun i : S8192x1024.Idx => PO x0 x1 x2 (i 0) (i 1) := by
  funext i
  obtain ⟨r, l, rfl⟩ : ∃ (r : Fin 8192) (l : Fin 1024), i = ix2 r l := ⟨i 0, i 1, by blk_ext []⟩
  exact v1_at x0 x1 x2 r l

theorem v14_at (R : Fin 8192) (l : Fin 1024) : val_main_v14 (F := Ideal) x0 x1 x2 x3 (ix2 R l) = PN x0 x1 x2 x3 R l := by
  unfold PN rs msq
  have h1 := v1_at x0 x1 x2 R
  unfold val_main_v14 val_main_v13 val_main_v12 val_main_v11 val_main_v10 val_main_v9 val_main_v8 val_main_v7 val_main_v6 val_main_v5 val_main_v4 val_main_v3 val_main_v2
  generalize val_main_v1 (F := Ideal) x0 x1 x2 = y at h1 ⊢
  pointwise [val_main_cst, val_main_cst_0, val_main_cst_1]
  simp only [h1]

theorem v14_all : val_main_v14 (F := Ideal) x0 x1 x2 x3 = fun i : S8192x1024.Idx => PN x0 x1 x2 x3 (i 0) (i 1) := by
  funext i
  obtain ⟨r, l, rfl⟩ : ∃ (r : Fin 8192) (l : Fin 1024), i = ix2 r l := ⟨i 0, i 1, by blk_ext []⟩
  exact v14_at x0 x1 x2 x3 r l

end Cert.Reference12Ideal.Read

namespace Cert.Proof
open Cert.Kernel12Ideal.Value

/-- Both programs run, and the kernel's results are the product with the residual and its norm. -/
theorem outf_algebraic : Cert.algebraic_Kernel12Ideal_Reference12Ideal := fun m ρ m' ρ' _ hag =>
  ⟨fun c => Cert.Reference12Ideal.Read.val_main_v1 (F := Ideal) (X0 m c) (X1 m c) (X2 m c), fun c => Cert.Reference12Ideal.Read.val_main_v14 (F := Ideal) (X0 m c) (X1 m c) (X2 m c) (X3 m c),
    (θ_run _ _ _).mono (fun _ h c => ⟨(h c).1.trans ((final4 m c).trans (Cert.Reference12Ideal.Read.v1_all _ _ _).symm),
      (h c).2.1.trans ((final5 m c).trans (Cert.Reference12Ideal.Read.v14_all _ _ _ _).symm), (h c).2.2⟩) (Cert.Kernel12Ideal.Value.run_blocks m ρ),
    (θ_run _ _ _).mono (fun _ h c => by
      obtain ⟨h0, h1, h2, h3⟩ := hag c
      exact ⟨(h c).1.trans ((Cert.Reference12Ideal.Read.val_main_v1_eq _ _ _).trans (by rw [h0, h1, h2])),
        (h c).2.1.trans ((Cert.Reference12Ideal.Read.val_main_v14_eq _ _ _ _).trans (by rw [h0, h1, h2, h3])), (h c).2.2⟩)
      (Cert.Reference12Ideal.Value.run m' ρ')⟩

/-- The reference runs and leaves its arguments as they were. -/
theorem outf_reference : Cert.quiescent_Reference12Ideal := fun m ρ _ =>
  (θ_run _ _ _).mono (fun r h => ⟨fun c => (h c).2.2, sem_eq_zero_of_no_sems (by decide) r.2⟩) (Cert.Reference12Ideal.Value.run m ρ)

end Cert.Proof

end
-- ==== Proof.Upf.lean ====
module

public import proofs.«01_k».proof.Defs
public import proofs.«01_k».proof.Proof.Gen.Kernel13Ideal.Value
public import proofs.«01_k».proof.Proof.Gen.Kernel13Ideal.Frame
public import proofs.«01_k».proof.Proof.Gen.Kernel13.Frame
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim

/-! The squared rectifier of the wide layer's product, and the rectifier itself. -/

@[expose] public section

set_option maxRecDepth 16384

noncomputable section

open Idealize.ShloMosaic Idealize.ShloMosaic.TcCoe Idealize.SL.Sem
open Idealize.ShloMosaic.Pipeline (Dat)

namespace Cert.Kernel13Ideal.Value
open Cert.Kernel13Ideal Cert.Kernel13Ideal.Gen Finset

variable (m : (ℓ : Loc nD τ sig) → Buf (Elt Ideal) ℓ)

/-- The argument arrays. -/
abbrev X0 (c : Dev nD) : FVec Ideal S8192x1024 .f32 := m ((c : Thread nD τ).loc main_arg0)
abbrev X1 (c : Dev nD) : FVec Ideal S1024x4096 .f32 := m ((c : Thread nD τ).loc main_arg1)

theorem idx : ∀ t : Fin cfg0.N, win0_0.index t = ![t.val / 4, 0] ∧ win0_1.index t = ![t.val % 4, 0, 0] ∧ win0_2.index t = ![t.val / 4, t.val % 4] ∧ win0_3.index t = ![t.val / 4, t.val % 4] :=
  (by decide +kernel : ∀ t : Fin grid0.N, _)

theorem lt_point (t : Fin cfg0.N) : t.val < 16 := lt_of_lt_of_eq t.isLt N_0

/-- The row and the column of the arrays that row `r` and column `l` of the block at point `t` are. -/
abbrev row (t : Fin cfg0.N) (r : Fin 2048) : Fin 8192 := ⟨2048 * (t.val / 4) + r.val, by have := lt_point t; omega⟩
abbrev col (t : Fin cfg0.N) (l : Fin 1024) : Fin 4096 := ⟨1024 * (t.val % 4) + l.val, by omega⟩

/-- The rectifier of the product. -/
def RU (x : FVec Ideal S8192x1024 .f32) (w : FVec Ideal S1024x4096 .f32) (R : Fin 8192) (L : Fin 4096) : EReal :=
  max (∑ k : Fin 1024, (x (ix2 R k) : EReal) * w (ix2 k L)) 0

theorem V_w (c : Dev nD) : V m c main_v2 = shapeCast S4x1024x1024 (truncf .bf16 (transpose S4096x1024 [1, 0] (X1 m c) transposes_S1024x4096_S4096x1024_1_0) bitsLt_bf16_f32) shapeCasts_S4096x1024_S4x1024x1024 := by
  simp only [V]
  entry_read
  rfl

theorem V_x (c : Dev nD) : V m c main_v3 = truncf .bf16 (X0 m c) bitsLt_bf16_f32 := by
  simp only [V]
  entry_read
  rfl

theorem iblk0 (c : Dev nD) (t : Fin cfg0.N) (r : Fin 2048) (k : Fin 1024) : iblk m c 0 t (ix2 r k) = X0 m c (ix2 (row t r) k) := by
  unfold iblk
  rw [show V m c (Pipeline.arrRef spec0 0) = _ from V_x m c, View.read_apply]
  rw [show ((cfg0.win 0).blk t).view.emb (ix2 r k) = ix2 (row t r) k by blk_ext [idx t]]
  rfl

theorem iblk1 (c : Dev nD) (t : Fin cfg0.N) (z : Fin 1) (l : Fin 1024) (k : Fin 1024) : iblk m c 1 t (ix3 z l k) = X1 m c (ix2 k (col t l)) := by
  unfold iblk
  rw [show V m c (Pipeline.arrRef spec0 1) = _ from V_w m c, View.read_apply]
  rw [show ((cfg0.win 1).blk t).view.emb (ix3 z l k) = ix3 (⟨t.val % 4, by omega⟩ : Fin 4) l k by blk_ext [idx t]]
  generalize X1 m c = x
  pointwise []
  exact congrArg x (by blk_ext [])

theorem pay1_at (q : Vec Ideal S2048x1024 .bf16) (w : Vec Ideal S1x1024x1024 .bf16) (r : Fin 2048) (l : Fin 1024) :
    k0_pay1 (F := Ideal) q w (ix2 r l) = ∑ k : Fin 1024, (q (ix2 r k) : EReal) * w (ix3 0 l k) := by
  pointwise [k0_pay1]

theorem prod_at (c : Dev nD) (t : Fin cfg0.N) (r : Fin 2048) (l : Fin 1024) :
    max (k0_pay1 (F := Ideal) (iblk m c 0 t) (iblk m c 1 t) (ix2 r l) : EReal) 0 = RU (X0 m c) (X1 m c) (row t r) (col t l) := by
  rw [pay1_at]
  exact congrArg (max · 0) (sum_congr rfl fun k _ => congrArg₂ (fun a b : EReal => a * b) (iblk0 m c t r k) (iblk1 m c t 0 l k))

theorem pay3_at (q : Vec Ideal S2048x1024 .bf16) (w : Vec Ideal S1x1024x1024 .bf16) (r : Fin 2048) (l : Fin 1024) :
    k0_pay3 (F := Ideal) q w (ix2 r l) = max (k0_pay1 (F := Ideal) q w (ix2 r l) : EReal) 0 := by
  unfold k0_pay3
  generalize k0_pay1 (F := Ideal) q w = z
  pointwise []

theorem pay2_at (q : Vec Ideal S2048x1024 .bf16) (w : Vec Ideal S1x1024x1024 .bf16) (r : Fin 2048) (l : Fin 1024) :
    k0_pay2 (F := Ideal) q w (ix2 r l) = max (k0_pay1 (F := Ideal) q w (ix2 r l) : EReal) 0 * max (k0_pay1 (F := Ideal) q w (ix2 r l) : EReal) 0 := by
  unfold k0_pay2
  generalize k0_pay1 (F := Ideal) q w = z
  pointwise []

theorem final2 (c : Dev nD) : (dats m 0 c).arrAt 2 (cfgs 0).N
    = fun i : S8192x4096.Idx => RU (X0 m c) (X1 m c) (i 0) (i 1) * RU (X0 m c) (X1 m c) (i 0) (i 1) := by
  refine (dats m 0 c).arrAt_eq_of_covers 2 _ (by decide +kernel) fun t _ y => ?_
  blk_simp
  obtain ⟨r, l, rfl⟩ : ∃ (r : Fin 2048) (l : Fin 1024), y = ix2 r l := ⟨y 0, y 1, by blk_ext []⟩
  rw [show ((cfg0.win 2).blk t).view.emb (ix2 r l) = ix2 (row t r) (col t l) by blk_ext [idx t]]
  rw [after0_2]
  frame_out
  refine (pay2_at _ _ r l).trans ?_
  rw [prod_at]
  rfl

theorem final3 (c : Dev nD) : (dats m 0 c).arrAt 3 (cfgs 0).N = fun i : S8192x4096.Idx => RU (X0 m c) (X1 m c) (i 0) (i 1) := by
  refine (dats m 0 c).arrAt_eq_of_covers 3 _ (by decide +kernel) fun t _ y => ?_
  blk_simp
  obtain ⟨r, l, rfl⟩ : ∃ (r : Fin 2048) (l : Fin 1024), y = ix2 r l := ⟨y 0, y 1, by blk_ext []⟩
  rw [show ((cfg0.win 3).blk t).view.emb (ix2 r l) = ix2 (row t r) (col t l) by blk_ext [idx t]]
  rw [after0_3]
  frame_out
  refine (pay3_at _ _ r l).trans ?_
  rw [prod_at]
  rfl

end Cert.Kernel13Ideal.Value

namespace Cert.Reference13Ideal.Read
open Cert.Reference13Ideal Cert.Reference13Ideal.Gen Finset
open Cert.Kernel13Ideal.Value (RU)

variable (x0 : FVec Ideal S8192x1024 .f32) (x1 : FVec Ideal S1024x4096 .f32)

theorem v1_at (R : Fin 8192) (L : Fin 4096) : val_main_v1 (F := Ideal) x0 x1 (ix2 R L) = RU x0 x1 R L := by
  unfold RU
  pointwise [val_main_v1, val_main_v0, val_main_call0_v0, val_main_call0_cst]

theorem v3_eq : val_main_v3 (F := Ideal) x0 x1 = fun i : S8192x4096.Idx => RU x0 x1 (i 0) (i 1) * RU x0 x1 (i 0) (i 1) := by
  funext i
  obtain ⟨r, l, rfl⟩ : ∃ (r : Fin 8192) (l : Fin 4096), i = ix2 r l := ⟨i 0, i 1, by blk_ext []⟩
  rw [val_main_v3_apply, val_main_v2_apply, v1_at]
  rfl

theorem v4_eq : val_main_v4 (F := Ideal) x0 x1 = fun i : S8192x4096.Idx => RU x0 x1 (i 0) (i 1) := by
  funext i
  obtain ⟨r, l, rfl⟩ : ∃ (r : Fin 8192) (l : Fin 4096), i = ix2 r l := ⟨i 0, i 1, by blk_ext []⟩
  rw [val_main_v4_apply, v1_at]
  rfl

end Cert.Reference13Ideal.Read

namespace Cert.Proof
open Cert.Kernel13Ideal.Value

/-- Both programs run, and the kernel's results are the squared rectifier and the rectifier. -/
theorem upf_algebraic : Cert.algebraic_Kernel13Ideal_Reference13Ideal := fun m ρ m' ρ' _ hag =>
  ⟨fun c => Cert.Reference13Ideal.Read.val_main_v3 (F := Ideal) (X0 m c) (X1 m c), fun c => Cert.Reference13Ideal.Read.val_main_v4 (F := Ideal) (X0 m c) (X1 m c),
    (θ_run _ _ _).mono (fun _ h c => ⟨(h c).1.trans ((final2 m c).trans (Cert.Reference13Ideal.Read.v3_eq _ _).symm),
      (h c).2.1.trans ((final3 m c).trans (Cert.Reference13Ideal.Read.v4_eq _ _).symm), (h c).2.2⟩) (Cert.Kernel13Ideal.Value.run_blocks m ρ),
    (θ_run _ _ _).mono (fun _ h c => by
      obtain ⟨h0, h1⟩ := hag c
      exact ⟨(h c).1.trans ((Cert.Reference13Ideal.Read.val_main_v3_eq _ _).trans (by rw [h0, h1])),
        (h c).2.1.trans ((Cert.Reference13Ideal.Read.val_main_v4_eq _ _).trans (by rw [h0, h1])), (h c).2.2⟩)
      (Cert.Reference13Ideal.Value.run m' ρ')⟩

/-- The reference runs and leaves its arguments as they were. -/
theorem upf_reference : Cert.quiescent_Reference13Ideal := fun m ρ _ =>
  (θ_run _ _ _).mono (fun r h => ⟨fun c => (h c).2.2, sem_eq_zero_of_no_sems (by decide) r.2⟩) (Cert.Reference13Ideal.Value.run m ρ)

end Cert.Proof

end
-- ==== Proof.GatfWords.lean ====
module

public import proofs.«01_k».proof.Defs
public import proofs.«01_k».proof.Proof.Gen.Kernel14Ideal.Value
public import proofs.«01_k».proof.Proof.Gen.Kernel14Ideal.Frame
public import proofs.«01_k».proof.Proof.Gen.Kernel14.Frame
public import proofs.«01_k».proof.Proof.Gen.Reference14Ideal.Run
public import proofs.«01_k».proof.Proof.Gen.Reference14Ideal.Read
public import proofs.«01_k».proof.Proof.GateRef
public import Idealize.ShloMosaic.Lib.Pipeline.ValueKit
public import Idealize.ShloMosaic.Lib.Pointwise
public import Idealize.ShloMosaic.Lib.Claim

/-! The forward decay gates: the words of the body. -/

@[expose] public section

set_option maxRecDepth 16384

noncomputable section

open Idealize.ShloMosaic Idealize.ShloMosaic.TcCoe Idealize.SL.Sem
open Idealize.ShloMosaic.Pipeline (Dat)

namespace Cert.Gate
open Finset Cert.Num

/-- The log-sigmoid over 16 of a gate's low-rank product. -/
def lg (x : FVec Ideal SL .f32) (w : FVec Ideal SW .f32) (b : FVec Ideal SB .f32) (R : Fin 8192) (j : Fin 256) : EReal :=
  -(sp (-(spre x w b R j))) * ((1 / 16 : ℝ) : EReal)

/-- Its sums over the beginning of each chunk, and over the rest of each chunk. -/
def sumF (x : FVec Ideal SL .f32) (w : FVec Ideal SW .f32) (b : FVec Ideal SB .f32) (R : Fin 8192) (j : Fin 256) : EReal :=
  past 64 (colR (fun i => lg x w b (i 0) (i 1)) j) R.val
def sumB (x : FVec Ideal SL .f32) (w : FVec Ideal SW .f32) (b : FVec Ideal SB .f32) (R : Fin 8192) (j : Fin 256) : EReal :=
  rest 64 (colR (fun i => lg x w b (i 0) (i 1)) j) R.val

theorem max_zero_neg (p : EReal) : -(max (-p) 0) = min p 0 := by
  rcases le_total p 0 with h | h
  · rw [min_eq_left h, max_eq_left (EReal.neg_nonneg.mpr h), neg_neg]
  · rw [min_eq_right h, max_eq_right (EReal.neg_le_zero.mpr h), neg_zero]

/-- The log-sigmoid as the kernel writes it. -/
theorem ls_eq (p : EReal) : min p 0 - Ideal.log (1 + Ideal.exp (0 - max p (-p))) = -(sp (-p)) := by
  induction p with
  | bot => simp [sp, Ideal.log1p, exp_bot, log_one]
  | top => simp [sp, Ideal.log1p, exp_bot, log_one]
  | coe x =>
    have h1 : (1 : EReal) + ((Real.exp (-|x|) : ℝ) : EReal) = ((1 + Real.exp (-|x|) : ℝ) : EReal) := by push_cast; rfl
    have hp : (0 : ℝ) < 1 + Real.exp (-|x|) := by positivity
    have h2 : max (-(x : EReal)) (-(-(x : EReal))) = ((|x| : ℝ) : EReal) := by rw [neg_neg, max_comm, max_neg_coe]
    unfold sp Ideal.log1p
    rw [h2, max_neg_coe, zero_sub, ← EReal.coe_neg, Ideal.exp_coe, h1, Ideal.log_coe, if_neg (not_le.mpr hp), ← EReal.coe_neg, ← max_zero_neg,
      ← EReal.coe_zero, ← EReal.coe_neg, max_coe, ← EReal.coe_neg, ← EReal.coe_sub, ← EReal.coe_add, ← EReal.coe_neg]
    exact congrArg (fun x : ℝ => (x : EReal)) (by ring)

end Cert.Gate

namespace Cert.Kernel14Ideal.Value
open Cert.Kernel14Ideal Cert.Kernel14Ideal.Gen Cert.Gate Finset

theorem low6 : ∀ r : Fin 2048, IntOp.andi (BitVec.ofNat 32 r.val) 63#32 = BitVec.ofNat 32 (r.val % 64) := by
  decide +kernel

theorem ge_at : ∀ r : Fin 64, ∀ n ∈ [1, 2, 4, 8, 16, 32], IntOp.cmpi .sge (BitVec.ofNat 32 r.val) (BitVec.ofNat 32 n) = 1 ↔ n ≤ r.val := by
  decide +kernel

theorem lt_at : ∀ r : Fin 64, ∀ n ∈ [1, 2, 4, 8, 16, 32], IntOp.cmpi .slt (BitVec.ofNat 32 r.val) (BitVec.ofNat 32 (64 - n)) = 1 ↔ r.val + n < 64 := by
  decide +kernel

/-- Column `j` of a block. -/
def col (v : FVec Ideal S2048x256 .f32) (j : Fin 256) (n : ℕ) : EReal := if h : n < 2048 then v (ix2 ⟨n, h⟩ j) else 0

/-- One step of a doubling: the block moved by some rows, where the mask says so, is added to it. -/
def step (p : CmpIPredicate) (lim rot : BitVec 32) (v : FVec Ideal S2048x256 .f32) : FVec Ideal S2048x256 .f32 :=
  addf v (select (cmpi p k0_pay2 (broadcast S2048x256 lim)) (dynamicRotate 0 rot none v rotates_S2048x256_d0) (broadcast _ (Scalar.ofBits .f32 0x00000000#32)))

theorem step_at (p : CmpIPredicate) (lim : BitVec 32) (k : ℕ) (hk : k < 2048) (v : FVec Ideal S2048x256 .f32) (r : Fin 2048) (j : Fin 256) :
    step p lim (BitVec.ofNat 32 k) v (ix2 r j)
      = v (ix2 r j) + Scalar.select (IntOp.cmpi p (BitVec.ofNat 32 (r.val % 64)) lim) (v (ix2 ⟨(r.val + 2048 - k) % 2048, Nat.mod_lt _ (by decide)⟩ j)) 0 := by
  have hr : dynamicRotate 0 (BitVec.ofNat 32 k) none v rotates_S2048x256_d0 (ix2 r j) = v (ix2 ⟨(r.val + 2048 - k) % 2048, Nat.mod_lt _ (by decide)⟩ j) :=
    dynamicRotate_apply 0 _ v _ _ _ fun b => by
      match b with
      | 0 =>
        show (r.val + 2048 - k) % 2048 = (r.val + 2048 - (BitVec.ofNat 32 k).toNat % 2048) % 2048
        rw [BitVec.toNat_ofNat, Nat.mod_mod_of_dvd _ (by decide), Nat.mod_eq_of_lt hk]
      | 1 => rfl
  unfold step
  rw [← hr, ← low6]
  pointwise [k0_pay2]

theorem past_at (n : ℕ) (hn : n ∈ [1, 2, 4, 8, 16, 32]) {v : FVec Ideal S2048x256 .f32} {f : ℕ → EReal} {j : Fin 256}
    (hv : ∀ r : Fin 2048, v (ix2 r j) = past n f r.val) (r : Fin 2048) :
    step .sge (BitVec.ofNat 32 n) (BitVec.ofNat 32 n) v (ix2 r j) = past (n + n) f r.val := by
  have hle : 1 ≤ n ∧ n ≤ 32 := by clear hv; revert n; decide
  rw [step_at _ _ n (by omega)]
  refine past_step hv r _ _ (ge_at ⟨r.val % 64, Nat.mod_lt _ (by decide)⟩ n hn) fun h => ?_
  show (r.val + 2048 - n) % 2048 = _
  have := Nat.mod_le r.val 64
  omega

theorem rest_at (n : ℕ) (hn : n ∈ [1, 2, 4, 8, 16, 32]) {v : FVec Ideal S2048x256 .f32} {f : ℕ → EReal} {j : Fin 256}
    (hv : ∀ r : Fin 2048, v (ix2 r j) = rest n f r.val) (r : Fin 2048) :
    step .slt (BitVec.ofNat 32 (64 - n)) (BitVec.ofNat 32 (2048 - n)) v (ix2 r j) = rest (n + n) f r.val := by
  have hle : 1 ≤ n ∧ n ≤ 32 := by clear hv; revert n; decide
  rw [step_at _ _ (2048 - n) (by omega)]
  refine rest_step hv r _ _ (lt_at ⟨r.val % 64, Nat.mod_lt _ (by decide)⟩ n hn) fun h => ?_
  show (r.val + 2048 - (2048 - n)) % 2048 = _
  omega

theorem past_all (v : FVec Ideal S2048x256 .f32) (r : Fin 2048) (j : Fin 256) :
    step .sge 32#32 32#32 (step .sge 16#32 16#32 (step .sge 8#32 8#32 (step .sge 4#32 4#32 (step .sge 2#32 2#32 (step .sge 1#32 1#32 v))))) (ix2 r j)
      = past 64 (col v j) r.val :=
  past_at 32 (by decide) (past_at 16 (by decide) (past_at 8 (by decide) (past_at 4 (by decide) (past_at 2 (by decide)
    (past_at 1 (by decide) (fun r => by rw [past_one, col, dif_pos r.isLt])))))) r

theorem rest_all (v : FVec Ideal S2048x256 .f32) (r : Fin 2048) (j : Fin 256) :
    step .slt 32#32 2016#32 (step .slt 48#32 2032#32 (step .slt 56#32 2040#32 (step .slt 60#32 2044#32 (step .slt 62#32 2046#32 (step .slt 63#32 2047#32 v))))) (ix2 r j)
      = rest 64 (col v j) r.val :=
  rest_at 32 (by decide) (rest_at 16 (by decide) (rest_at 8 (by decide) (rest_at 4 (by decide) (rest_at 2 (by decide)
    (rest_at 1 (by decide) (fun r => by rw [rest_one, col, dif_pos r.isLt])))))) r

/-- The low-rank product of a block, with the bias. -/
def pre (v : FVec Ideal S2048x128 .f32) (w : Vec Ideal S128x256 .bf16) (b : Vec Ideal S1x256 .f32) : FVec Ideal S2048x256 .f32 :=
  addf (matmul dot_S2048x128_S128x256_S2048x256_1_0_0_1_n_n none (truncf .bf16 v bitsLt_bf16_f32 : FVec Ideal S2048x128 .bf16) (shapeCast S128x256 w shapeCasts_S128x256_S128x256 : FVec Ideal S128x256 .bf16)
    (constant S2048x256 .f32 0x00000000#32)) (broadcastTo S2048x256 b broadcasts_S1x256_S2048x256)

/-- The log-sigmoid over 16, as the kernel writes it. -/
def lsv (p : FVec Ideal S2048x256 .f32) : FVec Ideal S2048x256 .f32 :=
  mulf (subf (minimumf p (broadcast S2048x256 (Scalar.ofBits .f32 0x00000000#32)))
    (log (addf (broadcast S2048x256 (Scalar.ofBits .f32 0x3F800000#32)) (exp (subf (broadcast S2048x256 (Scalar.ofBits .f32 0x00000000#32)) (absf p))))))
    (broadcast S2048x256 (Scalar.ofBits .f32 0x3D800000#32))

theorem lsv_at (p : FVec Ideal S2048x256 .f32) (i : S2048x256.Idx) : lsv p i = -(sp (-(p i))) * ((1 / 16 : ℝ) : EReal) := by
  rw [← ls_eq, ← Cert.Num.sixteenth]
  unfold lsv
  pointwise []
  rfl

theorem pre_at (v : FVec Ideal S2048x128 .f32) (w : Vec Ideal S128x256 .bf16) (b : Vec Ideal S1x256 .f32) (r : Fin 2048) (j : Fin 256) :
    pre (k0_pay1 (F := Ideal) v) w b (ix2 r j) = (∑ k : Fin 128, v (ix2 r k) * (w (ix2 k j) : EReal)) + b (ix2 0 j) := by
  unfold pre k0_pay1
  pointwise []

theorem f_at (v : FVec Ideal S2048x128 .f32) (w : Vec Ideal S128x256 .bf16) (b : Vec Ideal S1x256 .f32) (r : Fin 2048) (j : Fin 256) :
    k0_pay6 (F := Ideal) k0_pay2 (k0_pay3 v w b) k0_pay4 (k0_pay5 v w b) (ix2 r j) = past 64 (col (lsv (pre (k0_pay1 v) w b)) j) r.val := by
  rw [← past_all]
  rfl

theorem b_at (v : FVec Ideal S2048x128 .f32) (w : Vec Ideal S128x256 .bf16) (b : Vec Ideal S1x256 .f32) (r : Fin 2048) (j : Fin 256) :
    k0_pay8 (F := Ideal) k0_pay2 (k0_pay7 (k0_pay1 v) w b) (ix2 r j) = rest 64 (col (lsv (pre (k0_pay1 v) w b)) j) r.val := by
  rw [← rest_all]
  rfl

end Cert.Kernel14Ideal.Value

end
-- ==== Proof.Gatf.lean ====
module

public import proofs.«01_k».proof.Defs
public import proofs.«01_k».proof.Proof.Gen.Kernel14Ideal.Value
public import proofs.«01_k».proof.Proof.Gen.Kernel14Ideal.Frame
public import proofs.«01_k».proof.Proof.Gen.Kernel14.Frame
public import proofs.«01_k».proof.Proof.Gen.Reference14Ideal.Run
public import proofs.«01_k».proof.Proof.Gen.Reference14Ideal.Read
public import proofs.«01_k».proof.Proof.GatfWords
public import Idealize.ShloMosaic.Lib.Pipeline.ValueKit
public import Idealize.ShloMosaic.Lib.Pointwise
public import Idealize.ShloMosaic.Lib.Claim
public import Idealize.ShloMosaic.Lib.StableHlo.RunRead

/-! The forward decay gates of both directions, summed within chunks of 64 rows. -/

@[expose] public section

set_option maxRecDepth 16384

noncomputable section

open Idealize.ShloMosaic Idealize.ShloMosaic.TcCoe Idealize.SL.Sem
open Idealize.ShloMosaic.Pipeline (Dat)

namespace Cert.Kernel14Ideal.Value
open Cert.Kernel14Ideal Cert.Kernel14Ideal.Gen Cert.Gate Finset

variable (m : (ℓ : Loc nD τ sig) → Buf (Elt Ideal) ℓ)

/-- The argument arrays. -/
abbrev X0 (c : Dev nD) : FVec Ideal S8192x16 .f32 := m ((c : Thread nD τ).loc main_arg0)
abbrev X1 (c : Dev nD) : FVec Ideal S8192x16 .f32 := m ((c : Thread nD τ).loc main_arg1)
abbrev X2 (c : Dev nD) : FVec Ideal S16x256 .f32 := m ((c : Thread nD τ).loc main_arg2)
abbrev X3 (c : Dev nD) : FVec Ideal S1x256 .f32 := m ((c : Thread nD τ).loc main_arg3)
abbrev X4 (c : Dev nD) : FVec Ideal S16x256 .f32 := m ((c : Thread nD τ).loc main_arg4)
abbrev X5 (c : Dev nD) : FVec Ideal S1x256 .f32 := m ((c : Thread nD τ).loc main_arg5)

theorem idx : ∀ t : Fin cfg0.N, win0_0.index t = ![t.val, 8] ∧ win0_1.index t = ![0, 0] ∧ win0_2.index t = ![0, 0] ∧ win0_3.index t = ![0, 0] ∧ win0_4.index t = ![0, 0]
  ∧ win0_5.index t = ![t.val, 0] ∧ win0_6.index t = ![t.val, 0] :=
  (by decide +kernel : ∀ t : Fin grid0.N, _)

theorem lt_point (t : Fin cfg0.N) : t.val < 4 := lt_of_lt_of_eq t.isLt N_0

/-- The row of the arrays that row `r` of the block at point `t` is. -/
abbrev row (t : Fin cfg0.N) (r : Fin 2048) : Fin 8192 := ⟨2048 * t.val + r.val, by have := lt_point t; omega⟩

/-- The host operations before the region. -/
abbrev ops : List (HloOp τ sig (Elt Ideal)) := [hostOps0, hostOps0_1, hostOps0_2, hostOps0_3, hostOps0_4].flatten

/-- The low-rank columns the blocks are of, between columns of zeros. -/
def packed (x y : FVec Ideal S8192x16 .f32) (p : S8192x1024.Idx → EReal) (q : S8192x96.Idx → EReal) : FVec Ideal S8192x1152 .f32 :=
  concatenate S8192x1152 1 [⟨S8192x1024, p⟩, ⟨S8192x16, x⟩, ⟨S8192x16, y⟩, ⟨S8192x96, q⟩] concatenates_S8192x1024_S8192x16_S8192x16_S8192x96_S8192x1152_d1

theorem packed_congr {x x' y y' : FVec Ideal S8192x16 .f32} {p p' : S8192x1024.Idx → EReal} {q q' : S8192x96.Idx → EReal} (hp : p = p') (hx : x = x') (hy : y = y') (hq : q = q') :
    packed x y p q = packed x' y' p' q' := by
  rw [hx, hy, hp, hq]

theorem V_z (c : Dev nD) : V m c main_v2 = packed (X0 m c) (X1 m c) (fun _ => 0) fun _ => 0 := by
  refine (StableHlo.after_last_write (i := 4) [main_c, main_call0_v0, main_v3, main_v4, main_c_1, main_call1_v0, main_v5, main_v6] rfl rfl (by decide) _).trans ?_
  rw [StableHlo.nary_result']
  have h0 : StableHlo.upto ops (fun b => m (c, b)) 4 (Proc.devRef .tc main_v0) = fun _ => (0 : EReal) := by
    refine (StableHlo.upto_last_write (i := 1) [main_cst_0, main_v1] rfl rfl (by decide) _).trans ?_
    rw [StableHlo.unary_result', show StableHlo.upto ops (fun b => m (c, b)) 1 (Proc.devRef .tc main_cst) = _ from
      (StableHlo.upto_last_write (i := 0) [] rfl rfl (by decide) _).trans (StableHlo.nullary_result' _ _ _)]
    funext i
    pointwise []
  have h3 : StableHlo.upto ops (fun b => m (c, b)) 4 (Proc.devRef .tc main_v1) = fun _ => (0 : EReal) := by
    refine (StableHlo.upto_last_write (i := 3) [] rfl rfl (by decide) _).trans ?_
    rw [StableHlo.unary_result', show StableHlo.upto ops (fun b => m (c, b)) 3 (Proc.devRef .tc main_cst_0) = _ from
      (StableHlo.upto_last_write (i := 2) [] rfl rfl (by decide) _).trans (StableHlo.nullary_result' _ _ _)]
    funext i
    pointwise []
  exact packed_congr h0 (StableHlo.upto_unwritten [main_cst, main_v0, main_cst_0, main_v1] rfl (by decide) _) (StableHlo.upto_unwritten [main_cst, main_v0, main_cst_0, main_v1] rfl (by decide) _) h3

theorem V_wf (c : Dev nD) : V m c main_v4 = truncf .bf16 (pad S128x256 ![0, 0] ![112, 0] ![0, 0] (X2 m c)
    (sitofp .f32 (constantI S_ 32 0#32) : FVec Ideal S_ .f32) pads_S16x256_S128x256_01120_000 h_S_) bitsLt_bf16_f32 := by
  simp only [V, List.flatten_cons, List.flatten_nil, List.cons_append, List.nil_append]
  entry_read
  rfl

theorem V_wb (c : Dev nD) : V m c main_v6 = truncf .bf16 (pad S128x256 ![16, 0] ![96, 0] ![0, 0] (X4 m c)
    (sitofp .f32 (constantI S_ 32 0#32) : FVec Ideal S_ .f32) pads_S16x256_S128x256_16960_000 h_S_) bitsLt_bf16_f32 := by
  simp only [V, List.flatten_cons, List.flatten_nil, List.cons_append, List.nil_append]
  entry_read
  rfl

/-- The low-rank columns of both directions side by side, and zeros after them. -/
def lr (x y : FVec Ideal S8192x16 .f32) (R : Fin 8192) (l : Fin 128) : EReal :=
  if h : l.val < 16 then x (ix2 R ⟨l.val, h⟩) else if h : l.val - 16 < 16 then y (ix2 R ⟨l.val - 16, h⟩) else 0

/-- Weights as rows from `a` on, and zeros in the other rows. -/
def wt (a : ℕ) (w : FVec Ideal S16x256 .f32) (k : Fin 128) (j : Fin 256) : EReal :=
  if h : a ≤ k.val ∧ k.val - a < 16 then w (ix2 ⟨k.val - a, h.2⟩ j) else 0

theorem iblk0 (c : Dev nD) (t : Fin cfg0.N) (r : Fin 2048) (l : Fin 128) : iblk m c 0 t (ix2 r l) = lr (X0 m c) (X1 m c) (row t r) l := by
  unfold iblk
  rw [show V m c (Pipeline.arrRef spec0 0) = _ from V_z m c, View.read_apply]
  rw [show ((cfg0.win 0).blk t).view.emb (ix2 r l) = ix2 (row t r) (⟨1024 + l.val, by omega⟩ : Fin 1152) by blk_ext [idx t]]
  unfold packed
  pointwise []
  rfl

theorem iblk1 (c : Dev nD) (t : Fin cfg0.N) (k : Fin 128) (j : Fin 256) : iblk m c 1 t (ix2 k j) = wt 0 (X2 m c) k j := by
  unfold iblk
  rw [show V m c (Pipeline.arrRef spec0 1) = _ from V_wf m c, View.read_apply]
  rw [show ((cfg0.win 1).blk t).view.emb (ix2 k j) = (ix2 k j : S128x256.Idx) by blk_ext [idx t]]
  unfold wt
  generalize X2 m c = w
  pointwise []
  by_cases h : k.val < 16
  · rw [dif_pos (by omega), dif_pos (by omega)]
    rfl
  · rw [dif_neg (by omega), dif_neg (by omega)]
    exact (sitofp_zero : (Scalar.sitofp FTy.f32 0#32 : Ideal .f32) = 0)

theorem iblk2 (c : Dev nD) (t : Fin cfg0.N) (k : Fin 128) (j : Fin 256) : iblk m c 2 t (ix2 k j) = wt 16 (X4 m c) k j := by
  unfold iblk
  rw [show V m c (Pipeline.arrRef spec0 2) = _ from V_wb m c, View.read_apply]
  rw [show ((cfg0.win 2).blk t).view.emb (ix2 k j) = (ix2 k j : S128x256.Idx) by blk_ext [idx t]]
  unfold wt
  generalize X4 m c = w
  pointwise []
  exact dite_congr rfl (fun _ => rfl) (fun _ => (sitofp_zero : (Scalar.sitofp FTy.f32 0#32 : Ideal .f32) = 0))

theorem iblk3 (c : Dev nD) (t : Fin cfg0.N) (z : Fin 1) (j : Fin 256) : iblk m c 3 t (ix2 z j) = X3 m c (ix2 z j) := by
  unfold iblk
  rw [show V m c (Pipeline.arrRef spec0 3) = _ from V_main_arg3 m c]
  blk_ext [idx t]

theorem iblk4 (c : Dev nD) (t : Fin cfg0.N) (z : Fin 1) (j : Fin 256) : iblk m c 4 t (ix2 z j) = X5 m c (ix2 z j) := by
  unfold iblk
  rw [show V m c (Pipeline.arrRef spec0 4) = _ from V_main_arg5 m c]
  blk_ext [idx t]

/-- A sum over 128 columns is one over the 16 of them that are not zero. -/
theorem sum_part (a : ℕ) (ha : a + 16 ≤ 128) (f : Fin 128 → EReal) (g : Fin 16 → EReal) (hf : ∀ k : Fin 128, ¬ (a ≤ k.val ∧ k.val - a < 16) → f k = 0)
    (hg : ∀ k : Fin 16, f ⟨a + k.val, by omega⟩ = g k) : ∑ k, f k = ∑ k, g k := by
  refine ((sum_of_injOn (s := univ) (t := univ) (fun k : Fin 16 => (⟨a + k.val, by omega⟩ : Fin 128)) (fun x _ y _ h => Fin.ext (by simpa using h))
    (fun _ _ => mem_coe.mpr (mem_univ _)) (fun k _ hk => hf k fun h => hk ⟨⟨k.val - a, h.2⟩, by simp, Fin.ext (by simp; omega)⟩) fun k _ => (hg k).symm)).symm

theorem sum_f (x y : FVec Ideal S8192x16 .f32) (w : FVec Ideal S16x256 .f32) (R : Fin 8192) (j : Fin 256) :
    ∑ k : Fin 128, lr x y R k * wt 0 w k j = ∑ k : Fin 16, x (ix2 R k) * (w (ix2 k j) : EReal) := by
  refine sum_part 0 (by decide) _ _ (fun k h => by rw [wt, dif_neg h, mul_zero]) fun k => ?_
  have h : (⟨0 + k.val, by omega⟩ : Fin 128) = ⟨k.val, by omega⟩ := Fin.ext (Nat.zero_add _)
  rw [h]
  unfold lr wt
  rw [dif_pos k.isLt, dif_pos ⟨Nat.zero_le _, by simp⟩]
  rfl

theorem sum_b (x y : FVec Ideal S8192x16 .f32) (w : FVec Ideal S16x256 .f32) (R : Fin 8192) (j : Fin 256) :
    ∑ k : Fin 128, lr x y R k * wt 16 w k j = ∑ k : Fin 16, y (ix2 R k) * (w (ix2 k j) : EReal) := by
  refine sum_part 16 (by decide) _ _ (fun k h => by rw [wt, dif_neg h, mul_zero]) fun k => ?_
  have h : 16 + k.val - 16 = k.val := by omega
  unfold lr wt
  simp only [h]
  rw [dif_neg (by omega), dif_pos k.isLt, dif_pos ⟨by omega, k.isLt⟩]

theorem pre_f (c : Dev nD) (t : Fin cfg0.N) (r : Fin 2048) (j : Fin 256) :
    pre (k0_pay1 (F := Ideal) (iblk m c 0 t)) (iblk m c 1 t) (iblk m c 3 t) (ix2 r j) = spre (X0 m c) (X2 m c) (X3 m c) (row t r) j := by
  rw [pre_at, iblk3]
  refine congrArg (· + _) (Eq.trans (sum_congr rfl fun k _ => ?_) (sum_f (X0 m c) (X1 m c) (X2 m c) (row t r) j))
  rw [iblk0, iblk1]

theorem pre_b (c : Dev nD) (t : Fin cfg0.N) (r : Fin 2048) (j : Fin 256) :
    pre (k0_pay1 (F := Ideal) (iblk m c 0 t)) (iblk m c 2 t) (iblk m c 4 t) (ix2 r j) = spre (X1 m c) (X4 m c) (X5 m c) (row t r) j := by
  rw [pre_at, iblk4]
  refine congrArg (· + _) (Eq.trans (sum_congr rfl fun k _ => ?_) (sum_b (X0 m c) (X1 m c) (X4 m c) (row t r) j))
  rw [iblk0, iblk2]

/-- A column of a block is a stretch of the column of the array. -/
theorem col_eq (v : FVec Ideal S2048x256 .f32) (w : FVec Ideal S8192x256 .f32) (t : Fin cfg0.N) (j : Fin 256) (hv : ∀ r, v (ix2 r j) = w (ix2 (row t r) j))
    (r : Fin 2048) (i : ℕ) (hi : i / 64 = r.val / 64) : col v j i = colR w j (2048 * t.val + i) := by
  have := lt_point t
  rw [col, dif_pos (by omega), colR, dif_pos (by omega), hv]

theorem final5 (c : Dev nD) : (dats m 0 c).arrAt 5 (cfgs 0).N = fun i : S8192x256.Idx => sumF (X0 m c) (X2 m c) (X3 m c) (i 0) (i 1) := by
  refine (dats m 0 c).arrAt_eq_of_covers 5 _ (by decide +kernel) fun t hf y => ?_
  blk_simp
  obtain ⟨r, j, rfl⟩ : ∃ (r : Fin 2048) (j : Fin 256), y = ix2 r j := ⟨y 0, y 1, by blk_ext []⟩
  rw [show ((cfg0.win 5).blk t).view.emb (ix2 r j) = ix2 (row t r) j by blk_ext [idx t]]
  rw [after0_5]
  unfold_out out0_5
  frame_out
  refine (f_at _ _ _ r j).trans ?_
  refine Eq.trans ?_ (past_shift 64 _ (2048 * t.val) r.val (by omega)).symm
  refine past_congr _ _ _ _ fun i hi => col_eq _ _ t j (fun q => ?_) r i hi
  rw [lsv_at, pre_f]
  rfl

theorem final6 (c : Dev nD) : (dats m 0 c).arrAt 6 (cfgs 0).N = fun i : S8192x256.Idx => sumB (X1 m c) (X4 m c) (X5 m c) (i 0) (i 1) := by
  refine (dats m 0 c).arrAt_eq_of_covers 6 _ (by decide +kernel) fun t hf y => ?_
  blk_simp
  obtain ⟨r, j, rfl⟩ : ∃ (r : Fin 2048) (j : Fin 256), y = ix2 r j := ⟨y 0, y 1, by blk_ext []⟩
  rw [show ((cfg0.win 6).blk t).view.emb (ix2 r j) = ix2 (row t r) j by blk_ext [idx t]]
  rw [after0_6]
  unfold_out out0_6
  frame_out
  refine (b_at _ _ _ r j).trans ?_
  refine Eq.trans ?_ (rest_shift 64 _ (2048 * t.val) r.val (by omega)).symm
  refine rest_congr _ _ _ _ fun i hi => col_eq _ _ t j (fun q => ?_) r i hi
  rw [lsv_at, pre_b]
  rfl

end Cert.Kernel14Ideal.Value

namespace Cert.Gate
open Finset

/-- A window of 64 rows over the middle of three axes that ends at a row, the rows before the first counted as nothing. -/
theorem window_back (x : (⟨3, ![128, 64, 256]⟩ : Shape).Idx → EReal) (z : EReal) (hz : z = 0)
    (h : (⟨3, ![128, 64, 256]⟩ : Shape).ReduceWindows ![1, 64, 1] ![1, 1, 1] ![0, 63, 0] ![0, 0, 0] ⟨3, ![128, 64, 256]⟩)
    (a : Fin 128) (b : Fin 64) (j : Fin 256) :
    Ideal.hostReduceWindowAdd ![1, 64, 1] ![1, 1, 1] ![0, 63, 0] ![0, 0, 0] h x z (ix3 a b j)
      = ∑ i ∈ range 64, if i ≤ b.val then x (ix3 a ⟨b.val - i, by omega⟩ j) else 0 := by
  subst hz
  have hcoord : ∀ n : Fin 64, ∀ k : Fin 3, ((⟨3, ![1, 64, 1]⟩ : Shape).rowMajor.symm (Fin.cast (show 64 = (⟨3, ![1, 64, 1]⟩ : Shape).numel by decide) n) k).val = ![0, n.val, 0] k := by decide +kernel
  rw [← sum_range_reflect, sum_range]
  have hfold : ∀ {n : ℕ} (g : Fin n → EReal), (List.finRange n).foldl (fun r n => r + g n) 0 = ∑ k, g k := by
    intro n g
    rw [Fin.sum_univ_def, List.sum_eq_foldl, List.foldl_map]
  unfold Ideal.hostReduceWindowAdd Host.reduceWindow
  refine (hfold _).trans ?_
  refine (Equiv.sum_comp (finCongr (show 64 = (⟨3, ![1, 64, 1]⟩ : Shape).numel by decide)) _).symm.trans ?_
  refine Finset.sum_congr rfl fun n _ => ?_
  have hn := n.isLt
  have h0 := hcoord n 0
  have h1 := hcoord n 1
  have h2 := hcoord n 2
  by_cases hi : 64 - 1 - n.val ≤ b.val
  · rw [if_pos hi, dif_pos]
    · refine congrArg x (funext fun k => Fin.ext ?_)
      fin_cases k <;> simp_all
      omega
    · intro k
      fin_cases k <;> simp_all
      omega
  · rw [if_neg hi, dif_neg]
    intro hall
    have := (hall 1).1
    simp_all
    omega

end Cert.Gate

namespace Cert.Reference14Ideal.Read
open Cert.Reference14Ideal Cert.Reference14Ideal.Gen Cert.Gate Cert.Num Finset

theorem z2 : (val_main_call2_call0_v0 (F := Ideal)) (Shape.Idx.first h_S_) = 0 := by
  rw [val_main_call2_call0_v0_apply, val_main_call2_call0_cst_apply]; pointwise []
theorem z4 : (val_main_call4_call0_v0 (F := Ideal)) (Shape.Idx.first h_S_) = 0 := by
  rw [val_main_call4_call0_v0_apply, val_main_call4_call0_cst_apply]; pointwise []

variable (x0 x1 : FVec Ideal SL .f32) (x2 x4 : FVec Ideal SW .f32) (x3 x5 : FVec Ideal SB .f32)

theorem sp_f (i : SG.Idx) : val_main_call0_v1 (F := Ideal) x0 x2 x3 i = sp (val_main_call0_v0 (F := Ideal) x0 x2 x3 i) := by
  rw [val_main_call0_v1_apply, val_main_call0_call0_v4_apply, val_main_call0_call0_v11_apply, val_main_call0_call0_v10_apply, val_main_call0_call0_v9_apply,
    val_main_call0_call0_v8_apply, val_main_call0_call0_v7_apply, val_main_call0_call0_v3_apply, val_main_call0_call0_v2_apply, val_main_call0_call0_v1_apply,
    val_main_call0_call0_v0_apply, val_main_call0_call0_cst_apply]
  generalize val_main_call0_v0 (F := Ideal) x0 x2 x3 i = y
  unfold sp
  pointwise []
  rw [if_neg (by simp)]
  rfl

theorem sp_b (i : SG.Idx) : val_main_call1_v1 (F := Ideal) x1 x4 x5 i = sp (val_main_call1_v0 (F := Ideal) x1 x4 x5 i) := by
  rw [val_main_call1_v1_apply, val_main_call1_call0_v4_apply, val_main_call1_call0_v11_apply, val_main_call1_call0_v10_apply, val_main_call1_call0_v9_apply,
    val_main_call1_call0_v8_apply, val_main_call1_call0_v7_apply, val_main_call1_call0_v3_apply, val_main_call1_call0_v2_apply, val_main_call1_call0_v1_apply,
    val_main_call1_call0_v0_apply, val_main_call1_call0_cst_apply]
  generalize val_main_call1_v0 (F := Ideal) x1 x4 x5 i = y
  unfold sp
  pointwise []
  rw [if_neg (by simp)]
  rfl

theorem v2_at (R : Fin 8192) (j : Fin 256) : val_main_v2 (F := Ideal) x0 x2 x3 (ix2 R j) = spre x0 x2 x3 R j := by
  unfold spre val_main_v2 val_main_v1 val_main_v0
  pointwise []

theorem v8_at (R : Fin 8192) (j : Fin 256) : val_main_v8 (F := Ideal) x1 x4 x5 (ix2 R j) = spre x1 x4 x5 R j := by
  unfold spre val_main_v8 val_main_v7 val_main_v6
  pointwise []

theorem v5_eq : val_main_v5 (F := Ideal) x0 x2 x3 = fun i : SG.Idx => lg x0 x2 x3 (i 0) (i 1) := by
  funext i
  obtain ⟨R, j, rfl⟩ : ∃ (R : Fin 8192) (j : Fin 256), i = ix2 R j := ⟨i 0, i 1, by blk_ext []⟩
  rw [val_main_v5_apply, val_main_v3_apply, sp_f, val_main_call0_v0_apply, v2_at, val_main_v4_apply, val_main_cst_apply]
  refine Eq.trans ?_ (Ideal.div_coe (y := 16) (by norm_num) _)
  rw [← sixteen]
  rfl

theorem v11_eq : val_main_v11 (F := Ideal) x1 x4 x5 = fun i : SG.Idx => lg x1 x4 x5 (i 0) (i 1) := by
  funext i
  obtain ⟨R, j, rfl⟩ : ∃ (R : Fin 8192) (j : Fin 256), i = ix2 R j := ⟨i 0, i 1, by blk_ext []⟩
  rw [val_main_v11_apply, val_main_v9_apply, sp_b, val_main_call1_v0_apply, v8_at, val_main_v10_apply, val_main_cst_0_apply]
  refine Eq.trans ?_ (Ideal.div_coe (y := 16) (by norm_num) _)
  rw [← sixteen]
  rfl

theorem v18_at (R : Fin 8192) (j : Fin 256) : val_main_v18 (F := Ideal) x0 x2 x3 (ix2 R j) = sumF x0 x2 x3 R j := by
  rw [val_main_v18_apply, show idx_main_v18 (ix2 R j) = ix3 (⟨R.val / 64, by omega⟩ : Fin 128) (⟨R.val % 64, by omega⟩ : Fin 64) j by blk_ext []]
  unfold val_main_v13 Host.reduceWindowAdd
  refine (window_back (val_main_v12 (F := Ideal) x0 x2 x3) _ z2 _ _ _ _).trans ?_
  unfold sumF past
  refine sum_congr rfl fun i _ => ?_
  by_cases h : i ≤ R.val % 64
  · have := Nat.mod_le R.val 64
    rw [if_pos h, if_pos h, val_main_v12_apply, v5_eq, colR, dif_pos (by omega)]
    refine congrArg (fun i : SG.Idx => lg x0 x2 x3 (i 0) (i 1)) (?_ : _ = ix2 (⟨R.val - i, by omega⟩ : Fin 8192) j)
    blk_ext []
  · rw [if_neg h, if_neg h]

theorem v19_at (R : Fin 8192) (j : Fin 256) : val_main_v19 (F := Ideal) x1 x4 x5 (ix2 R j) = sumB x1 x4 x5 R j := by
  rw [val_main_v19_apply, show idx_main_v19 (ix2 R j) = ix3 (⟨R.val / 64, by omega⟩ : Fin 128) (⟨R.val % 64, by omega⟩ : Fin 64) j by blk_ext []]
  unfold val_main_v17
  have hr : ∀ (y : FVec Ideal S128x64x256 .f32) (a : Fin 128) (b : Fin 64), Host.reverse [1] y (ix3 a b j) = y (ix3 a b.rev j) := by
    intro y a b
    pointwise []
    refine congrArg y ?_
    blk_ext []
    all_goals simp
  rw [hr]
  unfold val_main_v16 Host.reduceWindowAdd
  refine (window_back (val_main_v15 (F := Ideal) x1 x4 x5) _ z4 _ _ _ _).trans ?_
  unfold sumB rest
  refine sum_congr rfl fun i _ => ?_
  have hrev : (Fin.rev (⟨R.val % 64, by omega⟩ : Fin 64)).val = 63 - R.val % 64 := by simp [Fin.rev]
  by_cases h : R.val % 64 + i < 64
  · rw [if_pos (by rw [hrev]; omega), if_pos h, colR, dif_pos (by omega)]
    unfold val_main_v15
    rw [hr, val_main_v14_apply, v11_eq]
    refine congrArg (fun i : SG.Idx => lg x1 x4 x5 (i 0) (i 1)) (?_ : _ = ix2 (⟨R.val + i, by omega⟩ : Fin 8192) j)
    blk_ext []
    simp only [Fin.val_rev]
    omega
  · rw [if_neg (by rw [hrev]; omega), if_neg h]

theorem v18_eq : val_main_v18 (F := Ideal) x0 x2 x3 = fun i : SG.Idx => sumF x0 x2 x3 (i 0) (i 1) := by
  funext i
  obtain ⟨R, j, rfl⟩ : ∃ (R : Fin 8192) (j : Fin 256), i = ix2 R j := ⟨i 0, i 1, by blk_ext []⟩
  exact v18_at x0 x2 x3 R j

theorem v19_eq : val_main_v19 (F := Ideal) x1 x4 x5 = fun i : SG.Idx => sumB x1 x4 x5 (i 0) (i 1) := by
  funext i
  obtain ⟨R, j, rfl⟩ : ∃ (R : Fin 8192) (j : Fin 256), i = ix2 R j := ⟨i 0, i 1, by blk_ext []⟩
  exact v19_at x1 x4 x5 R j

end Cert.Reference14Ideal.Read

namespace Cert.Proof
open Cert.Kernel14Ideal.Value

/-- Both programs run, and the kernel's results are the sums of the log-sigmoids within chunks. -/
theorem gatf_algebraic : Cert.algebraic_Kernel14Ideal_Reference14Ideal := fun m ρ m' ρ' _ hag =>
  ⟨fun c => Cert.Reference14Ideal.Read.val_main_v18 (F := Ideal) (X0 m c) (X2 m c) (X3 m c), fun c => Cert.Reference14Ideal.Read.val_main_v19 (F := Ideal) (X1 m c) (X4 m c) (X5 m c),
    (θ_run _ _ _).mono (fun _ h c => ⟨(h c).1.trans ((final5 m c).trans (Cert.Reference14Ideal.Read.v18_eq _ _ _).symm),
      (h c).2.1.trans ((final6 m c).trans (Cert.Reference14Ideal.Read.v19_eq _ _ _).symm), (h c).2.2⟩) (Cert.Kernel14Ideal.Value.run_blocks m ρ),
    (θ_run _ _ _).mono (fun _ h c => by
      obtain ⟨h0, h1, h2, h3, h4, h5⟩ := hag c
      exact ⟨(h c).1.trans ((Cert.Reference14Ideal.Read.val_main_v18_eq _ _ _).trans (by rw [h0, h2, h3])),
        (h c).2.1.trans ((Cert.Reference14Ideal.Read.val_main_v19_eq _ _ _).trans (by rw [h1, h4, h5])), (h c).2.2⟩)
      (Cert.Reference14Ideal.Value.run m' ρ')⟩

/-- The reference runs and leaves its arguments as they were. -/
theorem gatf_reference : Cert.quiescent_Reference14Ideal := fun m ρ _ =>
  (θ_run _ _ _).mono (fun r h => ⟨fun c => (h c).2.2, sem_eq_zero_of_no_sems (by decide) r.2⟩) (Cert.Reference14Ideal.Value.run m ρ)

end Cert.Proof

end
-- ==== Proof.MixfWords.lean ====
module

public import proofs.«01_k».proof.Proof.Gen.Kernel15Ideal.Skeleton
public import proofs.«01_k».proof.Proof.GateSums
public import proofs.«01_k».proof.Proof.MixNum
public import proofs.«01_k».proof.Proof.MixGated
public import Idealize.ShloMosaic.Lib.Pipeline.ValueKit
public import Idealize.ShloMosaic.Lib.Pointwise

/-! The forward mix: the short convolution with its group norm, and the gated head norm. -/

@[expose] public section

set_option maxRecDepth 16384

noncomputable section

open Idealize.ShloMosaic Idealize.ShloMosaic.TcCoe Idealize.SL.Sem Finset

namespace Cert.Mixf
open Cert.Num Cert.Gate

abbrev SA : Shape := ⟨2, ![8192, 512]⟩
abbrev SW : Shape := ⟨2, ![3, 512]⟩

/-- What is added to a mean square. -/
def eps : EReal := Ideal.ofBits .f32 0x358637BD#32

/-- What is convolved: the rows of the product shifted by eight, and zeros outside. -/
def hp (c u : FVec Ideal SA .f32) (s : ℕ) (j : Fin 512) : EReal :=
  if h : 8 ≤ s ∧ s < 8200 then c (ix2 ⟨s - 8, by omega⟩ j) * u (ix2 ⟨s - 8, by omega⟩ j) else 0

/-- The convolution over three rows. -/
def cv (w : FVec Ideal SW .f32) (c u : FVec Ideal SA .f32) (s : ℕ) (j : Fin 512) : EReal :=
  w (ix2 0 j) * hp c u (s - 1) j + w (ix2 1 j) * hp c u s j + w (ix2 2 j) * hp c u (s + 1) j

/-- The gated convolution. -/
def yc (b c u : FVec Ideal SA .f32) (w : FVec Ideal SW .f32) (n : Fin 8192) (j : Fin 512) : EReal :=
  b (ix2 n j) * cv w c u (n.val + 8) j

/-- A row normalised within groups of 64 lanes. -/
def grouped (y : Fin 512 → EReal) (j : Fin 512) : EReal :=
  y j * Ideal.rsqrt ((∑ l, y (lane j l) * y (lane j l)) * ((1 / 64 : ℝ) : EReal) + eps)

/-- A head normalised. -/
def headed (y : Fin 128 → EReal) (l : Fin 128) : EReal :=
  y l * Ideal.rsqrt ((∑ k, y k * y k) * ((1 / 128 : ℝ) : EReal) + eps)

/-- The gate's factor. -/
def silu (x : EReal) : EReal := x * Gate.sg x

/-- The logistic function is the quotient it is defined as. -/
theorem sg_quotient (x : EReal) : Ideal.div 1 (1 + Ideal.exp (-x)) = Gate.sg x := by
  induction x with
  | bot =>
    have h : (1 : EReal) + ⊤ = ⊤ := EReal.add_top_of_ne_bot (EReal.coe_ne_bot 1)
    simp [Gate.sg, exp_bot, Ideal.div, show Ideal.exp ⊤ = ⊤ from rfl, h]
  | top => simp [Gate.sg, exp_bot, Ideal.div]
  | coe x =>
    have hp : (1 + Real.exp (-x) : ℝ) ≠ 0 := by positivity
    rw [sg_coe, ← EReal.coe_neg, Ideal.exp_coe, ← EReal.coe_one, ← EReal.coe_add, Ideal.div_coe hp, ← EReal.coe_mul]
    congr 1
    rw [Real.exp_neg]
    have := Real.exp_pos x
    field_simp
    ring

/-- The split sum over a group of reals is the sum. -/
theorem split_group (y : Fin 512 → EReal) (hy : ∀ j, ∃ r : ℝ, y j = r) (o : Fin 512 → EReal) (j : Fin 512)
    (ho : ∀ l, o l = if l.val / 64 = j.val / 64 then 1 else 0) :
    ∑ l, y l * y l * o l + ∑ l, (y l * y l - y l * y l) * o l + ∑ l, (y l * y l - y l * y l - (y l * y l - y l * y l)) * o l
      = ∑ l, y (lane j l) * y (lane j l) := by
  choose f hf using hy
  simp only [hf, ← EReal.coe_mul]
  rw [split_dot, group_sum _ _ j ho, sum_coe]

theorem real_hp {c u : FVec Ideal SA .f32} (hc : ∀ i, ∃ r : ℝ, (c i : EReal) = r) (hu : ∀ i, ∃ r : ℝ, (u i : EReal) = r) (s : ℕ) (j : Fin 512) :
    ∃ r : ℝ, hp c u s j = r := by
  unfold hp
  split
  · next h =>
    obtain ⟨a, ha⟩ := hc (ix2 ⟨s - 8, by omega⟩ j)
    obtain ⟨b, hb⟩ := hu (ix2 ⟨s - 8, by omega⟩ j)
    exact ⟨a * b, by rw [ha, hb, EReal.coe_mul]⟩
  · exact ⟨0, rfl⟩

theorem real_yc {b c u : FVec Ideal SA .f32} {w : FVec Ideal SW .f32} (hb : ∀ i, ∃ r : ℝ, (b i : EReal) = r) (hc : ∀ i, ∃ r : ℝ, (c i : EReal) = r)
    (hu : ∀ i, ∃ r : ℝ, (u i : EReal) = r) (hw : ∀ i, ∃ r : ℝ, (w i : EReal) = r) (n : Fin 8192) (j : Fin 512) : ∃ r : ℝ, yc b c u w n j = r := by
  unfold yc cv
  obtain ⟨x, hx⟩ := hb (ix2 n j)
  obtain ⟨w0, h0⟩ := hw (ix2 0 j)
  obtain ⟨w1, h1⟩ := hw (ix2 1 j)
  obtain ⟨w2, h2⟩ := hw (ix2 2 j)
  obtain ⟨p0, g0⟩ := real_hp hc hu (n.val + 8 - 1) j
  obtain ⟨p1, g1⟩ := real_hp hc hu (n.val + 8) j
  obtain ⟨p2, g2⟩ := real_hp hc hu (n.val + 8 + 1) j
  exact ⟨x * (w0 * p0 + w1 * p1 + w2 * p2), by rw [hx, h0, h1, h2, g0, g1, g2]; push_cast; rfl⟩

end Cert.Mixf

namespace Cert.Kernel15Ideal.Value
open Cert.Kernel15Ideal Cert.Kernel15Ideal.Gen Cert.Mixf Cert.Num Cert.Gate

/-- The rows of a block and its neighbours that lie in the array. -/
def mask (i : grid0.Coords) : IVec S1040x1 1 :=
  andi (cmpi .sge (addi (iota .tc S1040x1 32 [0] iota_S1040x1_d0_w32) (broadcast S1040x1 (Scalar.subi (Scalar.muli (BitVec.ofNat 32 (i 0).val) 1024#32) 8#32))) (broadcast S1040x1 0#32))
    (cmpi .slt (addi (iota .tc S1040x1 32 [0] iota_S1040x1_d0_w32) (broadcast S1040x1 (Scalar.subi (Scalar.muli (BitVec.ofNat 32 (i 0).val) 1024#32) 8#32))) (broadcast S1040x1 8192#32))

theorem mask_at : ∀ (t : Fin grid0.N) (e : Fin 1040), mask (grid0.coords t) (ix2 e 0) = BitVec.ofBool (decide (8 ≤ 1024 * t.val + e.val ∧ 1024 * t.val + e.val < 8200)) := by
  decide +kernel

/-- A block and the eight rows on each side of it. -/
def three (p : FVec Ideal S8x512 .f32) (b : FVec Ideal S1024x512 .f32) (n : FVec Ideal S8x512 .f32) : FVec Ideal S1040x512 .f32 :=
  concatenate S1040x512 0 [⟨S8x512, p⟩, ⟨S1024x512, b⟩, ⟨S8x512, n⟩] concatenates_S8x512_S1024x512_S8x512_S1040x512_d0

theorem same8 (p : FVec Ideal S8x512 .f32) : (shapeCast S8x512 p shapeCasts_S8x512_S8x512 : FVec Ideal S8x512 .f32) = p := by
  funext i
  obtain ⟨r, l, rfl⟩ : ∃ (r : Fin 8) (l : Fin 512), i = ix2 r l := ⟨i 0, i 1, by blk_ext []⟩
  pointwise []

theorem same1024 (p : FVec Ideal S1024x512 .f32) : (shapeCast S1024x512 p shapeCasts_S1024x512_S1024x512 : FVec Ideal S1024x512 .f32) = p := by
  funext i
  obtain ⟨r, l, rfl⟩ : ∃ (r : Fin 1024) (l : Fin 512), i = ix2 r l := ⟨i 0, i 1, by blk_ext []⟩
  pointwise []

theorem pay2_eq (i : grid0.Coords) (p n p' n' : FVec Ideal S8x512 .f32) (b b' : FVec Ideal S1024x512 .f32) :
    k0_pay2 (F := Ideal) i p b n p' b' n' = select (broadcastTo S1040x512 (shapeCast S1040x1 (mask i) shapeCasts_S1040x1_S1040x1) broadcasts_S1040x1_S1040x512)
      (mulf (three p b n) (three p' b' n')) (broadcast S1040x512 (Scalar.ofBits (F := Ideal) .f32 0x00000000#32)) := by
  have h : k0_pay2 (F := Ideal) i p b n p' b' n' = select (broadcastTo S1040x512 (shapeCast S1040x1 (mask i) shapeCasts_S1040x1_S1040x1) broadcasts_S1040x1_S1040x512)
      (mulf (three (shapeCast S8x512 p shapeCasts_S8x512_S8x512) (shapeCast S1024x512 b shapeCasts_S1024x512_S1024x512) (shapeCast S8x512 n shapeCasts_S8x512_S8x512))
        (three (shapeCast S8x512 p' shapeCasts_S8x512_S8x512) (shapeCast S1024x512 b' shapeCasts_S1024x512_S1024x512) (shapeCast S8x512 n' shapeCasts_S8x512_S8x512)))
      (broadcast S1040x512 (Scalar.ofBits (F := Ideal) .f32 0x00000000#32)) := rfl
  rw [h, same8, same8, same8, same8, same1024, same1024]

/-- An array's rows at point `t`, in a block and its neighbours. -/
structure Blk (A : FVec Ideal SA .f32) (t : ℕ) (p : FVec Ideal S8x512 .f32) (b : FVec Ideal S1024x512 .f32) (n : FVec Ideal S8x512 .f32) : Prop where
  p : ∀ (r : Fin 8) (l : Fin 512) (i : Fin 8192), i.val = 8 * (128 * t - 1) + r.val → p (ix2 r l) = A (ix2 i l)
  b : ∀ (r : Fin 1024) (l : Fin 512) (i : Fin 8192), i.val = 1024 * t + r.val → b (ix2 r l) = A (ix2 i l)
  n : ∀ (r : Fin 8) (l : Fin 512) (i : Fin 8192), i.val = 8 * min (128 * t + 128) 1023 + r.val → n (ix2 r l) = A (ix2 i l)

theorem three_at {A : FVec Ideal SA .f32} {t : ℕ} {p n : FVec Ideal S8x512 .f32} {b : FVec Ideal S1024x512 .f32} (ht : t < 8) (h : Blk A t p b n)
    (e : Fin 1040) (l : Fin 512) (i : Fin 8192) (hi : i.val + 8 = 1024 * t + e.val) : three p b n (ix2 e l) = A (ix2 i l) := by
  have he := e.isLt
  have hn := i.isLt
  unfold three
  pointwise []
  by_cases h0 : e.val < 8
  · simp only [h0, ↓reduceDIte]
    exact h.p _ l i (by show i.val = 8 * (128 * t - 1) + e.val; omega)
  · by_cases h1 : e.val - 8 < 1024
    · simp only [h0, h1, ↓reduceDIte]
      exact h.b _ l i (by show i.val = 1024 * t + (e.val - 8); omega)
    · simp only [h0, h1, ↓reduceDIte]
      exact h.n _ l i (by show i.val = 8 * min (128 * t + 128) 1023 + (e.val - 8 - 1024); omega)

section

variable {c u : FVec Ideal SA .f32} {t : Fin grid0.N} {p n p' n' : FVec Ideal S8x512 .f32} {b b' : FVec Ideal S1024x512 .f32}

theorem hp_at (ht : t.val < 8) (hc : Blk c t.val p b n) (hu : Blk u t.val p' b' n') (e : Fin 1040) (j : Fin 512) :
    k0_pay2 (F := Ideal) (grid0.coords t) p b n p' b' n' (ix2 e j) = hp c u (1024 * t.val + e.val) j := by
  rw [pay2_eq]
  have hm := mask_at t e
  have h1 := three_at ht hc e j
  have h2 := three_at ht hu e j
  generalize mask (grid0.coords t) = mk at hm
  generalize three p b n = x at h1
  generalize three p' b' n' = y at h2
  pointwise []
  rw [hm]
  unfold hp
  by_cases h : 8 ≤ 1024 * t.val + e.val ∧ 1024 * t.val + e.val < 8200
  · rw [dif_pos h, decide_eq_true h, h1 ⟨1024 * t.val + e.val - 8, by omega⟩ (by simp; omega), h2 ⟨1024 * t.val + e.val - 8, by omega⟩ (by simp; omega)]
    rfl
  · rw [dif_neg h, decide_eq_false h]
    rfl

theorem next_at (ht : t.val < 8) (hc : Blk c t.val p b n) (hu : Blk u t.val p' b' n') (e : Fin 1040) (j : Fin 512) (he : e.val < 1039) :
    k0_pay3 (F := Ideal) (grid0.coords t) p b n p' b' n' (ix2 e j) = hp c u (1024 * t.val + e.val + 1) j := by
  unfold k0_pay3
  have hz := fun e => hp_at ht hc hu e j
  generalize k0_pay2 (F := Ideal) _ _ _ _ _ _ _ = z at hz
  pointwise []
  rw [hz]
  exact congrArg (fun s => hp c u s j) (by show 1024 * t.val + (e.val + 1040 - 1039) % 1040 = _; omega)

theorem prev_at (ht : t.val < 8) (hc : Blk c t.val p b n) (hu : Blk u t.val p' b' n') (w : FVec Ideal S3x512 .f32) (e : Fin 1040) (j : Fin 512) (he : 1 ≤ e.val) :
    k0_pay4 (F := Ideal) (grid0.coords t) p b n p' b' n' w (ix2 e j) = w (ix2 0 j) * hp c u (1024 * t.val + e.val - 1) j := by
  unfold k0_pay4
  have hz := fun e => hp_at ht hc hu e j
  generalize k0_pay2 (F := Ideal) _ _ _ _ _ _ _ = z at hz
  pointwise []
  rw [hz]
  exact congrArg (fun s => w (ix2 0 j) * hp c u s j) (by show 1024 * t.val + (e.val + 1040 - 1) % 1040 = _; omega)

theorem here_at (ht : t.val < 8) (hc : Blk c t.val p b n) (hu : Blk u t.val p' b' n') (w : FVec Ideal S3x512 .f32) (e : Fin 1040) (j : Fin 512) :
    k0_pay5 (F := Ideal) (grid0.coords t) p b n p' b' n' w (ix2 e j) = w (ix2 1 j) * hp c u (1024 * t.val + e.val) j := by
  unfold k0_pay5
  have hz := fun e => hp_at ht hc hu e j
  generalize k0_pay2 (F := Ideal) _ _ _ _ _ _ _ = z at hz
  pointwise []
  rw [hz]

end

/-- The gated convolution of a block, from the convolution's terms. -/
theorem conv_at (w : FVec Ideal S3x512 .f32) (z1 z2 z3 : FVec Ideal S1040x512 .f32) (x : FVec Ideal S1024x512 .f32) (o : FVec Ideal S512x512 .bf16) (g : FVec Ideal S1x512 .f32)
    (y : Fin 512 → EReal) (r : Fin 1024) (j : Fin 512)
    (hy : ∀ j, x (ix2 r j) * (z2 (ix2 ⟨8 + r.val, by omega⟩ j) + z3 (ix2 ⟨8 + r.val, by omega⟩ j) + w (ix2 2 j) * z1 (ix2 ⟨8 + r.val, by omega⟩ j)) = y j)
    (hr : ∀ j, ∃ r : ℝ, y j = r) (ho : ∀ l, (o (ix2 l j) : EReal) = if l.val / 64 = j.val / 64 then (1 : EReal) else (0 : EReal)) :
    k0_pay6 (F := Ideal) w z1 z2 z3 x o g (ix2 r j) = grouped y j * g (ix2 0 j) := by
  unfold k0_pay6
  pointwise []
  simp only [hy]
  rw [split_group y hr _ j ho, sixtyfourth]
  rfl

theorem silu_at (x : FVec Ideal S1024x512 .f32) (r : Fin 1024) (j : Fin 512) :
    k0_pay11 (F := Ideal) (k0_pay7 (F := Ideal) x) (k0_pay8 (F := Ideal) x) (k0_pay9 (F := Ideal) x) (k0_pay10 (F := Ideal) x) (Scalar.ofBits (F := Ideal) .f32 0x3F800000#32) (ix2 r j) = silu (x (ix2 r j)) := by
  unfold k0_pay11 k0_pay10 k0_pay9 k0_pay8 k0_pay7
  pointwise []
  generalize x (ix2 r j) = y
  rfl

theorem o_at (x y : FVec Ideal S1024x512 .f32) (r : Fin 1024) (j : Fin 512) : k0_pay12 (F := Ideal) x y (ix2 r j) = x (ix2 r j) + y (ix2 r j) := by
  unfold k0_pay12
  pointwise []

/-- A head normalised, as the kernel writes it. -/
theorem headed_of (f : Fin 128 → EReal) (l : Fin 128) :
    f l * Ideal.rsqrt (Ideal.div (∑ k, f k * f k) (Ideal.ofBits .f32 0x43000000#32) + Ideal.ofBits .f32 0x358637BD#32) = headed f l := by
  rw [f128, Ideal.div_coe (show (128 : ℝ) ≠ 0 by norm_num)]
  rfl

theorem hl_zero (l : Fin 128) (p : l.val < 512) : (⟨l.val, p⟩ : Fin 512) = hl 0 l := Fin.ext (by simp [hl])

theorem head0_at (x y : FVec Ideal S1024x512 .f32) (r : Fin 1024) (l : Fin 128) :
    k0_pay13 (F := Ideal) x y (ix2 r l) = headed (fun l => k0_pay12 (F := Ideal) x y (ix2 r (hl 0 l))) l := by
  unfold k0_pay13
  generalize k0_pay12 (F := Ideal) x y = z
  pointwise []
  simp only [hl_zero]
  exact headed_of (fun l => z (ix2 r (hl 0 l))) l

theorem head1_at (x y : FVec Ideal S1024x512 .f32) (r : Fin 1024) (l : Fin 128) :
    k0_pay14 (F := Ideal) x y (ix2 r l) = headed (fun l => k0_pay12 (F := Ideal) x y (ix2 r (hl 1 l))) l := by
  unfold k0_pay14
  generalize k0_pay12 (F := Ideal) x y = z
  pointwise []
  exact headed_of (fun l => z (ix2 r (hl 1 l))) l

theorem head2_at (x y : FVec Ideal S1024x512 .f32) (r : Fin 1024) (l : Fin 128) :
    k0_pay15 (F := Ideal) x y (ix2 r l) = headed (fun l => k0_pay12 (F := Ideal) x y (ix2 r (hl 2 l))) l := by
  unfold k0_pay15
  generalize k0_pay12 (F := Ideal) x y = z
  pointwise []
  exact headed_of (fun l => z (ix2 r (hl 2 l))) l

/-- The last head normalised. -/
def last (z : FVec Ideal S1024x512 .f32) : FVec Ideal S1024x128 .f32 :=
  mulf (extractStridedSlice S1024x128 ![0, 384] z slices_S1024x512_o0_384_S1024x128)
    (broadcastTo S1024x128 (rsqrt (addf (divf (shapeCast S1024x1 (multiReduction .add [1] S1024 (mulf (extractStridedSlice S1024x128 ![0, 384] z slices_S1024x512_o0_384_S1024x128)
        (extractStridedSlice S1024x128 ![0, 384] z slices_S1024x512_o0_384_S1024x128)) 0x00000000#32 reduces_S1024x128_S1024 (.inl rfl) rfl) shapeCasts_S1024_S1024x1)
      (broadcast S1024x1 (Scalar.ofBits (F := Ideal) .f32 0x43000000#32))) (broadcast S1024x1 (Scalar.ofBits (F := Ideal) .f32 0x358637BD#32))) : FVec Ideal S1024x1 .f32) broadcasts_S1024x1_S1024x128)

theorem last_at (z : FVec Ideal S1024x512 .f32) (r : Fin 1024) (l : Fin 128) : last z (ix2 r l) = headed (fun l => z (ix2 r (hl 3 l))) l := by
  unfold last
  pointwise []
  exact headed_of (fun l => z (ix2 r (hl 3 l))) l

/-- The four heads with their gain, side by side. -/
def side (g : FVec Ideal S1x128 .f32) (y0 y1 y2 y3 : FVec Ideal S1024x128 .f32) : FVec Ideal S1024x512 .f32 :=
  concatenate S1024x512 1 [⟨S1024x128, mulf y0 (broadcastTo S1024x128 g broadcasts_S1x128_S1024x128)⟩, ⟨S1024x128, mulf y1 (broadcastTo S1024x128 g broadcasts_S1x128_S1024x128)⟩,
    ⟨S1024x128, mulf y2 (broadcastTo S1024x128 g broadcasts_S1x128_S1024x128)⟩, ⟨S1024x128, mulf y3 (broadcastTo S1024x128 g broadcasts_S1x128_S1024x128)⟩]
    concatenates_S1024x128_S1024x128_S1024x128_S1024x128_S1024x512_d1

theorem side_at (g : FVec Ideal S1x128 .f32) (y0 y1 y2 y3 : FVec Ideal S1024x128 .f32) (T : Fin 4 → Fin 128 → EReal) (r : Fin 1024) (h0 : ∀ l, y0 (ix2 r l) = T 0 l) (h1 : ∀ l, y1 (ix2 r l) = T 1 l)
    (h2 : ∀ l, y2 (ix2 r l) = T 2 l) (h3 : ∀ l, y3 (ix2 r l) = T 3 l) (q : Fin 4) (l : Fin 128) : side g y0 y1 y2 y3 (ix2 r (hl q l)) = T q l * g (ix2 0 l) := by
  unfold side
  generalize hj : hl q l = j
  pointwise []
  subst hj
  exact heads (fun l => y0 (ix2 r l) * g (ix2 0 l)) (fun l => y1 (ix2 r l) * g (ix2 0 l)) (fun l => y2 (ix2 r l) * g (ix2 0 l)) (fun l => y3 (ix2 r l) * g (ix2 0 l))
    (fun q l => T q l * g (ix2 0 l)) (fun l => by rw [h0]) (fun l => by rw [h1]) (fun l => by rw [h2]) (fun l => by rw [h3]) q l

theorem pay1_eq (a s : FVec Ideal S1024x512 .f32) (g : FVec Ideal S1x128 .f32) (z : FVec Ideal S1024x512 .f32) (y0 y1 y2 : FVec Ideal S1024x128 .f32) :
    k0_pay1 (F := Ideal) a s g z y0 y1 y2 = truncf .bf16 (concatenate S1024x1024 1 [⟨S1024x512, a⟩, ⟨S1024x512, mulf (side g y0 y1 y2 (last z)) s⟩]
      concatenates_S1024x512_S1024x512_S1024x1024_d1 : FVec Ideal S1024x1024 .f32) bitsLt_bf16_f32 := rfl

theorem pay1_read (a s : FVec Ideal S1024x512 .f32) (g : FVec Ideal S1x128 .f32) (z : FVec Ideal S1024x512 .f32) (y0 y1 y2 : FVec Ideal S1024x128 .f32) (r : Fin 1024) (j : Fin 1024) :
    (k0_pay1 (F := Ideal) a s g z y0 y1 y2 (ix2 r j) : EReal) = if h : j.val < 512 then a (ix2 r ⟨j.val, h⟩)
      else side g y0 y1 y2 (last z) (ix2 r ⟨j.val - 512, by omega⟩) * s (ix2 r ⟨j.val - 512, by omega⟩) := by
  rw [pay1_eq]
  generalize side g y0 y1 y2 (last z) = w
  pointwise []

end Cert.Kernel15Ideal.Value

end
-- ==== Proof.Mixf.lean ====
module

public import proofs.«01_k».proof.Defs
public import proofs.«01_k».proof.Proof.Gen.Kernel15Ideal.Value
public import proofs.«01_k».proof.Proof.Gen.Kernel15Ideal.Frame
public import proofs.«01_k».proof.Proof.Gen.Kernel15.Frame
public import proofs.«01_k».proof.Proof.Gen.Reference15Ideal.Run
public import proofs.«01_k».proof.Proof.Gen.Reference15Ideal.Read
public import proofs.«01_k».proof.Proof.MixfWords
public import proofs.«01_k».proof.Proof.MixEntry
public import proofs.«01_k».proof.Proof.MixRef
public import proofs.«01_k».proof.Proof.MixRefG
public import Idealize.ShloMosaic.Lib.Pipeline.ValueKit
public import Idealize.ShloMosaic.Lib.Pointwise
public import Idealize.ShloMosaic.Lib.Claim
public import Idealize.ShloMosaic.Lib.StableHlo.RunRead

/-! The forward mix: the short convolution with its group norm beside the gated head norm. -/

@[expose] public section

set_option maxRecDepth 16384

noncomputable section

open Idealize.ShloMosaic Idealize.ShloMosaic.TcCoe Idealize.SL.Sem
open Idealize.ShloMosaic.Pipeline (Dat)

namespace Cert.Mixf
open Cert.Num Cert.Gate

/-- The mixed row: the normalised convolution with its gain, and the normalised heads with their gain and gate. -/
def conv (b c u : FVec Ideal SA .f32) (w : FVec Ideal SW .f32) (cn : FVec Ideal ⟨2, ![1, 512]⟩ .f32) (n : Fin 8192) (j : Fin 512) : EReal :=
  grouped (yc b c u w n) j * cn (ix2 0 j)

def gated (g p q : FVec Ideal SA .f32) (gn : FVec Ideal ⟨2, ![1, 128]⟩ .f32) (n : Fin 8192) (h : Fin 4) (l : Fin 128) : EReal :=
  headed (fun l => p (ix2 n (hl h l)) + q (ix2 n (hl h l))) l * gn (ix2 0 l) * silu (g (ix2 n (hl h l)))

def mixed (b c u g p q : FVec Ideal SA .f32) (w : FVec Ideal SW .f32) (cn : FVec Ideal ⟨2, ![1, 512]⟩ .f32) (gn : FVec Ideal ⟨2, ![1, 128]⟩ .f32) (n : Fin 8192) (j : Fin 1024) : EReal :=
  if h : j.val < 512 then conv b c u w cn n ⟨j.val, h⟩ else gated g p q gn n ⟨(j.val - 512) / 128, by omega⟩ ⟨(j.val - 512) % 128, by omega⟩

end Cert.Mixf

namespace Cert.Kernel15Ideal.Value
open Cert.Kernel15Ideal Cert.Kernel15Ideal.Gen Cert.Mixf Cert.Num Cert.Gate Finset
open Cert.Kernel9Ideal.Mix (part group group_at)

variable (m : (ℓ : Loc nD τ sig) → Buf (Elt Ideal) ℓ)

/-- The argument arrays. -/
abbrev X0 (c : Dev nD) : FVec Ideal S8192x512 .f32 := m ((c : Thread nD τ).loc main_arg0)
abbrev X1 (c : Dev nD) : FVec Ideal S8192x512 .f32 := m ((c : Thread nD τ).loc main_arg1)
abbrev X2 (c : Dev nD) : FVec Ideal S8192x512 .f32 := m ((c : Thread nD τ).loc main_arg2)
abbrev X3 (c : Dev nD) : FVec Ideal S8192x512 .f32 := m ((c : Thread nD τ).loc main_arg3)
abbrev X4 (c : Dev nD) : FVec Ideal S8192x512 .f32 := m ((c : Thread nD τ).loc main_arg4)
abbrev X5 (c : Dev nD) : FVec Ideal S8192x512 .f32 := m ((c : Thread nD τ).loc main_arg5)
abbrev X6 (c : Dev nD) : FVec Ideal S3x512 .f32 := m ((c : Thread nD τ).loc main_arg6)
abbrev X7 (c : Dev nD) : FVec Ideal S1x512 .f32 := m ((c : Thread nD τ).loc main_arg7)
abbrev X8 (c : Dev nD) : FVec Ideal S1x128 .f32 := m ((c : Thread nD τ).loc main_arg8)

theorem idx : ∀ t : Fin cfg0.N, win0_0.index t = ![t.val, 0] ∧ win0_1.index t = ![t.val, 1] ∧ win0_2.index t = ![t.val, 2]
    ∧ win0_3.index t = ![128 * t.val - 1, 1] ∧ win0_4.index t = ![min (128 * t.val + 128) 1023, 1]
    ∧ win0_5.index t = ![128 * t.val - 1, 2] ∧ win0_6.index t = ![min (128 * t.val + 128) 1023, 2]
    ∧ win0_7.index t = ![t.val, 3] ∧ win0_8.index t = ![t.val, 0] ∧ win0_9.index t = ![t.val, 0]
    ∧ win0_10.index t = ![0, 0] ∧ win0_11.index t = ![0, 0] ∧ win0_12.index t = ![0, 0] ∧ win0_13.index t = ![0, 0] ∧ win0_14.index t = ![t.val, 0] :=
  (by decide +kernel : ∀ t : Fin grid0.N, _)

theorem lt_point (t : Fin cfg0.N) : t.val < 8 := lt_of_lt_of_eq t.isLt N_0

/-- The rows of the arrays that the rows of the block at a point are, and those of the eight before and after it. -/
def row (t : Fin cfg0.N) (r : Fin 1024) : Fin 8192 := ⟨1024 * t.val + r.val, by have := lt_point t; omega⟩
def rowP (t : Fin cfg0.N) (r : Fin 8) : Fin 8192 := ⟨8 * (128 * t.val - 1) + r.val, by have := lt_point t; omega⟩
def rowN (t : Fin cfg0.N) (r : Fin 8) : Fin 8192 := ⟨8 * min (128 * t.val + 128) 1023 + r.val, by omega⟩

/-- The projected block. -/
def z (c : Dev nD) : FVec Ideal S8192x2048 .f32 := concatenate S8192x2048 1 [⟨S8192x512, X0 m c⟩, ⟨S8192x512, X1 m c⟩, ⟨S8192x512, X2 m c⟩, ⟨S8192x512, X3 m c⟩]
  concatenates_S8192x512_S8192x512_S8192x512_S8192x512_S8192x2048_d1

theorem V_z (c : Dev nD) : V m c main_v0 = z m c := by
  refine (StableHlo.after_last_write (i := 0) [main_v1, main_c, main_call0_v0, main_call0_v1, main_call0_v2, main_call0_v3, main_call0_v4, main_call0_v5, main_call0_v6, main_call0_v7, main_call0_v8,
    main_call0_c, main_call0_v9, main_call0_v10, main_call0_v11, main_call0_c_0, main_call0_v12, main_call0_v13, main_v2, main_v3, main_v4, main_v5, main_v6, main_v7, main_v8] rfl rfl (by decide) _).trans ?_
  rw [StableHlo.nary_result']
  rfl

theorem z_read (c : Dev nD) (n : Fin 8192) (j : Fin 2048) : z m c (ix2 n j) = if h : j.val < 512 then X0 m c (ix2 n ⟨j.val, h⟩)
    else if h : j.val - 512 < 512 then X1 m c (ix2 n ⟨j.val - 512, h⟩) else if h : j.val - 512 - 512 < 512 then X2 m c (ix2 n ⟨j.val - 512 - 512, h⟩)
    else X3 m c (ix2 n ⟨j.val - 512 - 512 - 512, by omega⟩) := by
  unfold z
  generalize X0 m c = x0
  generalize X1 m c = x1
  generalize X2 m c = x2
  generalize X3 m c = x3
  pointwise

theorem z_at (c : Dev nD) (n : Fin 8192) (l : Fin 512) : z m c (ix2 n (part 0 l)) = X0 m c (ix2 n l) ∧ z m c (ix2 n (part 1 l)) = X1 m c (ix2 n l)
    ∧ z m c (ix2 n (part 2 l)) = X2 m c (ix2 n l) ∧ z m c (ix2 n (part 3 l)) = X3 m c (ix2 n l) := by
  have hl := l.isLt
  have a0 : (part 0 l).val < 512 := by show 512 * 0 + l.val < 512; omega
  have b0 : ¬ (part 1 l).val < 512 := by show ¬ 512 * 1 + l.val < 512; omega
  have b1 : (part 1 l).val - 512 < 512 := by show 512 * 1 + l.val - 512 < 512; omega
  have c0 : ¬ (part 2 l).val < 512 := by show ¬ 512 * 2 + l.val < 512; omega
  have c1 : ¬ (part 2 l).val - 512 < 512 := by show ¬ 512 * 2 + l.val - 512 < 512; omega
  have c2 : (part 2 l).val - 512 - 512 < 512 := by show 512 * 2 + l.val - 512 - 512 < 512; omega
  have d0 : ¬ (part 3 l).val < 512 := by show ¬ 512 * 3 + l.val < 512; omega
  have d1 : ¬ (part 3 l).val - 512 < 512 := by show ¬ 512 * 3 + l.val - 512 < 512; omega
  have d2 : ¬ (part 3 l).val - 512 - 512 < 512 := by show ¬ 512 * 3 + l.val - 512 - 512 < 512; omega
  refine ⟨?_, ?_, ?_, ?_⟩ <;> rw [z_read]
  · simp only [a0, ↓reduceDIte]
    exact congrArg (fun l => X0 m c (ix2 n l)) (Fin.ext (by show 512 * 0 + l.val = l.val; omega))
  · simp only [b0, b1, ↓reduceDIte]
    exact congrArg (fun l => X1 m c (ix2 n l)) (Fin.ext (by show 512 * 1 + l.val - 512 = l.val; omega))
  · simp only [c0, c1, c2, ↓reduceDIte]
    exact congrArg (fun l => X2 m c (ix2 n l)) (Fin.ext (by show 512 * 2 + l.val - 512 - 512 = l.val; omega))
  · simp only [d0, d1, d2, ↓reduceDIte]
    exact congrArg (fun l => X3 m c (ix2 n l)) (Fin.ext (by show 512 * 3 + l.val - 512 - 512 - 512 = l.val; omega))

theorem iblk0 (c : Dev nD) (t : Fin cfg0.N) (r : Fin 1024) (l : Fin 512) : iblk m c 0 t (ix2 r l) = X0 m c (ix2 (row t r) l) := by
  have ht := lt_point t
  rw [← (z_at m c (row t r) l).1]
  unfold iblk
  rw [show V m c (Pipeline.arrRef spec0 0) = _ from V_z m c, View.read_apply, show ((cfg0.win 0).blk t).view.emb (ix2 r l) = ix2 (row t r) (part 0 l) by blk_ext [idx t, row, part]]
  rfl

theorem iblk1 (c : Dev nD) (t : Fin cfg0.N) (r : Fin 1024) (l : Fin 512) : iblk m c 1 t (ix2 r l) = X1 m c (ix2 (row t r) l) := by
  have ht := lt_point t
  rw [← (z_at m c (row t r) l).2.1]
  unfold iblk
  rw [show V m c (Pipeline.arrRef spec0 1) = _ from V_z m c, View.read_apply, show ((cfg0.win 1).blk t).view.emb (ix2 r l) = ix2 (row t r) (part 1 l) by blk_ext [idx t, row, part]]
  rfl

theorem iblk2 (c : Dev nD) (t : Fin cfg0.N) (r : Fin 1024) (l : Fin 512) : iblk m c 2 t (ix2 r l) = X2 m c (ix2 (row t r) l) := by
  have ht := lt_point t
  rw [← (z_at m c (row t r) l).2.2.1]
  unfold iblk
  rw [show V m c (Pipeline.arrRef spec0 2) = _ from V_z m c, View.read_apply, show ((cfg0.win 2).blk t).view.emb (ix2 r l) = ix2 (row t r) (part 2 l) by blk_ext [idx t, row, part]]
  rfl

theorem iblk3 (c : Dev nD) (t : Fin cfg0.N) (r : Fin 8) (l : Fin 512) : iblk m c 3 t (ix2 r l) = X1 m c (ix2 (rowP t r) l) := by
  have ht := lt_point t
  rw [← (z_at m c (rowP t r) l).2.1]
  unfold iblk
  rw [show V m c (Pipeline.arrRef spec0 3) = _ from V_z m c, View.read_apply, show ((cfg0.win 3).blk t).view.emb (ix2 r l) = ix2 (rowP t r) (part 1 l) by blk_ext [idx t, rowP, part]]
  rfl

theorem iblk4 (c : Dev nD) (t : Fin cfg0.N) (r : Fin 8) (l : Fin 512) : iblk m c 4 t (ix2 r l) = X1 m c (ix2 (rowN t r) l) := by
  have ht := lt_point t
  rw [← (z_at m c (rowN t r) l).2.1]
  unfold iblk
  rw [show V m c (Pipeline.arrRef spec0 4) = _ from V_z m c, View.read_apply, show ((cfg0.win 4).blk t).view.emb (ix2 r l) = ix2 (rowN t r) (part 1 l) by blk_ext [idx t, rowN, part]]
  rfl

theorem iblk5 (c : Dev nD) (t : Fin cfg0.N) (r : Fin 8) (l : Fin 512) : iblk m c 5 t (ix2 r l) = X2 m c (ix2 (rowP t r) l) := by
  have ht := lt_point t
  rw [← (z_at m c (rowP t r) l).2.2.1]
  unfold iblk
  rw [show V m c (Pipeline.arrRef spec0 5) = _ from V_z m c, View.read_apply, show ((cfg0.win 5).blk t).view.emb (ix2 r l) = ix2 (rowP t r) (part 2 l) by blk_ext [idx t, rowP, part]]
  rfl

theorem iblk6 (c : Dev nD) (t : Fin cfg0.N) (r : Fin 8) (l : Fin 512) : iblk m c 6 t (ix2 r l) = X2 m c (ix2 (rowN t r) l) := by
  have ht := lt_point t
  rw [← (z_at m c (rowN t r) l).2.2.1]
  unfold iblk
  rw [show V m c (Pipeline.arrRef spec0 6) = _ from V_z m c, View.read_apply, show ((cfg0.win 6).blk t).view.emb (ix2 r l) = ix2 (rowN t r) (part 2 l) by blk_ext [idx t, rowN, part]]
  rfl

theorem iblk7 (c : Dev nD) (t : Fin cfg0.N) (r : Fin 1024) (l : Fin 512) : iblk m c 7 t (ix2 r l) = X3 m c (ix2 (row t r) l) := by
  have ht := lt_point t
  rw [← (z_at m c (row t r) l).2.2.2]
  unfold iblk
  rw [show V m c (Pipeline.arrRef spec0 7) = _ from V_z m c, View.read_apply, show ((cfg0.win 7).blk t).view.emb (ix2 r l) = ix2 (row t r) (part 3 l) by blk_ext [idx t, row, part]]
  rfl

theorem iblk8 (c : Dev nD) (t : Fin cfg0.N) (r : Fin 1024) (l : Fin 512) : iblk m c 8 t (ix2 r l) = X4 m c (ix2 (row t r) l) := by
  unfold iblk
  rw [show V m c (Pipeline.arrRef spec0 8) = _ from V_main_arg4 m c, View.read_apply, show ((cfg0.win 8).blk t).view.emb (ix2 r l) = ix2 (row t r) l by blk_ext [idx t, row]]
  rfl

theorem iblk9 (c : Dev nD) (t : Fin cfg0.N) (r : Fin 1024) (l : Fin 512) : iblk m c 9 t (ix2 r l) = X5 m c (ix2 (row t r) l) := by
  unfold iblk
  rw [show V m c (Pipeline.arrRef spec0 9) = _ from V_main_arg5 m c, View.read_apply, show ((cfg0.win 9).blk t).view.emb (ix2 r l) = ix2 (row t r) l by blk_ext [idx t, row]]
  rfl

theorem iblk10 (c : Dev nD) (t : Fin cfg0.N) (r : Fin 3) (l : Fin 512) : iblk m c 10 t (ix2 r l) = X6 m c (ix2 r l) := by
  unfold iblk
  rw [show V m c (Pipeline.arrRef spec0 10) = _ from V_main_arg6 m c, View.read_apply, show ((cfg0.win 10).blk t).view.emb (ix2 r l) = ix2 r l by blk_ext [idx t]]
  rfl

theorem iblk11 (c : Dev nD) (t : Fin cfg0.N) (r : Fin 1) (l : Fin 512) : iblk m c 11 t (ix2 r l) = X7 m c (ix2 r l) := by
  unfold iblk
  rw [show V m c (Pipeline.arrRef spec0 11) = _ from V_main_arg7 m c, View.read_apply, show ((cfg0.win 11).blk t).view.emb (ix2 r l) = ix2 r l by blk_ext [idx t]]
  rfl

theorem iblk12 (c : Dev nD) (t : Fin cfg0.N) (r : Fin 1) (l : Fin 128) : iblk m c 12 t (ix2 r l) = X8 m c (ix2 r l) := by
  unfold iblk
  rw [show V m c (Pipeline.arrRef spec0 12) = _ from V_main_arg8 m c, View.read_apply, show ((cfg0.win 12).blk t).view.emb (ix2 r l) = ix2 r l by blk_ext [idx t]]
  rfl

theorem V_ones (c : Dev nD) : V m c main_v8 = (uitofp .bf16 (cmpi .eq (broadcastInDim S512x512 ![0, 1] bcast_S512x1_S512x512_0_1 (broadcastInDim S512x1 ![0] bcast_S512_S512x1_0 group))
    (broadcastInDim S512x512 ![0, 1] bcast_S1x512_S512x512_0_1 (broadcastInDim S1x512 ![1] bcast_S512_S1x512_1 group))) : FVec Ideal S512x512 .bf16) := by
  simp only [V]
  entry_read
  rfl

theorem ones_at (c : Dev nD) (l j : Fin 512) : (V m c main_v8 (ix2 l j) : EReal) = if l.val / 64 = j.val / 64 then (1 : EReal) else (0 : EReal) := by
  rw [V_ones]
  have hl := group_at l
  have hj := group_at j
  generalize group = g at hl hj ⊢
  pointwise
  rw [hl, hj]
  have h1 := l.isLt
  have h2 := j.isLt
  by_cases h : l.val / 64 = j.val / 64
  · rw [if_pos h, h]
    show (((IntOp.cmpi .eq (BitVec.ofNat 32 (j.val / 64)) (BitVec.ofNat 32 (j.val / 64))).toNat : ℝ) : EReal) = 1
    simp [IntOp.cmpi]
  · rw [if_neg h]
    show (((IntOp.cmpi .eq (BitVec.ofNat 32 (l.val / 64)) (BitVec.ofNat 32 (j.val / 64))).toNat : ℝ) : EReal) = 0
    have hne : (BitVec.ofNat 32 (l.val / 64) == BitVec.ofNat 32 (j.val / 64)) = false := by
      rw [beq_eq_false_iff_ne]
      intro e
      have := congrArg BitVec.toNat e
      simp only [BitVec.toNat_ofNat] at this
      omega
    simp [IntOp.cmpi, hne]

theorem iblk13 (c : Dev nD) (t : Fin cfg0.N) (l j : Fin 512) : (iblk m c 13 t (ix2 l j) : EReal) = if l.val / 64 = j.val / 64 then (1 : EReal) else (0 : EReal) := by
  rw [← ones_at m c l j]
  unfold iblk
  rw [View.read_apply, show ((cfg0.win 13).blk t).view.emb (ix2 l j) = ix2 l j by blk_ext [idx t]]
  rfl

theorem blk1 (c : Dev nD) (t : Fin cfg0.N) : Blk (X1 m c) t.val (iblk m c 3 t) (iblk m c 1 t) (iblk m c 4 t) where
  p r l i h := (iblk3 m c t r l).trans (congrArg (fun i => X1 m c (ix2 i l)) (Fin.ext h.symm))
  b r l i h := (iblk1 m c t r l).trans (congrArg (fun i => X1 m c (ix2 i l)) (Fin.ext h.symm))
  n r l i h := (iblk4 m c t r l).trans (congrArg (fun i => X1 m c (ix2 i l)) (Fin.ext h.symm))

theorem blk2 (c : Dev nD) (t : Fin cfg0.N) : Blk (X2 m c) t.val (iblk m c 5 t) (iblk m c 2 t) (iblk m c 6 t) where
  p r l i h := (iblk5 m c t r l).trans (congrArg (fun i => X2 m c (ix2 i l)) (Fin.ext h.symm))
  b r l i h := (iblk2 m c t r l).trans (congrArg (fun i => X2 m c (ix2 i l)) (Fin.ext h.symm))
  n r l i h := (iblk6 m c t r l).trans (congrArg (fun i => X2 m c (ix2 i l)) (Fin.ext h.symm))

/-- The convolution's arguments are real numbers. -/
structure Finite (c : Dev nD) : Prop where
  x0 : ∀ i, ∃ r : ℝ, (X0 m c i : EReal) = r
  x1 : ∀ i, ∃ r : ℝ, (X1 m c i : EReal) = r
  x2 : ∀ i, ∃ r : ℝ, (X2 m c i : EReal) = r
  x6 : ∀ i, ∃ r : ℝ, (X6 m c i : EReal) = r

/-- The two halves a point computes. -/
abbrev A (c : Dev nD) (t : Fin cfg0.N) : FVec Ideal S1024x512 .f32 :=
  k0_pay6 (F := Ideal) (iblk m c 10 t) (k0_pay3 (F := Ideal) (grid0.coords t) (iblk m c 3 t) (iblk m c 1 t) (iblk m c 4 t) (iblk m c 5 t) (iblk m c 2 t) (iblk m c 6 t))
    (k0_pay4 (F := Ideal) (grid0.coords t) (iblk m c 3 t) (iblk m c 1 t) (iblk m c 4 t) (iblk m c 5 t) (iblk m c 2 t) (iblk m c 6 t) (iblk m c 10 t))
    (k0_pay5 (F := Ideal) (grid0.coords t) (iblk m c 3 t) (iblk m c 1 t) (iblk m c 4 t) (iblk m c 5 t) (iblk m c 2 t) (iblk m c 6 t) (iblk m c 10 t))
    (iblk m c 0 t) (iblk m c 13 t) (iblk m c 11 t)
abbrev B (c : Dev nD) (t : Fin cfg0.N) : FVec Ideal S1024x512 .f32 :=
  k0_pay11 (F := Ideal) (k0_pay7 (F := Ideal) (iblk m c 7 t)) (k0_pay8 (F := Ideal) (iblk m c 7 t)) (k0_pay9 (F := Ideal) (iblk m c 7 t)) (k0_pay10 (F := Ideal) (iblk m c 7 t)) (Scalar.ofBits (F := Ideal) .f32 0x3F800000#32)

variable {m} {c : Dev nD}

theorem a_at (h : Finite m c) (t : Fin cfg0.N) (r : Fin 1024) (j : Fin 512) : A m c t (ix2 r j) = conv (X0 m c) (X1 m c) (X2 m c) (X6 m c) (X7 m c) (row t r) j := by
  have ht := lt_point t
  have hr := r.isLt
  refine (conv_at _ _ _ _ _ _ _ (yc (X0 m c) (X1 m c) (X2 m c) (X6 m c) (row t r)) r j (fun j => ?_) (fun j => real_yc h.x0 h.x1 h.x2 h.x6 _ j) fun l => iblk13 m c t l j).trans ?_
  · rw [next_at (t := t) ht (blk1 m c t) (blk2 m c t) _ j (by show 8 + r.val < 1039; omega), prev_at (t := t) ht (blk1 m c t) (blk2 m c t) _ _ j (by show 1 ≤ 8 + r.val; omega),
      here_at (t := t) ht (blk1 m c t) (blk2 m c t) _ _ j, iblk0, iblk10, iblk10, iblk10]
    unfold yc cv
    rw [show 1024 * t.val + (8 + r.val) = (row t r).val + 8 by show _ = 1024 * t.val + r.val + 8; omega]
  · rw [iblk11]
    rfl

theorem b_at (t : Fin cfg0.N) (r : Fin 1024) (q : Fin 4) (l : Fin 128) :
    side (iblk m c 12 t) (k0_pay13 (F := Ideal) (iblk m c 8 t) (iblk m c 9 t)) (k0_pay14 (F := Ideal) (iblk m c 8 t) (iblk m c 9 t)) (k0_pay15 (F := Ideal) (iblk m c 8 t) (iblk m c 9 t))
        (last (k0_pay12 (F := Ideal) (iblk m c 8 t) (iblk m c 9 t))) (ix2 r (hl q l)) * B m c t (ix2 r (hl q l)) = gated (X3 m c) (X4 m c) (X5 m c) (X8 m c) (row t r) q l := by
  rw [side_at _ _ _ _ _ (fun q l => headed (fun l => k0_pay12 (F := Ideal) (iblk m c 8 t) (iblk m c 9 t) (ix2 r (hl q l))) l) r
    (fun l => head0_at _ _ r l) (fun l => head1_at _ _ r l) (fun l => head2_at _ _ r l) (fun l => last_at _ r l) q l, show B m c t (ix2 r (hl q l)) = _ from silu_at _ r _, iblk7, iblk12]
  simp only [o_at, iblk8, iblk9]
  rfl

theorem final14 (h : Finite m c) : (dats m 0 c).arrAt 14 (cfgs 0).N = fun i : S8192x1024.Idx => mixed (X0 m c) (X1 m c) (X2 m c) (X3 m c) (X4 m c) (X5 m c) (X6 m c) (X7 m c) (X8 m c) (i 0) (i 1) := by
  refine (dats m 0 c).arrAt_eq_of_covers 14 _ (by decide +kernel) fun t hf y => ?_
  blk_simp
  obtain ⟨r, j, rfl⟩ : ∃ (r : Fin 1024) (j : Fin 1024), y = ix2 r j := ⟨y 0, y 1, by blk_ext []⟩
  rw [show ((cfg0.win 14).blk t).view.emb (ix2 r j) = ix2 (row t r) j by blk_ext [idx t, row]]
  rw [after0_14]
  frame_out
  refine (pay1_read _ _ _ _ _ _ _ r j).trans ?_
  show _ = mixed _ _ _ _ _ _ _ _ _ (row t r) j
  unfold mixed
  by_cases hj : j.val < 512
  · rw [dif_pos hj, dif_pos hj]
    exact a_at h t r _
  · rw [dif_neg hj, dif_neg hj, ← b_at t r]
    rw [show hl ⟨(j.val - 512) / 128, by omega⟩ ⟨(j.val - 512) % 128, by omega⟩ = (⟨j.val - 512, by omega⟩ : Fin 512) from Fin.ext (by simp [hl]; omega)]

end Cert.Kernel15Ideal.Value

namespace Cert.Reference15Ideal.Read
open Cert.Reference15Ideal Cert.Reference15Ideal.Gen Cert.Mixf Cert.Num Cert.Gate Finset
open Cert.Reference9Ideal.Mix (gl lane_gl gl_div hl_div hl_q hl_l)

variable (x0 x1 x2 x3 x4 x5 : FVec Ideal S8192x512 .f32) (x6 : FVec Ideal S3x512 .f32) (x7 : FVec Ideal S1x512 .f32) (x8 : FVec Ideal S1x128 .f32)

theorem padded_at (p : Fin 8194) (j : Fin 512) : val_main_v3 (F := Ideal) x1 x2 (ix2 p j) = hp x1 x2 (p.val + 7) j := by
  unfold val_main_v3 val_main_v2 val_main_v1 val_main_cst hp
  pointwise []
  by_cases h0 : p.val < 1
  · simp only [h0, ↓reduceDIte]
    rw [dif_neg (by omega)]
  · by_cases h1 : p.val - 1 < 8192
    · simp only [h0, h1, ↓reduceDIte]
      have e : (⟨p.val - 1, h1⟩ : Fin 8192) = ⟨p.val + 7 - 8, by omega⟩ := Fin.ext (by show p.val - 1 = p.val + 7 - 8; omega)
      rw [dif_pos (by omega), e]
    · simp only [h0, h1, ↓reduceDIte]
      rw [dif_neg (by omega)]

theorem yc_at (n : Fin 8192) (q : Fin 8) (l : Fin 64) : val_main_v25 (F := Ideal) x0 x1 x2 x6 (ix3 n q l) = yc x0 x1 x2 x6 n (gl q l) := by
  have hz := fun p j => padded_at x1 x2 p j
  unfold val_main_v25 val_main_v24 val_main_v23 val_main_v22 val_main_v16 val_main_v15 val_main_v9 val_main_v6 val_main_v12 val_main_v19
  generalize val_main_v3 (F := Ideal) x1 x2 = z at hz
  pointwise [val_main_v4, val_main_v5, val_main_v7, val_main_v8, val_main_v10, val_main_v11, val_main_v13, val_main_v14, val_main_v17, val_main_v18, val_main_v20, val_main_v21]
  simp only [hz]
  unfold yc cv
  rw [show 1 + n.val + 7 = n.val + 8 by omega, show 2 + n.val + 7 = n.val + 8 + 1 by omega]
  rfl

theorem conv_at (n : Fin 8192) (j : Fin 512) : val_main_v40 (F := Ideal) x0 x1 x2 x6 x7 (ix2 n j) = conv x0 x1 x2 x6 x7 n j := by
  have hy := fun q l => yc_at x0 x1 x2 x6 n q l
  unfold val_main_v40 val_main_v39 val_main_v38 val_main_v37 val_main_v36 val_main_v35 val_main_v34 val_main_v33 val_main_v31 val_main_v29 val_main_v28 val_main_v27 val_main_v26
  generalize val_main_v25 (F := Ideal) x0 x1 x2 x6 = y at hy
  pointwise [val_main_cst_0, val_main_cst_1, val_main_cst_2, val_main_v30, val_main_v32]
  simp only [hy, f64, Ideal.div_coe (show (64 : ℝ) ≠ 0 by norm_num), gl_div]
  have hl : ∀ (p : j.val / 64 < 8) x, gl ⟨j.val / 64, p⟩ x = lane j x := fun p x => Fin.ext (by simp [gl, lane]; omega)
  simp only [hl]
  rfl

theorem gated_at (n : Fin 8192) (q : Fin 4) (l : Fin 128) : val_main_v57 (F := Ideal) x3 x4 x5 x8 (ix2 n (hl q l)) = gated x3 x4 x5 x8 n q l := by
  unfold val_main_v57 val_main_v55 val_main_v54 val_main_v51 val_main_v50 val_main_v49 val_main_v48 val_main_v46 val_main_v44 val_main_v43 val_main_v42 val_main_v41 val_main_v0
  pointwise [val_main_cst_3, val_main_cst_4, val_main_cst_5, val_main_v45, val_main_v47, val_main_v52, val_main_v53, val_main_v56, val_main_call0_v5, val_main_call0_v4, val_main_call0_v3, val_main_call0_v2, val_main_call0_v1, val_main_call0_v0, val_main_call0_cst, val_main_call0_cst_0]
  have hx : ∀ (x : Fin 128) (p : (hl q l).val / 128 * 128 + x.val < 512), (⟨(hl q l).val / 128 * 128 + x.val, p⟩ : Fin 512) = hl q x := fun x p => Fin.ext (by simp [hl]; omega)
  simp only [hx, hl_l, sg_quotient, f128, Ideal.div_coe (show (128 : ℝ) ≠ 0 by norm_num)]
  rfl

theorem v59_eq : val_main_v59 (F := Ideal) x0 x1 x2 x3 x4 x5 x6 x7 x8 = fun i : S8192x1024.Idx => mixed x0 x1 x2 x3 x4 x5 x6 x7 x8 (i 0) (i 1) := by
  funext i
  obtain ⟨n, j, rfl⟩ : ∃ (n : Fin 8192) (j : Fin 1024), i = ix2 n j := ⟨i 0, i 1, by blk_ext []⟩
  show _ = mixed x0 x1 x2 x3 x4 x5 x6 x7 x8 n j
  have hc := fun j => conv_at x0 x1 x2 x6 x7 n j
  have hg := fun q l => gated_at x3 x4 x5 x8 n q l
  unfold val_main_v59 val_main_v58 mixed
  generalize val_main_v40 (F := Ideal) x0 x1 x2 x6 x7 = y at hc
  generalize val_main_v57 (F := Ideal) x3 x4 x5 x8 = z at hg
  pointwise []
  by_cases hj : j.val < 512
  · rw [dif_pos hj, dif_pos hj, hc]
  · rw [dif_neg hj, dif_neg hj, ← hg]
    rw [show hl ⟨(j.val - 512) / 128, by omega⟩ ⟨(j.val - 512) % 128, by omega⟩ = (⟨j.val - 512, by omega⟩ : Fin 512) from Fin.ext (by simp [hl]; omega)]

end Cert.Reference15Ideal.Read

namespace Cert.Proof
open Cert.Kernel15Ideal.Value

theorem finite15 : Cert.Pre_pre15.Facts := ⟨by decide, by decide⟩

/-- What the precondition says of the arguments. -/
theorem real15 (m : (ℓ : Loc Cert.Kernel15Ideal.nD Cert.Kernel15Ideal.τ Cert.Kernel15Ideal.sig) → Buf (Elt Ideal) ℓ)
    (h : Cert.Pre_Kernel15Ideal_pre15 (hPre_pre15 := finite15) m) (c : Dev Cert.Kernel15Ideal.nD) : Finite m c where
  x0 i := Cert.Num.real_of_cmp (congrFun (h c).1 i)
  x1 i := Cert.Num.real_of_cmp (congrFun (h c).2.1 i)
  x2 i := Cert.Num.real_of_cmp (congrFun (h c).2.2.1 i)
  x6 i := Cert.Num.real_of_cmp (congrFun (h c).2.2.2 i)

/-- Both programs run, and the kernel's result is the mixed rows. -/
theorem mixf_algebraic : Cert.algebraic_Kernel15Ideal_Reference15Ideal_pre_pre15 (hPre_pre15 := finite15) := fun m ρ m' ρ' hp hag =>
  ⟨fun c => Cert.Reference15Ideal.Read.val_main_v59 (F := Ideal) (X0 m c) (X1 m c) (X2 m c) (X3 m c) (X4 m c) (X5 m c) (X6 m c) (X7 m c) (X8 m c),
    (θ_run _ _ _).mono (fun _ h c => ⟨(h c).1.trans ((final14 (real15 m hp c)).trans (Cert.Reference15Ideal.Read.v59_eq _ _ _ _ _ _ _ _ _).symm), (h c).2⟩) (Cert.Kernel15Ideal.Value.run_blocks m ρ),
    (θ_run _ _ _).mono (fun _ h c => by
      obtain ⟨h0, h1, h2, h3, h4, h5, h6, h7, h8⟩ := hag c
      exact ⟨(h c).1.trans ((Cert.Reference15Ideal.Read.val_main_v59_eq _ _).trans (by rw [h0, h1, h2, h3, h4, h5, h6, h7, h8])), (h c).2⟩)
      (Cert.Reference15Ideal.Value.run m' ρ')⟩

/-- The reference runs and leaves its arguments as they were. -/
theorem mixf_reference : Cert.quiescent_Reference15Ideal := fun m ρ _ =>
  (θ_run _ _ _).mono (fun r h => ⟨fun c => (h c).2, sem_eq_zero_of_no_sems (by decide) r.2⟩) (Cert.Reference15Ideal.Value.run m ρ)

end Cert.Proof

end
-- ==== Proof.GlafRun.lean ====
module

public import proofs.«01_k».proof.Proof.Gen.Kernel16Ideal.Frame
public import proofs.«01_k».proof.Proof.Gen.Kernel16Ideal.Skeleton
public import Idealize.ShloMosaic.Lib.Claim

/-! One trip of the recurrence's loop, the loop, and the body of the call. -/

@[expose] public section

set_option maxRecDepth 16384

noncomputable section

namespace Cert.Kernel16Ideal.Gla

open Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Owning a whole buffer at the contents `x` is holding it at the contents that read as `x`. -/
theorem owns_held (c : Dev nD) {s : Shape} {e : EltTy} {M : Memref sig .tc .vmem s e} (h : M.IsWhole) (x : Vec F s e) :
    (owns (c : Thread nD τ) M fullShare x : sProp 𝕄)
      = (M.view.loc (c : Thread nD τ) ↦[M.view.set]{fullShare} h.unread (Val := Elt F) x) := by
  have h1 : iprop(owns (c : Thread nD τ) M fullShare x : sProp 𝕄)
      ⊢ iprop(M.view.loc (c : Thread nD τ) ↦[M.view.set]{fullShare} h.unread (Val := Elt F) x) := by
    unfold owns
    iintro ⟨%f, %hf, H⟩
    obtain rfl := h.eq_unread hf
    iexact H
  have h2 : iprop(M.view.loc (c : Thread nD τ) ↦[M.view.set]{fullShare} h.unread (Val := Elt F) x : sProp 𝕄)
      ⊢ iprop(owns (c : Thread nD τ) M fullShare x) := by
    unfold owns
    iintro H
    iexists _
    isplitr
    · ipureintro; exact h.read_unread _
    iexact H
  exact Entails.antisymm h1 h2

/-- A buffer written by pieces that cover it holds what the pieces say, whatever it held. -/
theorem owns_written (c : Dev nD) {s : Shape} {e : EltTy} (M : Memref sig .tc .vmem s e) (W : View sig .tc .vmem s e)
    (L : List (View.Piece (Elt F) s e)) (hL : ∀ i, ∃ pc ∈ L, i ∈ pc.1.set) :
    iprop(∃ f, M.view.loc (c : Thread nD τ) ↦[M.view.set]{fullShare} M.view.writes (Elt F) f L : sProp 𝕄)
      ⊢ iprop(owns (c : Thread nD τ) M fullShare (W.read (Elt F) (W.writes (Elt F) W.junk L))) := by
  unfold owns
  iintro ⟨%f, H⟩
  iexists (M.view.writes (Elt F) f L)
  isplitr
  · ipureintro; exact View.read_writes_of_cover _ _ _ _ _ hL
  iexact H

section body

variable (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x512 .f32) (harg3 : arg3.IsWhole)
    (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole)
    (arg7 : Memref sig .tc .vmem S512x512 .f32) (harg7 : arg7.IsWhole) (arg8 : Memref sig .tc .vmem S512x256 .f32) (harg8 : arg8.IsWhole) (arg9 : Memref sig .tc .vmem S512x512 .f32) (harg9 : arg9.IsWhole)
    (arg10 : Memref sig .tc .vmem S8x128x256 .f32) (harg10 : arg10.IsWhole) (arg11 : Memref sig .tc .vmem S512x512 .f32) (harg11 : arg11.IsWhole) (arg12 : Memref sig .tc .vmem S8x128x256 .f32) (harg12 : arg12.IsWhole)
    (arg13 : Memref sig .tc .vmem S128x256 .f32) (harg13 : arg13.IsWhole) (arg14 : Memref sig .tc .vmem S128x256 .f32) (harg14 : arg14.IsWhole)
variable (x0 : Vec F S512x256 .f32) (x1 : Vec F S512x256 .f32) (x2 : Vec F S512x512 .f32) (x3 : Vec F S512x256 .f32) (x4 : Vec F S512x256 .f32) (x5 : Vec F S512x256 .f32) (x6 : Vec F S512x512 .f32) (x7 : Vec F S512x256 .f32)

/-- The buffers of the call's eight inputs, at the contents `x0` to `x7`. -/
def ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

set_option maxHeartbeats 16000000 in
/-- One trip of the loop: what it stores into each output and each state, as the run finds it, with the run itself. -/
noncomputable def trip (k : Fin k0_t1_loop.trips) (y13 y14 : Vec F S128x256 .f32) :
    Σ' (L9 : List (View.Piece (Elt F) S512x512 .f32)) (L10 : List (View.Piece (Elt F) S8x128x256 .f32))
      (L11 : List (View.Piece (Elt F) S512x512 .f32)) (L12 : List (View.Piece (Elt F) S8x128x256 .f32))
      (L13 : List (View.Piece (Elt F) S128x256 .f32)),
      { L14 : List (View.Piece (Elt F) S128x256 .f32) // ∀ (f9 : arg9.view.ty.Contents (Elt F)) (f10 : arg10.view.ty.Contents (Elt F)) (f11 : arg11.view.ty.Contents (Elt F)) (f12 : arg12.view.ty.Contents (Elt F)) (E : Set ℕ) (K : Unit → sProp 𝕄),
        iprop(ins c arg1 arg2 arg3 arg4 arg5 arg6 arg7 arg8 x0 x1 x2 x3 x4 x5 x6 x7 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
          ∗ owns (c : Thread nD τ) arg13 fullShare y13 ∗ owns (c : Thread nD τ) arg14 fullShare y14
          ∗ (iprop(ins c arg1 arg2 arg3 arg4 arg5 arg6 arg7 arg8 x0 x1 x2 x3 x4 x5 x6 x7 ∗ (arg9.view.loc (c : Thread nD τ) ↦[arg9.view.set]{fullShare} arg9.view.writes (Elt F) f9 L9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg12.view.loc (c : Thread nD τ) ↦[arg12.view.set]{fullShare} arg12.view.writes (Elt F) f12 L12)
            ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
        ⊢ wp frame (wpE (defs₀ (F := F)) Variants.none c none) E
            (k0_t1_body i arg1 harg1 arg2 harg2 arg3 harg3 arg4 harg4 arg5 harg5 arg6 harg6 arg7 harg7 arg8 harg8 arg9 harg9 arg10 harg10 arg11 harg11 arg12 harg12 arg13 harg13 arg14 harg14 (k0_pay36) (k0_pay37) (k0_pay38) (k0_pay39) (k0_pay40) (k0_pay41) (k0_pay43) (k0_pay44) (k0_pay45) (k0_pay46) (k0_pay47) (k0_pay48) 0#32 k ⟨⟩) K } := by
  refine ⟨?_, ?_, ?_, ?_, ?_, ?_, fun f9 f10 f11 f12 E K => ?run⟩
  case run =>
    unfold k0_t1_body
    simp only [k0_part1_eq_skeleton, k0_part2_eq_skeleton, k0_part3_eq_skeleton, k0_part4_eq_skeleton, k0_part5_eq_skeleton]
    unfold ins
    rw [owns_held c harg1, owns_held c harg2, owns_held c harg3, owns_held c harg4, owns_held c harg5, owns_held c harg6, owns_held c harg7, owns_held c harg8, owns_held c harg13, owns_held c harg14]
    iintro ⟨⟨H0, H1, H2, H3, H4, H5, H6, H7⟩, H9, H10, H11, H12, H13, H14, Hk⟩
    sl_exec
    sl_step
    iapply Hk
    sl_close

end body

/-- The view the states' contents are stated through. -/
abbrev VS : View sig .tc .vmem S128x256 .f32 := (Memref.whole cc0_scratch0 : Memref sig .tc .vmem S128x256 .f32).view

/-- What a state's buffer holds after the pieces `L`. -/
def held (L : List (View.Piece (Elt F) S128x256 .f32)) : Vec F S128x256 .f32 := VS.read (Elt F) (VS.writes (Elt F) VS.junk L)

section loop

variable (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x512 .f32) (harg3 : arg3.IsWhole)
    (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole)
    (arg7 : Memref sig .tc .vmem S512x512 .f32) (harg7 : arg7.IsWhole) (arg8 : Memref sig .tc .vmem S512x256 .f32) (harg8 : arg8.IsWhole) (arg9 : Memref sig .tc .vmem S512x512 .f32) (harg9 : arg9.IsWhole)
    (arg10 : Memref sig .tc .vmem S8x128x256 .f32) (harg10 : arg10.IsWhole) (arg11 : Memref sig .tc .vmem S512x512 .f32) (harg11 : arg11.IsWhole) (arg12 : Memref sig .tc .vmem S8x128x256 .f32) (harg12 : arg12.IsWhole)
    (arg13 : Memref sig .tc .vmem S128x256 .f32) (harg13 : arg13.IsWhole) (arg14 : Memref sig .tc .vmem S128x256 .f32) (harg14 : arg14.IsWhole)
variable (x0 : Vec F S512x256 .f32) (x1 : Vec F S512x256 .f32) (x2 : Vec F S512x512 .f32) (x3 : Vec F S512x256 .f32) (x4 : Vec F S512x256 .f32) (x5 : Vec F S512x256 .f32) (x6 : Vec F S512x512 .f32) (x7 : Vec F S512x256 .f32)

set_option maxHeartbeats 4000000 in
/-- The two states after trip `k`, from those before it. -/
def next (k : Fin k0_t1_loop.trips) (y : Vec F S128x256 .f32 × Vec F S128x256 .f32) : Vec F S128x256 .f32 × Vec F S128x256 .f32 :=
  (held (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y.1 y.2).2.2.2.2.1, held (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y.1 y.2).2.2.2.2.2.1)

/-- The pieces stored into the four outputs. -/
abbrev Pieces (F : FTy → Type) : Type := List (View.Piece (Elt F) S512x512 .f32) × List (View.Piece (Elt F) S8x128x256 .f32)
      × List (View.Piece (Elt F) S512x512 .f32) × List (View.Piece (Elt F) S8x128x256 .f32)

set_option maxHeartbeats 4000000 in
/-- The pieces after trip `k`, from those before it: newest first. -/
def more (k : Fin k0_t1_loop.trips) (y : Vec F S128x256 .f32 × Vec F S128x256 .f32) (a : Pieces F) : Pieces F :=
  ((trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y.1 y.2).1 ++ a.1, (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y.1 y.2).2.1 ++ a.2.1, (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y.1 y.2).2.2.1 ++ a.2.2.1, (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y.1 y.2).2.2.2.1 ++ a.2.2.2)

/-- The two states before trip `n`, from those the body starts with. -/
def st (y : Vec F S128x256 .f32 × Vec F S128x256 .f32) : ℕ → Vec F S128x256 .f32 × Vec F S128x256 .f32
  | 0 => y
  | n + 1 => if h : n < k0_t1_loop.trips then next c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 ⟨n, h⟩ (st y n) else st y n

/-- The pieces stored into the outputs by the trips before `n`. -/
def acc (y : Vec F S128x256 .f32 × Vec F S128x256 .f32) : ℕ → Pieces F
  | 0 => ([], [], [], [])
  | n + 1 => if h : n < k0_t1_loop.trips then more c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 ⟨n, h⟩ (st c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n) (acc y n) else acc y n

theorem cover13 (k : Fin k0_t1_loop.trips) (y13 y14 : Vec F S128x256 .f32) (j : S128x256.Idx) :
    ∃ pc ∈ (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y13 y14).2.2.2.2.1, j ∈ pc.1.set :=
  View.cover_of_tiledL (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y13 y14).2.2.2.2.1 S128x256.size (by sl_kernel_rfl) j

theorem cover14 (k : Fin k0_t1_loop.trips) (y13 y14 : Vec F S128x256 .f32) (j : S128x256.Idx) :
    ∃ pc ∈ (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y13 y14).2.2.2.2.2.1, j ∈ pc.1.set :=
  View.cover_of_tiledL (trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 k y13 y14).2.2.2.2.2.1 S128x256.size (by sl_kernel_rfl) j

/-- What is held before trip `n`. -/
def inv (y : Vec F S128x256 .f32 × Vec F S128x256 .f32) (f9 : arg9.view.ty.Contents (Elt F)) (f10 : arg10.view.ty.Contents (Elt F)) (f11 : arg11.view.ty.Contents (Elt F)) (f12 : arg12.view.ty.Contents (Elt F))
    (n : ℕ) (_ : Unit) : sProp 𝕄 :=
  iprop(ins c arg1 arg2 arg3 arg4 arg5 arg6 arg7 arg8 x0 x1 x2 x3 x4 x5 x6 x7 ∗ (arg9.view.loc (c : Thread nD τ) ↦[arg9.view.set]{fullShare} arg9.view.writes (Elt F) f9 (acc c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n).1) ∗ (arg10.view.loc (c : Thread nD τ) ↦[arg10.view.set]{fullShare} arg10.view.writes (Elt F) f10 (acc c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n).2.1) ∗ (arg11.view.loc (c : Thread nD τ) ↦[arg11.view.set]{fullShare} arg11.view.writes (Elt F) f11 (acc c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n).2.2.1) ∗ (arg12.view.loc (c : Thread nD τ) ↦[arg12.view.set]{fullShare} arg12.view.writes (Elt F) f12 (acc c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n).2.2.2)
    ∗ owns (c : Thread nD τ) arg13 fullShare (st c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n).1 ∗ owns (c : Thread nD τ) arg14 fullShare (st c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n).2)

set_option maxHeartbeats 16000000 in
theorem inv_step (y : Vec F S128x256 .f32 × Vec F S128x256 .f32) (f9 : arg9.view.ty.Contents (Elt F)) (f10 : arg10.view.ty.Contents (Elt F)) (f11 : arg11.view.ty.Contents (Elt F)) (f12 : arg12.view.ty.Contents (Elt F))
    (k : Fin k0_t1_loop.trips) (a : Unit) :
    inv c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y f9 f10 f11 f12 k.val a ⊢ wp frame (wpE (defs₀ (F := F)) Variants.none c none) Set.univ
            (k0_t1_body i arg1 harg1 arg2 harg2 arg3 harg3 arg4 harg4 arg5 harg5 arg6 harg6 arg7 harg7 arg8 harg8 arg9 harg9 arg10 harg10 arg11 harg11 arg12 harg12 arg13 harg13 arg14 harg14 (k0_pay36) (k0_pay37) (k0_pay38) (k0_pay39) (k0_pay40) (k0_pay41) (k0_pay43) (k0_pay44) (k0_pay45) (k0_pay46) (k0_pay47) (k0_pay48) 0#32 k a) (fun b => inv c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y f9 f10 f11 f12 (k.val + 1) b) := by
  obtain ⟨n, hn⟩ := k
  unfold inv
  rw [st, acc]
  simp only [hn, ↓reduceDIte, next, more, View.writes_append]
  generalize st c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n = s
  generalize acc c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y n = a
  iintro ⟨Hin, H9, H10, H11, H12, H13, H14⟩
  iapply ((trip c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 ⟨n, hn⟩ s.1 s.2).2.2.2.2.2.2 _ _ _ _ Set.univ _)
  isplitl [Hin]; · iexact Hin
  isplitl [H9]; · iexact H9
  isplitl [H10]; · iexact H10
  isplitl [H11]; · iexact H11
  isplitl [H12]; · iexact H12
  isplitl [H13]; · iexact H13
  isplitl [H14]; · iexact H14
  iintro ⟨Hin, H9, H10, H11, H12, H13, H14⟩
  isplitl [Hin]; · iexact Hin
  isplitl [H9]; · iexact H9
  isplitl [H10]; · iexact H10
  isplitl [H11]; · iexact H11
  isplitl [H12]; · iexact H12
  isplitl [H13]; · iapply (owns_written c arg13 VS _ (cover13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 ⟨n, hn⟩ s.1 s.2)); iexact H13
  iapply (owns_written c arg14 VS _ (cover14 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 ⟨n, hn⟩ s.1 s.2)); iexact H14

/-- The first point's condition, of its grid coordinates. -/
abbrev first (i : grid0.Coords) : Prop :=
  Scalar.cmpi .ne (Scalar.extui (Scalar.cmpi .eq (BitVec.ofNat 32 (i 0).val) 0#32) : BitVec 32) 0#32 = 1#1

/-- The states the body starts its loop with: zero at the first point, what the point before left at the others. -/
def start (y : Vec F S128x256 .f32 × Vec F S128x256 .f32) : Vec F S128x256 .f32 × Vec F S128x256 .f32 :=
  if first i then (held [⟨Rect.unit (s := S128x256) ![0, 0] S128x256.size inb_S128x256_S128x256_0_0, k0_pay49 (F := F)⟩],
    held [⟨Rect.unit (s := S128x256) ![0, 0] S128x256.size inb_S128x256_S128x256_0_0, k0_pay50 (F := F)⟩]) else y

set_option maxHeartbeats 4000000 in
/-- The body: the loop's eight trips from the states it starts with. -/
theorem body (y0 y : Vec F S128x256 .f32 × Vec F S128x256 .f32) (hy : y = start i y0)
    (f9 : arg9.view.ty.Contents (Elt F)) (f10 : arg10.view.ty.Contents (Elt F)) (f11 : arg11.view.ty.Contents (Elt F)) (f12 : arg12.view.ty.Contents (Elt F))
    (K : PUnit → sProp 𝕄) :
    iprop(ins c arg1 arg2 arg3 arg4 arg5 arg6 arg7 arg8 x0 x1 x2 x3 x4 x5 x6 x7 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
          ∗ owns (c : Thread nD τ) arg13 fullShare y0.1 ∗ owns (c : Thread nD τ) arg14 fullShare y0.2
          ∗ (inv c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y f9 f10 f11 f12 8 ⟨⟩ -∗ K ⟨⟩))
      ⊢ wp frame (wpE (defs₀ (F := F)) Variants.none c none) Set.univ (cc0_gla_scan i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gla_scan_eq_skeleton]
  unfold cc0_gla_scan_skel
  simp only [k0_part6_eq_skeleton]
  by_cases hf : first i
  · rw [start, if_pos hf] at hy
    rw [owns_held c harg13, owns_held c harg14]
    iintro ⟨Hin, H9, H10, H11, H12, H13, H14, Hk⟩
    sl_exec (disch := sl_exact hf)
    ihave H13' := (owns_written c arg13 VS [⟨Rect.unit (s := S128x256) ![0, 0] S128x256.size inb_S128x256_S128x256_0_0, k0_pay49 (F := F)⟩] (fun j => View.cover_of_tiledL _ S128x256.size (by sl_kernel_rfl) j)) $$ [H13]
    · iexists _; iexact H13
    ihave H14' := (owns_written c arg14 VS [⟨Rect.unit (s := S128x256) ![0, 0] S128x256.size inb_S128x256_S128x256_0_0, k0_pay50 (F := F)⟩] (fun j => View.cover_of_tiledL _ S128x256.size (by sl_kernel_rfl) j)) $$ [H14]
    · iexists _; iexact H14
    sl_for (inv c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y f9 f10 f11 f12) $$ [Hin H9 H10 H11 H12 H13' H14']
    case region => intro k a; exact inv_step c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y f9 f10 f11 f12 k a
    · subst hy; unfold inv; rw [st, acc]
      isplitl [Hin]; · iexact Hin
      isplitl [H9]; · iexact H9
      isplitl [H10]; · iexact H10
      isplitl [H11]; · iexact H11
      isplitl [H12]; · iexact H12
      isplitl [H13']; · iexact H13'
      iexact H14'
    iintro %a HI
    sl_exec
    sl_step
    iapply Hk
    iexact HI
  · rw [start, if_neg hf] at hy
    subst hy
    iintro ⟨Hin, H9, H10, H11, H12, H13, H14, Hk⟩
    sl_exec (disch := sl_exact hf)
    sl_for (inv c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y f9 f10 f11 f12) $$ [Hin H9 H10 H11 H12 H13 H14]
    case region => intro k a; exact inv_step c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y f9 f10 f11 f12 k a
    · unfold inv; rw [st, acc]
      isplitl [Hin]; · iexact Hin
      isplitl [H9]; · iexact H9
      isplitl [H10]; · iexact H10
      isplitl [H11]; · iexact H11
      isplitl [H12]; · iexact H12
      isplitl [H13]; · iexact H13
      iexact H14
    iintro %a HI
    sl_exec
    sl_step
    iapply Hk
    iexact HI

end loop

end Cert.Kernel16Ideal.Gla

end

end
-- ==== Proof.GlafFrame.lean ====
module

public import proofs.«01_k».proof.Proof.GlafRun
public import proofs.«01_k».proof.Proof.Gen.Kernel16Ideal.Points

/-! The call's proof data, its body's obligation at every point, and the run. -/

@[expose] public section

set_option maxRecDepth 16384

noncomputable section

namespace Cert.Kernel16Ideal.Gla

open Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128x256 .f32 := win0_11.stage (cfg0.slots t 11)
abbrev hs0_11 (t : Fin cfg0.N) : (ms0_11 t).IsWhole := hstage0_11 ((cfg0.slots t 11).cast nbuf0_11)

/-- The two states' buffers. -/
abbrev S0 : Memref sig .tc .vmem S128x256 .f32 := Memref.whole cc0_scratch0
abbrev S1 : Memref sig .tc .vmem S128x256 .f32 := Memref.whole cc0_scratch1

/-- A state of both directions. -/
abbrev States (F : FTy → Type) : Type := Vec F S128x256 .f32 × Vec F S128x256 .f32

/-- The states before trip `n` of point `t`, the point before having left `y`. -/
def stAt (c : Dev nD) (t : Fin cfg0.N) (y : States F) (n : ℕ) : States F :=
  st c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) S0 (Memref.isWhole_whole _) S1 (Memref.isWhole_whole _) (X0_0 m c t) (X0_1 m c t) (X0_2 m c t) (iblk m c 3 t) (X0_4 m c t) (X0_5 m c t) (X0_6 m c t) (iblk m c 7 t) (start (grid0.coords t) y) n

/-- The pieces stored at point `t` by the trips before `n`. -/
def accAt (c : Dev nD) (t : Fin cfg0.N) (y : States F) (n : ℕ) : Pieces F :=
  acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) S0 (Memref.isWhole_whole _) S1 (Memref.isWhole_whole _) (X0_0 m c t) (X0_1 m c t) (X0_2 m c t) (iblk m c 3 t) (X0_4 m c t) (X0_5 m c t) (X0_6 m c t) (iblk m c 7 t) (start (grid0.coords t) y) n

/-- The states after `n` points. -/
def sAt (c : Dev nD) : ℕ → States F
  | 0 => (held [], held [])
  | n + 1 => if h : n < cfg0.N then stAt m c ⟨n, h⟩ (sAt c n) 8 else sAt c n

theorem sAt_succ (c : Dev nD) (t : Fin cfg0.N) : sAt m c (t.val + 1) = stAt m c t (sAt m c t.val) 8 := by
  rw [sAt, dif_pos t.isLt]

/-- The first point's condition holds at the first point. -/
theorem first_iff : ∀ t : Fin cfg0.N, first (grid0.coords t) ↔ t.val = 0 :=
  (by decide +kernel : ∀ t : Fin grid0.N, first (grid0.coords t) ↔ t.val = 0)

/-- The states the body starts with do not depend on what the buffers held before the first point. -/
theorem start_eq (t : Fin cfg0.N) (y y' : States F) (h : t.val ≠ 0 → y = y') : start (grid0.coords t) y = start (grid0.coords t) y' := by
  by_cases h0 : t.val = 0
  · rw [start, start, if_pos ((first_iff t).mpr h0), if_pos ((first_iff t).mpr h0)]
  · rw [h h0]

/-! ## The outputs -/

abbrev VO0_8 : View sig .tc .vmem S512x512 .f32 := (Memref.whole cc0_stg8_0 : Memref sig .tc .vmem S512x512 .f32).view

set_option maxHeartbeats 4000000 in
theorem cover0_8 (c : Dev nD) (t : Fin cfg0.N) (y : States F) (i : S512x512.Idx) :
    ∃ pc ∈ (accAt m c t y 8).1, i ∈ pc.1.set :=
  View.cover_of_tiledBy (accAt m c t y 8).1 ![64, 512] (by sl_kernel_rfl) i

/-- What output 8 holds after point `t`. -/
def out0_8 (c : Dev nD) (t : Fin cfg0.N) : Vec F S512x512 .f32 :=
  VO0_8.read (Elt F) (VO0_8.writes (Elt F) VO0_8.junk (accAt m c t (sAt m c t.val) 8).1)

abbrev VO0_9 : View sig .tc .vmem S8x128x256 .f32 := (Memref.whole cc0_stg9_0 : Memref sig .tc .vmem S8x128x256 .f32).view

set_option maxHeartbeats 4000000 in
theorem cover0_9 (c : Dev nD) (t : Fin cfg0.N) (y : States F) (i : S8x128x256.Idx) :
    ∃ pc ∈ (accAt m c t y 8).2.1, i ∈ pc.1.set :=
  View.cover_of_tiledBy (accAt m c t y 8).2.1 ![1, 128, 256] (by sl_kernel_rfl) i

/-- What output 9 holds after point `t`. -/
def out0_9 (c : Dev nD) (t : Fin cfg0.N) : Vec F S8x128x256 .f32 :=
  VO0_9.read (Elt F) (VO0_9.writes (Elt F) VO0_9.junk (accAt m c t (sAt m c t.val) 8).2.1)

abbrev VO0_10 : View sig .tc .vmem S512x512 .f32 := (Memref.whole cc0_stg10_0 : Memref sig .tc .vmem S512x512 .f32).view

set_option maxHeartbeats 4000000 in
theorem cover0_10 (c : Dev nD) (t : Fin cfg0.N) (y : States F) (i : S512x512.Idx) :
    ∃ pc ∈ (accAt m c t y 8).2.2.1, i ∈ pc.1.set :=
  View.cover_of_tiledBy (accAt m c t y 8).2.2.1 ![64, 512] (by sl_kernel_rfl) i

/-- What output 10 holds after point `t`. -/
def out0_10 (c : Dev nD) (t : Fin cfg0.N) : Vec F S512x512 .f32 :=
  VO0_10.read (Elt F) (VO0_10.writes (Elt F) VO0_10.junk (accAt m c t (sAt m c t.val) 8).2.2.1)

abbrev VO0_11 : View sig .tc .vmem S8x128x256 .f32 := (Memref.whole cc0_stg11_0 : Memref sig .tc .vmem S8x128x256 .f32).view

set_option maxHeartbeats 4000000 in
theorem cover0_11 (c : Dev nD) (t : Fin cfg0.N) (y : States F) (i : S8x128x256.Idx) :
    ∃ pc ∈ (accAt m c t y 8).2.2.2, i ∈ pc.1.set :=
  View.cover_of_tiledBy (accAt m c t y 8).2.2.2 ![1, 128, 256] (by sl_kernel_rfl) i

/-- What output 11 holds after point `t`. -/
def out0_11 (c : Dev nD) (t : Fin cfg0.N) : Vec F S8x128x256 .f32 :=
  VO0_11.read (Elt F) (VO0_11.writes (Elt F) VO0_11.junk (accAt m c t (sAt m c t.val) 8).2.2.2)

/-! ## The proof data -/

/-- What is carried from point to point: the states, those after the points before, but at the first point. -/
def carry (c : Dev nD) (n : ℕ) : sProp 𝕄 :=
  iprop(∃ y : States F, ⌜n ≠ 0 → y = sAt m c n⌝ ∗ owns (c : Thread nD τ) S0 fullShare y.1 ∗ owns (c : Thread nD τ) S1 fullShare y.2 ∗ ∃ r, prngReg c r)

/-- After the body each input's buffer holds its block, each output's its contents. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => X0_4 m c t
    | ⟨5, _⟩ => X0_5 m c t
    | ⟨6, _⟩ => X0_6 m c t
    | ⟨7, _⟩ => iblk m c 7 t
    | ⟨8, _⟩ => out0_8 m c t
    | ⟨9, _⟩ => out0_9 m c t
    | ⟨10, _⟩ => out0_10 m c t
    | ⟨11, _⟩ => out0_11 m c t
    | ⟨_ + 12, h⟩ => absurd h (Nat.not_lt.2 (Nat.le_add_left _ _))
  Φ n := carry m c n.val
  q w := Pipeline.shareOf spec0 w
  owed _ := 0

theorem A_eq (c : Dev nD) (w : Fin cfg0.W) : (dats m 0 c).A w = V m c (Pipeline.arrRef spec0 w) := by
  dsimp only [dats]

/-- Every window's buffer is used at every point. -/
theorem live : ∀ (w : Fin cfg0.W) (t : Fin cfg0.N), cfg0.idle w (grid0.coords t) = false :=
  (by decide +kernel : ∀ (w : Fin 12) (t : Fin grid0.N), cfg0.idle w (grid0.coords t) = false)

theorem leaves (c : Dev nD) (w : Fin cfg0.W) (t : Fin cfg0.N) :
    (dats m 0 c).leavesExact w t
      = owns (c : Thread nD τ) ((cfg0.win w).stage (cfg0.slots t w)) fullShare ((dats m 0 c).after w t) := by
  unfold Dat.leavesExact
  rw [live w t]

/-- The inputs' buffers at a point, each at its block. -/
abbrev inputs (c : Dev nD) (t : Fin cfg0.N) : sProp 𝕄 :=
  ins c (ms0_0 t) (ms0_1 t) (ms0_2 t) (ms0_3 t) (ms0_4 t) (ms0_5 t) (ms0_6 t) (ms0_7 t) (X0_0 m c t) (X0_1 m c t) (X0_2 m c t) (iblk m c 3 t) (X0_4 m c t) (X0_5 m c t) (X0_6 m c t) (iblk m c 7 t)

/-- What the body is called with: the inputs' blocks, and each output's buffer at something. -/
def before (c : Dev nD) (t : Fin cfg0.N) : sProp 𝕄 :=
  iprop(carry m c t.val ∗ (dats m 0 c).owesAt () t.castSucc ∗ inputs m c t
    ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)))

/-- What the body leaves. -/
def left (c : Dev nD) (t : Fin cfg0.N) : sProp 𝕄 :=
  iprop(carry m c (t.val + 1) ∗ (dats m 0 c).owesAt () t.succ ∗ inputs m c t
    ∗ owns (c : Thread nD τ) (ms0_8 t) fullShare (out0_8 m c t) ∗ owns (c : Thread nD τ) (ms0_9 t) fullShare (out0_9 m c t) ∗ owns (c : Thread nD τ) (ms0_10 t) fullShare (out0_10 m c t) ∗ owns (c : Thread nD τ) (ms0_11 t) fullShare (out0_11 m c t))

set_option maxHeartbeats 16000000 in
theorem sound_body (c : Dev nD) (t : Fin cfg0.N) :
    before m c t ⊢ wp frame (wpE (defs₀ (F := F)) Variants.none c none) Set.univ (bodyAt0 t) (fun _ => left m c t) := by
  unfold before left
  rw [show (dats m 0 c).owesAt () t.succ = (dats m 0 c).owesAt () t.castSucc from rfl]
  generalize (dats m 0 c).owesAt () t.castSucc = O
  simp only [owns_held c (hs0_8 t), owns_held c (hs0_9 t), owns_held c (hs0_10 t), owns_held c (hs0_11 t)]
  unfold carry
  iintro ⟨⟨%y, %hy, HS0, HS1, Hr⟩, Ho, Hin, ⟨%d8, H8⟩, ⟨%d9, H9⟩, ⟨%d10, H10⟩, ⟨%d11, H11⟩⟩
  iapply (body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) S0 (Memref.isWhole_whole _) S1 (Memref.isWhole_whole _) (X0_0 m c t) (X0_1 m c t) (X0_2 m c t) (iblk m c 3 t) (X0_4 m c t) (X0_5 m c t) (X0_6 m c t) (iblk m c 7 t) y _ rfl _ _ _ _ _)
  isplitl [Hin]; · iexact Hin
  isplitl [H8]; · iexact H8
  isplitl [H9]; · iexact H9
  isplitl [H10]; · iexact H10
  isplitl [H11]; · iexact H11
  isplitl [HS0]; · iexact HS0
  isplitl [HS1]; · iexact HS1
  rw [start_eq t y (sAt m c t.val) hy]
  simp only [← owns_held c (hs0_8 t), ← owns_held c (hs0_9 t), ← owns_held c (hs0_10 t), ← owns_held c (hs0_11 t)]
  unfold inv
  iintro ⟨Hin, H8, H9, H10, H11, HS0, HS1⟩
  isplitl [HS0 HS1 Hr]
  · iexists (sAt m c (t.val + 1))
    isplitr
    · ipureintro; exact fun _ => rfl
    rw [sAt_succ m c t, stAt]
    isplitl [HS0]; · iexact HS0
    isplitl [HS1]; · iexact HS1
    iexact Hr
  isplitl [Ho]; · iexact Ho
  isplitl [Hin]; · iexact Hin
  isplitl [H8]; · iapply (owns_written c (ms0_8 t) VO0_8 _ (cover0_8 m c t (sAt m c t.val))); iexists _; iexact H8
  isplitl [H9]; · iapply (owns_written c (ms0_9 t) VO0_9 _ (cover0_9 m c t (sAt m c t.val))); iexists _; iexact H9
  isplitl [H10]; · iapply (owns_written c (ms0_10 t) VO0_10 _ (cover0_10 m c t (sAt m c t.val))); iexists _; iexact H10
  iapply (owns_written c (ms0_11 t) VO0_11 _ (cover0_11 m c t (sAt m c t.val))); iexists _; iexact H11

theorem entails_of {P Q : sProp 𝕄} (h : P = Q) : P ⊢ Q := by
  subst h
  iintro H
  iexact H

theorem defs₀_row (t : Fin cfg0.N) :
    defs₀ (F := F) .tc cfg0.body (cfg0.bodyArgs t (cfg0.slots t)) = bodyAt0 t := by
  unfold defs₀
  rw [Defs.onTc_tc]

set_option maxHeartbeats 4800000 in
/-- The library's obligation of the body, at every point. -/
theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · unfold before inputs ins
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, Hout⟩
    rw [before0_0_of m (dats m 0 c) (A_eq m c 0) (fun _ => by dsimp only [dats]) t d0,
    before0_1_of m (dats m 0 c) (A_eq m c 1) (fun _ => by dsimp only [dats]) t d1,
    before0_2_of m (dats m 0 c) (A_eq m c 2) (fun _ => by dsimp only [dats]) t d2,
    before0_3_of m (dats m 0 c) (A_eq m c 3) (fun _ => by dsimp only [dats]) t d3,
    before0_4_of m (dats m 0 c) (A_eq m c 4) (fun _ => by dsimp only [dats]) t d4,
    before0_5_of m (dats m 0 c) (A_eq m c 5) (fun _ => by dsimp only [dats]) t d5,
    before0_6_of m (dats m 0 c) (A_eq m c 6) (fun _ => by dsimp only [dats]) t d6,
    before0_7_of m (dats m 0 c) (A_eq m c 7) (fun _ => by dsimp only [dats]) t d7]
    isplitl [HΦ]; · iapply (entails_of (show (dats m 0 c).Φ t.castSucc = carry m c t.val from rfl)); iexact HΦ
    isplitl [Ho]; · iexact Ho
    isplitl [H0 H1 H2 H3 H4 H5 H6 H7]; · sl_close
    iexact Hout
  · unfold left inputs ins
    show _ ⊢ iprop(carry m c (t.val + 1) ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)
    rw [leaves m c 0 t, leaves m c 1 t, leaves m c 2 t, leaves m c 3 t, leaves m c 4 t, leaves m c 5 t, leaves m c 6 t, leaves m c 7 t, leaves m c 8 t, leaves m c 9 t, leaves m c 10 t, leaves m c 11 t]
    iintro ⟨HΦ, Ho, ⟨H0, H1, H2, H3, H4, H5, H6, H7⟩, Hout⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hout

/-! ## The run and the frame -/

theorem toOwns (c : Dev nD) (b : Ref sig .tc) (f : b.ty.Contents (Elt F)) :
    iprop(((c : Thread nD τ).loc b) ↦{fullShare} f : sProp 𝕄) ⊢ iprop(owns (c : Thread nD τ) (Memref.whole b) fullShare f) := by
  rw [owns_whole (c : Thread nD τ) b fullShare f]

theorem ofOwns (c : Dev nD) (b : Ref sig .tc) (f : b.ty.Contents (Elt F)) :
    iprop(owns (c : Thread nD τ) (Memref.whole b) fullShare f : sProp 𝕄) ⊢ iprop(((c : Thread nD τ).loc b) ↦{fullShare} f) := by
  rw [owns_whole (c : Thread nD τ) b fullShare f]

theorem enter (c : Dev nD) : Pipeline.ΦA spec0 c ⊢ (dats (F := F) m 0 c).Φ 0 := by
  show _ ⊢ carry m c 0
  unfold Pipeline.ΦA carry
  rw [scopedRest0_eq]
  iintro ⟨⟨⟨%f, H0⟩, ⟨%g, H1⟩⟩, Hr⟩
  iexists ((f, g) : States F)
  isplitr
  · ipureintro; exact fun h => absurd rfl h
  isplitl [H0]; · iapply (toOwns c cc0_scratch0 f); iexact H0
  isplitl [H1]; · iapply (toOwns c cc0_scratch1 g); iexact H1
  iexact Hr

theorem leave (c : Dev nD) : (dats (F := F) m 0 c).Φ (Fin.last cfg0.N) ⊢ Pipeline.ΦA spec0 c := by
  show carry m c _ ⊢ _
  unfold Pipeline.ΦA carry
  rw [scopedRest0_eq]
  iintro ⟨%y, %hy, H0, H1, Hr⟩
  isplitl [H0 H1]
  · isplitl [H0]
    · iexists y.1; iapply (ofOwns c cc0_scratch0 y.1); iexact H0
    iexists y.2; iapply (ofOwns c cc0_scratch1 y.2); iexact H1
  iexact Hr

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The run with the output arrays named, the arguments unchanged and every semaphore at zero. -/
theorem run_blocks : θ_run defs (onTc (τ := τ) (main (F := F))) ⟨m, fun _ => 0, ρ⟩ (fun r =>
    (∀ c : Dev nD,
      r.2.mem ((c : Thread nD τ).loc main_v2_0) = (dats m 0 c).arrAt 8 cfg0.N
      ∧ r.2.mem ((c : Thread nD τ).loc main_v2_2) = (dats m 0 c).arrAt 10 cfg0.N)
    ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  θ_run_and ((θ_run defs _ _).mono (fun _ h c => ⟨(h c).1 8, (h c).1 10⟩) (run_main m ρ))
    (θ_run_and (frame_of m ρ (dats m) (A_eq m) (run_main m ρ))
      ((θ_run defs _ _).mono (fun _ h => h.2) (run_main_quiescent m ρ)))

end Cert.Kernel16Ideal.Gla

end

end
-- ==== Proof.Glaf.lean ====
module

public import proofs.«01_k».proof.Defs
public import proofs.«01_k».proof.Proof.GlafFrame
public import proofs.«01_k».proof.Proof.Gen.Kernel16
public import proofs.«01_k».proof.Proof.Gen.Reference16Ideal.Run
public import Idealize.ShloMosaic.Lib.Claim
public import Idealize.ShloMosaic.Lib.Tactic

/-! The claims of the forward recurrence. -/

@[expose] public section

set_option maxRecDepth 16384

noncomputable section

namespace Cert.Proof

open Idealize.ShloMosaic Idealize.ShloMosaic.TcCoe Idealize.SL.Sem Cert.Kernel16Ideal Cert.Kernel16Ideal.Gen Cert.Kernel16Ideal.Gla

/-- The kernel runs, gives every semaphore back and leaves its arguments as they were. -/
theorem glaf_kernel : Cert.quiescent_Kernel16Ideal := fun m ρ _ =>
  (θ_run _ _ _).mono (fun _ h => ⟨h.2.1, h.2.2⟩) (run_blocks m ρ)

/-- What the frame of the program at the machine's own numbers says. -/
def Quiet16 : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem quiet16 : Quiet16 := fun m ρ _ => (θ_run _ _ _).mono (fun _ h => ⟨h.2.1, h.2.2⟩) (run_blocks (F := Bits) m ρ)

theorem same_frame16 : Cert.quiescent_Kernel16 = Quiet16 := by sl_kernel_rfl

/-- The same of the program at the machine's own numbers. -/
theorem glaf_kernel_bits : Cert.quiescent_Kernel16 := same_frame16.mpr quiet16

/-- The reference runs and leaves its arguments as they were. -/
theorem glaf_reference : Cert.quiescent_Reference16Ideal := fun m ρ _ =>
  (θ_run _ _ _).mono (fun r h => ⟨fun c => (h c).2.2, sem_eq_zero_of_no_sems (by decide) r.2⟩)
    (Cert.Reference16Ideal.Value.run m ρ)

end Cert.Proof

end

end
-- ==== Proof.lean ====
module

public import proofs.«01_k».proof.Defs
public import proofs.«01_k».proof.Proof.Gen.Kernel
public import proofs.«01_k».proof.Proof.Gen.Kernel.Frame
public import proofs.«01_k».proof.Proof.Gain
public import proofs.«01_k».proof.Proof.Gen.Kernel2
public import proofs.«01_k».proof.Proof.Gen.Kernel2.Frame
public import proofs.«01_k».proof.Proof.Gate
public import proofs.«01_k».proof.Proof.Gen.Kernel3
public import proofs.«01_k».proof.Proof.Gen.Kernel3.Frame
public import proofs.«01_k».proof.Proof.Xattn
public import proofs.«01_k».proof.Proof.Gen.Kernel4
public import proofs.«01_k».proof.Proof.Gen.Kernel4.Frame
public import proofs.«01_k».proof.Proof.NormQuery
public import proofs.«01_k».proof.Proof.Gen.Kernel5
public import proofs.«01_k».proof.Proof.Gen.Kernel5.Frame
public import proofs.«01_k».proof.Proof.NormUp
public import proofs.«01_k».proof.Proof.Gen.Kernel6
public import proofs.«01_k».proof.Proof.Gen.Kernel6.Frame
public import proofs.«01_k».proof.Proof.NormIn
public import proofs.«01_k».proof.Proof.Gen.Kernel7
public import proofs.«01_k».proof.Proof.Gen.Kernel7.Frame
public import proofs.«01_k».proof.Proof.Loss
public import proofs.«01_k».proof.Proof.Gen.Kernel8
public import proofs.«01_k».proof.Proof.Gen.Kernel8.Frame
public import proofs.«01_k».proof.Proof.Relu
public import proofs.«01_k».proof.Proof.Gen.Kernel9
public import proofs.«01_k».proof.Proof.Mix
public import proofs.«01_k».proof.Proof.Gen.Kernel10
public import proofs.«01_k».proof.Proof.Gen.Kernel10.Frame
public import proofs.«01_k».proof.Proof.Xatf
public import proofs.«01_k».proof.Proof.Gen.Kernel11
public import proofs.«01_k».proof.Proof.Gen.Kernel11.Frame
public import proofs.«01_k».proof.Proof.Normf
public import proofs.«01_k».proof.Proof.Gen.Kernel12
public import proofs.«01_k».proof.Proof.Gen.Kernel12.Frame
public import proofs.«01_k».proof.Proof.Outf
public import proofs.«01_k».proof.Proof.Gen.Kernel13
public import proofs.«01_k».proof.Proof.Gen.Kernel13.Frame
public import proofs.«01_k».proof.Proof.Upf
public import proofs.«01_k».proof.Proof.Gen.Kernel14
public import proofs.«01_k».proof.Proof.Gen.Kernel14.Frame
public import proofs.«01_k».proof.Proof.Gatf
public import proofs.«01_k».proof.Proof.Gen.Kernel15
public import proofs.«01_k».proof.Proof.Gen.Kernel15.Frame
public import proofs.«01_k».proof.Proof.Mixf
public import proofs.«01_k».proof.Proof.Gen.Kernel16
public import proofs.«01_k».proof.Proof.Gen.Kernel16.Frame
public import proofs.«01_k».proof.Proof.Glaf
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts, finite3, finite9, finite15,
  fun m ρ _ => Cert.Kernel.Gen.frame m ρ, fun m ρ _ => Cert.KernelIdeal.Gen.frame m ρ, gain_reference,
  fun m ρ _ => Cert.Kernel2.Gen.frame m ρ, fun m ρ _ => Cert.Kernel2Ideal.Gen.frame m ρ, gate_reference,
  fun m ρ _ => Cert.Kernel3.Gen.frame m ρ, fun m ρ _ => Cert.Kernel3Ideal.Gen.frame m ρ, fun m ρ _ => Cert.Kernel3Ideal.Gen.frame m ρ,
  xattn_reference, fun m ρ _ => xattn_reference m ρ trivial,
  fun m ρ _ => Cert.Kernel4.Gen.frame m ρ, fun m ρ _ => Cert.Kernel4Ideal.Gen.frame m ρ, normq_reference,
  fun m ρ _ => Cert.Kernel5.Gen.frame m ρ, fun m ρ _ => Cert.Kernel5Ideal.Gen.frame m ρ, normup_reference,
  fun m ρ _ => Cert.Kernel6.Gen.frame m ρ, fun m ρ _ => Cert.Kernel6Ideal.Gen.frame m ρ, normin_reference,
  fun m ρ _ => Cert.Kernel7.Gen.frame m ρ, fun m ρ _ => Cert.Kernel7Ideal.Gen.frame m ρ, loss_reference,
  fun m ρ _ => Cert.Kernel8.Gen.frame m ρ, fun m ρ _ => Cert.Kernel8Ideal.Gen.frame m ρ, relu_reference,
  mix_kernel_bits, mix_kernel, mix_kernel_pre, mix_reference, fun m ρ _ => mix_reference m ρ trivial,
  fun m ρ _ => Cert.Kernel10.Gen.frame m ρ, fun m ρ _ => Cert.Kernel10Ideal.Gen.frame m ρ, xatf_reference,
  fun m ρ _ => Cert.Kernel11.Gen.frame m ρ, fun m ρ _ => Cert.Kernel11Ideal.Gen.frame m ρ, normf_reference,
  fun m ρ _ => Cert.Kernel12.Gen.frame m ρ, fun m ρ _ => Cert.Kernel12Ideal.Gen.frame m ρ, outf_reference,
  fun m ρ _ => Cert.Kernel13.Gen.frame m ρ, fun m ρ _ => Cert.Kernel13Ideal.Gen.frame m ρ, upf_reference,
  fun m ρ _ => Cert.Kernel14.Gen.frame m ρ, fun m ρ _ => Cert.Kernel14Ideal.Gen.frame m ρ, gatf_reference,
  fun m ρ _ => Cert.Kernel15.Gen.frame m ρ, fun m ρ _ => Cert.Kernel15Ideal.Gen.frame m ρ, fun m ρ _ => Cert.Kernel15Ideal.Gen.frame m ρ,
  mixf_reference, fun m ρ _ => mixf_reference m ρ trivial,
  glaf_kernel_bits, glaf_kernel, glaf_reference,
  trivial, gain_algebraic, trivial, gate_algebraic, trivial, xattn_algebraic, trivial, normq_algebraic, trivial, normup_algebraic, trivial, normin_algebraic, trivial, loss_algebraic, trivial, relu_algebraic, trivial, mix_algebraic,
  trivial, xatf_algebraic, trivial, normf_algebraic, trivial, outf_algebraic, trivial, upf_algebraic, trivial, gatf_algebraic, trivial, mixf_algebraic, trivial⟩

end Cert.Proof

end
